-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S9x1x2816 : Shape := ⟨3, ![9, 1, 2816]⟩
abbrev S9x1x2 : Shape := ⟨3, ![9, 1, 2]⟩
abbrev S8x2816x2816 : Shape := ⟨3, ![8, 2816, 2816]⟩
abbrev S8x2816 : Shape := ⟨2, ![8, 2816]⟩
abbrev S8x1408x2816 : Shape := ⟨3, ![8, 1408, 2816]⟩
abbrev S9x2 : Shape := ⟨2, ![9, 2]⟩
abbrev S9x2816 : Shape := ⟨2, ![9, 2816]⟩
abbrev S4x2816x2816 : Shape := ⟨3, ![4, 2816, 2816]⟩
abbrev S4x1408x2816 : Shape := ⟨3, ![4, 1408, 2816]⟩
abbrev S16x2816 : Shape := ⟨2, ![16, 2816]⟩
abbrev S8 : Shape := ⟨1, ![8]⟩
abbrev S4x3 : Shape := ⟨2, ![4, 3]⟩
abbrev S4x2 : Shape := ⟨2, ![4, 2]⟩
abbrev S1x1 : Shape := ⟨2, ![1, 1]⟩
abbrev S1 : Shape := ⟨1, ![1]⟩
abbrev S_ : Shape := ⟨0, ![]⟩
abbrev S1x1024x2816 : Shape := ⟨3, ![1, 1024, 2816]⟩
abbrev S1024x2816 : Shape := ⟨2, ![1024, 2816]⟩
abbrev S1x768x2816 : Shape := ⟨3, ![1, 768, 2816]⟩
abbrev S768x2816 : Shape := ⟨2, ![768, 2816]⟩
abbrev S1x384x2816 : Shape := ⟨3, ![1, 384, 2816]⟩
abbrev S384x2816 : Shape := ⟨2, ![384, 2816]⟩
abbrev S10x2816 : Shape := ⟨2, ![10, 2816]⟩
abbrev S16x128 : Shape := ⟨2, ![16, 128]⟩
abbrev S16x1024 : Shape := ⟨2, ![16, 1024]⟩
abbrev S16x768 : Shape := ⟨2, ![16, 768]⟩
abbrev S1x2816 : Shape := ⟨2, ![1, 2816]⟩
abbrev S16x1408 : Shape := ⟨2, ![16, 1408]⟩
abbrev S16x384 : Shape := ⟨2, ![16, 384]⟩

abbrev nBuf : Space → Nat
  | .hbm => 12
  | .vmem => 8
  | .smem => 3
  | _ => 0

abbrev bufTy : (tb : Table) → Fin (tcTables nBuf tb) → BufTy
  | .hbm, ⟨0, _⟩ => ⟨S9x1x2816, .bf16⟩
  | .hbm, ⟨1, _⟩ => ⟨S9x1x2, .i32⟩
  | .hbm, ⟨2, _⟩ => ⟨S9x1x2, .f32⟩
  | .hbm, ⟨3, _⟩ => ⟨S8x2816x2816, .i8⟩
  | .hbm, ⟨4, _⟩ => ⟨S8x2816, .f32⟩
  | .hbm, ⟨5, _⟩ => ⟨S8x1408x2816, .i8⟩
  | .hbm, ⟨6, _⟩ => ⟨S8x2816, .f32⟩
  | .hbm, ⟨7, _⟩ => ⟨S9x2, .i32⟩
  | .hbm, ⟨8, _⟩ => ⟨S9x2, .f32⟩
  | .hbm, ⟨9, _⟩ => ⟨S9x2816, .bf16⟩
  | .hbm, ⟨10, _⟩ => ⟨S9x2816, .bf16⟩
  | .hbm, ⟨11, _⟩ => ⟨S9x1x2816, .bf16⟩
  | .local _ .vmem, ⟨0, _⟩ => ⟨S9x2816, .bf16⟩
  | .local _ .vmem, ⟨1, _⟩ => ⟨S8x2816, .f32⟩
  | .local _ .vmem, ⟨2, _⟩ => ⟨S8x2816, .f32⟩
  | .local _ .vmem, ⟨3, _⟩ => ⟨S9x2816, .bf16⟩
  | .local _ .vmem, ⟨4, _⟩ => ⟨S4x2816x2816, .i8⟩
  | .local _ .vmem, ⟨5, _⟩ => ⟨S4x1408x2816, .i8⟩
  | .local _ .vmem, ⟨6, _⟩ => ⟨S16x2816, .bf16⟩
  | .local _ .vmem, ⟨7, _⟩ => ⟨S16x2816, .f32⟩
  | .local _ .smem, ⟨0, _⟩ => ⟨S9x2, .i32⟩
  | .local _ .smem, ⟨1, _⟩ => ⟨S9x2, .f32⟩
  | .local _ .smem, ⟨2, _⟩ => ⟨S8, .i32⟩
  | _, _ => ⟨S9x1x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_stg0_0 : Ref sig .tc := ⟨.smem, 0, rfl⟩
abbrev cc0_stg1_0 : Ref sig .tc := ⟨.smem, 1, rfl⟩
abbrev cc0_scratch4 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

def k0_off1 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) : Fin 1 → Nat :=
  let c0_i32_49 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c0_i32_44 : BitVec 32 := 0#32
  let v54 : BitVec 32 := Scalar.shrui v53 c0_i32_44
  let c1_i32_45 : BitVec 32 := 1#32
  let v55 : BitVec 32 := Scalar.andi v54 c1_i32_45
  let v59 : BitVec 32 := Scalar.addi c0_i32_49 v55
  let v320 : Index := Scalar.indexCast v59
  ![v320.toNat]
def k0_cond2 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) : BitVec 1 :=
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c1_i32_50 : BitVec 32 := 1#32
  let v60 : BitVec 32 := Scalar.shrui v53 c1_i32_50
  let c1_i32_51 : BitVec 32 := 1#32
  let v61 : BitVec 32 := Scalar.andi v60 c1_i32_51
  let c1_i32_52 : BitVec 32 := 1#32
  let v62 : BitVec 1 := Scalar.cmpi .eq v61 c1_i32_52
  let v63 : BitVec 32 := Scalar.extui v62
  let c0_i32_53 : BitVec 32 := 0#32
  let v64 : BitVec 1 := Scalar.cmpi .ne v63 c0_i32_53
  v64

def k0_off2 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) : Fin 1 → Nat :=
  let c0_i32_49 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c0_i32_44 : BitVec 32 := 0#32
  let v54 : BitVec 32 := Scalar.shrui v53 c0_i32_44
  let c1_i32_45 : BitVec 32 := 1#32
  let v55 : BitVec 32 := Scalar.andi v54 c1_i32_45
  let v59 : BitVec 32 := Scalar.addi c0_i32_49 v55
  let c1_i32_50 : BitVec 32 := 1#32
  let v60 : BitVec 32 := Scalar.shrui v53 c1_i32_50
  let c1_i32_51 : BitVec 32 := 1#32
  let v61 : BitVec 32 := Scalar.andi v60 c1_i32_51
  let v65 : BitVec 32 := Scalar.addi v59 v61
  let v320 : Index := Scalar.indexCast v65
  ![v320.toNat]
def k0_cond3 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) : BitVec 1 :=
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c2_i32 : BitVec 32 := 2#32
  let v66 : BitVec 32 := Scalar.shrui v53 c2_i32
  let c1_i32_54 : BitVec 32 := 1#32
  let v67 : BitVec 32 := Scalar.andi v66 c1_i32_54
  let c1_i32_55 : BitVec 32 := 1#32
  let v68 : BitVec 1 := Scalar.cmpi .eq v67 c1_i32_55
  let v69 : BitVec 32 := Scalar.extui v68
  let c0_i32_56 : BitVec 32 := 0#32
  let v70 : BitVec 1 := Scalar.cmpi .ne v69 c0_i32_56
  v70

def k0_off3 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) : Fin 1 → Nat :=
  let c0_i32_49 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c0_i32_44 : BitVec 32 := 0#32
  let v54 : BitVec 32 := Scalar.shrui v53 c0_i32_44
  let c1_i32_45 : BitVec 32 := 1#32
  let v55 : BitVec 32 := Scalar.andi v54 c1_i32_45
  let v59 : BitVec 32 := Scalar.addi c0_i32_49 v55
  let c1_i32_50 : BitVec 32 := 1#32
  let v60 : BitVec 32 := Scalar.shrui v53 c1_i32_50
  let c1_i32_51 : BitVec 32 := 1#32
  let v61 : BitVec 32 := Scalar.andi v60 c1_i32_51
  let v65 : BitVec 32 := Scalar.addi v59 v61
  let c2_i32 : BitVec 32 := 2#32
  let v66 : BitVec 32 := Scalar.shrui v53 c2_i32
  let c1_i32_54 : BitVec 32 := 1#32
  let v67 : BitVec 32 := Scalar.andi v66 c1_i32_54
  let v71 : BitVec 32 := Scalar.addi v65 v67
  let v320 : Index := Scalar.indexCast v71
  ![v320.toNat]
def k0_cond4 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) : BitVec 1 :=
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c3_i32 : BitVec 32 := 3#32
  let v72 : BitVec 32 := Scalar.shrui v53 c3_i32
  let c1_i32_57 : BitVec 32 := 1#32
  let v73 : BitVec 32 := Scalar.andi v72 c1_i32_57
  let c1_i32_58 : BitVec 32 := 1#32
  let v74 : BitVec 1 := Scalar.cmpi .eq v73 c1_i32_58
  let v75 : BitVec 32 := Scalar.extui v74
  let c0_i32_59 : BitVec 32 := 0#32
  let v76 : BitVec 1 := Scalar.cmpi .ne v75 c0_i32_59
  v76

def k0_off4 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) : Fin 1 → Nat :=
  let c0_i32_49 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c0_i32_44 : BitVec 32 := 0#32
  let v54 : BitVec 32 := Scalar.shrui v53 c0_i32_44
  let c1_i32_45 : BitVec 32 := 1#32
  let v55 : BitVec 32 := Scalar.andi v54 c1_i32_45
  let v59 : BitVec 32 := Scalar.addi c0_i32_49 v55
  let c1_i32_50 : BitVec 32 := 1#32
  let v60 : BitVec 32 := Scalar.shrui v53 c1_i32_50
  let c1_i32_51 : BitVec 32 := 1#32
  let v61 : BitVec 32 := Scalar.andi v60 c1_i32_51
  let v65 : BitVec 32 := Scalar.addi v59 v61
  let c2_i32 : BitVec 32 := 2#32
  let v66 : BitVec 32 := Scalar.shrui v53 c2_i32
  let c1_i32_54 : BitVec 32 := 1#32
  let v67 : BitVec 32 := Scalar.andi v66 c1_i32_54
  let v71 : BitVec 32 := Scalar.addi v65 v67
  let c3_i32 : BitVec 32 := 3#32
  let v72 : BitVec 32 := Scalar.shrui v53 c3_i32
  let c1_i32_57 : BitVec 32 := 1#32
  let v73 : BitVec 32 := Scalar.andi v72 c1_i32_57
  let v77 : BitVec 32 := Scalar.addi v71 v73
  let v320 : Index := Scalar.indexCast v77
  ![v320.toNat]
def k0_cond5 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) : BitVec 1 :=
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c4_i32 : BitVec 32 := 4#32
  let v78 : BitVec 32 := Scalar.shrui v53 c4_i32
  let c1_i32_60 : BitVec 32 := 1#32
  let v79 : BitVec 32 := Scalar.andi v78 c1_i32_60
  let c1_i32_61 : BitVec 32 := 1#32
  let v80 : BitVec 1 := Scalar.cmpi .eq v79 c1_i32_61
  let v81 : BitVec 32 := Scalar.extui v80
  let c0_i32_62 : BitVec 32 := 0#32
  let v82 : BitVec 1 := Scalar.cmpi .ne v81 c0_i32_62
  v82

def k0_off5 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) : Fin 1 → Nat :=
  let c0_i32_49 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c0_i32_44 : BitVec 32 := 0#32
  let v54 : BitVec 32 := Scalar.shrui v53 c0_i32_44
  let c1_i32_45 : BitVec 32 := 1#32
  let v55 : BitVec 32 := Scalar.andi v54 c1_i32_45
  let v59 : BitVec 32 := Scalar.addi c0_i32_49 v55
  let c1_i32_50 : BitVec 32 := 1#32
  let v60 : BitVec 32 := Scalar.shrui v53 c1_i32_50
  let c1_i32_51 : BitVec 32 := 1#32
  let v61 : BitVec 32 := Scalar.andi v60 c1_i32_51
  let v65 : BitVec 32 := Scalar.addi v59 v61
  let c2_i32 : BitVec 32 := 2#32
  let v66 : BitVec 32 := Scalar.shrui v53 c2_i32
  let c1_i32_54 : BitVec 32 := 1#32
  let v67 : BitVec 32 := Scalar.andi v66 c1_i32_54
  let v71 : BitVec 32 := Scalar.addi v65 v67
  let c3_i32 : BitVec 32 := 3#32
  let v72 : BitVec 32 := Scalar.shrui v53 c3_i32
  let c1_i32_57 : BitVec 32 := 1#32
  let v73 : BitVec 32 := Scalar.andi v72 c1_i32_57
  let v77 : BitVec 32 := Scalar.addi v71 v73
  let c4_i32 : BitVec 32 := 4#32
  let v78 : BitVec 32 := Scalar.shrui v53 c4_i32
  let c1_i32_60 : BitVec 32 := 1#32
  let v79 : BitVec 32 := Scalar.andi v78 c1_i32_60
  let v83 : BitVec 32 := Scalar.addi v77 v79
  let v320 : Index := Scalar.indexCast v83
  ![v320.toNat]
def k0_cond6 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) : BitVec 1 :=
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c5_i32 : BitVec 32 := 5#32
  let v84 : BitVec 32 := Scalar.shrui v53 c5_i32
  let c1_i32_63 : BitVec 32 := 1#32
  let v85 : BitVec 32 := Scalar.andi v84 c1_i32_63
  let c1_i32_64 : BitVec 32 := 1#32
  let v86 : BitVec 1 := Scalar.cmpi .eq v85 c1_i32_64
  let v87 : BitVec 32 := Scalar.extui v86
  let c0_i32_65 : BitVec 32 := 0#32
  let v88 : BitVec 1 := Scalar.cmpi .ne v87 c0_i32_65
  v88

def k0_off6 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) : Fin 1 → Nat :=
  let c0_i32_49 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c0_i32_44 : BitVec 32 := 0#32
  let v54 : BitVec 32 := Scalar.shrui v53 c0_i32_44
  let c1_i32_45 : BitVec 32 := 1#32
  let v55 : BitVec 32 := Scalar.andi v54 c1_i32_45
  let v59 : BitVec 32 := Scalar.addi c0_i32_49 v55
  let c1_i32_50 : BitVec 32 := 1#32
  let v60 : BitVec 32 := Scalar.shrui v53 c1_i32_50
  let c1_i32_51 : BitVec 32 := 1#32
  let v61 : BitVec 32 := Scalar.andi v60 c1_i32_51
  let v65 : BitVec 32 := Scalar.addi v59 v61
  let c2_i32 : BitVec 32 := 2#32
  let v66 : BitVec 32 := Scalar.shrui v53 c2_i32
  let c1_i32_54 : BitVec 32 := 1#32
  let v67 : BitVec 32 := Scalar.andi v66 c1_i32_54
  let v71 : BitVec 32 := Scalar.addi v65 v67
  let c3_i32 : BitVec 32 := 3#32
  let v72 : BitVec 32 := Scalar.shrui v53 c3_i32
  let c1_i32_57 : BitVec 32 := 1#32
  let v73 : BitVec 32 := Scalar.andi v72 c1_i32_57
  let v77 : BitVec 32 := Scalar.addi v71 v73
  let c4_i32 : BitVec 32 := 4#32
  let v78 : BitVec 32 := Scalar.shrui v53 c4_i32
  let c1_i32_60 : BitVec 32 := 1#32
  let v79 : BitVec 32 := Scalar.andi v78 c1_i32_60
  let v83 : BitVec 32 := Scalar.addi v77 v79
  let c5_i32 : BitVec 32 := 5#32
  let v84 : BitVec 32 := Scalar.shrui v53 c5_i32
  let c1_i32_63 : BitVec 32 := 1#32
  let v85 : BitVec 32 := Scalar.andi v84 c1_i32_63
  let v89 : BitVec 32 := Scalar.addi v83 v85
  let v320 : Index := Scalar.indexCast v89
  ![v320.toNat]
def k0_cond7 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) : BitVec 1 :=
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c6_i32 : BitVec 32 := 6#32
  let v90 : BitVec 32 := Scalar.shrui v53 c6_i32
  let c1_i32_66 : BitVec 32 := 1#32
  let v91 : BitVec 32 := Scalar.andi v90 c1_i32_66
  let c1_i32_67 : BitVec 32 := 1#32
  let v92 : BitVec 1 := Scalar.cmpi .eq v91 c1_i32_67
  let v93 : BitVec 32 := Scalar.extui v92
  let c0_i32_68 : BitVec 32 := 0#32
  let v94 : BitVec 1 := Scalar.cmpi .ne v93 c0_i32_68
  v94

def k0_off7 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) : Fin 1 → Nat :=
  let c0_i32_49 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c0_i32_44 : BitVec 32 := 0#32
  let v54 : BitVec 32 := Scalar.shrui v53 c0_i32_44
  let c1_i32_45 : BitVec 32 := 1#32
  let v55 : BitVec 32 := Scalar.andi v54 c1_i32_45
  let v59 : BitVec 32 := Scalar.addi c0_i32_49 v55
  let c1_i32_50 : BitVec 32 := 1#32
  let v60 : BitVec 32 := Scalar.shrui v53 c1_i32_50
  let c1_i32_51 : BitVec 32 := 1#32
  let v61 : BitVec 32 := Scalar.andi v60 c1_i32_51
  let v65 : BitVec 32 := Scalar.addi v59 v61
  let c2_i32 : BitVec 32 := 2#32
  let v66 : BitVec 32 := Scalar.shrui v53 c2_i32
  let c1_i32_54 : BitVec 32 := 1#32
  let v67 : BitVec 32 := Scalar.andi v66 c1_i32_54
  let v71 : BitVec 32 := Scalar.addi v65 v67
  let c3_i32 : BitVec 32 := 3#32
  let v72 : BitVec 32 := Scalar.shrui v53 c3_i32
  let c1_i32_57 : BitVec 32 := 1#32
  let v73 : BitVec 32 := Scalar.andi v72 c1_i32_57
  let v77 : BitVec 32 := Scalar.addi v71 v73
  let c4_i32 : BitVec 32 := 4#32
  let v78 : BitVec 32 := Scalar.shrui v53 c4_i32
  let c1_i32_60 : BitVec 32 := 1#32
  let v79 : BitVec 32 := Scalar.andi v78 c1_i32_60
  let v83 : BitVec 32 := Scalar.addi v77 v79
  let c5_i32 : BitVec 32 := 5#32
  let v84 : BitVec 32 := Scalar.shrui v53 c5_i32
  let c1_i32_63 : BitVec 32 := 1#32
  let v85 : BitVec 32 := Scalar.andi v84 c1_i32_63
  let v89 : BitVec 32 := Scalar.addi v83 v85
  let c6_i32 : BitVec 32 := 6#32
  let v90 : BitVec 32 := Scalar.shrui v53 c6_i32
  let c1_i32_66 : BitVec 32 := 1#32
  let v91 : BitVec 32 := Scalar.andi v90 c1_i32_66
  let v95 : BitVec 32 := Scalar.addi v89 v91
  let v320 : Index := Scalar.indexCast v95
  ![v320.toNat]
def k0_cond8 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) : BitVec 1 :=
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c7_i32 : BitVec 32 := 7#32
  let v96 : BitVec 32 := Scalar.shrui v53 c7_i32
  let c1_i32_69 : BitVec 32 := 1#32
  let v97 : BitVec 32 := Scalar.andi v96 c1_i32_69
  let c1_i32_70 : BitVec 32 := 1#32
  let v98 : BitVec 1 := Scalar.cmpi .eq v97 c1_i32_70
  let v99 : BitVec 32 := Scalar.extui v98
  let c0_i32_71 : BitVec 32 := 0#32
  let v100 : BitVec 1 := Scalar.cmpi .ne v99 c0_i32_71
  v100

def k0_off8 : Fin 2 → Nat :=
  let c0_i32_209 : BitVec 32 := 0#32
  let c4_i32_210 : BitVec 32 := 4#32
  let v321 : BitVec 32 := Scalar.remsi c0_i32_209 c4_i32_210
  let c0_i32_211 : BitVec 32 := 0#32
  ![v321.toNat, 0]
def k0_off9 : Fin 3 → Nat :=
  let c0_i32_209 : BitVec 32 := 0#32
  let c4_i32_210 : BitVec 32 := 4#32
  let v321 : BitVec 32 := Scalar.remsi c0_i32_209 c4_i32_210
  let c0_i32_212 : BitVec 32 := 0#32
  let c0_i32_213 : BitVec 32 := 0#32
  ![v321.toNat, 0, 0]
def k0_off10 (v320 : BitVec 32) : Fin 3 → Nat :=
  let c0_i32_214 : BitVec 32 := 0#32
  let c0_i32_215 : BitVec 32 := 0#32
  ![v320.toNat, 0, 0]
def k0_cond9 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) : BitVec 1 :=
  let c0_i32_49 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c0_i32_44 : BitVec 32 := 0#32
  let v54 : BitVec 32 := Scalar.shrui v53 c0_i32_44
  let c1_i32_45 : BitVec 32 := 1#32
  let v55 : BitVec 32 := Scalar.andi v54 c1_i32_45
  let v59 : BitVec 32 := Scalar.addi c0_i32_49 v55
  let c1_i32_50 : BitVec 32 := 1#32
  let v60 : BitVec 32 := Scalar.shrui v53 c1_i32_50
  let c1_i32_51 : BitVec 32 := 1#32
  let v61 : BitVec 32 := Scalar.andi v60 c1_i32_51
  let v65 : BitVec 32 := Scalar.addi v59 v61
  let c2_i32 : BitVec 32 := 2#32
  let v66 : BitVec 32 := Scalar.shrui v53 c2_i32
  let c1_i32_54 : BitVec 32 := 1#32
  let v67 : BitVec 32 := Scalar.andi v66 c1_i32_54
  let v71 : BitVec 32 := Scalar.addi v65 v67
  let c3_i32 : BitVec 32 := 3#32
  let v72 : BitVec 32 := Scalar.shrui v53 c3_i32
  let c1_i32_57 : BitVec 32 := 1#32
  let v73 : BitVec 32 := Scalar.andi v72 c1_i32_57
  let v77 : BitVec 32 := Scalar.addi v71 v73
  let c4_i32 : BitVec 32 := 4#32
  let v78 : BitVec 32 := Scalar.shrui v53 c4_i32
  let c1_i32_60 : BitVec 32 := 1#32
  let v79 : BitVec 32 := Scalar.andi v78 c1_i32_60
  let v83 : BitVec 32 := Scalar.addi v77 v79
  let c5_i32 : BitVec 32 := 5#32
  let v84 : BitVec 32 := Scalar.shrui v53 c5_i32
  let c1_i32_63 : BitVec 32 := 1#32
  let v85 : BitVec 32 := Scalar.andi v84 c1_i32_63
  let v89 : BitVec 32 := Scalar.addi v83 v85
  let c6_i32 : BitVec 32 := 6#32
  let v90 : BitVec 32 := Scalar.shrui v53 c6_i32
  let c1_i32_66 : BitVec 32 := 1#32
  let v91 : BitVec 32 := Scalar.andi v90 c1_i32_66
  let v95 : BitVec 32 := Scalar.addi v89 v91
  let c7_i32 : BitVec 32 := 7#32
  let v96 : BitVec 32 := Scalar.shrui v53 c7_i32
  let c1_i32_69 : BitVec 32 := 1#32
  let v97 : BitVec 32 := Scalar.andi v96 c1_i32_69
  let v101 : BitVec 32 := Scalar.addi v95 v97
  let c0_i32_72 : BitVec 32 := 0#32
  let v102 : BitVec 1 := Scalar.cmpi .sgt v101 c0_i32_72
  let v103 : BitVec 32 := Scalar.extui v102
  let c0_i32_73 : BitVec 32 := 0#32
  let v104 : BitVec 1 := Scalar.cmpi .ne v103 c0_i32_73
  v104

def k0_off11 : Fin 2 → Nat :=
  let c0_i32_209 : BitVec 32 := 0#32
  let c4_i32_210 : BitVec 32 := 4#32
  let v321 : BitVec 32 := Scalar.remsi c0_i32_209 c4_i32_210
  let c1_i32_216 : BitVec 32 := 1#32
  ![v321.toNat, 1]
def k0_off12 : Fin 3 → Nat :=
  let c0_i32_209 : BitVec 32 := 0#32
  let c4_i32_210 : BitVec 32 := 4#32
  let v321 : BitVec 32 := Scalar.remsi c0_i32_209 c4_i32_210
  let c1024_i32 : BitVec 32 := 1024#32
  let c0_i32_217 : BitVec 32 := 0#32
  ![v321.toNat, 1024, 0]
def k0_off13 (v320 : BitVec 32) : Fin 3 → Nat :=
  let c1024_i32_218 : BitVec 32 := 1024#32
  let c0_i32_219 : BitVec 32 := 0#32
  ![v320.toNat, 1024, 0]
def k0_off14 : Fin 2 → Nat :=
  let c0_i32_209 : BitVec 32 := 0#32
  let c4_i32_210 : BitVec 32 := 4#32
  let v321 : BitVec 32 := Scalar.remsi c0_i32_209 c4_i32_210
  let c2_i32_220 : BitVec 32 := 2#32
  ![v321.toNat, 2]
def k0_off15 : Fin 3 → Nat :=
  let c0_i32_209 : BitVec 32 := 0#32
  let c4_i32_210 : BitVec 32 := 4#32
  let v321 : BitVec 32 := Scalar.remsi c0_i32_209 c4_i32_210
  let c2048_i32 : BitVec 32 := 2048#32
  let c0_i32_221 : BitVec 32 := 0#32
  ![v321.toNat, 2048, 0]
def k0_off16 (v320 : BitVec 32) : Fin 3 → Nat :=
  let c2048_i32_222 : BitVec 32 := 2048#32
  let c0_i32_223 : BitVec 32 := 0#32
  ![v320.toNat, 2048, 0]

def k0_chk2 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v320 : BitVec 32) : Prop :=
  (∀ (k0_h9 : k0_cond9 v0 v3 v6 v9 v12 v15 v18 v21 v24 v27 v30 v33 v36 v39 v42 v45 v48 v51 = 1#1), ∀ a, (k0_off10 v320) a + S1x1024x2816.size a ≤ S8x2816x2816.size a) ∧
  (∀ (k0_h9 : k0_cond9 v0 v3 v6 v9 v12 v15 v18 v21 v24 v27 v30 v33 v36 v39 v42 v45 v48 v51 = 1#1), ∀ (hinb : ∀ a, (k0_off10 v320) a + S1x1024x2816.size a ≤ S8x2816x2816.size a), (Rect.unit (s := S8x2816x2816) (k0_off10 v320) S1x1024x2816.size hinb).WholeWords (EltTy.packing .i8)) ∧
  (∀ (k0_h9 : k0_cond9 v0 v3 v6 v9 v12 v15 v18 v21 v24 v27 v30 v33 v36 v39 v42 v45 v48 v51 = 1#1), ∀ a, (k0_off13 v320) a + S1x1024x2816.size a ≤ S8x2816x2816.size a) ∧
  (∀ (k0_h9 : k0_cond9 v0 v3 v6 v9 v12 v15 v18 v21 v24 v27 v30 v33 v36 v39 v42 v45 v48 v51 = 1#1), ∀ (hinb : ∀ a, (k0_off13 v320) a + S1x1024x2816.size a ≤ S8x2816x2816.size a), (Rect.unit (s := S8x2816x2816) (k0_off13 v320) S1x1024x2816.size hinb).WholeWords (EltTy.packing .i8)) ∧
  (∀ (k0_h9 : k0_cond9 v0 v3 v6 v9 v12 v15 v18 v21 v24 v27 v30 v33 v36 v39 v42 v45 v48 v51 = 1#1), ∀ a, (k0_off16 v320) a + S1x768x2816.size a ≤ S8x2816x2816.size a) ∧
  (∀ (k0_h9 : k0_cond9 v0 v3 v6 v9 v12 v15 v18 v21 v24 v27 v30 v33 v36 v39 v42 v45 v48 v51 = 1#1), ∀ (hinb : ∀ a, (k0_off16 v320) a + S1x768x2816.size a ≤ S8x2816x2816.size a), (Rect.unit (s := S8x2816x2816) (k0_off16 v320) S1x768x2816.size hinb).WholeWords (EltTy.packing .i8))
theorem k0_off10_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v320 : BitVec 32) (k0_hw2 : k0_chk2 v0 v3 v6 v9 v12 v15 v18 v21 v24 v27 v30 v33 v36 v39 v42 v45 v48 v51 v320), ∀ (k0_h9 : k0_cond9 v0 v3 v6 v9 v12 v15 v18 v21 v24 v27 v30 v33 v36 v39 v42 v45 v48 v51 = 1#1), ∀ a, (k0_off10 v320) a + S1x1024x2816.size a ≤ S8x2816x2816.size a := fun v0 v3 v6 v9 v12 v15 v18 v21 v24 v27 v30 v33 v36 v39 v42 v45 v48 v51 v320 k0_hw2 k0_h9 => k0_hw2.1 k0_h9
theorem k0_off10_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v320 : BitVec 32) (k0_hw2 : k0_chk2 v0 v3 v6 v9 v12 v15 v18 v21 v24 v27 v30 v33 v36 v39 v42 v45 v48 v51 v320), ∀ (k0_h9 : k0_cond9 v0 v3 v6 v9 v12 v15 v18 v21 v24 v27 v30 v33 v36 v39 v42 v45 v48 v51 = 1#1), (Rect.unit (s := S8x2816x2816) (k0_off10 v320) S1x1024x2816.size (k0_off10_inb v0 v3 v6 v9 v12 v15 v18 v21 v24 v27 v30 v33 v36 v39 v42 v45 v48 v51 v320 k0_hw2 k0_h9)).WholeWords (EltTy.packing .i8) := fun v0 v3 v6 v9 v12 v15 v18 v21 v24 v27 v30 v33 v36 v39 v42 v45 v48 v51 v320 k0_hw2 k0_h9 => k0_hw2.2.1 k0_h9 (k0_off10_inb v0 v3 v6 v9 v12 v15 v18 v21 v24 v27 v30 v33 v36 v39 v42 v45 v48 v51 v320 k0_hw2 k0_h9)
theorem k0_off13_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v320 : BitVec 32) (k0_hw2 : k0_chk2 v0 v3 v6 v9 v12 v15 v18 v21 v24 v27 v30 v33 v36 v39 v42 v45 v48 v51 v320), ∀ (k0_h9 : k0_cond9 v0 v3 v6 v9 v12 v15 v18 v21 v24 v27 v30 v33 v36 v39 v42 v45 v48 v51 = 1#1), ∀ a, (k0_off13 v320) a + S1x1024x2816.size a ≤ S8x2816x2816.size a := fun v0 v3 v6 v9 v12 v15 v18 v21 v24 v27 v30 v33 v36 v39 v42 v45 v48 v51 v320 k0_hw2 k0_h9 => k0_hw2.2.2.1 k0_h9
theorem k0_off13_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v320 : BitVec 32) (k0_hw2 : k0_chk2 v0 v3 v6 v9 v12 v15 v18 v21 v24 v27 v30 v33 v36 v39 v42 v45 v48 v51 v320), ∀ (k0_h9 : k0_cond9 v0 v3 v6 v9 v12 v15 v18 v21 v24 v27 v30 v33 v36 v39 v42 v45 v48 v51 = 1#1), (Rect.unit (s := S8x2816x2816) (k0_off13 v320) S1x1024x2816.size (k0_off13_inb v0 v3 v6 v9 v12 v15 v18 v21 v24 v27 v30 v33 v36 v39 v42 v45 v48 v51 v320 k0_hw2 k0_h9)).WholeWords (EltTy.packing .i8) := fun v0 v3 v6 v9 v12 v15 v18 v21 v24 v27 v30 v33 v36 v39 v42 v45 v48 v51 v320 k0_hw2 k0_h9 => k0_hw2.2.2.2.1 k0_h9 (k0_off13_inb v0 v3 v6 v9 v12 v15 v18 v21 v24 v27 v30 v33 v36 v39 v42 v45 v48 v51 v320 k0_hw2 k0_h9)
theorem k0_off16_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v320 : BitVec 32) (k0_hw2 : k0_chk2 v0 v3 v6 v9 v12 v15 v18 v21 v24 v27 v30 v33 v36 v39 v42 v45 v48 v51 v320), ∀ (k0_h9 : k0_cond9 v0 v3 v6 v9 v12 v15 v18 v21 v24 v27 v30 v33 v36 v39 v42 v45 v48 v51 = 1#1), ∀ a, (k0_off16 v320) a + S1x768x2816.size a ≤ S8x2816x2816.size a := fun v0 v3 v6 v9 v12 v15 v18 v21 v24 v27 v30 v33 v36 v39 v42 v45 v48 v51 v320 k0_hw2 k0_h9 => k0_hw2.2.2.2.2.1 k0_h9
theorem k0_off16_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v320 : BitVec 32) (k0_hw2 : k0_chk2 v0 v3 v6 v9 v12 v15 v18 v21 v24 v27 v30 v33 v36 v39 v42 v45 v48 v51 v320), ∀ (k0_h9 : k0_cond9 v0 v3 v6 v9 v12 v15 v18 v21 v24 v27 v30 v33 v36 v39 v42 v45 v48 v51 = 1#1), (Rect.unit (s := S8x2816x2816) (k0_off16 v320) S1x768x2816.size (k0_off16_inb v0 v3 v6 v9 v12 v15 v18 v21 v24 v27 v30 v33 v36 v39 v42 v45 v48 v51 v320 k0_hw2 k0_h9)).WholeWords (EltTy.packing .i8) := fun v0 v3 v6 v9 v12 v15 v18 v21 v24 v27 v30 v33 v36 v39 v42 v45 v48 v51 v320 k0_hw2 k0_h9 => k0_hw2.2.2.2.2.2 k0_h9 (k0_off16_inb v0 v3 v6 v9 v12 v15 v18 v21 v24 v27 v30 v33 v36 v39 v42 v45 v48 v51 v320 k0_hw2 k0_h9)

def k0_off17 : Fin 2 → Nat :=
  let c0_i32_225 : BitVec 32 := 0#32
  let c4_i32_226 : BitVec 32 := 4#32
  let v341 : BitVec 32 := Scalar.remsi c0_i32_225 c4_i32_226
  let c0_i32_227 : BitVec 32 := 0#32
  ![v341.toNat, 0]
def k0_off18 : Fin 3 → Nat :=
  let c0_i32_225 : BitVec 32 := 0#32
  let c4_i32_226 : BitVec 32 := 4#32
  let v341 : BitVec 32 := Scalar.remsi c0_i32_225 c4_i32_226
  let c0_i32_228 : BitVec 32 := 0#32
  let c0_i32_229 : BitVec 32 := 0#32
  ![v341.toNat, 0, 0]
def k0_off19 (v340 : BitVec 32) : Fin 3 → Nat :=
  let c0_i32_230 : BitVec 32 := 0#32
  let c0_i32_231 : BitVec 32 := 0#32
  ![v340.toNat, 0, 0]

def k0_off20 : Fin 2 → Nat :=
  let c0_i32_225 : BitVec 32 := 0#32
  let c4_i32_226 : BitVec 32 := 4#32
  let v341 : BitVec 32 := Scalar.remsi c0_i32_225 c4_i32_226
  let c1_i32_232 : BitVec 32 := 1#32
  ![v341.toNat, 1]
def k0_off21 : Fin 3 → Nat :=
  let c0_i32_225 : BitVec 32 := 0#32
  let c4_i32_226 : BitVec 32 := 4#32
  let v341 : BitVec 32 := Scalar.remsi c0_i32_225 c4_i32_226
  let c1024_i32_233 : BitVec 32 := 1024#32
  let c0_i32_234 : BitVec 32 := 0#32
  ![v341.toNat, 1024, 0]
def k0_off22 (v340 : BitVec 32) : Fin 3 → Nat :=
  let c1024_i32_235 : BitVec 32 := 1024#32
  let c0_i32_236 : BitVec 32 := 0#32
  ![v340.toNat, 1024, 0]

def k0_chk3 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v340 : BitVec 32) : Prop :=
  (∀ (k0_h9 : k0_cond9 v0 v3 v6 v9 v12 v15 v18 v21 v24 v27 v30 v33 v36 v39 v42 v45 v48 v51 = 1#1), ∀ a, (k0_off19 v340) a + S1x1024x2816.size a ≤ S8x1408x2816.size a) ∧
  (∀ (k0_h9 : k0_cond9 v0 v3 v6 v9 v12 v15 v18 v21 v24 v27 v30 v33 v36 v39 v42 v45 v48 v51 = 1#1), ∀ (hinb : ∀ a, (k0_off19 v340) a + S1x1024x2816.size a ≤ S8x1408x2816.size a), (Rect.unit (s := S8x1408x2816) (k0_off19 v340) S1x1024x2816.size hinb).WholeWords (EltTy.packing .i8)) ∧
  (∀ (k0_h9 : k0_cond9 v0 v3 v6 v9 v12 v15 v18 v21 v24 v27 v30 v33 v36 v39 v42 v45 v48 v51 = 1#1), ∀ a, (k0_off22 v340) a + S1x384x2816.size a ≤ S8x1408x2816.size a) ∧
  (∀ (k0_h9 : k0_cond9 v0 v3 v6 v9 v12 v15 v18 v21 v24 v27 v30 v33 v36 v39 v42 v45 v48 v51 = 1#1), ∀ (hinb : ∀ a, (k0_off22 v340) a + S1x384x2816.size a ≤ S8x1408x2816.size a), (Rect.unit (s := S8x1408x2816) (k0_off22 v340) S1x384x2816.size hinb).WholeWords (EltTy.packing .i8))
theorem k0_off19_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v340 : BitVec 32) (k0_hw3 : k0_chk3 v0 v3 v6 v9 v12 v15 v18 v21 v24 v27 v30 v33 v36 v39 v42 v45 v48 v51 v340), ∀ (k0_h9 : k0_cond9 v0 v3 v6 v9 v12 v15 v18 v21 v24 v27 v30 v33 v36 v39 v42 v45 v48 v51 = 1#1), ∀ a, (k0_off19 v340) a + S1x1024x2816.size a ≤ S8x1408x2816.size a := fun v0 v3 v6 v9 v12 v15 v18 v21 v24 v27 v30 v33 v36 v39 v42 v45 v48 v51 v340 k0_hw3 k0_h9 => k0_hw3.1 k0_h9
theorem k0_off19_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v340 : BitVec 32) (k0_hw3 : k0_chk3 v0 v3 v6 v9 v12 v15 v18 v21 v24 v27 v30 v33 v36 v39 v42 v45 v48 v51 v340), ∀ (k0_h9 : k0_cond9 v0 v3 v6 v9 v12 v15 v18 v21 v24 v27 v30 v33 v36 v39 v42 v45 v48 v51 = 1#1), (Rect.unit (s := S8x1408x2816) (k0_off19 v340) S1x1024x2816.size (k0_off19_inb v0 v3 v6 v9 v12 v15 v18 v21 v24 v27 v30 v33 v36 v39 v42 v45 v48 v51 v340 k0_hw3 k0_h9)).WholeWords (EltTy.packing .i8) := fun v0 v3 v6 v9 v12 v15 v18 v21 v24 v27 v30 v33 v36 v39 v42 v45 v48 v51 v340 k0_hw3 k0_h9 => k0_hw3.2.1 k0_h9 (k0_off19_inb v0 v3 v6 v9 v12 v15 v18 v21 v24 v27 v30 v33 v36 v39 v42 v45 v48 v51 v340 k0_hw3 k0_h9)
theorem k0_off22_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v340 : BitVec 32) (k0_hw3 : k0_chk3 v0 v3 v6 v9 v12 v15 v18 v21 v24 v27 v30 v33 v36 v39 v42 v45 v48 v51 v340), ∀ (k0_h9 : k0_cond9 v0 v3 v6 v9 v12 v15 v18 v21 v24 v27 v30 v33 v36 v39 v42 v45 v48 v51 = 1#1), ∀ a, (k0_off22 v340) a + S1x384x2816.size a ≤ S8x1408x2816.size a := fun v0 v3 v6 v9 v12 v15 v18 v21 v24 v27 v30 v33 v36 v39 v42 v45 v48 v51 v340 k0_hw3 k0_h9 => k0_hw3.2.2.1 k0_h9
theorem k0_off22_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v340 : BitVec 32) (k0_hw3 : k0_chk3 v0 v3 v6 v9 v12 v15 v18 v21 v24 v27 v30 v33 v36 v39 v42 v45 v48 v51 v340), ∀ (k0_h9 : k0_cond9 v0 v3 v6 v9 v12 v15 v18 v21 v24 v27 v30 v33 v36 v39 v42 v45 v48 v51 = 1#1), (Rect.unit (s := S8x1408x2816) (k0_off22 v340) S1x384x2816.size (k0_off22_inb v0 v3 v6 v9 v12 v15 v18 v21 v24 v27 v30 v33 v36 v39 v42 v45 v48 v51 v340 k0_hw3 k0_h9)).WholeWords (EltTy.packing .i8) := fun v0 v3 v6 v9 v12 v15 v18 v21 v24 v27 v30 v33 v36 v39 v42 v45 v48 v51 v340 k0_hw3 k0_h9 => k0_hw3.2.2.2 k0_h9 (k0_off22_inb v0 v3 v6 v9 v12 v15 v18 v21 v24 v27 v30 v33 v36 v39 v42 v45 v48 v51 v340 k0_hw3 k0_h9)

def k0_off23 : Fin 2 → Nat :=
  let c1_i32_209 : BitVec 32 := 1#32
  let c4_i32_210 : BitVec 32 := 4#32
  let v321 : BitVec 32 := Scalar.remsi c1_i32_209 c4_i32_210
  let c0_i32_211 : BitVec 32 := 0#32
  ![v321.toNat, 0]
def k0_off24 : Fin 3 → Nat :=
  let c1_i32_209 : BitVec 32 := 1#32
  let c4_i32_210 : BitVec 32 := 4#32
  let v321 : BitVec 32 := Scalar.remsi c1_i32_209 c4_i32_210
  let c0_i32_212 : BitVec 32 := 0#32
  let c0_i32_213 : BitVec 32 := 0#32
  ![v321.toNat, 0, 0]
def k0_off25 (v320 : BitVec 32) : Fin 3 → Nat :=
  let c0_i32_214 : BitVec 32 := 0#32
  let c0_i32_215 : BitVec 32 := 0#32
  ![v320.toNat, 0, 0]
def k0_cond10 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) : BitVec 1 :=
  let c0_i32_49 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c0_i32_44 : BitVec 32 := 0#32
  let v54 : BitVec 32 := Scalar.shrui v53 c0_i32_44
  let c1_i32_45 : BitVec 32 := 1#32
  let v55 : BitVec 32 := Scalar.andi v54 c1_i32_45
  let v59 : BitVec 32 := Scalar.addi c0_i32_49 v55
  let c1_i32_50 : BitVec 32 := 1#32
  let v60 : BitVec 32 := Scalar.shrui v53 c1_i32_50
  let c1_i32_51 : BitVec 32 := 1#32
  let v61 : BitVec 32 := Scalar.andi v60 c1_i32_51
  let v65 : BitVec 32 := Scalar.addi v59 v61
  let c2_i32 : BitVec 32 := 2#32
  let v66 : BitVec 32 := Scalar.shrui v53 c2_i32
  let c1_i32_54 : BitVec 32 := 1#32
  let v67 : BitVec 32 := Scalar.andi v66 c1_i32_54
  let v71 : BitVec 32 := Scalar.addi v65 v67
  let c3_i32 : BitVec 32 := 3#32
  let v72 : BitVec 32 := Scalar.shrui v53 c3_i32
  let c1_i32_57 : BitVec 32 := 1#32
  let v73 : BitVec 32 := Scalar.andi v72 c1_i32_57
  let v77 : BitVec 32 := Scalar.addi v71 v73
  let c4_i32 : BitVec 32 := 4#32
  let v78 : BitVec 32 := Scalar.shrui v53 c4_i32
  let c1_i32_60 : BitVec 32 := 1#32
  let v79 : BitVec 32 := Scalar.andi v78 c1_i32_60
  let v83 : BitVec 32 := Scalar.addi v77 v79
  let c5_i32 : BitVec 32 := 5#32
  let v84 : BitVec 32 := Scalar.shrui v53 c5_i32
  let c1_i32_63 : BitVec 32 := 1#32
  let v85 : BitVec 32 := Scalar.andi v84 c1_i32_63
  let v89 : BitVec 32 := Scalar.addi v83 v85
  let c6_i32 : BitVec 32 := 6#32
  let v90 : BitVec 32 := Scalar.shrui v53 c6_i32
  let c1_i32_66 : BitVec 32 := 1#32
  let v91 : BitVec 32 := Scalar.andi v90 c1_i32_66
  let v95 : BitVec 32 := Scalar.addi v89 v91
  let c7_i32 : BitVec 32 := 7#32
  let v96 : BitVec 32 := Scalar.shrui v53 c7_i32
  let c1_i32_69 : BitVec 32 := 1#32
  let v97 : BitVec 32 := Scalar.andi v96 c1_i32_69
  let v101 : BitVec 32 := Scalar.addi v95 v97
  let c1_i32_74 : BitVec 32 := 1#32
  let v105 : BitVec 1 := Scalar.cmpi .sgt v101 c1_i32_74
  let v106 : BitVec 32 := Scalar.extui v105
  let c0_i32_75 : BitVec 32 := 0#32
  let v107 : BitVec 1 := Scalar.cmpi .ne v106 c0_i32_75
  v107

def k0_off26 : Fin 2 → Nat :=
  let c1_i32_209 : BitVec 32 := 1#32
  let c4_i32_210 : BitVec 32 := 4#32
  let v321 : BitVec 32 := Scalar.remsi c1_i32_209 c4_i32_210
  let c1_i32_216 : BitVec 32 := 1#32
  ![v321.toNat, 1]
def k0_off27 : Fin 3 → Nat :=
  let c1_i32_209 : BitVec 32 := 1#32
  let c4_i32_210 : BitVec 32 := 4#32
  let v321 : BitVec 32 := Scalar.remsi c1_i32_209 c4_i32_210
  let c1024_i32 : BitVec 32 := 1024#32
  let c0_i32_217 : BitVec 32 := 0#32
  ![v321.toNat, 1024, 0]
def k0_off28 (v320 : BitVec 32) : Fin 3 → Nat :=
  let c1024_i32_218 : BitVec 32 := 1024#32
  let c0_i32_219 : BitVec 32 := 0#32
  ![v320.toNat, 1024, 0]
def k0_off29 : Fin 2 → Nat :=
  let c1_i32_209 : BitVec 32 := 1#32
  let c4_i32_210 : BitVec 32 := 4#32
  let v321 : BitVec 32 := Scalar.remsi c1_i32_209 c4_i32_210
  let c2_i32_220 : BitVec 32 := 2#32
  ![v321.toNat, 2]
def k0_off30 : Fin 3 → Nat :=
  let c1_i32_209 : BitVec 32 := 1#32
  let c4_i32_210 : BitVec 32 := 4#32
  let v321 : BitVec 32 := Scalar.remsi c1_i32_209 c4_i32_210
  let c2048_i32 : BitVec 32 := 2048#32
  let c0_i32_221 : BitVec 32 := 0#32
  ![v321.toNat, 2048, 0]
def k0_off31 (v320 : BitVec 32) : Fin 3 → Nat :=
  let c2048_i32_222 : BitVec 32 := 2048#32
  let c0_i32_223 : BitVec 32 := 0#32
  ![v320.toNat, 2048, 0]

def k0_chk4 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v320 : BitVec 32) : Prop :=
  (∀ (k0_h10 : k0_cond10 v0 v3 v6 v9 v12 v15 v18 v21 v24 v27 v30 v33 v36 v39 v42 v45 v48 v51 = 1#1), ∀ a, (k0_off25 v320) a + S1x1024x2816.size a ≤ S8x2816x2816.size a) ∧
  (∀ (k0_h10 : k0_cond10 v0 v3 v6 v9 v12 v15 v18 v21 v24 v27 v30 v33 v36 v39 v42 v45 v48 v51 = 1#1), ∀ (hinb : ∀ a, (k0_off25 v320) a + S1x1024x2816.size a ≤ S8x2816x2816.size a), (Rect.unit (s := S8x2816x2816) (k0_off25 v320) S1x1024x2816.size hinb).WholeWords (EltTy.packing .i8)) ∧
  (∀ (k0_h10 : k0_cond10 v0 v3 v6 v9 v12 v15 v18 v21 v24 v27 v30 v33 v36 v39 v42 v45 v48 v51 = 1#1), ∀ a, (k0_off28 v320) a + S1x1024x2816.size a ≤ S8x2816x2816.size a) ∧
  (∀ (k0_h10 : k0_cond10 v0 v3 v6 v9 v12 v15 v18 v21 v24 v27 v30 v33 v36 v39 v42 v45 v48 v51 = 1#1), ∀ (hinb : ∀ a, (k0_off28 v320) a + S1x1024x2816.size a ≤ S8x2816x2816.size a), (Rect.unit (s := S8x2816x2816) (k0_off28 v320) S1x1024x2816.size hinb).WholeWords (EltTy.packing .i8)) ∧
  (∀ (k0_h10 : k0_cond10 v0 v3 v6 v9 v12 v15 v18 v21 v24 v27 v30 v33 v36 v39 v42 v45 v48 v51 = 1#1), ∀ a, (k0_off31 v320) a + S1x768x2816.size a ≤ S8x2816x2816.size a) ∧
  (∀ (k0_h10 : k0_cond10 v0 v3 v6 v9 v12 v15 v18 v21 v24 v27 v30 v33 v36 v39 v42 v45 v48 v51 = 1#1), ∀ (hinb : ∀ a, (k0_off31 v320) a + S1x768x2816.size a ≤ S8x2816x2816.size a), (Rect.unit (s := S8x2816x2816) (k0_off31 v320) S1x768x2816.size hinb).WholeWords (EltTy.packing .i8))
theorem k0_off25_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v320 : BitVec 32) (k0_hw4 : k0_chk4 v0 v3 v6 v9 v12 v15 v18 v21 v24 v27 v30 v33 v36 v39 v42 v45 v48 v51 v320), ∀ (k0_h10 : k0_cond10 v0 v3 v6 v9 v12 v15 v18 v21 v24 v27 v30 v33 v36 v39 v42 v45 v48 v51 = 1#1), ∀ a, (k0_off25 v320) a + S1x1024x2816.size a ≤ S8x2816x2816.size a := fun v0 v3 v6 v9 v12 v15 v18 v21 v24 v27 v30 v33 v36 v39 v42 v45 v48 v51 v320 k0_hw4 k0_h10 => k0_hw4.1 k0_h10
theorem k0_off25_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v320 : BitVec 32) (k0_hw4 : k0_chk4 v0 v3 v6 v9 v12 v15 v18 v21 v24 v27 v30 v33 v36 v39 v42 v45 v48 v51 v320), ∀ (k0_h10 : k0_cond10 v0 v3 v6 v9 v12 v15 v18 v21 v24 v27 v30 v33 v36 v39 v42 v45 v48 v51 = 1#1), (Rect.unit (s := S8x2816x2816) (k0_off25 v320) S1x1024x2816.size (k0_off25_inb v0 v3 v6 v9 v12 v15 v18 v21 v24 v27 v30 v33 v36 v39 v42 v45 v48 v51 v320 k0_hw4 k0_h10)).WholeWords (EltTy.packing .i8) := fun v0 v3 v6 v9 v12 v15 v18 v21 v24 v27 v30 v33 v36 v39 v42 v45 v48 v51 v320 k0_hw4 k0_h10 => k0_hw4.2.1 k0_h10 (k0_off25_inb v0 v3 v6 v9 v12 v15 v18 v21 v24 v27 v30 v33 v36 v39 v42 v45 v48 v51 v320 k0_hw4 k0_h10)
theorem k0_off28_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v320 : BitVec 32) (k0_hw4 : k0_chk4 v0 v3 v6 v9 v12 v15 v18 v21 v24 v27 v30 v33 v36 v39 v42 v45 v48 v51 v320), ∀ (k0_h10 : k0_cond10 v0 v3 v6 v9 v12 v15 v18 v21 v24 v27 v30 v33 v36 v39 v42 v45 v48 v51 = 1#1), ∀ a, (k0_off28 v320) a + S1x1024x2816.size a ≤ S8x2816x2816.size a := fun v0 v3 v6 v9 v12 v15 v18 v21 v24 v27 v30 v33 v36 v39 v42 v45 v48 v51 v320 k0_hw4 k0_h10 => k0_hw4.2.2.1 k0_h10
theorem k0_off28_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v320 : BitVec 32) (k0_hw4 : k0_chk4 v0 v3 v6 v9 v12 v15 v18 v21 v24 v27 v30 v33 v36 v39 v42 v45 v48 v51 v320), ∀ (k0_h10 : k0_cond10 v0 v3 v6 v9 v12 v15 v18 v21 v24 v27 v30 v33 v36 v39 v42 v45 v48 v51 = 1#1), (Rect.unit (s := S8x2816x2816) (k0_off28 v320) S1x1024x2816.size (k0_off28_inb v0 v3 v6 v9 v12 v15 v18 v21 v24 v27 v30 v33 v36 v39 v42 v45 v48 v51 v320 k0_hw4 k0_h10)).WholeWords (EltTy.packing .i8) := fun v0 v3 v6 v9 v12 v15 v18 v21 v24 v27 v30 v33 v36 v39 v42 v45 v48 v51 v320 k0_hw4 k0_h10 => k0_hw4.2.2.2.1 k0_h10 (k0_off28_inb v0 v3 v6 v9 v12 v15 v18 v21 v24 v27 v30 v33 v36 v39 v42 v45 v48 v51 v320 k0_hw4 k0_h10)
theorem k0_off31_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v320 : BitVec 32) (k0_hw4 : k0_chk4 v0 v3 v6 v9 v12 v15 v18 v21 v24 v27 v30 v33 v36 v39 v42 v45 v48 v51 v320), ∀ (k0_h10 : k0_cond10 v0 v3 v6 v9 v12 v15 v18 v21 v24 v27 v30 v33 v36 v39 v42 v45 v48 v51 = 1#1), ∀ a, (k0_off31 v320) a + S1x768x2816.size a ≤ S8x2816x2816.size a := fun v0 v3 v6 v9 v12 v15 v18 v21 v24 v27 v30 v33 v36 v39 v42 v45 v48 v51 v320 k0_hw4 k0_h10 => k0_hw4.2.2.2.2.1 k0_h10
theorem k0_off31_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v320 : BitVec 32) (k0_hw4 : k0_chk4 v0 v3 v6 v9 v12 v15 v18 v21 v24 v27 v30 v33 v36 v39 v42 v45 v48 v51 v320), ∀ (k0_h10 : k0_cond10 v0 v3 v6 v9 v12 v15 v18 v21 v24 v27 v30 v33 v36 v39 v42 v45 v48 v51 = 1#1), (Rect.unit (s := S8x2816x2816) (k0_off31 v320) S1x768x2816.size (k0_off31_inb v0 v3 v6 v9 v12 v15 v18 v21 v24 v27 v30 v33 v36 v39 v42 v45 v48 v51 v320 k0_hw4 k0_h10)).WholeWords (EltTy.packing .i8) := fun v0 v3 v6 v9 v12 v15 v18 v21 v24 v27 v30 v33 v36 v39 v42 v45 v48 v51 v320 k0_hw4 k0_h10 => k0_hw4.2.2.2.2.2 k0_h10 (k0_off31_inb v0 v3 v6 v9 v12 v15 v18 v21 v24 v27 v30 v33 v36 v39 v42 v45 v48 v51 v320 k0_hw4 k0_h10)

def k0_off32 : Fin 2 → Nat :=
  let c1_i32_225 : BitVec 32 := 1#32
  let c4_i32_226 : BitVec 32 := 4#32
  let v341 : BitVec 32 := Scalar.remsi c1_i32_225 c4_i32_226
  let c0_i32_227 : BitVec 32 := 0#32
  ![v341.toNat, 0]
def k0_off33 : Fin 3 → Nat :=
  let c1_i32_225 : BitVec 32 := 1#32
  let c4_i32_226 : BitVec 32 := 4#32
  let v341 : BitVec 32 := Scalar.remsi c1_i32_225 c4_i32_226
  let c0_i32_228 : BitVec 32 := 0#32
  let c0_i32_229 : BitVec 32 := 0#32
  ![v341.toNat, 0, 0]
def k0_off34 (v340 : BitVec 32) : Fin 3 → Nat :=
  let c0_i32_230 : BitVec 32 := 0#32
  let c0_i32_231 : BitVec 32 := 0#32
  ![v340.toNat, 0, 0]

def k0_off35 : Fin 2 → Nat :=
  let c1_i32_225 : BitVec 32 := 1#32
  let c4_i32_226 : BitVec 32 := 4#32
  let v341 : BitVec 32 := Scalar.remsi c1_i32_225 c4_i32_226
  let c1_i32_232 : BitVec 32 := 1#32
  ![v341.toNat, 1]
def k0_off36 : Fin 3 → Nat :=
  let c1_i32_225 : BitVec 32 := 1#32
  let c4_i32_226 : BitVec 32 := 4#32
  let v341 : BitVec 32 := Scalar.remsi c1_i32_225 c4_i32_226
  let c1024_i32_233 : BitVec 32 := 1024#32
  let c0_i32_234 : BitVec 32 := 0#32
  ![v341.toNat, 1024, 0]
def k0_off37 (v340 : BitVec 32) : Fin 3 → Nat :=
  let c1024_i32_235 : BitVec 32 := 1024#32
  let c0_i32_236 : BitVec 32 := 0#32
  ![v340.toNat, 1024, 0]

def k0_chk5 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v340 : BitVec 32) : Prop :=
  (∀ (k0_h10 : k0_cond10 v0 v3 v6 v9 v12 v15 v18 v21 v24 v27 v30 v33 v36 v39 v42 v45 v48 v51 = 1#1), ∀ a, (k0_off34 v340) a + S1x1024x2816.size a ≤ S8x1408x2816.size a) ∧
  (∀ (k0_h10 : k0_cond10 v0 v3 v6 v9 v12 v15 v18 v21 v24 v27 v30 v33 v36 v39 v42 v45 v48 v51 = 1#1), ∀ (hinb : ∀ a, (k0_off34 v340) a + S1x1024x2816.size a ≤ S8x1408x2816.size a), (Rect.unit (s := S8x1408x2816) (k0_off34 v340) S1x1024x2816.size hinb).WholeWords (EltTy.packing .i8)) ∧
  (∀ (k0_h10 : k0_cond10 v0 v3 v6 v9 v12 v15 v18 v21 v24 v27 v30 v33 v36 v39 v42 v45 v48 v51 = 1#1), ∀ a, (k0_off37 v340) a + S1x384x2816.size a ≤ S8x1408x2816.size a) ∧
  (∀ (k0_h10 : k0_cond10 v0 v3 v6 v9 v12 v15 v18 v21 v24 v27 v30 v33 v36 v39 v42 v45 v48 v51 = 1#1), ∀ (hinb : ∀ a, (k0_off37 v340) a + S1x384x2816.size a ≤ S8x1408x2816.size a), (Rect.unit (s := S8x1408x2816) (k0_off37 v340) S1x384x2816.size hinb).WholeWords (EltTy.packing .i8))
theorem k0_off34_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v340 : BitVec 32) (k0_hw5 : k0_chk5 v0 v3 v6 v9 v12 v15 v18 v21 v24 v27 v30 v33 v36 v39 v42 v45 v48 v51 v340), ∀ (k0_h10 : k0_cond10 v0 v3 v6 v9 v12 v15 v18 v21 v24 v27 v30 v33 v36 v39 v42 v45 v48 v51 = 1#1), ∀ a, (k0_off34 v340) a + S1x1024x2816.size a ≤ S8x1408x2816.size a := fun v0 v3 v6 v9 v12 v15 v18 v21 v24 v27 v30 v33 v36 v39 v42 v45 v48 v51 v340 k0_hw5 k0_h10 => k0_hw5.1 k0_h10
theorem k0_off34_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v340 : BitVec 32) (k0_hw5 : k0_chk5 v0 v3 v6 v9 v12 v15 v18 v21 v24 v27 v30 v33 v36 v39 v42 v45 v48 v51 v340), ∀ (k0_h10 : k0_cond10 v0 v3 v6 v9 v12 v15 v18 v21 v24 v27 v30 v33 v36 v39 v42 v45 v48 v51 = 1#1), (Rect.unit (s := S8x1408x2816) (k0_off34 v340) S1x1024x2816.size (k0_off34_inb v0 v3 v6 v9 v12 v15 v18 v21 v24 v27 v30 v33 v36 v39 v42 v45 v48 v51 v340 k0_hw5 k0_h10)).WholeWords (EltTy.packing .i8) := fun v0 v3 v6 v9 v12 v15 v18 v21 v24 v27 v30 v33 v36 v39 v42 v45 v48 v51 v340 k0_hw5 k0_h10 => k0_hw5.2.1 k0_h10 (k0_off34_inb v0 v3 v6 v9 v12 v15 v18 v21 v24 v27 v30 v33 v36 v39 v42 v45 v48 v51 v340 k0_hw5 k0_h10)
theorem k0_off37_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v340 : BitVec 32) (k0_hw5 : k0_chk5 v0 v3 v6 v9 v12 v15 v18 v21 v24 v27 v30 v33 v36 v39 v42 v45 v48 v51 v340), ∀ (k0_h10 : k0_cond10 v0 v3 v6 v9 v12 v15 v18 v21 v24 v27 v30 v33 v36 v39 v42 v45 v48 v51 = 1#1), ∀ a, (k0_off37 v340) a + S1x384x2816.size a ≤ S8x1408x2816.size a := fun v0 v3 v6 v9 v12 v15 v18 v21 v24 v27 v30 v33 v36 v39 v42 v45 v48 v51 v340 k0_hw5 k0_h10 => k0_hw5.2.2.1 k0_h10
theorem k0_off37_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v340 : BitVec 32) (k0_hw5 : k0_chk5 v0 v3 v6 v9 v12 v15 v18 v21 v24 v27 v30 v33 v36 v39 v42 v45 v48 v51 v340), ∀ (k0_h10 : k0_cond10 v0 v3 v6 v9 v12 v15 v18 v21 v24 v27 v30 v33 v36 v39 v42 v45 v48 v51 = 1#1), (Rect.unit (s := S8x1408x2816) (k0_off37 v340) S1x384x2816.size (k0_off37_inb v0 v3 v6 v9 v12 v15 v18 v21 v24 v27 v30 v33 v36 v39 v42 v45 v48 v51 v340 k0_hw5 k0_h10)).WholeWords (EltTy.packing .i8) := fun v0 v3 v6 v9 v12 v15 v18 v21 v24 v27 v30 v33 v36 v39 v42 v45 v48 v51 v340 k0_hw5 k0_h10 => k0_hw5.2.2.2 k0_h10 (k0_off37_inb v0 v3 v6 v9 v12 v15 v18 v21 v24 v27 v30 v33 v36 v39 v42 v45 v48 v51 v340 k0_hw5 k0_h10)

def k0_off38 : Fin 2 → Nat :=
  let c2_i32_209 : BitVec 32 := 2#32
  let c4_i32_210 : BitVec 32 := 4#32
  let v321 : BitVec 32 := Scalar.remsi c2_i32_209 c4_i32_210
  let c0_i32_211 : BitVec 32 := 0#32
  ![v321.toNat, 0]
def k0_off39 : Fin 3 → Nat :=
  let c2_i32_209 : BitVec 32 := 2#32
  let c4_i32_210 : BitVec 32 := 4#32
  let v321 : BitVec 32 := Scalar.remsi c2_i32_209 c4_i32_210
  let c0_i32_212 : BitVec 32 := 0#32
  let c0_i32_213 : BitVec 32 := 0#32
  ![v321.toNat, 0, 0]
def k0_off40 (v320 : BitVec 32) : Fin 3 → Nat :=
  let c0_i32_214 : BitVec 32 := 0#32
  let c0_i32_215 : BitVec 32 := 0#32
  ![v320.toNat, 0, 0]
def k0_cond11 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) : BitVec 1 :=
  let c0_i32_49 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c0_i32_44 : BitVec 32 := 0#32
  let v54 : BitVec 32 := Scalar.shrui v53 c0_i32_44
  let c1_i32_45 : BitVec 32 := 1#32
  let v55 : BitVec 32 := Scalar.andi v54 c1_i32_45
  let v59 : BitVec 32 := Scalar.addi c0_i32_49 v55
  let c1_i32_50 : BitVec 32 := 1#32
  let v60 : BitVec 32 := Scalar.shrui v53 c1_i32_50
  let c1_i32_51 : BitVec 32 := 1#32
  let v61 : BitVec 32 := Scalar.andi v60 c1_i32_51
  let v65 : BitVec 32 := Scalar.addi v59 v61
  let c2_i32 : BitVec 32 := 2#32
  let v66 : BitVec 32 := Scalar.shrui v53 c2_i32
  let c1_i32_54 : BitVec 32 := 1#32
  let v67 : BitVec 32 := Scalar.andi v66 c1_i32_54
  let v71 : BitVec 32 := Scalar.addi v65 v67
  let c3_i32 : BitVec 32 := 3#32
  let v72 : BitVec 32 := Scalar.shrui v53 c3_i32
  let c1_i32_57 : BitVec 32 := 1#32
  let v73 : BitVec 32 := Scalar.andi v72 c1_i32_57
  let v77 : BitVec 32 := Scalar.addi v71 v73
  let c4_i32 : BitVec 32 := 4#32
  let v78 : BitVec 32 := Scalar.shrui v53 c4_i32
  let c1_i32_60 : BitVec 32 := 1#32
  let v79 : BitVec 32 := Scalar.andi v78 c1_i32_60
  let v83 : BitVec 32 := Scalar.addi v77 v79
  let c5_i32 : BitVec 32 := 5#32
  let v84 : BitVec 32 := Scalar.shrui v53 c5_i32
  let c1_i32_63 : BitVec 32 := 1#32
  let v85 : BitVec 32 := Scalar.andi v84 c1_i32_63
  let v89 : BitVec 32 := Scalar.addi v83 v85
  let c6_i32 : BitVec 32 := 6#32
  let v90 : BitVec 32 := Scalar.shrui v53 c6_i32
  let c1_i32_66 : BitVec 32 := 1#32
  let v91 : BitVec 32 := Scalar.andi v90 c1_i32_66
  let v95 : BitVec 32 := Scalar.addi v89 v91
  let c7_i32 : BitVec 32 := 7#32
  let v96 : BitVec 32 := Scalar.shrui v53 c7_i32
  let c1_i32_69 : BitVec 32 := 1#32
  let v97 : BitVec 32 := Scalar.andi v96 c1_i32_69
  let v101 : BitVec 32 := Scalar.addi v95 v97
  let c2_i32_76 : BitVec 32 := 2#32
  let v108 : BitVec 1 := Scalar.cmpi .sgt v101 c2_i32_76
  let v109 : BitVec 32 := Scalar.extui v108
  let c0_i32_77 : BitVec 32 := 0#32
  let v110 : BitVec 1 := Scalar.cmpi .ne v109 c0_i32_77
  v110

def k0_off41 : Fin 2 → Nat :=
  let c2_i32_209 : BitVec 32 := 2#32
  let c4_i32_210 : BitVec 32 := 4#32
  let v321 : BitVec 32 := Scalar.remsi c2_i32_209 c4_i32_210
  let c1_i32_216 : BitVec 32 := 1#32
  ![v321.toNat, 1]
def k0_off42 : Fin 3 → Nat :=
  let c2_i32_209 : BitVec 32 := 2#32
  let c4_i32_210 : BitVec 32 := 4#32
  let v321 : BitVec 32 := Scalar.remsi c2_i32_209 c4_i32_210
  let c1024_i32 : BitVec 32 := 1024#32
  let c0_i32_217 : BitVec 32 := 0#32
  ![v321.toNat, 1024, 0]
def k0_off43 (v320 : BitVec 32) : Fin 3 → Nat :=
  let c1024_i32_218 : BitVec 32 := 1024#32
  let c0_i32_219 : BitVec 32 := 0#32
  ![v320.toNat, 1024, 0]
def k0_off44 : Fin 2 → Nat :=
  let c2_i32_209 : BitVec 32 := 2#32
  let c4_i32_210 : BitVec 32 := 4#32
  let v321 : BitVec 32 := Scalar.remsi c2_i32_209 c4_i32_210
  let c2_i32_220 : BitVec 32 := 2#32
  ![v321.toNat, 2]
def k0_off45 : Fin 3 → Nat :=
  let c2_i32_209 : BitVec 32 := 2#32
  let c4_i32_210 : BitVec 32 := 4#32
  let v321 : BitVec 32 := Scalar.remsi c2_i32_209 c4_i32_210
  let c2048_i32 : BitVec 32 := 2048#32
  let c0_i32_221 : BitVec 32 := 0#32
  ![v321.toNat, 2048, 0]
def k0_off46 (v320 : BitVec 32) : Fin 3 → Nat :=
  let c2048_i32_222 : BitVec 32 := 2048#32
  let c0_i32_223 : BitVec 32 := 0#32
  ![v320.toNat, 2048, 0]

def k0_chk6 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v320 : BitVec 32) : Prop :=
  (∀ (k0_h11 : k0_cond11 v0 v3 v6 v9 v12 v15 v18 v21 v24 v27 v30 v33 v36 v39 v42 v45 v48 v51 = 1#1), ∀ a, (k0_off40 v320) a + S1x1024x2816.size a ≤ S8x2816x2816.size a) ∧
  (∀ (k0_h11 : k0_cond11 v0 v3 v6 v9 v12 v15 v18 v21 v24 v27 v30 v33 v36 v39 v42 v45 v48 v51 = 1#1), ∀ (hinb : ∀ a, (k0_off40 v320) a + S1x1024x2816.size a ≤ S8x2816x2816.size a), (Rect.unit (s := S8x2816x2816) (k0_off40 v320) S1x1024x2816.size hinb).WholeWords (EltTy.packing .i8)) ∧
  (∀ (k0_h11 : k0_cond11 v0 v3 v6 v9 v12 v15 v18 v21 v24 v27 v30 v33 v36 v39 v42 v45 v48 v51 = 1#1), ∀ a, (k0_off43 v320) a + S1x1024x2816.size a ≤ S8x2816x2816.size a) ∧
  (∀ (k0_h11 : k0_cond11 v0 v3 v6 v9 v12 v15 v18 v21 v24 v27 v30 v33 v36 v39 v42 v45 v48 v51 = 1#1), ∀ (hinb : ∀ a, (k0_off43 v320) a + S1x1024x2816.size a ≤ S8x2816x2816.size a), (Rect.unit (s := S8x2816x2816) (k0_off43 v320) S1x1024x2816.size hinb).WholeWords (EltTy.packing .i8)) ∧
  (∀ (k0_h11 : k0_cond11 v0 v3 v6 v9 v12 v15 v18 v21 v24 v27 v30 v33 v36 v39 v42 v45 v48 v51 = 1#1), ∀ a, (k0_off46 v320) a + S1x768x2816.size a ≤ S8x2816x2816.size a) ∧
  (∀ (k0_h11 : k0_cond11 v0 v3 v6 v9 v12 v15 v18 v21 v24 v27 v30 v33 v36 v39 v42 v45 v48 v51 = 1#1), ∀ (hinb : ∀ a, (k0_off46 v320) a + S1x768x2816.size a ≤ S8x2816x2816.size a), (Rect.unit (s := S8x2816x2816) (k0_off46 v320) S1x768x2816.size hinb).WholeWords (EltTy.packing .i8))
theorem k0_off40_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v320 : BitVec 32) (k0_hw6 : k0_chk6 v0 v3 v6 v9 v12 v15 v18 v21 v24 v27 v30 v33 v36 v39 v42 v45 v48 v51 v320), ∀ (k0_h11 : k0_cond11 v0 v3 v6 v9 v12 v15 v18 v21 v24 v27 v30 v33 v36 v39 v42 v45 v48 v51 = 1#1), ∀ a, (k0_off40 v320) a + S1x1024x2816.size a ≤ S8x2816x2816.size a := fun v0 v3 v6 v9 v12 v15 v18 v21 v24 v27 v30 v33 v36 v39 v42 v45 v48 v51 v320 k0_hw6 k0_h11 => k0_hw6.1 k0_h11
theorem k0_off40_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v320 : BitVec 32) (k0_hw6 : k0_chk6 v0 v3 v6 v9 v12 v15 v18 v21 v24 v27 v30 v33 v36 v39 v42 v45 v48 v51 v320), ∀ (k0_h11 : k0_cond11 v0 v3 v6 v9 v12 v15 v18 v21 v24 v27 v30 v33 v36 v39 v42 v45 v48 v51 = 1#1), (Rect.unit (s := S8x2816x2816) (k0_off40 v320) S1x1024x2816.size (k0_off40_inb v0 v3 v6 v9 v12 v15 v18 v21 v24 v27 v30 v33 v36 v39 v42 v45 v48 v51 v320 k0_hw6 k0_h11)).WholeWords (EltTy.packing .i8) := fun v0 v3 v6 v9 v12 v15 v18 v21 v24 v27 v30 v33 v36 v39 v42 v45 v48 v51 v320 k0_hw6 k0_h11 => k0_hw6.2.1 k0_h11 (k0_off40_inb v0 v3 v6 v9 v12 v15 v18 v21 v24 v27 v30 v33 v36 v39 v42 v45 v48 v51 v320 k0_hw6 k0_h11)
theorem k0_off43_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v320 : BitVec 32) (k0_hw6 : k0_chk6 v0 v3 v6 v9 v12 v15 v18 v21 v24 v27 v30 v33 v36 v39 v42 v45 v48 v51 v320), ∀ (k0_h11 : k0_cond11 v0 v3 v6 v9 v12 v15 v18 v21 v24 v27 v30 v33 v36 v39 v42 v45 v48 v51 = 1#1), ∀ a, (k0_off43 v320) a + S1x1024x2816.size a ≤ S8x2816x2816.size a := fun v0 v3 v6 v9 v12 v15 v18 v21 v24 v27 v30 v33 v36 v39 v42 v45 v48 v51 v320 k0_hw6 k0_h11 => k0_hw6.2.2.1 k0_h11
theorem k0_off43_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v320 : BitVec 32) (k0_hw6 : k0_chk6 v0 v3 v6 v9 v12 v15 v18 v21 v24 v27 v30 v33 v36 v39 v42 v45 v48 v51 v320), ∀ (k0_h11 : k0_cond11 v0 v3 v6 v9 v12 v15 v18 v21 v24 v27 v30 v33 v36 v39 v42 v45 v48 v51 = 1#1), (Rect.unit (s := S8x2816x2816) (k0_off43 v320) S1x1024x2816.size (k0_off43_inb v0 v3 v6 v9 v12 v15 v18 v21 v24 v27 v30 v33 v36 v39 v42 v45 v48 v51 v320 k0_hw6 k0_h11)).WholeWords (EltTy.packing .i8) := fun v0 v3 v6 v9 v12 v15 v18 v21 v24 v27 v30 v33 v36 v39 v42 v45 v48 v51 v320 k0_hw6 k0_h11 => k0_hw6.2.2.2.1 k0_h11 (k0_off43_inb v0 v3 v6 v9 v12 v15 v18 v21 v24 v27 v30 v33 v36 v39 v42 v45 v48 v51 v320 k0_hw6 k0_h11)
theorem k0_off46_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v320 : BitVec 32) (k0_hw6 : k0_chk6 v0 v3 v6 v9 v12 v15 v18 v21 v24 v27 v30 v33 v36 v39 v42 v45 v48 v51 v320), ∀ (k0_h11 : k0_cond11 v0 v3 v6 v9 v12 v15 v18 v21 v24 v27 v30 v33 v36 v39 v42 v45 v48 v51 = 1#1), ∀ a, (k0_off46 v320) a + S1x768x2816.size a ≤ S8x2816x2816.size a := fun v0 v3 v6 v9 v12 v15 v18 v21 v24 v27 v30 v33 v36 v39 v42 v45 v48 v51 v320 k0_hw6 k0_h11 => k0_hw6.2.2.2.2.1 k0_h11
theorem k0_off46_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v320 : BitVec 32) (k0_hw6 : k0_chk6 v0 v3 v6 v9 v12 v15 v18 v21 v24 v27 v30 v33 v36 v39 v42 v45 v48 v51 v320), ∀ (k0_h11 : k0_cond11 v0 v3 v6 v9 v12 v15 v18 v21 v24 v27 v30 v33 v36 v39 v42 v45 v48 v51 = 1#1), (Rect.unit (s := S8x2816x2816) (k0_off46 v320) S1x768x2816.size (k0_off46_inb v0 v3 v6 v9 v12 v15 v18 v21 v24 v27 v30 v33 v36 v39 v42 v45 v48 v51 v320 k0_hw6 k0_h11)).WholeWords (EltTy.packing .i8) := fun v0 v3 v6 v9 v12 v15 v18 v21 v24 v27 v30 v33 v36 v39 v42 v45 v48 v51 v320 k0_hw6 k0_h11 => k0_hw6.2.2.2.2.2 k0_h11 (k0_off46_inb v0 v3 v6 v9 v12 v15 v18 v21 v24 v27 v30 v33 v36 v39 v42 v45 v48 v51 v320 k0_hw6 k0_h11)

def k0_off47 : Fin 2 → Nat :=
  let c2_i32_225 : BitVec 32 := 2#32
  let c4_i32_226 : BitVec 32 := 4#32
  let v341 : BitVec 32 := Scalar.remsi c2_i32_225 c4_i32_226
  let c0_i32_227 : BitVec 32 := 0#32
  ![v341.toNat, 0]
def k0_off48 : Fin 3 → Nat :=
  let c2_i32_225 : BitVec 32 := 2#32
  let c4_i32_226 : BitVec 32 := 4#32
  let v341 : BitVec 32 := Scalar.remsi c2_i32_225 c4_i32_226
  let c0_i32_228 : BitVec 32 := 0#32
  let c0_i32_229 : BitVec 32 := 0#32
  ![v341.toNat, 0, 0]
def k0_off49 (v340 : BitVec 32) : Fin 3 → Nat :=
  let c0_i32_230 : BitVec 32 := 0#32
  let c0_i32_231 : BitVec 32 := 0#32
  ![v340.toNat, 0, 0]

def k0_off50 : Fin 2 → Nat :=
  let c2_i32_225 : BitVec 32 := 2#32
  let c4_i32_226 : BitVec 32 := 4#32
  let v341 : BitVec 32 := Scalar.remsi c2_i32_225 c4_i32_226
  let c1_i32_232 : BitVec 32 := 1#32
  ![v341.toNat, 1]
def k0_off51 : Fin 3 → Nat :=
  let c2_i32_225 : BitVec 32 := 2#32
  let c4_i32_226 : BitVec 32 := 4#32
  let v341 : BitVec 32 := Scalar.remsi c2_i32_225 c4_i32_226
  let c1024_i32_233 : BitVec 32 := 1024#32
  let c0_i32_234 : BitVec 32 := 0#32
  ![v341.toNat, 1024, 0]
def k0_off52 (v340 : BitVec 32) : Fin 3 → Nat :=
  let c1024_i32_235 : BitVec 32 := 1024#32
  let c0_i32_236 : BitVec 32 := 0#32
  ![v340.toNat, 1024, 0]

def k0_chk7 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v340 : BitVec 32) : Prop :=
  (∀ (k0_h11 : k0_cond11 v0 v3 v6 v9 v12 v15 v18 v21 v24 v27 v30 v33 v36 v39 v42 v45 v48 v51 = 1#1), ∀ a, (k0_off49 v340) a + S1x1024x2816.size a ≤ S8x1408x2816.size a) ∧
  (∀ (k0_h11 : k0_cond11 v0 v3 v6 v9 v12 v15 v18 v21 v24 v27 v30 v33 v36 v39 v42 v45 v48 v51 = 1#1), ∀ (hinb : ∀ a, (k0_off49 v340) a + S1x1024x2816.size a ≤ S8x1408x2816.size a), (Rect.unit (s := S8x1408x2816) (k0_off49 v340) S1x1024x2816.size hinb).WholeWords (EltTy.packing .i8)) ∧
  (∀ (k0_h11 : k0_cond11 v0 v3 v6 v9 v12 v15 v18 v21 v24 v27 v30 v33 v36 v39 v42 v45 v48 v51 = 1#1), ∀ a, (k0_off52 v340) a + S1x384x2816.size a ≤ S8x1408x2816.size a) ∧
  (∀ (k0_h11 : k0_cond11 v0 v3 v6 v9 v12 v15 v18 v21 v24 v27 v30 v33 v36 v39 v42 v45 v48 v51 = 1#1), ∀ (hinb : ∀ a, (k0_off52 v340) a + S1x384x2816.size a ≤ S8x1408x2816.size a), (Rect.unit (s := S8x1408x2816) (k0_off52 v340) S1x384x2816.size hinb).WholeWords (EltTy.packing .i8))
theorem k0_off49_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v340 : BitVec 32) (k0_hw7 : k0_chk7 v0 v3 v6 v9 v12 v15 v18 v21 v24 v27 v30 v33 v36 v39 v42 v45 v48 v51 v340), ∀ (k0_h11 : k0_cond11 v0 v3 v6 v9 v12 v15 v18 v21 v24 v27 v30 v33 v36 v39 v42 v45 v48 v51 = 1#1), ∀ a, (k0_off49 v340) a + S1x1024x2816.size a ≤ S8x1408x2816.size a := fun v0 v3 v6 v9 v12 v15 v18 v21 v24 v27 v30 v33 v36 v39 v42 v45 v48 v51 v340 k0_hw7 k0_h11 => k0_hw7.1 k0_h11
theorem k0_off49_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v340 : BitVec 32) (k0_hw7 : k0_chk7 v0 v3 v6 v9 v12 v15 v18 v21 v24 v27 v30 v33 v36 v39 v42 v45 v48 v51 v340), ∀ (k0_h11 : k0_cond11 v0 v3 v6 v9 v12 v15 v18 v21 v24 v27 v30 v33 v36 v39 v42 v45 v48 v51 = 1#1), (Rect.unit (s := S8x1408x2816) (k0_off49 v340) S1x1024x2816.size (k0_off49_inb v0 v3 v6 v9 v12 v15 v18 v21 v24 v27 v30 v33 v36 v39 v42 v45 v48 v51 v340 k0_hw7 k0_h11)).WholeWords (EltTy.packing .i8) := fun v0 v3 v6 v9 v12 v15 v18 v21 v24 v27 v30 v33 v36 v39 v42 v45 v48 v51 v340 k0_hw7 k0_h11 => k0_hw7.2.1 k0_h11 (k0_off49_inb v0 v3 v6 v9 v12 v15 v18 v21 v24 v27 v30 v33 v36 v39 v42 v45 v48 v51 v340 k0_hw7 k0_h11)
theorem k0_off52_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v340 : BitVec 32) (k0_hw7 : k0_chk7 v0 v3 v6 v9 v12 v15 v18 v21 v24 v27 v30 v33 v36 v39 v42 v45 v48 v51 v340), ∀ (k0_h11 : k0_cond11 v0 v3 v6 v9 v12 v15 v18 v21 v24 v27 v30 v33 v36 v39 v42 v45 v48 v51 = 1#1), ∀ a, (k0_off52 v340) a + S1x384x2816.size a ≤ S8x1408x2816.size a := fun v0 v3 v6 v9 v12 v15 v18 v21 v24 v27 v30 v33 v36 v39 v42 v45 v48 v51 v340 k0_hw7 k0_h11 => k0_hw7.2.2.1 k0_h11
theorem k0_off52_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v340 : BitVec 32) (k0_hw7 : k0_chk7 v0 v3 v6 v9 v12 v15 v18 v21 v24 v27 v30 v33 v36 v39 v42 v45 v48 v51 v340), ∀ (k0_h11 : k0_cond11 v0 v3 v6 v9 v12 v15 v18 v21 v24 v27 v30 v33 v36 v39 v42 v45 v48 v51 = 1#1), (Rect.unit (s := S8x1408x2816) (k0_off52 v340) S1x384x2816.size (k0_off52_inb v0 v3 v6 v9 v12 v15 v18 v21 v24 v27 v30 v33 v36 v39 v42 v45 v48 v51 v340 k0_hw7 k0_h11)).WholeWords (EltTy.packing .i8) := fun v0 v3 v6 v9 v12 v15 v18 v21 v24 v27 v30 v33 v36 v39 v42 v45 v48 v51 v340 k0_hw7 k0_h11 => k0_hw7.2.2.2 k0_h11 (k0_off52_inb v0 v3 v6 v9 v12 v15 v18 v21 v24 v27 v30 v33 v36 v39 v42 v45 v48 v51 v340 k0_hw7 k0_h11)

def k0_off53 : Fin 2 → Nat :=
  let c3_i32_209 : BitVec 32 := 3#32
  let c4_i32_210 : BitVec 32 := 4#32
  let v321 : BitVec 32 := Scalar.remsi c3_i32_209 c4_i32_210
  let c0_i32_211 : BitVec 32 := 0#32
  ![v321.toNat, 0]
def k0_off54 : Fin 3 → Nat :=
  let c3_i32_209 : BitVec 32 := 3#32
  let c4_i32_210 : BitVec 32 := 4#32
  let v321 : BitVec 32 := Scalar.remsi c3_i32_209 c4_i32_210
  let c0_i32_212 : BitVec 32 := 0#32
  let c0_i32_213 : BitVec 32 := 0#32
  ![v321.toNat, 0, 0]
def k0_off55 (v320 : BitVec 32) : Fin 3 → Nat :=
  let c0_i32_214 : BitVec 32 := 0#32
  let c0_i32_215 : BitVec 32 := 0#32
  ![v320.toNat, 0, 0]
def k0_cond12 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) : BitVec 1 :=
  let c0_i32_49 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c0_i32_44 : BitVec 32 := 0#32
  let v54 : BitVec 32 := Scalar.shrui v53 c0_i32_44
  let c1_i32_45 : BitVec 32 := 1#32
  let v55 : BitVec 32 := Scalar.andi v54 c1_i32_45
  let v59 : BitVec 32 := Scalar.addi c0_i32_49 v55
  let c1_i32_50 : BitVec 32 := 1#32
  let v60 : BitVec 32 := Scalar.shrui v53 c1_i32_50
  let c1_i32_51 : BitVec 32 := 1#32
  let v61 : BitVec 32 := Scalar.andi v60 c1_i32_51
  let v65 : BitVec 32 := Scalar.addi v59 v61
  let c2_i32 : BitVec 32 := 2#32
  let v66 : BitVec 32 := Scalar.shrui v53 c2_i32
  let c1_i32_54 : BitVec 32 := 1#32
  let v67 : BitVec 32 := Scalar.andi v66 c1_i32_54
  let v71 : BitVec 32 := Scalar.addi v65 v67
  let c3_i32 : BitVec 32 := 3#32
  let v72 : BitVec 32 := Scalar.shrui v53 c3_i32
  let c1_i32_57 : BitVec 32 := 1#32
  let v73 : BitVec 32 := Scalar.andi v72 c1_i32_57
  let v77 : BitVec 32 := Scalar.addi v71 v73
  let c4_i32 : BitVec 32 := 4#32
  let v78 : BitVec 32 := Scalar.shrui v53 c4_i32
  let c1_i32_60 : BitVec 32 := 1#32
  let v79 : BitVec 32 := Scalar.andi v78 c1_i32_60
  let v83 : BitVec 32 := Scalar.addi v77 v79
  let c5_i32 : BitVec 32 := 5#32
  let v84 : BitVec 32 := Scalar.shrui v53 c5_i32
  let c1_i32_63 : BitVec 32 := 1#32
  let v85 : BitVec 32 := Scalar.andi v84 c1_i32_63
  let v89 : BitVec 32 := Scalar.addi v83 v85
  let c6_i32 : BitVec 32 := 6#32
  let v90 : BitVec 32 := Scalar.shrui v53 c6_i32
  let c1_i32_66 : BitVec 32 := 1#32
  let v91 : BitVec 32 := Scalar.andi v90 c1_i32_66
  let v95 : BitVec 32 := Scalar.addi v89 v91
  let c7_i32 : BitVec 32 := 7#32
  let v96 : BitVec 32 := Scalar.shrui v53 c7_i32
  let c1_i32_69 : BitVec 32 := 1#32
  let v97 : BitVec 32 := Scalar.andi v96 c1_i32_69
  let v101 : BitVec 32 := Scalar.addi v95 v97
  let c3_i32_78 : BitVec 32 := 3#32
  let v111 : BitVec 1 := Scalar.cmpi .sgt v101 c3_i32_78
  let v112 : BitVec 32 := Scalar.extui v111
  let c0_i32_79 : BitVec 32 := 0#32
  let v113 : BitVec 1 := Scalar.cmpi .ne v112 c0_i32_79
  v113

def k0_off56 : Fin 2 → Nat :=
  let c3_i32_209 : BitVec 32 := 3#32
  let c4_i32_210 : BitVec 32 := 4#32
  let v321 : BitVec 32 := Scalar.remsi c3_i32_209 c4_i32_210
  let c1_i32_216 : BitVec 32 := 1#32
  ![v321.toNat, 1]
def k0_off57 : Fin 3 → Nat :=
  let c3_i32_209 : BitVec 32 := 3#32
  let c4_i32_210 : BitVec 32 := 4#32
  let v321 : BitVec 32 := Scalar.remsi c3_i32_209 c4_i32_210
  let c1024_i32 : BitVec 32 := 1024#32
  let c0_i32_217 : BitVec 32 := 0#32
  ![v321.toNat, 1024, 0]
def k0_off58 (v320 : BitVec 32) : Fin 3 → Nat :=
  let c1024_i32_218 : BitVec 32 := 1024#32
  let c0_i32_219 : BitVec 32 := 0#32
  ![v320.toNat, 1024, 0]
def k0_off59 : Fin 2 → Nat :=
  let c3_i32_209 : BitVec 32 := 3#32
  let c4_i32_210 : BitVec 32 := 4#32
  let v321 : BitVec 32 := Scalar.remsi c3_i32_209 c4_i32_210
  let c2_i32_220 : BitVec 32 := 2#32
  ![v321.toNat, 2]
def k0_off60 : Fin 3 → Nat :=
  let c3_i32_209 : BitVec 32 := 3#32
  let c4_i32_210 : BitVec 32 := 4#32
  let v321 : BitVec 32 := Scalar.remsi c3_i32_209 c4_i32_210
  let c2048_i32 : BitVec 32 := 2048#32
  let c0_i32_221 : BitVec 32 := 0#32
  ![v321.toNat, 2048, 0]
def k0_off61 (v320 : BitVec 32) : Fin 3 → Nat :=
  let c2048_i32_222 : BitVec 32 := 2048#32
  let c0_i32_223 : BitVec 32 := 0#32
  ![v320.toNat, 2048, 0]

def k0_chk8 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v320 : BitVec 32) : Prop :=
  (∀ (k0_h12 : k0_cond12 v0 v3 v6 v9 v12 v15 v18 v21 v24 v27 v30 v33 v36 v39 v42 v45 v48 v51 = 1#1), ∀ a, (k0_off55 v320) a + S1x1024x2816.size a ≤ S8x2816x2816.size a) ∧
  (∀ (k0_h12 : k0_cond12 v0 v3 v6 v9 v12 v15 v18 v21 v24 v27 v30 v33 v36 v39 v42 v45 v48 v51 = 1#1), ∀ (hinb : ∀ a, (k0_off55 v320) a + S1x1024x2816.size a ≤ S8x2816x2816.size a), (Rect.unit (s := S8x2816x2816) (k0_off55 v320) S1x1024x2816.size hinb).WholeWords (EltTy.packing .i8)) ∧
  (∀ (k0_h12 : k0_cond12 v0 v3 v6 v9 v12 v15 v18 v21 v24 v27 v30 v33 v36 v39 v42 v45 v48 v51 = 1#1), ∀ a, (k0_off58 v320) a + S1x1024x2816.size a ≤ S8x2816x2816.size a) ∧
  (∀ (k0_h12 : k0_cond12 v0 v3 v6 v9 v12 v15 v18 v21 v24 v27 v30 v33 v36 v39 v42 v45 v48 v51 = 1#1), ∀ (hinb : ∀ a, (k0_off58 v320) a + S1x1024x2816.size a ≤ S8x2816x2816.size a), (Rect.unit (s := S8x2816x2816) (k0_off58 v320) S1x1024x2816.size hinb).WholeWords (EltTy.packing .i8)) ∧
  (∀ (k0_h12 : k0_cond12 v0 v3 v6 v9 v12 v15 v18 v21 v24 v27 v30 v33 v36 v39 v42 v45 v48 v51 = 1#1), ∀ a, (k0_off61 v320) a + S1x768x2816.size a ≤ S8x2816x2816.size a) ∧
  (∀ (k0_h12 : k0_cond12 v0 v3 v6 v9 v12 v15 v18 v21 v24 v27 v30 v33 v36 v39 v42 v45 v48 v51 = 1#1), ∀ (hinb : ∀ a, (k0_off61 v320) a + S1x768x2816.size a ≤ S8x2816x2816.size a), (Rect.unit (s := S8x2816x2816) (k0_off61 v320) S1x768x2816.size hinb).WholeWords (EltTy.packing .i8))
theorem k0_off55_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v320 : BitVec 32) (k0_hw8 : k0_chk8 v0 v3 v6 v9 v12 v15 v18 v21 v24 v27 v30 v33 v36 v39 v42 v45 v48 v51 v320), ∀ (k0_h12 : k0_cond12 v0 v3 v6 v9 v12 v15 v18 v21 v24 v27 v30 v33 v36 v39 v42 v45 v48 v51 = 1#1), ∀ a, (k0_off55 v320) a + S1x1024x2816.size a ≤ S8x2816x2816.size a := fun v0 v3 v6 v9 v12 v15 v18 v21 v24 v27 v30 v33 v36 v39 v42 v45 v48 v51 v320 k0_hw8 k0_h12 => k0_hw8.1 k0_h12
theorem k0_off55_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v320 : BitVec 32) (k0_hw8 : k0_chk8 v0 v3 v6 v9 v12 v15 v18 v21 v24 v27 v30 v33 v36 v39 v42 v45 v48 v51 v320), ∀ (k0_h12 : k0_cond12 v0 v3 v6 v9 v12 v15 v18 v21 v24 v27 v30 v33 v36 v39 v42 v45 v48 v51 = 1#1), (Rect.unit (s := S8x2816x2816) (k0_off55 v320) S1x1024x2816.size (k0_off55_inb v0 v3 v6 v9 v12 v15 v18 v21 v24 v27 v30 v33 v36 v39 v42 v45 v48 v51 v320 k0_hw8 k0_h12)).WholeWords (EltTy.packing .i8) := fun v0 v3 v6 v9 v12 v15 v18 v21 v24 v27 v30 v33 v36 v39 v42 v45 v48 v51 v320 k0_hw8 k0_h12 => k0_hw8.2.1 k0_h12 (k0_off55_inb v0 v3 v6 v9 v12 v15 v18 v21 v24 v27 v30 v33 v36 v39 v42 v45 v48 v51 v320 k0_hw8 k0_h12)
theorem k0_off58_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v320 : BitVec 32) (k0_hw8 : k0_chk8 v0 v3 v6 v9 v12 v15 v18 v21 v24 v27 v30 v33 v36 v39 v42 v45 v48 v51 v320), ∀ (k0_h12 : k0_cond12 v0 v3 v6 v9 v12 v15 v18 v21 v24 v27 v30 v33 v36 v39 v42 v45 v48 v51 = 1#1), ∀ a, (k0_off58 v320) a + S1x1024x2816.size a ≤ S8x2816x2816.size a := fun v0 v3 v6 v9 v12 v15 v18 v21 v24 v27 v30 v33 v36 v39 v42 v45 v48 v51 v320 k0_hw8 k0_h12 => k0_hw8.2.2.1 k0_h12
theorem k0_off58_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v320 : BitVec 32) (k0_hw8 : k0_chk8 v0 v3 v6 v9 v12 v15 v18 v21 v24 v27 v30 v33 v36 v39 v42 v45 v48 v51 v320), ∀ (k0_h12 : k0_cond12 v0 v3 v6 v9 v12 v15 v18 v21 v24 v27 v30 v33 v36 v39 v42 v45 v48 v51 = 1#1), (Rect.unit (s := S8x2816x2816) (k0_off58 v320) S1x1024x2816.size (k0_off58_inb v0 v3 v6 v9 v12 v15 v18 v21 v24 v27 v30 v33 v36 v39 v42 v45 v48 v51 v320 k0_hw8 k0_h12)).WholeWords (EltTy.packing .i8) := fun v0 v3 v6 v9 v12 v15 v18 v21 v24 v27 v30 v33 v36 v39 v42 v45 v48 v51 v320 k0_hw8 k0_h12 => k0_hw8.2.2.2.1 k0_h12 (k0_off58_inb v0 v3 v6 v9 v12 v15 v18 v21 v24 v27 v30 v33 v36 v39 v42 v45 v48 v51 v320 k0_hw8 k0_h12)
theorem k0_off61_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v320 : BitVec 32) (k0_hw8 : k0_chk8 v0 v3 v6 v9 v12 v15 v18 v21 v24 v27 v30 v33 v36 v39 v42 v45 v48 v51 v320), ∀ (k0_h12 : k0_cond12 v0 v3 v6 v9 v12 v15 v18 v21 v24 v27 v30 v33 v36 v39 v42 v45 v48 v51 = 1#1), ∀ a, (k0_off61 v320) a + S1x768x2816.size a ≤ S8x2816x2816.size a := fun v0 v3 v6 v9 v12 v15 v18 v21 v24 v27 v30 v33 v36 v39 v42 v45 v48 v51 v320 k0_hw8 k0_h12 => k0_hw8.2.2.2.2.1 k0_h12
theorem k0_off61_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v320 : BitVec 32) (k0_hw8 : k0_chk8 v0 v3 v6 v9 v12 v15 v18 v21 v24 v27 v30 v33 v36 v39 v42 v45 v48 v51 v320), ∀ (k0_h12 : k0_cond12 v0 v3 v6 v9 v12 v15 v18 v21 v24 v27 v30 v33 v36 v39 v42 v45 v48 v51 = 1#1), (Rect.unit (s := S8x2816x2816) (k0_off61 v320) S1x768x2816.size (k0_off61_inb v0 v3 v6 v9 v12 v15 v18 v21 v24 v27 v30 v33 v36 v39 v42 v45 v48 v51 v320 k0_hw8 k0_h12)).WholeWords (EltTy.packing .i8) := fun v0 v3 v6 v9 v12 v15 v18 v21 v24 v27 v30 v33 v36 v39 v42 v45 v48 v51 v320 k0_hw8 k0_h12 => k0_hw8.2.2.2.2.2 k0_h12 (k0_off61_inb v0 v3 v6 v9 v12 v15 v18 v21 v24 v27 v30 v33 v36 v39 v42 v45 v48 v51 v320 k0_hw8 k0_h12)

def k0_off62 : Fin 2 → Nat :=
  let c3_i32_225 : BitVec 32 := 3#32
  let c4_i32_226 : BitVec 32 := 4#32
  let v341 : BitVec 32 := Scalar.remsi c3_i32_225 c4_i32_226
  let c0_i32_227 : BitVec 32 := 0#32
  ![v341.toNat, 0]
def k0_off63 : Fin 3 → Nat :=
  let c3_i32_225 : BitVec 32 := 3#32
  let c4_i32_226 : BitVec 32 := 4#32
  let v341 : BitVec 32 := Scalar.remsi c3_i32_225 c4_i32_226
  let c0_i32_228 : BitVec 32 := 0#32
  let c0_i32_229 : BitVec 32 := 0#32
  ![v341.toNat, 0, 0]
def k0_off64 (v340 : BitVec 32) : Fin 3 → Nat :=
  let c0_i32_230 : BitVec 32 := 0#32
  let c0_i32_231 : BitVec 32 := 0#32
  ![v340.toNat, 0, 0]

def k0_off65 : Fin 2 → Nat :=
  let c3_i32_225 : BitVec 32 := 3#32
  let c4_i32_226 : BitVec 32 := 4#32
  let v341 : BitVec 32 := Scalar.remsi c3_i32_225 c4_i32_226
  let c1_i32_232 : BitVec 32 := 1#32
  ![v341.toNat, 1]
def k0_off66 : Fin 3 → Nat :=
  let c3_i32_225 : BitVec 32 := 3#32
  let c4_i32_226 : BitVec 32 := 4#32
  let v341 : BitVec 32 := Scalar.remsi c3_i32_225 c4_i32_226
  let c1024_i32_233 : BitVec 32 := 1024#32
  let c0_i32_234 : BitVec 32 := 0#32
  ![v341.toNat, 1024, 0]
def k0_off67 (v340 : BitVec 32) : Fin 3 → Nat :=
  let c1024_i32_235 : BitVec 32 := 1024#32
  let c0_i32_236 : BitVec 32 := 0#32
  ![v340.toNat, 1024, 0]

def k0_chk9 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v340 : BitVec 32) : Prop :=
  (∀ (k0_h12 : k0_cond12 v0 v3 v6 v9 v12 v15 v18 v21 v24 v27 v30 v33 v36 v39 v42 v45 v48 v51 = 1#1), ∀ a, (k0_off64 v340) a + S1x1024x2816.size a ≤ S8x1408x2816.size a) ∧
  (∀ (k0_h12 : k0_cond12 v0 v3 v6 v9 v12 v15 v18 v21 v24 v27 v30 v33 v36 v39 v42 v45 v48 v51 = 1#1), ∀ (hinb : ∀ a, (k0_off64 v340) a + S1x1024x2816.size a ≤ S8x1408x2816.size a), (Rect.unit (s := S8x1408x2816) (k0_off64 v340) S1x1024x2816.size hinb).WholeWords (EltTy.packing .i8)) ∧
  (∀ (k0_h12 : k0_cond12 v0 v3 v6 v9 v12 v15 v18 v21 v24 v27 v30 v33 v36 v39 v42 v45 v48 v51 = 1#1), ∀ a, (k0_off67 v340) a + S1x384x2816.size a ≤ S8x1408x2816.size a) ∧
  (∀ (k0_h12 : k0_cond12 v0 v3 v6 v9 v12 v15 v18 v21 v24 v27 v30 v33 v36 v39 v42 v45 v48 v51 = 1#1), ∀ (hinb : ∀ a, (k0_off67 v340) a + S1x384x2816.size a ≤ S8x1408x2816.size a), (Rect.unit (s := S8x1408x2816) (k0_off67 v340) S1x384x2816.size hinb).WholeWords (EltTy.packing .i8))
theorem k0_off64_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v340 : BitVec 32) (k0_hw9 : k0_chk9 v0 v3 v6 v9 v12 v15 v18 v21 v24 v27 v30 v33 v36 v39 v42 v45 v48 v51 v340), ∀ (k0_h12 : k0_cond12 v0 v3 v6 v9 v12 v15 v18 v21 v24 v27 v30 v33 v36 v39 v42 v45 v48 v51 = 1#1), ∀ a, (k0_off64 v340) a + S1x1024x2816.size a ≤ S8x1408x2816.size a := fun v0 v3 v6 v9 v12 v15 v18 v21 v24 v27 v30 v33 v36 v39 v42 v45 v48 v51 v340 k0_hw9 k0_h12 => k0_hw9.1 k0_h12
theorem k0_off64_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v340 : BitVec 32) (k0_hw9 : k0_chk9 v0 v3 v6 v9 v12 v15 v18 v21 v24 v27 v30 v33 v36 v39 v42 v45 v48 v51 v340), ∀ (k0_h12 : k0_cond12 v0 v3 v6 v9 v12 v15 v18 v21 v24 v27 v30 v33 v36 v39 v42 v45 v48 v51 = 1#1), (Rect.unit (s := S8x1408x2816) (k0_off64 v340) S1x1024x2816.size (k0_off64_inb v0 v3 v6 v9 v12 v15 v18 v21 v24 v27 v30 v33 v36 v39 v42 v45 v48 v51 v340 k0_hw9 k0_h12)).WholeWords (EltTy.packing .i8) := fun v0 v3 v6 v9 v12 v15 v18 v21 v24 v27 v30 v33 v36 v39 v42 v45 v48 v51 v340 k0_hw9 k0_h12 => k0_hw9.2.1 k0_h12 (k0_off64_inb v0 v3 v6 v9 v12 v15 v18 v21 v24 v27 v30 v33 v36 v39 v42 v45 v48 v51 v340 k0_hw9 k0_h12)
theorem k0_off67_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v340 : BitVec 32) (k0_hw9 : k0_chk9 v0 v3 v6 v9 v12 v15 v18 v21 v24 v27 v30 v33 v36 v39 v42 v45 v48 v51 v340), ∀ (k0_h12 : k0_cond12 v0 v3 v6 v9 v12 v15 v18 v21 v24 v27 v30 v33 v36 v39 v42 v45 v48 v51 = 1#1), ∀ a, (k0_off67 v340) a + S1x384x2816.size a ≤ S8x1408x2816.size a := fun v0 v3 v6 v9 v12 v15 v18 v21 v24 v27 v30 v33 v36 v39 v42 v45 v48 v51 v340 k0_hw9 k0_h12 => k0_hw9.2.2.1 k0_h12
theorem k0_off67_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v340 : BitVec 32) (k0_hw9 : k0_chk9 v0 v3 v6 v9 v12 v15 v18 v21 v24 v27 v30 v33 v36 v39 v42 v45 v48 v51 v340), ∀ (k0_h12 : k0_cond12 v0 v3 v6 v9 v12 v15 v18 v21 v24 v27 v30 v33 v36 v39 v42 v45 v48 v51 = 1#1), (Rect.unit (s := S8x1408x2816) (k0_off67 v340) S1x384x2816.size (k0_off67_inb v0 v3 v6 v9 v12 v15 v18 v21 v24 v27 v30 v33 v36 v39 v42 v45 v48 v51 v340 k0_hw9 k0_h12)).WholeWords (EltTy.packing .i8) := fun v0 v3 v6 v9 v12 v15 v18 v21 v24 v27 v30 v33 v36 v39 v42 v45 v48 v51 v340 k0_hw9 k0_h12 => k0_hw9.2.2.2 k0_h12 (k0_off67_inb v0 v3 v6 v9 v12 v15 v18 v21 v24 v27 v30 v33 v36 v39 v42 v45 v48 v51 v340 k0_hw9 k0_h12)

@[reducible] def k0_t1_loop (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) : Scf.Loop 32 :=
  let c0_i32_200 : BitVec 32 := 0#32
  let c0_i32_49 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c0_i32_44 : BitVec 32 := 0#32
  let v54 : BitVec 32 := Scalar.shrui v53 c0_i32_44
  let c1_i32_45 : BitVec 32 := 1#32
  let v55 : BitVec 32 := Scalar.andi v54 c1_i32_45
  let v59 : BitVec 32 := Scalar.addi c0_i32_49 v55
  let c1_i32_50 : BitVec 32 := 1#32
  let v60 : BitVec 32 := Scalar.shrui v53 c1_i32_50
  let c1_i32_51 : BitVec 32 := 1#32
  let v61 : BitVec 32 := Scalar.andi v60 c1_i32_51
  let v65 : BitVec 32 := Scalar.addi v59 v61
  let c2_i32 : BitVec 32 := 2#32
  let v66 : BitVec 32 := Scalar.shrui v53 c2_i32
  let c1_i32_54 : BitVec 32 := 1#32
  let v67 : BitVec 32 := Scalar.andi v66 c1_i32_54
  let v71 : BitVec 32 := Scalar.addi v65 v67
  let c3_i32 : BitVec 32 := 3#32
  let v72 : BitVec 32 := Scalar.shrui v53 c3_i32
  let c1_i32_57 : BitVec 32 := 1#32
  let v73 : BitVec 32 := Scalar.andi v72 c1_i32_57
  let v77 : BitVec 32 := Scalar.addi v71 v73
  let c4_i32 : BitVec 32 := 4#32
  let v78 : BitVec 32 := Scalar.shrui v53 c4_i32
  let c1_i32_60 : BitVec 32 := 1#32
  let v79 : BitVec 32 := Scalar.andi v78 c1_i32_60
  let v83 : BitVec 32 := Scalar.addi v77 v79
  let c5_i32 : BitVec 32 := 5#32
  let v84 : BitVec 32 := Scalar.shrui v53 c5_i32
  let c1_i32_63 : BitVec 32 := 1#32
  let v85 : BitVec 32 := Scalar.andi v84 c1_i32_63
  let v89 : BitVec 32 := Scalar.addi v83 v85
  let c6_i32 : BitVec 32 := 6#32
  let v90 : BitVec 32 := Scalar.shrui v53 c6_i32
  let c1_i32_66 : BitVec 32 := 1#32
  let v91 : BitVec 32 := Scalar.andi v90 c1_i32_66
  let v95 : BitVec 32 := Scalar.addi v89 v91
  let c7_i32 : BitVec 32 := 7#32
  let v96 : BitVec 32 := Scalar.shrui v53 c7_i32
  let c1_i32_69 : BitVec 32 := 1#32
  let v97 : BitVec 32 := Scalar.andi v96 c1_i32_69
  let v101 : BitVec 32 := Scalar.addi v95 v97
  let v312 : BitVec 32 := Scalar.subi v101 c0_i32_200
  let c1_i32_201 : BitVec 32 := 1#32
  let v314 : BitVec 32 := Scalar.divsi v312 c1_i32_201
  let v315 : BitVec 32 := Scalar.muli v314 c1_i32_201
  let v316 : BitVec 32 := Scalar.addi c0_i32_200 v315
  let c1_i32_202 : BitVec 32 := 1#32
  ⟨c0_i32_200, v316, c1_i32_202⟩
def k0_off68 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t1 : Fin (k0_t1_loop v0 v3 v6 v9 v12 v15 v18 v21 v24 v27 v30 v33 v36 v39 v42 v45 v48 v51).trips) : Fin 1 → Nat :=
  let c0_i32_200 : BitVec 32 := 0#32
  let c1_i32_202 : BitVec 32 := 1#32
  let arg15 : BitVec 32 := Scf.iv c0_i32_200 c1_i32_202 k0_t1
  let v320 : Index := Scalar.indexCast arg15
  ![v320.toNat]
def k0_off69 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t1 : Fin (k0_t1_loop v0 v3 v6 v9 v12 v15 v18 v21 v24 v27 v30 v33 v36 v39 v42 v45 v48 v51).trips) : Fin 2 → Nat :=
  let c0_i32_200 : BitVec 32 := 0#32
  let c1_i32_202 : BitVec 32 := 1#32
  let arg15 : BitVec 32 := Scf.iv c0_i32_200 c1_i32_202 k0_t1
  let c4_i32_209 : BitVec 32 := 4#32
  let v325 : BitVec 32 := Scalar.remsi arg15 c4_i32_209
  let c0_i32_210 : BitVec 32 := 0#32
  ![v325.toNat, 0]
def k0_off70 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t1 : Fin (k0_t1_loop v0 v3 v6 v9 v12 v15 v18 v21 v24 v27 v30 v33 v36 v39 v42 v45 v48 v51).trips) : Fin 3 → Nat :=
  let c0_i32_200 : BitVec 32 := 0#32
  let c1_i32_202 : BitVec 32 := 1#32
  let arg15 : BitVec 32 := Scf.iv c0_i32_200 c1_i32_202 k0_t1
  let c4_i32_209 : BitVec 32 := 4#32
  let v325 : BitVec 32 := Scalar.remsi arg15 c4_i32_209
  let c0_i32_211 : BitVec 32 := 0#32
  let c0_i32_212 : BitVec 32 := 0#32
  ![v325.toNat, 0, 0]
def k0_off71 (v324 : BitVec 32) : Fin 3 → Nat :=
  let c0_i32_213 : BitVec 32 := 0#32
  let c0_i32_214 : BitVec 32 := 0#32
  ![v324.toNat, 0, 0]

def k0_off72 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t1 : Fin (k0_t1_loop v0 v3 v6 v9 v12 v15 v18 v21 v24 v27 v30 v33 v36 v39 v42 v45 v48 v51).trips) : Fin 3 → Nat :=
  let c0_i32_200 : BitVec 32 := 0#32
  let c1_i32_202 : BitVec 32 := 1#32
  let arg15 : BitVec 32 := Scf.iv c0_i32_200 c1_i32_202 k0_t1
  let c4_i32_208 : BitVec 32 := 4#32
  let v322 : BitVec 32 := Scalar.remsi arg15 c4_i32_208
  let v333 : Index := Scalar.indexCast v322
  let c0_217 : Index := 0#32
  let c0_218 : Index := 0#32
  ![v333.toNat, 0, 0]
def k0_off73 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t1 : Fin (k0_t1_loop v0 v3 v6 v9 v12 v15 v18 v21 v24 v27 v30 v33 v36 v39 v42 v45 v48 v51).trips) : Fin 2 → Nat :=
  let c0_i32_200 : BitVec 32 := 0#32
  let c1_i32_202 : BitVec 32 := 1#32
  let arg15 : BitVec 32 := Scf.iv c0_i32_200 c1_i32_202 k0_t1
  let c4_i32_209 : BitVec 32 := 4#32
  let v325 : BitVec 32 := Scalar.remsi arg15 c4_i32_209
  let c1_i32_220 : BitVec 32 := 1#32
  ![v325.toNat, 1]
def k0_off74 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t1 : Fin (k0_t1_loop v0 v3 v6 v9 v12 v15 v18 v21 v24 v27 v30 v33 v36 v39 v42 v45 v48 v51).trips) : Fin 3 → Nat :=
  let c0_i32_200 : BitVec 32 := 0#32
  let c1_i32_202 : BitVec 32 := 1#32
  let arg15 : BitVec 32 := Scf.iv c0_i32_200 c1_i32_202 k0_t1
  let c4_i32_209 : BitVec 32 := 4#32
  let v325 : BitVec 32 := Scalar.remsi arg15 c4_i32_209
  let c1024_i32 : BitVec 32 := 1024#32
  let c0_i32_221 : BitVec 32 := 0#32
  ![v325.toNat, 1024, 0]
def k0_off75 (v324 : BitVec 32) : Fin 3 → Nat :=
  let c1024_i32_222 : BitVec 32 := 1024#32
  let c0_i32_223 : BitVec 32 := 0#32
  ![v324.toNat, 1024, 0]
def k0_off76 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t1 : Fin (k0_t1_loop v0 v3 v6 v9 v12 v15 v18 v21 v24 v27 v30 v33 v36 v39 v42 v45 v48 v51).trips) : Fin 3 → Nat :=
  let c0_i32_200 : BitVec 32 := 0#32
  let c1_i32_202 : BitVec 32 := 1#32
  let arg15 : BitVec 32 := Scf.iv c0_i32_200 c1_i32_202 k0_t1
  let c4_i32_208 : BitVec 32 := 4#32
  let v322 : BitVec 32 := Scalar.remsi arg15 c4_i32_208
  let v345 : Index := Scalar.indexCast v322
  let c1024_225 : Index := 1024#32
  let c0_226 : Index := 0#32
  ![v345.toNat, 1024, 0]
def k0_off77 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t1 : Fin (k0_t1_loop v0 v3 v6 v9 v12 v15 v18 v21 v24 v27 v30 v33 v36 v39 v42 v45 v48 v51).trips) : Fin 2 → Nat :=
  let c0_i32_200 : BitVec 32 := 0#32
  let c1_i32_202 : BitVec 32 := 1#32
  let arg15 : BitVec 32 := Scf.iv c0_i32_200 c1_i32_202 k0_t1
  let c4_i32_209 : BitVec 32 := 4#32
  let v325 : BitVec 32 := Scalar.remsi arg15 c4_i32_209
  let c2_i32_228 : BitVec 32 := 2#32
  ![v325.toNat, 2]
def k0_off78 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t1 : Fin (k0_t1_loop v0 v3 v6 v9 v12 v15 v18 v21 v24 v27 v30 v33 v36 v39 v42 v45 v48 v51).trips) : Fin 3 → Nat :=
  let c0_i32_200 : BitVec 32 := 0#32
  let c1_i32_202 : BitVec 32 := 1#32
  let arg15 : BitVec 32 := Scf.iv c0_i32_200 c1_i32_202 k0_t1
  let c4_i32_209 : BitVec 32 := 4#32
  let v325 : BitVec 32 := Scalar.remsi arg15 c4_i32_209
  let c2048_i32 : BitVec 32 := 2048#32
  let c0_i32_229 : BitVec 32 := 0#32
  ![v325.toNat, 2048, 0]
def k0_off79 (v324 : BitVec 32) : Fin 3 → Nat :=
  let c2048_i32_230 : BitVec 32 := 2048#32
  let c0_i32_231 : BitVec 32 := 0#32
  ![v324.toNat, 2048, 0]

def k0_chk10 (v324 : BitVec 32) : Prop :=
  (∀ a, (k0_off71 v324) a + S1x1024x2816.size a ≤ S8x2816x2816.size a) ∧
  (∀ (hinb : ∀ a, (k0_off71 v324) a + S1x1024x2816.size a ≤ S8x2816x2816.size a), (Rect.unit (s := S8x2816x2816) (k0_off71 v324) S1x1024x2816.size hinb).WholeWords (EltTy.packing .i8)) ∧
  (∀ a, (k0_off75 v324) a + S1x1024x2816.size a ≤ S8x2816x2816.size a) ∧
  (∀ (hinb : ∀ a, (k0_off75 v324) a + S1x1024x2816.size a ≤ S8x2816x2816.size a), (Rect.unit (s := S8x2816x2816) (k0_off75 v324) S1x1024x2816.size hinb).WholeWords (EltTy.packing .i8)) ∧
  (∀ a, (k0_off79 v324) a + S1x768x2816.size a ≤ S8x2816x2816.size a) ∧
  (∀ (hinb : ∀ a, (k0_off79 v324) a + S1x768x2816.size a ≤ S8x2816x2816.size a), (Rect.unit (s := S8x2816x2816) (k0_off79 v324) S1x768x2816.size hinb).WholeWords (EltTy.packing .i8))
theorem k0_off71_inb : ∀ (v324 : BitVec 32) (k0_hw10 : k0_chk10 v324), ∀ a, (k0_off71 v324) a + S1x1024x2816.size a ≤ S8x2816x2816.size a := fun v324 k0_hw10 => k0_hw10.1
theorem k0_off71_wordsi8 : ∀ (v324 : BitVec 32) (k0_hw10 : k0_chk10 v324), (Rect.unit (s := S8x2816x2816) (k0_off71 v324) S1x1024x2816.size (k0_off71_inb v324 k0_hw10)).WholeWords (EltTy.packing .i8) := fun v324 k0_hw10 => k0_hw10.2.1 (k0_off71_inb v324 k0_hw10)
theorem k0_off75_inb : ∀ (v324 : BitVec 32) (k0_hw10 : k0_chk10 v324), ∀ a, (k0_off75 v324) a + S1x1024x2816.size a ≤ S8x2816x2816.size a := fun v324 k0_hw10 => k0_hw10.2.2.1
theorem k0_off75_wordsi8 : ∀ (v324 : BitVec 32) (k0_hw10 : k0_chk10 v324), (Rect.unit (s := S8x2816x2816) (k0_off75 v324) S1x1024x2816.size (k0_off75_inb v324 k0_hw10)).WholeWords (EltTy.packing .i8) := fun v324 k0_hw10 => k0_hw10.2.2.2.1 (k0_off75_inb v324 k0_hw10)
theorem k0_off79_inb : ∀ (v324 : BitVec 32) (k0_hw10 : k0_chk10 v324), ∀ a, (k0_off79 v324) a + S1x768x2816.size a ≤ S8x2816x2816.size a := fun v324 k0_hw10 => k0_hw10.2.2.2.2.1
theorem k0_off79_wordsi8 : ∀ (v324 : BitVec 32) (k0_hw10 : k0_chk10 v324), (Rect.unit (s := S8x2816x2816) (k0_off79 v324) S1x768x2816.size (k0_off79_inb v324 k0_hw10)).WholeWords (EltTy.packing .i8) := fun v324 k0_hw10 => k0_hw10.2.2.2.2.2 (k0_off79_inb v324 k0_hw10)

def k0_off80 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t1 : Fin (k0_t1_loop v0 v3 v6 v9 v12 v15 v18 v21 v24 v27 v30 v33 v36 v39 v42 v45 v48 v51).trips) : Fin 3 → Nat :=
  let c0_i32_200 : BitVec 32 := 0#32
  let c1_i32_202 : BitVec 32 := 1#32
  let arg15 : BitVec 32 := Scf.iv c0_i32_200 c1_i32_202 k0_t1
  let c4_i32_208 : BitVec 32 := 4#32
  let v322 : BitVec 32 := Scalar.remsi arg15 c4_i32_208
  let v358 : Index := Scalar.indexCast v322
  let c2048_233 : Index := 2048#32
  let c0_234 : Index := 0#32
  ![v358.toNat, 2048, 0]
def k0_off81 (v321 : BitVec 32) : Fin 2 → Nat :=
  let v364 : Index := Scalar.indexCast v321
  let c0_236 : Index := 0#32
  ![v364.toNat, 0]

def k0_off82 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t1 : Fin (k0_t1_loop v0 v3 v6 v9 v12 v15 v18 v21 v24 v27 v30 v33 v36 v39 v42 v45 v48 v51).trips) : Fin 1 → Nat :=
  let c0_i32_200 : BitVec 32 := 0#32
  let c1_i32_202 : BitVec 32 := 1#32
  let arg15 : BitVec 32 := Scf.iv c0_i32_200 c1_i32_202 k0_t1
  let v374 : Index := Scalar.indexCast arg15
  ![v374.toNat]
def k0_off83 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t1 : Fin (k0_t1_loop v0 v3 v6 v9 v12 v15 v18 v21 v24 v27 v30 v33 v36 v39 v42 v45 v48 v51).trips) : Fin 2 → Nat :=
  let c0_i32_200 : BitVec 32 := 0#32
  let c1_i32_202 : BitVec 32 := 1#32
  let arg15 : BitVec 32 := Scf.iv c0_i32_200 c1_i32_202 k0_t1
  let c4_i32_237 : BitVec 32 := 4#32
  let v376 : BitVec 32 := Scalar.remsi arg15 c4_i32_237
  let c0_i32_238 : BitVec 32 := 0#32
  ![v376.toNat, 0]
def k0_off84 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t1 : Fin (k0_t1_loop v0 v3 v6 v9 v12 v15 v18 v21 v24 v27 v30 v33 v36 v39 v42 v45 v48 v51).trips) : Fin 3 → Nat :=
  let c0_i32_200 : BitVec 32 := 0#32
  let c1_i32_202 : BitVec 32 := 1#32
  let arg15 : BitVec 32 := Scf.iv c0_i32_200 c1_i32_202 k0_t1
  let c4_i32_237 : BitVec 32 := 4#32
  let v376 : BitVec 32 := Scalar.remsi arg15 c4_i32_237
  let c0_i32_239 : BitVec 32 := 0#32
  let c0_i32_240 : BitVec 32 := 0#32
  ![v376.toNat, 0, 0]
def k0_off85 (v375 : BitVec 32) : Fin 3 → Nat :=
  let c0_i32_241 : BitVec 32 := 0#32
  let c0_i32_242 : BitVec 32 := 0#32
  ![v375.toNat, 0, 0]

def k0_off86 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t1 : Fin (k0_t1_loop v0 v3 v6 v9 v12 v15 v18 v21 v24 v27 v30 v33 v36 v39 v42 v45 v48 v51).trips) : Fin 3 → Nat :=
  let c0_i32_200 : BitVec 32 := 0#32
  let c1_i32_202 : BitVec 32 := 1#32
  let arg15 : BitVec 32 := Scf.iv c0_i32_200 c1_i32_202 k0_t1
  let c4_i32_208 : BitVec 32 := 4#32
  let v322 : BitVec 32 := Scalar.remsi arg15 c4_i32_208
  let v384 : Index := Scalar.indexCast v322
  let c0_243 : Index := 0#32
  let c0_244 : Index := 0#32
  ![v384.toNat, 0, 0]
def k0_off87 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t1 : Fin (k0_t1_loop v0 v3 v6 v9 v12 v15 v18 v21 v24 v27 v30 v33 v36 v39 v42 v45 v48 v51).trips) : Fin 2 → Nat :=
  let c0_i32_200 : BitVec 32 := 0#32
  let c1_i32_202 : BitVec 32 := 1#32
  let arg15 : BitVec 32 := Scf.iv c0_i32_200 c1_i32_202 k0_t1
  let c4_i32_237 : BitVec 32 := 4#32
  let v376 : BitVec 32 := Scalar.remsi arg15 c4_i32_237
  let c1_i32_246 : BitVec 32 := 1#32
  ![v376.toNat, 1]
def k0_off88 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t1 : Fin (k0_t1_loop v0 v3 v6 v9 v12 v15 v18 v21 v24 v27 v30 v33 v36 v39 v42 v45 v48 v51).trips) : Fin 3 → Nat :=
  let c0_i32_200 : BitVec 32 := 0#32
  let c1_i32_202 : BitVec 32 := 1#32
  let arg15 : BitVec 32 := Scf.iv c0_i32_200 c1_i32_202 k0_t1
  let c4_i32_237 : BitVec 32 := 4#32
  let v376 : BitVec 32 := Scalar.remsi arg15 c4_i32_237
  let c1024_i32_247 : BitVec 32 := 1024#32
  let c0_i32_248 : BitVec 32 := 0#32
  ![v376.toNat, 1024, 0]
def k0_off89 (v375 : BitVec 32) : Fin 3 → Nat :=
  let c1024_i32_249 : BitVec 32 := 1024#32
  let c0_i32_250 : BitVec 32 := 0#32
  ![v375.toNat, 1024, 0]

def k0_chk12 (v375 : BitVec 32) : Prop :=
  (∀ a, (k0_off85 v375) a + S1x1024x2816.size a ≤ S8x1408x2816.size a) ∧
  (∀ (hinb : ∀ a, (k0_off85 v375) a + S1x1024x2816.size a ≤ S8x1408x2816.size a), (Rect.unit (s := S8x1408x2816) (k0_off85 v375) S1x1024x2816.size hinb).WholeWords (EltTy.packing .i8)) ∧
  (∀ a, (k0_off89 v375) a + S1x384x2816.size a ≤ S8x1408x2816.size a) ∧
  (∀ (hinb : ∀ a, (k0_off89 v375) a + S1x384x2816.size a ≤ S8x1408x2816.size a), (Rect.unit (s := S8x1408x2816) (k0_off89 v375) S1x384x2816.size hinb).WholeWords (EltTy.packing .i8))
theorem k0_off85_inb : ∀ (v375 : BitVec 32) (k0_hw12 : k0_chk12 v375), ∀ a, (k0_off85 v375) a + S1x1024x2816.size a ≤ S8x1408x2816.size a := fun v375 k0_hw12 => k0_hw12.1
theorem k0_off85_wordsi8 : ∀ (v375 : BitVec 32) (k0_hw12 : k0_chk12 v375), (Rect.unit (s := S8x1408x2816) (k0_off85 v375) S1x1024x2816.size (k0_off85_inb v375 k0_hw12)).WholeWords (EltTy.packing .i8) := fun v375 k0_hw12 => k0_hw12.2.1 (k0_off85_inb v375 k0_hw12)
theorem k0_off89_inb : ∀ (v375 : BitVec 32) (k0_hw12 : k0_chk12 v375), ∀ a, (k0_off89 v375) a + S1x384x2816.size a ≤ S8x1408x2816.size a := fun v375 k0_hw12 => k0_hw12.2.2.1
theorem k0_off89_wordsi8 : ∀ (v375 : BitVec 32) (k0_hw12 : k0_chk12 v375), (Rect.unit (s := S8x1408x2816) (k0_off89 v375) S1x384x2816.size (k0_off89_inb v375 k0_hw12)).WholeWords (EltTy.packing .i8) := fun v375 k0_hw12 => k0_hw12.2.2.2 (k0_off89_inb v375 k0_hw12)

def k0_off90 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t1 : Fin (k0_t1_loop v0 v3 v6 v9 v12 v15 v18 v21 v24 v27 v30 v33 v36 v39 v42 v45 v48 v51).trips) : Fin 3 → Nat :=
  let c0_i32_200 : BitVec 32 := 0#32
  let c1_i32_202 : BitVec 32 := 1#32
  let arg15 : BitVec 32 := Scf.iv c0_i32_200 c1_i32_202 k0_t1
  let c4_i32_208 : BitVec 32 := 4#32
  let v322 : BitVec 32 := Scalar.remsi arg15 c4_i32_208
  let v396 : Index := Scalar.indexCast v322
  let c1024_251 : Index := 1024#32
  let c0_252 : Index := 0#32
  ![v396.toNat, 1024, 0]
def k0_off91 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t1 : Fin (k0_t1_loop v0 v3 v6 v9 v12 v15 v18 v21 v24 v27 v30 v33 v36 v39 v42 v45 v48 v51).trips) : Fin 1 → Nat :=
  let c0_i32_200 : BitVec 32 := 0#32
  let c1_i32_202 : BitVec 32 := 1#32
  let arg15 : BitVec 32 := Scf.iv c0_i32_200 c1_i32_202 k0_t1
  let c4_i32_351 : BitVec 32 := 4#32
  let v624 : BitVec 32 := Scalar.addi arg15 c4_i32_351
  let v625 : Index := Scalar.indexCast v624
  ![v625.toNat]
def k0_cond13 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t1 : Fin (k0_t1_loop v0 v3 v6 v9 v12 v15 v18 v21 v24 v27 v30 v33 v36 v39 v42 v45 v48 v51).trips) : BitVec 1 :=
  let c0_i32_200 : BitVec 32 := 0#32
  let c1_i32_202 : BitVec 32 := 1#32
  let arg15 : BitVec 32 := Scf.iv c0_i32_200 c1_i32_202 k0_t1
  let c4_i32_254 : BitVec 32 := 4#32
  let v402 : BitVec 32 := Scalar.addi arg15 c4_i32_254
  let c0_i32_49 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c0_i32_44 : BitVec 32 := 0#32
  let v54 : BitVec 32 := Scalar.shrui v53 c0_i32_44
  let c1_i32_45 : BitVec 32 := 1#32
  let v55 : BitVec 32 := Scalar.andi v54 c1_i32_45
  let v59 : BitVec 32 := Scalar.addi c0_i32_49 v55
  let c1_i32_50 : BitVec 32 := 1#32
  let v60 : BitVec 32 := Scalar.shrui v53 c1_i32_50
  let c1_i32_51 : BitVec 32 := 1#32
  let v61 : BitVec 32 := Scalar.andi v60 c1_i32_51
  let v65 : BitVec 32 := Scalar.addi v59 v61
  let c2_i32 : BitVec 32 := 2#32
  let v66 : BitVec 32 := Scalar.shrui v53 c2_i32
  let c1_i32_54 : BitVec 32 := 1#32
  let v67 : BitVec 32 := Scalar.andi v66 c1_i32_54
  let v71 : BitVec 32 := Scalar.addi v65 v67
  let c3_i32 : BitVec 32 := 3#32
  let v72 : BitVec 32 := Scalar.shrui v53 c3_i32
  let c1_i32_57 : BitVec 32 := 1#32
  let v73 : BitVec 32 := Scalar.andi v72 c1_i32_57
  let v77 : BitVec 32 := Scalar.addi v71 v73
  let c4_i32 : BitVec 32 := 4#32
  let v78 : BitVec 32 := Scalar.shrui v53 c4_i32
  let c1_i32_60 : BitVec 32 := 1#32
  let v79 : BitVec 32 := Scalar.andi v78 c1_i32_60
  let v83 : BitVec 32 := Scalar.addi v77 v79
  let c5_i32 : BitVec 32 := 5#32
  let v84 : BitVec 32 := Scalar.shrui v53 c5_i32
  let c1_i32_63 : BitVec 32 := 1#32
  let v85 : BitVec 32 := Scalar.andi v84 c1_i32_63
  let v89 : BitVec 32 := Scalar.addi v83 v85
  let c6_i32 : BitVec 32 := 6#32
  let v90 : BitVec 32 := Scalar.shrui v53 c6_i32
  let c1_i32_66 : BitVec 32 := 1#32
  let v91 : BitVec 32 := Scalar.andi v90 c1_i32_66
  let v95 : BitVec 32 := Scalar.addi v89 v91
  let c7_i32 : BitVec 32 := 7#32
  let v96 : BitVec 32 := Scalar.shrui v53 c7_i32
  let c1_i32_69 : BitVec 32 := 1#32
  let v97 : BitVec 32 := Scalar.andi v96 c1_i32_69
  let v101 : BitVec 32 := Scalar.addi v95 v97
  let v403 : BitVec 1 := Scalar.cmpi .slt v402 v101
  let v404 : BitVec 32 := Scalar.extui v403
  let c0_i32_255 : BitVec 32 := 0#32
  let v405 : BitVec 1 := Scalar.cmpi .ne v404 c0_i32_255
  v405

def k0_off92 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t1 : Fin (k0_t1_loop v0 v3 v6 v9 v12 v15 v18 v21 v24 v27 v30 v33 v36 v39 v42 v45 v48 v51).trips) : Fin 2 → Nat :=
  let c0_i32_200 : BitVec 32 := 0#32
  let c1_i32_202 : BitVec 32 := 1#32
  let arg15 : BitVec 32 := Scf.iv c0_i32_200 c1_i32_202 k0_t1
  let c4_i32_351 : BitVec 32 := 4#32
  let v624 : BitVec 32 := Scalar.addi arg15 c4_i32_351
  let c4_i32_352 : BitVec 32 := 4#32
  let v627 : BitVec 32 := Scalar.remsi v624 c4_i32_352
  let c0_i32_353 : BitVec 32 := 0#32
  ![v627.toNat, 0]
def k0_off93 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t1 : Fin (k0_t1_loop v0 v3 v6 v9 v12 v15 v18 v21 v24 v27 v30 v33 v36 v39 v42 v45 v48 v51).trips) : Fin 3 → Nat :=
  let c0_i32_200 : BitVec 32 := 0#32
  let c1_i32_202 : BitVec 32 := 1#32
  let arg15 : BitVec 32 := Scf.iv c0_i32_200 c1_i32_202 k0_t1
  let c4_i32_351 : BitVec 32 := 4#32
  let v624 : BitVec 32 := Scalar.addi arg15 c4_i32_351
  let c4_i32_352 : BitVec 32 := 4#32
  let v627 : BitVec 32 := Scalar.remsi v624 c4_i32_352
  let c0_i32_354 : BitVec 32 := 0#32
  let c0_i32_355 : BitVec 32 := 0#32
  ![v627.toNat, 0, 0]
def k0_off94 (v626 : BitVec 32) : Fin 3 → Nat :=
  let c0_i32_356 : BitVec 32 := 0#32
  let c0_i32_357 : BitVec 32 := 0#32
  ![v626.toNat, 0, 0]

def k0_off95 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t1 : Fin (k0_t1_loop v0 v3 v6 v9 v12 v15 v18 v21 v24 v27 v30 v33 v36 v39 v42 v45 v48 v51).trips) : Fin 2 → Nat :=
  let c0_i32_200 : BitVec 32 := 0#32
  let c1_i32_202 : BitVec 32 := 1#32
  let arg15 : BitVec 32 := Scf.iv c0_i32_200 c1_i32_202 k0_t1
  let c4_i32_351 : BitVec 32 := 4#32
  let v624 : BitVec 32 := Scalar.addi arg15 c4_i32_351
  let c4_i32_352 : BitVec 32 := 4#32
  let v627 : BitVec 32 := Scalar.remsi v624 c4_i32_352
  let c1_i32_358 : BitVec 32 := 1#32
  ![v627.toNat, 1]
def k0_off96 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t1 : Fin (k0_t1_loop v0 v3 v6 v9 v12 v15 v18 v21 v24 v27 v30 v33 v36 v39 v42 v45 v48 v51).trips) : Fin 3 → Nat :=
  let c0_i32_200 : BitVec 32 := 0#32
  let c1_i32_202 : BitVec 32 := 1#32
  let arg15 : BitVec 32 := Scf.iv c0_i32_200 c1_i32_202 k0_t1
  let c4_i32_351 : BitVec 32 := 4#32
  let v624 : BitVec 32 := Scalar.addi arg15 c4_i32_351
  let c4_i32_352 : BitVec 32 := 4#32
  let v627 : BitVec 32 := Scalar.remsi v624 c4_i32_352
  let c1024_i32_359 : BitVec 32 := 1024#32
  let c0_i32_360 : BitVec 32 := 0#32
  ![v627.toNat, 1024, 0]
def k0_off97 (v626 : BitVec 32) : Fin 3 → Nat :=
  let c1024_i32_361 : BitVec 32 := 1024#32
  let c0_i32_362 : BitVec 32 := 0#32
  ![v626.toNat, 1024, 0]
def k0_off98 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t1 : Fin (k0_t1_loop v0 v3 v6 v9 v12 v15 v18 v21 v24 v27 v30 v33 v36 v39 v42 v45 v48 v51).trips) : Fin 2 → Nat :=
  let c0_i32_200 : BitVec 32 := 0#32
  let c1_i32_202 : BitVec 32 := 1#32
  let arg15 : BitVec 32 := Scf.iv c0_i32_200 c1_i32_202 k0_t1
  let c4_i32_351 : BitVec 32 := 4#32
  let v624 : BitVec 32 := Scalar.addi arg15 c4_i32_351
  let c4_i32_352 : BitVec 32 := 4#32
  let v627 : BitVec 32 := Scalar.remsi v624 c4_i32_352
  let c2_i32_363 : BitVec 32 := 2#32
  ![v627.toNat, 2]
def k0_off99 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t1 : Fin (k0_t1_loop v0 v3 v6 v9 v12 v15 v18 v21 v24 v27 v30 v33 v36 v39 v42 v45 v48 v51).trips) : Fin 3 → Nat :=
  let c0_i32_200 : BitVec 32 := 0#32
  let c1_i32_202 : BitVec 32 := 1#32
  let arg15 : BitVec 32 := Scf.iv c0_i32_200 c1_i32_202 k0_t1
  let c4_i32_351 : BitVec 32 := 4#32
  let v624 : BitVec 32 := Scalar.addi arg15 c4_i32_351
  let c4_i32_352 : BitVec 32 := 4#32
  let v627 : BitVec 32 := Scalar.remsi v624 c4_i32_352
  let c2048_i32_364 : BitVec 32 := 2048#32
  let c0_i32_365 : BitVec 32 := 0#32
  ![v627.toNat, 2048, 0]
def k0_off100 (v626 : BitVec 32) : Fin 3 → Nat :=
  let c2048_i32_366 : BitVec 32 := 2048#32
  let c0_i32_367 : BitVec 32 := 0#32
  ![v626.toNat, 2048, 0]

def k0_chk13 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t1 : Fin (k0_t1_loop v0 v3 v6 v9 v12 v15 v18 v21 v24 v27 v30 v33 v36 v39 v42 v45 v48 v51).trips) (v626 : BitVec 32) : Prop :=
  (∀ (k0_h13 : k0_cond13 v0 v3 v6 v9 v12 v15 v18 v21 v24 v27 v30 v33 v36 v39 v42 v45 v48 v51 k0_t1 = 1#1), ∀ a, (k0_off94 v626) a + S1x1024x2816.size a ≤ S8x2816x2816.size a) ∧
  (∀ (k0_h13 : k0_cond13 v0 v3 v6 v9 v12 v15 v18 v21 v24 v27 v30 v33 v36 v39 v42 v45 v48 v51 k0_t1 = 1#1), ∀ (hinb : ∀ a, (k0_off94 v626) a + S1x1024x2816.size a ≤ S8x2816x2816.size a), (Rect.unit (s := S8x2816x2816) (k0_off94 v626) S1x1024x2816.size hinb).WholeWords (EltTy.packing .i8)) ∧
  (∀ (k0_h13 : k0_cond13 v0 v3 v6 v9 v12 v15 v18 v21 v24 v27 v30 v33 v36 v39 v42 v45 v48 v51 k0_t1 = 1#1), ∀ a, (k0_off97 v626) a + S1x1024x2816.size a ≤ S8x2816x2816.size a) ∧
  (∀ (k0_h13 : k0_cond13 v0 v3 v6 v9 v12 v15 v18 v21 v24 v27 v30 v33 v36 v39 v42 v45 v48 v51 k0_t1 = 1#1), ∀ (hinb : ∀ a, (k0_off97 v626) a + S1x1024x2816.size a ≤ S8x2816x2816.size a), (Rect.unit (s := S8x2816x2816) (k0_off97 v626) S1x1024x2816.size hinb).WholeWords (EltTy.packing .i8)) ∧
  (∀ (k0_h13 : k0_cond13 v0 v3 v6 v9 v12 v15 v18 v21 v24 v27 v30 v33 v36 v39 v42 v45 v48 v51 k0_t1 = 1#1), ∀ a, (k0_off100 v626) a + S1x768x2816.size a ≤ S8x2816x2816.size a) ∧
  (∀ (k0_h13 : k0_cond13 v0 v3 v6 v9 v12 v15 v18 v21 v24 v27 v30 v33 v36 v39 v42 v45 v48 v51 k0_t1 = 1#1), ∀ (hinb : ∀ a, (k0_off100 v626) a + S1x768x2816.size a ≤ S8x2816x2816.size a), (Rect.unit (s := S8x2816x2816) (k0_off100 v626) S1x768x2816.size hinb).WholeWords (EltTy.packing .i8))
theorem k0_off94_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t1 : Fin (k0_t1_loop v0 v3 v6 v9 v12 v15 v18 v21 v24 v27 v30 v33 v36 v39 v42 v45 v48 v51).trips) (v626 : BitVec 32) (k0_hw13 : k0_chk13 v0 v3 v6 v9 v12 v15 v18 v21 v24 v27 v30 v33 v36 v39 v42 v45 v48 v51 k0_t1 v626), ∀ (k0_h13 : k0_cond13 v0 v3 v6 v9 v12 v15 v18 v21 v24 v27 v30 v33 v36 v39 v42 v45 v48 v51 k0_t1 = 1#1), ∀ a, (k0_off94 v626) a + S1x1024x2816.size a ≤ S8x2816x2816.size a := fun v0 v3 v6 v9 v12 v15 v18 v21 v24 v27 v30 v33 v36 v39 v42 v45 v48 v51 k0_t1 v626 k0_hw13 k0_h13 => k0_hw13.1 k0_h13
theorem k0_off94_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t1 : Fin (k0_t1_loop v0 v3 v6 v9 v12 v15 v18 v21 v24 v27 v30 v33 v36 v39 v42 v45 v48 v51).trips) (v626 : BitVec 32) (k0_hw13 : k0_chk13 v0 v3 v6 v9 v12 v15 v18 v21 v24 v27 v30 v33 v36 v39 v42 v45 v48 v51 k0_t1 v626), ∀ (k0_h13 : k0_cond13 v0 v3 v6 v9 v12 v15 v18 v21 v24 v27 v30 v33 v36 v39 v42 v45 v48 v51 k0_t1 = 1#1), (Rect.unit (s := S8x2816x2816) (k0_off94 v626) S1x1024x2816.size (k0_off94_inb v0 v3 v6 v9 v12 v15 v18 v21 v24 v27 v30 v33 v36 v39 v42 v45 v48 v51 k0_t1 v626 k0_hw13 k0_h13)).WholeWords (EltTy.packing .i8) := fun v0 v3 v6 v9 v12 v15 v18 v21 v24 v27 v30 v33 v36 v39 v42 v45 v48 v51 k0_t1 v626 k0_hw13 k0_h13 => k0_hw13.2.1 k0_h13 (k0_off94_inb v0 v3 v6 v9 v12 v15 v18 v21 v24 v27 v30 v33 v36 v39 v42 v45 v48 v51 k0_t1 v626 k0_hw13 k0_h13)
theorem k0_off97_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t1 : Fin (k0_t1_loop v0 v3 v6 v9 v12 v15 v18 v21 v24 v27 v30 v33 v36 v39 v42 v45 v48 v51).trips) (v626 : BitVec 32) (k0_hw13 : k0_chk13 v0 v3 v6 v9 v12 v15 v18 v21 v24 v27 v30 v33 v36 v39 v42 v45 v48 v51 k0_t1 v626), ∀ (k0_h13 : k0_cond13 v0 v3 v6 v9 v12 v15 v18 v21 v24 v27 v30 v33 v36 v39 v42 v45 v48 v51 k0_t1 = 1#1), ∀ a, (k0_off97 v626) a + S1x1024x2816.size a ≤ S8x2816x2816.size a := fun v0 v3 v6 v9 v12 v15 v18 v21 v24 v27 v30 v33 v36 v39 v42 v45 v48 v51 k0_t1 v626 k0_hw13 k0_h13 => k0_hw13.2.2.1 k0_h13
theorem k0_off97_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t1 : Fin (k0_t1_loop v0 v3 v6 v9 v12 v15 v18 v21 v24 v27 v30 v33 v36 v39 v42 v45 v48 v51).trips) (v626 : BitVec 32) (k0_hw13 : k0_chk13 v0 v3 v6 v9 v12 v15 v18 v21 v24 v27 v30 v33 v36 v39 v42 v45 v48 v51 k0_t1 v626), ∀ (k0_h13 : k0_cond13 v0 v3 v6 v9 v12 v15 v18 v21 v24 v27 v30 v33 v36 v39 v42 v45 v48 v51 k0_t1 = 1#1), (Rect.unit (s := S8x2816x2816) (k0_off97 v626) S1x1024x2816.size (k0_off97_inb v0 v3 v6 v9 v12 v15 v18 v21 v24 v27 v30 v33 v36 v39 v42 v45 v48 v51 k0_t1 v626 k0_hw13 k0_h13)).WholeWords (EltTy.packing .i8) := fun v0 v3 v6 v9 v12 v15 v18 v21 v24 v27 v30 v33 v36 v39 v42 v45 v48 v51 k0_t1 v626 k0_hw13 k0_h13 => k0_hw13.2.2.2.1 k0_h13 (k0_off97_inb v0 v3 v6 v9 v12 v15 v18 v21 v24 v27 v30 v33 v36 v39 v42 v45 v48 v51 k0_t1 v626 k0_hw13 k0_h13)
theorem k0_off100_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t1 : Fin (k0_t1_loop v0 v3 v6 v9 v12 v15 v18 v21 v24 v27 v30 v33 v36 v39 v42 v45 v48 v51).trips) (v626 : BitVec 32) (k0_hw13 : k0_chk13 v0 v3 v6 v9 v12 v15 v18 v21 v24 v27 v30 v33 v36 v39 v42 v45 v48 v51 k0_t1 v626), ∀ (k0_h13 : k0_cond13 v0 v3 v6 v9 v12 v15 v18 v21 v24 v27 v30 v33 v36 v39 v42 v45 v48 v51 k0_t1 = 1#1), ∀ a, (k0_off100 v626) a + S1x768x2816.size a ≤ S8x2816x2816.size a := fun v0 v3 v6 v9 v12 v15 v18 v21 v24 v27 v30 v33 v36 v39 v42 v45 v48 v51 k0_t1 v626 k0_hw13 k0_h13 => k0_hw13.2.2.2.2.1 k0_h13
theorem k0_off100_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t1 : Fin (k0_t1_loop v0 v3 v6 v9 v12 v15 v18 v21 v24 v27 v30 v33 v36 v39 v42 v45 v48 v51).trips) (v626 : BitVec 32) (k0_hw13 : k0_chk13 v0 v3 v6 v9 v12 v15 v18 v21 v24 v27 v30 v33 v36 v39 v42 v45 v48 v51 k0_t1 v626), ∀ (k0_h13 : k0_cond13 v0 v3 v6 v9 v12 v15 v18 v21 v24 v27 v30 v33 v36 v39 v42 v45 v48 v51 k0_t1 = 1#1), (Rect.unit (s := S8x2816x2816) (k0_off100 v626) S1x768x2816.size (k0_off100_inb v0 v3 v6 v9 v12 v15 v18 v21 v24 v27 v30 v33 v36 v39 v42 v45 v48 v51 k0_t1 v626 k0_hw13 k0_h13)).WholeWords (EltTy.packing .i8) := fun v0 v3 v6 v9 v12 v15 v18 v21 v24 v27 v30 v33 v36 v39 v42 v45 v48 v51 k0_t1 v626 k0_hw13 k0_h13 => k0_hw13.2.2.2.2.2 k0_h13 (k0_off100_inb v0 v3 v6 v9 v12 v15 v18 v21 v24 v27 v30 v33 v36 v39 v42 v45 v48 v51 k0_t1 v626 k0_hw13 k0_h13)

def k0_off101 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t1 : Fin (k0_t1_loop v0 v3 v6 v9 v12 v15 v18 v21 v24 v27 v30 v33 v36 v39 v42 v45 v48 v51).trips) : Fin 1 → Nat :=
  let c0_i32_200 : BitVec 32 := 0#32
  let c1_i32_202 : BitVec 32 := 1#32
  let arg15 : BitVec 32 := Scf.iv c0_i32_200 c1_i32_202 k0_t1
  let c4_i32_368 : BitVec 32 := 4#32
  let v646 : BitVec 32 := Scalar.addi arg15 c4_i32_368
  let v647 : Index := Scalar.indexCast v646
  ![v647.toNat]
def k0_off102 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t1 : Fin (k0_t1_loop v0 v3 v6 v9 v12 v15 v18 v21 v24 v27 v30 v33 v36 v39 v42 v45 v48 v51).trips) : Fin 2 → Nat :=
  let c0_i32_200 : BitVec 32 := 0#32
  let c1_i32_202 : BitVec 32 := 1#32
  let arg15 : BitVec 32 := Scf.iv c0_i32_200 c1_i32_202 k0_t1
  let c4_i32_368 : BitVec 32 := 4#32
  let v646 : BitVec 32 := Scalar.addi arg15 c4_i32_368
  let c4_i32_369 : BitVec 32 := 4#32
  let v649 : BitVec 32 := Scalar.remsi v646 c4_i32_369
  let c0_i32_370 : BitVec 32 := 0#32
  ![v649.toNat, 0]
def k0_off103 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t1 : Fin (k0_t1_loop v0 v3 v6 v9 v12 v15 v18 v21 v24 v27 v30 v33 v36 v39 v42 v45 v48 v51).trips) : Fin 3 → Nat :=
  let c0_i32_200 : BitVec 32 := 0#32
  let c1_i32_202 : BitVec 32 := 1#32
  let arg15 : BitVec 32 := Scf.iv c0_i32_200 c1_i32_202 k0_t1
  let c4_i32_368 : BitVec 32 := 4#32
  let v646 : BitVec 32 := Scalar.addi arg15 c4_i32_368
  let c4_i32_369 : BitVec 32 := 4#32
  let v649 : BitVec 32 := Scalar.remsi v646 c4_i32_369
  let c0_i32_371 : BitVec 32 := 0#32
  let c0_i32_372 : BitVec 32 := 0#32
  ![v649.toNat, 0, 0]
def k0_off104 (v648 : BitVec 32) : Fin 3 → Nat :=
  let c0_i32_373 : BitVec 32 := 0#32
  let c0_i32_374 : BitVec 32 := 0#32
  ![v648.toNat, 0, 0]

def k0_off105 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t1 : Fin (k0_t1_loop v0 v3 v6 v9 v12 v15 v18 v21 v24 v27 v30 v33 v36 v39 v42 v45 v48 v51).trips) : Fin 2 → Nat :=
  let c0_i32_200 : BitVec 32 := 0#32
  let c1_i32_202 : BitVec 32 := 1#32
  let arg15 : BitVec 32 := Scf.iv c0_i32_200 c1_i32_202 k0_t1
  let c4_i32_368 : BitVec 32 := 4#32
  let v646 : BitVec 32 := Scalar.addi arg15 c4_i32_368
  let c4_i32_369 : BitVec 32 := 4#32
  let v649 : BitVec 32 := Scalar.remsi v646 c4_i32_369
  let c1_i32_375 : BitVec 32 := 1#32
  ![v649.toNat, 1]
def k0_off106 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t1 : Fin (k0_t1_loop v0 v3 v6 v9 v12 v15 v18 v21 v24 v27 v30 v33 v36 v39 v42 v45 v48 v51).trips) : Fin 3 → Nat :=
  let c0_i32_200 : BitVec 32 := 0#32
  let c1_i32_202 : BitVec 32 := 1#32
  let arg15 : BitVec 32 := Scf.iv c0_i32_200 c1_i32_202 k0_t1
  let c4_i32_368 : BitVec 32 := 4#32
  let v646 : BitVec 32 := Scalar.addi arg15 c4_i32_368
  let c4_i32_369 : BitVec 32 := 4#32
  let v649 : BitVec 32 := Scalar.remsi v646 c4_i32_369
  let c1024_i32_376 : BitVec 32 := 1024#32
  let c0_i32_377 : BitVec 32 := 0#32
  ![v649.toNat, 1024, 0]
def k0_off107 (v648 : BitVec 32) : Fin 3 → Nat :=
  let c1024_i32_378 : BitVec 32 := 1024#32
  let c0_i32_379 : BitVec 32 := 0#32
  ![v648.toNat, 1024, 0]

def k0_chk14 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t1 : Fin (k0_t1_loop v0 v3 v6 v9 v12 v15 v18 v21 v24 v27 v30 v33 v36 v39 v42 v45 v48 v51).trips) (v648 : BitVec 32) : Prop :=
  (∀ (k0_h13 : k0_cond13 v0 v3 v6 v9 v12 v15 v18 v21 v24 v27 v30 v33 v36 v39 v42 v45 v48 v51 k0_t1 = 1#1), ∀ a, (k0_off104 v648) a + S1x1024x2816.size a ≤ S8x1408x2816.size a) ∧
  (∀ (k0_h13 : k0_cond13 v0 v3 v6 v9 v12 v15 v18 v21 v24 v27 v30 v33 v36 v39 v42 v45 v48 v51 k0_t1 = 1#1), ∀ (hinb : ∀ a, (k0_off104 v648) a + S1x1024x2816.size a ≤ S8x1408x2816.size a), (Rect.unit (s := S8x1408x2816) (k0_off104 v648) S1x1024x2816.size hinb).WholeWords (EltTy.packing .i8)) ∧
  (∀ (k0_h13 : k0_cond13 v0 v3 v6 v9 v12 v15 v18 v21 v24 v27 v30 v33 v36 v39 v42 v45 v48 v51 k0_t1 = 1#1), ∀ a, (k0_off107 v648) a + S1x384x2816.size a ≤ S8x1408x2816.size a) ∧
  (∀ (k0_h13 : k0_cond13 v0 v3 v6 v9 v12 v15 v18 v21 v24 v27 v30 v33 v36 v39 v42 v45 v48 v51 k0_t1 = 1#1), ∀ (hinb : ∀ a, (k0_off107 v648) a + S1x384x2816.size a ≤ S8x1408x2816.size a), (Rect.unit (s := S8x1408x2816) (k0_off107 v648) S1x384x2816.size hinb).WholeWords (EltTy.packing .i8))
theorem k0_off104_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t1 : Fin (k0_t1_loop v0 v3 v6 v9 v12 v15 v18 v21 v24 v27 v30 v33 v36 v39 v42 v45 v48 v51).trips) (v648 : BitVec 32) (k0_hw14 : k0_chk14 v0 v3 v6 v9 v12 v15 v18 v21 v24 v27 v30 v33 v36 v39 v42 v45 v48 v51 k0_t1 v648), ∀ (k0_h13 : k0_cond13 v0 v3 v6 v9 v12 v15 v18 v21 v24 v27 v30 v33 v36 v39 v42 v45 v48 v51 k0_t1 = 1#1), ∀ a, (k0_off104 v648) a + S1x1024x2816.size a ≤ S8x1408x2816.size a := fun v0 v3 v6 v9 v12 v15 v18 v21 v24 v27 v30 v33 v36 v39 v42 v45 v48 v51 k0_t1 v648 k0_hw14 k0_h13 => k0_hw14.1 k0_h13
theorem k0_off104_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t1 : Fin (k0_t1_loop v0 v3 v6 v9 v12 v15 v18 v21 v24 v27 v30 v33 v36 v39 v42 v45 v48 v51).trips) (v648 : BitVec 32) (k0_hw14 : k0_chk14 v0 v3 v6 v9 v12 v15 v18 v21 v24 v27 v30 v33 v36 v39 v42 v45 v48 v51 k0_t1 v648), ∀ (k0_h13 : k0_cond13 v0 v3 v6 v9 v12 v15 v18 v21 v24 v27 v30 v33 v36 v39 v42 v45 v48 v51 k0_t1 = 1#1), (Rect.unit (s := S8x1408x2816) (k0_off104 v648) S1x1024x2816.size (k0_off104_inb v0 v3 v6 v9 v12 v15 v18 v21 v24 v27 v30 v33 v36 v39 v42 v45 v48 v51 k0_t1 v648 k0_hw14 k0_h13)).WholeWords (EltTy.packing .i8) := fun v0 v3 v6 v9 v12 v15 v18 v21 v24 v27 v30 v33 v36 v39 v42 v45 v48 v51 k0_t1 v648 k0_hw14 k0_h13 => k0_hw14.2.1 k0_h13 (k0_off104_inb v0 v3 v6 v9 v12 v15 v18 v21 v24 v27 v30 v33 v36 v39 v42 v45 v48 v51 k0_t1 v648 k0_hw14 k0_h13)
theorem k0_off107_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t1 : Fin (k0_t1_loop v0 v3 v6 v9 v12 v15 v18 v21 v24 v27 v30 v33 v36 v39 v42 v45 v48 v51).trips) (v648 : BitVec 32) (k0_hw14 : k0_chk14 v0 v3 v6 v9 v12 v15 v18 v21 v24 v27 v30 v33 v36 v39 v42 v45 v48 v51 k0_t1 v648), ∀ (k0_h13 : k0_cond13 v0 v3 v6 v9 v12 v15 v18 v21 v24 v27 v30 v33 v36 v39 v42 v45 v48 v51 k0_t1 = 1#1), ∀ a, (k0_off107 v648) a + S1x384x2816.size a ≤ S8x1408x2816.size a := fun v0 v3 v6 v9 v12 v15 v18 v21 v24 v27 v30 v33 v36 v39 v42 v45 v48 v51 k0_t1 v648 k0_hw14 k0_h13 => k0_hw14.2.2.1 k0_h13
theorem k0_off107_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t1 : Fin (k0_t1_loop v0 v3 v6 v9 v12 v15 v18 v21 v24 v27 v30 v33 v36 v39 v42 v45 v48 v51).trips) (v648 : BitVec 32) (k0_hw14 : k0_chk14 v0 v3 v6 v9 v12 v15 v18 v21 v24 v27 v30 v33 v36 v39 v42 v45 v48 v51 k0_t1 v648), ∀ (k0_h13 : k0_cond13 v0 v3 v6 v9 v12 v15 v18 v21 v24 v27 v30 v33 v36 v39 v42 v45 v48 v51 k0_t1 = 1#1), (Rect.unit (s := S8x1408x2816) (k0_off107 v648) S1x384x2816.size (k0_off107_inb v0 v3 v6 v9 v12 v15 v18 v21 v24 v27 v30 v33 v36 v39 v42 v45 v48 v51 k0_t1 v648 k0_hw14 k0_h13)).WholeWords (EltTy.packing .i8) := fun v0 v3 v6 v9 v12 v15 v18 v21 v24 v27 v30 v33 v36 v39 v42 v45 v48 v51 k0_t1 v648 k0_hw14 k0_h13 => k0_hw14.2.2.2 k0_h13 (k0_off107_inb v0 v3 v6 v9 v12 v15 v18 v21 v24 v27 v30 v33 v36 v39 v42 v45 v48 v51 k0_t1 v648 k0_hw14 k0_h13)

def k0_off108 (v321 : BitVec 32) : Fin 2 → Nat :=
  let v422 : Index := Scalar.indexCast v321
  let c0_259 : Index := 0#32
  ![v422.toNat, 0]

def k0_chk11 (v321 : BitVec 32) : Prop :=
  (∀ a, (k0_off81 v321) a + S1x2816.size a ≤ S8x2816.size a) ∧
  (∀ a, (k0_off108 v321) a + S1x2816.size a ≤ S8x2816.size a)
theorem k0_off81_inb : ∀ (v321 : BitVec 32) (k0_hw11 : k0_chk11 v321), ∀ a, (k0_off81 v321) a + S1x2816.size a ≤ S8x2816.size a := fun v321 k0_hw11 => k0_hw11.1
theorem k0_off108_inb : ∀ (v321 : BitVec 32) (k0_hw11 : k0_chk11 v321), ∀ a, (k0_off108 v321) a + S1x2816.size a ≤ S8x2816.size a := fun v321 k0_hw11 => k0_hw11.2

@[reducible] def k0_t2_loop (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) : Scf.Loop 32 :=
  let c0_i32_200 : BitVec 32 := 0#32
  let c0_i32_49 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c0_i32_44 : BitVec 32 := 0#32
  let v54 : BitVec 32 := Scalar.shrui v53 c0_i32_44
  let c1_i32_45 : BitVec 32 := 1#32
  let v55 : BitVec 32 := Scalar.andi v54 c1_i32_45
  let v59 : BitVec 32 := Scalar.addi c0_i32_49 v55
  let c1_i32_50 : BitVec 32 := 1#32
  let v60 : BitVec 32 := Scalar.shrui v53 c1_i32_50
  let c1_i32_51 : BitVec 32 := 1#32
  let v61 : BitVec 32 := Scalar.andi v60 c1_i32_51
  let v65 : BitVec 32 := Scalar.addi v59 v61
  let c2_i32 : BitVec 32 := 2#32
  let v66 : BitVec 32 := Scalar.shrui v53 c2_i32
  let c1_i32_54 : BitVec 32 := 1#32
  let v67 : BitVec 32 := Scalar.andi v66 c1_i32_54
  let v71 : BitVec 32 := Scalar.addi v65 v67
  let c3_i32 : BitVec 32 := 3#32
  let v72 : BitVec 32 := Scalar.shrui v53 c3_i32
  let c1_i32_57 : BitVec 32 := 1#32
  let v73 : BitVec 32 := Scalar.andi v72 c1_i32_57
  let v77 : BitVec 32 := Scalar.addi v71 v73
  let c4_i32 : BitVec 32 := 4#32
  let v78 : BitVec 32 := Scalar.shrui v53 c4_i32
  let c1_i32_60 : BitVec 32 := 1#32
  let v79 : BitVec 32 := Scalar.andi v78 c1_i32_60
  let v83 : BitVec 32 := Scalar.addi v77 v79
  let c5_i32 : BitVec 32 := 5#32
  let v84 : BitVec 32 := Scalar.shrui v53 c5_i32
  let c1_i32_63 : BitVec 32 := 1#32
  let v85 : BitVec 32 := Scalar.andi v84 c1_i32_63
  let v89 : BitVec 32 := Scalar.addi v83 v85
  let c6_i32 : BitVec 32 := 6#32
  let v90 : BitVec 32 := Scalar.shrui v53 c6_i32
  let c1_i32_66 : BitVec 32 := 1#32
  let v91 : BitVec 32 := Scalar.andi v90 c1_i32_66
  let v95 : BitVec 32 := Scalar.addi v89 v91
  let c7_i32 : BitVec 32 := 7#32
  let v96 : BitVec 32 := Scalar.shrui v53 c7_i32
  let c1_i32_69 : BitVec 32 := 1#32
  let v97 : BitVec 32 := Scalar.andi v96 c1_i32_69
  let v101 : BitVec 32 := Scalar.addi v95 v97
  let v312 : BitVec 32 := Scalar.subi v101 c0_i32_200
  let c1_i32_201 : BitVec 32 := 1#32
  let v314 : BitVec 32 := Scalar.divsi v312 c1_i32_201
  let v315 : BitVec 32 := Scalar.muli v314 c1_i32_201
  let v316 : BitVec 32 := Scalar.addi c0_i32_200 v315
  let v313 : BitVec 32 := Scalar.addi c0_i32_200 v312
  let c1_i32_203 : BitVec 32 := 1#32
  ⟨v316, v313, c1_i32_203⟩
def k0_off109 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t2 : Fin (k0_t2_loop v0 v3 v6 v9 v12 v15 v18 v21 v24 v27 v30 v33 v36 v39 v42 v45 v48 v51).trips) : Fin 1 → Nat :=
  let c0_i32_200 : BitVec 32 := 0#32
  let c0_i32_49 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c0_i32_44 : BitVec 32 := 0#32
  let v54 : BitVec 32 := Scalar.shrui v53 c0_i32_44
  let c1_i32_45 : BitVec 32 := 1#32
  let v55 : BitVec 32 := Scalar.andi v54 c1_i32_45
  let v59 : BitVec 32 := Scalar.addi c0_i32_49 v55
  let c1_i32_50 : BitVec 32 := 1#32
  let v60 : BitVec 32 := Scalar.shrui v53 c1_i32_50
  let c1_i32_51 : BitVec 32 := 1#32
  let v61 : BitVec 32 := Scalar.andi v60 c1_i32_51
  let v65 : BitVec 32 := Scalar.addi v59 v61
  let c2_i32 : BitVec 32 := 2#32
  let v66 : BitVec 32 := Scalar.shrui v53 c2_i32
  let c1_i32_54 : BitVec 32 := 1#32
  let v67 : BitVec 32 := Scalar.andi v66 c1_i32_54
  let v71 : BitVec 32 := Scalar.addi v65 v67
  let c3_i32 : BitVec 32 := 3#32
  let v72 : BitVec 32 := Scalar.shrui v53 c3_i32
  let c1_i32_57 : BitVec 32 := 1#32
  let v73 : BitVec 32 := Scalar.andi v72 c1_i32_57
  let v77 : BitVec 32 := Scalar.addi v71 v73
  let c4_i32 : BitVec 32 := 4#32
  let v78 : BitVec 32 := Scalar.shrui v53 c4_i32
  let c1_i32_60 : BitVec 32 := 1#32
  let v79 : BitVec 32 := Scalar.andi v78 c1_i32_60
  let v83 : BitVec 32 := Scalar.addi v77 v79
  let c5_i32 : BitVec 32 := 5#32
  let v84 : BitVec 32 := Scalar.shrui v53 c5_i32
  let c1_i32_63 : BitVec 32 := 1#32
  let v85 : BitVec 32 := Scalar.andi v84 c1_i32_63
  let v89 : BitVec 32 := Scalar.addi v83 v85
  let c6_i32 : BitVec 32 := 6#32
  let v90 : BitVec 32 := Scalar.shrui v53 c6_i32
  let c1_i32_66 : BitVec 32 := 1#32
  let v91 : BitVec 32 := Scalar.andi v90 c1_i32_66
  let v95 : BitVec 32 := Scalar.addi v89 v91
  let c7_i32 : BitVec 32 := 7#32
  let v96 : BitVec 32 := Scalar.shrui v53 c7_i32
  let c1_i32_69 : BitVec 32 := 1#32
  let v97 : BitVec 32 := Scalar.andi v96 c1_i32_69
  let v101 : BitVec 32 := Scalar.addi v95 v97
  let v312 : BitVec 32 := Scalar.subi v101 c0_i32_200
  let c1_i32_201 : BitVec 32 := 1#32
  let v314 : BitVec 32 := Scalar.divsi v312 c1_i32_201
  let v315 : BitVec 32 := Scalar.muli v314 c1_i32_201
  let v316 : BitVec 32 := Scalar.addi c0_i32_200 v315
  let c1_i32_203 : BitVec 32 := 1#32
  let arg15 : BitVec 32 := Scf.iv v316 c1_i32_203 k0_t2
  let v320 : Index := Scalar.indexCast arg15
  ![v320.toNat]
def k0_off110 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t2 : Fin (k0_t2_loop v0 v3 v6 v9 v12 v15 v18 v21 v24 v27 v30 v33 v36 v39 v42 v45 v48 v51).trips) : Fin 2 → Nat :=
  let c0_i32_200 : BitVec 32 := 0#32
  let c0_i32_49 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c0_i32_44 : BitVec 32 := 0#32
  let v54 : BitVec 32 := Scalar.shrui v53 c0_i32_44
  let c1_i32_45 : BitVec 32 := 1#32
  let v55 : BitVec 32 := Scalar.andi v54 c1_i32_45
  let v59 : BitVec 32 := Scalar.addi c0_i32_49 v55
  let c1_i32_50 : BitVec 32 := 1#32
  let v60 : BitVec 32 := Scalar.shrui v53 c1_i32_50
  let c1_i32_51 : BitVec 32 := 1#32
  let v61 : BitVec 32 := Scalar.andi v60 c1_i32_51
  let v65 : BitVec 32 := Scalar.addi v59 v61
  let c2_i32 : BitVec 32 := 2#32
  let v66 : BitVec 32 := Scalar.shrui v53 c2_i32
  let c1_i32_54 : BitVec 32 := 1#32
  let v67 : BitVec 32 := Scalar.andi v66 c1_i32_54
  let v71 : BitVec 32 := Scalar.addi v65 v67
  let c3_i32 : BitVec 32 := 3#32
  let v72 : BitVec 32 := Scalar.shrui v53 c3_i32
  let c1_i32_57 : BitVec 32 := 1#32
  let v73 : BitVec 32 := Scalar.andi v72 c1_i32_57
  let v77 : BitVec 32 := Scalar.addi v71 v73
  let c4_i32 : BitVec 32 := 4#32
  let v78 : BitVec 32 := Scalar.shrui v53 c4_i32
  let c1_i32_60 : BitVec 32 := 1#32
  let v79 : BitVec 32 := Scalar.andi v78 c1_i32_60
  let v83 : BitVec 32 := Scalar.addi v77 v79
  let c5_i32 : BitVec 32 := 5#32
  let v84 : BitVec 32 := Scalar.shrui v53 c5_i32
  let c1_i32_63 : BitVec 32 := 1#32
  let v85 : BitVec 32 := Scalar.andi v84 c1_i32_63
  let v89 : BitVec 32 := Scalar.addi v83 v85
  let c6_i32 : BitVec 32 := 6#32
  let v90 : BitVec 32 := Scalar.shrui v53 c6_i32
  let c1_i32_66 : BitVec 32 := 1#32
  let v91 : BitVec 32 := Scalar.andi v90 c1_i32_66
  let v95 : BitVec 32 := Scalar.addi v89 v91
  let c7_i32 : BitVec 32 := 7#32
  let v96 : BitVec 32 := Scalar.shrui v53 c7_i32
  let c1_i32_69 : BitVec 32 := 1#32
  let v97 : BitVec 32 := Scalar.andi v96 c1_i32_69
  let v101 : BitVec 32 := Scalar.addi v95 v97
  let v312 : BitVec 32 := Scalar.subi v101 c0_i32_200
  let c1_i32_201 : BitVec 32 := 1#32
  let v314 : BitVec 32 := Scalar.divsi v312 c1_i32_201
  let v315 : BitVec 32 := Scalar.muli v314 c1_i32_201
  let v316 : BitVec 32 := Scalar.addi c0_i32_200 v315
  let c1_i32_203 : BitVec 32 := 1#32
  let arg15 : BitVec 32 := Scf.iv v316 c1_i32_203 k0_t2
  let c4_i32_209 : BitVec 32 := 4#32
  let v325 : BitVec 32 := Scalar.remsi arg15 c4_i32_209
  let c0_i32_210 : BitVec 32 := 0#32
  ![v325.toNat, 0]
def k0_off111 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t2 : Fin (k0_t2_loop v0 v3 v6 v9 v12 v15 v18 v21 v24 v27 v30 v33 v36 v39 v42 v45 v48 v51).trips) : Fin 3 → Nat :=
  let c0_i32_200 : BitVec 32 := 0#32
  let c0_i32_49 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c0_i32_44 : BitVec 32 := 0#32
  let v54 : BitVec 32 := Scalar.shrui v53 c0_i32_44
  let c1_i32_45 : BitVec 32 := 1#32
  let v55 : BitVec 32 := Scalar.andi v54 c1_i32_45
  let v59 : BitVec 32 := Scalar.addi c0_i32_49 v55
  let c1_i32_50 : BitVec 32 := 1#32
  let v60 : BitVec 32 := Scalar.shrui v53 c1_i32_50
  let c1_i32_51 : BitVec 32 := 1#32
  let v61 : BitVec 32 := Scalar.andi v60 c1_i32_51
  let v65 : BitVec 32 := Scalar.addi v59 v61
  let c2_i32 : BitVec 32 := 2#32
  let v66 : BitVec 32 := Scalar.shrui v53 c2_i32
  let c1_i32_54 : BitVec 32 := 1#32
  let v67 : BitVec 32 := Scalar.andi v66 c1_i32_54
  let v71 : BitVec 32 := Scalar.addi v65 v67
  let c3_i32 : BitVec 32 := 3#32
  let v72 : BitVec 32 := Scalar.shrui v53 c3_i32
  let c1_i32_57 : BitVec 32 := 1#32
  let v73 : BitVec 32 := Scalar.andi v72 c1_i32_57
  let v77 : BitVec 32 := Scalar.addi v71 v73
  let c4_i32 : BitVec 32 := 4#32
  let v78 : BitVec 32 := Scalar.shrui v53 c4_i32
  let c1_i32_60 : BitVec 32 := 1#32
  let v79 : BitVec 32 := Scalar.andi v78 c1_i32_60
  let v83 : BitVec 32 := Scalar.addi v77 v79
  let c5_i32 : BitVec 32 := 5#32
  let v84 : BitVec 32 := Scalar.shrui v53 c5_i32
  let c1_i32_63 : BitVec 32 := 1#32
  let v85 : BitVec 32 := Scalar.andi v84 c1_i32_63
  let v89 : BitVec 32 := Scalar.addi v83 v85
  let c6_i32 : BitVec 32 := 6#32
  let v90 : BitVec 32 := Scalar.shrui v53 c6_i32
  let c1_i32_66 : BitVec 32 := 1#32
  let v91 : BitVec 32 := Scalar.andi v90 c1_i32_66
  let v95 : BitVec 32 := Scalar.addi v89 v91
  let c7_i32 : BitVec 32 := 7#32
  let v96 : BitVec 32 := Scalar.shrui v53 c7_i32
  let c1_i32_69 : BitVec 32 := 1#32
  let v97 : BitVec 32 := Scalar.andi v96 c1_i32_69
  let v101 : BitVec 32 := Scalar.addi v95 v97
  let v312 : BitVec 32 := Scalar.subi v101 c0_i32_200
  let c1_i32_201 : BitVec 32 := 1#32
  let v314 : BitVec 32 := Scalar.divsi v312 c1_i32_201
  let v315 : BitVec 32 := Scalar.muli v314 c1_i32_201
  let v316 : BitVec 32 := Scalar.addi c0_i32_200 v315
  let c1_i32_203 : BitVec 32 := 1#32
  let arg15 : BitVec 32 := Scf.iv v316 c1_i32_203 k0_t2
  let c4_i32_209 : BitVec 32 := 4#32
  let v325 : BitVec 32 := Scalar.remsi arg15 c4_i32_209
  let c0_i32_211 : BitVec 32 := 0#32
  let c0_i32_212 : BitVec 32 := 0#32
  ![v325.toNat, 0, 0]
def k0_off112 (v324 : BitVec 32) : Fin 3 → Nat :=
  let c0_i32_213 : BitVec 32 := 0#32
  let c0_i32_214 : BitVec 32 := 0#32
  ![v324.toNat, 0, 0]

def k0_off113 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t2 : Fin (k0_t2_loop v0 v3 v6 v9 v12 v15 v18 v21 v24 v27 v30 v33 v36 v39 v42 v45 v48 v51).trips) : Fin 3 → Nat :=
  let c0_i32_200 : BitVec 32 := 0#32
  let c0_i32_49 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c0_i32_44 : BitVec 32 := 0#32
  let v54 : BitVec 32 := Scalar.shrui v53 c0_i32_44
  let c1_i32_45 : BitVec 32 := 1#32
  let v55 : BitVec 32 := Scalar.andi v54 c1_i32_45
  let v59 : BitVec 32 := Scalar.addi c0_i32_49 v55
  let c1_i32_50 : BitVec 32 := 1#32
  let v60 : BitVec 32 := Scalar.shrui v53 c1_i32_50
  let c1_i32_51 : BitVec 32 := 1#32
  let v61 : BitVec 32 := Scalar.andi v60 c1_i32_51
  let v65 : BitVec 32 := Scalar.addi v59 v61
  let c2_i32 : BitVec 32 := 2#32
  let v66 : BitVec 32 := Scalar.shrui v53 c2_i32
  let c1_i32_54 : BitVec 32 := 1#32
  let v67 : BitVec 32 := Scalar.andi v66 c1_i32_54
  let v71 : BitVec 32 := Scalar.addi v65 v67
  let c3_i32 : BitVec 32 := 3#32
  let v72 : BitVec 32 := Scalar.shrui v53 c3_i32
  let c1_i32_57 : BitVec 32 := 1#32
  let v73 : BitVec 32 := Scalar.andi v72 c1_i32_57
  let v77 : BitVec 32 := Scalar.addi v71 v73
  let c4_i32 : BitVec 32 := 4#32
  let v78 : BitVec 32 := Scalar.shrui v53 c4_i32
  let c1_i32_60 : BitVec 32 := 1#32
  let v79 : BitVec 32 := Scalar.andi v78 c1_i32_60
  let v83 : BitVec 32 := Scalar.addi v77 v79
  let c5_i32 : BitVec 32 := 5#32
  let v84 : BitVec 32 := Scalar.shrui v53 c5_i32
  let c1_i32_63 : BitVec 32 := 1#32
  let v85 : BitVec 32 := Scalar.andi v84 c1_i32_63
  let v89 : BitVec 32 := Scalar.addi v83 v85
  let c6_i32 : BitVec 32 := 6#32
  let v90 : BitVec 32 := Scalar.shrui v53 c6_i32
  let c1_i32_66 : BitVec 32 := 1#32
  let v91 : BitVec 32 := Scalar.andi v90 c1_i32_66
  let v95 : BitVec 32 := Scalar.addi v89 v91
  let c7_i32 : BitVec 32 := 7#32
  let v96 : BitVec 32 := Scalar.shrui v53 c7_i32
  let c1_i32_69 : BitVec 32 := 1#32
  let v97 : BitVec 32 := Scalar.andi v96 c1_i32_69
  let v101 : BitVec 32 := Scalar.addi v95 v97
  let v312 : BitVec 32 := Scalar.subi v101 c0_i32_200
  let c1_i32_201 : BitVec 32 := 1#32
  let v314 : BitVec 32 := Scalar.divsi v312 c1_i32_201
  let v315 : BitVec 32 := Scalar.muli v314 c1_i32_201
  let v316 : BitVec 32 := Scalar.addi c0_i32_200 v315
  let c1_i32_203 : BitVec 32 := 1#32
  let arg15 : BitVec 32 := Scf.iv v316 c1_i32_203 k0_t2
  let c4_i32_208 : BitVec 32 := 4#32
  let v322 : BitVec 32 := Scalar.remsi arg15 c4_i32_208
  let v333 : Index := Scalar.indexCast v322
  let c0_217 : Index := 0#32
  let c0_218 : Index := 0#32
  ![v333.toNat, 0, 0]
def k0_off114 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t2 : Fin (k0_t2_loop v0 v3 v6 v9 v12 v15 v18 v21 v24 v27 v30 v33 v36 v39 v42 v45 v48 v51).trips) : Fin 2 → Nat :=
  let c0_i32_200 : BitVec 32 := 0#32
  let c0_i32_49 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c0_i32_44 : BitVec 32 := 0#32
  let v54 : BitVec 32 := Scalar.shrui v53 c0_i32_44
  let c1_i32_45 : BitVec 32 := 1#32
  let v55 : BitVec 32 := Scalar.andi v54 c1_i32_45
  let v59 : BitVec 32 := Scalar.addi c0_i32_49 v55
  let c1_i32_50 : BitVec 32 := 1#32
  let v60 : BitVec 32 := Scalar.shrui v53 c1_i32_50
  let c1_i32_51 : BitVec 32 := 1#32
  let v61 : BitVec 32 := Scalar.andi v60 c1_i32_51
  let v65 : BitVec 32 := Scalar.addi v59 v61
  let c2_i32 : BitVec 32 := 2#32
  let v66 : BitVec 32 := Scalar.shrui v53 c2_i32
  let c1_i32_54 : BitVec 32 := 1#32
  let v67 : BitVec 32 := Scalar.andi v66 c1_i32_54
  let v71 : BitVec 32 := Scalar.addi v65 v67
  let c3_i32 : BitVec 32 := 3#32
  let v72 : BitVec 32 := Scalar.shrui v53 c3_i32
  let c1_i32_57 : BitVec 32 := 1#32
  let v73 : BitVec 32 := Scalar.andi v72 c1_i32_57
  let v77 : BitVec 32 := Scalar.addi v71 v73
  let c4_i32 : BitVec 32 := 4#32
  let v78 : BitVec 32 := Scalar.shrui v53 c4_i32
  let c1_i32_60 : BitVec 32 := 1#32
  let v79 : BitVec 32 := Scalar.andi v78 c1_i32_60
  let v83 : BitVec 32 := Scalar.addi v77 v79
  let c5_i32 : BitVec 32 := 5#32
  let v84 : BitVec 32 := Scalar.shrui v53 c5_i32
  let c1_i32_63 : BitVec 32 := 1#32
  let v85 : BitVec 32 := Scalar.andi v84 c1_i32_63
  let v89 : BitVec 32 := Scalar.addi v83 v85
  let c6_i32 : BitVec 32 := 6#32
  let v90 : BitVec 32 := Scalar.shrui v53 c6_i32
  let c1_i32_66 : BitVec 32 := 1#32
  let v91 : BitVec 32 := Scalar.andi v90 c1_i32_66
  let v95 : BitVec 32 := Scalar.addi v89 v91
  let c7_i32 : BitVec 32 := 7#32
  let v96 : BitVec 32 := Scalar.shrui v53 c7_i32
  let c1_i32_69 : BitVec 32 := 1#32
  let v97 : BitVec 32 := Scalar.andi v96 c1_i32_69
  let v101 : BitVec 32 := Scalar.addi v95 v97
  let v312 : BitVec 32 := Scalar.subi v101 c0_i32_200
  let c1_i32_201 : BitVec 32 := 1#32
  let v314 : BitVec 32 := Scalar.divsi v312 c1_i32_201
  let v315 : BitVec 32 := Scalar.muli v314 c1_i32_201
  let v316 : BitVec 32 := Scalar.addi c0_i32_200 v315
  let c1_i32_203 : BitVec 32 := 1#32
  let arg15 : BitVec 32 := Scf.iv v316 c1_i32_203 k0_t2
  let c4_i32_209 : BitVec 32 := 4#32
  let v325 : BitVec 32 := Scalar.remsi arg15 c4_i32_209
  let c1_i32_220 : BitVec 32 := 1#32
  ![v325.toNat, 1]
def k0_off115 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t2 : Fin (k0_t2_loop v0 v3 v6 v9 v12 v15 v18 v21 v24 v27 v30 v33 v36 v39 v42 v45 v48 v51).trips) : Fin 3 → Nat :=
  let c0_i32_200 : BitVec 32 := 0#32
  let c0_i32_49 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c0_i32_44 : BitVec 32 := 0#32
  let v54 : BitVec 32 := Scalar.shrui v53 c0_i32_44
  let c1_i32_45 : BitVec 32 := 1#32
  let v55 : BitVec 32 := Scalar.andi v54 c1_i32_45
  let v59 : BitVec 32 := Scalar.addi c0_i32_49 v55
  let c1_i32_50 : BitVec 32 := 1#32
  let v60 : BitVec 32 := Scalar.shrui v53 c1_i32_50
  let c1_i32_51 : BitVec 32 := 1#32
  let v61 : BitVec 32 := Scalar.andi v60 c1_i32_51
  let v65 : BitVec 32 := Scalar.addi v59 v61
  let c2_i32 : BitVec 32 := 2#32
  let v66 : BitVec 32 := Scalar.shrui v53 c2_i32
  let c1_i32_54 : BitVec 32 := 1#32
  let v67 : BitVec 32 := Scalar.andi v66 c1_i32_54
  let v71 : BitVec 32 := Scalar.addi v65 v67
  let c3_i32 : BitVec 32 := 3#32
  let v72 : BitVec 32 := Scalar.shrui v53 c3_i32
  let c1_i32_57 : BitVec 32 := 1#32
  let v73 : BitVec 32 := Scalar.andi v72 c1_i32_57
  let v77 : BitVec 32 := Scalar.addi v71 v73
  let c4_i32 : BitVec 32 := 4#32
  let v78 : BitVec 32 := Scalar.shrui v53 c4_i32
  let c1_i32_60 : BitVec 32 := 1#32
  let v79 : BitVec 32 := Scalar.andi v78 c1_i32_60
  let v83 : BitVec 32 := Scalar.addi v77 v79
  let c5_i32 : BitVec 32 := 5#32
  let v84 : BitVec 32 := Scalar.shrui v53 c5_i32
  let c1_i32_63 : BitVec 32 := 1#32
  let v85 : BitVec 32 := Scalar.andi v84 c1_i32_63
  let v89 : BitVec 32 := Scalar.addi v83 v85
  let c6_i32 : BitVec 32 := 6#32
  let v90 : BitVec 32 := Scalar.shrui v53 c6_i32
  let c1_i32_66 : BitVec 32 := 1#32
  let v91 : BitVec 32 := Scalar.andi v90 c1_i32_66
  let v95 : BitVec 32 := Scalar.addi v89 v91
  let c7_i32 : BitVec 32 := 7#32
  let v96 : BitVec 32 := Scalar.shrui v53 c7_i32
  let c1_i32_69 : BitVec 32 := 1#32
  let v97 : BitVec 32 := Scalar.andi v96 c1_i32_69
  let v101 : BitVec 32 := Scalar.addi v95 v97
  let v312 : BitVec 32 := Scalar.subi v101 c0_i32_200
  let c1_i32_201 : BitVec 32 := 1#32
  let v314 : BitVec 32 := Scalar.divsi v312 c1_i32_201
  let v315 : BitVec 32 := Scalar.muli v314 c1_i32_201
  let v316 : BitVec 32 := Scalar.addi c0_i32_200 v315
  let c1_i32_203 : BitVec 32 := 1#32
  let arg15 : BitVec 32 := Scf.iv v316 c1_i32_203 k0_t2
  let c4_i32_209 : BitVec 32 := 4#32
  let v325 : BitVec 32 := Scalar.remsi arg15 c4_i32_209
  let c1024_i32 : BitVec 32 := 1024#32
  let c0_i32_221 : BitVec 32 := 0#32
  ![v325.toNat, 1024, 0]
def k0_off116 (v324 : BitVec 32) : Fin 3 → Nat :=
  let c1024_i32_222 : BitVec 32 := 1024#32
  let c0_i32_223 : BitVec 32 := 0#32
  ![v324.toNat, 1024, 0]
def k0_off117 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t2 : Fin (k0_t2_loop v0 v3 v6 v9 v12 v15 v18 v21 v24 v27 v30 v33 v36 v39 v42 v45 v48 v51).trips) : Fin 3 → Nat :=
  let c0_i32_200 : BitVec 32 := 0#32
  let c0_i32_49 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c0_i32_44 : BitVec 32 := 0#32
  let v54 : BitVec 32 := Scalar.shrui v53 c0_i32_44
  let c1_i32_45 : BitVec 32 := 1#32
  let v55 : BitVec 32 := Scalar.andi v54 c1_i32_45
  let v59 : BitVec 32 := Scalar.addi c0_i32_49 v55
  let c1_i32_50 : BitVec 32 := 1#32
  let v60 : BitVec 32 := Scalar.shrui v53 c1_i32_50
  let c1_i32_51 : BitVec 32 := 1#32
  let v61 : BitVec 32 := Scalar.andi v60 c1_i32_51
  let v65 : BitVec 32 := Scalar.addi v59 v61
  let c2_i32 : BitVec 32 := 2#32
  let v66 : BitVec 32 := Scalar.shrui v53 c2_i32
  let c1_i32_54 : BitVec 32 := 1#32
  let v67 : BitVec 32 := Scalar.andi v66 c1_i32_54
  let v71 : BitVec 32 := Scalar.addi v65 v67
  let c3_i32 : BitVec 32 := 3#32
  let v72 : BitVec 32 := Scalar.shrui v53 c3_i32
  let c1_i32_57 : BitVec 32 := 1#32
  let v73 : BitVec 32 := Scalar.andi v72 c1_i32_57
  let v77 : BitVec 32 := Scalar.addi v71 v73
  let c4_i32 : BitVec 32 := 4#32
  let v78 : BitVec 32 := Scalar.shrui v53 c4_i32
  let c1_i32_60 : BitVec 32 := 1#32
  let v79 : BitVec 32 := Scalar.andi v78 c1_i32_60
  let v83 : BitVec 32 := Scalar.addi v77 v79
  let c5_i32 : BitVec 32 := 5#32
  let v84 : BitVec 32 := Scalar.shrui v53 c5_i32
  let c1_i32_63 : BitVec 32 := 1#32
  let v85 : BitVec 32 := Scalar.andi v84 c1_i32_63
  let v89 : BitVec 32 := Scalar.addi v83 v85
  let c6_i32 : BitVec 32 := 6#32
  let v90 : BitVec 32 := Scalar.shrui v53 c6_i32
  let c1_i32_66 : BitVec 32 := 1#32
  let v91 : BitVec 32 := Scalar.andi v90 c1_i32_66
  let v95 : BitVec 32 := Scalar.addi v89 v91
  let c7_i32 : BitVec 32 := 7#32
  let v96 : BitVec 32 := Scalar.shrui v53 c7_i32
  let c1_i32_69 : BitVec 32 := 1#32
  let v97 : BitVec 32 := Scalar.andi v96 c1_i32_69
  let v101 : BitVec 32 := Scalar.addi v95 v97
  let v312 : BitVec 32 := Scalar.subi v101 c0_i32_200
  let c1_i32_201 : BitVec 32 := 1#32
  let v314 : BitVec 32 := Scalar.divsi v312 c1_i32_201
  let v315 : BitVec 32 := Scalar.muli v314 c1_i32_201
  let v316 : BitVec 32 := Scalar.addi c0_i32_200 v315
  let c1_i32_203 : BitVec 32 := 1#32
  let arg15 : BitVec 32 := Scf.iv v316 c1_i32_203 k0_t2
  let c4_i32_208 : BitVec 32 := 4#32
  let v322 : BitVec 32 := Scalar.remsi arg15 c4_i32_208
  let v345 : Index := Scalar.indexCast v322
  let c1024_225 : Index := 1024#32
  let c0_226 : Index := 0#32
  ![v345.toNat, 1024, 0]
def k0_off118 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t2 : Fin (k0_t2_loop v0 v3 v6 v9 v12 v15 v18 v21 v24 v27 v30 v33 v36 v39 v42 v45 v48 v51).trips) : Fin 2 → Nat :=
  let c0_i32_200 : BitVec 32 := 0#32
  let c0_i32_49 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c0_i32_44 : BitVec 32 := 0#32
  let v54 : BitVec 32 := Scalar.shrui v53 c0_i32_44
  let c1_i32_45 : BitVec 32 := 1#32
  let v55 : BitVec 32 := Scalar.andi v54 c1_i32_45
  let v59 : BitVec 32 := Scalar.addi c0_i32_49 v55
  let c1_i32_50 : BitVec 32 := 1#32
  let v60 : BitVec 32 := Scalar.shrui v53 c1_i32_50
  let c1_i32_51 : BitVec 32 := 1#32
  let v61 : BitVec 32 := Scalar.andi v60 c1_i32_51
  let v65 : BitVec 32 := Scalar.addi v59 v61
  let c2_i32 : BitVec 32 := 2#32
  let v66 : BitVec 32 := Scalar.shrui v53 c2_i32
  let c1_i32_54 : BitVec 32 := 1#32
  let v67 : BitVec 32 := Scalar.andi v66 c1_i32_54
  let v71 : BitVec 32 := Scalar.addi v65 v67
  let c3_i32 : BitVec 32 := 3#32
  let v72 : BitVec 32 := Scalar.shrui v53 c3_i32
  let c1_i32_57 : BitVec 32 := 1#32
  let v73 : BitVec 32 := Scalar.andi v72 c1_i32_57
  let v77 : BitVec 32 := Scalar.addi v71 v73
  let c4_i32 : BitVec 32 := 4#32
  let v78 : BitVec 32 := Scalar.shrui v53 c4_i32
  let c1_i32_60 : BitVec 32 := 1#32
  let v79 : BitVec 32 := Scalar.andi v78 c1_i32_60
  let v83 : BitVec 32 := Scalar.addi v77 v79
  let c5_i32 : BitVec 32 := 5#32
  let v84 : BitVec 32 := Scalar.shrui v53 c5_i32
  let c1_i32_63 : BitVec 32 := 1#32
  let v85 : BitVec 32 := Scalar.andi v84 c1_i32_63
  let v89 : BitVec 32 := Scalar.addi v83 v85
  let c6_i32 : BitVec 32 := 6#32
  let v90 : BitVec 32 := Scalar.shrui v53 c6_i32
  let c1_i32_66 : BitVec 32 := 1#32
  let v91 : BitVec 32 := Scalar.andi v90 c1_i32_66
  let v95 : BitVec 32 := Scalar.addi v89 v91
  let c7_i32 : BitVec 32 := 7#32
  let v96 : BitVec 32 := Scalar.shrui v53 c7_i32
  let c1_i32_69 : BitVec 32 := 1#32
  let v97 : BitVec 32 := Scalar.andi v96 c1_i32_69
  let v101 : BitVec 32 := Scalar.addi v95 v97
  let v312 : BitVec 32 := Scalar.subi v101 c0_i32_200
  let c1_i32_201 : BitVec 32 := 1#32
  let v314 : BitVec 32 := Scalar.divsi v312 c1_i32_201
  let v315 : BitVec 32 := Scalar.muli v314 c1_i32_201
  let v316 : BitVec 32 := Scalar.addi c0_i32_200 v315
  let c1_i32_203 : BitVec 32 := 1#32
  let arg15 : BitVec 32 := Scf.iv v316 c1_i32_203 k0_t2
  let c4_i32_209 : BitVec 32 := 4#32
  let v325 : BitVec 32 := Scalar.remsi arg15 c4_i32_209
  let c2_i32_228 : BitVec 32 := 2#32
  ![v325.toNat, 2]
def k0_off119 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t2 : Fin (k0_t2_loop v0 v3 v6 v9 v12 v15 v18 v21 v24 v27 v30 v33 v36 v39 v42 v45 v48 v51).trips) : Fin 3 → Nat :=
  let c0_i32_200 : BitVec 32 := 0#32
  let c0_i32_49 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c0_i32_44 : BitVec 32 := 0#32
  let v54 : BitVec 32 := Scalar.shrui v53 c0_i32_44
  let c1_i32_45 : BitVec 32 := 1#32
  let v55 : BitVec 32 := Scalar.andi v54 c1_i32_45
  let v59 : BitVec 32 := Scalar.addi c0_i32_49 v55
  let c1_i32_50 : BitVec 32 := 1#32
  let v60 : BitVec 32 := Scalar.shrui v53 c1_i32_50
  let c1_i32_51 : BitVec 32 := 1#32
  let v61 : BitVec 32 := Scalar.andi v60 c1_i32_51
  let v65 : BitVec 32 := Scalar.addi v59 v61
  let c2_i32 : BitVec 32 := 2#32
  let v66 : BitVec 32 := Scalar.shrui v53 c2_i32
  let c1_i32_54 : BitVec 32 := 1#32
  let v67 : BitVec 32 := Scalar.andi v66 c1_i32_54
  let v71 : BitVec 32 := Scalar.addi v65 v67
  let c3_i32 : BitVec 32 := 3#32
  let v72 : BitVec 32 := Scalar.shrui v53 c3_i32
  let c1_i32_57 : BitVec 32 := 1#32
  let v73 : BitVec 32 := Scalar.andi v72 c1_i32_57
  let v77 : BitVec 32 := Scalar.addi v71 v73
  let c4_i32 : BitVec 32 := 4#32
  let v78 : BitVec 32 := Scalar.shrui v53 c4_i32
  let c1_i32_60 : BitVec 32 := 1#32
  let v79 : BitVec 32 := Scalar.andi v78 c1_i32_60
  let v83 : BitVec 32 := Scalar.addi v77 v79
  let c5_i32 : BitVec 32 := 5#32
  let v84 : BitVec 32 := Scalar.shrui v53 c5_i32
  let c1_i32_63 : BitVec 32 := 1#32
  let v85 : BitVec 32 := Scalar.andi v84 c1_i32_63
  let v89 : BitVec 32 := Scalar.addi v83 v85
  let c6_i32 : BitVec 32 := 6#32
  let v90 : BitVec 32 := Scalar.shrui v53 c6_i32
  let c1_i32_66 : BitVec 32 := 1#32
  let v91 : BitVec 32 := Scalar.andi v90 c1_i32_66
  let v95 : BitVec 32 := Scalar.addi v89 v91
  let c7_i32 : BitVec 32 := 7#32
  let v96 : BitVec 32 := Scalar.shrui v53 c7_i32
  let c1_i32_69 : BitVec 32 := 1#32
  let v97 : BitVec 32 := Scalar.andi v96 c1_i32_69
  let v101 : BitVec 32 := Scalar.addi v95 v97
  let v312 : BitVec 32 := Scalar.subi v101 c0_i32_200
  let c1_i32_201 : BitVec 32 := 1#32
  let v314 : BitVec 32 := Scalar.divsi v312 c1_i32_201
  let v315 : BitVec 32 := Scalar.muli v314 c1_i32_201
  let v316 : BitVec 32 := Scalar.addi c0_i32_200 v315
  let c1_i32_203 : BitVec 32 := 1#32
  let arg15 : BitVec 32 := Scf.iv v316 c1_i32_203 k0_t2
  let c4_i32_209 : BitVec 32 := 4#32
  let v325 : BitVec 32 := Scalar.remsi arg15 c4_i32_209
  let c2048_i32 : BitVec 32 := 2048#32
  let c0_i32_229 : BitVec 32 := 0#32
  ![v325.toNat, 2048, 0]
def k0_off120 (v324 : BitVec 32) : Fin 3 → Nat :=
  let c2048_i32_230 : BitVec 32 := 2048#32
  let c0_i32_231 : BitVec 32 := 0#32
  ![v324.toNat, 2048, 0]

def k0_chk15 (v324 : BitVec 32) : Prop :=
  (∀ a, (k0_off112 v324) a + S1x1024x2816.size a ≤ S8x2816x2816.size a) ∧
  (∀ (hinb : ∀ a, (k0_off112 v324) a + S1x1024x2816.size a ≤ S8x2816x2816.size a), (Rect.unit (s := S8x2816x2816) (k0_off112 v324) S1x1024x2816.size hinb).WholeWords (EltTy.packing .i8)) ∧
  (∀ a, (k0_off116 v324) a + S1x1024x2816.size a ≤ S8x2816x2816.size a) ∧
  (∀ (hinb : ∀ a, (k0_off116 v324) a + S1x1024x2816.size a ≤ S8x2816x2816.size a), (Rect.unit (s := S8x2816x2816) (k0_off116 v324) S1x1024x2816.size hinb).WholeWords (EltTy.packing .i8)) ∧
  (∀ a, (k0_off120 v324) a + S1x768x2816.size a ≤ S8x2816x2816.size a) ∧
  (∀ (hinb : ∀ a, (k0_off120 v324) a + S1x768x2816.size a ≤ S8x2816x2816.size a), (Rect.unit (s := S8x2816x2816) (k0_off120 v324) S1x768x2816.size hinb).WholeWords (EltTy.packing .i8))
theorem k0_off112_inb : ∀ (v324 : BitVec 32) (k0_hw15 : k0_chk15 v324), ∀ a, (k0_off112 v324) a + S1x1024x2816.size a ≤ S8x2816x2816.size a := fun v324 k0_hw15 => k0_hw15.1
theorem k0_off112_wordsi8 : ∀ (v324 : BitVec 32) (k0_hw15 : k0_chk15 v324), (Rect.unit (s := S8x2816x2816) (k0_off112 v324) S1x1024x2816.size (k0_off112_inb v324 k0_hw15)).WholeWords (EltTy.packing .i8) := fun v324 k0_hw15 => k0_hw15.2.1 (k0_off112_inb v324 k0_hw15)
theorem k0_off116_inb : ∀ (v324 : BitVec 32) (k0_hw15 : k0_chk15 v324), ∀ a, (k0_off116 v324) a + S1x1024x2816.size a ≤ S8x2816x2816.size a := fun v324 k0_hw15 => k0_hw15.2.2.1
theorem k0_off116_wordsi8 : ∀ (v324 : BitVec 32) (k0_hw15 : k0_chk15 v324), (Rect.unit (s := S8x2816x2816) (k0_off116 v324) S1x1024x2816.size (k0_off116_inb v324 k0_hw15)).WholeWords (EltTy.packing .i8) := fun v324 k0_hw15 => k0_hw15.2.2.2.1 (k0_off116_inb v324 k0_hw15)
theorem k0_off120_inb : ∀ (v324 : BitVec 32) (k0_hw15 : k0_chk15 v324), ∀ a, (k0_off120 v324) a + S1x768x2816.size a ≤ S8x2816x2816.size a := fun v324 k0_hw15 => k0_hw15.2.2.2.2.1
theorem k0_off120_wordsi8 : ∀ (v324 : BitVec 32) (k0_hw15 : k0_chk15 v324), (Rect.unit (s := S8x2816x2816) (k0_off120 v324) S1x768x2816.size (k0_off120_inb v324 k0_hw15)).WholeWords (EltTy.packing .i8) := fun v324 k0_hw15 => k0_hw15.2.2.2.2.2 (k0_off120_inb v324 k0_hw15)

def k0_off121 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t2 : Fin (k0_t2_loop v0 v3 v6 v9 v12 v15 v18 v21 v24 v27 v30 v33 v36 v39 v42 v45 v48 v51).trips) : Fin 3 → Nat :=
  let c0_i32_200 : BitVec 32 := 0#32
  let c0_i32_49 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c0_i32_44 : BitVec 32 := 0#32
  let v54 : BitVec 32 := Scalar.shrui v53 c0_i32_44
  let c1_i32_45 : BitVec 32 := 1#32
  let v55 : BitVec 32 := Scalar.andi v54 c1_i32_45
  let v59 : BitVec 32 := Scalar.addi c0_i32_49 v55
  let c1_i32_50 : BitVec 32 := 1#32
  let v60 : BitVec 32 := Scalar.shrui v53 c1_i32_50
  let c1_i32_51 : BitVec 32 := 1#32
  let v61 : BitVec 32 := Scalar.andi v60 c1_i32_51
  let v65 : BitVec 32 := Scalar.addi v59 v61
  let c2_i32 : BitVec 32 := 2#32
  let v66 : BitVec 32 := Scalar.shrui v53 c2_i32
  let c1_i32_54 : BitVec 32 := 1#32
  let v67 : BitVec 32 := Scalar.andi v66 c1_i32_54
  let v71 : BitVec 32 := Scalar.addi v65 v67
  let c3_i32 : BitVec 32 := 3#32
  let v72 : BitVec 32 := Scalar.shrui v53 c3_i32
  let c1_i32_57 : BitVec 32 := 1#32
  let v73 : BitVec 32 := Scalar.andi v72 c1_i32_57
  let v77 : BitVec 32 := Scalar.addi v71 v73
  let c4_i32 : BitVec 32 := 4#32
  let v78 : BitVec 32 := Scalar.shrui v53 c4_i32
  let c1_i32_60 : BitVec 32 := 1#32
  let v79 : BitVec 32 := Scalar.andi v78 c1_i32_60
  let v83 : BitVec 32 := Scalar.addi v77 v79
  let c5_i32 : BitVec 32 := 5#32
  let v84 : BitVec 32 := Scalar.shrui v53 c5_i32
  let c1_i32_63 : BitVec 32 := 1#32
  let v85 : BitVec 32 := Scalar.andi v84 c1_i32_63
  let v89 : BitVec 32 := Scalar.addi v83 v85
  let c6_i32 : BitVec 32 := 6#32
  let v90 : BitVec 32 := Scalar.shrui v53 c6_i32
  let c1_i32_66 : BitVec 32 := 1#32
  let v91 : BitVec 32 := Scalar.andi v90 c1_i32_66
  let v95 : BitVec 32 := Scalar.addi v89 v91
  let c7_i32 : BitVec 32 := 7#32
  let v96 : BitVec 32 := Scalar.shrui v53 c7_i32
  let c1_i32_69 : BitVec 32 := 1#32
  let v97 : BitVec 32 := Scalar.andi v96 c1_i32_69
  let v101 : BitVec 32 := Scalar.addi v95 v97
  let v312 : BitVec 32 := Scalar.subi v101 c0_i32_200
  let c1_i32_201 : BitVec 32 := 1#32
  let v314 : BitVec 32 := Scalar.divsi v312 c1_i32_201
  let v315 : BitVec 32 := Scalar.muli v314 c1_i32_201
  let v316 : BitVec 32 := Scalar.addi c0_i32_200 v315
  let c1_i32_203 : BitVec 32 := 1#32
  let arg15 : BitVec 32 := Scf.iv v316 c1_i32_203 k0_t2
  let c4_i32_208 : BitVec 32 := 4#32
  let v322 : BitVec 32 := Scalar.remsi arg15 c4_i32_208
  let v358 : Index := Scalar.indexCast v322
  let c2048_233 : Index := 2048#32
  let c0_234 : Index := 0#32
  ![v358.toNat, 2048, 0]
def k0_off122 (v321 : BitVec 32) : Fin 2 → Nat :=
  let v364 : Index := Scalar.indexCast v321
  let c0_236 : Index := 0#32
  ![v364.toNat, 0]

def k0_off123 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t2 : Fin (k0_t2_loop v0 v3 v6 v9 v12 v15 v18 v21 v24 v27 v30 v33 v36 v39 v42 v45 v48 v51).trips) : Fin 1 → Nat :=
  let c0_i32_200 : BitVec 32 := 0#32
  let c0_i32_49 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c0_i32_44 : BitVec 32 := 0#32
  let v54 : BitVec 32 := Scalar.shrui v53 c0_i32_44
  let c1_i32_45 : BitVec 32 := 1#32
  let v55 : BitVec 32 := Scalar.andi v54 c1_i32_45
  let v59 : BitVec 32 := Scalar.addi c0_i32_49 v55
  let c1_i32_50 : BitVec 32 := 1#32
  let v60 : BitVec 32 := Scalar.shrui v53 c1_i32_50
  let c1_i32_51 : BitVec 32 := 1#32
  let v61 : BitVec 32 := Scalar.andi v60 c1_i32_51
  let v65 : BitVec 32 := Scalar.addi v59 v61
  let c2_i32 : BitVec 32 := 2#32
  let v66 : BitVec 32 := Scalar.shrui v53 c2_i32
  let c1_i32_54 : BitVec 32 := 1#32
  let v67 : BitVec 32 := Scalar.andi v66 c1_i32_54
  let v71 : BitVec 32 := Scalar.addi v65 v67
  let c3_i32 : BitVec 32 := 3#32
  let v72 : BitVec 32 := Scalar.shrui v53 c3_i32
  let c1_i32_57 : BitVec 32 := 1#32
  let v73 : BitVec 32 := Scalar.andi v72 c1_i32_57
  let v77 : BitVec 32 := Scalar.addi v71 v73
  let c4_i32 : BitVec 32 := 4#32
  let v78 : BitVec 32 := Scalar.shrui v53 c4_i32
  let c1_i32_60 : BitVec 32 := 1#32
  let v79 : BitVec 32 := Scalar.andi v78 c1_i32_60
  let v83 : BitVec 32 := Scalar.addi v77 v79
  let c5_i32 : BitVec 32 := 5#32
  let v84 : BitVec 32 := Scalar.shrui v53 c5_i32
  let c1_i32_63 : BitVec 32 := 1#32
  let v85 : BitVec 32 := Scalar.andi v84 c1_i32_63
  let v89 : BitVec 32 := Scalar.addi v83 v85
  let c6_i32 : BitVec 32 := 6#32
  let v90 : BitVec 32 := Scalar.shrui v53 c6_i32
  let c1_i32_66 : BitVec 32 := 1#32
  let v91 : BitVec 32 := Scalar.andi v90 c1_i32_66
  let v95 : BitVec 32 := Scalar.addi v89 v91
  let c7_i32 : BitVec 32 := 7#32
  let v96 : BitVec 32 := Scalar.shrui v53 c7_i32
  let c1_i32_69 : BitVec 32 := 1#32
  let v97 : BitVec 32 := Scalar.andi v96 c1_i32_69
  let v101 : BitVec 32 := Scalar.addi v95 v97
  let v312 : BitVec 32 := Scalar.subi v101 c0_i32_200
  let c1_i32_201 : BitVec 32 := 1#32
  let v314 : BitVec 32 := Scalar.divsi v312 c1_i32_201
  let v315 : BitVec 32 := Scalar.muli v314 c1_i32_201
  let v316 : BitVec 32 := Scalar.addi c0_i32_200 v315
  let c1_i32_203 : BitVec 32 := 1#32
  let arg15 : BitVec 32 := Scf.iv v316 c1_i32_203 k0_t2
  let v374 : Index := Scalar.indexCast arg15
  ![v374.toNat]
def k0_off124 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t2 : Fin (k0_t2_loop v0 v3 v6 v9 v12 v15 v18 v21 v24 v27 v30 v33 v36 v39 v42 v45 v48 v51).trips) : Fin 2 → Nat :=
  let c0_i32_200 : BitVec 32 := 0#32
  let c0_i32_49 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c0_i32_44 : BitVec 32 := 0#32
  let v54 : BitVec 32 := Scalar.shrui v53 c0_i32_44
  let c1_i32_45 : BitVec 32 := 1#32
  let v55 : BitVec 32 := Scalar.andi v54 c1_i32_45
  let v59 : BitVec 32 := Scalar.addi c0_i32_49 v55
  let c1_i32_50 : BitVec 32 := 1#32
  let v60 : BitVec 32 := Scalar.shrui v53 c1_i32_50
  let c1_i32_51 : BitVec 32 := 1#32
  let v61 : BitVec 32 := Scalar.andi v60 c1_i32_51
  let v65 : BitVec 32 := Scalar.addi v59 v61
  let c2_i32 : BitVec 32 := 2#32
  let v66 : BitVec 32 := Scalar.shrui v53 c2_i32
  let c1_i32_54 : BitVec 32 := 1#32
  let v67 : BitVec 32 := Scalar.andi v66 c1_i32_54
  let v71 : BitVec 32 := Scalar.addi v65 v67
  let c3_i32 : BitVec 32 := 3#32
  let v72 : BitVec 32 := Scalar.shrui v53 c3_i32
  let c1_i32_57 : BitVec 32 := 1#32
  let v73 : BitVec 32 := Scalar.andi v72 c1_i32_57
  let v77 : BitVec 32 := Scalar.addi v71 v73
  let c4_i32 : BitVec 32 := 4#32
  let v78 : BitVec 32 := Scalar.shrui v53 c4_i32
  let c1_i32_60 : BitVec 32 := 1#32
  let v79 : BitVec 32 := Scalar.andi v78 c1_i32_60
  let v83 : BitVec 32 := Scalar.addi v77 v79
  let c5_i32 : BitVec 32 := 5#32
  let v84 : BitVec 32 := Scalar.shrui v53 c5_i32
  let c1_i32_63 : BitVec 32 := 1#32
  let v85 : BitVec 32 := Scalar.andi v84 c1_i32_63
  let v89 : BitVec 32 := Scalar.addi v83 v85
  let c6_i32 : BitVec 32 := 6#32
  let v90 : BitVec 32 := Scalar.shrui v53 c6_i32
  let c1_i32_66 : BitVec 32 := 1#32
  let v91 : BitVec 32 := Scalar.andi v90 c1_i32_66
  let v95 : BitVec 32 := Scalar.addi v89 v91
  let c7_i32 : BitVec 32 := 7#32
  let v96 : BitVec 32 := Scalar.shrui v53 c7_i32
  let c1_i32_69 : BitVec 32 := 1#32
  let v97 : BitVec 32 := Scalar.andi v96 c1_i32_69
  let v101 : BitVec 32 := Scalar.addi v95 v97
  let v312 : BitVec 32 := Scalar.subi v101 c0_i32_200
  let c1_i32_201 : BitVec 32 := 1#32
  let v314 : BitVec 32 := Scalar.divsi v312 c1_i32_201
  let v315 : BitVec 32 := Scalar.muli v314 c1_i32_201
  let v316 : BitVec 32 := Scalar.addi c0_i32_200 v315
  let c1_i32_203 : BitVec 32 := 1#32
  let arg15 : BitVec 32 := Scf.iv v316 c1_i32_203 k0_t2
  let c4_i32_237 : BitVec 32 := 4#32
  let v376 : BitVec 32 := Scalar.remsi arg15 c4_i32_237
  let c0_i32_238 : BitVec 32 := 0#32
  ![v376.toNat, 0]
def k0_off125 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t2 : Fin (k0_t2_loop v0 v3 v6 v9 v12 v15 v18 v21 v24 v27 v30 v33 v36 v39 v42 v45 v48 v51).trips) : Fin 3 → Nat :=
  let c0_i32_200 : BitVec 32 := 0#32
  let c0_i32_49 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c0_i32_44 : BitVec 32 := 0#32
  let v54 : BitVec 32 := Scalar.shrui v53 c0_i32_44
  let c1_i32_45 : BitVec 32 := 1#32
  let v55 : BitVec 32 := Scalar.andi v54 c1_i32_45
  let v59 : BitVec 32 := Scalar.addi c0_i32_49 v55
  let c1_i32_50 : BitVec 32 := 1#32
  let v60 : BitVec 32 := Scalar.shrui v53 c1_i32_50
  let c1_i32_51 : BitVec 32 := 1#32
  let v61 : BitVec 32 := Scalar.andi v60 c1_i32_51
  let v65 : BitVec 32 := Scalar.addi v59 v61
  let c2_i32 : BitVec 32 := 2#32
  let v66 : BitVec 32 := Scalar.shrui v53 c2_i32
  let c1_i32_54 : BitVec 32 := 1#32
  let v67 : BitVec 32 := Scalar.andi v66 c1_i32_54
  let v71 : BitVec 32 := Scalar.addi v65 v67
  let c3_i32 : BitVec 32 := 3#32
  let v72 : BitVec 32 := Scalar.shrui v53 c3_i32
  let c1_i32_57 : BitVec 32 := 1#32
  let v73 : BitVec 32 := Scalar.andi v72 c1_i32_57
  let v77 : BitVec 32 := Scalar.addi v71 v73
  let c4_i32 : BitVec 32 := 4#32
  let v78 : BitVec 32 := Scalar.shrui v53 c4_i32
  let c1_i32_60 : BitVec 32 := 1#32
  let v79 : BitVec 32 := Scalar.andi v78 c1_i32_60
  let v83 : BitVec 32 := Scalar.addi v77 v79
  let c5_i32 : BitVec 32 := 5#32
  let v84 : BitVec 32 := Scalar.shrui v53 c5_i32
  let c1_i32_63 : BitVec 32 := 1#32
  let v85 : BitVec 32 := Scalar.andi v84 c1_i32_63
  let v89 : BitVec 32 := Scalar.addi v83 v85
  let c6_i32 : BitVec 32 := 6#32
  let v90 : BitVec 32 := Scalar.shrui v53 c6_i32
  let c1_i32_66 : BitVec 32 := 1#32
  let v91 : BitVec 32 := Scalar.andi v90 c1_i32_66
  let v95 : BitVec 32 := Scalar.addi v89 v91
  let c7_i32 : BitVec 32 := 7#32
  let v96 : BitVec 32 := Scalar.shrui v53 c7_i32
  let c1_i32_69 : BitVec 32 := 1#32
  let v97 : BitVec 32 := Scalar.andi v96 c1_i32_69
  let v101 : BitVec 32 := Scalar.addi v95 v97
  let v312 : BitVec 32 := Scalar.subi v101 c0_i32_200
  let c1_i32_201 : BitVec 32 := 1#32
  let v314 : BitVec 32 := Scalar.divsi v312 c1_i32_201
  let v315 : BitVec 32 := Scalar.muli v314 c1_i32_201
  let v316 : BitVec 32 := Scalar.addi c0_i32_200 v315
  let c1_i32_203 : BitVec 32 := 1#32
  let arg15 : BitVec 32 := Scf.iv v316 c1_i32_203 k0_t2
  let c4_i32_237 : BitVec 32 := 4#32
  let v376 : BitVec 32 := Scalar.remsi arg15 c4_i32_237
  let c0_i32_239 : BitVec 32 := 0#32
  let c0_i32_240 : BitVec 32 := 0#32
  ![v376.toNat, 0, 0]
def k0_off126 (v375 : BitVec 32) : Fin 3 → Nat :=
  let c0_i32_241 : BitVec 32 := 0#32
  let c0_i32_242 : BitVec 32 := 0#32
  ![v375.toNat, 0, 0]

def k0_off127 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t2 : Fin (k0_t2_loop v0 v3 v6 v9 v12 v15 v18 v21 v24 v27 v30 v33 v36 v39 v42 v45 v48 v51).trips) : Fin 3 → Nat :=
  let c0_i32_200 : BitVec 32 := 0#32
  let c0_i32_49 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c0_i32_44 : BitVec 32 := 0#32
  let v54 : BitVec 32 := Scalar.shrui v53 c0_i32_44
  let c1_i32_45 : BitVec 32 := 1#32
  let v55 : BitVec 32 := Scalar.andi v54 c1_i32_45
  let v59 : BitVec 32 := Scalar.addi c0_i32_49 v55
  let c1_i32_50 : BitVec 32 := 1#32
  let v60 : BitVec 32 := Scalar.shrui v53 c1_i32_50
  let c1_i32_51 : BitVec 32 := 1#32
  let v61 : BitVec 32 := Scalar.andi v60 c1_i32_51
  let v65 : BitVec 32 := Scalar.addi v59 v61
  let c2_i32 : BitVec 32 := 2#32
  let v66 : BitVec 32 := Scalar.shrui v53 c2_i32
  let c1_i32_54 : BitVec 32 := 1#32
  let v67 : BitVec 32 := Scalar.andi v66 c1_i32_54
  let v71 : BitVec 32 := Scalar.addi v65 v67
  let c3_i32 : BitVec 32 := 3#32
  let v72 : BitVec 32 := Scalar.shrui v53 c3_i32
  let c1_i32_57 : BitVec 32 := 1#32
  let v73 : BitVec 32 := Scalar.andi v72 c1_i32_57
  let v77 : BitVec 32 := Scalar.addi v71 v73
  let c4_i32 : BitVec 32 := 4#32
  let v78 : BitVec 32 := Scalar.shrui v53 c4_i32
  let c1_i32_60 : BitVec 32 := 1#32
  let v79 : BitVec 32 := Scalar.andi v78 c1_i32_60
  let v83 : BitVec 32 := Scalar.addi v77 v79
  let c5_i32 : BitVec 32 := 5#32
  let v84 : BitVec 32 := Scalar.shrui v53 c5_i32
  let c1_i32_63 : BitVec 32 := 1#32
  let v85 : BitVec 32 := Scalar.andi v84 c1_i32_63
  let v89 : BitVec 32 := Scalar.addi v83 v85
  let c6_i32 : BitVec 32 := 6#32
  let v90 : BitVec 32 := Scalar.shrui v53 c6_i32
  let c1_i32_66 : BitVec 32 := 1#32
  let v91 : BitVec 32 := Scalar.andi v90 c1_i32_66
  let v95 : BitVec 32 := Scalar.addi v89 v91
  let c7_i32 : BitVec 32 := 7#32
  let v96 : BitVec 32 := Scalar.shrui v53 c7_i32
  let c1_i32_69 : BitVec 32 := 1#32
  let v97 : BitVec 32 := Scalar.andi v96 c1_i32_69
  let v101 : BitVec 32 := Scalar.addi v95 v97
  let v312 : BitVec 32 := Scalar.subi v101 c0_i32_200
  let c1_i32_201 : BitVec 32 := 1#32
  let v314 : BitVec 32 := Scalar.divsi v312 c1_i32_201
  let v315 : BitVec 32 := Scalar.muli v314 c1_i32_201
  let v316 : BitVec 32 := Scalar.addi c0_i32_200 v315
  let c1_i32_203 : BitVec 32 := 1#32
  let arg15 : BitVec 32 := Scf.iv v316 c1_i32_203 k0_t2
  let c4_i32_208 : BitVec 32 := 4#32
  let v322 : BitVec 32 := Scalar.remsi arg15 c4_i32_208
  let v384 : Index := Scalar.indexCast v322
  let c0_243 : Index := 0#32
  let c0_244 : Index := 0#32
  ![v384.toNat, 0, 0]
def k0_off128 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t2 : Fin (k0_t2_loop v0 v3 v6 v9 v12 v15 v18 v21 v24 v27 v30 v33 v36 v39 v42 v45 v48 v51).trips) : Fin 2 → Nat :=
  let c0_i32_200 : BitVec 32 := 0#32
  let c0_i32_49 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c0_i32_44 : BitVec 32 := 0#32
  let v54 : BitVec 32 := Scalar.shrui v53 c0_i32_44
  let c1_i32_45 : BitVec 32 := 1#32
  let v55 : BitVec 32 := Scalar.andi v54 c1_i32_45
  let v59 : BitVec 32 := Scalar.addi c0_i32_49 v55
  let c1_i32_50 : BitVec 32 := 1#32
  let v60 : BitVec 32 := Scalar.shrui v53 c1_i32_50
  let c1_i32_51 : BitVec 32 := 1#32
  let v61 : BitVec 32 := Scalar.andi v60 c1_i32_51
  let v65 : BitVec 32 := Scalar.addi v59 v61
  let c2_i32 : BitVec 32 := 2#32
  let v66 : BitVec 32 := Scalar.shrui v53 c2_i32
  let c1_i32_54 : BitVec 32 := 1#32
  let v67 : BitVec 32 := Scalar.andi v66 c1_i32_54
  let v71 : BitVec 32 := Scalar.addi v65 v67
  let c3_i32 : BitVec 32 := 3#32
  let v72 : BitVec 32 := Scalar.shrui v53 c3_i32
  let c1_i32_57 : BitVec 32 := 1#32
  let v73 : BitVec 32 := Scalar.andi v72 c1_i32_57
  let v77 : BitVec 32 := Scalar.addi v71 v73
  let c4_i32 : BitVec 32 := 4#32
  let v78 : BitVec 32 := Scalar.shrui v53 c4_i32
  let c1_i32_60 : BitVec 32 := 1#32
  let v79 : BitVec 32 := Scalar.andi v78 c1_i32_60
  let v83 : BitVec 32 := Scalar.addi v77 v79
  let c5_i32 : BitVec 32 := 5#32
  let v84 : BitVec 32 := Scalar.shrui v53 c5_i32
  let c1_i32_63 : BitVec 32 := 1#32
  let v85 : BitVec 32 := Scalar.andi v84 c1_i32_63
  let v89 : BitVec 32 := Scalar.addi v83 v85
  let c6_i32 : BitVec 32 := 6#32
  let v90 : BitVec 32 := Scalar.shrui v53 c6_i32
  let c1_i32_66 : BitVec 32 := 1#32
  let v91 : BitVec 32 := Scalar.andi v90 c1_i32_66
  let v95 : BitVec 32 := Scalar.addi v89 v91
  let c7_i32 : BitVec 32 := 7#32
  let v96 : BitVec 32 := Scalar.shrui v53 c7_i32
  let c1_i32_69 : BitVec 32 := 1#32
  let v97 : BitVec 32 := Scalar.andi v96 c1_i32_69
  let v101 : BitVec 32 := Scalar.addi v95 v97
  let v312 : BitVec 32 := Scalar.subi v101 c0_i32_200
  let c1_i32_201 : BitVec 32 := 1#32
  let v314 : BitVec 32 := Scalar.divsi v312 c1_i32_201
  let v315 : BitVec 32 := Scalar.muli v314 c1_i32_201
  let v316 : BitVec 32 := Scalar.addi c0_i32_200 v315
  let c1_i32_203 : BitVec 32 := 1#32
  let arg15 : BitVec 32 := Scf.iv v316 c1_i32_203 k0_t2
  let c4_i32_237 : BitVec 32 := 4#32
  let v376 : BitVec 32 := Scalar.remsi arg15 c4_i32_237
  let c1_i32_246 : BitVec 32 := 1#32
  ![v376.toNat, 1]
def k0_off129 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t2 : Fin (k0_t2_loop v0 v3 v6 v9 v12 v15 v18 v21 v24 v27 v30 v33 v36 v39 v42 v45 v48 v51).trips) : Fin 3 → Nat :=
  let c0_i32_200 : BitVec 32 := 0#32
  let c0_i32_49 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c0_i32_44 : BitVec 32 := 0#32
  let v54 : BitVec 32 := Scalar.shrui v53 c0_i32_44
  let c1_i32_45 : BitVec 32 := 1#32
  let v55 : BitVec 32 := Scalar.andi v54 c1_i32_45
  let v59 : BitVec 32 := Scalar.addi c0_i32_49 v55
  let c1_i32_50 : BitVec 32 := 1#32
  let v60 : BitVec 32 := Scalar.shrui v53 c1_i32_50
  let c1_i32_51 : BitVec 32 := 1#32
  let v61 : BitVec 32 := Scalar.andi v60 c1_i32_51
  let v65 : BitVec 32 := Scalar.addi v59 v61
  let c2_i32 : BitVec 32 := 2#32
  let v66 : BitVec 32 := Scalar.shrui v53 c2_i32
  let c1_i32_54 : BitVec 32 := 1#32
  let v67 : BitVec 32 := Scalar.andi v66 c1_i32_54
  let v71 : BitVec 32 := Scalar.addi v65 v67
  let c3_i32 : BitVec 32 := 3#32
  let v72 : BitVec 32 := Scalar.shrui v53 c3_i32
  let c1_i32_57 : BitVec 32 := 1#32
  let v73 : BitVec 32 := Scalar.andi v72 c1_i32_57
  let v77 : BitVec 32 := Scalar.addi v71 v73
  let c4_i32 : BitVec 32 := 4#32
  let v78 : BitVec 32 := Scalar.shrui v53 c4_i32
  let c1_i32_60 : BitVec 32 := 1#32
  let v79 : BitVec 32 := Scalar.andi v78 c1_i32_60
  let v83 : BitVec 32 := Scalar.addi v77 v79
  let c5_i32 : BitVec 32 := 5#32
  let v84 : BitVec 32 := Scalar.shrui v53 c5_i32
  let c1_i32_63 : BitVec 32 := 1#32
  let v85 : BitVec 32 := Scalar.andi v84 c1_i32_63
  let v89 : BitVec 32 := Scalar.addi v83 v85
  let c6_i32 : BitVec 32 := 6#32
  let v90 : BitVec 32 := Scalar.shrui v53 c6_i32
  let c1_i32_66 : BitVec 32 := 1#32
  let v91 : BitVec 32 := Scalar.andi v90 c1_i32_66
  let v95 : BitVec 32 := Scalar.addi v89 v91
  let c7_i32 : BitVec 32 := 7#32
  let v96 : BitVec 32 := Scalar.shrui v53 c7_i32
  let c1_i32_69 : BitVec 32 := 1#32
  let v97 : BitVec 32 := Scalar.andi v96 c1_i32_69
  let v101 : BitVec 32 := Scalar.addi v95 v97
  let v312 : BitVec 32 := Scalar.subi v101 c0_i32_200
  let c1_i32_201 : BitVec 32 := 1#32
  let v314 : BitVec 32 := Scalar.divsi v312 c1_i32_201
  let v315 : BitVec 32 := Scalar.muli v314 c1_i32_201
  let v316 : BitVec 32 := Scalar.addi c0_i32_200 v315
  let c1_i32_203 : BitVec 32 := 1#32
  let arg15 : BitVec 32 := Scf.iv v316 c1_i32_203 k0_t2
  let c4_i32_237 : BitVec 32 := 4#32
  let v376 : BitVec 32 := Scalar.remsi arg15 c4_i32_237
  let c1024_i32_247 : BitVec 32 := 1024#32
  let c0_i32_248 : BitVec 32 := 0#32
  ![v376.toNat, 1024, 0]
def k0_off130 (v375 : BitVec 32) : Fin 3 → Nat :=
  let c1024_i32_249 : BitVec 32 := 1024#32
  let c0_i32_250 : BitVec 32 := 0#32
  ![v375.toNat, 1024, 0]

def k0_chk17 (v375 : BitVec 32) : Prop :=
  (∀ a, (k0_off126 v375) a + S1x1024x2816.size a ≤ S8x1408x2816.size a) ∧
  (∀ (hinb : ∀ a, (k0_off126 v375) a + S1x1024x2816.size a ≤ S8x1408x2816.size a), (Rect.unit (s := S8x1408x2816) (k0_off126 v375) S1x1024x2816.size hinb).WholeWords (EltTy.packing .i8)) ∧
  (∀ a, (k0_off130 v375) a + S1x384x2816.size a ≤ S8x1408x2816.size a) ∧
  (∀ (hinb : ∀ a, (k0_off130 v375) a + S1x384x2816.size a ≤ S8x1408x2816.size a), (Rect.unit (s := S8x1408x2816) (k0_off130 v375) S1x384x2816.size hinb).WholeWords (EltTy.packing .i8))
theorem k0_off126_inb : ∀ (v375 : BitVec 32) (k0_hw17 : k0_chk17 v375), ∀ a, (k0_off126 v375) a + S1x1024x2816.size a ≤ S8x1408x2816.size a := fun v375 k0_hw17 => k0_hw17.1
theorem k0_off126_wordsi8 : ∀ (v375 : BitVec 32) (k0_hw17 : k0_chk17 v375), (Rect.unit (s := S8x1408x2816) (k0_off126 v375) S1x1024x2816.size (k0_off126_inb v375 k0_hw17)).WholeWords (EltTy.packing .i8) := fun v375 k0_hw17 => k0_hw17.2.1 (k0_off126_inb v375 k0_hw17)
theorem k0_off130_inb : ∀ (v375 : BitVec 32) (k0_hw17 : k0_chk17 v375), ∀ a, (k0_off130 v375) a + S1x384x2816.size a ≤ S8x1408x2816.size a := fun v375 k0_hw17 => k0_hw17.2.2.1
theorem k0_off130_wordsi8 : ∀ (v375 : BitVec 32) (k0_hw17 : k0_chk17 v375), (Rect.unit (s := S8x1408x2816) (k0_off130 v375) S1x384x2816.size (k0_off130_inb v375 k0_hw17)).WholeWords (EltTy.packing .i8) := fun v375 k0_hw17 => k0_hw17.2.2.2 (k0_off130_inb v375 k0_hw17)

def k0_off131 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t2 : Fin (k0_t2_loop v0 v3 v6 v9 v12 v15 v18 v21 v24 v27 v30 v33 v36 v39 v42 v45 v48 v51).trips) : Fin 3 → Nat :=
  let c0_i32_200 : BitVec 32 := 0#32
  let c0_i32_49 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c0_i32_44 : BitVec 32 := 0#32
  let v54 : BitVec 32 := Scalar.shrui v53 c0_i32_44
  let c1_i32_45 : BitVec 32 := 1#32
  let v55 : BitVec 32 := Scalar.andi v54 c1_i32_45
  let v59 : BitVec 32 := Scalar.addi c0_i32_49 v55
  let c1_i32_50 : BitVec 32 := 1#32
  let v60 : BitVec 32 := Scalar.shrui v53 c1_i32_50
  let c1_i32_51 : BitVec 32 := 1#32
  let v61 : BitVec 32 := Scalar.andi v60 c1_i32_51
  let v65 : BitVec 32 := Scalar.addi v59 v61
  let c2_i32 : BitVec 32 := 2#32
  let v66 : BitVec 32 := Scalar.shrui v53 c2_i32
  let c1_i32_54 : BitVec 32 := 1#32
  let v67 : BitVec 32 := Scalar.andi v66 c1_i32_54
  let v71 : BitVec 32 := Scalar.addi v65 v67
  let c3_i32 : BitVec 32 := 3#32
  let v72 : BitVec 32 := Scalar.shrui v53 c3_i32
  let c1_i32_57 : BitVec 32 := 1#32
  let v73 : BitVec 32 := Scalar.andi v72 c1_i32_57
  let v77 : BitVec 32 := Scalar.addi v71 v73
  let c4_i32 : BitVec 32 := 4#32
  let v78 : BitVec 32 := Scalar.shrui v53 c4_i32
  let c1_i32_60 : BitVec 32 := 1#32
  let v79 : BitVec 32 := Scalar.andi v78 c1_i32_60
  let v83 : BitVec 32 := Scalar.addi v77 v79
  let c5_i32 : BitVec 32 := 5#32
  let v84 : BitVec 32 := Scalar.shrui v53 c5_i32
  let c1_i32_63 : BitVec 32 := 1#32
  let v85 : BitVec 32 := Scalar.andi v84 c1_i32_63
  let v89 : BitVec 32 := Scalar.addi v83 v85
  let c6_i32 : BitVec 32 := 6#32
  let v90 : BitVec 32 := Scalar.shrui v53 c6_i32
  let c1_i32_66 : BitVec 32 := 1#32
  let v91 : BitVec 32 := Scalar.andi v90 c1_i32_66
  let v95 : BitVec 32 := Scalar.addi v89 v91
  let c7_i32 : BitVec 32 := 7#32
  let v96 : BitVec 32 := Scalar.shrui v53 c7_i32
  let c1_i32_69 : BitVec 32 := 1#32
  let v97 : BitVec 32 := Scalar.andi v96 c1_i32_69
  let v101 : BitVec 32 := Scalar.addi v95 v97
  let v312 : BitVec 32 := Scalar.subi v101 c0_i32_200
  let c1_i32_201 : BitVec 32 := 1#32
  let v314 : BitVec 32 := Scalar.divsi v312 c1_i32_201
  let v315 : BitVec 32 := Scalar.muli v314 c1_i32_201
  let v316 : BitVec 32 := Scalar.addi c0_i32_200 v315
  let c1_i32_203 : BitVec 32 := 1#32
  let arg15 : BitVec 32 := Scf.iv v316 c1_i32_203 k0_t2
  let c4_i32_208 : BitVec 32 := 4#32
  let v322 : BitVec 32 := Scalar.remsi arg15 c4_i32_208
  let v396 : Index := Scalar.indexCast v322
  let c1024_251 : Index := 1024#32
  let c0_252 : Index := 0#32
  ![v396.toNat, 1024, 0]
def k0_off132 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t2 : Fin (k0_t2_loop v0 v3 v6 v9 v12 v15 v18 v21 v24 v27 v30 v33 v36 v39 v42 v45 v48 v51).trips) : Fin 1 → Nat :=
  let c0_i32_200 : BitVec 32 := 0#32
  let c0_i32_49 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c0_i32_44 : BitVec 32 := 0#32
  let v54 : BitVec 32 := Scalar.shrui v53 c0_i32_44
  let c1_i32_45 : BitVec 32 := 1#32
  let v55 : BitVec 32 := Scalar.andi v54 c1_i32_45
  let v59 : BitVec 32 := Scalar.addi c0_i32_49 v55
  let c1_i32_50 : BitVec 32 := 1#32
  let v60 : BitVec 32 := Scalar.shrui v53 c1_i32_50
  let c1_i32_51 : BitVec 32 := 1#32
  let v61 : BitVec 32 := Scalar.andi v60 c1_i32_51
  let v65 : BitVec 32 := Scalar.addi v59 v61
  let c2_i32 : BitVec 32 := 2#32
  let v66 : BitVec 32 := Scalar.shrui v53 c2_i32
  let c1_i32_54 : BitVec 32 := 1#32
  let v67 : BitVec 32 := Scalar.andi v66 c1_i32_54
  let v71 : BitVec 32 := Scalar.addi v65 v67
  let c3_i32 : BitVec 32 := 3#32
  let v72 : BitVec 32 := Scalar.shrui v53 c3_i32
  let c1_i32_57 : BitVec 32 := 1#32
  let v73 : BitVec 32 := Scalar.andi v72 c1_i32_57
  let v77 : BitVec 32 := Scalar.addi v71 v73
  let c4_i32 : BitVec 32 := 4#32
  let v78 : BitVec 32 := Scalar.shrui v53 c4_i32
  let c1_i32_60 : BitVec 32 := 1#32
  let v79 : BitVec 32 := Scalar.andi v78 c1_i32_60
  let v83 : BitVec 32 := Scalar.addi v77 v79
  let c5_i32 : BitVec 32 := 5#32
  let v84 : BitVec 32 := Scalar.shrui v53 c5_i32
  let c1_i32_63 : BitVec 32 := 1#32
  let v85 : BitVec 32 := Scalar.andi v84 c1_i32_63
  let v89 : BitVec 32 := Scalar.addi v83 v85
  let c6_i32 : BitVec 32 := 6#32
  let v90 : BitVec 32 := Scalar.shrui v53 c6_i32
  let c1_i32_66 : BitVec 32 := 1#32
  let v91 : BitVec 32 := Scalar.andi v90 c1_i32_66
  let v95 : BitVec 32 := Scalar.addi v89 v91
  let c7_i32 : BitVec 32 := 7#32
  let v96 : BitVec 32 := Scalar.shrui v53 c7_i32
  let c1_i32_69 : BitVec 32 := 1#32
  let v97 : BitVec 32 := Scalar.andi v96 c1_i32_69
  let v101 : BitVec 32 := Scalar.addi v95 v97
  let v312 : BitVec 32 := Scalar.subi v101 c0_i32_200
  let c1_i32_201 : BitVec 32 := 1#32
  let v314 : BitVec 32 := Scalar.divsi v312 c1_i32_201
  let v315 : BitVec 32 := Scalar.muli v314 c1_i32_201
  let v316 : BitVec 32 := Scalar.addi c0_i32_200 v315
  let c1_i32_203 : BitVec 32 := 1#32
  let arg15 : BitVec 32 := Scf.iv v316 c1_i32_203 k0_t2
  let c4_i32_351 : BitVec 32 := 4#32
  let v624 : BitVec 32 := Scalar.addi arg15 c4_i32_351
  let v625 : Index := Scalar.indexCast v624
  ![v625.toNat]
def k0_cond14 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t2 : Fin (k0_t2_loop v0 v3 v6 v9 v12 v15 v18 v21 v24 v27 v30 v33 v36 v39 v42 v45 v48 v51).trips) : BitVec 1 :=
  let c0_i32_200 : BitVec 32 := 0#32
  let c0_i32_49 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c0_i32_44 : BitVec 32 := 0#32
  let v54 : BitVec 32 := Scalar.shrui v53 c0_i32_44
  let c1_i32_45 : BitVec 32 := 1#32
  let v55 : BitVec 32 := Scalar.andi v54 c1_i32_45
  let v59 : BitVec 32 := Scalar.addi c0_i32_49 v55
  let c1_i32_50 : BitVec 32 := 1#32
  let v60 : BitVec 32 := Scalar.shrui v53 c1_i32_50
  let c1_i32_51 : BitVec 32 := 1#32
  let v61 : BitVec 32 := Scalar.andi v60 c1_i32_51
  let v65 : BitVec 32 := Scalar.addi v59 v61
  let c2_i32 : BitVec 32 := 2#32
  let v66 : BitVec 32 := Scalar.shrui v53 c2_i32
  let c1_i32_54 : BitVec 32 := 1#32
  let v67 : BitVec 32 := Scalar.andi v66 c1_i32_54
  let v71 : BitVec 32 := Scalar.addi v65 v67
  let c3_i32 : BitVec 32 := 3#32
  let v72 : BitVec 32 := Scalar.shrui v53 c3_i32
  let c1_i32_57 : BitVec 32 := 1#32
  let v73 : BitVec 32 := Scalar.andi v72 c1_i32_57
  let v77 : BitVec 32 := Scalar.addi v71 v73
  let c4_i32 : BitVec 32 := 4#32
  let v78 : BitVec 32 := Scalar.shrui v53 c4_i32
  let c1_i32_60 : BitVec 32 := 1#32
  let v79 : BitVec 32 := Scalar.andi v78 c1_i32_60
  let v83 : BitVec 32 := Scalar.addi v77 v79
  let c5_i32 : BitVec 32 := 5#32
  let v84 : BitVec 32 := Scalar.shrui v53 c5_i32
  let c1_i32_63 : BitVec 32 := 1#32
  let v85 : BitVec 32 := Scalar.andi v84 c1_i32_63
  let v89 : BitVec 32 := Scalar.addi v83 v85
  let c6_i32 : BitVec 32 := 6#32
  let v90 : BitVec 32 := Scalar.shrui v53 c6_i32
  let c1_i32_66 : BitVec 32 := 1#32
  let v91 : BitVec 32 := Scalar.andi v90 c1_i32_66
  let v95 : BitVec 32 := Scalar.addi v89 v91
  let c7_i32 : BitVec 32 := 7#32
  let v96 : BitVec 32 := Scalar.shrui v53 c7_i32
  let c1_i32_69 : BitVec 32 := 1#32
  let v97 : BitVec 32 := Scalar.andi v96 c1_i32_69
  let v101 : BitVec 32 := Scalar.addi v95 v97
  let v312 : BitVec 32 := Scalar.subi v101 c0_i32_200
  let c1_i32_201 : BitVec 32 := 1#32
  let v314 : BitVec 32 := Scalar.divsi v312 c1_i32_201
  let v315 : BitVec 32 := Scalar.muli v314 c1_i32_201
  let v316 : BitVec 32 := Scalar.addi c0_i32_200 v315
  let c1_i32_203 : BitVec 32 := 1#32
  let arg15 : BitVec 32 := Scf.iv v316 c1_i32_203 k0_t2
  let c4_i32_254 : BitVec 32 := 4#32
  let v402 : BitVec 32 := Scalar.addi arg15 c4_i32_254
  let v403 : BitVec 1 := Scalar.cmpi .slt v402 v101
  let v404 : BitVec 32 := Scalar.extui v403
  let c0_i32_255 : BitVec 32 := 0#32
  let v405 : BitVec 1 := Scalar.cmpi .ne v404 c0_i32_255
  v405

def k0_off133 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t2 : Fin (k0_t2_loop v0 v3 v6 v9 v12 v15 v18 v21 v24 v27 v30 v33 v36 v39 v42 v45 v48 v51).trips) : Fin 2 → Nat :=
  let c0_i32_200 : BitVec 32 := 0#32
  let c0_i32_49 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c0_i32_44 : BitVec 32 := 0#32
  let v54 : BitVec 32 := Scalar.shrui v53 c0_i32_44
  let c1_i32_45 : BitVec 32 := 1#32
  let v55 : BitVec 32 := Scalar.andi v54 c1_i32_45
  let v59 : BitVec 32 := Scalar.addi c0_i32_49 v55
  let c1_i32_50 : BitVec 32 := 1#32
  let v60 : BitVec 32 := Scalar.shrui v53 c1_i32_50
  let c1_i32_51 : BitVec 32 := 1#32
  let v61 : BitVec 32 := Scalar.andi v60 c1_i32_51
  let v65 : BitVec 32 := Scalar.addi v59 v61
  let c2_i32 : BitVec 32 := 2#32
  let v66 : BitVec 32 := Scalar.shrui v53 c2_i32
  let c1_i32_54 : BitVec 32 := 1#32
  let v67 : BitVec 32 := Scalar.andi v66 c1_i32_54
  let v71 : BitVec 32 := Scalar.addi v65 v67
  let c3_i32 : BitVec 32 := 3#32
  let v72 : BitVec 32 := Scalar.shrui v53 c3_i32
  let c1_i32_57 : BitVec 32 := 1#32
  let v73 : BitVec 32 := Scalar.andi v72 c1_i32_57
  let v77 : BitVec 32 := Scalar.addi v71 v73
  let c4_i32 : BitVec 32 := 4#32
  let v78 : BitVec 32 := Scalar.shrui v53 c4_i32
  let c1_i32_60 : BitVec 32 := 1#32
  let v79 : BitVec 32 := Scalar.andi v78 c1_i32_60
  let v83 : BitVec 32 := Scalar.addi v77 v79
  let c5_i32 : BitVec 32 := 5#32
  let v84 : BitVec 32 := Scalar.shrui v53 c5_i32
  let c1_i32_63 : BitVec 32 := 1#32
  let v85 : BitVec 32 := Scalar.andi v84 c1_i32_63
  let v89 : BitVec 32 := Scalar.addi v83 v85
  let c6_i32 : BitVec 32 := 6#32
  let v90 : BitVec 32 := Scalar.shrui v53 c6_i32
  let c1_i32_66 : BitVec 32 := 1#32
  let v91 : BitVec 32 := Scalar.andi v90 c1_i32_66
  let v95 : BitVec 32 := Scalar.addi v89 v91
  let c7_i32 : BitVec 32 := 7#32
  let v96 : BitVec 32 := Scalar.shrui v53 c7_i32
  let c1_i32_69 : BitVec 32 := 1#32
  let v97 : BitVec 32 := Scalar.andi v96 c1_i32_69
  let v101 : BitVec 32 := Scalar.addi v95 v97
  let v312 : BitVec 32 := Scalar.subi v101 c0_i32_200
  let c1_i32_201 : BitVec 32 := 1#32
  let v314 : BitVec 32 := Scalar.divsi v312 c1_i32_201
  let v315 : BitVec 32 := Scalar.muli v314 c1_i32_201
  let v316 : BitVec 32 := Scalar.addi c0_i32_200 v315
  let c1_i32_203 : BitVec 32 := 1#32
  let arg15 : BitVec 32 := Scf.iv v316 c1_i32_203 k0_t2
  let c4_i32_351 : BitVec 32 := 4#32
  let v624 : BitVec 32 := Scalar.addi arg15 c4_i32_351
  let c4_i32_352 : BitVec 32 := 4#32
  let v627 : BitVec 32 := Scalar.remsi v624 c4_i32_352
  let c0_i32_353 : BitVec 32 := 0#32
  ![v627.toNat, 0]
def k0_off134 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t2 : Fin (k0_t2_loop v0 v3 v6 v9 v12 v15 v18 v21 v24 v27 v30 v33 v36 v39 v42 v45 v48 v51).trips) : Fin 3 → Nat :=
  let c0_i32_200 : BitVec 32 := 0#32
  let c0_i32_49 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c0_i32_44 : BitVec 32 := 0#32
  let v54 : BitVec 32 := Scalar.shrui v53 c0_i32_44
  let c1_i32_45 : BitVec 32 := 1#32
  let v55 : BitVec 32 := Scalar.andi v54 c1_i32_45
  let v59 : BitVec 32 := Scalar.addi c0_i32_49 v55
  let c1_i32_50 : BitVec 32 := 1#32
  let v60 : BitVec 32 := Scalar.shrui v53 c1_i32_50
  let c1_i32_51 : BitVec 32 := 1#32
  let v61 : BitVec 32 := Scalar.andi v60 c1_i32_51
  let v65 : BitVec 32 := Scalar.addi v59 v61
  let c2_i32 : BitVec 32 := 2#32
  let v66 : BitVec 32 := Scalar.shrui v53 c2_i32
  let c1_i32_54 : BitVec 32 := 1#32
  let v67 : BitVec 32 := Scalar.andi v66 c1_i32_54
  let v71 : BitVec 32 := Scalar.addi v65 v67
  let c3_i32 : BitVec 32 := 3#32
  let v72 : BitVec 32 := Scalar.shrui v53 c3_i32
  let c1_i32_57 : BitVec 32 := 1#32
  let v73 : BitVec 32 := Scalar.andi v72 c1_i32_57
  let v77 : BitVec 32 := Scalar.addi v71 v73
  let c4_i32 : BitVec 32 := 4#32
  let v78 : BitVec 32 := Scalar.shrui v53 c4_i32
  let c1_i32_60 : BitVec 32 := 1#32
  let v79 : BitVec 32 := Scalar.andi v78 c1_i32_60
  let v83 : BitVec 32 := Scalar.addi v77 v79
  let c5_i32 : BitVec 32 := 5#32
  let v84 : BitVec 32 := Scalar.shrui v53 c5_i32
  let c1_i32_63 : BitVec 32 := 1#32
  let v85 : BitVec 32 := Scalar.andi v84 c1_i32_63
  let v89 : BitVec 32 := Scalar.addi v83 v85
  let c6_i32 : BitVec 32 := 6#32
  let v90 : BitVec 32 := Scalar.shrui v53 c6_i32
  let c1_i32_66 : BitVec 32 := 1#32
  let v91 : BitVec 32 := Scalar.andi v90 c1_i32_66
  let v95 : BitVec 32 := Scalar.addi v89 v91
  let c7_i32 : BitVec 32 := 7#32
  let v96 : BitVec 32 := Scalar.shrui v53 c7_i32
  let c1_i32_69 : BitVec 32 := 1#32
  let v97 : BitVec 32 := Scalar.andi v96 c1_i32_69
  let v101 : BitVec 32 := Scalar.addi v95 v97
  let v312 : BitVec 32 := Scalar.subi v101 c0_i32_200
  let c1_i32_201 : BitVec 32 := 1#32
  let v314 : BitVec 32 := Scalar.divsi v312 c1_i32_201
  let v315 : BitVec 32 := Scalar.muli v314 c1_i32_201
  let v316 : BitVec 32 := Scalar.addi c0_i32_200 v315
  let c1_i32_203 : BitVec 32 := 1#32
  let arg15 : BitVec 32 := Scf.iv v316 c1_i32_203 k0_t2
  let c4_i32_351 : BitVec 32 := 4#32
  let v624 : BitVec 32 := Scalar.addi arg15 c4_i32_351
  let c4_i32_352 : BitVec 32 := 4#32
  let v627 : BitVec 32 := Scalar.remsi v624 c4_i32_352
  let c0_i32_354 : BitVec 32 := 0#32
  let c0_i32_355 : BitVec 32 := 0#32
  ![v627.toNat, 0, 0]
def k0_off135 (v626 : BitVec 32) : Fin 3 → Nat :=
  let c0_i32_356 : BitVec 32 := 0#32
  let c0_i32_357 : BitVec 32 := 0#32
  ![v626.toNat, 0, 0]

def k0_off136 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t2 : Fin (k0_t2_loop v0 v3 v6 v9 v12 v15 v18 v21 v24 v27 v30 v33 v36 v39 v42 v45 v48 v51).trips) : Fin 2 → Nat :=
  let c0_i32_200 : BitVec 32 := 0#32
  let c0_i32_49 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c0_i32_44 : BitVec 32 := 0#32
  let v54 : BitVec 32 := Scalar.shrui v53 c0_i32_44
  let c1_i32_45 : BitVec 32 := 1#32
  let v55 : BitVec 32 := Scalar.andi v54 c1_i32_45
  let v59 : BitVec 32 := Scalar.addi c0_i32_49 v55
  let c1_i32_50 : BitVec 32 := 1#32
  let v60 : BitVec 32 := Scalar.shrui v53 c1_i32_50
  let c1_i32_51 : BitVec 32 := 1#32
  let v61 : BitVec 32 := Scalar.andi v60 c1_i32_51
  let v65 : BitVec 32 := Scalar.addi v59 v61
  let c2_i32 : BitVec 32 := 2#32
  let v66 : BitVec 32 := Scalar.shrui v53 c2_i32
  let c1_i32_54 : BitVec 32 := 1#32
  let v67 : BitVec 32 := Scalar.andi v66 c1_i32_54
  let v71 : BitVec 32 := Scalar.addi v65 v67
  let c3_i32 : BitVec 32 := 3#32
  let v72 : BitVec 32 := Scalar.shrui v53 c3_i32
  let c1_i32_57 : BitVec 32 := 1#32
  let v73 : BitVec 32 := Scalar.andi v72 c1_i32_57
  let v77 : BitVec 32 := Scalar.addi v71 v73
  let c4_i32 : BitVec 32 := 4#32
  let v78 : BitVec 32 := Scalar.shrui v53 c4_i32
  let c1_i32_60 : BitVec 32 := 1#32
  let v79 : BitVec 32 := Scalar.andi v78 c1_i32_60
  let v83 : BitVec 32 := Scalar.addi v77 v79
  let c5_i32 : BitVec 32 := 5#32
  let v84 : BitVec 32 := Scalar.shrui v53 c5_i32
  let c1_i32_63 : BitVec 32 := 1#32
  let v85 : BitVec 32 := Scalar.andi v84 c1_i32_63
  let v89 : BitVec 32 := Scalar.addi v83 v85
  let c6_i32 : BitVec 32 := 6#32
  let v90 : BitVec 32 := Scalar.shrui v53 c6_i32
  let c1_i32_66 : BitVec 32 := 1#32
  let v91 : BitVec 32 := Scalar.andi v90 c1_i32_66
  let v95 : BitVec 32 := Scalar.addi v89 v91
  let c7_i32 : BitVec 32 := 7#32
  let v96 : BitVec 32 := Scalar.shrui v53 c7_i32
  let c1_i32_69 : BitVec 32 := 1#32
  let v97 : BitVec 32 := Scalar.andi v96 c1_i32_69
  let v101 : BitVec 32 := Scalar.addi v95 v97
  let v312 : BitVec 32 := Scalar.subi v101 c0_i32_200
  let c1_i32_201 : BitVec 32 := 1#32
  let v314 : BitVec 32 := Scalar.divsi v312 c1_i32_201
  let v315 : BitVec 32 := Scalar.muli v314 c1_i32_201
  let v316 : BitVec 32 := Scalar.addi c0_i32_200 v315
  let c1_i32_203 : BitVec 32 := 1#32
  let arg15 : BitVec 32 := Scf.iv v316 c1_i32_203 k0_t2
  let c4_i32_351 : BitVec 32 := 4#32
  let v624 : BitVec 32 := Scalar.addi arg15 c4_i32_351
  let c4_i32_352 : BitVec 32 := 4#32
  let v627 : BitVec 32 := Scalar.remsi v624 c4_i32_352
  let c1_i32_358 : BitVec 32 := 1#32
  ![v627.toNat, 1]
def k0_off137 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t2 : Fin (k0_t2_loop v0 v3 v6 v9 v12 v15 v18 v21 v24 v27 v30 v33 v36 v39 v42 v45 v48 v51).trips) : Fin 3 → Nat :=
  let c0_i32_200 : BitVec 32 := 0#32
  let c0_i32_49 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c0_i32_44 : BitVec 32 := 0#32
  let v54 : BitVec 32 := Scalar.shrui v53 c0_i32_44
  let c1_i32_45 : BitVec 32 := 1#32
  let v55 : BitVec 32 := Scalar.andi v54 c1_i32_45
  let v59 : BitVec 32 := Scalar.addi c0_i32_49 v55
  let c1_i32_50 : BitVec 32 := 1#32
  let v60 : BitVec 32 := Scalar.shrui v53 c1_i32_50
  let c1_i32_51 : BitVec 32 := 1#32
  let v61 : BitVec 32 := Scalar.andi v60 c1_i32_51
  let v65 : BitVec 32 := Scalar.addi v59 v61
  let c2_i32 : BitVec 32 := 2#32
  let v66 : BitVec 32 := Scalar.shrui v53 c2_i32
  let c1_i32_54 : BitVec 32 := 1#32
  let v67 : BitVec 32 := Scalar.andi v66 c1_i32_54
  let v71 : BitVec 32 := Scalar.addi v65 v67
  let c3_i32 : BitVec 32 := 3#32
  let v72 : BitVec 32 := Scalar.shrui v53 c3_i32
  let c1_i32_57 : BitVec 32 := 1#32
  let v73 : BitVec 32 := Scalar.andi v72 c1_i32_57
  let v77 : BitVec 32 := Scalar.addi v71 v73
  let c4_i32 : BitVec 32 := 4#32
  let v78 : BitVec 32 := Scalar.shrui v53 c4_i32
  let c1_i32_60 : BitVec 32 := 1#32
  let v79 : BitVec 32 := Scalar.andi v78 c1_i32_60
  let v83 : BitVec 32 := Scalar.addi v77 v79
  let c5_i32 : BitVec 32 := 5#32
  let v84 : BitVec 32 := Scalar.shrui v53 c5_i32
  let c1_i32_63 : BitVec 32 := 1#32
  let v85 : BitVec 32 := Scalar.andi v84 c1_i32_63
  let v89 : BitVec 32 := Scalar.addi v83 v85
  let c6_i32 : BitVec 32 := 6#32
  let v90 : BitVec 32 := Scalar.shrui v53 c6_i32
  let c1_i32_66 : BitVec 32 := 1#32
  let v91 : BitVec 32 := Scalar.andi v90 c1_i32_66
  let v95 : BitVec 32 := Scalar.addi v89 v91
  let c7_i32 : BitVec 32 := 7#32
  let v96 : BitVec 32 := Scalar.shrui v53 c7_i32
  let c1_i32_69 : BitVec 32 := 1#32
  let v97 : BitVec 32 := Scalar.andi v96 c1_i32_69
  let v101 : BitVec 32 := Scalar.addi v95 v97
  let v312 : BitVec 32 := Scalar.subi v101 c0_i32_200
  let c1_i32_201 : BitVec 32 := 1#32
  let v314 : BitVec 32 := Scalar.divsi v312 c1_i32_201
  let v315 : BitVec 32 := Scalar.muli v314 c1_i32_201
  let v316 : BitVec 32 := Scalar.addi c0_i32_200 v315
  let c1_i32_203 : BitVec 32 := 1#32
  let arg15 : BitVec 32 := Scf.iv v316 c1_i32_203 k0_t2
  let c4_i32_351 : BitVec 32 := 4#32
  let v624 : BitVec 32 := Scalar.addi arg15 c4_i32_351
  let c4_i32_352 : BitVec 32 := 4#32
  let v627 : BitVec 32 := Scalar.remsi v624 c4_i32_352
  let c1024_i32_359 : BitVec 32 := 1024#32
  let c0_i32_360 : BitVec 32 := 0#32
  ![v627.toNat, 1024, 0]
def k0_off138 (v626 : BitVec 32) : Fin 3 → Nat :=
  let c1024_i32_361 : BitVec 32 := 1024#32
  let c0_i32_362 : BitVec 32 := 0#32
  ![v626.toNat, 1024, 0]
def k0_off139 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t2 : Fin (k0_t2_loop v0 v3 v6 v9 v12 v15 v18 v21 v24 v27 v30 v33 v36 v39 v42 v45 v48 v51).trips) : Fin 2 → Nat :=
  let c0_i32_200 : BitVec 32 := 0#32
  let c0_i32_49 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c0_i32_44 : BitVec 32 := 0#32
  let v54 : BitVec 32 := Scalar.shrui v53 c0_i32_44
  let c1_i32_45 : BitVec 32 := 1#32
  let v55 : BitVec 32 := Scalar.andi v54 c1_i32_45
  let v59 : BitVec 32 := Scalar.addi c0_i32_49 v55
  let c1_i32_50 : BitVec 32 := 1#32
  let v60 : BitVec 32 := Scalar.shrui v53 c1_i32_50
  let c1_i32_51 : BitVec 32 := 1#32
  let v61 : BitVec 32 := Scalar.andi v60 c1_i32_51
  let v65 : BitVec 32 := Scalar.addi v59 v61
  let c2_i32 : BitVec 32 := 2#32
  let v66 : BitVec 32 := Scalar.shrui v53 c2_i32
  let c1_i32_54 : BitVec 32 := 1#32
  let v67 : BitVec 32 := Scalar.andi v66 c1_i32_54
  let v71 : BitVec 32 := Scalar.addi v65 v67
  let c3_i32 : BitVec 32 := 3#32
  let v72 : BitVec 32 := Scalar.shrui v53 c3_i32
  let c1_i32_57 : BitVec 32 := 1#32
  let v73 : BitVec 32 := Scalar.andi v72 c1_i32_57
  let v77 : BitVec 32 := Scalar.addi v71 v73
  let c4_i32 : BitVec 32 := 4#32
  let v78 : BitVec 32 := Scalar.shrui v53 c4_i32
  let c1_i32_60 : BitVec 32 := 1#32
  let v79 : BitVec 32 := Scalar.andi v78 c1_i32_60
  let v83 : BitVec 32 := Scalar.addi v77 v79
  let c5_i32 : BitVec 32 := 5#32
  let v84 : BitVec 32 := Scalar.shrui v53 c5_i32
  let c1_i32_63 : BitVec 32 := 1#32
  let v85 : BitVec 32 := Scalar.andi v84 c1_i32_63
  let v89 : BitVec 32 := Scalar.addi v83 v85
  let c6_i32 : BitVec 32 := 6#32
  let v90 : BitVec 32 := Scalar.shrui v53 c6_i32
  let c1_i32_66 : BitVec 32 := 1#32
  let v91 : BitVec 32 := Scalar.andi v90 c1_i32_66
  let v95 : BitVec 32 := Scalar.addi v89 v91
  let c7_i32 : BitVec 32 := 7#32
  let v96 : BitVec 32 := Scalar.shrui v53 c7_i32
  let c1_i32_69 : BitVec 32 := 1#32
  let v97 : BitVec 32 := Scalar.andi v96 c1_i32_69
  let v101 : BitVec 32 := Scalar.addi v95 v97
  let v312 : BitVec 32 := Scalar.subi v101 c0_i32_200
  let c1_i32_201 : BitVec 32 := 1#32
  let v314 : BitVec 32 := Scalar.divsi v312 c1_i32_201
  let v315 : BitVec 32 := Scalar.muli v314 c1_i32_201
  let v316 : BitVec 32 := Scalar.addi c0_i32_200 v315
  let c1_i32_203 : BitVec 32 := 1#32
  let arg15 : BitVec 32 := Scf.iv v316 c1_i32_203 k0_t2
  let c4_i32_351 : BitVec 32 := 4#32
  let v624 : BitVec 32 := Scalar.addi arg15 c4_i32_351
  let c4_i32_352 : BitVec 32 := 4#32
  let v627 : BitVec 32 := Scalar.remsi v624 c4_i32_352
  let c2_i32_363 : BitVec 32 := 2#32
  ![v627.toNat, 2]
def k0_off140 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t2 : Fin (k0_t2_loop v0 v3 v6 v9 v12 v15 v18 v21 v24 v27 v30 v33 v36 v39 v42 v45 v48 v51).trips) : Fin 3 → Nat :=
  let c0_i32_200 : BitVec 32 := 0#32
  let c0_i32_49 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c0_i32_44 : BitVec 32 := 0#32
  let v54 : BitVec 32 := Scalar.shrui v53 c0_i32_44
  let c1_i32_45 : BitVec 32 := 1#32
  let v55 : BitVec 32 := Scalar.andi v54 c1_i32_45
  let v59 : BitVec 32 := Scalar.addi c0_i32_49 v55
  let c1_i32_50 : BitVec 32 := 1#32
  let v60 : BitVec 32 := Scalar.shrui v53 c1_i32_50
  let c1_i32_51 : BitVec 32 := 1#32
  let v61 : BitVec 32 := Scalar.andi v60 c1_i32_51
  let v65 : BitVec 32 := Scalar.addi v59 v61
  let c2_i32 : BitVec 32 := 2#32
  let v66 : BitVec 32 := Scalar.shrui v53 c2_i32
  let c1_i32_54 : BitVec 32 := 1#32
  let v67 : BitVec 32 := Scalar.andi v66 c1_i32_54
  let v71 : BitVec 32 := Scalar.addi v65 v67
  let c3_i32 : BitVec 32 := 3#32
  let v72 : BitVec 32 := Scalar.shrui v53 c3_i32
  let c1_i32_57 : BitVec 32 := 1#32
  let v73 : BitVec 32 := Scalar.andi v72 c1_i32_57
  let v77 : BitVec 32 := Scalar.addi v71 v73
  let c4_i32 : BitVec 32 := 4#32
  let v78 : BitVec 32 := Scalar.shrui v53 c4_i32
  let c1_i32_60 : BitVec 32 := 1#32
  let v79 : BitVec 32 := Scalar.andi v78 c1_i32_60
  let v83 : BitVec 32 := Scalar.addi v77 v79
  let c5_i32 : BitVec 32 := 5#32
  let v84 : BitVec 32 := Scalar.shrui v53 c5_i32
  let c1_i32_63 : BitVec 32 := 1#32
  let v85 : BitVec 32 := Scalar.andi v84 c1_i32_63
  let v89 : BitVec 32 := Scalar.addi v83 v85
  let c6_i32 : BitVec 32 := 6#32
  let v90 : BitVec 32 := Scalar.shrui v53 c6_i32
  let c1_i32_66 : BitVec 32 := 1#32
  let v91 : BitVec 32 := Scalar.andi v90 c1_i32_66
  let v95 : BitVec 32 := Scalar.addi v89 v91
  let c7_i32 : BitVec 32 := 7#32
  let v96 : BitVec 32 := Scalar.shrui v53 c7_i32
  let c1_i32_69 : BitVec 32 := 1#32
  let v97 : BitVec 32 := Scalar.andi v96 c1_i32_69
  let v101 : BitVec 32 := Scalar.addi v95 v97
  let v312 : BitVec 32 := Scalar.subi v101 c0_i32_200
  let c1_i32_201 : BitVec 32 := 1#32
  let v314 : BitVec 32 := Scalar.divsi v312 c1_i32_201
  let v315 : BitVec 32 := Scalar.muli v314 c1_i32_201
  let v316 : BitVec 32 := Scalar.addi c0_i32_200 v315
  let c1_i32_203 : BitVec 32 := 1#32
  let arg15 : BitVec 32 := Scf.iv v316 c1_i32_203 k0_t2
  let c4_i32_351 : BitVec 32 := 4#32
  let v624 : BitVec 32 := Scalar.addi arg15 c4_i32_351
  let c4_i32_352 : BitVec 32 := 4#32
  let v627 : BitVec 32 := Scalar.remsi v624 c4_i32_352
  let c2048_i32_364 : BitVec 32 := 2048#32
  let c0_i32_365 : BitVec 32 := 0#32
  ![v627.toNat, 2048, 0]
def k0_off141 (v626 : BitVec 32) : Fin 3 → Nat :=
  let c2048_i32_366 : BitVec 32 := 2048#32
  let c0_i32_367 : BitVec 32 := 0#32
  ![v626.toNat, 2048, 0]

def k0_chk18 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t2 : Fin (k0_t2_loop v0 v3 v6 v9 v12 v15 v18 v21 v24 v27 v30 v33 v36 v39 v42 v45 v48 v51).trips) (v626 : BitVec 32) : Prop :=
  (∀ (k0_h14 : k0_cond14 v0 v3 v6 v9 v12 v15 v18 v21 v24 v27 v30 v33 v36 v39 v42 v45 v48 v51 k0_t2 = 1#1), ∀ a, (k0_off135 v626) a + S1x1024x2816.size a ≤ S8x2816x2816.size a) ∧
  (∀ (k0_h14 : k0_cond14 v0 v3 v6 v9 v12 v15 v18 v21 v24 v27 v30 v33 v36 v39 v42 v45 v48 v51 k0_t2 = 1#1), ∀ (hinb : ∀ a, (k0_off135 v626) a + S1x1024x2816.size a ≤ S8x2816x2816.size a), (Rect.unit (s := S8x2816x2816) (k0_off135 v626) S1x1024x2816.size hinb).WholeWords (EltTy.packing .i8)) ∧
  (∀ (k0_h14 : k0_cond14 v0 v3 v6 v9 v12 v15 v18 v21 v24 v27 v30 v33 v36 v39 v42 v45 v48 v51 k0_t2 = 1#1), ∀ a, (k0_off138 v626) a + S1x1024x2816.size a ≤ S8x2816x2816.size a) ∧
  (∀ (k0_h14 : k0_cond14 v0 v3 v6 v9 v12 v15 v18 v21 v24 v27 v30 v33 v36 v39 v42 v45 v48 v51 k0_t2 = 1#1), ∀ (hinb : ∀ a, (k0_off138 v626) a + S1x1024x2816.size a ≤ S8x2816x2816.size a), (Rect.unit (s := S8x2816x2816) (k0_off138 v626) S1x1024x2816.size hinb).WholeWords (EltTy.packing .i8)) ∧
  (∀ (k0_h14 : k0_cond14 v0 v3 v6 v9 v12 v15 v18 v21 v24 v27 v30 v33 v36 v39 v42 v45 v48 v51 k0_t2 = 1#1), ∀ a, (k0_off141 v626) a + S1x768x2816.size a ≤ S8x2816x2816.size a) ∧
  (∀ (k0_h14 : k0_cond14 v0 v3 v6 v9 v12 v15 v18 v21 v24 v27 v30 v33 v36 v39 v42 v45 v48 v51 k0_t2 = 1#1), ∀ (hinb : ∀ a, (k0_off141 v626) a + S1x768x2816.size a ≤ S8x2816x2816.size a), (Rect.unit (s := S8x2816x2816) (k0_off141 v626) S1x768x2816.size hinb).WholeWords (EltTy.packing .i8))
theorem k0_off135_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t2 : Fin (k0_t2_loop v0 v3 v6 v9 v12 v15 v18 v21 v24 v27 v30 v33 v36 v39 v42 v45 v48 v51).trips) (v626 : BitVec 32) (k0_hw18 : k0_chk18 v0 v3 v6 v9 v12 v15 v18 v21 v24 v27 v30 v33 v36 v39 v42 v45 v48 v51 k0_t2 v626), ∀ (k0_h14 : k0_cond14 v0 v3 v6 v9 v12 v15 v18 v21 v24 v27 v30 v33 v36 v39 v42 v45 v48 v51 k0_t2 = 1#1), ∀ a, (k0_off135 v626) a + S1x1024x2816.size a ≤ S8x2816x2816.size a := fun v0 v3 v6 v9 v12 v15 v18 v21 v24 v27 v30 v33 v36 v39 v42 v45 v48 v51 k0_t2 v626 k0_hw18 k0_h14 => k0_hw18.1 k0_h14
theorem k0_off135_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t2 : Fin (k0_t2_loop v0 v3 v6 v9 v12 v15 v18 v21 v24 v27 v30 v33 v36 v39 v42 v45 v48 v51).trips) (v626 : BitVec 32) (k0_hw18 : k0_chk18 v0 v3 v6 v9 v12 v15 v18 v21 v24 v27 v30 v33 v36 v39 v42 v45 v48 v51 k0_t2 v626), ∀ (k0_h14 : k0_cond14 v0 v3 v6 v9 v12 v15 v18 v21 v24 v27 v30 v33 v36 v39 v42 v45 v48 v51 k0_t2 = 1#1), (Rect.unit (s := S8x2816x2816) (k0_off135 v626) S1x1024x2816.size (k0_off135_inb v0 v3 v6 v9 v12 v15 v18 v21 v24 v27 v30 v33 v36 v39 v42 v45 v48 v51 k0_t2 v626 k0_hw18 k0_h14)).WholeWords (EltTy.packing .i8) := fun v0 v3 v6 v9 v12 v15 v18 v21 v24 v27 v30 v33 v36 v39 v42 v45 v48 v51 k0_t2 v626 k0_hw18 k0_h14 => k0_hw18.2.1 k0_h14 (k0_off135_inb v0 v3 v6 v9 v12 v15 v18 v21 v24 v27 v30 v33 v36 v39 v42 v45 v48 v51 k0_t2 v626 k0_hw18 k0_h14)
theorem k0_off138_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t2 : Fin (k0_t2_loop v0 v3 v6 v9 v12 v15 v18 v21 v24 v27 v30 v33 v36 v39 v42 v45 v48 v51).trips) (v626 : BitVec 32) (k0_hw18 : k0_chk18 v0 v3 v6 v9 v12 v15 v18 v21 v24 v27 v30 v33 v36 v39 v42 v45 v48 v51 k0_t2 v626), ∀ (k0_h14 : k0_cond14 v0 v3 v6 v9 v12 v15 v18 v21 v24 v27 v30 v33 v36 v39 v42 v45 v48 v51 k0_t2 = 1#1), ∀ a, (k0_off138 v626) a + S1x1024x2816.size a ≤ S8x2816x2816.size a := fun v0 v3 v6 v9 v12 v15 v18 v21 v24 v27 v30 v33 v36 v39 v42 v45 v48 v51 k0_t2 v626 k0_hw18 k0_h14 => k0_hw18.2.2.1 k0_h14
theorem k0_off138_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t2 : Fin (k0_t2_loop v0 v3 v6 v9 v12 v15 v18 v21 v24 v27 v30 v33 v36 v39 v42 v45 v48 v51).trips) (v626 : BitVec 32) (k0_hw18 : k0_chk18 v0 v3 v6 v9 v12 v15 v18 v21 v24 v27 v30 v33 v36 v39 v42 v45 v48 v51 k0_t2 v626), ∀ (k0_h14 : k0_cond14 v0 v3 v6 v9 v12 v15 v18 v21 v24 v27 v30 v33 v36 v39 v42 v45 v48 v51 k0_t2 = 1#1), (Rect.unit (s := S8x2816x2816) (k0_off138 v626) S1x1024x2816.size (k0_off138_inb v0 v3 v6 v9 v12 v15 v18 v21 v24 v27 v30 v33 v36 v39 v42 v45 v48 v51 k0_t2 v626 k0_hw18 k0_h14)).WholeWords (EltTy.packing .i8) := fun v0 v3 v6 v9 v12 v15 v18 v21 v24 v27 v30 v33 v36 v39 v42 v45 v48 v51 k0_t2 v626 k0_hw18 k0_h14 => k0_hw18.2.2.2.1 k0_h14 (k0_off138_inb v0 v3 v6 v9 v12 v15 v18 v21 v24 v27 v30 v33 v36 v39 v42 v45 v48 v51 k0_t2 v626 k0_hw18 k0_h14)
theorem k0_off141_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t2 : Fin (k0_t2_loop v0 v3 v6 v9 v12 v15 v18 v21 v24 v27 v30 v33 v36 v39 v42 v45 v48 v51).trips) (v626 : BitVec 32) (k0_hw18 : k0_chk18 v0 v3 v6 v9 v12 v15 v18 v21 v24 v27 v30 v33 v36 v39 v42 v45 v48 v51 k0_t2 v626), ∀ (k0_h14 : k0_cond14 v0 v3 v6 v9 v12 v15 v18 v21 v24 v27 v30 v33 v36 v39 v42 v45 v48 v51 k0_t2 = 1#1), ∀ a, (k0_off141 v626) a + S1x768x2816.size a ≤ S8x2816x2816.size a := fun v0 v3 v6 v9 v12 v15 v18 v21 v24 v27 v30 v33 v36 v39 v42 v45 v48 v51 k0_t2 v626 k0_hw18 k0_h14 => k0_hw18.2.2.2.2.1 k0_h14
theorem k0_off141_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t2 : Fin (k0_t2_loop v0 v3 v6 v9 v12 v15 v18 v21 v24 v27 v30 v33 v36 v39 v42 v45 v48 v51).trips) (v626 : BitVec 32) (k0_hw18 : k0_chk18 v0 v3 v6 v9 v12 v15 v18 v21 v24 v27 v30 v33 v36 v39 v42 v45 v48 v51 k0_t2 v626), ∀ (k0_h14 : k0_cond14 v0 v3 v6 v9 v12 v15 v18 v21 v24 v27 v30 v33 v36 v39 v42 v45 v48 v51 k0_t2 = 1#1), (Rect.unit (s := S8x2816x2816) (k0_off141 v626) S1x768x2816.size (k0_off141_inb v0 v3 v6 v9 v12 v15 v18 v21 v24 v27 v30 v33 v36 v39 v42 v45 v48 v51 k0_t2 v626 k0_hw18 k0_h14)).WholeWords (EltTy.packing .i8) := fun v0 v3 v6 v9 v12 v15 v18 v21 v24 v27 v30 v33 v36 v39 v42 v45 v48 v51 k0_t2 v626 k0_hw18 k0_h14 => k0_hw18.2.2.2.2.2 k0_h14 (k0_off141_inb v0 v3 v6 v9 v12 v15 v18 v21 v24 v27 v30 v33 v36 v39 v42 v45 v48 v51 k0_t2 v626 k0_hw18 k0_h14)

def k0_off142 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t2 : Fin (k0_t2_loop v0 v3 v6 v9 v12 v15 v18 v21 v24 v27 v30 v33 v36 v39 v42 v45 v48 v51).trips) : Fin 1 → Nat :=
  let c0_i32_200 : BitVec 32 := 0#32
  let c0_i32_49 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c0_i32_44 : BitVec 32 := 0#32
  let v54 : BitVec 32 := Scalar.shrui v53 c0_i32_44
  let c1_i32_45 : BitVec 32 := 1#32
  let v55 : BitVec 32 := Scalar.andi v54 c1_i32_45
  let v59 : BitVec 32 := Scalar.addi c0_i32_49 v55
  let c1_i32_50 : BitVec 32 := 1#32
  let v60 : BitVec 32 := Scalar.shrui v53 c1_i32_50
  let c1_i32_51 : BitVec 32 := 1#32
  let v61 : BitVec 32 := Scalar.andi v60 c1_i32_51
  let v65 : BitVec 32 := Scalar.addi v59 v61
  let c2_i32 : BitVec 32 := 2#32
  let v66 : BitVec 32 := Scalar.shrui v53 c2_i32
  let c1_i32_54 : BitVec 32 := 1#32
  let v67 : BitVec 32 := Scalar.andi v66 c1_i32_54
  let v71 : BitVec 32 := Scalar.addi v65 v67
  let c3_i32 : BitVec 32 := 3#32
  let v72 : BitVec 32 := Scalar.shrui v53 c3_i32
  let c1_i32_57 : BitVec 32 := 1#32
  let v73 : BitVec 32 := Scalar.andi v72 c1_i32_57
  let v77 : BitVec 32 := Scalar.addi v71 v73
  let c4_i32 : BitVec 32 := 4#32
  let v78 : BitVec 32 := Scalar.shrui v53 c4_i32
  let c1_i32_60 : BitVec 32 := 1#32
  let v79 : BitVec 32 := Scalar.andi v78 c1_i32_60
  let v83 : BitVec 32 := Scalar.addi v77 v79
  let c5_i32 : BitVec 32 := 5#32
  let v84 : BitVec 32 := Scalar.shrui v53 c5_i32
  let c1_i32_63 : BitVec 32 := 1#32
  let v85 : BitVec 32 := Scalar.andi v84 c1_i32_63
  let v89 : BitVec 32 := Scalar.addi v83 v85
  let c6_i32 : BitVec 32 := 6#32
  let v90 : BitVec 32 := Scalar.shrui v53 c6_i32
  let c1_i32_66 : BitVec 32 := 1#32
  let v91 : BitVec 32 := Scalar.andi v90 c1_i32_66
  let v95 : BitVec 32 := Scalar.addi v89 v91
  let c7_i32 : BitVec 32 := 7#32
  let v96 : BitVec 32 := Scalar.shrui v53 c7_i32
  let c1_i32_69 : BitVec 32 := 1#32
  let v97 : BitVec 32 := Scalar.andi v96 c1_i32_69
  let v101 : BitVec 32 := Scalar.addi v95 v97
  let v312 : BitVec 32 := Scalar.subi v101 c0_i32_200
  let c1_i32_201 : BitVec 32 := 1#32
  let v314 : BitVec 32 := Scalar.divsi v312 c1_i32_201
  let v315 : BitVec 32 := Scalar.muli v314 c1_i32_201
  let v316 : BitVec 32 := Scalar.addi c0_i32_200 v315
  let c1_i32_203 : BitVec 32 := 1#32
  let arg15 : BitVec 32 := Scf.iv v316 c1_i32_203 k0_t2
  let c4_i32_368 : BitVec 32 := 4#32
  let v646 : BitVec 32 := Scalar.addi arg15 c4_i32_368
  let v647 : Index := Scalar.indexCast v646
  ![v647.toNat]
def k0_off143 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t2 : Fin (k0_t2_loop v0 v3 v6 v9 v12 v15 v18 v21 v24 v27 v30 v33 v36 v39 v42 v45 v48 v51).trips) : Fin 2 → Nat :=
  let c0_i32_200 : BitVec 32 := 0#32
  let c0_i32_49 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c0_i32_44 : BitVec 32 := 0#32
  let v54 : BitVec 32 := Scalar.shrui v53 c0_i32_44
  let c1_i32_45 : BitVec 32 := 1#32
  let v55 : BitVec 32 := Scalar.andi v54 c1_i32_45
  let v59 : BitVec 32 := Scalar.addi c0_i32_49 v55
  let c1_i32_50 : BitVec 32 := 1#32
  let v60 : BitVec 32 := Scalar.shrui v53 c1_i32_50
  let c1_i32_51 : BitVec 32 := 1#32
  let v61 : BitVec 32 := Scalar.andi v60 c1_i32_51
  let v65 : BitVec 32 := Scalar.addi v59 v61
  let c2_i32 : BitVec 32 := 2#32
  let v66 : BitVec 32 := Scalar.shrui v53 c2_i32
  let c1_i32_54 : BitVec 32 := 1#32
  let v67 : BitVec 32 := Scalar.andi v66 c1_i32_54
  let v71 : BitVec 32 := Scalar.addi v65 v67
  let c3_i32 : BitVec 32 := 3#32
  let v72 : BitVec 32 := Scalar.shrui v53 c3_i32
  let c1_i32_57 : BitVec 32 := 1#32
  let v73 : BitVec 32 := Scalar.andi v72 c1_i32_57
  let v77 : BitVec 32 := Scalar.addi v71 v73
  let c4_i32 : BitVec 32 := 4#32
  let v78 : BitVec 32 := Scalar.shrui v53 c4_i32
  let c1_i32_60 : BitVec 32 := 1#32
  let v79 : BitVec 32 := Scalar.andi v78 c1_i32_60
  let v83 : BitVec 32 := Scalar.addi v77 v79
  let c5_i32 : BitVec 32 := 5#32
  let v84 : BitVec 32 := Scalar.shrui v53 c5_i32
  let c1_i32_63 : BitVec 32 := 1#32
  let v85 : BitVec 32 := Scalar.andi v84 c1_i32_63
  let v89 : BitVec 32 := Scalar.addi v83 v85
  let c6_i32 : BitVec 32 := 6#32
  let v90 : BitVec 32 := Scalar.shrui v53 c6_i32
  let c1_i32_66 : BitVec 32 := 1#32
  let v91 : BitVec 32 := Scalar.andi v90 c1_i32_66
  let v95 : BitVec 32 := Scalar.addi v89 v91
  let c7_i32 : BitVec 32 := 7#32
  let v96 : BitVec 32 := Scalar.shrui v53 c7_i32
  let c1_i32_69 : BitVec 32 := 1#32
  let v97 : BitVec 32 := Scalar.andi v96 c1_i32_69
  let v101 : BitVec 32 := Scalar.addi v95 v97
  let v312 : BitVec 32 := Scalar.subi v101 c0_i32_200
  let c1_i32_201 : BitVec 32 := 1#32
  let v314 : BitVec 32 := Scalar.divsi v312 c1_i32_201
  let v315 : BitVec 32 := Scalar.muli v314 c1_i32_201
  let v316 : BitVec 32 := Scalar.addi c0_i32_200 v315
  let c1_i32_203 : BitVec 32 := 1#32
  let arg15 : BitVec 32 := Scf.iv v316 c1_i32_203 k0_t2
  let c4_i32_368 : BitVec 32 := 4#32
  let v646 : BitVec 32 := Scalar.addi arg15 c4_i32_368
  let c4_i32_369 : BitVec 32 := 4#32
  let v649 : BitVec 32 := Scalar.remsi v646 c4_i32_369
  let c0_i32_370 : BitVec 32 := 0#32
  ![v649.toNat, 0]
def k0_off144 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t2 : Fin (k0_t2_loop v0 v3 v6 v9 v12 v15 v18 v21 v24 v27 v30 v33 v36 v39 v42 v45 v48 v51).trips) : Fin 3 → Nat :=
  let c0_i32_200 : BitVec 32 := 0#32
  let c0_i32_49 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c0_i32_44 : BitVec 32 := 0#32
  let v54 : BitVec 32 := Scalar.shrui v53 c0_i32_44
  let c1_i32_45 : BitVec 32 := 1#32
  let v55 : BitVec 32 := Scalar.andi v54 c1_i32_45
  let v59 : BitVec 32 := Scalar.addi c0_i32_49 v55
  let c1_i32_50 : BitVec 32 := 1#32
  let v60 : BitVec 32 := Scalar.shrui v53 c1_i32_50
  let c1_i32_51 : BitVec 32 := 1#32
  let v61 : BitVec 32 := Scalar.andi v60 c1_i32_51
  let v65 : BitVec 32 := Scalar.addi v59 v61
  let c2_i32 : BitVec 32 := 2#32
  let v66 : BitVec 32 := Scalar.shrui v53 c2_i32
  let c1_i32_54 : BitVec 32 := 1#32
  let v67 : BitVec 32 := Scalar.andi v66 c1_i32_54
  let v71 : BitVec 32 := Scalar.addi v65 v67
  let c3_i32 : BitVec 32 := 3#32
  let v72 : BitVec 32 := Scalar.shrui v53 c3_i32
  let c1_i32_57 : BitVec 32 := 1#32
  let v73 : BitVec 32 := Scalar.andi v72 c1_i32_57
  let v77 : BitVec 32 := Scalar.addi v71 v73
  let c4_i32 : BitVec 32 := 4#32
  let v78 : BitVec 32 := Scalar.shrui v53 c4_i32
  let c1_i32_60 : BitVec 32 := 1#32
  let v79 : BitVec 32 := Scalar.andi v78 c1_i32_60
  let v83 : BitVec 32 := Scalar.addi v77 v79
  let c5_i32 : BitVec 32 := 5#32
  let v84 : BitVec 32 := Scalar.shrui v53 c5_i32
  let c1_i32_63 : BitVec 32 := 1#32
  let v85 : BitVec 32 := Scalar.andi v84 c1_i32_63
  let v89 : BitVec 32 := Scalar.addi v83 v85
  let c6_i32 : BitVec 32 := 6#32
  let v90 : BitVec 32 := Scalar.shrui v53 c6_i32
  let c1_i32_66 : BitVec 32 := 1#32
  let v91 : BitVec 32 := Scalar.andi v90 c1_i32_66
  let v95 : BitVec 32 := Scalar.addi v89 v91
  let c7_i32 : BitVec 32 := 7#32
  let v96 : BitVec 32 := Scalar.shrui v53 c7_i32
  let c1_i32_69 : BitVec 32 := 1#32
  let v97 : BitVec 32 := Scalar.andi v96 c1_i32_69
  let v101 : BitVec 32 := Scalar.addi v95 v97
  let v312 : BitVec 32 := Scalar.subi v101 c0_i32_200
  let c1_i32_201 : BitVec 32 := 1#32
  let v314 : BitVec 32 := Scalar.divsi v312 c1_i32_201
  let v315 : BitVec 32 := Scalar.muli v314 c1_i32_201
  let v316 : BitVec 32 := Scalar.addi c0_i32_200 v315
  let c1_i32_203 : BitVec 32 := 1#32
  let arg15 : BitVec 32 := Scf.iv v316 c1_i32_203 k0_t2
  let c4_i32_368 : BitVec 32 := 4#32
  let v646 : BitVec 32 := Scalar.addi arg15 c4_i32_368
  let c4_i32_369 : BitVec 32 := 4#32
  let v649 : BitVec 32 := Scalar.remsi v646 c4_i32_369
  let c0_i32_371 : BitVec 32 := 0#32
  let c0_i32_372 : BitVec 32 := 0#32
  ![v649.toNat, 0, 0]
def k0_off145 (v648 : BitVec 32) : Fin 3 → Nat :=
  let c0_i32_373 : BitVec 32 := 0#32
  let c0_i32_374 : BitVec 32 := 0#32
  ![v648.toNat, 0, 0]

def k0_off146 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t2 : Fin (k0_t2_loop v0 v3 v6 v9 v12 v15 v18 v21 v24 v27 v30 v33 v36 v39 v42 v45 v48 v51).trips) : Fin 2 → Nat :=
  let c0_i32_200 : BitVec 32 := 0#32
  let c0_i32_49 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c0_i32_44 : BitVec 32 := 0#32
  let v54 : BitVec 32 := Scalar.shrui v53 c0_i32_44
  let c1_i32_45 : BitVec 32 := 1#32
  let v55 : BitVec 32 := Scalar.andi v54 c1_i32_45
  let v59 : BitVec 32 := Scalar.addi c0_i32_49 v55
  let c1_i32_50 : BitVec 32 := 1#32
  let v60 : BitVec 32 := Scalar.shrui v53 c1_i32_50
  let c1_i32_51 : BitVec 32 := 1#32
  let v61 : BitVec 32 := Scalar.andi v60 c1_i32_51
  let v65 : BitVec 32 := Scalar.addi v59 v61
  let c2_i32 : BitVec 32 := 2#32
  let v66 : BitVec 32 := Scalar.shrui v53 c2_i32
  let c1_i32_54 : BitVec 32 := 1#32
  let v67 : BitVec 32 := Scalar.andi v66 c1_i32_54
  let v71 : BitVec 32 := Scalar.addi v65 v67
  let c3_i32 : BitVec 32 := 3#32
  let v72 : BitVec 32 := Scalar.shrui v53 c3_i32
  let c1_i32_57 : BitVec 32 := 1#32
  let v73 : BitVec 32 := Scalar.andi v72 c1_i32_57
  let v77 : BitVec 32 := Scalar.addi v71 v73
  let c4_i32 : BitVec 32 := 4#32
  let v78 : BitVec 32 := Scalar.shrui v53 c4_i32
  let c1_i32_60 : BitVec 32 := 1#32
  let v79 : BitVec 32 := Scalar.andi v78 c1_i32_60
  let v83 : BitVec 32 := Scalar.addi v77 v79
  let c5_i32 : BitVec 32 := 5#32
  let v84 : BitVec 32 := Scalar.shrui v53 c5_i32
  let c1_i32_63 : BitVec 32 := 1#32
  let v85 : BitVec 32 := Scalar.andi v84 c1_i32_63
  let v89 : BitVec 32 := Scalar.addi v83 v85
  let c6_i32 : BitVec 32 := 6#32
  let v90 : BitVec 32 := Scalar.shrui v53 c6_i32
  let c1_i32_66 : BitVec 32 := 1#32
  let v91 : BitVec 32 := Scalar.andi v90 c1_i32_66
  let v95 : BitVec 32 := Scalar.addi v89 v91
  let c7_i32 : BitVec 32 := 7#32
  let v96 : BitVec 32 := Scalar.shrui v53 c7_i32
  let c1_i32_69 : BitVec 32 := 1#32
  let v97 : BitVec 32 := Scalar.andi v96 c1_i32_69
  let v101 : BitVec 32 := Scalar.addi v95 v97
  let v312 : BitVec 32 := Scalar.subi v101 c0_i32_200
  let c1_i32_201 : BitVec 32 := 1#32
  let v314 : BitVec 32 := Scalar.divsi v312 c1_i32_201
  let v315 : BitVec 32 := Scalar.muli v314 c1_i32_201
  let v316 : BitVec 32 := Scalar.addi c0_i32_200 v315
  let c1_i32_203 : BitVec 32 := 1#32
  let arg15 : BitVec 32 := Scf.iv v316 c1_i32_203 k0_t2
  let c4_i32_368 : BitVec 32 := 4#32
  let v646 : BitVec 32 := Scalar.addi arg15 c4_i32_368
  let c4_i32_369 : BitVec 32 := 4#32
  let v649 : BitVec 32 := Scalar.remsi v646 c4_i32_369
  let c1_i32_375 : BitVec 32 := 1#32
  ![v649.toNat, 1]
def k0_off147 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t2 : Fin (k0_t2_loop v0 v3 v6 v9 v12 v15 v18 v21 v24 v27 v30 v33 v36 v39 v42 v45 v48 v51).trips) : Fin 3 → Nat :=
  let c0_i32_200 : BitVec 32 := 0#32
  let c0_i32_49 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c0_i32_44 : BitVec 32 := 0#32
  let v54 : BitVec 32 := Scalar.shrui v53 c0_i32_44
  let c1_i32_45 : BitVec 32 := 1#32
  let v55 : BitVec 32 := Scalar.andi v54 c1_i32_45
  let v59 : BitVec 32 := Scalar.addi c0_i32_49 v55
  let c1_i32_50 : BitVec 32 := 1#32
  let v60 : BitVec 32 := Scalar.shrui v53 c1_i32_50
  let c1_i32_51 : BitVec 32 := 1#32
  let v61 : BitVec 32 := Scalar.andi v60 c1_i32_51
  let v65 : BitVec 32 := Scalar.addi v59 v61
  let c2_i32 : BitVec 32 := 2#32
  let v66 : BitVec 32 := Scalar.shrui v53 c2_i32
  let c1_i32_54 : BitVec 32 := 1#32
  let v67 : BitVec 32 := Scalar.andi v66 c1_i32_54
  let v71 : BitVec 32 := Scalar.addi v65 v67
  let c3_i32 : BitVec 32 := 3#32
  let v72 : BitVec 32 := Scalar.shrui v53 c3_i32
  let c1_i32_57 : BitVec 32 := 1#32
  let v73 : BitVec 32 := Scalar.andi v72 c1_i32_57
  let v77 : BitVec 32 := Scalar.addi v71 v73
  let c4_i32 : BitVec 32 := 4#32
  let v78 : BitVec 32 := Scalar.shrui v53 c4_i32
  let c1_i32_60 : BitVec 32 := 1#32
  let v79 : BitVec 32 := Scalar.andi v78 c1_i32_60
  let v83 : BitVec 32 := Scalar.addi v77 v79
  let c5_i32 : BitVec 32 := 5#32
  let v84 : BitVec 32 := Scalar.shrui v53 c5_i32
  let c1_i32_63 : BitVec 32 := 1#32
  let v85 : BitVec 32 := Scalar.andi v84 c1_i32_63
  let v89 : BitVec 32 := Scalar.addi v83 v85
  let c6_i32 : BitVec 32 := 6#32
  let v90 : BitVec 32 := Scalar.shrui v53 c6_i32
  let c1_i32_66 : BitVec 32 := 1#32
  let v91 : BitVec 32 := Scalar.andi v90 c1_i32_66
  let v95 : BitVec 32 := Scalar.addi v89 v91
  let c7_i32 : BitVec 32 := 7#32
  let v96 : BitVec 32 := Scalar.shrui v53 c7_i32
  let c1_i32_69 : BitVec 32 := 1#32
  let v97 : BitVec 32 := Scalar.andi v96 c1_i32_69
  let v101 : BitVec 32 := Scalar.addi v95 v97
  let v312 : BitVec 32 := Scalar.subi v101 c0_i32_200
  let c1_i32_201 : BitVec 32 := 1#32
  let v314 : BitVec 32 := Scalar.divsi v312 c1_i32_201
  let v315 : BitVec 32 := Scalar.muli v314 c1_i32_201
  let v316 : BitVec 32 := Scalar.addi c0_i32_200 v315
  let c1_i32_203 : BitVec 32 := 1#32
  let arg15 : BitVec 32 := Scf.iv v316 c1_i32_203 k0_t2
  let c4_i32_368 : BitVec 32 := 4#32
  let v646 : BitVec 32 := Scalar.addi arg15 c4_i32_368
  let c4_i32_369 : BitVec 32 := 4#32
  let v649 : BitVec 32 := Scalar.remsi v646 c4_i32_369
  let c1024_i32_376 : BitVec 32 := 1024#32
  let c0_i32_377 : BitVec 32 := 0#32
  ![v649.toNat, 1024, 0]
def k0_off148 (v648 : BitVec 32) : Fin 3 → Nat :=
  let c1024_i32_378 : BitVec 32 := 1024#32
  let c0_i32_379 : BitVec 32 := 0#32
  ![v648.toNat, 1024, 0]

def k0_chk19 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t2 : Fin (k0_t2_loop v0 v3 v6 v9 v12 v15 v18 v21 v24 v27 v30 v33 v36 v39 v42 v45 v48 v51).trips) (v648 : BitVec 32) : Prop :=
  (∀ (k0_h14 : k0_cond14 v0 v3 v6 v9 v12 v15 v18 v21 v24 v27 v30 v33 v36 v39 v42 v45 v48 v51 k0_t2 = 1#1), ∀ a, (k0_off145 v648) a + S1x1024x2816.size a ≤ S8x1408x2816.size a) ∧
  (∀ (k0_h14 : k0_cond14 v0 v3 v6 v9 v12 v15 v18 v21 v24 v27 v30 v33 v36 v39 v42 v45 v48 v51 k0_t2 = 1#1), ∀ (hinb : ∀ a, (k0_off145 v648) a + S1x1024x2816.size a ≤ S8x1408x2816.size a), (Rect.unit (s := S8x1408x2816) (k0_off145 v648) S1x1024x2816.size hinb).WholeWords (EltTy.packing .i8)) ∧
  (∀ (k0_h14 : k0_cond14 v0 v3 v6 v9 v12 v15 v18 v21 v24 v27 v30 v33 v36 v39 v42 v45 v48 v51 k0_t2 = 1#1), ∀ a, (k0_off148 v648) a + S1x384x2816.size a ≤ S8x1408x2816.size a) ∧
  (∀ (k0_h14 : k0_cond14 v0 v3 v6 v9 v12 v15 v18 v21 v24 v27 v30 v33 v36 v39 v42 v45 v48 v51 k0_t2 = 1#1), ∀ (hinb : ∀ a, (k0_off148 v648) a + S1x384x2816.size a ≤ S8x1408x2816.size a), (Rect.unit (s := S8x1408x2816) (k0_off148 v648) S1x384x2816.size hinb).WholeWords (EltTy.packing .i8))
theorem k0_off145_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t2 : Fin (k0_t2_loop v0 v3 v6 v9 v12 v15 v18 v21 v24 v27 v30 v33 v36 v39 v42 v45 v48 v51).trips) (v648 : BitVec 32) (k0_hw19 : k0_chk19 v0 v3 v6 v9 v12 v15 v18 v21 v24 v27 v30 v33 v36 v39 v42 v45 v48 v51 k0_t2 v648), ∀ (k0_h14 : k0_cond14 v0 v3 v6 v9 v12 v15 v18 v21 v24 v27 v30 v33 v36 v39 v42 v45 v48 v51 k0_t2 = 1#1), ∀ a, (k0_off145 v648) a + S1x1024x2816.size a ≤ S8x1408x2816.size a := fun v0 v3 v6 v9 v12 v15 v18 v21 v24 v27 v30 v33 v36 v39 v42 v45 v48 v51 k0_t2 v648 k0_hw19 k0_h14 => k0_hw19.1 k0_h14
theorem k0_off145_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t2 : Fin (k0_t2_loop v0 v3 v6 v9 v12 v15 v18 v21 v24 v27 v30 v33 v36 v39 v42 v45 v48 v51).trips) (v648 : BitVec 32) (k0_hw19 : k0_chk19 v0 v3 v6 v9 v12 v15 v18 v21 v24 v27 v30 v33 v36 v39 v42 v45 v48 v51 k0_t2 v648), ∀ (k0_h14 : k0_cond14 v0 v3 v6 v9 v12 v15 v18 v21 v24 v27 v30 v33 v36 v39 v42 v45 v48 v51 k0_t2 = 1#1), (Rect.unit (s := S8x1408x2816) (k0_off145 v648) S1x1024x2816.size (k0_off145_inb v0 v3 v6 v9 v12 v15 v18 v21 v24 v27 v30 v33 v36 v39 v42 v45 v48 v51 k0_t2 v648 k0_hw19 k0_h14)).WholeWords (EltTy.packing .i8) := fun v0 v3 v6 v9 v12 v15 v18 v21 v24 v27 v30 v33 v36 v39 v42 v45 v48 v51 k0_t2 v648 k0_hw19 k0_h14 => k0_hw19.2.1 k0_h14 (k0_off145_inb v0 v3 v6 v9 v12 v15 v18 v21 v24 v27 v30 v33 v36 v39 v42 v45 v48 v51 k0_t2 v648 k0_hw19 k0_h14)
theorem k0_off148_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t2 : Fin (k0_t2_loop v0 v3 v6 v9 v12 v15 v18 v21 v24 v27 v30 v33 v36 v39 v42 v45 v48 v51).trips) (v648 : BitVec 32) (k0_hw19 : k0_chk19 v0 v3 v6 v9 v12 v15 v18 v21 v24 v27 v30 v33 v36 v39 v42 v45 v48 v51 k0_t2 v648), ∀ (k0_h14 : k0_cond14 v0 v3 v6 v9 v12 v15 v18 v21 v24 v27 v30 v33 v36 v39 v42 v45 v48 v51 k0_t2 = 1#1), ∀ a, (k0_off148 v648) a + S1x384x2816.size a ≤ S8x1408x2816.size a := fun v0 v3 v6 v9 v12 v15 v18 v21 v24 v27 v30 v33 v36 v39 v42 v45 v48 v51 k0_t2 v648 k0_hw19 k0_h14 => k0_hw19.2.2.1 k0_h14
theorem k0_off148_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_t2 : Fin (k0_t2_loop v0 v3 v6 v9 v12 v15 v18 v21 v24 v27 v30 v33 v36 v39 v42 v45 v48 v51).trips) (v648 : BitVec 32) (k0_hw19 : k0_chk19 v0 v3 v6 v9 v12 v15 v18 v21 v24 v27 v30 v33 v36 v39 v42 v45 v48 v51 k0_t2 v648), ∀ (k0_h14 : k0_cond14 v0 v3 v6 v9 v12 v15 v18 v21 v24 v27 v30 v33 v36 v39 v42 v45 v48 v51 k0_t2 = 1#1), (Rect.unit (s := S8x1408x2816) (k0_off148 v648) S1x384x2816.size (k0_off148_inb v0 v3 v6 v9 v12 v15 v18 v21 v24 v27 v30 v33 v36 v39 v42 v45 v48 v51 k0_t2 v648 k0_hw19 k0_h14)).WholeWords (EltTy.packing .i8) := fun v0 v3 v6 v9 v12 v15 v18 v21 v24 v27 v30 v33 v36 v39 v42 v45 v48 v51 k0_t2 v648 k0_hw19 k0_h14 => k0_hw19.2.2.2 k0_h14 (k0_off148_inb v0 v3 v6 v9 v12 v15 v18 v21 v24 v27 v30 v33 v36 v39 v42 v45 v48 v51 k0_t2 v648 k0_hw19 k0_h14)

def k0_chk1_0 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) : Prop :=
  (∀ (k0_h2 : k0_cond2 v0 v3 v6 v9 v12 v15 v18 v21 v24 v27 v30 v33 v36 v39 v42 v45 v48 v51 = 1#1), ∀ a, (k0_off1 v0 v3 v6 v9 v12 v15 v18 v21 v24 v27 v30 v33 v36 v39 v42 v45 v48 v51) a + S1.size a ≤ S8.size a) ∧
  (∀ (k0_h3 : k0_cond3 v0 v3 v6 v9 v12 v15 v18 v21 v24 v27 v30 v33 v36 v39 v42 v45 v48 v51 = 1#1), ∀ a, (k0_off2 v0 v3 v6 v9 v12 v15 v18 v21 v24 v27 v30 v33 v36 v39 v42 v45 v48 v51) a + S1.size a ≤ S8.size a) ∧
  (∀ (k0_h4 : k0_cond4 v0 v3 v6 v9 v12 v15 v18 v21 v24 v27 v30 v33 v36 v39 v42 v45 v48 v51 = 1#1), ∀ a, (k0_off3 v0 v3 v6 v9 v12 v15 v18 v21 v24 v27 v30 v33 v36 v39 v42 v45 v48 v51) a + S1.size a ≤ S8.size a) ∧
  (∀ (k0_h5 : k0_cond5 v0 v3 v6 v9 v12 v15 v18 v21 v24 v27 v30 v33 v36 v39 v42 v45 v48 v51 = 1#1), ∀ a, (k0_off4 v0 v3 v6 v9 v12 v15 v18 v21 v24 v27 v30 v33 v36 v39 v42 v45 v48 v51) a + S1.size a ≤ S8.size a) ∧
  (∀ (k0_h6 : k0_cond6 v0 v3 v6 v9 v12 v15 v18 v21 v24 v27 v30 v33 v36 v39 v42 v45 v48 v51 = 1#1), ∀ a, (k0_off5 v0 v3 v6 v9 v12 v15 v18 v21 v24 v27 v30 v33 v36 v39 v42 v45 v48 v51) a + S1.size a ≤ S8.size a) ∧
  (∀ (k0_h7 : k0_cond7 v0 v3 v6 v9 v12 v15 v18 v21 v24 v27 v30 v33 v36 v39 v42 v45 v48 v51 = 1#1), ∀ a, (k0_off6 v0 v3 v6 v9 v12 v15 v18 v21 v24 v27 v30 v33 v36 v39 v42 v45 v48 v51) a + S1.size a ≤ S8.size a) ∧
  (∀ (k0_h8 : k0_cond8 v0 v3 v6 v9 v12 v15 v18 v21 v24 v27 v30 v33 v36 v39 v42 v45 v48 v51 = 1#1), ∀ a, (k0_off7 v0 v3 v6 v9 v12 v15 v18 v21 v24 v27 v30 v33 v36 v39 v42 v45 v48 v51) a + S1.size a ≤ S8.size a) ∧
  ((k0_t1_loop v0 v3 v6 v9 v12 v15 v18 v21 v24 v27 v30 v33 v36 v39 v42 v45 v48 v51).OK) ∧
  (∀ k0_t1 : Fin (k0_t1_loop v0 v3 v6 v9 v12 v15 v18 v21 v24 v27 v30 v33 v36 v39 v42 v45 v48 v51).trips, ∀ a, (k0_off68 v0 v3 v6 v9 v12 v15 v18 v21 v24 v27 v30 v33 v36 v39 v42 v45 v48 v51 k0_t1) a + S1.size a ≤ S8.size a) ∧
  (∀ k0_t1 : Fin (k0_t1_loop v0 v3 v6 v9 v12 v15 v18 v21 v24 v27 v30 v33 v36 v39 v42 v45 v48 v51).trips, ∀ a, (k0_off69 v0 v3 v6 v9 v12 v15 v18 v21 v24 v27 v30 v33 v36 v39 v42 v45 v48 v51 k0_t1) a + S1x1.size a ≤ S4x3.size a) ∧
  (∀ k0_t1 : Fin (k0_t1_loop v0 v3 v6 v9 v12 v15 v18 v21 v24 v27 v30 v33 v36 v39 v42 v45 v48 v51).trips, ∀ a, (k0_off70 v0 v3 v6 v9 v12 v15 v18 v21 v24 v27 v30 v33 v36 v39 v42 v45 v48 v51 k0_t1) a + S1x1024x2816.size a ≤ S4x2816x2816.size a) ∧
  (∀ k0_t1 : Fin (k0_t1_loop v0 v3 v6 v9 v12 v15 v18 v21 v24 v27 v30 v33 v36 v39 v42 v45 v48 v51).trips, ∀ (hinb : ∀ a, (k0_off70 v0 v3 v6 v9 v12 v15 v18 v21 v24 v27 v30 v33 v36 v39 v42 v45 v48 v51 k0_t1) a + S1x1024x2816.size a ≤ S4x2816x2816.size a), (Rect.unit (s := S4x2816x2816) (k0_off70 v0 v3 v6 v9 v12 v15 v18 v21 v24 v27 v30 v33 v36 v39 v42 v45 v48 v51 k0_t1) S1x1024x2816.size hinb).WholeWords (EltTy.packing .i8)) ∧
  (∀ k0_t1 : Fin (k0_t1_loop v0 v3 v6 v9 v12 v15 v18 v21 v24 v27 v30 v33 v36 v39 v42 v45 v48 v51).trips, ∀ a, (k0_off72 v0 v3 v6 v9 v12 v15 v18 v21 v24 v27 v30 v33 v36 v39 v42 v45 v48 v51 k0_t1) a + S1x1024x2816.size a ≤ S4x2816x2816.size a) ∧
  (∀ k0_t1 : Fin (k0_t1_loop v0 v3 v6 v9 v12 v15 v18 v21 v24 v27 v30 v33 v36 v39 v42 v45 v48 v51).trips, ∀ a, (k0_off73 v0 v3 v6 v9 v12 v15 v18 v21 v24 v27 v30 v33 v36 v39 v42 v45 v48 v51 k0_t1) a + S1x1.size a ≤ S4x3.size a) ∧
  (∀ k0_t1 : Fin (k0_t1_loop v0 v3 v6 v9 v12 v15 v18 v21 v24 v27 v30 v33 v36 v39 v42 v45 v48 v51).trips, ∀ a, (k0_off74 v0 v3 v6 v9 v12 v15 v18 v21 v24 v27 v30 v33 v36 v39 v42 v45 v48 v51 k0_t1) a + S1x1024x2816.size a ≤ S4x2816x2816.size a) ∧
  (∀ k0_t1 : Fin (k0_t1_loop v0 v3 v6 v9 v12 v15 v18 v21 v24 v27 v30 v33 v36 v39 v42 v45 v48 v51).trips, ∀ (hinb : ∀ a, (k0_off74 v0 v3 v6 v9 v12 v15 v18 v21 v24 v27 v30 v33 v36 v39 v42 v45 v48 v51 k0_t1) a + S1x1024x2816.size a ≤ S4x2816x2816.size a), (Rect.unit (s := S4x2816x2816) (k0_off74 v0 v3 v6 v9 v12 v15 v18 v21 v24 v27 v30 v33 v36 v39 v42 v45 v48 v51 k0_t1) S1x1024x2816.size hinb).WholeWords (EltTy.packing .i8)) ∧
  (∀ k0_t1 : Fin (k0_t1_loop v0 v3 v6 v9 v12 v15 v18 v21 v24 v27 v30 v33 v36 v39 v42 v45 v48 v51).trips, ∀ a, (k0_off76 v0 v3 v6 v9 v12 v15 v18 v21 v24 v27 v30 v33 v36 v39 v42 v45 v48 v51 k0_t1) a + S1x1024x2816.size a ≤ S4x2816x2816.size a) ∧
  (∀ k0_t1 : Fin (k0_t1_loop v0 v3 v6 v9 v12 v15 v18 v21 v24 v27 v30 v33 v36 v39 v42 v45 v48 v51).trips, ∀ a, (k0_off77 v0 v3 v6 v9 v12 v15 v18 v21 v24 v27 v30 v33 v36 v39 v42 v45 v48 v51 k0_t1) a + S1x1.size a ≤ S4x3.size a) ∧
  (∀ k0_t1 : Fin (k0_t1_loop v0 v3 v6 v9 v12 v15 v18 v21 v24 v27 v30 v33 v36 v39 v42 v45 v48 v51).trips, ∀ a, (k0_off78 v0 v3 v6 v9 v12 v15 v18 v21 v24 v27 v30 v33 v36 v39 v42 v45 v48 v51 k0_t1) a + S1x768x2816.size a ≤ S4x2816x2816.size a) ∧
  (∀ k0_t1 : Fin (k0_t1_loop v0 v3 v6 v9 v12 v15 v18 v21 v24 v27 v30 v33 v36 v39 v42 v45 v48 v51).trips, ∀ (hinb : ∀ a, (k0_off78 v0 v3 v6 v9 v12 v15 v18 v21 v24 v27 v30 v33 v36 v39 v42 v45 v48 v51 k0_t1) a + S1x768x2816.size a ≤ S4x2816x2816.size a), (Rect.unit (s := S4x2816x2816) (k0_off78 v0 v3 v6 v9 v12 v15 v18 v21 v24 v27 v30 v33 v36 v39 v42 v45 v48 v51 k0_t1) S1x768x2816.size hinb).WholeWords (EltTy.packing .i8)) ∧
  (∀ k0_t1 : Fin (k0_t1_loop v0 v3 v6 v9 v12 v15 v18 v21 v24 v27 v30 v33 v36 v39 v42 v45 v48 v51).trips, ∀ a, (k0_off80 v0 v3 v6 v9 v12 v15 v18 v21 v24 v27 v30 v33 v36 v39 v42 v45 v48 v51 k0_t1) a + S1x768x2816.size a ≤ S4x2816x2816.size a) ∧
  (∀ k0_t1 : Fin (k0_t1_loop v0 v3 v6 v9 v12 v15 v18 v21 v24 v27 v30 v33 v36 v39 v42 v45 v48 v51).trips, ∀ a, (k0_off82 v0 v3 v6 v9 v12 v15 v18 v21 v24 v27 v30 v33 v36 v39 v42 v45 v48 v51 k0_t1) a + S1.size a ≤ S8.size a) ∧
  (∀ k0_t1 : Fin (k0_t1_loop v0 v3 v6 v9 v12 v15 v18 v21 v24 v27 v30 v33 v36 v39 v42 v45 v48 v51).trips, ∀ a, (k0_off83 v0 v3 v6 v9 v12 v15 v18 v21 v24 v27 v30 v33 v36 v39 v42 v45 v48 v51 k0_t1) a + S1x1.size a ≤ S4x2.size a) ∧
  (∀ k0_t1 : Fin (k0_t1_loop v0 v3 v6 v9 v12 v15 v18 v21 v24 v27 v30 v33 v36 v39 v42 v45 v48 v51).trips, ∀ a, (k0_off84 v0 v3 v6 v9 v12 v15 v18 v21 v24 v27 v30 v33 v36 v39 v42 v45 v48 v51 k0_t1) a + S1x1024x2816.size a ≤ S4x1408x2816.size a) ∧
  (∀ k0_t1 : Fin (k0_t1_loop v0 v3 v6 v9 v12 v15 v18 v21 v24 v27 v30 v33 v36 v39 v42 v45 v48 v51).trips, ∀ (hinb : ∀ a, (k0_off84 v0 v3 v6 v9 v12 v15 v18 v21 v24 v27 v30 v33 v36 v39 v42 v45 v48 v51 k0_t1) a + S1x1024x2816.size a ≤ S4x1408x2816.size a), (Rect.unit (s := S4x1408x2816) (k0_off84 v0 v3 v6 v9 v12 v15 v18 v21 v24 v27 v30 v33 v36 v39 v42 v45 v48 v51 k0_t1) S1x1024x2816.size hinb).WholeWords (EltTy.packing .i8)) ∧
  (∀ k0_t1 : Fin (k0_t1_loop v0 v3 v6 v9 v12 v15 v18 v21 v24 v27 v30 v33 v36 v39 v42 v45 v48 v51).trips, ∀ a, (k0_off86 v0 v3 v6 v9 v12 v15 v18 v21 v24 v27 v30 v33 v36 v39 v42 v45 v48 v51 k0_t1) a + S1x1024x2816.size a ≤ S4x1408x2816.size a) ∧
  (∀ k0_t1 : Fin (k0_t1_loop v0 v3 v6 v9 v12 v15 v18 v21 v24 v27 v30 v33 v36 v39 v42 v45 v48 v51).trips, ∀ a, (k0_off87 v0 v3 v6 v9 v12 v15 v18 v21 v24 v27 v30 v33 v36 v39 v42 v45 v48 v51 k0_t1) a + S1x1.size a ≤ S4x2.size a) ∧
  (∀ k0_t1 : Fin (k0_t1_loop v0 v3 v6 v9 v12 v15 v18 v21 v24 v27 v30 v33 v36 v39 v42 v45 v48 v51).trips, ∀ a, (k0_off88 v0 v3 v6 v9 v12 v15 v18 v21 v24 v27 v30 v33 v36 v39 v42 v45 v48 v51 k0_t1) a + S1x384x2816.size a ≤ S4x1408x2816.size a) ∧
  (∀ k0_t1 : Fin (k0_t1_loop v0 v3 v6 v9 v12 v15 v18 v21 v24 v27 v30 v33 v36 v39 v42 v45 v48 v51).trips, ∀ (hinb : ∀ a, (k0_off88 v0 v3 v6 v9 v12 v15 v18 v21 v24 v27 v30 v33 v36 v39 v42 v45 v48 v51 k0_t1) a + S1x384x2816.size a ≤ S4x1408x2816.size a), (Rect.unit (s := S4x1408x2816) (k0_off88 v0 v3 v6 v9 v12 v15 v18 v21 v24 v27 v30 v33 v36 v39 v42 v45 v48 v51 k0_t1) S1x384x2816.size hinb).WholeWords (EltTy.packing .i8)) ∧
  (∀ k0_t1 : Fin (k0_t1_loop v0 v3 v6 v9 v12 v15 v18 v21 v24 v27 v30 v33 v36 v39 v42 v45 v48 v51).trips, ∀ a, (k0_off90 v0 v3 v6 v9 v12 v15 v18 v21 v24 v27 v30 v33 v36 v39 v42 v45 v48 v51 k0_t1) a + S1x384x2816.size a ≤ S4x1408x2816.size a) ∧
  (∀ k0_t1 : Fin (k0_t1_loop v0 v3 v6 v9 v12 v15 v18 v21 v24 v27 v30 v33 v36 v39 v42 v45 v48 v51).trips, ∀ (k0_h13 : k0_cond13 v0 v3 v6 v9 v12 v15 v18 v21 v24 v27 v30 v33 v36 v39 v42 v45 v48 v51 k0_t1 = 1#1), ∀ a, (k0_off91 v0 v3 v6 v9 v12 v15 v18 v21 v24 v27 v30 v33 v36 v39 v42 v45 v48 v51 k0_t1) a + S1.size a ≤ S8.size a) ∧
  (∀ k0_t1 : Fin (k0_t1_loop v0 v3 v6 v9 v12 v15 v18 v21 v24 v27 v30 v33 v36 v39 v42 v45 v48 v51).trips, ∀ (k0_h13 : k0_cond13 v0 v3 v6 v9 v12 v15 v18 v21 v24 v27 v30 v33 v36 v39 v42 v45 v48 v51 k0_t1 = 1#1), ∀ a, (k0_off92 v0 v3 v6 v9 v12 v15 v18 v21 v24 v27 v30 v33 v36 v39 v42 v45 v48 v51 k0_t1) a + S1x1.size a ≤ S4x3.size a)
def k0_chk1_1 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) : Prop :=
  (∀ k0_t1 : Fin (k0_t1_loop v0 v3 v6 v9 v12 v15 v18 v21 v24 v27 v30 v33 v36 v39 v42 v45 v48 v51).trips, ∀ (k0_h13 : k0_cond13 v0 v3 v6 v9 v12 v15 v18 v21 v24 v27 v30 v33 v36 v39 v42 v45 v48 v51 k0_t1 = 1#1), ∀ a, (k0_off93 v0 v3 v6 v9 v12 v15 v18 v21 v24 v27 v30 v33 v36 v39 v42 v45 v48 v51 k0_t1) a + S1x1024x2816.size a ≤ S4x2816x2816.size a) ∧
  (∀ k0_t1 : Fin (k0_t1_loop v0 v3 v6 v9 v12 v15 v18 v21 v24 v27 v30 v33 v36 v39 v42 v45 v48 v51).trips, ∀ (k0_h13 : k0_cond13 v0 v3 v6 v9 v12 v15 v18 v21 v24 v27 v30 v33 v36 v39 v42 v45 v48 v51 k0_t1 = 1#1), ∀ (hinb : ∀ a, (k0_off93 v0 v3 v6 v9 v12 v15 v18 v21 v24 v27 v30 v33 v36 v39 v42 v45 v48 v51 k0_t1) a + S1x1024x2816.size a ≤ S4x2816x2816.size a), (Rect.unit (s := S4x2816x2816) (k0_off93 v0 v3 v6 v9 v12 v15 v18 v21 v24 v27 v30 v33 v36 v39 v42 v45 v48 v51 k0_t1) S1x1024x2816.size hinb).WholeWords (EltTy.packing .i8)) ∧
  (∀ k0_t1 : Fin (k0_t1_loop v0 v3 v6 v9 v12 v15 v18 v21 v24 v27 v30 v33 v36 v39 v42 v45 v48 v51).trips, ∀ (k0_h13 : k0_cond13 v0 v3 v6 v9 v12 v15 v18 v21 v24 v27 v30 v33 v36 v39 v42 v45 v48 v51 k0_t1 = 1#1), ∀ a, (k0_off95 v0 v3 v6 v9 v12 v15 v18 v21 v24 v27 v30 v33 v36 v39 v42 v45 v48 v51 k0_t1) a + S1x1.size a ≤ S4x3.size a) ∧
  (∀ k0_t1 : Fin (k0_t1_loop v0 v3 v6 v9 v12 v15 v18 v21 v24 v27 v30 v33 v36 v39 v42 v45 v48 v51).trips, ∀ (k0_h13 : k0_cond13 v0 v3 v6 v9 v12 v15 v18 v21 v24 v27 v30 v33 v36 v39 v42 v45 v48 v51 k0_t1 = 1#1), ∀ a, (k0_off96 v0 v3 v6 v9 v12 v15 v18 v21 v24 v27 v30 v33 v36 v39 v42 v45 v48 v51 k0_t1) a + S1x1024x2816.size a ≤ S4x2816x2816.size a) ∧
  (∀ k0_t1 : Fin (k0_t1_loop v0 v3 v6 v9 v12 v15 v18 v21 v24 v27 v30 v33 v36 v39 v42 v45 v48 v51).trips, ∀ (k0_h13 : k0_cond13 v0 v3 v6 v9 v12 v15 v18 v21 v24 v27 v30 v33 v36 v39 v42 v45 v48 v51 k0_t1 = 1#1), ∀ (hinb : ∀ a, (k0_off96 v0 v3 v6 v9 v12 v15 v18 v21 v24 v27 v30 v33 v36 v39 v42 v45 v48 v51 k0_t1) a + S1x1024x2816.size a ≤ S4x2816x2816.size a), (Rect.unit (s := S4x2816x2816) (k0_off96 v0 v3 v6 v9 v12 v15 v18 v21 v24 v27 v30 v33 v36 v39 v42 v45 v48 v51 k0_t1) S1x1024x2816.size hinb).WholeWords (EltTy.packing .i8)) ∧
  (∀ k0_t1 : Fin (k0_t1_loop v0 v3 v6 v9 v12 v15 v18 v21 v24 v27 v30 v33 v36 v39 v42 v45 v48 v51).trips, ∀ (k0_h13 : k0_cond13 v0 v3 v6 v9 v12 v15 v18 v21 v24 v27 v30 v33 v36 v39 v42 v45 v48 v51 k0_t1 = 1#1), ∀ a, (k0_off98 v0 v3 v6 v9 v12 v15 v18 v21 v24 v27 v30 v33 v36 v39 v42 v45 v48 v51 k0_t1) a + S1x1.size a ≤ S4x3.size a) ∧
  (∀ k0_t1 : Fin (k0_t1_loop v0 v3 v6 v9 v12 v15 v18 v21 v24 v27 v30 v33 v36 v39 v42 v45 v48 v51).trips, ∀ (k0_h13 : k0_cond13 v0 v3 v6 v9 v12 v15 v18 v21 v24 v27 v30 v33 v36 v39 v42 v45 v48 v51 k0_t1 = 1#1), ∀ a, (k0_off99 v0 v3 v6 v9 v12 v15 v18 v21 v24 v27 v30 v33 v36 v39 v42 v45 v48 v51 k0_t1) a + S1x768x2816.size a ≤ S4x2816x2816.size a) ∧
  (∀ k0_t1 : Fin (k0_t1_loop v0 v3 v6 v9 v12 v15 v18 v21 v24 v27 v30 v33 v36 v39 v42 v45 v48 v51).trips, ∀ (k0_h13 : k0_cond13 v0 v3 v6 v9 v12 v15 v18 v21 v24 v27 v30 v33 v36 v39 v42 v45 v48 v51 k0_t1 = 1#1), ∀ (hinb : ∀ a, (k0_off99 v0 v3 v6 v9 v12 v15 v18 v21 v24 v27 v30 v33 v36 v39 v42 v45 v48 v51 k0_t1) a + S1x768x2816.size a ≤ S4x2816x2816.size a), (Rect.unit (s := S4x2816x2816) (k0_off99 v0 v3 v6 v9 v12 v15 v18 v21 v24 v27 v30 v33 v36 v39 v42 v45 v48 v51 k0_t1) S1x768x2816.size hinb).WholeWords (EltTy.packing .i8)) ∧
  (∀ k0_t1 : Fin (k0_t1_loop v0 v3 v6 v9 v12 v15 v18 v21 v24 v27 v30 v33 v36 v39 v42 v45 v48 v51).trips, ∀ (k0_h13 : k0_cond13 v0 v3 v6 v9 v12 v15 v18 v21 v24 v27 v30 v33 v36 v39 v42 v45 v48 v51 k0_t1 = 1#1), ∀ a, (k0_off101 v0 v3 v6 v9 v12 v15 v18 v21 v24 v27 v30 v33 v36 v39 v42 v45 v48 v51 k0_t1) a + S1.size a ≤ S8.size a) ∧
  (∀ k0_t1 : Fin (k0_t1_loop v0 v3 v6 v9 v12 v15 v18 v21 v24 v27 v30 v33 v36 v39 v42 v45 v48 v51).trips, ∀ (k0_h13 : k0_cond13 v0 v3 v6 v9 v12 v15 v18 v21 v24 v27 v30 v33 v36 v39 v42 v45 v48 v51 k0_t1 = 1#1), ∀ a, (k0_off102 v0 v3 v6 v9 v12 v15 v18 v21 v24 v27 v30 v33 v36 v39 v42 v45 v48 v51 k0_t1) a + S1x1.size a ≤ S4x2.size a) ∧
  (∀ k0_t1 : Fin (k0_t1_loop v0 v3 v6 v9 v12 v15 v18 v21 v24 v27 v30 v33 v36 v39 v42 v45 v48 v51).trips, ∀ (k0_h13 : k0_cond13 v0 v3 v6 v9 v12 v15 v18 v21 v24 v27 v30 v33 v36 v39 v42 v45 v48 v51 k0_t1 = 1#1), ∀ a, (k0_off103 v0 v3 v6 v9 v12 v15 v18 v21 v24 v27 v30 v33 v36 v39 v42 v45 v48 v51 k0_t1) a + S1x1024x2816.size a ≤ S4x1408x2816.size a) ∧
  (∀ k0_t1 : Fin (k0_t1_loop v0 v3 v6 v9 v12 v15 v18 v21 v24 v27 v30 v33 v36 v39 v42 v45 v48 v51).trips, ∀ (k0_h13 : k0_cond13 v0 v3 v6 v9 v12 v15 v18 v21 v24 v27 v30 v33 v36 v39 v42 v45 v48 v51 k0_t1 = 1#1), ∀ (hinb : ∀ a, (k0_off103 v0 v3 v6 v9 v12 v15 v18 v21 v24 v27 v30 v33 v36 v39 v42 v45 v48 v51 k0_t1) a + S1x1024x2816.size a ≤ S4x1408x2816.size a), (Rect.unit (s := S4x1408x2816) (k0_off103 v0 v3 v6 v9 v12 v15 v18 v21 v24 v27 v30 v33 v36 v39 v42 v45 v48 v51 k0_t1) S1x1024x2816.size hinb).WholeWords (EltTy.packing .i8)) ∧
  (∀ k0_t1 : Fin (k0_t1_loop v0 v3 v6 v9 v12 v15 v18 v21 v24 v27 v30 v33 v36 v39 v42 v45 v48 v51).trips, ∀ (k0_h13 : k0_cond13 v0 v3 v6 v9 v12 v15 v18 v21 v24 v27 v30 v33 v36 v39 v42 v45 v48 v51 k0_t1 = 1#1), ∀ a, (k0_off105 v0 v3 v6 v9 v12 v15 v18 v21 v24 v27 v30 v33 v36 v39 v42 v45 v48 v51 k0_t1) a + S1x1.size a ≤ S4x2.size a) ∧
  (∀ k0_t1 : Fin (k0_t1_loop v0 v3 v6 v9 v12 v15 v18 v21 v24 v27 v30 v33 v36 v39 v42 v45 v48 v51).trips, ∀ (k0_h13 : k0_cond13 v0 v3 v6 v9 v12 v15 v18 v21 v24 v27 v30 v33 v36 v39 v42 v45 v48 v51 k0_t1 = 1#1), ∀ a, (k0_off106 v0 v3 v6 v9 v12 v15 v18 v21 v24 v27 v30 v33 v36 v39 v42 v45 v48 v51 k0_t1) a + S1x384x2816.size a ≤ S4x1408x2816.size a) ∧
  (∀ k0_t1 : Fin (k0_t1_loop v0 v3 v6 v9 v12 v15 v18 v21 v24 v27 v30 v33 v36 v39 v42 v45 v48 v51).trips, ∀ (k0_h13 : k0_cond13 v0 v3 v6 v9 v12 v15 v18 v21 v24 v27 v30 v33 v36 v39 v42 v45 v48 v51 k0_t1 = 1#1), ∀ (hinb : ∀ a, (k0_off106 v0 v3 v6 v9 v12 v15 v18 v21 v24 v27 v30 v33 v36 v39 v42 v45 v48 v51 k0_t1) a + S1x384x2816.size a ≤ S4x1408x2816.size a), (Rect.unit (s := S4x1408x2816) (k0_off106 v0 v3 v6 v9 v12 v15 v18 v21 v24 v27 v30 v33 v36 v39 v42 v45 v48 v51 k0_t1) S1x384x2816.size hinb).WholeWords (EltTy.packing .i8)) ∧
  ((k0_t2_loop v0 v3 v6 v9 v12 v15 v18 v21 v24 v27 v30 v33 v36 v39 v42 v45 v48 v51).OK) ∧
  (∀ k0_t2 : Fin (k0_t2_loop v0 v3 v6 v9 v12 v15 v18 v21 v24 v27 v30 v33 v36 v39 v42 v45 v48 v51).trips, ∀ a, (k0_off109 v0 v3 v6 v9 v12 v15 v18 v21 v24 v27 v30 v33 v36 v39 v42 v45 v48 v51 k0_t2) a + S1.size a ≤ S8.size a) ∧
  (∀ k0_t2 : Fin (k0_t2_loop v0 v3 v6 v9 v12 v15 v18 v21 v24 v27 v30 v33 v36 v39 v42 v45 v48 v51).trips, ∀ a, (k0_off110 v0 v3 v6 v9 v12 v15 v18 v21 v24 v27 v30 v33 v36 v39 v42 v45 v48 v51 k0_t2) a + S1x1.size a ≤ S4x3.size a) ∧
  (∀ k0_t2 : Fin (k0_t2_loop v0 v3 v6 v9 v12 v15 v18 v21 v24 v27 v30 v33 v36 v39 v42 v45 v48 v51).trips, ∀ a, (k0_off111 v0 v3 v6 v9 v12 v15 v18 v21 v24 v27 v30 v33 v36 v39 v42 v45 v48 v51 k0_t2) a + S1x1024x2816.size a ≤ S4x2816x2816.size a) ∧
  (∀ k0_t2 : Fin (k0_t2_loop v0 v3 v6 v9 v12 v15 v18 v21 v24 v27 v30 v33 v36 v39 v42 v45 v48 v51).trips, ∀ (hinb : ∀ a, (k0_off111 v0 v3 v6 v9 v12 v15 v18 v21 v24 v27 v30 v33 v36 v39 v42 v45 v48 v51 k0_t2) a + S1x1024x2816.size a ≤ S4x2816x2816.size a), (Rect.unit (s := S4x2816x2816) (k0_off111 v0 v3 v6 v9 v12 v15 v18 v21 v24 v27 v30 v33 v36 v39 v42 v45 v48 v51 k0_t2) S1x1024x2816.size hinb).WholeWords (EltTy.packing .i8)) ∧
  (∀ k0_t2 : Fin (k0_t2_loop v0 v3 v6 v9 v12 v15 v18 v21 v24 v27 v30 v33 v36 v39 v42 v45 v48 v51).trips, ∀ a, (k0_off113 v0 v3 v6 v9 v12 v15 v18 v21 v24 v27 v30 v33 v36 v39 v42 v45 v48 v51 k0_t2) a + S1x1024x2816.size a ≤ S4x2816x2816.size a) ∧
  (∀ k0_t2 : Fin (k0_t2_loop v0 v3 v6 v9 v12 v15 v18 v21 v24 v27 v30 v33 v36 v39 v42 v45 v48 v51).trips, ∀ a, (k0_off114 v0 v3 v6 v9 v12 v15 v18 v21 v24 v27 v30 v33 v36 v39 v42 v45 v48 v51 k0_t2) a + S1x1.size a ≤ S4x3.size a) ∧
  (∀ k0_t2 : Fin (k0_t2_loop v0 v3 v6 v9 v12 v15 v18 v21 v24 v27 v30 v33 v36 v39 v42 v45 v48 v51).trips, ∀ a, (k0_off115 v0 v3 v6 v9 v12 v15 v18 v21 v24 v27 v30 v33 v36 v39 v42 v45 v48 v51 k0_t2) a + S1x1024x2816.size a ≤ S4x2816x2816.size a) ∧
  (∀ k0_t2 : Fin (k0_t2_loop v0 v3 v6 v9 v12 v15 v18 v21 v24 v27 v30 v33 v36 v39 v42 v45 v48 v51).trips, ∀ (hinb : ∀ a, (k0_off115 v0 v3 v6 v9 v12 v15 v18 v21 v24 v27 v30 v33 v36 v39 v42 v45 v48 v51 k0_t2) a + S1x1024x2816.size a ≤ S4x2816x2816.size a), (Rect.unit (s := S4x2816x2816) (k0_off115 v0 v3 v6 v9 v12 v15 v18 v21 v24 v27 v30 v33 v36 v39 v42 v45 v48 v51 k0_t2) S1x1024x2816.size hinb).WholeWords (EltTy.packing .i8)) ∧
  (∀ k0_t2 : Fin (k0_t2_loop v0 v3 v6 v9 v12 v15 v18 v21 v24 v27 v30 v33 v36 v39 v42 v45 v48 v51).trips, ∀ a, (k0_off117 v0 v3 v6 v9 v12 v15 v18 v21 v24 v27 v30 v33 v36 v39 v42 v45 v48 v51 k0_t2) a + S1x1024x2816.size a ≤ S4x2816x2816.size a) ∧
  (∀ k0_t2 : Fin (k0_t2_loop v0 v3 v6 v9 v12 v15 v18 v21 v24 v27 v30 v33 v36 v39 v42 v45 v48 v51).trips, ∀ a, (k0_off118 v0 v3 v6 v9 v12 v15 v18 v21 v24 v27 v30 v33 v36 v39 v42 v45 v48 v51 k0_t2) a + S1x1.size a ≤ S4x3.size a) ∧
  (∀ k0_t2 : Fin (k0_t2_loop v0 v3 v6 v9 v12 v15 v18 v21 v24 v27 v30 v33 v36 v39 v42 v45 v48 v51).trips, ∀ a, (k0_off119 v0 v3 v6 v9 v12 v15 v18 v21 v24 v27 v30 v33 v36 v39 v42 v45 v48 v51 k0_t2) a + S1x768x2816.size a ≤ S4x2816x2816.size a) ∧
  (∀ k0_t2 : Fin (k0_t2_loop v0 v3 v6 v9 v12 v15 v18 v21 v24 v27 v30 v33 v36 v39 v42 v45 v48 v51).trips, ∀ (hinb : ∀ a, (k0_off119 v0 v3 v6 v9 v12 v15 v18 v21 v24 v27 v30 v33 v36 v39 v42 v45 v48 v51 k0_t2) a + S1x768x2816.size a ≤ S4x2816x2816.size a), (Rect.unit (s := S4x2816x2816) (k0_off119 v0 v3 v6 v9 v12 v15 v18 v21 v24 v27 v30 v33 v36 v39 v42 v45 v48 v51 k0_t2) S1x768x2816.size hinb).WholeWords (EltTy.packing .i8)) ∧
  (∀ k0_t2 : Fin (k0_t2_loop v0 v3 v6 v9 v12 v15 v18 v21 v24 v27 v30 v33 v36 v39 v42 v45 v48 v51).trips, ∀ a, (k0_off121 v0 v3 v6 v9 v12 v15 v18 v21 v24 v27 v30 v33 v36 v39 v42 v45 v48 v51 k0_t2) a + S1x768x2816.size a ≤ S4x2816x2816.size a) ∧
  (∀ k0_t2 : Fin (k0_t2_loop v0 v3 v6 v9 v12 v15 v18 v21 v24 v27 v30 v33 v36 v39 v42 v45 v48 v51).trips, ∀ a, (k0_off123 v0 v3 v6 v9 v12 v15 v18 v21 v24 v27 v30 v33 v36 v39 v42 v45 v48 v51 k0_t2) a + S1.size a ≤ S8.size a) ∧
  (∀ k0_t2 : Fin (k0_t2_loop v0 v3 v6 v9 v12 v15 v18 v21 v24 v27 v30 v33 v36 v39 v42 v45 v48 v51).trips, ∀ a, (k0_off124 v0 v3 v6 v9 v12 v15 v18 v21 v24 v27 v30 v33 v36 v39 v42 v45 v48 v51 k0_t2) a + S1x1.size a ≤ S4x2.size a) ∧
  (∀ k0_t2 : Fin (k0_t2_loop v0 v3 v6 v9 v12 v15 v18 v21 v24 v27 v30 v33 v36 v39 v42 v45 v48 v51).trips, ∀ a, (k0_off125 v0 v3 v6 v9 v12 v15 v18 v21 v24 v27 v30 v33 v36 v39 v42 v45 v48 v51 k0_t2) a + S1x1024x2816.size a ≤ S4x1408x2816.size a)
def k0_chk1_2 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) : Prop :=
  (∀ k0_t2 : Fin (k0_t2_loop v0 v3 v6 v9 v12 v15 v18 v21 v24 v27 v30 v33 v36 v39 v42 v45 v48 v51).trips, ∀ (hinb : ∀ a, (k0_off125 v0 v3 v6 v9 v12 v15 v18 v21 v24 v27 v30 v33 v36 v39 v42 v45 v48 v51 k0_t2) a + S1x1024x2816.size a ≤ S4x1408x2816.size a), (Rect.unit (s := S4x1408x2816) (k0_off125 v0 v3 v6 v9 v12 v15 v18 v21 v24 v27 v30 v33 v36 v39 v42 v45 v48 v51 k0_t2) S1x1024x2816.size hinb).WholeWords (EltTy.packing .i8)) ∧
  (∀ k0_t2 : Fin (k0_t2_loop v0 v3 v6 v9 v12 v15 v18 v21 v24 v27 v30 v33 v36 v39 v42 v45 v48 v51).trips, ∀ a, (k0_off127 v0 v3 v6 v9 v12 v15 v18 v21 v24 v27 v30 v33 v36 v39 v42 v45 v48 v51 k0_t2) a + S1x1024x2816.size a ≤ S4x1408x2816.size a) ∧
  (∀ k0_t2 : Fin (k0_t2_loop v0 v3 v6 v9 v12 v15 v18 v21 v24 v27 v30 v33 v36 v39 v42 v45 v48 v51).trips, ∀ a, (k0_off128 v0 v3 v6 v9 v12 v15 v18 v21 v24 v27 v30 v33 v36 v39 v42 v45 v48 v51 k0_t2) a + S1x1.size a ≤ S4x2.size a) ∧
  (∀ k0_t2 : Fin (k0_t2_loop v0 v3 v6 v9 v12 v15 v18 v21 v24 v27 v30 v33 v36 v39 v42 v45 v48 v51).trips, ∀ a, (k0_off129 v0 v3 v6 v9 v12 v15 v18 v21 v24 v27 v30 v33 v36 v39 v42 v45 v48 v51 k0_t2) a + S1x384x2816.size a ≤ S4x1408x2816.size a) ∧
  (∀ k0_t2 : Fin (k0_t2_loop v0 v3 v6 v9 v12 v15 v18 v21 v24 v27 v30 v33 v36 v39 v42 v45 v48 v51).trips, ∀ (hinb : ∀ a, (k0_off129 v0 v3 v6 v9 v12 v15 v18 v21 v24 v27 v30 v33 v36 v39 v42 v45 v48 v51 k0_t2) a + S1x384x2816.size a ≤ S4x1408x2816.size a), (Rect.unit (s := S4x1408x2816) (k0_off129 v0 v3 v6 v9 v12 v15 v18 v21 v24 v27 v30 v33 v36 v39 v42 v45 v48 v51 k0_t2) S1x384x2816.size hinb).WholeWords (EltTy.packing .i8)) ∧
  (∀ k0_t2 : Fin (k0_t2_loop v0 v3 v6 v9 v12 v15 v18 v21 v24 v27 v30 v33 v36 v39 v42 v45 v48 v51).trips, ∀ a, (k0_off131 v0 v3 v6 v9 v12 v15 v18 v21 v24 v27 v30 v33 v36 v39 v42 v45 v48 v51 k0_t2) a + S1x384x2816.size a ≤ S4x1408x2816.size a) ∧
  (∀ k0_t2 : Fin (k0_t2_loop v0 v3 v6 v9 v12 v15 v18 v21 v24 v27 v30 v33 v36 v39 v42 v45 v48 v51).trips, ∀ (k0_h14 : k0_cond14 v0 v3 v6 v9 v12 v15 v18 v21 v24 v27 v30 v33 v36 v39 v42 v45 v48 v51 k0_t2 = 1#1), ∀ a, (k0_off132 v0 v3 v6 v9 v12 v15 v18 v21 v24 v27 v30 v33 v36 v39 v42 v45 v48 v51 k0_t2) a + S1.size a ≤ S8.size a) ∧
  (∀ k0_t2 : Fin (k0_t2_loop v0 v3 v6 v9 v12 v15 v18 v21 v24 v27 v30 v33 v36 v39 v42 v45 v48 v51).trips, ∀ (k0_h14 : k0_cond14 v0 v3 v6 v9 v12 v15 v18 v21 v24 v27 v30 v33 v36 v39 v42 v45 v48 v51 k0_t2 = 1#1), ∀ a, (k0_off133 v0 v3 v6 v9 v12 v15 v18 v21 v24 v27 v30 v33 v36 v39 v42 v45 v48 v51 k0_t2) a + S1x1.size a ≤ S4x3.size a) ∧
  (∀ k0_t2 : Fin (k0_t2_loop v0 v3 v6 v9 v12 v15 v18 v21 v24 v27 v30 v33 v36 v39 v42 v45 v48 v51).trips, ∀ (k0_h14 : k0_cond14 v0 v3 v6 v9 v12 v15 v18 v21 v24 v27 v30 v33 v36 v39 v42 v45 v48 v51 k0_t2 = 1#1), ∀ a, (k0_off134 v0 v3 v6 v9 v12 v15 v18 v21 v24 v27 v30 v33 v36 v39 v42 v45 v48 v51 k0_t2) a + S1x1024x2816.size a ≤ S4x2816x2816.size a) ∧
  (∀ k0_t2 : Fin (k0_t2_loop v0 v3 v6 v9 v12 v15 v18 v21 v24 v27 v30 v33 v36 v39 v42 v45 v48 v51).trips, ∀ (k0_h14 : k0_cond14 v0 v3 v6 v9 v12 v15 v18 v21 v24 v27 v30 v33 v36 v39 v42 v45 v48 v51 k0_t2 = 1#1), ∀ (hinb : ∀ a, (k0_off134 v0 v3 v6 v9 v12 v15 v18 v21 v24 v27 v30 v33 v36 v39 v42 v45 v48 v51 k0_t2) a + S1x1024x2816.size a ≤ S4x2816x2816.size a), (Rect.unit (s := S4x2816x2816) (k0_off134 v0 v3 v6 v9 v12 v15 v18 v21 v24 v27 v30 v33 v36 v39 v42 v45 v48 v51 k0_t2) S1x1024x2816.size hinb).WholeWords (EltTy.packing .i8)) ∧
  (∀ k0_t2 : Fin (k0_t2_loop v0 v3 v6 v9 v12 v15 v18 v21 v24 v27 v30 v33 v36 v39 v42 v45 v48 v51).trips, ∀ (k0_h14 : k0_cond14 v0 v3 v6 v9 v12 v15 v18 v21 v24 v27 v30 v33 v36 v39 v42 v45 v48 v51 k0_t2 = 1#1), ∀ a, (k0_off136 v0 v3 v6 v9 v12 v15 v18 v21 v24 v27 v30 v33 v36 v39 v42 v45 v48 v51 k0_t2) a + S1x1.size a ≤ S4x3.size a) ∧
  (∀ k0_t2 : Fin (k0_t2_loop v0 v3 v6 v9 v12 v15 v18 v21 v24 v27 v30 v33 v36 v39 v42 v45 v48 v51).trips, ∀ (k0_h14 : k0_cond14 v0 v3 v6 v9 v12 v15 v18 v21 v24 v27 v30 v33 v36 v39 v42 v45 v48 v51 k0_t2 = 1#1), ∀ a, (k0_off137 v0 v3 v6 v9 v12 v15 v18 v21 v24 v27 v30 v33 v36 v39 v42 v45 v48 v51 k0_t2) a + S1x1024x2816.size a ≤ S4x2816x2816.size a) ∧
  (∀ k0_t2 : Fin (k0_t2_loop v0 v3 v6 v9 v12 v15 v18 v21 v24 v27 v30 v33 v36 v39 v42 v45 v48 v51).trips, ∀ (k0_h14 : k0_cond14 v0 v3 v6 v9 v12 v15 v18 v21 v24 v27 v30 v33 v36 v39 v42 v45 v48 v51 k0_t2 = 1#1), ∀ (hinb : ∀ a, (k0_off137 v0 v3 v6 v9 v12 v15 v18 v21 v24 v27 v30 v33 v36 v39 v42 v45 v48 v51 k0_t2) a + S1x1024x2816.size a ≤ S4x2816x2816.size a), (Rect.unit (s := S4x2816x2816) (k0_off137 v0 v3 v6 v9 v12 v15 v18 v21 v24 v27 v30 v33 v36 v39 v42 v45 v48 v51 k0_t2) S1x1024x2816.size hinb).WholeWords (EltTy.packing .i8)) ∧
  (∀ k0_t2 : Fin (k0_t2_loop v0 v3 v6 v9 v12 v15 v18 v21 v24 v27 v30 v33 v36 v39 v42 v45 v48 v51).trips, ∀ (k0_h14 : k0_cond14 v0 v3 v6 v9 v12 v15 v18 v21 v24 v27 v30 v33 v36 v39 v42 v45 v48 v51 k0_t2 = 1#1), ∀ a, (k0_off139 v0 v3 v6 v9 v12 v15 v18 v21 v24 v27 v30 v33 v36 v39 v42 v45 v48 v51 k0_t2) a + S1x1.size a ≤ S4x3.size a) ∧
  (∀ k0_t2 : Fin (k0_t2_loop v0 v3 v6 v9 v12 v15 v18 v21 v24 v27 v30 v33 v36 v39 v42 v45 v48 v51).trips, ∀ (k0_h14 : k0_cond14 v0 v3 v6 v9 v12 v15 v18 v21 v24 v27 v30 v33 v36 v39 v42 v45 v48 v51 k0_t2 = 1#1), ∀ a, (k0_off140 v0 v3 v6 v9 v12 v15 v18 v21 v24 v27 v30 v33 v36 v39 v42 v45 v48 v51 k0_t2) a + S1x768x2816.size a ≤ S4x2816x2816.size a) ∧
  (∀ k0_t2 : Fin (k0_t2_loop v0 v3 v6 v9 v12 v15 v18 v21 v24 v27 v30 v33 v36 v39 v42 v45 v48 v51).trips, ∀ (k0_h14 : k0_cond14 v0 v3 v6 v9 v12 v15 v18 v21 v24 v27 v30 v33 v36 v39 v42 v45 v48 v51 k0_t2 = 1#1), ∀ (hinb : ∀ a, (k0_off140 v0 v3 v6 v9 v12 v15 v18 v21 v24 v27 v30 v33 v36 v39 v42 v45 v48 v51 k0_t2) a + S1x768x2816.size a ≤ S4x2816x2816.size a), (Rect.unit (s := S4x2816x2816) (k0_off140 v0 v3 v6 v9 v12 v15 v18 v21 v24 v27 v30 v33 v36 v39 v42 v45 v48 v51 k0_t2) S1x768x2816.size hinb).WholeWords (EltTy.packing .i8)) ∧
  (∀ k0_t2 : Fin (k0_t2_loop v0 v3 v6 v9 v12 v15 v18 v21 v24 v27 v30 v33 v36 v39 v42 v45 v48 v51).trips, ∀ (k0_h14 : k0_cond14 v0 v3 v6 v9 v12 v15 v18 v21 v24 v27 v30 v33 v36 v39 v42 v45 v48 v51 k0_t2 = 1#1), ∀ a, (k0_off142 v0 v3 v6 v9 v12 v15 v18 v21 v24 v27 v30 v33 v36 v39 v42 v45 v48 v51 k0_t2) a + S1.size a ≤ S8.size a) ∧
  (∀ k0_t2 : Fin (k0_t2_loop v0 v3 v6 v9 v12 v15 v18 v21 v24 v27 v30 v33 v36 v39 v42 v45 v48 v51).trips, ∀ (k0_h14 : k0_cond14 v0 v3 v6 v9 v12 v15 v18 v21 v24 v27 v30 v33 v36 v39 v42 v45 v48 v51 k0_t2 = 1#1), ∀ a, (k0_off143 v0 v3 v6 v9 v12 v15 v18 v21 v24 v27 v30 v33 v36 v39 v42 v45 v48 v51 k0_t2) a + S1x1.size a ≤ S4x2.size a) ∧
  (∀ k0_t2 : Fin (k0_t2_loop v0 v3 v6 v9 v12 v15 v18 v21 v24 v27 v30 v33 v36 v39 v42 v45 v48 v51).trips, ∀ (k0_h14 : k0_cond14 v0 v3 v6 v9 v12 v15 v18 v21 v24 v27 v30 v33 v36 v39 v42 v45 v48 v51 k0_t2 = 1#1), ∀ a, (k0_off144 v0 v3 v6 v9 v12 v15 v18 v21 v24 v27 v30 v33 v36 v39 v42 v45 v48 v51 k0_t2) a + S1x1024x2816.size a ≤ S4x1408x2816.size a) ∧
  (∀ k0_t2 : Fin (k0_t2_loop v0 v3 v6 v9 v12 v15 v18 v21 v24 v27 v30 v33 v36 v39 v42 v45 v48 v51).trips, ∀ (k0_h14 : k0_cond14 v0 v3 v6 v9 v12 v15 v18 v21 v24 v27 v30 v33 v36 v39 v42 v45 v48 v51 k0_t2 = 1#1), ∀ (hinb : ∀ a, (k0_off144 v0 v3 v6 v9 v12 v15 v18 v21 v24 v27 v30 v33 v36 v39 v42 v45 v48 v51 k0_t2) a + S1x1024x2816.size a ≤ S4x1408x2816.size a), (Rect.unit (s := S4x1408x2816) (k0_off144 v0 v3 v6 v9 v12 v15 v18 v21 v24 v27 v30 v33 v36 v39 v42 v45 v48 v51 k0_t2) S1x1024x2816.size hinb).WholeWords (EltTy.packing .i8)) ∧
  (∀ k0_t2 : Fin (k0_t2_loop v0 v3 v6 v9 v12 v15 v18 v21 v24 v27 v30 v33 v36 v39 v42 v45 v48 v51).trips, ∀ (k0_h14 : k0_cond14 v0 v3 v6 v9 v12 v15 v18 v21 v24 v27 v30 v33 v36 v39 v42 v45 v48 v51 k0_t2 = 1#1), ∀ a, (k0_off146 v0 v3 v6 v9 v12 v15 v18 v21 v24 v27 v30 v33 v36 v39 v42 v45 v48 v51 k0_t2) a + S1x1.size a ≤ S4x2.size a) ∧
  (∀ k0_t2 : Fin (k0_t2_loop v0 v3 v6 v9 v12 v15 v18 v21 v24 v27 v30 v33 v36 v39 v42 v45 v48 v51).trips, ∀ (k0_h14 : k0_cond14 v0 v3 v6 v9 v12 v15 v18 v21 v24 v27 v30 v33 v36 v39 v42 v45 v48 v51 k0_t2 = 1#1), ∀ a, (k0_off147 v0 v3 v6 v9 v12 v15 v18 v21 v24 v27 v30 v33 v36 v39 v42 v45 v48 v51 k0_t2) a + S1x384x2816.size a ≤ S4x1408x2816.size a) ∧
  (∀ k0_t2 : Fin (k0_t2_loop v0 v3 v6 v9 v12 v15 v18 v21 v24 v27 v30 v33 v36 v39 v42 v45 v48 v51).trips, ∀ (k0_h14 : k0_cond14 v0 v3 v6 v9 v12 v15 v18 v21 v24 v27 v30 v33 v36 v39 v42 v45 v48 v51 k0_t2 = 1#1), ∀ (hinb : ∀ a, (k0_off147 v0 v3 v6 v9 v12 v15 v18 v21 v24 v27 v30 v33 v36 v39 v42 v45 v48 v51 k0_t2) a + S1x384x2816.size a ≤ S4x1408x2816.size a), (Rect.unit (s := S4x1408x2816) (k0_off147 v0 v3 v6 v9 v12 v15 v18 v21 v24 v27 v30 v33 v36 v39 v42 v45 v48 v51 k0_t2) S1x384x2816.size hinb).WholeWords (EltTy.packing .i8))
def k0_chk1 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) : Prop :=
  k0_chk1_0 v0 v3 v6 v9 v12 v15 v18 v21 v24 v27 v30 v33 v36 v39 v42 v45 v48 v51 ∧
  k0_chk1_1 v0 v3 v6 v9 v12 v15 v18 v21 v24 v27 v30 v33 v36 v39 v42 v45 v48 v51 ∧
  k0_chk1_2 v0 v3 v6 v9 v12 v15 v18 v21 v24 v27 v30 v33 v36 v39 v42 v45 v48 v51
theorem k0_off1_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51), ∀ (k0_h2 : k0_cond2 v0 v3 v6 v9 v12 v15 v18 v21 v24 v27 v30 v33 v36 v39 v42 v45 v48 v51 = 1#1), ∀ a, (k0_off1 v0 v3 v6 v9 v12 v15 v18 v21 v24 v27 v30 v33 v36 v39 v42 v45 v48 v51) a + S1.size a ≤ S8.size a := fun v0 v3 v6 v9 v12 v15 v18 v21 v24 v27 v30 v33 v36 v39 v42 v45 v48 v51 k0_hw1 k0_h2 => k0_hw1.1.1 k0_h2
theorem k0_off2_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51), ∀ (k0_h3 : k0_cond3 v0 v3 v6 v9 v12 v15 v18 v21 v24 v27 v30 v33 v36 v39 v42 v45 v48 v51 = 1#1), ∀ a, (k0_off2 v0 v3 v6 v9 v12 v15 v18 v21 v24 v27 v30 v33 v36 v39 v42 v45 v48 v51) a + S1.size a ≤ S8.size a := fun v0 v3 v6 v9 v12 v15 v18 v21 v24 v27 v30 v33 v36 v39 v42 v45 v48 v51 k0_hw1 k0_h3 => k0_hw1.1.2.1 k0_h3
theorem k0_off3_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51), ∀ (k0_h4 : k0_cond4 v0 v3 v6 v9 v12 v15 v18 v21 v24 v27 v30 v33 v36 v39 v42 v45 v48 v51 = 1#1), ∀ a, (k0_off3 v0 v3 v6 v9 v12 v15 v18 v21 v24 v27 v30 v33 v36 v39 v42 v45 v48 v51) a + S1.size a ≤ S8.size a := fun v0 v3 v6 v9 v12 v15 v18 v21 v24 v27 v30 v33 v36 v39 v42 v45 v48 v51 k0_hw1 k0_h4 => k0_hw1.1.2.2.1 k0_h4
theorem k0_off4_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51), ∀ (k0_h5 : k0_cond5 v0 v3 v6 v9 v12 v15 v18 v21 v24 v27 v30 v33 v36 v39 v42 v45 v48 v51 = 1#1), ∀ a, (k0_off4 v0 v3 v6 v9 v12 v15 v18 v21 v24 v27 v30 v33 v36 v39 v42 v45 v48 v51) a + S1.size a ≤ S8.size a := fun v0 v3 v6 v9 v12 v15 v18 v21 v24 v27 v30 v33 v36 v39 v42 v45 v48 v51 k0_hw1 k0_h5 => k0_hw1.1.2.2.2.1 k0_h5
theorem k0_off5_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51), ∀ (k0_h6 : k0_cond6 v0 v3 v6 v9 v12 v15 v18 v21 v24 v27 v30 v33 v36 v39 v42 v45 v48 v51 = 1#1), ∀ a, (k0_off5 v0 v3 v6 v9 v12 v15 v18 v21 v24 v27 v30 v33 v36 v39 v42 v45 v48 v51) a + S1.size a ≤ S8.size a := fun v0 v3 v6 v9 v12 v15 v18 v21 v24 v27 v30 v33 v36 v39 v42 v45 v48 v51 k0_hw1 k0_h6 => k0_hw1.1.2.2.2.2.1 k0_h6
theorem k0_off6_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51), ∀ (k0_h7 : k0_cond7 v0 v3 v6 v9 v12 v15 v18 v21 v24 v27 v30 v33 v36 v39 v42 v45 v48 v51 = 1#1), ∀ a, (k0_off6 v0 v3 v6 v9 v12 v15 v18 v21 v24 v27 v30 v33 v36 v39 v42 v45 v48 v51) a + S1.size a ≤ S8.size a := fun v0 v3 v6 v9 v12 v15 v18 v21 v24 v27 v30 v33 v36 v39 v42 v45 v48 v51 k0_hw1 k0_h7 => k0_hw1.1.2.2.2.2.2.1 k0_h7
theorem k0_off7_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51), ∀ (k0_h8 : k0_cond8 v0 v3 v6 v9 v12 v15 v18 v21 v24 v27 v30 v33 v36 v39 v42 v45 v48 v51 = 1#1), ∀ a, (k0_off7 v0 v3 v6 v9 v12 v15 v18 v21 v24 v27 v30 v33 v36 v39 v42 v45 v48 v51) a + S1.size a ≤ S8.size a := fun v0 v3 v6 v9 v12 v15 v18 v21 v24 v27 v30 v33 v36 v39 v42 v45 v48 v51 k0_hw1 k0_h8 => k0_hw1.1.2.2.2.2.2.2.1 k0_h8
theorem k0_t1_ok : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51), (k0_t1_loop v0 v3 v6 v9 v12 v15 v18 v21 v24 v27 v30 v33 v36 v39 v42 v45 v48 v51).OK := fun v0 v3 v6 v9 v12 v15 v18 v21 v24 v27 v30 v33 v36 v39 v42 v45 v48 v51 k0_hw1 => k0_hw1.1.2.2.2.2.2.2.2.1
theorem k0_off68_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51) (k0_t1 : Fin (k0_t1_loop v0 v3 v6 v9 v12 v15 v18 v21 v24 v27 v30 v33 v36 v39 v42 v45 v48 v51).trips), ∀ a, (k0_off68 v0 v3 v6 v9 v12 v15 v18 v21 v24 v27 v30 v33 v36 v39 v42 v45 v48 v51 k0_t1) a + S1.size a ≤ S8.size a := fun v0 v3 v6 v9 v12 v15 v18 v21 v24 v27 v30 v33 v36 v39 v42 v45 v48 v51 k0_hw1 k0_t1 => k0_hw1.1.2.2.2.2.2.2.2.2.1 k0_t1
theorem k0_off69_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51) (k0_t1 : Fin (k0_t1_loop v0 v3 v6 v9 v12 v15 v18 v21 v24 v27 v30 v33 v36 v39 v42 v45 v48 v51).trips), ∀ a, (k0_off69 v0 v3 v6 v9 v12 v15 v18 v21 v24 v27 v30 v33 v36 v39 v42 v45 v48 v51 k0_t1) a + S1x1.size a ≤ S4x3.size a := fun v0 v3 v6 v9 v12 v15 v18 v21 v24 v27 v30 v33 v36 v39 v42 v45 v48 v51 k0_hw1 k0_t1 => k0_hw1.1.2.2.2.2.2.2.2.2.2.1 k0_t1
theorem k0_off70_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51) (k0_t1 : Fin (k0_t1_loop v0 v3 v6 v9 v12 v15 v18 v21 v24 v27 v30 v33 v36 v39 v42 v45 v48 v51).trips), ∀ a, (k0_off70 v0 v3 v6 v9 v12 v15 v18 v21 v24 v27 v30 v33 v36 v39 v42 v45 v48 v51 k0_t1) a + S1x1024x2816.size a ≤ S4x2816x2816.size a := fun v0 v3 v6 v9 v12 v15 v18 v21 v24 v27 v30 v33 v36 v39 v42 v45 v48 v51 k0_hw1 k0_t1 => k0_hw1.1.2.2.2.2.2.2.2.2.2.2.1 k0_t1
theorem k0_off70_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51) (k0_t1 : Fin (k0_t1_loop v0 v3 v6 v9 v12 v15 v18 v21 v24 v27 v30 v33 v36 v39 v42 v45 v48 v51).trips), (Rect.unit (s := S4x2816x2816) (k0_off70 v0 v3 v6 v9 v12 v15 v18 v21 v24 v27 v30 v33 v36 v39 v42 v45 v48 v51 k0_t1) S1x1024x2816.size (k0_off70_inb v0 v3 v6 v9 v12 v15 v18 v21 v24 v27 v30 v33 v36 v39 v42 v45 v48 v51 k0_hw1 k0_t1)).WholeWords (EltTy.packing .i8) := fun v0 v3 v6 v9 v12 v15 v18 v21 v24 v27 v30 v33 v36 v39 v42 v45 v48 v51 k0_hw1 k0_t1 => k0_hw1.1.2.2.2.2.2.2.2.2.2.2.2.1 k0_t1 (k0_off70_inb v0 v3 v6 v9 v12 v15 v18 v21 v24 v27 v30 v33 v36 v39 v42 v45 v48 v51 k0_hw1 k0_t1)
theorem k0_off72_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51) (k0_t1 : Fin (k0_t1_loop v0 v3 v6 v9 v12 v15 v18 v21 v24 v27 v30 v33 v36 v39 v42 v45 v48 v51).trips), ∀ a, (k0_off72 v0 v3 v6 v9 v12 v15 v18 v21 v24 v27 v30 v33 v36 v39 v42 v45 v48 v51 k0_t1) a + S1x1024x2816.size a ≤ S4x2816x2816.size a := fun v0 v3 v6 v9 v12 v15 v18 v21 v24 v27 v30 v33 v36 v39 v42 v45 v48 v51 k0_hw1 k0_t1 => k0_hw1.1.2.2.2.2.2.2.2.2.2.2.2.2.1 k0_t1
theorem k0_off73_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51) (k0_t1 : Fin (k0_t1_loop v0 v3 v6 v9 v12 v15 v18 v21 v24 v27 v30 v33 v36 v39 v42 v45 v48 v51).trips), ∀ a, (k0_off73 v0 v3 v6 v9 v12 v15 v18 v21 v24 v27 v30 v33 v36 v39 v42 v45 v48 v51 k0_t1) a + S1x1.size a ≤ S4x3.size a := fun v0 v3 v6 v9 v12 v15 v18 v21 v24 v27 v30 v33 v36 v39 v42 v45 v48 v51 k0_hw1 k0_t1 => k0_hw1.1.2.2.2.2.2.2.2.2.2.2.2.2.2.1 k0_t1
theorem k0_off74_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51) (k0_t1 : Fin (k0_t1_loop v0 v3 v6 v9 v12 v15 v18 v21 v24 v27 v30 v33 v36 v39 v42 v45 v48 v51).trips), ∀ a, (k0_off74 v0 v3 v6 v9 v12 v15 v18 v21 v24 v27 v30 v33 v36 v39 v42 v45 v48 v51 k0_t1) a + S1x1024x2816.size a ≤ S4x2816x2816.size a := fun v0 v3 v6 v9 v12 v15 v18 v21 v24 v27 v30 v33 v36 v39 v42 v45 v48 v51 k0_hw1 k0_t1 => k0_hw1.1.2.2.2.2.2.2.2.2.2.2.2.2.2.2.1 k0_t1
theorem k0_off74_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51) (k0_t1 : Fin (k0_t1_loop v0 v3 v6 v9 v12 v15 v18 v21 v24 v27 v30 v33 v36 v39 v42 v45 v48 v51).trips), (Rect.unit (s := S4x2816x2816) (k0_off74 v0 v3 v6 v9 v12 v15 v18 v21 v24 v27 v30 v33 v36 v39 v42 v45 v48 v51 k0_t1) S1x1024x2816.size (k0_off74_inb v0 v3 v6 v9 v12 v15 v18 v21 v24 v27 v30 v33 v36 v39 v42 v45 v48 v51 k0_hw1 k0_t1)).WholeWords (EltTy.packing .i8) := fun v0 v3 v6 v9 v12 v15 v18 v21 v24 v27 v30 v33 v36 v39 v42 v45 v48 v51 k0_hw1 k0_t1 => k0_hw1.1.2.2.2.2.2.2.2.2.2.2.2.2.2.2.2.1 k0_t1 (k0_off74_inb v0 v3 v6 v9 v12 v15 v18 v21 v24 v27 v30 v33 v36 v39 v42 v45 v48 v51 k0_hw1 k0_t1)
theorem k0_off76_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51) (k0_t1 : Fin (k0_t1_loop v0 v3 v6 v9 v12 v15 v18 v21 v24 v27 v30 v33 v36 v39 v42 v45 v48 v51).trips), ∀ a, (k0_off76 v0 v3 v6 v9 v12 v15 v18 v21 v24 v27 v30 v33 v36 v39 v42 v45 v48 v51 k0_t1) a + S1x1024x2816.size a ≤ S4x2816x2816.size a := fun v0 v3 v6 v9 v12 v15 v18 v21 v24 v27 v30 v33 v36 v39 v42 v45 v48 v51 k0_hw1 k0_t1 => k0_hw1.1.2.2.2.2.2.2.2.2.2.2.2.2.2.2.2.2.1 k0_t1
theorem k0_off77_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51) (k0_t1 : Fin (k0_t1_loop v0 v3 v6 v9 v12 v15 v18 v21 v24 v27 v30 v33 v36 v39 v42 v45 v48 v51).trips), ∀ a, (k0_off77 v0 v3 v6 v9 v12 v15 v18 v21 v24 v27 v30 v33 v36 v39 v42 v45 v48 v51 k0_t1) a + S1x1.size a ≤ S4x3.size a := fun v0 v3 v6 v9 v12 v15 v18 v21 v24 v27 v30 v33 v36 v39 v42 v45 v48 v51 k0_hw1 k0_t1 => k0_hw1.1.2.2.2.2.2.2.2.2.2.2.2.2.2.2.2.2.2.1 k0_t1
theorem k0_off78_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51) (k0_t1 : Fin (k0_t1_loop v0 v3 v6 v9 v12 v15 v18 v21 v24 v27 v30 v33 v36 v39 v42 v45 v48 v51).trips), ∀ a, (k0_off78 v0 v3 v6 v9 v12 v15 v18 v21 v24 v27 v30 v33 v36 v39 v42 v45 v48 v51 k0_t1) a + S1x768x2816.size a ≤ S4x2816x2816.size a := fun v0 v3 v6 v9 v12 v15 v18 v21 v24 v27 v30 v33 v36 v39 v42 v45 v48 v51 k0_hw1 k0_t1 => k0_hw1.1.2.2.2.2.2.2.2.2.2.2.2.2.2.2.2.2.2.2.1 k0_t1
theorem k0_off78_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51) (k0_t1 : Fin (k0_t1_loop v0 v3 v6 v9 v12 v15 v18 v21 v24 v27 v30 v33 v36 v39 v42 v45 v48 v51).trips), (Rect.unit (s := S4x2816x2816) (k0_off78 v0 v3 v6 v9 v12 v15 v18 v21 v24 v27 v30 v33 v36 v39 v42 v45 v48 v51 k0_t1) S1x768x2816.size (k0_off78_inb v0 v3 v6 v9 v12 v15 v18 v21 v24 v27 v30 v33 v36 v39 v42 v45 v48 v51 k0_hw1 k0_t1)).WholeWords (EltTy.packing .i8) := fun v0 v3 v6 v9 v12 v15 v18 v21 v24 v27 v30 v33 v36 v39 v42 v45 v48 v51 k0_hw1 k0_t1 => k0_hw1.1.2.2.2.2.2.2.2.2.2.2.2.2.2.2.2.2.2.2.2.1 k0_t1 (k0_off78_inb v0 v3 v6 v9 v12 v15 v18 v21 v24 v27 v30 v33 v36 v39 v42 v45 v48 v51 k0_hw1 k0_t1)
theorem k0_off80_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51) (k0_t1 : Fin (k0_t1_loop v0 v3 v6 v9 v12 v15 v18 v21 v24 v27 v30 v33 v36 v39 v42 v45 v48 v51).trips), ∀ a, (k0_off80 v0 v3 v6 v9 v12 v15 v18 v21 v24 v27 v30 v33 v36 v39 v42 v45 v48 v51 k0_t1) a + S1x768x2816.size a ≤ S4x2816x2816.size a := fun v0 v3 v6 v9 v12 v15 v18 v21 v24 v27 v30 v33 v36 v39 v42 v45 v48 v51 k0_hw1 k0_t1 => k0_hw1.1.2.2.2.2.2.2.2.2.2.2.2.2.2.2.2.2.2.2.2.2.1 k0_t1
theorem k0_off82_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51) (k0_t1 : Fin (k0_t1_loop v0 v3 v6 v9 v12 v15 v18 v21 v24 v27 v30 v33 v36 v39 v42 v45 v48 v51).trips), ∀ a, (k0_off82 v0 v3 v6 v9 v12 v15 v18 v21 v24 v27 v30 v33 v36 v39 v42 v45 v48 v51 k0_t1) a + S1.size a ≤ S8.size a := fun v0 v3 v6 v9 v12 v15 v18 v21 v24 v27 v30 v33 v36 v39 v42 v45 v48 v51 k0_hw1 k0_t1 => k0_hw1.1.2.2.2.2.2.2.2.2.2.2.2.2.2.2.2.2.2.2.2.2.2.1 k0_t1
theorem k0_off83_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51) (k0_t1 : Fin (k0_t1_loop v0 v3 v6 v9 v12 v15 v18 v21 v24 v27 v30 v33 v36 v39 v42 v45 v48 v51).trips), ∀ a, (k0_off83 v0 v3 v6 v9 v12 v15 v18 v21 v24 v27 v30 v33 v36 v39 v42 v45 v48 v51 k0_t1) a + S1x1.size a ≤ S4x2.size a := fun v0 v3 v6 v9 v12 v15 v18 v21 v24 v27 v30 v33 v36 v39 v42 v45 v48 v51 k0_hw1 k0_t1 => k0_hw1.1.2.2.2.2.2.2.2.2.2.2.2.2.2.2.2.2.2.2.2.2.2.2.1 k0_t1
theorem k0_off84_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51) (k0_t1 : Fin (k0_t1_loop v0 v3 v6 v9 v12 v15 v18 v21 v24 v27 v30 v33 v36 v39 v42 v45 v48 v51).trips), ∀ a, (k0_off84 v0 v3 v6 v9 v12 v15 v18 v21 v24 v27 v30 v33 v36 v39 v42 v45 v48 v51 k0_t1) a + S1x1024x2816.size a ≤ S4x1408x2816.size a := fun v0 v3 v6 v9 v12 v15 v18 v21 v24 v27 v30 v33 v36 v39 v42 v45 v48 v51 k0_hw1 k0_t1 => k0_hw1.1.2.2.2.2.2.2.2.2.2.2.2.2.2.2.2.2.2.2.2.2.2.2.2.1 k0_t1
theorem k0_off84_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51) (k0_t1 : Fin (k0_t1_loop v0 v3 v6 v9 v12 v15 v18 v21 v24 v27 v30 v33 v36 v39 v42 v45 v48 v51).trips), (Rect.unit (s := S4x1408x2816) (k0_off84 v0 v3 v6 v9 v12 v15 v18 v21 v24 v27 v30 v33 v36 v39 v42 v45 v48 v51 k0_t1) S1x1024x2816.size (k0_off84_inb v0 v3 v6 v9 v12 v15 v18 v21 v24 v27 v30 v33 v36 v39 v42 v45 v48 v51 k0_hw1 k0_t1)).WholeWords (EltTy.packing .i8) := fun v0 v3 v6 v9 v12 v15 v18 v21 v24 v27 v30 v33 v36 v39 v42 v45 v48 v51 k0_hw1 k0_t1 => k0_hw1.1.2.2.2.2.2.2.2.2.2.2.2.2.2.2.2.2.2.2.2.2.2.2.2.2.1 k0_t1 (k0_off84_inb v0 v3 v6 v9 v12 v15 v18 v21 v24 v27 v30 v33 v36 v39 v42 v45 v48 v51 k0_hw1 k0_t1)
theorem k0_off86_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51) (k0_t1 : Fin (k0_t1_loop v0 v3 v6 v9 v12 v15 v18 v21 v24 v27 v30 v33 v36 v39 v42 v45 v48 v51).trips), ∀ a, (k0_off86 v0 v3 v6 v9 v12 v15 v18 v21 v24 v27 v30 v33 v36 v39 v42 v45 v48 v51 k0_t1) a + S1x1024x2816.size a ≤ S4x1408x2816.size a := fun v0 v3 v6 v9 v12 v15 v18 v21 v24 v27 v30 v33 v36 v39 v42 v45 v48 v51 k0_hw1 k0_t1 => k0_hw1.1.2.2.2.2.2.2.2.2.2.2.2.2.2.2.2.2.2.2.2.2.2.2.2.2.2.1 k0_t1
theorem k0_off87_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51) (k0_t1 : Fin (k0_t1_loop v0 v3 v6 v9 v12 v15 v18 v21 v24 v27 v30 v33 v36 v39 v42 v45 v48 v51).trips), ∀ a, (k0_off87 v0 v3 v6 v9 v12 v15 v18 v21 v24 v27 v30 v33 v36 v39 v42 v45 v48 v51 k0_t1) a + S1x1.size a ≤ S4x2.size a := fun v0 v3 v6 v9 v12 v15 v18 v21 v24 v27 v30 v33 v36 v39 v42 v45 v48 v51 k0_hw1 k0_t1 => k0_hw1.1.2.2.2.2.2.2.2.2.2.2.2.2.2.2.2.2.2.2.2.2.2.2.2.2.2.2.1 k0_t1
theorem k0_off88_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51) (k0_t1 : Fin (k0_t1_loop v0 v3 v6 v9 v12 v15 v18 v21 v24 v27 v30 v33 v36 v39 v42 v45 v48 v51).trips), ∀ a, (k0_off88 v0 v3 v6 v9 v12 v15 v18 v21 v24 v27 v30 v33 v36 v39 v42 v45 v48 v51 k0_t1) a + S1x384x2816.size a ≤ S4x1408x2816.size a := fun v0 v3 v6 v9 v12 v15 v18 v21 v24 v27 v30 v33 v36 v39 v42 v45 v48 v51 k0_hw1 k0_t1 => k0_hw1.1.2.2.2.2.2.2.2.2.2.2.2.2.2.2.2.2.2.2.2.2.2.2.2.2.2.2.2.1 k0_t1
theorem k0_off88_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51) (k0_t1 : Fin (k0_t1_loop v0 v3 v6 v9 v12 v15 v18 v21 v24 v27 v30 v33 v36 v39 v42 v45 v48 v51).trips), (Rect.unit (s := S4x1408x2816) (k0_off88 v0 v3 v6 v9 v12 v15 v18 v21 v24 v27 v30 v33 v36 v39 v42 v45 v48 v51 k0_t1) S1x384x2816.size (k0_off88_inb v0 v3 v6 v9 v12 v15 v18 v21 v24 v27 v30 v33 v36 v39 v42 v45 v48 v51 k0_hw1 k0_t1)).WholeWords (EltTy.packing .i8) := fun v0 v3 v6 v9 v12 v15 v18 v21 v24 v27 v30 v33 v36 v39 v42 v45 v48 v51 k0_hw1 k0_t1 => k0_hw1.1.2.2.2.2.2.2.2.2.2.2.2.2.2.2.2.2.2.2.2.2.2.2.2.2.2.2.2.2.1 k0_t1 (k0_off88_inb v0 v3 v6 v9 v12 v15 v18 v21 v24 v27 v30 v33 v36 v39 v42 v45 v48 v51 k0_hw1 k0_t1)
theorem k0_off90_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51) (k0_t1 : Fin (k0_t1_loop v0 v3 v6 v9 v12 v15 v18 v21 v24 v27 v30 v33 v36 v39 v42 v45 v48 v51).trips), ∀ a, (k0_off90 v0 v3 v6 v9 v12 v15 v18 v21 v24 v27 v30 v33 v36 v39 v42 v45 v48 v51 k0_t1) a + S1x384x2816.size a ≤ S4x1408x2816.size a := fun v0 v3 v6 v9 v12 v15 v18 v21 v24 v27 v30 v33 v36 v39 v42 v45 v48 v51 k0_hw1 k0_t1 => k0_hw1.1.2.2.2.2.2.2.2.2.2.2.2.2.2.2.2.2.2.2.2.2.2.2.2.2.2.2.2.2.2.1 k0_t1
theorem k0_off91_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51) (k0_t1 : Fin (k0_t1_loop v0 v3 v6 v9 v12 v15 v18 v21 v24 v27 v30 v33 v36 v39 v42 v45 v48 v51).trips), ∀ (k0_h13 : k0_cond13 v0 v3 v6 v9 v12 v15 v18 v21 v24 v27 v30 v33 v36 v39 v42 v45 v48 v51 k0_t1 = 1#1), ∀ a, (k0_off91 v0 v3 v6 v9 v12 v15 v18 v21 v24 v27 v30 v33 v36 v39 v42 v45 v48 v51 k0_t1) a + S1.size a ≤ S8.size a := fun v0 v3 v6 v9 v12 v15 v18 v21 v24 v27 v30 v33 v36 v39 v42 v45 v48 v51 k0_hw1 k0_t1 k0_h13 => k0_hw1.1.2.2.2.2.2.2.2.2.2.2.2.2.2.2.2.2.2.2.2.2.2.2.2.2.2.2.2.2.2.2.1 k0_t1 k0_h13
theorem k0_off92_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51) (k0_t1 : Fin (k0_t1_loop v0 v3 v6 v9 v12 v15 v18 v21 v24 v27 v30 v33 v36 v39 v42 v45 v48 v51).trips), ∀ (k0_h13 : k0_cond13 v0 v3 v6 v9 v12 v15 v18 v21 v24 v27 v30 v33 v36 v39 v42 v45 v48 v51 k0_t1 = 1#1), ∀ a, (k0_off92 v0 v3 v6 v9 v12 v15 v18 v21 v24 v27 v30 v33 v36 v39 v42 v45 v48 v51 k0_t1) a + S1x1.size a ≤ S4x3.size a := fun v0 v3 v6 v9 v12 v15 v18 v21 v24 v27 v30 v33 v36 v39 v42 v45 v48 v51 k0_hw1 k0_t1 k0_h13 => k0_hw1.1.2.2.2.2.2.2.2.2.2.2.2.2.2.2.2.2.2.2.2.2.2.2.2.2.2.2.2.2.2.2.2 k0_t1 k0_h13
theorem k0_off93_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51) (k0_t1 : Fin (k0_t1_loop v0 v3 v6 v9 v12 v15 v18 v21 v24 v27 v30 v33 v36 v39 v42 v45 v48 v51).trips), ∀ (k0_h13 : k0_cond13 v0 v3 v6 v9 v12 v15 v18 v21 v24 v27 v30 v33 v36 v39 v42 v45 v48 v51 k0_t1 = 1#1), ∀ a, (k0_off93 v0 v3 v6 v9 v12 v15 v18 v21 v24 v27 v30 v33 v36 v39 v42 v45 v48 v51 k0_t1) a + S1x1024x2816.size a ≤ S4x2816x2816.size a := fun v0 v3 v6 v9 v12 v15 v18 v21 v24 v27 v30 v33 v36 v39 v42 v45 v48 v51 k0_hw1 k0_t1 k0_h13 => k0_hw1.2.1.1 k0_t1 k0_h13
theorem k0_off93_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51) (k0_t1 : Fin (k0_t1_loop v0 v3 v6 v9 v12 v15 v18 v21 v24 v27 v30 v33 v36 v39 v42 v45 v48 v51).trips), ∀ (k0_h13 : k0_cond13 v0 v3 v6 v9 v12 v15 v18 v21 v24 v27 v30 v33 v36 v39 v42 v45 v48 v51 k0_t1 = 1#1), (Rect.unit (s := S4x2816x2816) (k0_off93 v0 v3 v6 v9 v12 v15 v18 v21 v24 v27 v30 v33 v36 v39 v42 v45 v48 v51 k0_t1) S1x1024x2816.size (k0_off93_inb v0 v3 v6 v9 v12 v15 v18 v21 v24 v27 v30 v33 v36 v39 v42 v45 v48 v51 k0_hw1 k0_t1 k0_h13)).WholeWords (EltTy.packing .i8) := fun v0 v3 v6 v9 v12 v15 v18 v21 v24 v27 v30 v33 v36 v39 v42 v45 v48 v51 k0_hw1 k0_t1 k0_h13 => k0_hw1.2.1.2.1 k0_t1 k0_h13 (k0_off93_inb v0 v3 v6 v9 v12 v15 v18 v21 v24 v27 v30 v33 v36 v39 v42 v45 v48 v51 k0_hw1 k0_t1 k0_h13)
theorem k0_off95_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51) (k0_t1 : Fin (k0_t1_loop v0 v3 v6 v9 v12 v15 v18 v21 v24 v27 v30 v33 v36 v39 v42 v45 v48 v51).trips), ∀ (k0_h13 : k0_cond13 v0 v3 v6 v9 v12 v15 v18 v21 v24 v27 v30 v33 v36 v39 v42 v45 v48 v51 k0_t1 = 1#1), ∀ a, (k0_off95 v0 v3 v6 v9 v12 v15 v18 v21 v24 v27 v30 v33 v36 v39 v42 v45 v48 v51 k0_t1) a + S1x1.size a ≤ S4x3.size a := fun v0 v3 v6 v9 v12 v15 v18 v21 v24 v27 v30 v33 v36 v39 v42 v45 v48 v51 k0_hw1 k0_t1 k0_h13 => k0_hw1.2.1.2.2.1 k0_t1 k0_h13
theorem k0_off96_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51) (k0_t1 : Fin (k0_t1_loop v0 v3 v6 v9 v12 v15 v18 v21 v24 v27 v30 v33 v36 v39 v42 v45 v48 v51).trips), ∀ (k0_h13 : k0_cond13 v0 v3 v6 v9 v12 v15 v18 v21 v24 v27 v30 v33 v36 v39 v42 v45 v48 v51 k0_t1 = 1#1), ∀ a, (k0_off96 v0 v3 v6 v9 v12 v15 v18 v21 v24 v27 v30 v33 v36 v39 v42 v45 v48 v51 k0_t1) a + S1x1024x2816.size a ≤ S4x2816x2816.size a := fun v0 v3 v6 v9 v12 v15 v18 v21 v24 v27 v30 v33 v36 v39 v42 v45 v48 v51 k0_hw1 k0_t1 k0_h13 => k0_hw1.2.1.2.2.2.1 k0_t1 k0_h13
theorem k0_off96_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51) (k0_t1 : Fin (k0_t1_loop v0 v3 v6 v9 v12 v15 v18 v21 v24 v27 v30 v33 v36 v39 v42 v45 v48 v51).trips), ∀ (k0_h13 : k0_cond13 v0 v3 v6 v9 v12 v15 v18 v21 v24 v27 v30 v33 v36 v39 v42 v45 v48 v51 k0_t1 = 1#1), (Rect.unit (s := S4x2816x2816) (k0_off96 v0 v3 v6 v9 v12 v15 v18 v21 v24 v27 v30 v33 v36 v39 v42 v45 v48 v51 k0_t1) S1x1024x2816.size (k0_off96_inb v0 v3 v6 v9 v12 v15 v18 v21 v24 v27 v30 v33 v36 v39 v42 v45 v48 v51 k0_hw1 k0_t1 k0_h13)).WholeWords (EltTy.packing .i8) := fun v0 v3 v6 v9 v12 v15 v18 v21 v24 v27 v30 v33 v36 v39 v42 v45 v48 v51 k0_hw1 k0_t1 k0_h13 => k0_hw1.2.1.2.2.2.2.1 k0_t1 k0_h13 (k0_off96_inb v0 v3 v6 v9 v12 v15 v18 v21 v24 v27 v30 v33 v36 v39 v42 v45 v48 v51 k0_hw1 k0_t1 k0_h13)
theorem k0_off98_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51) (k0_t1 : Fin (k0_t1_loop v0 v3 v6 v9 v12 v15 v18 v21 v24 v27 v30 v33 v36 v39 v42 v45 v48 v51).trips), ∀ (k0_h13 : k0_cond13 v0 v3 v6 v9 v12 v15 v18 v21 v24 v27 v30 v33 v36 v39 v42 v45 v48 v51 k0_t1 = 1#1), ∀ a, (k0_off98 v0 v3 v6 v9 v12 v15 v18 v21 v24 v27 v30 v33 v36 v39 v42 v45 v48 v51 k0_t1) a + S1x1.size a ≤ S4x3.size a := fun v0 v3 v6 v9 v12 v15 v18 v21 v24 v27 v30 v33 v36 v39 v42 v45 v48 v51 k0_hw1 k0_t1 k0_h13 => k0_hw1.2.1.2.2.2.2.2.1 k0_t1 k0_h13
theorem k0_off99_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51) (k0_t1 : Fin (k0_t1_loop v0 v3 v6 v9 v12 v15 v18 v21 v24 v27 v30 v33 v36 v39 v42 v45 v48 v51).trips), ∀ (k0_h13 : k0_cond13 v0 v3 v6 v9 v12 v15 v18 v21 v24 v27 v30 v33 v36 v39 v42 v45 v48 v51 k0_t1 = 1#1), ∀ a, (k0_off99 v0 v3 v6 v9 v12 v15 v18 v21 v24 v27 v30 v33 v36 v39 v42 v45 v48 v51 k0_t1) a + S1x768x2816.size a ≤ S4x2816x2816.size a := fun v0 v3 v6 v9 v12 v15 v18 v21 v24 v27 v30 v33 v36 v39 v42 v45 v48 v51 k0_hw1 k0_t1 k0_h13 => k0_hw1.2.1.2.2.2.2.2.2.1 k0_t1 k0_h13
theorem k0_off99_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51) (k0_t1 : Fin (k0_t1_loop v0 v3 v6 v9 v12 v15 v18 v21 v24 v27 v30 v33 v36 v39 v42 v45 v48 v51).trips), ∀ (k0_h13 : k0_cond13 v0 v3 v6 v9 v12 v15 v18 v21 v24 v27 v30 v33 v36 v39 v42 v45 v48 v51 k0_t1 = 1#1), (Rect.unit (s := S4x2816x2816) (k0_off99 v0 v3 v6 v9 v12 v15 v18 v21 v24 v27 v30 v33 v36 v39 v42 v45 v48 v51 k0_t1) S1x768x2816.size (k0_off99_inb v0 v3 v6 v9 v12 v15 v18 v21 v24 v27 v30 v33 v36 v39 v42 v45 v48 v51 k0_hw1 k0_t1 k0_h13)).WholeWords (EltTy.packing .i8) := fun v0 v3 v6 v9 v12 v15 v18 v21 v24 v27 v30 v33 v36 v39 v42 v45 v48 v51 k0_hw1 k0_t1 k0_h13 => k0_hw1.2.1.2.2.2.2.2.2.2.1 k0_t1 k0_h13 (k0_off99_inb v0 v3 v6 v9 v12 v15 v18 v21 v24 v27 v30 v33 v36 v39 v42 v45 v48 v51 k0_hw1 k0_t1 k0_h13)
theorem k0_off101_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51) (k0_t1 : Fin (k0_t1_loop v0 v3 v6 v9 v12 v15 v18 v21 v24 v27 v30 v33 v36 v39 v42 v45 v48 v51).trips), ∀ (k0_h13 : k0_cond13 v0 v3 v6 v9 v12 v15 v18 v21 v24 v27 v30 v33 v36 v39 v42 v45 v48 v51 k0_t1 = 1#1), ∀ a, (k0_off101 v0 v3 v6 v9 v12 v15 v18 v21 v24 v27 v30 v33 v36 v39 v42 v45 v48 v51 k0_t1) a + S1.size a ≤ S8.size a := fun v0 v3 v6 v9 v12 v15 v18 v21 v24 v27 v30 v33 v36 v39 v42 v45 v48 v51 k0_hw1 k0_t1 k0_h13 => k0_hw1.2.1.2.2.2.2.2.2.2.2.1 k0_t1 k0_h13
theorem k0_off102_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51) (k0_t1 : Fin (k0_t1_loop v0 v3 v6 v9 v12 v15 v18 v21 v24 v27 v30 v33 v36 v39 v42 v45 v48 v51).trips), ∀ (k0_h13 : k0_cond13 v0 v3 v6 v9 v12 v15 v18 v21 v24 v27 v30 v33 v36 v39 v42 v45 v48 v51 k0_t1 = 1#1), ∀ a, (k0_off102 v0 v3 v6 v9 v12 v15 v18 v21 v24 v27 v30 v33 v36 v39 v42 v45 v48 v51 k0_t1) a + S1x1.size a ≤ S4x2.size a := fun v0 v3 v6 v9 v12 v15 v18 v21 v24 v27 v30 v33 v36 v39 v42 v45 v48 v51 k0_hw1 k0_t1 k0_h13 => k0_hw1.2.1.2.2.2.2.2.2.2.2.2.1 k0_t1 k0_h13
theorem k0_off103_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51) (k0_t1 : Fin (k0_t1_loop v0 v3 v6 v9 v12 v15 v18 v21 v24 v27 v30 v33 v36 v39 v42 v45 v48 v51).trips), ∀ (k0_h13 : k0_cond13 v0 v3 v6 v9 v12 v15 v18 v21 v24 v27 v30 v33 v36 v39 v42 v45 v48 v51 k0_t1 = 1#1), ∀ a, (k0_off103 v0 v3 v6 v9 v12 v15 v18 v21 v24 v27 v30 v33 v36 v39 v42 v45 v48 v51 k0_t1) a + S1x1024x2816.size a ≤ S4x1408x2816.size a := fun v0 v3 v6 v9 v12 v15 v18 v21 v24 v27 v30 v33 v36 v39 v42 v45 v48 v51 k0_hw1 k0_t1 k0_h13 => k0_hw1.2.1.2.2.2.2.2.2.2.2.2.2.1 k0_t1 k0_h13
theorem k0_off103_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51) (k0_t1 : Fin (k0_t1_loop v0 v3 v6 v9 v12 v15 v18 v21 v24 v27 v30 v33 v36 v39 v42 v45 v48 v51).trips), ∀ (k0_h13 : k0_cond13 v0 v3 v6 v9 v12 v15 v18 v21 v24 v27 v30 v33 v36 v39 v42 v45 v48 v51 k0_t1 = 1#1), (Rect.unit (s := S4x1408x2816) (k0_off103 v0 v3 v6 v9 v12 v15 v18 v21 v24 v27 v30 v33 v36 v39 v42 v45 v48 v51 k0_t1) S1x1024x2816.size (k0_off103_inb v0 v3 v6 v9 v12 v15 v18 v21 v24 v27 v30 v33 v36 v39 v42 v45 v48 v51 k0_hw1 k0_t1 k0_h13)).WholeWords (EltTy.packing .i8) := fun v0 v3 v6 v9 v12 v15 v18 v21 v24 v27 v30 v33 v36 v39 v42 v45 v48 v51 k0_hw1 k0_t1 k0_h13 => k0_hw1.2.1.2.2.2.2.2.2.2.2.2.2.2.1 k0_t1 k0_h13 (k0_off103_inb v0 v3 v6 v9 v12 v15 v18 v21 v24 v27 v30 v33 v36 v39 v42 v45 v48 v51 k0_hw1 k0_t1 k0_h13)
theorem k0_off105_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51) (k0_t1 : Fin (k0_t1_loop v0 v3 v6 v9 v12 v15 v18 v21 v24 v27 v30 v33 v36 v39 v42 v45 v48 v51).trips), ∀ (k0_h13 : k0_cond13 v0 v3 v6 v9 v12 v15 v18 v21 v24 v27 v30 v33 v36 v39 v42 v45 v48 v51 k0_t1 = 1#1), ∀ a, (k0_off105 v0 v3 v6 v9 v12 v15 v18 v21 v24 v27 v30 v33 v36 v39 v42 v45 v48 v51 k0_t1) a + S1x1.size a ≤ S4x2.size a := fun v0 v3 v6 v9 v12 v15 v18 v21 v24 v27 v30 v33 v36 v39 v42 v45 v48 v51 k0_hw1 k0_t1 k0_h13 => k0_hw1.2.1.2.2.2.2.2.2.2.2.2.2.2.2.1 k0_t1 k0_h13
theorem k0_off106_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51) (k0_t1 : Fin (k0_t1_loop v0 v3 v6 v9 v12 v15 v18 v21 v24 v27 v30 v33 v36 v39 v42 v45 v48 v51).trips), ∀ (k0_h13 : k0_cond13 v0 v3 v6 v9 v12 v15 v18 v21 v24 v27 v30 v33 v36 v39 v42 v45 v48 v51 k0_t1 = 1#1), ∀ a, (k0_off106 v0 v3 v6 v9 v12 v15 v18 v21 v24 v27 v30 v33 v36 v39 v42 v45 v48 v51 k0_t1) a + S1x384x2816.size a ≤ S4x1408x2816.size a := fun v0 v3 v6 v9 v12 v15 v18 v21 v24 v27 v30 v33 v36 v39 v42 v45 v48 v51 k0_hw1 k0_t1 k0_h13 => k0_hw1.2.1.2.2.2.2.2.2.2.2.2.2.2.2.2.1 k0_t1 k0_h13
theorem k0_off106_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51) (k0_t1 : Fin (k0_t1_loop v0 v3 v6 v9 v12 v15 v18 v21 v24 v27 v30 v33 v36 v39 v42 v45 v48 v51).trips), ∀ (k0_h13 : k0_cond13 v0 v3 v6 v9 v12 v15 v18 v21 v24 v27 v30 v33 v36 v39 v42 v45 v48 v51 k0_t1 = 1#1), (Rect.unit (s := S4x1408x2816) (k0_off106 v0 v3 v6 v9 v12 v15 v18 v21 v24 v27 v30 v33 v36 v39 v42 v45 v48 v51 k0_t1) S1x384x2816.size (k0_off106_inb v0 v3 v6 v9 v12 v15 v18 v21 v24 v27 v30 v33 v36 v39 v42 v45 v48 v51 k0_hw1 k0_t1 k0_h13)).WholeWords (EltTy.packing .i8) := fun v0 v3 v6 v9 v12 v15 v18 v21 v24 v27 v30 v33 v36 v39 v42 v45 v48 v51 k0_hw1 k0_t1 k0_h13 => k0_hw1.2.1.2.2.2.2.2.2.2.2.2.2.2.2.2.2.1 k0_t1 k0_h13 (k0_off106_inb v0 v3 v6 v9 v12 v15 v18 v21 v24 v27 v30 v33 v36 v39 v42 v45 v48 v51 k0_hw1 k0_t1 k0_h13)
theorem k0_t2_ok : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51), (k0_t2_loop v0 v3 v6 v9 v12 v15 v18 v21 v24 v27 v30 v33 v36 v39 v42 v45 v48 v51).OK := fun v0 v3 v6 v9 v12 v15 v18 v21 v24 v27 v30 v33 v36 v39 v42 v45 v48 v51 k0_hw1 => k0_hw1.2.1.2.2.2.2.2.2.2.2.2.2.2.2.2.2.2.1
theorem k0_off109_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51) (k0_t2 : Fin (k0_t2_loop v0 v3 v6 v9 v12 v15 v18 v21 v24 v27 v30 v33 v36 v39 v42 v45 v48 v51).trips), ∀ a, (k0_off109 v0 v3 v6 v9 v12 v15 v18 v21 v24 v27 v30 v33 v36 v39 v42 v45 v48 v51 k0_t2) a + S1.size a ≤ S8.size a := fun v0 v3 v6 v9 v12 v15 v18 v21 v24 v27 v30 v33 v36 v39 v42 v45 v48 v51 k0_hw1 k0_t2 => k0_hw1.2.1.2.2.2.2.2.2.2.2.2.2.2.2.2.2.2.2.1 k0_t2
theorem k0_off110_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51) (k0_t2 : Fin (k0_t2_loop v0 v3 v6 v9 v12 v15 v18 v21 v24 v27 v30 v33 v36 v39 v42 v45 v48 v51).trips), ∀ a, (k0_off110 v0 v3 v6 v9 v12 v15 v18 v21 v24 v27 v30 v33 v36 v39 v42 v45 v48 v51 k0_t2) a + S1x1.size a ≤ S4x3.size a := fun v0 v3 v6 v9 v12 v15 v18 v21 v24 v27 v30 v33 v36 v39 v42 v45 v48 v51 k0_hw1 k0_t2 => k0_hw1.2.1.2.2.2.2.2.2.2.2.2.2.2.2.2.2.2.2.2.1 k0_t2
theorem k0_off111_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51) (k0_t2 : Fin (k0_t2_loop v0 v3 v6 v9 v12 v15 v18 v21 v24 v27 v30 v33 v36 v39 v42 v45 v48 v51).trips), ∀ a, (k0_off111 v0 v3 v6 v9 v12 v15 v18 v21 v24 v27 v30 v33 v36 v39 v42 v45 v48 v51 k0_t2) a + S1x1024x2816.size a ≤ S4x2816x2816.size a := fun v0 v3 v6 v9 v12 v15 v18 v21 v24 v27 v30 v33 v36 v39 v42 v45 v48 v51 k0_hw1 k0_t2 => k0_hw1.2.1.2.2.2.2.2.2.2.2.2.2.2.2.2.2.2.2.2.2.1 k0_t2
theorem k0_off111_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51) (k0_t2 : Fin (k0_t2_loop v0 v3 v6 v9 v12 v15 v18 v21 v24 v27 v30 v33 v36 v39 v42 v45 v48 v51).trips), (Rect.unit (s := S4x2816x2816) (k0_off111 v0 v3 v6 v9 v12 v15 v18 v21 v24 v27 v30 v33 v36 v39 v42 v45 v48 v51 k0_t2) S1x1024x2816.size (k0_off111_inb v0 v3 v6 v9 v12 v15 v18 v21 v24 v27 v30 v33 v36 v39 v42 v45 v48 v51 k0_hw1 k0_t2)).WholeWords (EltTy.packing .i8) := fun v0 v3 v6 v9 v12 v15 v18 v21 v24 v27 v30 v33 v36 v39 v42 v45 v48 v51 k0_hw1 k0_t2 => k0_hw1.2.1.2.2.2.2.2.2.2.2.2.2.2.2.2.2.2.2.2.2.2.1 k0_t2 (k0_off111_inb v0 v3 v6 v9 v12 v15 v18 v21 v24 v27 v30 v33 v36 v39 v42 v45 v48 v51 k0_hw1 k0_t2)
theorem k0_off113_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51) (k0_t2 : Fin (k0_t2_loop v0 v3 v6 v9 v12 v15 v18 v21 v24 v27 v30 v33 v36 v39 v42 v45 v48 v51).trips), ∀ a, (k0_off113 v0 v3 v6 v9 v12 v15 v18 v21 v24 v27 v30 v33 v36 v39 v42 v45 v48 v51 k0_t2) a + S1x1024x2816.size a ≤ S4x2816x2816.size a := fun v0 v3 v6 v9 v12 v15 v18 v21 v24 v27 v30 v33 v36 v39 v42 v45 v48 v51 k0_hw1 k0_t2 => k0_hw1.2.1.2.2.2.2.2.2.2.2.2.2.2.2.2.2.2.2.2.2.2.2.1 k0_t2
theorem k0_off114_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51) (k0_t2 : Fin (k0_t2_loop v0 v3 v6 v9 v12 v15 v18 v21 v24 v27 v30 v33 v36 v39 v42 v45 v48 v51).trips), ∀ a, (k0_off114 v0 v3 v6 v9 v12 v15 v18 v21 v24 v27 v30 v33 v36 v39 v42 v45 v48 v51 k0_t2) a + S1x1.size a ≤ S4x3.size a := fun v0 v3 v6 v9 v12 v15 v18 v21 v24 v27 v30 v33 v36 v39 v42 v45 v48 v51 k0_hw1 k0_t2 => k0_hw1.2.1.2.2.2.2.2.2.2.2.2.2.2.2.2.2.2.2.2.2.2.2.2.1 k0_t2
theorem k0_off115_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51) (k0_t2 : Fin (k0_t2_loop v0 v3 v6 v9 v12 v15 v18 v21 v24 v27 v30 v33 v36 v39 v42 v45 v48 v51).trips), ∀ a, (k0_off115 v0 v3 v6 v9 v12 v15 v18 v21 v24 v27 v30 v33 v36 v39 v42 v45 v48 v51 k0_t2) a + S1x1024x2816.size a ≤ S4x2816x2816.size a := fun v0 v3 v6 v9 v12 v15 v18 v21 v24 v27 v30 v33 v36 v39 v42 v45 v48 v51 k0_hw1 k0_t2 => k0_hw1.2.1.2.2.2.2.2.2.2.2.2.2.2.2.2.2.2.2.2.2.2.2.2.2.1 k0_t2
theorem k0_off115_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51) (k0_t2 : Fin (k0_t2_loop v0 v3 v6 v9 v12 v15 v18 v21 v24 v27 v30 v33 v36 v39 v42 v45 v48 v51).trips), (Rect.unit (s := S4x2816x2816) (k0_off115 v0 v3 v6 v9 v12 v15 v18 v21 v24 v27 v30 v33 v36 v39 v42 v45 v48 v51 k0_t2) S1x1024x2816.size (k0_off115_inb v0 v3 v6 v9 v12 v15 v18 v21 v24 v27 v30 v33 v36 v39 v42 v45 v48 v51 k0_hw1 k0_t2)).WholeWords (EltTy.packing .i8) := fun v0 v3 v6 v9 v12 v15 v18 v21 v24 v27 v30 v33 v36 v39 v42 v45 v48 v51 k0_hw1 k0_t2 => k0_hw1.2.1.2.2.2.2.2.2.2.2.2.2.2.2.2.2.2.2.2.2.2.2.2.2.2.1 k0_t2 (k0_off115_inb v0 v3 v6 v9 v12 v15 v18 v21 v24 v27 v30 v33 v36 v39 v42 v45 v48 v51 k0_hw1 k0_t2)
theorem k0_off117_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51) (k0_t2 : Fin (k0_t2_loop v0 v3 v6 v9 v12 v15 v18 v21 v24 v27 v30 v33 v36 v39 v42 v45 v48 v51).trips), ∀ a, (k0_off117 v0 v3 v6 v9 v12 v15 v18 v21 v24 v27 v30 v33 v36 v39 v42 v45 v48 v51 k0_t2) a + S1x1024x2816.size a ≤ S4x2816x2816.size a := fun v0 v3 v6 v9 v12 v15 v18 v21 v24 v27 v30 v33 v36 v39 v42 v45 v48 v51 k0_hw1 k0_t2 => k0_hw1.2.1.2.2.2.2.2.2.2.2.2.2.2.2.2.2.2.2.2.2.2.2.2.2.2.2.1 k0_t2
theorem k0_off118_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51) (k0_t2 : Fin (k0_t2_loop v0 v3 v6 v9 v12 v15 v18 v21 v24 v27 v30 v33 v36 v39 v42 v45 v48 v51).trips), ∀ a, (k0_off118 v0 v3 v6 v9 v12 v15 v18 v21 v24 v27 v30 v33 v36 v39 v42 v45 v48 v51 k0_t2) a + S1x1.size a ≤ S4x3.size a := fun v0 v3 v6 v9 v12 v15 v18 v21 v24 v27 v30 v33 v36 v39 v42 v45 v48 v51 k0_hw1 k0_t2 => k0_hw1.2.1.2.2.2.2.2.2.2.2.2.2.2.2.2.2.2.2.2.2.2.2.2.2.2.2.2.1 k0_t2
theorem k0_off119_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51) (k0_t2 : Fin (k0_t2_loop v0 v3 v6 v9 v12 v15 v18 v21 v24 v27 v30 v33 v36 v39 v42 v45 v48 v51).trips), ∀ a, (k0_off119 v0 v3 v6 v9 v12 v15 v18 v21 v24 v27 v30 v33 v36 v39 v42 v45 v48 v51 k0_t2) a + S1x768x2816.size a ≤ S4x2816x2816.size a := fun v0 v3 v6 v9 v12 v15 v18 v21 v24 v27 v30 v33 v36 v39 v42 v45 v48 v51 k0_hw1 k0_t2 => k0_hw1.2.1.2.2.2.2.2.2.2.2.2.2.2.2.2.2.2.2.2.2.2.2.2.2.2.2.2.2.1 k0_t2
theorem k0_off119_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51) (k0_t2 : Fin (k0_t2_loop v0 v3 v6 v9 v12 v15 v18 v21 v24 v27 v30 v33 v36 v39 v42 v45 v48 v51).trips), (Rect.unit (s := S4x2816x2816) (k0_off119 v0 v3 v6 v9 v12 v15 v18 v21 v24 v27 v30 v33 v36 v39 v42 v45 v48 v51 k0_t2) S1x768x2816.size (k0_off119_inb v0 v3 v6 v9 v12 v15 v18 v21 v24 v27 v30 v33 v36 v39 v42 v45 v48 v51 k0_hw1 k0_t2)).WholeWords (EltTy.packing .i8) := fun v0 v3 v6 v9 v12 v15 v18 v21 v24 v27 v30 v33 v36 v39 v42 v45 v48 v51 k0_hw1 k0_t2 => k0_hw1.2.1.2.2.2.2.2.2.2.2.2.2.2.2.2.2.2.2.2.2.2.2.2.2.2.2.2.2.2.1 k0_t2 (k0_off119_inb v0 v3 v6 v9 v12 v15 v18 v21 v24 v27 v30 v33 v36 v39 v42 v45 v48 v51 k0_hw1 k0_t2)
theorem k0_off121_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51) (k0_t2 : Fin (k0_t2_loop v0 v3 v6 v9 v12 v15 v18 v21 v24 v27 v30 v33 v36 v39 v42 v45 v48 v51).trips), ∀ a, (k0_off121 v0 v3 v6 v9 v12 v15 v18 v21 v24 v27 v30 v33 v36 v39 v42 v45 v48 v51 k0_t2) a + S1x768x2816.size a ≤ S4x2816x2816.size a := fun v0 v3 v6 v9 v12 v15 v18 v21 v24 v27 v30 v33 v36 v39 v42 v45 v48 v51 k0_hw1 k0_t2 => k0_hw1.2.1.2.2.2.2.2.2.2.2.2.2.2.2.2.2.2.2.2.2.2.2.2.2.2.2.2.2.2.2.1 k0_t2
theorem k0_off123_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51) (k0_t2 : Fin (k0_t2_loop v0 v3 v6 v9 v12 v15 v18 v21 v24 v27 v30 v33 v36 v39 v42 v45 v48 v51).trips), ∀ a, (k0_off123 v0 v3 v6 v9 v12 v15 v18 v21 v24 v27 v30 v33 v36 v39 v42 v45 v48 v51 k0_t2) a + S1.size a ≤ S8.size a := fun v0 v3 v6 v9 v12 v15 v18 v21 v24 v27 v30 v33 v36 v39 v42 v45 v48 v51 k0_hw1 k0_t2 => k0_hw1.2.1.2.2.2.2.2.2.2.2.2.2.2.2.2.2.2.2.2.2.2.2.2.2.2.2.2.2.2.2.2.1 k0_t2
theorem k0_off124_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51) (k0_t2 : Fin (k0_t2_loop v0 v3 v6 v9 v12 v15 v18 v21 v24 v27 v30 v33 v36 v39 v42 v45 v48 v51).trips), ∀ a, (k0_off124 v0 v3 v6 v9 v12 v15 v18 v21 v24 v27 v30 v33 v36 v39 v42 v45 v48 v51 k0_t2) a + S1x1.size a ≤ S4x2.size a := fun v0 v3 v6 v9 v12 v15 v18 v21 v24 v27 v30 v33 v36 v39 v42 v45 v48 v51 k0_hw1 k0_t2 => k0_hw1.2.1.2.2.2.2.2.2.2.2.2.2.2.2.2.2.2.2.2.2.2.2.2.2.2.2.2.2.2.2.2.2.1 k0_t2
theorem k0_off125_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51) (k0_t2 : Fin (k0_t2_loop v0 v3 v6 v9 v12 v15 v18 v21 v24 v27 v30 v33 v36 v39 v42 v45 v48 v51).trips), ∀ a, (k0_off125 v0 v3 v6 v9 v12 v15 v18 v21 v24 v27 v30 v33 v36 v39 v42 v45 v48 v51 k0_t2) a + S1x1024x2816.size a ≤ S4x1408x2816.size a := fun v0 v3 v6 v9 v12 v15 v18 v21 v24 v27 v30 v33 v36 v39 v42 v45 v48 v51 k0_hw1 k0_t2 => k0_hw1.2.1.2.2.2.2.2.2.2.2.2.2.2.2.2.2.2.2.2.2.2.2.2.2.2.2.2.2.2.2.2.2.2 k0_t2
theorem k0_off125_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51) (k0_t2 : Fin (k0_t2_loop v0 v3 v6 v9 v12 v15 v18 v21 v24 v27 v30 v33 v36 v39 v42 v45 v48 v51).trips), (Rect.unit (s := S4x1408x2816) (k0_off125 v0 v3 v6 v9 v12 v15 v18 v21 v24 v27 v30 v33 v36 v39 v42 v45 v48 v51 k0_t2) S1x1024x2816.size (k0_off125_inb v0 v3 v6 v9 v12 v15 v18 v21 v24 v27 v30 v33 v36 v39 v42 v45 v48 v51 k0_hw1 k0_t2)).WholeWords (EltTy.packing .i8) := fun v0 v3 v6 v9 v12 v15 v18 v21 v24 v27 v30 v33 v36 v39 v42 v45 v48 v51 k0_hw1 k0_t2 => k0_hw1.2.2.1 k0_t2 (k0_off125_inb v0 v3 v6 v9 v12 v15 v18 v21 v24 v27 v30 v33 v36 v39 v42 v45 v48 v51 k0_hw1 k0_t2)
theorem k0_off127_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51) (k0_t2 : Fin (k0_t2_loop v0 v3 v6 v9 v12 v15 v18 v21 v24 v27 v30 v33 v36 v39 v42 v45 v48 v51).trips), ∀ a, (k0_off127 v0 v3 v6 v9 v12 v15 v18 v21 v24 v27 v30 v33 v36 v39 v42 v45 v48 v51 k0_t2) a + S1x1024x2816.size a ≤ S4x1408x2816.size a := fun v0 v3 v6 v9 v12 v15 v18 v21 v24 v27 v30 v33 v36 v39 v42 v45 v48 v51 k0_hw1 k0_t2 => k0_hw1.2.2.2.1 k0_t2
theorem k0_off128_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51) (k0_t2 : Fin (k0_t2_loop v0 v3 v6 v9 v12 v15 v18 v21 v24 v27 v30 v33 v36 v39 v42 v45 v48 v51).trips), ∀ a, (k0_off128 v0 v3 v6 v9 v12 v15 v18 v21 v24 v27 v30 v33 v36 v39 v42 v45 v48 v51 k0_t2) a + S1x1.size a ≤ S4x2.size a := fun v0 v3 v6 v9 v12 v15 v18 v21 v24 v27 v30 v33 v36 v39 v42 v45 v48 v51 k0_hw1 k0_t2 => k0_hw1.2.2.2.2.1 k0_t2
theorem k0_off129_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51) (k0_t2 : Fin (k0_t2_loop v0 v3 v6 v9 v12 v15 v18 v21 v24 v27 v30 v33 v36 v39 v42 v45 v48 v51).trips), ∀ a, (k0_off129 v0 v3 v6 v9 v12 v15 v18 v21 v24 v27 v30 v33 v36 v39 v42 v45 v48 v51 k0_t2) a + S1x384x2816.size a ≤ S4x1408x2816.size a := fun v0 v3 v6 v9 v12 v15 v18 v21 v24 v27 v30 v33 v36 v39 v42 v45 v48 v51 k0_hw1 k0_t2 => k0_hw1.2.2.2.2.2.1 k0_t2
theorem k0_off129_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51) (k0_t2 : Fin (k0_t2_loop v0 v3 v6 v9 v12 v15 v18 v21 v24 v27 v30 v33 v36 v39 v42 v45 v48 v51).trips), (Rect.unit (s := S4x1408x2816) (k0_off129 v0 v3 v6 v9 v12 v15 v18 v21 v24 v27 v30 v33 v36 v39 v42 v45 v48 v51 k0_t2) S1x384x2816.size (k0_off129_inb v0 v3 v6 v9 v12 v15 v18 v21 v24 v27 v30 v33 v36 v39 v42 v45 v48 v51 k0_hw1 k0_t2)).WholeWords (EltTy.packing .i8) := fun v0 v3 v6 v9 v12 v15 v18 v21 v24 v27 v30 v33 v36 v39 v42 v45 v48 v51 k0_hw1 k0_t2 => k0_hw1.2.2.2.2.2.2.1 k0_t2 (k0_off129_inb v0 v3 v6 v9 v12 v15 v18 v21 v24 v27 v30 v33 v36 v39 v42 v45 v48 v51 k0_hw1 k0_t2)
theorem k0_off131_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51) (k0_t2 : Fin (k0_t2_loop v0 v3 v6 v9 v12 v15 v18 v21 v24 v27 v30 v33 v36 v39 v42 v45 v48 v51).trips), ∀ a, (k0_off131 v0 v3 v6 v9 v12 v15 v18 v21 v24 v27 v30 v33 v36 v39 v42 v45 v48 v51 k0_t2) a + S1x384x2816.size a ≤ S4x1408x2816.size a := fun v0 v3 v6 v9 v12 v15 v18 v21 v24 v27 v30 v33 v36 v39 v42 v45 v48 v51 k0_hw1 k0_t2 => k0_hw1.2.2.2.2.2.2.2.1 k0_t2
theorem k0_off132_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51) (k0_t2 : Fin (k0_t2_loop v0 v3 v6 v9 v12 v15 v18 v21 v24 v27 v30 v33 v36 v39 v42 v45 v48 v51).trips), ∀ (k0_h14 : k0_cond14 v0 v3 v6 v9 v12 v15 v18 v21 v24 v27 v30 v33 v36 v39 v42 v45 v48 v51 k0_t2 = 1#1), ∀ a, (k0_off132 v0 v3 v6 v9 v12 v15 v18 v21 v24 v27 v30 v33 v36 v39 v42 v45 v48 v51 k0_t2) a + S1.size a ≤ S8.size a := fun v0 v3 v6 v9 v12 v15 v18 v21 v24 v27 v30 v33 v36 v39 v42 v45 v48 v51 k0_hw1 k0_t2 k0_h14 => k0_hw1.2.2.2.2.2.2.2.2.1 k0_t2 k0_h14
theorem k0_off133_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51) (k0_t2 : Fin (k0_t2_loop v0 v3 v6 v9 v12 v15 v18 v21 v24 v27 v30 v33 v36 v39 v42 v45 v48 v51).trips), ∀ (k0_h14 : k0_cond14 v0 v3 v6 v9 v12 v15 v18 v21 v24 v27 v30 v33 v36 v39 v42 v45 v48 v51 k0_t2 = 1#1), ∀ a, (k0_off133 v0 v3 v6 v9 v12 v15 v18 v21 v24 v27 v30 v33 v36 v39 v42 v45 v48 v51 k0_t2) a + S1x1.size a ≤ S4x3.size a := fun v0 v3 v6 v9 v12 v15 v18 v21 v24 v27 v30 v33 v36 v39 v42 v45 v48 v51 k0_hw1 k0_t2 k0_h14 => k0_hw1.2.2.2.2.2.2.2.2.2.1 k0_t2 k0_h14
theorem k0_off134_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51) (k0_t2 : Fin (k0_t2_loop v0 v3 v6 v9 v12 v15 v18 v21 v24 v27 v30 v33 v36 v39 v42 v45 v48 v51).trips), ∀ (k0_h14 : k0_cond14 v0 v3 v6 v9 v12 v15 v18 v21 v24 v27 v30 v33 v36 v39 v42 v45 v48 v51 k0_t2 = 1#1), ∀ a, (k0_off134 v0 v3 v6 v9 v12 v15 v18 v21 v24 v27 v30 v33 v36 v39 v42 v45 v48 v51 k0_t2) a + S1x1024x2816.size a ≤ S4x2816x2816.size a := fun v0 v3 v6 v9 v12 v15 v18 v21 v24 v27 v30 v33 v36 v39 v42 v45 v48 v51 k0_hw1 k0_t2 k0_h14 => k0_hw1.2.2.2.2.2.2.2.2.2.2.1 k0_t2 k0_h14
theorem k0_off134_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51) (k0_t2 : Fin (k0_t2_loop v0 v3 v6 v9 v12 v15 v18 v21 v24 v27 v30 v33 v36 v39 v42 v45 v48 v51).trips), ∀ (k0_h14 : k0_cond14 v0 v3 v6 v9 v12 v15 v18 v21 v24 v27 v30 v33 v36 v39 v42 v45 v48 v51 k0_t2 = 1#1), (Rect.unit (s := S4x2816x2816) (k0_off134 v0 v3 v6 v9 v12 v15 v18 v21 v24 v27 v30 v33 v36 v39 v42 v45 v48 v51 k0_t2) S1x1024x2816.size (k0_off134_inb v0 v3 v6 v9 v12 v15 v18 v21 v24 v27 v30 v33 v36 v39 v42 v45 v48 v51 k0_hw1 k0_t2 k0_h14)).WholeWords (EltTy.packing .i8) := fun v0 v3 v6 v9 v12 v15 v18 v21 v24 v27 v30 v33 v36 v39 v42 v45 v48 v51 k0_hw1 k0_t2 k0_h14 => k0_hw1.2.2.2.2.2.2.2.2.2.2.2.1 k0_t2 k0_h14 (k0_off134_inb v0 v3 v6 v9 v12 v15 v18 v21 v24 v27 v30 v33 v36 v39 v42 v45 v48 v51 k0_hw1 k0_t2 k0_h14)
theorem k0_off136_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51) (k0_t2 : Fin (k0_t2_loop v0 v3 v6 v9 v12 v15 v18 v21 v24 v27 v30 v33 v36 v39 v42 v45 v48 v51).trips), ∀ (k0_h14 : k0_cond14 v0 v3 v6 v9 v12 v15 v18 v21 v24 v27 v30 v33 v36 v39 v42 v45 v48 v51 k0_t2 = 1#1), ∀ a, (k0_off136 v0 v3 v6 v9 v12 v15 v18 v21 v24 v27 v30 v33 v36 v39 v42 v45 v48 v51 k0_t2) a + S1x1.size a ≤ S4x3.size a := fun v0 v3 v6 v9 v12 v15 v18 v21 v24 v27 v30 v33 v36 v39 v42 v45 v48 v51 k0_hw1 k0_t2 k0_h14 => k0_hw1.2.2.2.2.2.2.2.2.2.2.2.2.1 k0_t2 k0_h14
theorem k0_off137_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51) (k0_t2 : Fin (k0_t2_loop v0 v3 v6 v9 v12 v15 v18 v21 v24 v27 v30 v33 v36 v39 v42 v45 v48 v51).trips), ∀ (k0_h14 : k0_cond14 v0 v3 v6 v9 v12 v15 v18 v21 v24 v27 v30 v33 v36 v39 v42 v45 v48 v51 k0_t2 = 1#1), ∀ a, (k0_off137 v0 v3 v6 v9 v12 v15 v18 v21 v24 v27 v30 v33 v36 v39 v42 v45 v48 v51 k0_t2) a + S1x1024x2816.size a ≤ S4x2816x2816.size a := fun v0 v3 v6 v9 v12 v15 v18 v21 v24 v27 v30 v33 v36 v39 v42 v45 v48 v51 k0_hw1 k0_t2 k0_h14 => k0_hw1.2.2.2.2.2.2.2.2.2.2.2.2.2.1 k0_t2 k0_h14
theorem k0_off137_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51) (k0_t2 : Fin (k0_t2_loop v0 v3 v6 v9 v12 v15 v18 v21 v24 v27 v30 v33 v36 v39 v42 v45 v48 v51).trips), ∀ (k0_h14 : k0_cond14 v0 v3 v6 v9 v12 v15 v18 v21 v24 v27 v30 v33 v36 v39 v42 v45 v48 v51 k0_t2 = 1#1), (Rect.unit (s := S4x2816x2816) (k0_off137 v0 v3 v6 v9 v12 v15 v18 v21 v24 v27 v30 v33 v36 v39 v42 v45 v48 v51 k0_t2) S1x1024x2816.size (k0_off137_inb v0 v3 v6 v9 v12 v15 v18 v21 v24 v27 v30 v33 v36 v39 v42 v45 v48 v51 k0_hw1 k0_t2 k0_h14)).WholeWords (EltTy.packing .i8) := fun v0 v3 v6 v9 v12 v15 v18 v21 v24 v27 v30 v33 v36 v39 v42 v45 v48 v51 k0_hw1 k0_t2 k0_h14 => k0_hw1.2.2.2.2.2.2.2.2.2.2.2.2.2.2.1 k0_t2 k0_h14 (k0_off137_inb v0 v3 v6 v9 v12 v15 v18 v21 v24 v27 v30 v33 v36 v39 v42 v45 v48 v51 k0_hw1 k0_t2 k0_h14)
theorem k0_off139_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51) (k0_t2 : Fin (k0_t2_loop v0 v3 v6 v9 v12 v15 v18 v21 v24 v27 v30 v33 v36 v39 v42 v45 v48 v51).trips), ∀ (k0_h14 : k0_cond14 v0 v3 v6 v9 v12 v15 v18 v21 v24 v27 v30 v33 v36 v39 v42 v45 v48 v51 k0_t2 = 1#1), ∀ a, (k0_off139 v0 v3 v6 v9 v12 v15 v18 v21 v24 v27 v30 v33 v36 v39 v42 v45 v48 v51 k0_t2) a + S1x1.size a ≤ S4x3.size a := fun v0 v3 v6 v9 v12 v15 v18 v21 v24 v27 v30 v33 v36 v39 v42 v45 v48 v51 k0_hw1 k0_t2 k0_h14 => k0_hw1.2.2.2.2.2.2.2.2.2.2.2.2.2.2.2.1 k0_t2 k0_h14
theorem k0_off140_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51) (k0_t2 : Fin (k0_t2_loop v0 v3 v6 v9 v12 v15 v18 v21 v24 v27 v30 v33 v36 v39 v42 v45 v48 v51).trips), ∀ (k0_h14 : k0_cond14 v0 v3 v6 v9 v12 v15 v18 v21 v24 v27 v30 v33 v36 v39 v42 v45 v48 v51 k0_t2 = 1#1), ∀ a, (k0_off140 v0 v3 v6 v9 v12 v15 v18 v21 v24 v27 v30 v33 v36 v39 v42 v45 v48 v51 k0_t2) a + S1x768x2816.size a ≤ S4x2816x2816.size a := fun v0 v3 v6 v9 v12 v15 v18 v21 v24 v27 v30 v33 v36 v39 v42 v45 v48 v51 k0_hw1 k0_t2 k0_h14 => k0_hw1.2.2.2.2.2.2.2.2.2.2.2.2.2.2.2.2.1 k0_t2 k0_h14
theorem k0_off140_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51) (k0_t2 : Fin (k0_t2_loop v0 v3 v6 v9 v12 v15 v18 v21 v24 v27 v30 v33 v36 v39 v42 v45 v48 v51).trips), ∀ (k0_h14 : k0_cond14 v0 v3 v6 v9 v12 v15 v18 v21 v24 v27 v30 v33 v36 v39 v42 v45 v48 v51 k0_t2 = 1#1), (Rect.unit (s := S4x2816x2816) (k0_off140 v0 v3 v6 v9 v12 v15 v18 v21 v24 v27 v30 v33 v36 v39 v42 v45 v48 v51 k0_t2) S1x768x2816.size (k0_off140_inb v0 v3 v6 v9 v12 v15 v18 v21 v24 v27 v30 v33 v36 v39 v42 v45 v48 v51 k0_hw1 k0_t2 k0_h14)).WholeWords (EltTy.packing .i8) := fun v0 v3 v6 v9 v12 v15 v18 v21 v24 v27 v30 v33 v36 v39 v42 v45 v48 v51 k0_hw1 k0_t2 k0_h14 => k0_hw1.2.2.2.2.2.2.2.2.2.2.2.2.2.2.2.2.2.1 k0_t2 k0_h14 (k0_off140_inb v0 v3 v6 v9 v12 v15 v18 v21 v24 v27 v30 v33 v36 v39 v42 v45 v48 v51 k0_hw1 k0_t2 k0_h14)
theorem k0_off142_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51) (k0_t2 : Fin (k0_t2_loop v0 v3 v6 v9 v12 v15 v18 v21 v24 v27 v30 v33 v36 v39 v42 v45 v48 v51).trips), ∀ (k0_h14 : k0_cond14 v0 v3 v6 v9 v12 v15 v18 v21 v24 v27 v30 v33 v36 v39 v42 v45 v48 v51 k0_t2 = 1#1), ∀ a, (k0_off142 v0 v3 v6 v9 v12 v15 v18 v21 v24 v27 v30 v33 v36 v39 v42 v45 v48 v51 k0_t2) a + S1.size a ≤ S8.size a := fun v0 v3 v6 v9 v12 v15 v18 v21 v24 v27 v30 v33 v36 v39 v42 v45 v48 v51 k0_hw1 k0_t2 k0_h14 => k0_hw1.2.2.2.2.2.2.2.2.2.2.2.2.2.2.2.2.2.2.1 k0_t2 k0_h14
theorem k0_off143_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51) (k0_t2 : Fin (k0_t2_loop v0 v3 v6 v9 v12 v15 v18 v21 v24 v27 v30 v33 v36 v39 v42 v45 v48 v51).trips), ∀ (k0_h14 : k0_cond14 v0 v3 v6 v9 v12 v15 v18 v21 v24 v27 v30 v33 v36 v39 v42 v45 v48 v51 k0_t2 = 1#1), ∀ a, (k0_off143 v0 v3 v6 v9 v12 v15 v18 v21 v24 v27 v30 v33 v36 v39 v42 v45 v48 v51 k0_t2) a + S1x1.size a ≤ S4x2.size a := fun v0 v3 v6 v9 v12 v15 v18 v21 v24 v27 v30 v33 v36 v39 v42 v45 v48 v51 k0_hw1 k0_t2 k0_h14 => k0_hw1.2.2.2.2.2.2.2.2.2.2.2.2.2.2.2.2.2.2.2.1 k0_t2 k0_h14
theorem k0_off144_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51) (k0_t2 : Fin (k0_t2_loop v0 v3 v6 v9 v12 v15 v18 v21 v24 v27 v30 v33 v36 v39 v42 v45 v48 v51).trips), ∀ (k0_h14 : k0_cond14 v0 v3 v6 v9 v12 v15 v18 v21 v24 v27 v30 v33 v36 v39 v42 v45 v48 v51 k0_t2 = 1#1), ∀ a, (k0_off144 v0 v3 v6 v9 v12 v15 v18 v21 v24 v27 v30 v33 v36 v39 v42 v45 v48 v51 k0_t2) a + S1x1024x2816.size a ≤ S4x1408x2816.size a := fun v0 v3 v6 v9 v12 v15 v18 v21 v24 v27 v30 v33 v36 v39 v42 v45 v48 v51 k0_hw1 k0_t2 k0_h14 => k0_hw1.2.2.2.2.2.2.2.2.2.2.2.2.2.2.2.2.2.2.2.2.1 k0_t2 k0_h14
theorem k0_off144_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51) (k0_t2 : Fin (k0_t2_loop v0 v3 v6 v9 v12 v15 v18 v21 v24 v27 v30 v33 v36 v39 v42 v45 v48 v51).trips), ∀ (k0_h14 : k0_cond14 v0 v3 v6 v9 v12 v15 v18 v21 v24 v27 v30 v33 v36 v39 v42 v45 v48 v51 k0_t2 = 1#1), (Rect.unit (s := S4x1408x2816) (k0_off144 v0 v3 v6 v9 v12 v15 v18 v21 v24 v27 v30 v33 v36 v39 v42 v45 v48 v51 k0_t2) S1x1024x2816.size (k0_off144_inb v0 v3 v6 v9 v12 v15 v18 v21 v24 v27 v30 v33 v36 v39 v42 v45 v48 v51 k0_hw1 k0_t2 k0_h14)).WholeWords (EltTy.packing .i8) := fun v0 v3 v6 v9 v12 v15 v18 v21 v24 v27 v30 v33 v36 v39 v42 v45 v48 v51 k0_hw1 k0_t2 k0_h14 => k0_hw1.2.2.2.2.2.2.2.2.2.2.2.2.2.2.2.2.2.2.2.2.2.1 k0_t2 k0_h14 (k0_off144_inb v0 v3 v6 v9 v12 v15 v18 v21 v24 v27 v30 v33 v36 v39 v42 v45 v48 v51 k0_hw1 k0_t2 k0_h14)
theorem k0_off146_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51) (k0_t2 : Fin (k0_t2_loop v0 v3 v6 v9 v12 v15 v18 v21 v24 v27 v30 v33 v36 v39 v42 v45 v48 v51).trips), ∀ (k0_h14 : k0_cond14 v0 v3 v6 v9 v12 v15 v18 v21 v24 v27 v30 v33 v36 v39 v42 v45 v48 v51 k0_t2 = 1#1), ∀ a, (k0_off146 v0 v3 v6 v9 v12 v15 v18 v21 v24 v27 v30 v33 v36 v39 v42 v45 v48 v51 k0_t2) a + S1x1.size a ≤ S4x2.size a := fun v0 v3 v6 v9 v12 v15 v18 v21 v24 v27 v30 v33 v36 v39 v42 v45 v48 v51 k0_hw1 k0_t2 k0_h14 => k0_hw1.2.2.2.2.2.2.2.2.2.2.2.2.2.2.2.2.2.2.2.2.2.2.1 k0_t2 k0_h14
theorem k0_off147_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51) (k0_t2 : Fin (k0_t2_loop v0 v3 v6 v9 v12 v15 v18 v21 v24 v27 v30 v33 v36 v39 v42 v45 v48 v51).trips), ∀ (k0_h14 : k0_cond14 v0 v3 v6 v9 v12 v15 v18 v21 v24 v27 v30 v33 v36 v39 v42 v45 v48 v51 k0_t2 = 1#1), ∀ a, (k0_off147 v0 v3 v6 v9 v12 v15 v18 v21 v24 v27 v30 v33 v36 v39 v42 v45 v48 v51 k0_t2) a + S1x384x2816.size a ≤ S4x1408x2816.size a := fun v0 v3 v6 v9 v12 v15 v18 v21 v24 v27 v30 v33 v36 v39 v42 v45 v48 v51 k0_hw1 k0_t2 k0_h14 => k0_hw1.2.2.2.2.2.2.2.2.2.2.2.2.2.2.2.2.2.2.2.2.2.2.2.1 k0_t2 k0_h14
theorem k0_off147_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (k0_hw1 : k0_chk1 v0 v3 v6 v9 v12 v15 v18 v21 v24 v27 v30 v33 v36 v39 v42 v45 v48 v51) (k0_t2 : Fin (k0_t2_loop v0 v3 v6 v9 v12 v15 v18 v21 v24 v27 v30 v33 v36 v39 v42 v45 v48 v51).trips), ∀ (k0_h14 : k0_cond14 v0 v3 v6 v9 v12 v15 v18 v21 v24 v27 v30 v33 v36 v39 v42 v45 v48 v51 k0_t2 = 1#1), (Rect.unit (s := S4x1408x2816) (k0_off147 v0 v3 v6 v9 v12 v15 v18 v21 v24 v27 v30 v33 v36 v39 v42 v45 v48 v51 k0_t2) S1x384x2816.size (k0_off147_inb v0 v3 v6 v9 v12 v15 v18 v21 v24 v27 v30 v33 v36 v39 v42 v45 v48 v51 k0_hw1 k0_t2 k0_h14)).WholeWords (EltTy.packing .i8) := fun v0 v3 v6 v9 v12 v15 v18 v21 v24 v27 v30 v33 v36 v39 v42 v45 v48 v51 k0_hw1 k0_t2 k0_h14 => k0_hw1.2.2.2.2.2.2.2.2.2.2.2.2.2.2.2.2.2.2.2.2.2.2.2.2 k0_t2 k0_h14 (k0_off147_inb v0 v3 v6 v9 v12 v15 v18 v21 v24 v27 v30 v33 v36 v39 v42 v45 v48 v51 k0_hw1 k0_t2 k0_h14)

def k0_off149 (v321 : BitVec 32) : Fin 2 → Nat :=
  let v422 : Index := Scalar.indexCast v321
  let c0_259 : Index := 0#32
  ![v422.toNat, 0]

def k0_chk16 (v321 : BitVec 32) : Prop :=
  (∀ a, (k0_off122 v321) a + S1x2816.size a ≤ S8x2816.size a) ∧
  (∀ a, (k0_off149 v321) a + S1x2816.size a ≤ S8x2816.size a)
theorem k0_off122_inb : ∀ (v321 : BitVec 32) (k0_hw16 : k0_chk16 v321), ∀ a, (k0_off122 v321) a + S1x2816.size a ≤ S8x2816.size a := fun v321 k0_hw16 => k0_hw16.1
theorem k0_off149_inb : ∀ (v321 : BitVec 32) (k0_hw16 : k0_chk16 v321), ∀ a, (k0_off149 v321) a + S1x2816.size a ≤ S8x2816.size a := fun v321 k0_hw16 => k0_hw16.2

abbrev stage0_0 : Fin 1 → Memref sig .tc .smem S9x2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S9x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S9x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S9x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S9x1x2816 : Shape := ⟨3, ![9, 1, 2816]⟩
abbrev S9x1x2 : Shape := ⟨3, ![9, 1, 2]⟩
abbrev S8x2816x2816 : Shape := ⟨3, ![8, 2816, 2816]⟩
abbrev S8x2816 : Shape := ⟨2, ![8, 2816]⟩
abbrev S8x1408x2816 : Shape := ⟨3, ![8, 1408, 2816]⟩
abbrev S9x2 : Shape := ⟨2, ![9, 2]⟩
abbrev S9x2816 : Shape := ⟨2, ![9, 2816]⟩
abbrev S9 : Shape := ⟨1, ![9]⟩
abbrev S9x1 : Shape := ⟨2, ![9, 1]⟩
abbrev S1x2816x2816 : Shape := ⟨3, ![1, 2816, 2816]⟩
abbrev S2816x2816 : Shape := ⟨2, ![2816, 2816]⟩
abbrev S1x2816 : Shape := ⟨2, ![1, 2816]⟩
abbrev S9x1408 : Shape := ⟨2, ![9, 1408]⟩
abbrev S1x1408x2816 : Shape := ⟨3, ![1, 1408, 2816]⟩
abbrev S1408x2816 : Shape := ⟨2, ![1408, 2816]⟩

abbrev nBuf : Space → Nat
  | .hbm => 11
  | .vmem => 8
  | .smem => 0
  | _ => 0

abbrev bufTy : (tb : Table) → Fin (tcTables nBuf tb) → BufTy
  | .hbm, ⟨0, _⟩ => ⟨S9x1x2816, .bf16⟩
  | .hbm, ⟨1, _⟩ => ⟨S9x1x2, .i32⟩
  | .hbm, ⟨2, _⟩ => ⟨S9x1x2, .f32⟩
  | .hbm, ⟨3, _⟩ => ⟨S8x2816x2816, .i8⟩
  | .hbm, ⟨4, _⟩ => ⟨S8x2816, .f32⟩
  | .hbm, ⟨5, _⟩ => ⟨S8x1408x2816, .i8⟩
  | .hbm, ⟨6, _⟩ => ⟨S8x2816, .f32⟩
  | .hbm, ⟨7, _⟩ => ⟨S9x2, .i32⟩
  | .hbm, ⟨8, _⟩ => ⟨S9x2, .f32⟩
  | .hbm, ⟨9, _⟩ => ⟨S9x2816, .bf16⟩
  | .hbm, ⟨10, _⟩ => ⟨S9x1x2816, .bf16⟩
  | .local _ .vmem, ⟨0, _⟩ => ⟨S9x2, .i32⟩
  | .local _ .vmem, ⟨1, _⟩ => ⟨S9x2, .f32⟩
  | .local _ .vmem, ⟨2, _⟩ => ⟨S9x2816, .bf16⟩
  | .local _ .vmem, ⟨3, _⟩ => ⟨S8x2816x2816, .i8⟩
  | .local _ .vmem, ⟨4, _⟩ => ⟨S8x2816, .f32⟩
  | .local _ .vmem, ⟨5, _⟩ => ⟨S8x1408x2816, .i8⟩
  | .local _ .vmem, ⟨6, _⟩ => ⟨S8x2816, .f32⟩
  | .local _ .vmem, ⟨7, _⟩ => ⟨S9x1x2816, .bf16⟩
  | _, _ => ⟨S9x1x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S9x2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S9x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S9x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x2816x2816 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1408x2816 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S9x1x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Words.lean ====
/-
  The words the kernel computes from its mask of active experts: bit `j` of the mask, the number of bits
  set below `j`, and which expert is the `j`-th active one.
-/
module

public import Idealize.ShloMosaic.Lib.Scf
public import Idealize.ShloMosaic.PureOps
public import Idealize.ShloMosaic.Lib.Pipeline
import Mathlib.Tactic.IntervalCases

@[expose] public section

noncomputable section

namespace Cert.MoeWords

open Idealize.ShloMosaic

/-- Bit `j` of a mask, as a word. -/
def bit (m : BitVec 32) (j : ℕ) : BitVec 32 := Scalar.andi (Scalar.shrui m (BitVec.ofNat 32 j)) 1#32

/-- The number of bits below `j` that are set, as a word. -/
def cnt (m : BitVec 32) : ℕ → BitVec 32
  | 0 => 0#32
  | j + 1 => Scalar.addi (cnt m j) (bit m j)

theorem bit_or (m : BitVec 32) (j : ℕ) : bit m j = 0#32 ∨ bit m j = 1#32 := by
  unfold bit
  generalize Scalar.shrui m (BitVec.ofNat 32 j) = x
  show x &&& 1#32 = 0#32 ∨ x &&& 1#32 = 1#32
  rw [BitVec.and_one_eq_setWidth_ofBool_getLsbD]
  cases x.getLsbD 0 <;> simp

/-- The number of bits below `j` that are set. -/
def num (m : BitVec 32) (j : ℕ) : ℕ := (cnt m j).toNat

theorem num_zero (m : BitVec 32) : num m 0 = 0 := rfl

theorem num_le (m : BitVec 32) (j : ℕ) (hj : j ≤ 8) : num m j ≤ j := by
  induction j with
  | zero => exact Nat.le_refl _
  | succ j ih =>
    have := ih (by omega)
    unfold num at *
    show (cnt m j + bit m j).toNat ≤ _
    rcases bit_or m j with h | h <;> rw [h, BitVec.toNat_add] <;> simp <;> omega

theorem num_succ (m : BitVec 32) (j : ℕ) (hj : j < 8) :
    num m (j + 1) = num m j + if bit m j = 1#32 then 1 else 0 := by
  have := num_le m j (by omega)
  unfold num at *
  show (cnt m j + bit m j).toNat = _
  rcases bit_or m j with h | h <;> rw [h, BitVec.toNat_add] <;> simp <;> omega

theorem num_mono (m : BitVec 32) {i j : ℕ} (h : i ≤ j) (hj : j ≤ 8) : num m i ≤ num m j := by
  induction j with
  | zero => rw [Nat.le_zero.mp h]
  | succ j ih =>
    rcases Nat.lt_or_ge i (j + 1) with h' | h'
    · refine (ih (by omega) (by omega)).trans ?_
      rw [num_succ m j (by omega)]; omega
    · rw [Nat.le_antisymm h h']

/-- The number of active experts. -/
abbrev act (m : BitVec 32) : ℕ := num m 8

theorem act_le (m : BitVec 32) : act m ≤ 8 := num_le m 8 (by omega)

/-- Every position below the number of active experts is taken by one of them. -/
theorem exists_expert (m : BitVec 32) (j : ℕ) (hj : j < act m) : ∃ e, e < 8 ∧ bit m e = 1#32 ∧ num m e = j := by
  by_contra hno
  have : ∀ e, e ≤ 8 → num m e ≤ j := by
    intro e
    induction e with
    | zero => intro _; exact Nat.zero_le _
    | succ e ih =>
      intro he
      have h1 := ih (by omega)
      rw [num_succ m e (by omega)]
      split
      · next hb =>
        have : num m e ≠ j := fun h => hno ⟨e, by omega, hb, h⟩
        omega
      · omega
  have := this 8 (by omega)
  unfold act at hj
  omega

/-- An active expert's position is below the number of active experts. -/
theorem num_lt_act (m : BitVec 32) (e : ℕ) (he : e < 8) (hb : bit m e = 1#32) : num m e < act m := by
  have h := num_mono m (i := e + 1) (j := 8) (by omega) (by omega)
  rw [num_succ m e he, if_pos hb] at h
  unfold act
  omega

theorem num_inj (m : BitVec 32) {e e' : ℕ} (he : e < 8) (he' : e' < 8) (hb : bit m e = 1#32) (hb' : bit m e' = 1#32)
    (h : num m e = num m e') : e = e' := by
  rcases Nat.lt_trichotomy e e' with hl | hl | hl
  · have := num_mono m (i := e + 1) (j := e') (by omega) (by omega)
    rw [num_succ m e he, if_pos hb] at this
    omega
  · exact hl
  · have := num_mono m (i := e' + 1) (j := e) (by omega) (by omega)
    rw [num_succ m e' he', if_pos hb'] at this
    omega

open Classical in
/-- The `j`-th active expert. -/
def ord (m : BitVec 32) (j : ℕ) : ℕ :=
  if h : ∃ e, e < 8 ∧ bit m e = 1#32 ∧ num m e = j then h.choose else 0

theorem ord_lt (m : BitVec 32) (j : ℕ) : ord m j < 8 := by
  unfold ord
  split
  · next h => exact h.choose_spec.1
  · omega

theorem ord_num (m : BitVec 32) (e : ℕ) (he : e < 8) (hb : bit m e = 1#32) : ord m (num m e) = e := by
  have h : ∃ e', e' < 8 ∧ bit m e' = 1#32 ∧ num m e' = num m e := ⟨e, he, hb, rfl⟩
  unfold ord
  rw [dif_pos h]
  exact num_inj m h.choose_spec.1 he h.choose_spec.2.1 hb h.choose_spec.2.2

theorem cnt_eq (m : BitVec 32) (j : ℕ) : cnt m j = BitVec.ofNat 32 (num m j) := by
  unfold num; simp

/-! ## The loop over the active experts -/

theorem trips_eq (m : BitVec 32) :
    Scf.trips 0#32 (Scalar.addi 0#32 (Scalar.muli (Scalar.divsi (Scalar.subi (cnt m 8) 0#32) 1#32) 1#32)) 1#32 = act m := by
  have h := act_le m
  rw [cnt_eq]
  unfold act at *
  generalize num m 8 = n at *
  interval_cases n <;> decide

theorem loop_ok (m : BitVec 32) :
    Scf.OK 0#32 (Scalar.addi 0#32 (Scalar.muli (Scalar.divsi (Scalar.subi (cnt m 8) 0#32) 1#32) 1#32)) 1#32 := by
  have h := act_le m
  rw [cnt_eq]
  unfold act at *
  generalize num m 8 = n at *
  interval_cases n <;> decide

theorem trips2_eq (m : BitVec 32) :
    Scf.trips (Scalar.addi 0#32 (Scalar.muli (Scalar.divsi (Scalar.subi (cnt m 8) 0#32) 1#32) 1#32)) (Scalar.addi 0#32 (Scalar.subi (cnt m 8) 0#32)) 1#32 = 0 := by
  have h := act_le m
  rw [cnt_eq]
  unfold act at *
  generalize num m 8 = n at *
  interval_cases n <;> decide

theorem loop2_ok (m : BitVec 32) :
    Scf.OK (Scalar.addi 0#32 (Scalar.muli (Scalar.divsi (Scalar.subi (cnt m 8) 0#32) 1#32) 1#32)) (Scalar.addi 0#32 (Scalar.subi (cnt m 8) 0#32)) 1#32 := by
  have h := act_le m
  rw [cnt_eq]
  unfold act at *
  generalize num m 8 = n at *
  interval_cases n <;> decide

theorem iv_toNat (k : ℕ) (hk : k < 8) : (Scf.iv 0#32 1#32 k).toNat = k := by interval_cases k <;> decide
theorem idx_toNat (k : ℕ) (hk : k < 8) : (Scalar.indexCast (Scf.iv 0#32 1#32 k)).toNat = k := by interval_cases k <;> decide
theorem slot_toNat (k : ℕ) (hk : k < 8) : (Scalar.remsi (Scf.iv 0#32 1#32 k) 4#32).toNat = k % 4 := by interval_cases k <;> decide
theorem slotIdx_toNat (k : ℕ) (hk : k < 8) : (Scalar.indexCast (Scalar.remsi (Scf.iv 0#32 1#32 k) 4#32)).toNat = k % 4 := by
  interval_cases k <;> decide
theorem slot4_toNat (k : ℕ) (hk : k < 8) : (Scalar.remsi (Scalar.addi (Scf.iv 0#32 1#32 k) 4#32) 4#32).toNat = k % 4 := by
  interval_cases k <;> decide
theorem idx4_toNat (k : ℕ) (hk : k < 8) : (Scalar.indexCast (Scalar.addi (Scf.iv 0#32 1#32 k) 4#32)).toNat = k + 4 := by
  interval_cases k <;> decide

/-- Whether a copy for the expert four positions on is started. -/
theorem next_iff (m : BitVec 32) (k : ℕ) (hk : k < 8) :
    Scalar.cmpi .ne (Scalar.extui (Scalar.cmpi .slt (Scalar.addi (Scf.iv 0#32 1#32 k) 4#32) (cnt m 8)) : BitVec 32) 0#32 = 1#1 ↔ k + 4 < act m := by
  have h := act_le m
  rw [cnt_eq]
  unfold act at *
  generalize num m 8 = n at *
  interval_cases n <;> interval_cases k <;> decide

/-- Whether the copy for position `i` is started before the loop. -/
theorem first_iff (m : BitVec 32) (i : ℕ) (hi : i < 4) :
    Scalar.cmpi .ne (Scalar.extui (Scalar.cmpi .sgt (cnt m 8) (BitVec.ofNat 32 i)) : BitVec 32) 0#32 = 1#1 ↔ i < act m := by
  have h := act_le m
  rw [cnt_eq]
  unfold act at *
  generalize num m 8 = n at *
  interval_cases n <;> interval_cases i <;> decide

/-- Whether expert `e` is put in the table. -/
theorem on_iff (m : BitVec 32) (e : ℕ) :
    Scalar.cmpi .ne (Scalar.extui (Scalar.cmpi .eq (bit m e) 1#32) : BitVec 32) 0#32 = 1#1 ↔ bit m e = 1#32 := by
  rcases bit_or m e with h | h <;> rw [h] <;> decide

/-! ## Blocks of three axes -/

theorem inb3 {x r n R S : ℕ} (hx : x < S) (hr : r + n ≤ R) :
    ∀ a : Fin 3, (![x, r, 0] : Fin 3 → ℕ) a + (![1, n, 2816] : Fin 3 → ℕ) a ≤ (![S, R, 2816] : Fin 3 → ℕ) a := by
  intro a
  fin_cases a
  · show x + 1 ≤ S; omega
  · show r + n ≤ R; omega
  · show 0 + 2816 ≤ 2816; omega

theorem inb2 {x g G S : ℕ} (hx : x < S) (hg : g < G) :
    ∀ a : Fin 2, (![x, g] : Fin 2 → ℕ) a + (![1, 1] : Fin 2 → ℕ) a ≤ (![S, G] : Fin 2 → ℕ) a := by
  intro a
  fin_cases a
  · show x + 1 ≤ S; omega
  · show g + 1 ≤ G; omega

theorem inb1 {x S : ℕ} (hx : x < S) : ∀ a : Fin 1, (![x] : Fin 1 → ℕ) a + (![1] : Fin 1 → ℕ) a ≤ (![S] : Fin 1 → ℕ) a := by
  intro a
  fin_cases a
  show x + 1 ≤ S; omega

/-- A block of whole rows of four is made of whole words. -/
theorem words3 {d size off : Fin 3 → ℕ} (h : ∀ a, off a + size a ≤ d a) (h1 : 4 ∣ off 1) (h2 : 4 ∣ size 1) :
    (Rect.unit (s := (⟨3, d⟩ : Shape)) off size h).WholeWords (EltTy.packing .i8) :=
  .inl (.inr ⟨(by decide : 2 ≤ 3), rfl, .inl ⟨h1, h2⟩⟩)

end Cert.MoeWords

end
-- ==== Proof.FloatOffs.lean ====
/-
  The offsets of the kernel's blocks and cells in closed form, and its own checks of them.
-/
module

public import proofs.«01_k».proof.Proof.Gen.Kernel
public import proofs.«01_k».proof.Proof.Words

@[expose] public section

noncomputable section

namespace Cert.Kernel

open Idealize.ShloMosaic Cert.MoeWords

/-- The mask of active experts: one bit for each expert named by the 18 ids. -/
def mask (v0 v3 v6 v9 v12 v15 v18 v21 v24 v27 v30 v33 v36 v39 v42 v45 v48 v51 : BitVec 32) : BitVec 32 :=
  (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori 0#32 (Scalar.shli 1#32 v0)) (Scalar.shli 1#32 v3)) (Scalar.shli 1#32 v6)) (Scalar.shli 1#32 v9)) (Scalar.shli 1#32 v12)) (Scalar.shli 1#32 v15)) (Scalar.shli 1#32 v18)) (Scalar.shli 1#32 v21)) (Scalar.shli 1#32 v24)) (Scalar.shli 1#32 v27)) (Scalar.shli 1#32 v30)) (Scalar.shli 1#32 v33)) (Scalar.shli 1#32 v36)) (Scalar.shli 1#32 v39)) (Scalar.shli 1#32 v42)) (Scalar.shli 1#32 v45)) (Scalar.shli 1#32 v48)) (Scalar.shli 1#32 v51))

variable {v0 v3 v6 v9 v12 v15 v18 v21 v24 v27 v30 v33 v36 v39 v42 v45 v48 v51 : BitVec 32}

theorem trips1 : (k0_t1_loop v0 v3 v6 v9 v12 v15 v18 v21 v24 v27 v30 v33 v36 v39 v42 v45 v48 v51).trips = act (mask v0 v3 v6 v9 v12 v15 v18 v21 v24 v27 v30 v33 v36 v39 v42 v45 v48 v51) := trips_eq (mask v0 v3 v6 v9 v12 v15 v18 v21 v24 v27 v30 v33 v36 v39 v42 v45 v48 v51)

theorem trips2 : (k0_t2_loop v0 v3 v6 v9 v12 v15 v18 v21 v24 v27 v30 v33 v36 v39 v42 v45 v48 v51).trips = 0 := trips2_eq (mask v0 v3 v6 v9 v12 v15 v18 v21 v24 v27 v30 v33 v36 v39 v42 v45 v48 v51)

theorem t1_lt (t : Fin (k0_t1_loop v0 v3 v6 v9 v12 v15 v18 v21 v24 v27 v30 v33 v36 v39 v42 v45 v48 v51).trips) : t.val < act (mask v0 v3 v6 v9 v12 v15 v18 v21 v24 v27 v30 v33 v36 v39 v42 v45 v48 v51) := lt_of_lt_of_eq t.isLt trips1

theorem t1_lt8 (t : Fin (k0_t1_loop v0 v3 v6 v9 v12 v15 v18 v21 v24 v27 v30 v33 v36 v39 v42 v45 v48 v51).trips) : t.val < 8 := lt_of_lt_of_le (t1_lt t) (act_le _)

theorem no2 {P : Prop} (t : Fin (k0_t2_loop v0 v3 v6 v9 v12 v15 v18 v21 v24 v27 v30 v33 v36 v39 v42 v45 v48 v51).trips) : P := absurd (lt_of_lt_of_eq t.isLt trips2) (Nat.not_lt_zero _)

theorem off1_eq : k0_off1 v0 v3 v6 v9 v12 v15 v18 v21 v24 v27 v30 v33 v36 v39 v42 v45 v48 v51 = ![num (mask v0 v3 v6 v9 v12 v15 v18 v21 v24 v27 v30 v33 v36 v39 v42 v45 v48 v51) 1] := rfl
theorem off2_eq : k0_off2 v0 v3 v6 v9 v12 v15 v18 v21 v24 v27 v30 v33 v36 v39 v42 v45 v48 v51 = ![num (mask v0 v3 v6 v9 v12 v15 v18 v21 v24 v27 v30 v33 v36 v39 v42 v45 v48 v51) 2] := rfl
theorem off3_eq : k0_off3 v0 v3 v6 v9 v12 v15 v18 v21 v24 v27 v30 v33 v36 v39 v42 v45 v48 v51 = ![num (mask v0 v3 v6 v9 v12 v15 v18 v21 v24 v27 v30 v33 v36 v39 v42 v45 v48 v51) 3] := rfl
theorem off4_eq : k0_off4 v0 v3 v6 v9 v12 v15 v18 v21 v24 v27 v30 v33 v36 v39 v42 v45 v48 v51 = ![num (mask v0 v3 v6 v9 v12 v15 v18 v21 v24 v27 v30 v33 v36 v39 v42 v45 v48 v51) 4] := rfl
theorem off5_eq : k0_off5 v0 v3 v6 v9 v12 v15 v18 v21 v24 v27 v30 v33 v36 v39 v42 v45 v48 v51 = ![num (mask v0 v3 v6 v9 v12 v15 v18 v21 v24 v27 v30 v33 v36 v39 v42 v45 v48 v51) 5] := rfl
theorem off6_eq : k0_off6 v0 v3 v6 v9 v12 v15 v18 v21 v24 v27 v30 v33 v36 v39 v42 v45 v48 v51 = ![num (mask v0 v3 v6 v9 v12 v15 v18 v21 v24 v27 v30 v33 v36 v39 v42 v45 v48 v51) 6] := rfl
theorem off7_eq : k0_off7 v0 v3 v6 v9 v12 v15 v18 v21 v24 v27 v30 v33 v36 v39 v42 v45 v48 v51 = ![num (mask v0 v3 v6 v9 v12 v15 v18 v21 v24 v27 v30 v33 v36 v39 v42 v45 v48 v51) 7] := rfl
theorem cond2_iff : k0_cond2 v0 v3 v6 v9 v12 v15 v18 v21 v24 v27 v30 v33 v36 v39 v42 v45 v48 v51 = 1#1 ↔ bit (mask v0 v3 v6 v9 v12 v15 v18 v21 v24 v27 v30 v33 v36 v39 v42 v45 v48 v51) 1 = 1#32 := on_iff (mask v0 v3 v6 v9 v12 v15 v18 v21 v24 v27 v30 v33 v36 v39 v42 v45 v48 v51) 1
theorem cond3_iff : k0_cond3 v0 v3 v6 v9 v12 v15 v18 v21 v24 v27 v30 v33 v36 v39 v42 v45 v48 v51 = 1#1 ↔ bit (mask v0 v3 v6 v9 v12 v15 v18 v21 v24 v27 v30 v33 v36 v39 v42 v45 v48 v51) 2 = 1#32 := on_iff (mask v0 v3 v6 v9 v12 v15 v18 v21 v24 v27 v30 v33 v36 v39 v42 v45 v48 v51) 2
theorem cond4_iff : k0_cond4 v0 v3 v6 v9 v12 v15 v18 v21 v24 v27 v30 v33 v36 v39 v42 v45 v48 v51 = 1#1 ↔ bit (mask v0 v3 v6 v9 v12 v15 v18 v21 v24 v27 v30 v33 v36 v39 v42 v45 v48 v51) 3 = 1#32 := on_iff (mask v0 v3 v6 v9 v12 v15 v18 v21 v24 v27 v30 v33 v36 v39 v42 v45 v48 v51) 3
theorem cond5_iff : k0_cond5 v0 v3 v6 v9 v12 v15 v18 v21 v24 v27 v30 v33 v36 v39 v42 v45 v48 v51 = 1#1 ↔ bit (mask v0 v3 v6 v9 v12 v15 v18 v21 v24 v27 v30 v33 v36 v39 v42 v45 v48 v51) 4 = 1#32 := on_iff (mask v0 v3 v6 v9 v12 v15 v18 v21 v24 v27 v30 v33 v36 v39 v42 v45 v48 v51) 4
theorem cond6_iff : k0_cond6 v0 v3 v6 v9 v12 v15 v18 v21 v24 v27 v30 v33 v36 v39 v42 v45 v48 v51 = 1#1 ↔ bit (mask v0 v3 v6 v9 v12 v15 v18 v21 v24 v27 v30 v33 v36 v39 v42 v45 v48 v51) 5 = 1#32 := on_iff (mask v0 v3 v6 v9 v12 v15 v18 v21 v24 v27 v30 v33 v36 v39 v42 v45 v48 v51) 5
theorem cond7_iff : k0_cond7 v0 v3 v6 v9 v12 v15 v18 v21 v24 v27 v30 v33 v36 v39 v42 v45 v48 v51 = 1#1 ↔ bit (mask v0 v3 v6 v9 v12 v15 v18 v21 v24 v27 v30 v33 v36 v39 v42 v45 v48 v51) 6 = 1#32 := on_iff (mask v0 v3 v6 v9 v12 v15 v18 v21 v24 v27 v30 v33 v36 v39 v42 v45 v48 v51) 6
theorem cond8_iff : k0_cond8 v0 v3 v6 v9 v12 v15 v18 v21 v24 v27 v30 v33 v36 v39 v42 v45 v48 v51 = 1#1 ↔ bit (mask v0 v3 v6 v9 v12 v15 v18 v21 v24 v27 v30 v33 v36 v39 v42 v45 v48 v51) 7 = 1#32 := on_iff (mask v0 v3 v6 v9 v12 v15 v18 v21 v24 v27 v30 v33 v36 v39 v42 v45 v48 v51) 7
theorem cond9_iff : k0_cond9 v0 v3 v6 v9 v12 v15 v18 v21 v24 v27 v30 v33 v36 v39 v42 v45 v48 v51 = 1#1 ↔ 0 < act (mask v0 v3 v6 v9 v12 v15 v18 v21 v24 v27 v30 v33 v36 v39 v42 v45 v48 v51) := first_iff (mask v0 v3 v6 v9 v12 v15 v18 v21 v24 v27 v30 v33 v36 v39 v42 v45 v48 v51) 0 (by decide)
theorem cond10_iff : k0_cond10 v0 v3 v6 v9 v12 v15 v18 v21 v24 v27 v30 v33 v36 v39 v42 v45 v48 v51 = 1#1 ↔ 1 < act (mask v0 v3 v6 v9 v12 v15 v18 v21 v24 v27 v30 v33 v36 v39 v42 v45 v48 v51) := first_iff (mask v0 v3 v6 v9 v12 v15 v18 v21 v24 v27 v30 v33 v36 v39 v42 v45 v48 v51) 1 (by decide)
theorem cond11_iff : k0_cond11 v0 v3 v6 v9 v12 v15 v18 v21 v24 v27 v30 v33 v36 v39 v42 v45 v48 v51 = 1#1 ↔ 2 < act (mask v0 v3 v6 v9 v12 v15 v18 v21 v24 v27 v30 v33 v36 v39 v42 v45 v48 v51) := first_iff (mask v0 v3 v6 v9 v12 v15 v18 v21 v24 v27 v30 v33 v36 v39 v42 v45 v48 v51) 2 (by decide)
theorem cond12_iff : k0_cond12 v0 v3 v6 v9 v12 v15 v18 v21 v24 v27 v30 v33 v36 v39 v42 v45 v48 v51 = 1#1 ↔ 3 < act (mask v0 v3 v6 v9 v12 v15 v18 v21 v24 v27 v30 v33 v36 v39 v42 v45 v48 v51) := first_iff (mask v0 v3 v6 v9 v12 v15 v18 v21 v24 v27 v30 v33 v36 v39 v42 v45 v48 v51) 3 (by decide)
theorem cond13_iff (t : Fin (k0_t1_loop v0 v3 v6 v9 v12 v15 v18 v21 v24 v27 v30 v33 v36 v39 v42 v45 v48 v51).trips) : k0_cond13 v0 v3 v6 v9 v12 v15 v18 v21 v24 v27 v30 v33 v36 v39 v42 v45 v48 v51 t = 1#1 ↔ t.val + 4 < act (mask v0 v3 v6 v9 v12 v15 v18 v21 v24 v27 v30 v33 v36 v39 v42 v45 v48 v51) := next_iff (mask v0 v3 v6 v9 v12 v15 v18 v21 v24 v27 v30 v33 v36 v39 v42 v45 v48 v51) t.val (t1_lt8 t)

theorem off8_eq : k0_off8 = ![0, 0] := by decide
theorem off9_eq : k0_off9 = ![0, 0, 0] := by decide
theorem off11_eq : k0_off11 = ![0, 1] := by decide
theorem off12_eq : k0_off12 = ![0, 1024, 0] := by decide
theorem off14_eq : k0_off14 = ![0, 2] := by decide
theorem off15_eq : k0_off15 = ![0, 2048, 0] := by decide
theorem off17_eq : k0_off17 = ![0, 0] := by decide
theorem off18_eq : k0_off18 = ![0, 0, 0] := by decide
theorem off20_eq : k0_off20 = ![0, 1] := by decide
theorem off21_eq : k0_off21 = ![0, 1024, 0] := by decide
theorem off23_eq : k0_off23 = ![1, 0] := by decide
theorem off24_eq : k0_off24 = ![1, 0, 0] := by decide
theorem off26_eq : k0_off26 = ![1, 1] := by decide
theorem off27_eq : k0_off27 = ![1, 1024, 0] := by decide
theorem off29_eq : k0_off29 = ![1, 2] := by decide
theorem off30_eq : k0_off30 = ![1, 2048, 0] := by decide
theorem off32_eq : k0_off32 = ![1, 0] := by decide
theorem off33_eq : k0_off33 = ![1, 0, 0] := by decide
theorem off35_eq : k0_off35 = ![1, 1] := by decide
theorem off36_eq : k0_off36 = ![1, 1024, 0] := by decide
theorem off38_eq : k0_off38 = ![2, 0] := by decide
theorem off39_eq : k0_off39 = ![2, 0, 0] := by decide
theorem off41_eq : k0_off41 = ![2, 1] := by decide
theorem off42_eq : k0_off42 = ![2, 1024, 0] := by decide
theorem off44_eq : k0_off44 = ![2, 2] := by decide
theorem off45_eq : k0_off45 = ![2, 2048, 0] := by decide
theorem off47_eq : k0_off47 = ![2, 0] := by decide
theorem off48_eq : k0_off48 = ![2, 0, 0] := by decide
theorem off50_eq : k0_off50 = ![2, 1] := by decide
theorem off51_eq : k0_off51 = ![2, 1024, 0] := by decide
theorem off53_eq : k0_off53 = ![3, 0] := by decide
theorem off54_eq : k0_off54 = ![3, 0, 0] := by decide
theorem off56_eq : k0_off56 = ![3, 1] := by decide
theorem off57_eq : k0_off57 = ![3, 1024, 0] := by decide
theorem off59_eq : k0_off59 = ![3, 2] := by decide
theorem off60_eq : k0_off60 = ![3, 2048, 0] := by decide
theorem off62_eq : k0_off62 = ![3, 0] := by decide
theorem off63_eq : k0_off63 = ![3, 0, 0] := by decide
theorem off65_eq : k0_off65 = ![3, 1] := by decide
theorem off66_eq : k0_off66 = ![3, 1024, 0] := by decide
theorem off68_eq (t : Fin (k0_t1_loop v0 v3 v6 v9 v12 v15 v18 v21 v24 v27 v30 v33 v36 v39 v42 v45 v48 v51).trips) : k0_off68 v0 v3 v6 v9 v12 v15 v18 v21 v24 v27 v30 v33 v36 v39 v42 v45 v48 v51 t = ![t.val] :=
  congrArg (fun x => ![x]) (idx_toNat t.val (t1_lt8 t))
theorem off69_eq (t : Fin (k0_t1_loop v0 v3 v6 v9 v12 v15 v18 v21 v24 v27 v30 v33 v36 v39 v42 v45 v48 v51).trips) : k0_off69 v0 v3 v6 v9 v12 v15 v18 v21 v24 v27 v30 v33 v36 v39 v42 v45 v48 v51 t = ![t.val % 4, 0] :=
  congrArg (fun x => ![x, 0]) (slot_toNat t.val (t1_lt8 t))
theorem off70_eq (t : Fin (k0_t1_loop v0 v3 v6 v9 v12 v15 v18 v21 v24 v27 v30 v33 v36 v39 v42 v45 v48 v51).trips) : k0_off70 v0 v3 v6 v9 v12 v15 v18 v21 v24 v27 v30 v33 v36 v39 v42 v45 v48 v51 t = ![t.val % 4, 0, 0] :=
  congrArg (fun x => ![x, 0, 0]) (slot_toNat t.val (t1_lt8 t))
theorem off72_eq (t : Fin (k0_t1_loop v0 v3 v6 v9 v12 v15 v18 v21 v24 v27 v30 v33 v36 v39 v42 v45 v48 v51).trips) : k0_off72 v0 v3 v6 v9 v12 v15 v18 v21 v24 v27 v30 v33 v36 v39 v42 v45 v48 v51 t = ![t.val % 4, 0, 0] :=
  congrArg (fun x => ![x, 0, 0]) (slotIdx_toNat t.val (t1_lt8 t))
theorem off73_eq (t : Fin (k0_t1_loop v0 v3 v6 v9 v12 v15 v18 v21 v24 v27 v30 v33 v36 v39 v42 v45 v48 v51).trips) : k0_off73 v0 v3 v6 v9 v12 v15 v18 v21 v24 v27 v30 v33 v36 v39 v42 v45 v48 v51 t = ![t.val % 4, 1] :=
  congrArg (fun x => ![x, 1]) (slot_toNat t.val (t1_lt8 t))
theorem off74_eq (t : Fin (k0_t1_loop v0 v3 v6 v9 v12 v15 v18 v21 v24 v27 v30 v33 v36 v39 v42 v45 v48 v51).trips) : k0_off74 v0 v3 v6 v9 v12 v15 v18 v21 v24 v27 v30 v33 v36 v39 v42 v45 v48 v51 t = ![t.val % 4, 1024, 0] :=
  congrArg (fun x => ![x, 1024, 0]) (slot_toNat t.val (t1_lt8 t))
theorem off76_eq (t : Fin (k0_t1_loop v0 v3 v6 v9 v12 v15 v18 v21 v24 v27 v30 v33 v36 v39 v42 v45 v48 v51).trips) : k0_off76 v0 v3 v6 v9 v12 v15 v18 v21 v24 v27 v30 v33 v36 v39 v42 v45 v48 v51 t = ![t.val % 4, 1024, 0] :=
  congrArg (fun x => ![x, 1024, 0]) (slotIdx_toNat t.val (t1_lt8 t))
theorem off77_eq (t : Fin (k0_t1_loop v0 v3 v6 v9 v12 v15 v18 v21 v24 v27 v30 v33 v36 v39 v42 v45 v48 v51).trips) : k0_off77 v0 v3 v6 v9 v12 v15 v18 v21 v24 v27 v30 v33 v36 v39 v42 v45 v48 v51 t = ![t.val % 4, 2] :=
  congrArg (fun x => ![x, 2]) (slot_toNat t.val (t1_lt8 t))
theorem off78_eq (t : Fin (k0_t1_loop v0 v3 v6 v9 v12 v15 v18 v21 v24 v27 v30 v33 v36 v39 v42 v45 v48 v51).trips) : k0_off78 v0 v3 v6 v9 v12 v15 v18 v21 v24 v27 v30 v33 v36 v39 v42 v45 v48 v51 t = ![t.val % 4, 2048, 0] :=
  congrArg (fun x => ![x, 2048, 0]) (slot_toNat t.val (t1_lt8 t))
theorem off80_eq (t : Fin (k0_t1_loop v0 v3 v6 v9 v12 v15 v18 v21 v24 v27 v30 v33 v36 v39 v42 v45 v48 v51).trips) : k0_off80 v0 v3 v6 v9 v12 v15 v18 v21 v24 v27 v30 v33 v36 v39 v42 v45 v48 v51 t = ![t.val % 4, 2048, 0] :=
  congrArg (fun x => ![x, 2048, 0]) (slotIdx_toNat t.val (t1_lt8 t))
theorem off82_eq (t : Fin (k0_t1_loop v0 v3 v6 v9 v12 v15 v18 v21 v24 v27 v30 v33 v36 v39 v42 v45 v48 v51).trips) : k0_off82 v0 v3 v6 v9 v12 v15 v18 v21 v24 v27 v30 v33 v36 v39 v42 v45 v48 v51 t = ![t.val] :=
  congrArg (fun x => ![x]) (idx_toNat t.val (t1_lt8 t))
theorem off83_eq (t : Fin (k0_t1_loop v0 v3 v6 v9 v12 v15 v18 v21 v24 v27 v30 v33 v36 v39 v42 v45 v48 v51).trips) : k0_off83 v0 v3 v6 v9 v12 v15 v18 v21 v24 v27 v30 v33 v36 v39 v42 v45 v48 v51 t = ![t.val % 4, 0] :=
  congrArg (fun x => ![x, 0]) (slot_toNat t.val (t1_lt8 t))
theorem off84_eq (t : Fin (k0_t1_loop v0 v3 v6 v9 v12 v15 v18 v21 v24 v27 v30 v33 v36 v39 v42 v45 v48 v51).trips) : k0_off84 v0 v3 v6 v9 v12 v15 v18 v21 v24 v27 v30 v33 v36 v39 v42 v45 v48 v51 t = ![t.val % 4, 0, 0] :=
  congrArg (fun x => ![x, 0, 0]) (slot_toNat t.val (t1_lt8 t))
theorem off86_eq (t : Fin (k0_t1_loop v0 v3 v6 v9 v12 v15 v18 v21 v24 v27 v30 v33 v36 v39 v42 v45 v48 v51).trips) : k0_off86 v0 v3 v6 v9 v12 v15 v18 v21 v24 v27 v30 v33 v36 v39 v42 v45 v48 v51 t = ![t.val % 4, 0, 0] :=
  congrArg (fun x => ![x, 0, 0]) (slotIdx_toNat t.val (t1_lt8 t))
theorem off87_eq (t : Fin (k0_t1_loop v0 v3 v6 v9 v12 v15 v18 v21 v24 v27 v30 v33 v36 v39 v42 v45 v48 v51).trips) : k0_off87 v0 v3 v6 v9 v12 v15 v18 v21 v24 v27 v30 v33 v36 v39 v42 v45 v48 v51 t = ![t.val % 4, 1] :=
  congrArg (fun x => ![x, 1]) (slot_toNat t.val (t1_lt8 t))
theorem off88_eq (t : Fin (k0_t1_loop v0 v3 v6 v9 v12 v15 v18 v21 v24 v27 v30 v33 v36 v39 v42 v45 v48 v51).trips) : k0_off88 v0 v3 v6 v9 v12 v15 v18 v21 v24 v27 v30 v33 v36 v39 v42 v45 v48 v51 t = ![t.val % 4, 1024, 0] :=
  congrArg (fun x => ![x, 1024, 0]) (slot_toNat t.val (t1_lt8 t))
theorem off90_eq (t : Fin (k0_t1_loop v0 v3 v6 v9 v12 v15 v18 v21 v24 v27 v30 v33 v36 v39 v42 v45 v48 v51).trips) : k0_off90 v0 v3 v6 v9 v12 v15 v18 v21 v24 v27 v30 v33 v36 v39 v42 v45 v48 v51 t = ![t.val % 4, 1024, 0] :=
  congrArg (fun x => ![x, 1024, 0]) (slotIdx_toNat t.val (t1_lt8 t))
theorem off91_eq (t : Fin (k0_t1_loop v0 v3 v6 v9 v12 v15 v18 v21 v24 v27 v30 v33 v36 v39 v42 v45 v48 v51).trips) : k0_off91 v0 v3 v6 v9 v12 v15 v18 v21 v24 v27 v30 v33 v36 v39 v42 v45 v48 v51 t = ![t.val + 4] :=
  congrArg (fun x => ![x]) (idx4_toNat t.val (t1_lt8 t))
theorem off92_eq (t : Fin (k0_t1_loop v0 v3 v6 v9 v12 v15 v18 v21 v24 v27 v30 v33 v36 v39 v42 v45 v48 v51).trips) : k0_off92 v0 v3 v6 v9 v12 v15 v18 v21 v24 v27 v30 v33 v36 v39 v42 v45 v48 v51 t = ![t.val % 4, 0] :=
  congrArg (fun x => ![x, 0]) (slot4_toNat t.val (t1_lt8 t))
theorem off93_eq (t : Fin (k0_t1_loop v0 v3 v6 v9 v12 v15 v18 v21 v24 v27 v30 v33 v36 v39 v42 v45 v48 v51).trips) : k0_off93 v0 v3 v6 v9 v12 v15 v18 v21 v24 v27 v30 v33 v36 v39 v42 v45 v48 v51 t = ![t.val % 4, 0, 0] :=
  congrArg (fun x => ![x, 0, 0]) (slot4_toNat t.val (t1_lt8 t))
theorem off95_eq (t : Fin (k0_t1_loop v0 v3 v6 v9 v12 v15 v18 v21 v24 v27 v30 v33 v36 v39 v42 v45 v48 v51).trips) : k0_off95 v0 v3 v6 v9 v12 v15 v18 v21 v24 v27 v30 v33 v36 v39 v42 v45 v48 v51 t = ![t.val % 4, 1] :=
  congrArg (fun x => ![x, 1]) (slot4_toNat t.val (t1_lt8 t))
theorem off96_eq (t : Fin (k0_t1_loop v0 v3 v6 v9 v12 v15 v18 v21 v24 v27 v30 v33 v36 v39 v42 v45 v48 v51).trips) : k0_off96 v0 v3 v6 v9 v12 v15 v18 v21 v24 v27 v30 v33 v36 v39 v42 v45 v48 v51 t = ![t.val % 4, 1024, 0] :=
  congrArg (fun x => ![x, 1024, 0]) (slot4_toNat t.val (t1_lt8 t))
theorem off98_eq (t : Fin (k0_t1_loop v0 v3 v6 v9 v12 v15 v18 v21 v24 v27 v30 v33 v36 v39 v42 v45 v48 v51).trips) : k0_off98 v0 v3 v6 v9 v12 v15 v18 v21 v24 v27 v30 v33 v36 v39 v42 v45 v48 v51 t = ![t.val % 4, 2] :=
  congrArg (fun x => ![x, 2]) (slot4_toNat t.val (t1_lt8 t))
theorem off99_eq (t : Fin (k0_t1_loop v0 v3 v6 v9 v12 v15 v18 v21 v24 v27 v30 v33 v36 v39 v42 v45 v48 v51).trips) : k0_off99 v0 v3 v6 v9 v12 v15 v18 v21 v24 v27 v30 v33 v36 v39 v42 v45 v48 v51 t = ![t.val % 4, 2048, 0] :=
  congrArg (fun x => ![x, 2048, 0]) (slot4_toNat t.val (t1_lt8 t))
theorem off101_eq (t : Fin (k0_t1_loop v0 v3 v6 v9 v12 v15 v18 v21 v24 v27 v30 v33 v36 v39 v42 v45 v48 v51).trips) : k0_off101 v0 v3 v6 v9 v12 v15 v18 v21 v24 v27 v30 v33 v36 v39 v42 v45 v48 v51 t = ![t.val + 4] :=
  congrArg (fun x => ![x]) (idx4_toNat t.val (t1_lt8 t))
theorem off102_eq (t : Fin (k0_t1_loop v0 v3 v6 v9 v12 v15 v18 v21 v24 v27 v30 v33 v36 v39 v42 v45 v48 v51).trips) : k0_off102 v0 v3 v6 v9 v12 v15 v18 v21 v24 v27 v30 v33 v36 v39 v42 v45 v48 v51 t = ![t.val % 4, 0] :=
  congrArg (fun x => ![x, 0]) (slot4_toNat t.val (t1_lt8 t))
theorem off103_eq (t : Fin (k0_t1_loop v0 v3 v6 v9 v12 v15 v18 v21 v24 v27 v30 v33 v36 v39 v42 v45 v48 v51).trips) : k0_off103 v0 v3 v6 v9 v12 v15 v18 v21 v24 v27 v30 v33 v36 v39 v42 v45 v48 v51 t = ![t.val % 4, 0, 0] :=
  congrArg (fun x => ![x, 0, 0]) (slot4_toNat t.val (t1_lt8 t))
theorem off105_eq (t : Fin (k0_t1_loop v0 v3 v6 v9 v12 v15 v18 v21 v24 v27 v30 v33 v36 v39 v42 v45 v48 v51).trips) : k0_off105 v0 v3 v6 v9 v12 v15 v18 v21 v24 v27 v30 v33 v36 v39 v42 v45 v48 v51 t = ![t.val % 4, 1] :=
  congrArg (fun x => ![x, 1]) (slot4_toNat t.val (t1_lt8 t))
theorem off106_eq (t : Fin (k0_t1_loop v0 v3 v6 v9 v12 v15 v18 v21 v24 v27 v30 v33 v36 v39 v42 v45 v48 v51).trips) : k0_off106 v0 v3 v6 v9 v12 v15 v18 v21 v24 v27 v30 v33 v36 v39 v42 v45 v48 v51 t = ![t.val % 4, 1024, 0] :=
  congrArg (fun x => ![x, 1024, 0]) (slot4_toNat t.val (t1_lt8 t))
theorem chk1_0 : k0_chk1_0 v0 v3 v6 v9 v12 v15 v18 v21 v24 v27 v30 v33 v36 v39 v42 v45 v48 v51 :=
  ⟨fun h => by rw [off1_eq]; exact inb1 (lt_of_lt_of_le (num_lt_act _ 1 (by decide) (cond2_iff.mp h)) (act_le _)),
    fun h => by rw [off2_eq]; exact inb1 (lt_of_lt_of_le (num_lt_act _ 2 (by decide) (cond3_iff.mp h)) (act_le _)),
    fun h => by rw [off3_eq]; exact inb1 (lt_of_lt_of_le (num_lt_act _ 3 (by decide) (cond4_iff.mp h)) (act_le _)),
    fun h => by rw [off4_eq]; exact inb1 (lt_of_lt_of_le (num_lt_act _ 4 (by decide) (cond5_iff.mp h)) (act_le _)),
    fun h => by rw [off5_eq]; exact inb1 (lt_of_lt_of_le (num_lt_act _ 5 (by decide) (cond6_iff.mp h)) (act_le _)),
    fun h => by rw [off6_eq]; exact inb1 (lt_of_lt_of_le (num_lt_act _ 6 (by decide) (cond7_iff.mp h)) (act_le _)),
    fun h => by rw [off7_eq]; exact inb1 (lt_of_lt_of_le (num_lt_act _ 7 (by decide) (cond8_iff.mp h)) (act_le _)),
    loop_ok (mask v0 v3 v6 v9 v12 v15 v18 v21 v24 v27 v30 v33 v36 v39 v42 v45 v48 v51),
    fun t => by rw [off68_eq]; exact inb1 (t1_lt8 t),
    fun t => by rw [off69_eq]; exact inb2 (Nat.mod_lt _ (by decide)) (by decide),
    fun t => by rw [off70_eq]; exact inb3 (Nat.mod_lt _ (by decide)) (by decide),
    fun t hinb => words3 hinb (by rw [off70_eq]; exact ⟨0, rfl⟩) (by decide),
    fun t => by rw [off72_eq]; exact inb3 (Nat.mod_lt _ (by decide)) (by decide),
    fun t => by rw [off73_eq]; exact inb2 (Nat.mod_lt _ (by decide)) (by decide),
    fun t => by rw [off74_eq]; exact inb3 (Nat.mod_lt _ (by decide)) (by decide),
    fun t hinb => words3 hinb (by rw [off74_eq]; exact ⟨256, rfl⟩) (by decide),
    fun t => by rw [off76_eq]; exact inb3 (Nat.mod_lt _ (by decide)) (by decide),
    fun t => by rw [off77_eq]; exact inb2 (Nat.mod_lt _ (by decide)) (by decide),
    fun t => by rw [off78_eq]; exact inb3 (Nat.mod_lt _ (by decide)) (by decide),
    fun t hinb => words3 hinb (by rw [off78_eq]; exact ⟨512, rfl⟩) (by decide),
    fun t => by rw [off80_eq]; exact inb3 (Nat.mod_lt _ (by decide)) (by decide),
    fun t => by rw [off82_eq]; exact inb1 (t1_lt8 t),
    fun t => by rw [off83_eq]; exact inb2 (Nat.mod_lt _ (by decide)) (by decide),
    fun t => by rw [off84_eq]; exact inb3 (Nat.mod_lt _ (by decide)) (by decide),
    fun t hinb => words3 hinb (by rw [off84_eq]; exact ⟨0, rfl⟩) (by decide),
    fun t => by rw [off86_eq]; exact inb3 (Nat.mod_lt _ (by decide)) (by decide),
    fun t => by rw [off87_eq]; exact inb2 (Nat.mod_lt _ (by decide)) (by decide),
    fun t => by rw [off88_eq]; exact inb3 (Nat.mod_lt _ (by decide)) (by decide),
    fun t hinb => words3 hinb (by rw [off88_eq]; exact ⟨256, rfl⟩) (by decide),
    fun t => by rw [off90_eq]; exact inb3 (Nat.mod_lt _ (by decide)) (by decide),
    fun t h => by rw [off91_eq]; exact inb1 (lt_of_lt_of_le ((cond13_iff t).mp h) (act_le _)),
    fun t h => by rw [off92_eq]; exact inb2 (Nat.mod_lt _ (by decide)) (by decide)⟩

theorem chk1_1 : k0_chk1_1 v0 v3 v6 v9 v12 v15 v18 v21 v24 v27 v30 v33 v36 v39 v42 v45 v48 v51 :=
  ⟨fun t h => by rw [off93_eq]; exact inb3 (Nat.mod_lt _ (by decide)) (by decide),
    fun t h hinb => words3 hinb (by rw [off93_eq]; exact ⟨0, rfl⟩) (by decide),
    fun t h => by rw [off95_eq]; exact inb2 (Nat.mod_lt _ (by decide)) (by decide),
    fun t h => by rw [off96_eq]; exact inb3 (Nat.mod_lt _ (by decide)) (by decide),
    fun t h hinb => words3 hinb (by rw [off96_eq]; exact ⟨256, rfl⟩) (by decide),
    fun t h => by rw [off98_eq]; exact inb2 (Nat.mod_lt _ (by decide)) (by decide),
    fun t h => by rw [off99_eq]; exact inb3 (Nat.mod_lt _ (by decide)) (by decide),
    fun t h hinb => words3 hinb (by rw [off99_eq]; exact ⟨512, rfl⟩) (by decide),
    fun t h => by rw [off101_eq]; exact inb1 (lt_of_lt_of_le ((cond13_iff t).mp h) (act_le _)),
    fun t h => by rw [off102_eq]; exact inb2 (Nat.mod_lt _ (by decide)) (by decide),
    fun t h => by rw [off103_eq]; exact inb3 (Nat.mod_lt _ (by decide)) (by decide),
    fun t h hinb => words3 hinb (by rw [off103_eq]; exact ⟨0, rfl⟩) (by decide),
    fun t h => by rw [off105_eq]; exact inb2 (Nat.mod_lt _ (by decide)) (by decide),
    fun t h => by rw [off106_eq]; exact inb3 (Nat.mod_lt _ (by decide)) (by decide),
    fun t h hinb => words3 hinb (by rw [off106_eq]; exact ⟨256, rfl⟩) (by decide),
    loop2_ok (mask v0 v3 v6 v9 v12 v15 v18 v21 v24 v27 v30 v33 v36 v39 v42 v45 v48 v51),
    fun t => no2 t,
    fun t => no2 t,
    fun t => no2 t,
    fun t => no2 t,
    fun t => no2 t,
    fun t => no2 t,
    fun t => no2 t,
    fun t => no2 t,
    fun t => no2 t,
    fun t => no2 t,
    fun t => no2 t,
    fun t => no2 t,
    fun t => no2 t,
    fun t => no2 t,
    fun t => no2 t,
    fun t => no2 t⟩

theorem chk1_2 : k0_chk1_2 v0 v3 v6 v9 v12 v15 v18 v21 v24 v27 v30 v33 v36 v39 v42 v45 v48 v51 :=
  ⟨fun t => no2 t,
    fun t => no2 t,
    fun t => no2 t,
    fun t => no2 t,
    fun t => no2 t,
    fun t => no2 t,
    fun t => no2 t,
    fun t => no2 t,
    fun t => no2 t,
    fun t => no2 t,
    fun t => no2 t,
    fun t => no2 t,
    fun t => no2 t,
    fun t => no2 t,
    fun t => no2 t,
    fun t => no2 t,
    fun t => no2 t,
    fun t => no2 t,
    fun t => no2 t,
    fun t => no2 t,
    fun t => no2 t,
    fun t => no2 t,
    fun t => no2 t⟩

/-- The kernel's check of its offsets holds for all ids. -/
theorem chk1 : k0_chk1 v0 v3 v6 v9 v12 v15 v18 v21 v24 v27 v30 v33 v36 v39 v42 v45 v48 v51 := ⟨chk1_0, chk1_1, chk1_2⟩

theorem inbs {v : BitVec 32} (hv : v.toNat < 8) :
    ∀ a : Fin 2, (![(Scalar.indexCast v).toNat, 0] : Fin 2 → ℕ) a + (![1, 2816] : Fin 2 → ℕ) a ≤ (![8, 2816] : Fin 2 → ℕ) a := by
  intro a
  fin_cases a
  · show v.toNat + 1 ≤ 8; omega
  · show 0 + 2816 ≤ 2816; omega

theorem chk2 {v : BitVec 32} (hv : v.toNat < 8) : k0_chk2 v0 v3 v6 v9 v12 v15 v18 v21 v24 v27 v30 v33 v36 v39 v42 v45 v48 v51 v :=
  ⟨fun h => inb3 hv (by decide),
    fun h hinb => words3 hinb ⟨0, rfl⟩ (by decide),
    fun h => inb3 hv (by decide),
    fun h hinb => words3 hinb ⟨256, rfl⟩ (by decide),
    fun h => inb3 hv (by decide),
    fun h hinb => words3 hinb ⟨512, rfl⟩ (by decide)⟩

theorem chk3 {v : BitVec 32} (hv : v.toNat < 8) : k0_chk3 v0 v3 v6 v9 v12 v15 v18 v21 v24 v27 v30 v33 v36 v39 v42 v45 v48 v51 v :=
  ⟨fun h => inb3 hv (by decide),
    fun h hinb => words3 hinb ⟨0, rfl⟩ (by decide),
    fun h => inb3 hv (by decide),
    fun h hinb => words3 hinb ⟨256, rfl⟩ (by decide)⟩

theorem chk4 {v : BitVec 32} (hv : v.toNat < 8) : k0_chk4 v0 v3 v6 v9 v12 v15 v18 v21 v24 v27 v30 v33 v36 v39 v42 v45 v48 v51 v :=
  ⟨fun h => inb3 hv (by decide),
    fun h hinb => words3 hinb ⟨0, rfl⟩ (by decide),
    fun h => inb3 hv (by decide),
    fun h hinb => words3 hinb ⟨256, rfl⟩ (by decide),
    fun h => inb3 hv (by decide),
    fun h hinb => words3 hinb ⟨512, rfl⟩ (by decide)⟩

theorem chk5 {v : BitVec 32} (hv : v.toNat < 8) : k0_chk5 v0 v3 v6 v9 v12 v15 v18 v21 v24 v27 v30 v33 v36 v39 v42 v45 v48 v51 v :=
  ⟨fun h => inb3 hv (by decide),
    fun h hinb => words3 hinb ⟨0, rfl⟩ (by decide),
    fun h => inb3 hv (by decide),
    fun h hinb => words3 hinb ⟨256, rfl⟩ (by decide)⟩

theorem chk6 {v : BitVec 32} (hv : v.toNat < 8) : k0_chk6 v0 v3 v6 v9 v12 v15 v18 v21 v24 v27 v30 v33 v36 v39 v42 v45 v48 v51 v :=
  ⟨fun h => inb3 hv (by decide),
    fun h hinb => words3 hinb ⟨0, rfl⟩ (by decide),
    fun h => inb3 hv (by decide),
    fun h hinb => words3 hinb ⟨256, rfl⟩ (by decide),
    fun h => inb3 hv (by decide),
    fun h hinb => words3 hinb ⟨512, rfl⟩ (by decide)⟩

theorem chk7 {v : BitVec 32} (hv : v.toNat < 8) : k0_chk7 v0 v3 v6 v9 v12 v15 v18 v21 v24 v27 v30 v33 v36 v39 v42 v45 v48 v51 v :=
  ⟨fun h => inb3 hv (by decide),
    fun h hinb => words3 hinb ⟨0, rfl⟩ (by decide),
    fun h => inb3 hv (by decide),
    fun h hinb => words3 hinb ⟨256, rfl⟩ (by decide)⟩

theorem chk8 {v : BitVec 32} (hv : v.toNat < 8) : k0_chk8 v0 v3 v6 v9 v12 v15 v18 v21 v24 v27 v30 v33 v36 v39 v42 v45 v48 v51 v :=
  ⟨fun h => inb3 hv (by decide),
    fun h hinb => words3 hinb ⟨0, rfl⟩ (by decide),
    fun h => inb3 hv (by decide),
    fun h hinb => words3 hinb ⟨256, rfl⟩ (by decide),
    fun h => inb3 hv (by decide),
    fun h hinb => words3 hinb ⟨512, rfl⟩ (by decide)⟩

theorem chk9 {v : BitVec 32} (hv : v.toNat < 8) : k0_chk9 v0 v3 v6 v9 v12 v15 v18 v21 v24 v27 v30 v33 v36 v39 v42 v45 v48 v51 v :=
  ⟨fun h => inb3 hv (by decide),
    fun h hinb => words3 hinb ⟨0, rfl⟩ (by decide),
    fun h => inb3 hv (by decide),
    fun h hinb => words3 hinb ⟨256, rfl⟩ (by decide)⟩

theorem chk10 {v : BitVec 32} (hv : v.toNat < 8) : k0_chk10  v :=
  ⟨inb3 hv (by decide),
    fun hinb => words3 hinb ⟨0, rfl⟩ (by decide),
    inb3 hv (by decide),
    fun hinb => words3 hinb ⟨256, rfl⟩ (by decide),
    inb3 hv (by decide),
    fun hinb => words3 hinb ⟨512, rfl⟩ (by decide)⟩

theorem chk11 {v : BitVec 32} (hv : v.toNat < 8) : k0_chk11  v :=
  ⟨inbs hv,
    inbs hv⟩

theorem chk12 {v : BitVec 32} (hv : v.toNat < 8) : k0_chk12  v :=
  ⟨inb3 hv (by decide),
    fun hinb => words3 hinb ⟨0, rfl⟩ (by decide),
    inb3 hv (by decide),
    fun hinb => words3 hinb ⟨256, rfl⟩ (by decide)⟩

theorem chk13 {t : Fin (k0_t1_loop v0 v3 v6 v9 v12 v15 v18 v21 v24 v27 v30 v33 v36 v39 v42 v45 v48 v51).trips} {v : BitVec 32} (hv : v.toNat < 8) : k0_chk13 v0 v3 v6 v9 v12 v15 v18 v21 v24 v27 v30 v33 v36 v39 v42 v45 v48 v51 t v :=
  ⟨fun h => inb3 hv (by decide),
    fun h hinb => words3 hinb ⟨0, rfl⟩ (by decide),
    fun h => inb3 hv (by decide),
    fun h hinb => words3 hinb ⟨256, rfl⟩ (by decide),
    fun h => inb3 hv (by decide),
    fun h hinb => words3 hinb ⟨512, rfl⟩ (by decide)⟩

theorem chk14 {t : Fin (k0_t1_loop v0 v3 v6 v9 v12 v15 v18 v21 v24 v27 v30 v33 v36 v39 v42 v45 v48 v51).trips} {v : BitVec 32} (hv : v.toNat < 8) : k0_chk14 v0 v3 v6 v9 v12 v15 v18 v21 v24 v27 v30 v33 v36 v39 v42 v45 v48 v51 t v :=
  ⟨fun h => inb3 hv (by decide),
    fun h hinb => words3 hinb ⟨0, rfl⟩ (by decide),
    fun h => inb3 hv (by decide),
    fun h hinb => words3 hinb ⟨256, rfl⟩ (by decide)⟩

end Cert.Kernel

end
-- ==== Proof.Ring.lean ====
/-
  The ring of slots the kernel copies its expert weights through, one block at a time: a copy of a
  block of an array left in HBM into a block of the ring is started on a semaphore of its own,
  waited for, and then read from the ring. These lemmas say what is held before the start, between
  the start and the wait, and after the wait. Nothing here depends on a particular program: the
  memrefs, the blocks and the semaphores are variables, and the memrefs of the printed program are
  related to them by equations.
-/
module

public import Idealize.ShloMosaic.Lib.Pipeline
public import Idealize.ShloMosaic.Lib.Pipeline.FrameBody
public import Idealize.ShloMosaic.Lib.Ring
public import Idealize.ShloMosaic.Lib.Tactic

@[expose] public section

noncomputable section

namespace Cert.MoeRing

open Idealize.ShloMosaic Idealize.ShloMosaic.TcCoe Idealize.ShloMosaic.Tactic
open Idealize.ShloMosaic.Transfers
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}

/-- The algebra of the launch theorem for bodies with copies of their own. -/
local notation "𝕄" => MT nD τ sig Unit Val ℕ (Pipeline.UD sig nD τ) ℕ

variable {Λ : Labels} {defs : Defs nD τ sig Val Λ} (𝒱 : Variants) (c : Thread nD τ) (bd : Option 𝒱.V)
variable {α : Type} {sp sp' : Space} {e : EltTy}

/-- A flight carries along whatever is handed to it. -/
theorem flight_frame (c : Thread nD τ) {sm : SemLoc sig} {ι : Unit} {N : ℕ} {D P : sProp 𝕄} :
    iprop(Flight (countersEmb : UEmb Counters 𝕄) c sm ι N D ∗ P) ⊢ Flight (countersEmb : UEmb Counters 𝕄) c sm ι N iprop(D ∗ P) := by
  unfold Flight
  iintro ⟨⟨⟨%R, HR, %hcap, %hpeek⟩, Hcred⟩, HP⟩
  isplitl [HR HP]
  · iexists iprop(R ∗ P)
    isplitl [HR HP]; · isplitl [HR] <;> iassumption
    isplit
    · ipureintro
      intro K
      refine BIBase.Entails.trans ?_ (hcap K)
      iintro ⟨⟨HR, HP⟩, HK⟩
      isplitl [HR]; · iexact HR
      iintro ⟨Hv, HD⟩
      iapply HK
      isplitl [Hv]; · iexact Hv
      isplitl [HD] <;> iassumption
    · ipureintro
      intro K
      refine BIBase.Entails.trans ?_ (hpeek K)
      iintro ⟨⟨HR, HP⟩, HK⟩
      isplitl [HR]; · iexact HR
      iintro HR
      iapply HK
      isplitl [HR] <;> iassumption
  · iexact Hcred

variable {d d' size : Fin 3 → ℕ}

/-- A block at an offset, of a given size. -/
abbrev blk (off : Fin 3 → ℕ) (h : ∀ a, off a + size a ≤ d a) : Rect (⟨3, d⟩ : Shape) := Rect.unit (s := ⟨3, d⟩) off size h

/-- A block of the ring at contents nothing names, its semaphore at zero: no copy into it is in flight. -/
def Idle (A : Memref sig c.2.kind sp ⟨3, d⟩ e) (r : Rect (⟨3, d⟩ : Shape)) (sm : DmaSem sig) : sProp 𝕄 :=
  iprop((∃ f, A.view.loc c ↦[(A.access r).set]{fullShare} f) ∗ semVal (c, .dma sm) 0)

/-- A block of the ring holding `X`. -/
def Landed (A : Memref sig c.2.kind sp ⟨3, d⟩ e) (r : Rect (⟨3, d⟩ : Shape)) (X : r.shape.Idx → Val e) : sProp 𝕄 :=
  iprop(∃ f, ⌜(A.access r).read Val f = X⌝ ∗ A.view.loc c ↦[(A.access r).set]{fullShare} f)

/-- A copy into a block of the ring is in flight: the wait gives the block holding `X`, and the share of the
    array the copy reads. -/
def Busy (A : Memref sig c.2.kind sp ⟨3, d⟩ e) (r : Rect (⟨3, d⟩ : Shape)) (X : r.shape.Idx → Val e) (sm : DmaSem sig) (N : ℕ)
    (H : Memref sig c.2.kind sp' ⟨3, d'⟩ e) (q : PosShare TreeShare) (fh : Buf Val (H.view.loc c)) : sProp 𝕄 :=
  Flight (countersEmb : UEmb Counters 𝕄) c (.dma sm) () N iprop(Landed c A r X ∗ (H.view.loc c ↦{q} fh))

/-- Starting a copy. -/
theorem wp_start {Q : α → sProp 𝕄} {A : Memref sig c.2.kind sp ⟨3, d⟩ e} {H : Memref sig c.2.kind sp' ⟨3, d'⟩ e}
    {off off0 : Fin 3 → ℕ} {h : ∀ a, off a + size a ≤ d a} {h0 : ∀ a, off0 a + size a ≤ d a}
    {offH offH0 : Fin 3 → ℕ} {hH : ∀ a, offH a + size a ≤ d' a} {hH0 : ∀ a, offH0 a + size a ≤ d' a}
    {s : Shape} {hsq : (⟨3, size⟩ : Shape).Squeezes s} {sm sm0 : DmaSem sig}
    {h1 h2 h3} {k : PUnit → Prog (TpuEff nD τ sig Val Λ c.2) α}
    {q : PosShare TreeShare} {fh : Buf Val (H.view.loc c)} {N : ℕ}
    (hoff : off = off0) (hoffH : offH = offH0) (hsm : sm = sm0)
    (hN : (((A.slice (blk off0 h0) (fun _ => rfl)).squeeze s hsq).view).dmaCredit = N) (hN0 : 0 < N) :
    iprop((H.view.loc c ↦{q} fh) ∗ Idle c A (blk off0 h0) sm0)
      ⊢ iprop((Busy c A (blk off0 h0) ((H.access (blk offH0 hH0)).read Val fh) sm0 N H q fh
            -∗ wp frame (wpE defs 𝒱 c bd) Set.univ (k ⟨⟩) Q)
        -∗ wp frame (wpE defs 𝒱 c bd) Set.univ (.op (.enqueueDma ((H.slice (blk offH hH) (fun _ => rfl)).squeeze s hsq)
            (.here ((A.slice (blk off h) (fun _ => rfl)).squeeze s hsq)) (.dma sm) h1 h2 h3) k) Q) := by
  subst hoff hoffH hsm
  unfold Idle
  iintro ⟨HH, ⟨%f, HA⟩, Hs⟩ Hk
  icases (pointsTo_split_subset (Finset.subset_univ (((H.slice (blk offH hH) (fun _ => rfl)).squeeze s hsq).view.set))).1 $$ HH with ⟨Hi, Hr⟩
  iapply (wp_dmaLocal (countersEmb : UEmb Counters 𝕄) 𝒱 c bd
    (src := (H.slice (blk offH hH) (fun _ => rfl)).squeeze s hsq) (via := .same) (sm := .dma sm)
    (dst := (A.slice (blk off h) (fun _ => rfl)).squeeze s hsq) (Sd := (A.access (blk off h)).set) (fd := f) (fs := fh) (q := q) () N hN hN0
    (le_of_eq (View.set_reshape (v := A.access (blk off h)) hsq.numel_eq))) $$ [Hi HA Hs]
  · isplitl [Hi]; · iexact Hi
    isplitl [HA] <;> iassumption
  iintro Hf
  iapply Hk
  unfold Busy
  icases (flight_frame c) $$ [Hf Hr] with Hf
  · isplitl [Hf]; · iexact Hf
    iexact Hr
  iapply (Flight_mono (countersEmb : UEmb Counters 𝕄) c ?_) $$ Hf
  iintro ⟨⟨HA, Hi⟩, Hr⟩
  isplitl [HA]
  · unfold Landed
    iexists _
    isplitr
    swap; · iexact HA
    ipureintro
    have key := View.read_write_univ (v := ((A.slice (blk off h) (fun _ => rfl)).squeeze s hsq).view) (Val := Val) f
      (((H.slice (blk offH hH) (fun _ => rfl)).squeeze s hsq).view.read Val fh)
    funext x
    have hx := congrFun key ((Shape.reshapeEquiv hsq.numel_eq).symm x)
    simp only [View.read_apply] at hx ⊢
    simpa [Memref.view_squeeze, View.emb_reshape] using hx
  · iapply (pointsTo_split_subset (Finset.subset_univ (((H.slice (blk offH hH) (fun _ => rfl)).squeeze s hsq).view.set))).2
    isplitl [Hi] <;> iassumption

/-- Waiting for a copy. -/
theorem wp_wait {Q : α → sProp 𝕄} {A : Memref sig c.2.kind sp ⟨3, d⟩ e} {H : Memref sig c.2.kind sp' ⟨3, d'⟩ e}
    {off off0 : Fin 3 → ℕ} {h : ∀ a, off a + size a ≤ d a} {h0 : ∀ a, off0 a + size a ≤ d a}
    {X : (blk off0 h0 : Rect (⟨3, d⟩ : Shape)).shape.Idx → Val e}
    {s s' : Shape} {e' : EltTy} {hsq : (⟨3, size⟩ : Shape).Squeezes s} {sm sm0 : DmaSem sig} {sp'' : Space}
    {srcw : Memref sig c.2.kind sp'' s' e'}
    {h1 h2} {k : PUnit → Prog (TpuEff nD τ sig Val Λ c.2) α}
    {q : PosShare TreeShare} {fh : Buf Val (H.view.loc c)} {N : ℕ}
    (hoff : off = off0) (hsm : sm = sm0)
    (hN : (((A.slice (blk off0 h0) (fun _ => rfl)).squeeze s hsq).view).dmaCredit = N) :
    iprop(Busy c A (blk off0 h0) X sm0 N H q fh ∗ (∃ W, owes c 0 W))
      ⊢ iprop((iprop(Landed c A (blk off0 h0) X ∗ (H.view.loc c ↦{q} fh) ∗ semVal (c, .dma sm0) 0 ∗ (∃ W, owes c 0 W))
            -∗ wp frame (wpE defs 𝒱 c bd) Set.univ (k ⟨⟩) Q)
        -∗ wp frame (wpE defs 𝒱 c bd) Set.univ (.op (.waitDma2 sm srcw
            ((A.slice (blk off h) (fun _ => rfl)).squeeze s hsq) h1 h2) k) Q) := by
  subst hoff hsm
  unfold Busy
  iintro ⟨Hf, ⟨%W, HW⟩⟩ Hk
  iapply (wp_waitLocal (countersEmb : UEmb Counters 𝕄) 𝒱 c bd () hN) $$ [Hf HW]
  · isplitl [Hf] <;> iassumption
  iintro ⟨⟨HL, HH⟩, Hs, HW⟩
  iapply Hk
  isplitl [HL]; · iexact HL
  isplitl [HH]; · iexact HH
  isplitl [Hs]; · iexact Hs
  iexists _; iexact HW

/-- Reading a block of the ring. -/
theorem wp_read {Q : α → sProp 𝕄} {cs : CoreSpace} {A : Memref sig c.2.kind cs ⟨3, d⟩ e}
    {off off0 : Fin 3 → ℕ} {h : ∀ a, off a + size a ≤ d a} {h0 : ∀ a, off0 a + size a ≤ d a}
    {X : (blk off0 h0 : Rect (⟨3, d⟩ : Shape)).shape.Idx → Val e}
    {hl : A.view.LoadsAt (blk off h).toLoadRect} {k : ((blk off h : Rect (⟨3, d⟩ : Shape)).shape.Idx → Val e) → Prog (TpuEff nD τ sig Val Λ c.2) α}
    (hoff : off = off0) :
    Landed c A (blk off0 h0) X
      ⊢ iprop((Landed c A (blk off0 h0) X -∗ wp frame (wpE defs 𝒱 c bd) Set.univ (k X) Q)
        -∗ wp frame (wpE defs 𝒱 c bd) Set.univ (.op (.load A (blk off h).toLoadRect hl) k) Q) := by
  subst hoff
  unfold Landed
  iintro ⟨%f, %hf, HA⟩ Hk
  iapply (wp_load_rect 𝒱 c bd Set.univ (m := A) (r := blk off h) (S := (A.access (blk off h)).set) (Finset.Subset.refl _)) $$ HA
  iintro HA
  rw [hf]
  iapply Hk
  iexists f
  isplitr; · ipureintro; exact hf
  iexact HA

/-- A block that has been waited for is free again. -/
theorem idle_of_landed {A : Memref sig c.2.kind sp ⟨3, d⟩ e} {r : Rect (⟨3, d⟩ : Shape)} {X : r.shape.Idx → Val e} {sm : DmaSem sig} :
    iprop(Landed c A r X ∗ semVal (c, .dma sm) 0) ⊢ Idle c A r sm := by
  unfold Landed Idle
  iintro ⟨⟨%f, -, HA⟩, Hs⟩
  isplitl [HA]; · iexists f; iexact HA
  iexact Hs

end Cert.MoeRing

end
-- ==== Proof.Slots.lean ====
/-
  One group of rows of one slot of the ring: free, with a copy of an active expert's rows in flight, or
  holding them. A group of a slot is used for the experts at positions four apart.
-/
module

public import proofs.«01_k».proof.Proof.Ring
public import proofs.«01_k».proof.Proof.Words

@[expose] public section

noncomputable section

namespace Cert.MoeRing

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MoeWords

variable {nD : Nat} {τ : Topo} {sig : RefSig} {Val : EltTy → Type}

local notation "𝕄" => MT nD τ sig Unit Val ℕ (Pipeline.UD sig nD τ) ℕ

variable {Λ : Labels} {defs : Defs nD τ sig Val Λ} (𝒱 : Variants) (c : Thread nD τ) (bd : Option 𝒱.V)
variable {α : Type}

/-- A group of rows of a slot: the ring and the slot, the array in HBM, the rows, the semaphore, and the share
    of the array the copies read. -/
structure Grp (nD : Nat) (τ : Topo) (sig : RefSig) (Val : EltTy → Type) (c : Thread nD τ) where
  S : ℕ
  R : ℕ
  cs : CoreSpace
  sp : Space
  A : Memref sig c.2.kind cs ⟨3, ![S, R, 2816]⟩ .i8
  H : Memref sig c.2.kind sp ⟨3, ![8, R, 2816]⟩ .i8
  x : ℕ
  hx : x < S
  r : ℕ
  n : ℕ
  hr : r + n ≤ R
  hsq : (⟨3, ![1, n, 2816]⟩ : Shape).Squeezes ⟨2, ![n, 2816]⟩
  hn : 0 < (⟨2, ![n, 2816]⟩ : Shape).numel
  sm : DmaSem sig
  q : PosShare TreeShare
  fh : Buf Val (H.view.loc c)

variable {c} (G : Grp nD τ sig Val c) (m : BitVec 32) (j : ℕ)

namespace Grp

/-- The group's block of the ring. -/
abbrev at_ : Rect (⟨3, ![G.S, G.R, 2816]⟩ : Shape) := blk (size := ![1, G.n, 2816]) ![G.x, G.r, 0] (inb3 G.hx G.hr)

/-- Expert `e`'s rows of the array. -/
abbrev of (e : ℕ) (he : e < 8) : Rect (⟨3, ![8, G.R, 2816]⟩ : Shape) := blk (size := ![1, G.n, 2816]) ![e, G.r, 0] (inb3 he G.hr)

/-- The rows of the `j`-th active expert. -/
def rows : (⟨3, ![1, G.n, 2816]⟩ : Shape).Idx → Val .i8 :=
  (G.H.access (G.of (ord m j) (ord_lt m j))).read Val G.fh

/-- What the copy into the group's block credits. -/
def cred : ℕ := ((G.A.slice G.at_ (fun _ => rfl)).squeeze ⟨2, ![G.n, 2816]⟩ G.hsq).view.dmaCredit

/-- No copy in flight. -/
def Free : sProp 𝕄 := iprop((G.H.view.loc c ↦{G.q} G.fh) ∗ Idle c G.A G.at_ G.sm)

/-- The copy for position `j` in flight. -/
def Fly : sProp 𝕄 := Busy c G.A G.at_ (G.rows m j) G.sm G.cred G.H G.q G.fh

/-- The rows of position `j` landed. -/
def Ready : sProp 𝕄 :=
  iprop(Landed c G.A G.at_ (G.rows m j) ∗ (G.H.view.loc c ↦{G.q} G.fh) ∗ semVal (c, .dma G.sm) 0)

/-- The group's state when position `j` is the next it serves: a copy in flight if there is such a position. -/
def Next : sProp 𝕄 := if j < act m then G.Fly m j else G.Free

end Grp

variable {Q : α → sProp (MT nD τ sig Unit Val ℕ (Pipeline.UD sig nD τ) ℕ)}

theorem start {k : PUnit → Prog (TpuEff nD τ sig Val Λ c.2) α}
    {off : Fin 3 → ℕ} {h : ∀ a, off a + (![1, G.n, 2816] : Fin 3 → ℕ) a ≤ (![G.S, G.R, 2816] : Fin 3 → ℕ) a}
    {offH : Fin 3 → ℕ} {hH : ∀ a, offH a + (![1, G.n, 2816] : Fin 3 → ℕ) a ≤ (![8, G.R, 2816] : Fin 3 → ℕ) a}
    {hsq : (⟨3, ![1, G.n, 2816]⟩ : Shape).Squeezes ⟨2, ![G.n, 2816]⟩} {sm : DmaSem sig} {h1 h2 h3}
    (hoff : off = ![G.x, G.r, 0]) (hoffH : offH = ![ord m j, G.r, 0]) (hsm : sm = G.sm) :
    G.Free ⊢ iprop((G.Fly m j -∗ wp frame (wpE defs 𝒱 c bd) Set.univ (k ⟨⟩) Q)
        -∗ wp frame (wpE defs 𝒱 c bd) Set.univ (.op (.enqueueDma ((G.H.slice (blk offH hH) (fun _ => rfl)).squeeze ⟨2, ![G.n, 2816]⟩ hsq)
            (.here ((G.A.slice (blk off h) (fun _ => rfl)).squeeze ⟨2, ![G.n, 2816]⟩ hsq)) (.dma sm) h1 h2 h3) k) Q) :=
  wp_start 𝒱 c bd (hH0 := inb3 (ord_lt m j) G.hr) (h0 := inb3 G.hx G.hr) hoff hoffH hsm rfl (View.dmaCredit_pos _ G.hn)

theorem wait {k : PUnit → Prog (TpuEff nD τ sig Val Λ c.2) α}
    {off : Fin 3 → ℕ} {h : ∀ a, off a + (![1, G.n, 2816] : Fin 3 → ℕ) a ≤ (![G.S, G.R, 2816] : Fin 3 → ℕ) a}
    {hsq : (⟨3, ![1, G.n, 2816]⟩ : Shape).Squeezes ⟨2, ![G.n, 2816]⟩} {sm : DmaSem sig} {sp'' : Space} {s' : Shape} {e' : EltTy}
    {srcw : Memref sig c.2.kind sp'' s' e'} {h1 h2}
    (hoff : off = ![G.x, G.r, 0]) (hsm : sm = G.sm) :
    iprop(G.Fly m j ∗ (∃ W, owes c 0 W)) ⊢ iprop((iprop(G.Ready m j ∗ (∃ W, owes c 0 W)) -∗ wp frame (wpE defs 𝒱 c bd) Set.univ (k ⟨⟩) Q)
        -∗ wp frame (wpE defs 𝒱 c bd) Set.univ (.op (.waitDma2 sm srcw
            ((G.A.slice (blk off h) (fun _ => rfl)).squeeze ⟨2, ![G.n, 2816]⟩ hsq) h1 h2) k) Q) := by
  unfold Grp.Ready Grp.Fly
  iintro H Hk
  iapply (wp_wait 𝒱 c bd (A := G.A) (H := G.H) (q := G.q) (fh := G.fh) (X := G.rows m j) (h0 := inb3 G.hx G.hr) (hsq := hsq) (N := G.cred) hoff hsm rfl) $$ H
  iintro ⟨HL, HH, Hs, HW⟩
  iapply Hk
  isplitl [HL HH Hs]
  · isplitl [HL]; · iexact HL
    isplitl [HH]; · iexact HH
    iexact Hs
  iexact HW

theorem read {off : Fin 3 → ℕ} {h : ∀ a, off a + (![1, G.n, 2816] : Fin 3 → ℕ) a ≤ (![G.S, G.R, 2816] : Fin 3 → ℕ) a}
    {hl : G.A.view.LoadsAt (blk off h).toLoadRect}
    {k : ((⟨3, ![1, G.n, 2816]⟩ : Shape).Idx → Val .i8) → Prog (TpuEff nD τ sig Val Λ c.2) α}
    (hoff : off = ![G.x, G.r, 0]) :
    G.Ready m j ⊢ iprop((G.Ready m j -∗ wp frame (wpE defs 𝒱 c bd) Set.univ (k (G.rows m j)) Q)
        -∗ wp frame (wpE defs 𝒱 c bd) Set.univ (.op (.load G.A (blk off h).toLoadRect hl) k) Q) := by
  unfold Grp.Ready
  iintro ⟨HL, HH⟩ Hk
  iapply (wp_read 𝒱 c bd (A := G.A) (h0 := inb3 G.hx G.hr) hoff) $$ HL
  iintro HL
  iapply Hk
  isplitl [HL]; · iexact HL
  iexact HH

theorem free_of_ready : G.Ready m j ⊢ G.Free := by
  unfold Grp.Ready Grp.Free
  iintro ⟨HL, HH, Hs⟩
  isplitl [HH]; · iexact HH
  iapply (idle_of_landed c) $$ [HL Hs]
  isplitl [HL]; · iexact HL
  iexact Hs

end Cert.MoeRing

end
-- ==== Proof.Cells.lean ====
/-
  Loads and stores of a buffer whose contents are known: what a load through a rectangle gives, what a
  store through a rectangle leaves, and the same for one word of a buffer of words.
-/
module

public import Idealize.ShloMosaic.Lib.Pipeline
public import Idealize.ShloMosaic.Lib.Pipeline.FrameBody
public import Idealize.ShloMosaic.Lib.Tactic

@[expose] public section

noncomputable section

namespace Cert.MoeRing

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}

local notation "𝕄" => MT nD τ sig Unit Val ℕ (Pipeline.UD sig nD τ) ℕ

variable {Λ : Labels} {defs : Defs nD τ sig Val Λ} (𝒱 : Variants) (c : Thread nD τ) (bd : Option 𝒱.V)
variable {α : Type} {e : EltTy} {s : Shape}

/-- The buffer of `m` holds `X`. -/
def Holds {sp : Space} (m : Memref sig c.2.kind sp s e) (X : s.Idx → Val e) : sProp 𝕄 :=
  owns c m fullShare X

/-- A load through a rectangle. -/
theorem wp_loadH {Q : α → sProp 𝕄} {cs : CoreSpace} {m : Memref sig c.2.kind cs s e} {r : Rect s} {X : s.Idx → Val e}
    {hl : m.view.LoadsAt r} {k : (r.shape.Idx → Val e) → Prog (TpuEff nD τ sig Val Λ c.2) α} :
    Holds c m X ⊢ iprop((Holds c m X -∗ wp frame (wpE defs 𝒱 c bd) Set.univ (k (fun x => X (r.emb x))) Q)
      -∗ wp frame (wpE defs 𝒱 c bd) Set.univ (.op (.load m r hl) k) Q) := by
  unfold Holds owns
  iintro ⟨%f, %hf, Hm⟩ Hk
  iapply (wp_load_rect 𝒱 c bd Set.univ (m := m) (r := r) (S := m.view.set) (View.set_slice_subset _ _)) $$ Hm
  iintro Hm
  have : (m.access r).read Val f = fun x => X (r.emb x) := by subst hf; rfl
  rw [this]
  iapply Hk
  iexists f
  isplitr; · ipureintro; exact hf
  iexact Hm

/-- A store through a rectangle: the contents outside stay. -/
theorem wp_storeH {Q : α → sProp 𝕄} {cs : CoreSpace} {m : Memref sig c.2.kind cs s e} {r : Rect s} {X : s.Idx → Val e} (Y : s.Idx → Val e)
    {w : r.shape.Idx → Val e} {hx : (m.access r).Stores Finset.univ} {hm : (Finset.univ : Finset r.shape.Idx) = Finset.univ ∨ ∀ a, r.stride a = 1}
    {k : PUnit → Prog (TpuEff nD τ sig Val Λ c.2) α}
    (hin : ∀ x, Y (r.emb x) = w x) (hout : ∀ y, y ∉ r.set → Y y = X y) :
    Holds c m X ⊢ iprop((Holds c m Y -∗ wp frame (wpE defs 𝒱 c bd) Set.univ (k ⟨⟩) Q)
      -∗ wp frame (wpE defs 𝒱 c bd) Set.univ (.op (.store m r w Finset.univ hx hm) k) Q) := by
  unfold Holds owns
  iintro ⟨%f, %hf, Hm⟩ Hk
  iapply (wp_store 𝒱 c bd Set.univ (m := m) (r := r) (S := m.view.set) (by rw [View.setOn_univ]; exact View.set_slice_subset _ _)) $$ Hm
  iintro Hm
  iapply Hk
  iexists _
  isplitr
  swap; · iexact Hm
  ipureintro
  subst hf
  funext y
  by_cases hy : y ∈ r.set
  · obtain ⟨x, -, rfl⟩ := Finset.mem_map.mp (by rwa [← Rect.map_emb_univ] at hy)
    rw [hin]
    exact View.read_slice_write_emb (v := m.view) r f w (Finset.mem_univ _)
  · rw [hout y hy]
    exact View.read_slice_write_of_not_mem (v := m.view) r f w Finset.univ (by rwa [Rect.map_emb_univ])

/-- A load of one word. -/
theorem wp_wordH {Q : α → sProp 𝕄} {m : Memref sig c.2.kind .smem s e} {r : Rect s} {X : s.Idx → Val e}
    {h1 : r.shape.numel = 1} {hp : e.packing = 1} {k : Val e → Prog (TpuEff nD τ sig Val Λ c.2) α} :
    Holds c m X ⊢ iprop((Holds c m X -∗ wp frame (wpE defs 𝒱 c bd) Set.univ
          (k (X (r.emb (Shape.Idx.first (h1.symm ▸ Nat.one_pos))))) Q)
      -∗ wp frame (wpE defs 𝒱 c bd) Set.univ (smemLoad m r h1 hp >>= k) Q) :=
  wp_loadH 𝒱 c bd (r := r) (k := fun f => k (f (Shape.Idx.first (h1.symm ▸ Nat.one_pos))))

end Cert.MoeRing

end
-- ==== Proof.FloatState.lean ====
/-
  What is held between two trips of the loop over the active experts, and what a trip computes.
-/
module

public import proofs.«01_k».proof.Proof.Gen.Kernel.Skeleton
public import proofs.«01_k».proof.Proof.FloatOffs
public import proofs.«01_k».proof.Proof.Slots
public import proofs.«01_k».proof.Proof.Cells

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MoeWords Cert.MoeRing

variable {F : FTy → Type} [FloatOps F]

local notation "𝕄" => MT nD τ sig Unit (Elt F) ℕ (Pipeline.UD sig nD τ) ℕ

variable (c : Dev nD)

/-- The word at position `k` of the table of active experts. -/
abbrev ew (m : BitVec 32) (k : ℕ) : BitVec 32 := BitVec.ofNat 32 (ord m k)

theorem ew_toNat (m : BitVec 32) (k : ℕ) : (ew m k).toNat = ord m k := by
  have := ord_lt m k
  rw [BitVec.toNat_ofNat, Nat.mod_eq_of_lt (by omega)]

/-- The table holds the active experts below `e`, each at its position. -/
def Tab (m : BitVec 32) (e : ℕ) (T : S8.Idx → BitVec 32) : Prop :=
  ∀ e', e' < e → bit m e' = 1#32 → ∀ i : S8.Idx, (i 0).val = num m e' → T i = BitVec.ofNat 32 e'

theorem Tab.at_ {m : BitVec 32} {T : S8.Idx → BitVec 32} (h : Tab m 8 T) {k : ℕ} (hk : k < act m) (i : S8.Idx) (hi : (i 0).val = k) :
    T i = ew m k := by
  obtain ⟨e, he, hb, hn⟩ := exists_expert m k hk
  rw [h e he hb i (by rw [hi, hn]), ew, ← hn, ord_num m e he hb]

/-- The table in its buffer. -/
def Table (arg12 : Memref sig .tc .smem S8 .i32) (m : BitVec 32) (e : ℕ) : sProp 𝕄 :=
  iprop(∃ T : S8.Idx → BitVec 32, ⌜Tab m e T⌝ ∗ Holds (Val := Elt F) (c : Thread nD τ) arg12 T)

section Groups

variable (arg5 : Memref sig .tc .hbm S8x2816x2816 .i8) (arg6 : Memref sig .tc .hbm S8x1408x2816 .i8)
  (arg8 : Memref sig .tc .vmem S4x2816x2816 .i8) (arg9 : Memref sig .tc .vmem S4x1408x2816 .i8)
  (arg13 : DmaSems sig S4x3) (arg14 : DmaSems sig S4x2)
  (q5 : Fin 12 → PosShare TreeShare) (q6 : Fin 8 → PosShare TreeShare)
  (f5 : Buf (Elt F) (arg5.view.loc (c : Thread nD τ))) (f6 : Buf (Elt F) (arg6.view.loc (c : Thread nD τ)))

/-- The cell of slot `x` and group `g` of the first ring. -/
abbrev cell13 (x g : ℕ) (hx : x < 4) (hg : g < 3) : DmaSem sig :=
  ((arg13.slice (Rect.unit (s := S4x3) ![x, g] S1x1.size (inb2 hx hg))).squeeze S_ squeezes_S1x1_S_).sem

/-- The cell of slot `x` and group `g` of the second ring. -/
abbrev cell14 (x g : ℕ) (hx : x < 4) (hg : g < 2) : DmaSem sig :=
  ((arg14.slice (Rect.unit (s := S4x2) ![x, g] S1x1.size (inb2 hx hg))).squeeze S_ squeezes_S1x1_S_).sem

theorem cell13_eq {off : Fin 2 → ℕ} {h : ∀ a, off a + S1x1.size a ≤ S4x3.size a} {x g : ℕ} (hx : x < 4) (hg : g < 3) (ho : off = ![x, g]) :
    ((arg13.slice (Rect.unit (s := S4x3) off S1x1.size h)).squeeze S_ squeezes_S1x1_S_).sem = cell13 arg13 x g hx hg := by
  subst ho; rfl

theorem cell14_eq {off : Fin 2 → ℕ} {h : ∀ a, off a + S1x1.size a ≤ S4x2.size a} {x g : ℕ} (hx : x < 4) (hg : g < 2) (ho : off = ![x, g]) :
    ((arg14.slice (Rect.unit (s := S4x2) off S1x1.size h)).squeeze S_ squeezes_S1x1_S_).sem = cell14 arg14 x g hx hg := by
  subst ho; rfl

/-- Rows 0 to 1024 of a slot of the first ring. -/
abbrev gA (x : ℕ) (hx : x < 4) : Grp nD τ sig (Elt F) (c : Thread nD τ) where
  S := 4
  R := 2816
  cs := .vmem
  sp := .hbm
  A := arg8
  H := arg5
  x := x
  hx := hx
  r := 0
  n := 1024
  hr := by decide
  hsq := squeezes_S1x1024x2816_S1024x2816
  hn := by decide
  sm := cell13 arg13 x 0 hx (by decide)
  q := q5 ⟨3 * x, by omega⟩
  fh := f5

/-- Rows 1024 to 2048 of a slot of the first ring. -/
abbrev gB (x : ℕ) (hx : x < 4) : Grp nD τ sig (Elt F) (c : Thread nD τ) where
  S := 4
  R := 2816
  cs := .vmem
  sp := .hbm
  A := arg8
  H := arg5
  x := x
  hx := hx
  r := 1024
  n := 1024
  hr := by decide
  hsq := squeezes_S1x1024x2816_S1024x2816
  hn := by decide
  sm := cell13 arg13 x 1 hx (by decide)
  q := q5 ⟨3 * x + 1, by omega⟩
  fh := f5

/-- Rows 2048 to 2816 of a slot of the first ring. -/
abbrev gC (x : ℕ) (hx : x < 4) : Grp nD τ sig (Elt F) (c : Thread nD τ) where
  S := 4
  R := 2816
  cs := .vmem
  sp := .hbm
  A := arg8
  H := arg5
  x := x
  hx := hx
  r := 2048
  n := 768
  hr := by decide
  hsq := squeezes_S1x768x2816_S768x2816
  hn := by decide
  sm := cell13 arg13 x 2 hx (by decide)
  q := q5 ⟨3 * x + 2, by omega⟩
  fh := f5

/-- Rows 0 to 1024 of a slot of the second ring. -/
abbrev gD (x : ℕ) (hx : x < 4) : Grp nD τ sig (Elt F) (c : Thread nD τ) where
  S := 4
  R := 1408
  cs := .vmem
  sp := .hbm
  A := arg9
  H := arg6
  x := x
  hx := hx
  r := 0
  n := 1024
  hr := by decide
  hsq := squeezes_S1x1024x2816_S1024x2816
  hn := by decide
  sm := cell14 arg14 x 0 hx (by decide)
  q := q6 ⟨2 * x, by omega⟩
  fh := f6

/-- Rows 1024 to 1408 of a slot of the second ring. -/
abbrev gE (x : ℕ) (hx : x < 4) : Grp nD τ sig (Elt F) (c : Thread nD τ) where
  S := 4
  R := 1408
  cs := .vmem
  sp := .hbm
  A := arg9
  H := arg6
  x := x
  hx := hx
  r := 1024
  n := 384
  hr := by decide
  hsq := squeezes_S1x384x2816_S384x2816
  hn := by decide
  sm := cell14 arg14 x 1 hx (by decide)
  q := q6 ⟨2 * x + 1, by omega⟩
  fh := f6

end Groups

theorem emb_word {j : ℕ} (h : ∀ a, (![j] : Fin 1 → ℕ) a + S1.size a ≤ S8.size a) (x : S1.Idx) :
    ((Rect.unit (s := S8) ![j] S1.size h).emb x 0).val = j := by
  have h0 : (x 0).val = 0 := by
    have : (x 0).val < 1 := (x 0).isLt
    omega
  rw [Rect.emb_apply, h0]
  rfl

/-- A load of the word at position `j` of the table. -/
theorem wp_tab {α : Type} {Q : α → sProp 𝕄} {arg12 : Memref sig .tc .smem S8 .i32} {m : BitVec 32} {j : ℕ} (hj : j < act m)
    {off : Fin 1 → ℕ} {h : ∀ a, off a + S1.size a ≤ S8.size a} {hl : arg12.view.LoadsAt (Rect.unit (s := S8) off S1.size h).toLoadRect}
    {k : (S1.Idx → Elt F .i32) → Prog (TpuEff nD τ sig (Elt F) Λ₀ .tc) α} (hoff : off = ![j]) :
    (Table (F := F) c arg12 m 8) ⊢ iprop((Table (F := F) c arg12 m 8 -∗ wp frame (wpE (defs₀ (F := F)) Variants.none (c : Thread nD τ) none) Set.univ (k (fun _ => ew m j)) Q)
      -∗ wp frame (wpE (defs₀ (F := F)) Variants.none (c : Thread nD τ) none) Set.univ (.op (.load arg12 (Rect.unit (s := S8) off S1.size h).toLoadRect hl) k) Q) := by
  subst hoff
  unfold Table
  iintro ⟨%T, %hT, HT⟩ Hk
  iapply (wp_loadH Variants.none (c : Thread nD τ) none (X := T)) $$ HT
  iintro HT
  rw [show (fun x : (Rect.unit (s := S8) ![j] S1.size h).shape.Idx => T ((Rect.unit (s := S8) ![j] S1.size h).emb x)) = fun _ => ew m j from funext fun x => hT.at_ hj _ (emb_word _ x)]
  iapply Hk
  iexists T
  isplitr
  · ipureintro; exact hT
  iexact HT

theorem inbRow {e : ℕ} (he : e < 8) : ∀ a : Fin 2, (![e, 0] : Fin 2 → ℕ) a + S1x2816.size a ≤ S8x2816.size a
  | ⟨0, _⟩ => by show e + 1 ≤ 8; omega
  | ⟨1, _⟩ => by show 0 + 2816 ≤ 2816; omega

/-- An expert's row of a scale array. -/
def expRow (X : S8x2816.Idx → Elt F .f32) (e : ℕ) (he : e < 8) : S1x2816.Idx → Elt F .f32 :=
  fun i => X ((Rect.unit (s := S8x2816) ![e, 0] S1x2816.size (inbRow he)).emb i)

theorem expRow_eq (X : S8x2816.Idx → Elt F .f32) {e : ℕ} (he : e < 8) {off : Fin 2 → ℕ} (h : ∀ a, off a + S1x2816.size a ≤ S8x2816.size a) (ho : off = ![e, 0]) :
    (fun i => X ((Rect.unit (s := S8x2816) off S1x2816.size h).emb i)) = expRow X e he := by
  subst ho; rfl

/-- A load of an expert's row. -/
theorem wp_rowH {α : Type} {Q : α → sProp 𝕄} {m : Memref sig .tc .vmem S8x2816 .f32} {X : S8x2816.Idx → Elt F .f32} {e : ℕ} (he : e < 8)
    {off : Fin 2 → ℕ} {h : ∀ a, off a + S1x2816.size a ≤ S8x2816.size a} {hl : m.view.LoadsAt (Rect.unit (s := S8x2816) off S1x2816.size h).toLoadRect}
    {k : (S1x2816.Idx → Elt F .f32) → Prog (TpuEff nD τ sig (Elt F) Λ₀ .tc) α} (hoff : off = ![e, 0]) :
    Holds (Val := Elt F) (c : Thread nD τ) m X ⊢ iprop((Holds (Val := Elt F) (c : Thread nD τ) m X -∗ wp frame (wpE (defs₀ (F := F)) Variants.none (c : Thread nD τ) none) Set.univ (k (expRow X e he)) Q)
      -∗ wp frame (wpE (defs₀ (F := F)) Variants.none (c : Thread nD τ) none) Set.univ (.op (.load m (Rect.unit (s := S8x2816) off S1x2816.size h).toLoadRect hl) k) Q) := by
  subst hoff
  iintro HX Hk
  iapply (wp_loadH Variants.none (c : Thread nD τ) none (X := X)) $$ HX
  iintro HX
  iapply Hk
  iexact HX

end Cert.Kernel.Hand

end
-- ==== Proof.FloatLoads.lean ====
/-
  The first half of a trip: the waits for the expert's rows and the loads of them.
-/
module

public import proofs.«01_k».proof.Proof.FloatState

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MoeWords Cert.MoeRing

variable {F : FTy → Type} [FloatOps F]

local notation "𝕄" => MT nD τ sig Unit (Elt F) ℕ (Pipeline.UD sig nD τ) ℕ

variable (arg0 : Memref sig .tc .smem S9x2 .i32) (harg0 : arg0.IsWhole) (arg1 : Memref sig .tc .smem S9x2 .f32) (harg1 : arg1.IsWhole) (arg2 : Memref sig .tc .vmem S9x2816 .bf16) (harg2 : arg2.IsWhole) (arg3 : Memref sig .tc .vmem S8x2816 .f32) (harg3 : arg3.IsWhole) (arg4 : Memref sig .tc .vmem S8x2816 .f32) (harg4 : arg4.IsWhole) (arg5 : Memref sig .tc .hbm S8x2816x2816 .i8) (harg5 : arg5.IsWhole) (arg6 : Memref sig .tc .hbm S8x1408x2816 .i8) (harg6 : arg6.IsWhole) (arg7 : Memref sig .tc .vmem S9x2816 .bf16) (harg7 : arg7.IsWhole) (arg8 : Memref sig .tc .vmem S4x2816x2816 .i8) (harg8 : arg8.IsWhole) (arg9 : Memref sig .tc .vmem S4x1408x2816 .i8) (harg9 : arg9.IsWhole) (arg10 : Memref sig .tc .vmem S16x2816 .bf16) (harg10 : arg10.IsWhole) (arg11 : Memref sig .tc .vmem S16x2816 .f32) (harg11 : arg11.IsWhole) (arg12 : Memref sig .tc .smem S8 .i32) (harg12 : arg12.IsWhole) (arg13 : DmaSems sig S4x3) (arg14 : DmaSems sig S4x2)
variable (v0 v3 v6 v9 v12 v15 v18 v21 v24 v27 v30 v33 v36 v39 v42 v45 v48 v51 : BitVec 32)
variable (c : Dev nD)
  (q5 : Fin 12 → PosShare TreeShare) (q6 : Fin 8 → PosShare TreeShare)
  (f5 : Buf (Elt F) (arg5.view.loc (c : Thread nD τ))) (f6 : Buf (Elt F) (arg6.view.loc (c : Thread nD τ)))

/-- The first two groups of rows. -/
theorem part6 {α : Type} {Q : α → sProp 𝕄} (hw1 : k0_chk1 v0 v3 v6 v9 v12 v15 v18 v21 v24 v27 v30 v33 v36 v39 v42 v45 v48 v51) (t : Fin (k0_t1_loop v0 v3 v6 v9 v12 v15 v18 v21 v24 v27 v30 v33 v36 v39 v42 v45 v48 v51).trips) (c0 c1 : BitVec 32)
    (XB : S16x2816.Idx → Elt F .bf16) (k : ℕ) (hk : k = t.val) (hka : k < act (mask v0 v3 v6 v9 v12 v15 v18 v21 v24 v27 v30 v33 v36 v39 v42 v45 v48 v51)) (hx : k % 4 < 4)
    {kk : (Σ' (arg15 : BitVec 32) (v321 : Elt F .i32) (k0_hw11 : k0_chk11 v321) (v322 : BitVec 32) (v324 : Elt F .i32) (k0_hw10 : k0_chk10 v324), FVec F S16x2816 .f32) → Prog (TpuEff nD τ sig (Elt F) Λ₀ .tc) α} :
    iprop(Table (F := F) c arg12 (mask v0 v3 v6 v9 v12 v15 v18 v21 v24 v27 v30 v33 v36 v39 v42 v45 v48 v51) 8 ∗ Holds (Val := Elt F) (c : Thread nD τ) arg10 XB
        ∗ (gA c arg5 arg8 arg13 q5 f5 (k % 4) hx).Fly (mask v0 v3 v6 v9 v12 v15 v18 v21 v24 v27 v30 v33 v36 v39 v42 v45 v48 v51) k ∗ (gB c arg5 arg8 arg13 q5 f5 (k % 4) hx).Fly (mask v0 v3 v6 v9 v12 v15 v18 v21 v24 v27 v30 v33 v36 v39 v42 v45 v48 v51) k
        ∗ (∃ W, owes (c : Thread nD τ) 0 W))
      ⊢ iprop((iprop(Table (F := F) c arg12 (mask v0 v3 v6 v9 v12 v15 v18 v21 v24 v27 v30 v33 v36 v39 v42 v45 v48 v51) 8 ∗ Holds (Val := Elt F) (c : Thread nD τ) arg10 XB
        ∗ (gA c arg5 arg8 arg13 q5 f5 (k % 4) hx).Ready (mask v0 v3 v6 v9 v12 v15 v18 v21 v24 v27 v30 v33 v36 v39 v42 v45 v48 v51) k ∗ (gB c arg5 arg8 arg13 q5 f5 (k % 4) hx).Ready (mask v0 v3 v6 v9 v12 v15 v18 v21 v24 v27 v30 v33 v36 v39 v42 v45 v48 v51) k
        ∗ (∃ W, owes (c : Thread nD τ) 0 W)) -∗
          wp frame (wpE (defs₀ (F := F)) Variants.none (c : Thread nD τ) none) Set.univ (kk ⟨Scf.iv c0 c1 t, ew (mask v0 v3 v6 v9 v12 v15 v18 v21 v24 v27 v30 v33 v36 v39 v42 v45 v48 v51) k, chk11 (lt_of_eq_of_lt (ew_toNat _ _) (ord_lt _ _)), Scalar.remsi (Scf.iv c0 c1 t) 4#32, ew (mask v0 v3 v6 v9 v12 v15 v18 v21 v24 v27 v30 v33 v36 v39 v42 v45 v48 v51) k, chk10 (lt_of_eq_of_lt (ew_toNat _ _) (ord_lt _ _)),
            k0_pay7 (fun i => XB ((Rect.unit (s := S16x2816) ![0, 0] S16x1024.size inb_S16x2816_S16x1024_0_0).emb i)) ((gA c arg5 arg8 arg13 q5 f5 (k % 4) hx).rows (mask v0 v3 v6 v9 v12 v15 v18 v21 v24 v27 v30 v33 v36 v39 v42 v45 v48 v51) k)
              (fun i => XB ((Rect.unit (s := S16x2816) ![0, 1024] S16x1024.size inb_S16x2816_S16x1024_0_1024).emb i)) ((gB c arg5 arg8 arg13 q5 f5 (k % 4) hx).rows (mask v0 v3 v6 v9 v12 v15 v18 v21 v24 v27 v30 v33 v36 v39 v42 v45 v48 v51) k)⟩) Q)
        -∗ wp frame (wpE (defs₀ (F := F)) Variants.none (c : Thread nD τ) none) Set.univ (k0_part6 arg0 harg0 arg1 harg1 arg2 harg2 arg3 harg3 arg4 harg4 arg5 harg5 arg6 harg6 arg7 harg7 arg8 harg8 arg9 harg9 arg10 harg10 arg11 harg11 arg12 harg12 arg13 arg14 v0 v3 v6 v9 v12 v15 v18 v21 v24 v27 v30 v33 v36 v39 v42 v45 v48 v51 hw1 c0 c1 t >>= kk) Q) := by
  rw [k0_part6_eq_skeleton]
  unfold k0_part6_skel
  subst hk
  iintro ⟨HT, HX, HA, HB, HW⟩ Hk
  iapply (wp_tab c hka (off68_eq t)) $$ HT
  iintro HT
  iapply (wp_assume Variants.none (c : Thread nD τ) none Set.univ (chk11 (lt_of_eq_of_lt (ew_toNat _ _) (ord_lt _ _))))
  iapply (wp_tab c hka (off68_eq t)) $$ HT
  iintro HT
  iapply (wp_assume Variants.none (c : Thread nD τ) none Set.univ (chk10 (lt_of_eq_of_lt (ew_toNat _ _) (ord_lt _ _))))
  iapply (wait Variants.none none (gA c arg5 arg8 arg13 q5 f5 (t.val % 4) hx) (mask v0 v3 v6 v9 v12 v15 v18 v21 v24 v27 v30 v33 v36 v39 v42 v45 v48 v51) t.val (off70_eq t) (cell13_eq arg13 hx (by decide) (off69_eq t))) $$ [HA HW]
  · isplitl [HA]; · iexact HA
    iexact HW
  iintro ⟨HA, HW⟩
  iapply (wp_loadH Variants.none (c : Thread nD τ) none) $$ HX
  iintro HX
  iapply (read Variants.none none (gA c arg5 arg8 arg13 q5 f5 (t.val % 4) hx) (mask v0 v3 v6 v9 v12 v15 v18 v21 v24 v27 v30 v33 v36 v39 v42 v45 v48 v51) t.val (off72_eq t)) $$ HA
  iintro HA
  iapply (wait Variants.none none (gB c arg5 arg8 arg13 q5 f5 (t.val % 4) hx) (mask v0 v3 v6 v9 v12 v15 v18 v21 v24 v27 v30 v33 v36 v39 v42 v45 v48 v51) t.val (off74_eq t) (cell13_eq arg13 hx (by decide) (off73_eq t))) $$ [HB HW]
  · isplitl [HB]; · iexact HB
    iexact HW
  iintro ⟨HB, HW⟩
  iapply (wp_loadH Variants.none (c : Thread nD τ) none) $$ HX
  iintro HX
  iapply (read Variants.none none (gB c arg5 arg8 arg13 q5 f5 (t.val % 4) hx) (mask v0 v3 v6 v9 v12 v15 v18 v21 v24 v27 v30 v33 v36 v39 v42 v45 v48 v51) t.val (off76_eq t)) $$ HB
  iintro HB
  iapply Hk
  isplitl [HT]; · iexact HT
  isplitl [HX]; · iexact HX
  isplitl [HA]; · iexact HA
  isplitl [HB]; · iexact HB
  iexact HW

/-- The third group, the scales, and the first group of the second array. -/
theorem part7 {α : Type} {Q : α → sProp 𝕄} (hw1 : k0_chk1 v0 v3 v6 v9 v12 v15 v18 v21 v24 v27 v30 v33 v36 v39 v42 v45 v48 v51) (t : Fin (k0_t1_loop v0 v3 v6 v9 v12 v15 v18 v21 v24 v27 v30 v33 v36 v39 v42 v45 v48 v51).trips) (k : ℕ) (arg15 : BitVec 32) (h11 : k0_chk11 (ew (mask v0 v3 v6 v9 v12 v15 v18 v21 v24 v27 v30 v33 v36 v39 v42 v45 v48 v51) k)) (v322 : BitVec 32) (h10 : k0_chk10 (ew (mask v0 v3 v6 v9 v12 v15 v18 v21 v24 v27 v30 v33 v36 v39 v42 v45 v48 v51) k)) (v350 : FVec F S16x2816 .f32)
    (XB : S16x2816.Idx → Elt F .bf16) (S13 : S8x2816.Idx → Elt F .f32) (hk : k = t.val) (hka : k < act (mask v0 v3 v6 v9 v12 v15 v18 v21 v24 v27 v30 v33 v36 v39 v42 v45 v48 v51)) (hx : k % 4 < 4)
    {kk : (Σ' (v373 : FVec F S16x1408 .bf16) (v375 : Elt F .i32) (k0_hw12 : k0_chk12 v375), FVec F S16x2816 .f32) → Prog (TpuEff nD τ sig (Elt F) Λ₀ .tc) α} :
    iprop(Table (F := F) c arg12 (mask v0 v3 v6 v9 v12 v15 v18 v21 v24 v27 v30 v33 v36 v39 v42 v45 v48 v51) 8
        ∗ Holds (Val := Elt F) (c : Thread nD τ) arg10 XB
        ∗ Holds (Val := Elt F) (c : Thread nD τ) arg3 S13
        ∗ (gC c arg5 arg8 arg13 q5 f5 (k % 4) hx).Fly (mask v0 v3 v6 v9 v12 v15 v18 v21 v24 v27 v30 v33 v36 v39 v42 v45 v48 v51) k
        ∗ (gD c arg6 arg9 arg14 q6 f6 (k % 4) hx).Fly (mask v0 v3 v6 v9 v12 v15 v18 v21 v24 v27 v30 v33 v36 v39 v42 v45 v48 v51) k
        ∗ (∃ W, owes (c : Thread nD τ) 0 W))
      ⊢ iprop((iprop(Table (F := F) c arg12 (mask v0 v3 v6 v9 v12 v15 v18 v21 v24 v27 v30 v33 v36 v39 v42 v45 v48 v51) 8
        ∗ Holds (Val := Elt F) (c : Thread nD τ) arg10 XB
        ∗ Holds (Val := Elt F) (c : Thread nD τ) arg3 S13
        ∗ (gC c arg5 arg8 arg13 q5 f5 (k % 4) hx).Ready (mask v0 v3 v6 v9 v12 v15 v18 v21 v24 v27 v30 v33 v36 v39 v42 v45 v48 v51) k
        ∗ (gD c arg6 arg9 arg14 q6 f6 (k % 4) hx).Ready (mask v0 v3 v6 v9 v12 v15 v18 v21 v24 v27 v30 v33 v36 v39 v42 v45 v48 v51) k
        ∗ (∃ W, owes (c : Thread nD τ) 0 W)) -∗
          wp frame (wpE (defs₀ (F := F)) Variants.none (c : Thread nD τ) none) Set.univ (kk ⟨k0_pay8 v350 (fun i => XB ((Rect.unit (s := S16x2816) ![0, 2048] S16x768.size inb_S16x2816_S16x768_0_2048).emb i)) ((gC c arg5 arg8 arg13 q5 f5 (k % 4) hx).rows (mask v0 v3 v6 v9 v12 v15 v18 v21 v24 v27 v30 v33 v36 v39 v42 v45 v48 v51) k) (expRow S13 (ord (mask v0 v3 v6 v9 v12 v15 v18 v21 v24 v27 v30 v33 v36 v39 v42 v45 v48 v51) k) (ord_lt (mask v0 v3 v6 v9 v12 v15 v18 v21 v24 v27 v30 v33 v36 v39 v42 v45 v48 v51) k)), ew (mask v0 v3 v6 v9 v12 v15 v18 v21 v24 v27 v30 v33 v36 v39 v42 v45 v48 v51) k, chk12 (lt_of_eq_of_lt (ew_toNat _ _) (ord_lt _ _)), k0_pay9 v350 (fun i => XB ((Rect.unit (s := S16x2816) ![0, 2048] S16x768.size inb_S16x2816_S16x768_0_2048).emb i)) ((gC c arg5 arg8 arg13 q5 f5 (k % 4) hx).rows (mask v0 v3 v6 v9 v12 v15 v18 v21 v24 v27 v30 v33 v36 v39 v42 v45 v48 v51) k) (expRow S13 (ord (mask v0 v3 v6 v9 v12 v15 v18 v21 v24 v27 v30 v33 v36 v39 v42 v45 v48 v51) k) (ord_lt (mask v0 v3 v6 v9 v12 v15 v18 v21 v24 v27 v30 v33 v36 v39 v42 v45 v48 v51) k)) ((gD c arg6 arg9 arg14 q6 f6 (k % 4) hx).rows (mask v0 v3 v6 v9 v12 v15 v18 v21 v24 v27 v30 v33 v36 v39 v42 v45 v48 v51) k)⟩) Q)
        -∗ wp frame (wpE (defs₀ (F := F)) Variants.none (c : Thread nD τ) none) Set.univ (k0_part7 arg0 harg0 arg1 harg1 arg2 harg2 arg3 harg3 arg4 harg4 arg5 harg5 arg6 harg6 arg7 harg7 arg8 harg8 arg9 harg9 arg10 harg10 arg11 harg11 arg12 harg12 arg13 arg14 v0 v3 v6 v9 v12 v15 v18 v21 v24 v27 v30 v33 v36 v39 v42 v45 v48 v51 hw1 t arg15 (ew (mask v0 v3 v6 v9 v12 v15 v18 v21 v24 v27 v30 v33 v36 v39 v42 v45 v48 v51) k) h11 v322 (ew (mask v0 v3 v6 v9 v12 v15 v18 v21 v24 v27 v30 v33 v36 v39 v42 v45 v48 v51) k) h10 v350 >>= kk) Q) := by
  rw [k0_part7_eq_skeleton]
  unfold k0_part7_skel
  subst hk
  iintro ⟨HT, HX, H3, HC, HD, HW⟩ Hk
  iapply (wait Variants.none none (gC c arg5 arg8 arg13 q5 f5 (t.val % 4) hx) (mask v0 v3 v6 v9 v12 v15 v18 v21 v24 v27 v30 v33 v36 v39 v42 v45 v48 v51) t.val (off78_eq t) (cell13_eq arg13 hx (by decide) (off77_eq t))) $$ [HC HW]
  · isplitl [HC]; · iexact HC
    iexact HW
  iintro ⟨HC, HW⟩
  iapply (wp_loadH Variants.none (c : Thread nD τ) none) $$ HX
  iintro HX
  iapply (read Variants.none none (gC c arg5 arg8 arg13 q5 f5 (t.val % 4) hx) (mask v0 v3 v6 v9 v12 v15 v18 v21 v24 v27 v30 v33 v36 v39 v42 v45 v48 v51) t.val (off80_eq t)) $$ HC
  iintro HC
  iapply (wp_rowH c (ord_lt (mask v0 v3 v6 v9 v12 v15 v18 v21 v24 v27 v30 v33 v36 v39 v42 v45 v48 v51) t.val) (congrArg (fun x => ![x, 0]) (ew_toNat _ _))) $$ H3
  iintro H3
  iapply (wp_tab c hka (off82_eq t)) $$ HT
  iintro HT
  iapply (wp_assume Variants.none (c : Thread nD τ) none Set.univ (chk12 (lt_of_eq_of_lt (ew_toNat _ _) (ord_lt _ _))))
  iapply (wait Variants.none none (gD c arg6 arg9 arg14 q6 f6 (t.val % 4) hx) (mask v0 v3 v6 v9 v12 v15 v18 v21 v24 v27 v30 v33 v36 v39 v42 v45 v48 v51) t.val (off84_eq t) (cell14_eq arg14 hx (by decide) (off83_eq t))) $$ [HD HW]
  · isplitl [HD]; · iexact HD
    iexact HW
  iintro ⟨HD, HW⟩
  iapply (read Variants.none none (gD c arg6 arg9 arg14 q6 f6 (t.val % 4) hx) (mask v0 v3 v6 v9 v12 v15 v18 v21 v24 v27 v30 v33 v36 v39 v42 v45 v48 v51) t.val (off86_eq t)) $$ HD
  iintro HD
  iapply Hk
  isplitl [HT]; · iexact HT
  isplitl [HX]; · iexact HX
  isplitl [H3]; · iexact H3
  isplitl [HC]; · iexact HC
  isplitl [HD]; · iexact HD
  iexact HW

end Cert.Kernel.Hand

end
-- ==== Proof.FloatStarts.lean ====
/-
  Starting the copies of an expert's rows, before the loop and within a trip.
-/
module

public import proofs.«01_k».proof.Proof.FloatState

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MoeWords Cert.MoeRing

variable {F : FTy → Type} [FloatOps F]

local notation "𝕄" => MT nD τ sig Unit (Elt F) ℕ (Pipeline.UD sig nD τ) ℕ

variable (arg0 : Memref sig .tc .smem S9x2 .i32) (harg0 : arg0.IsWhole) (arg1 : Memref sig .tc .smem S9x2 .f32) (harg1 : arg1.IsWhole) (arg2 : Memref sig .tc .vmem S9x2816 .bf16) (harg2 : arg2.IsWhole) (arg3 : Memref sig .tc .vmem S8x2816 .f32) (harg3 : arg3.IsWhole) (arg4 : Memref sig .tc .vmem S8x2816 .f32) (harg4 : arg4.IsWhole) (arg5 : Memref sig .tc .hbm S8x2816x2816 .i8) (harg5 : arg5.IsWhole) (arg6 : Memref sig .tc .hbm S8x1408x2816 .i8) (harg6 : arg6.IsWhole) (arg7 : Memref sig .tc .vmem S9x2816 .bf16) (harg7 : arg7.IsWhole) (arg8 : Memref sig .tc .vmem S4x2816x2816 .i8) (harg8 : arg8.IsWhole) (arg9 : Memref sig .tc .vmem S4x1408x2816 .i8) (harg9 : arg9.IsWhole) (arg10 : Memref sig .tc .vmem S16x2816 .bf16) (harg10 : arg10.IsWhole) (arg11 : Memref sig .tc .vmem S16x2816 .f32) (harg11 : arg11.IsWhole) (arg12 : Memref sig .tc .smem S8 .i32) (harg12 : arg12.IsWhole) (arg13 : DmaSems sig S4x3) (arg14 : DmaSems sig S4x2)
variable (v0 v3 v6 v9 v12 v15 v18 v21 v24 v27 v30 v33 v36 v39 v42 v45 v48 v51 : BitVec 32)
variable (c : Dev nD)
  (q5 : Fin 12 → PosShare TreeShare) (q6 : Fin 8 → PosShare TreeShare)
  (f5 : Buf (Elt F) (arg5.view.loc (c : Thread nD τ))) (f6 : Buf (Elt F) (arg6.view.loc (c : Thread nD τ)))

/-- A program that takes one branch. -/
theorem wp_dif_pos {α β : Type} {Q : α → sProp 𝕄} {C : Prop} {dec : Decidable C} {p : C → Prog (TpuEff nD τ sig (Elt F) Λ₀ .tc) β}
    {q : ¬C → Prog (TpuEff nD τ sig (Elt F) Λ₀ .tc) β} {k : β → Prog (TpuEff nD τ sig (Elt F) Λ₀ .tc) α} (h : C) :
    wp frame (wpE (defs₀ (F := F)) Variants.none (c : Thread nD τ) none) Set.univ (Prog.bind (p h) k) Q ⊢ wp frame (wpE (defs₀ (F := F)) Variants.none (c : Thread nD τ) none) Set.univ (Prog.bind (dite C p q) k) Q := by
  rw [dif_pos h]

theorem wp_dif_neg {α β : Type} {Q : α → sProp 𝕄} {C : Prop} {dec : Decidable C} {p : C → Prog (TpuEff nD τ sig (Elt F) Λ₀ .tc) β}
    {q : ¬C → Prog (TpuEff nD τ sig (Elt F) Λ₀ .tc) β} {k : β → Prog (TpuEff nD τ sig (Elt F) Λ₀ .tc) α} (h : ¬C) :
    wp frame (wpE (defs₀ (F := F)) Variants.none (c : Thread nD τ) none) Set.univ (Prog.bind (q h) k) Q ⊢ wp frame (wpE (defs₀ (F := F)) Variants.none (c : Thread nD τ) none) Set.univ (Prog.bind (dite C p q) k) Q := by
  rw [dif_neg h]

/-- A program's part at its head. -/
theorem wp_assoc {α β γ : Type} {Q : α → sProp 𝕄} {p : Prog (TpuEff nD τ sig (Elt F) Λ₀ .tc) β}
    {f : β → Prog (TpuEff nD τ sig (Elt F) Λ₀ .tc) γ} {k : γ → Prog (TpuEff nD τ sig (Elt F) Λ₀ .tc) α} :
    wp frame (wpE (defs₀ (F := F)) Variants.none (c : Thread nD τ) none) Set.univ (p >>= fun a => Prog.bind (f a) k) Q ⊢ wp frame (wpE (defs₀ (F := F)) Variants.none (c : Thread nD τ) none) Set.univ (Prog.bind (Prog.bind p f) k) Q := by
  rw [show Prog.bind (Prog.bind p f) k = (p >>= f) >>= k from rfl, bind_assoc]
  exact .rfl

theorem offH94 (m : BitVec 32) (j : ℕ) : k0_off94 (ew m j) = ![ord m j, 0, 0] := congrArg (fun x => ![x, 0, 0]) (ew_toNat m j)
theorem offH97 (m : BitVec 32) (j : ℕ) : k0_off97 (ew m j) = ![ord m j, 1024, 0] := congrArg (fun x => ![x, 1024, 0]) (ew_toNat m j)
theorem offH100 (m : BitVec 32) (j : ℕ) : k0_off100 (ew m j) = ![ord m j, 2048, 0] := congrArg (fun x => ![x, 2048, 0]) (ew_toNat m j)
theorem offH104 (m : BitVec 32) (j : ℕ) : k0_off104 (ew m j) = ![ord m j, 0, 0] := congrArg (fun x => ![x, 0, 0]) (ew_toNat m j)
theorem offH107 (m : BitVec 32) (j : ℕ) : k0_off107 (ew m j) = ![ord m j, 1024, 0] := congrArg (fun x => ![x, 1024, 0]) (ew_toNat m j)

/-- The next expert of the slot: its first three groups started. -/
theorem part5 {α : Type} {Q : α → sProp 𝕄} (hw1 : k0_chk1 v0 v3 v6 v9 v12 v15 v18 v21 v24 v27 v30 v33 v36 v39 v42 v45 v48 v51) (t : Fin (k0_t1_loop v0 v3 v6 v9 v12 v15 v18 v21 v24 v27 v30 v33 v36 v39 v42 v45 v48 v51).trips) (arg15 : BitVec 32) (h13 : k0_cond13 v0 v3 v6 v9 v12 v15 v18 v21 v24 v27 v30 v33 v36 v39 v42 v45 v48 v51 t = 1#1) (k : ℕ) (hk : k = t.val) (hka : k + 4 < act (mask v0 v3 v6 v9 v12 v15 v18 v21 v24 v27 v30 v33 v36 v39 v42 v45 v48 v51)) (hx : k % 4 < 4)
    {kk : (Σ' (v648 : Elt F .i32), k0_chk14 v0 v3 v6 v9 v12 v15 v18 v21 v24 v27 v30 v33 v36 v39 v42 v45 v48 v51 t v648) → Prog (TpuEff nD τ sig (Elt F) Λ₀ .tc) α} :
    iprop(Table (F := F) c arg12 (mask v0 v3 v6 v9 v12 v15 v18 v21 v24 v27 v30 v33 v36 v39 v42 v45 v48 v51) 8
        ∗ (gA c arg5 arg8 arg13 q5 f5 (k % 4) hx).Free
        ∗ (gB c arg5 arg8 arg13 q5 f5 (k % 4) hx).Free
        ∗ (gC c arg5 arg8 arg13 q5 f5 (k % 4) hx).Free)
      ⊢ iprop((iprop(Table (F := F) c arg12 (mask v0 v3 v6 v9 v12 v15 v18 v21 v24 v27 v30 v33 v36 v39 v42 v45 v48 v51) 8
        ∗ (gA c arg5 arg8 arg13 q5 f5 (k % 4) hx).Fly (mask v0 v3 v6 v9 v12 v15 v18 v21 v24 v27 v30 v33 v36 v39 v42 v45 v48 v51) (k + 4)
        ∗ (gB c arg5 arg8 arg13 q5 f5 (k % 4) hx).Fly (mask v0 v3 v6 v9 v12 v15 v18 v21 v24 v27 v30 v33 v36 v39 v42 v45 v48 v51) (k + 4)
        ∗ (gC c arg5 arg8 arg13 q5 f5 (k % 4) hx).Fly (mask v0 v3 v6 v9 v12 v15 v18 v21 v24 v27 v30 v33 v36 v39 v42 v45 v48 v51) (k + 4)) -∗
          wp frame (wpE (defs₀ (F := F)) Variants.none (c : Thread nD τ) none) Set.univ (kk ⟨ew (mask v0 v3 v6 v9 v12 v15 v18 v21 v24 v27 v30 v33 v36 v39 v42 v45 v48 v51) (k + 4), chk14 (lt_of_eq_of_lt (ew_toNat _ _) (ord_lt _ _))⟩) Q)
        -∗ wp frame (wpE (defs₀ (F := F)) Variants.none (c : Thread nD τ) none) Set.univ (k0_part5 arg0 harg0 arg1 harg1 arg2 harg2 arg3 harg3 arg4 harg4 arg5 harg5 arg6 harg6 arg7 harg7 arg8 harg8 arg9 harg9 arg10 harg10 arg11 harg11 arg12 harg12 arg13 arg14 v0 v3 v6 v9 v12 v15 v18 v21 v24 v27 v30 v33 v36 v39 v42 v45 v48 v51 hw1 t arg15 h13 >>= kk) Q) := by
  rw [k0_part5_eq_skeleton]
  unfold k0_part5_skel
  subst hk
  iintro ⟨HT, HA, HB, HC⟩ Hk
  iapply (wp_tab c hka (off91_eq t)) $$ HT
  iintro HT
  iapply (wp_assume Variants.none (c : Thread nD τ) none Set.univ (chk13 (lt_of_eq_of_lt (ew_toNat _ _) (ord_lt _ _))))
  iapply (start Variants.none none (gA c arg5 arg8 arg13 q5 f5 (t.val % 4) hx) (mask v0 v3 v6 v9 v12 v15 v18 v21 v24 v27 v30 v33 v36 v39 v42 v45 v48 v51) (t.val + 4) (off93_eq t) (offH94 _ _) (cell13_eq arg13 hx (by decide) (off92_eq t))) $$ HA
  iintro HA
  iapply (start Variants.none none (gB c arg5 arg8 arg13 q5 f5 (t.val % 4) hx) (mask v0 v3 v6 v9 v12 v15 v18 v21 v24 v27 v30 v33 v36 v39 v42 v45 v48 v51) (t.val + 4) (off96_eq t) (offH97 _ _) (cell13_eq arg13 hx (by decide) (off95_eq t))) $$ HB
  iintro HB
  iapply (start Variants.none none (gC c arg5 arg8 arg13 q5 f5 (t.val % 4) hx) (mask v0 v3 v6 v9 v12 v15 v18 v21 v24 v27 v30 v33 v36 v39 v42 v45 v48 v51) (t.val + 4) (off99_eq t) (offH100 _ _) (cell13_eq arg13 hx (by decide) (off98_eq t))) $$ HC
  iintro HC
  iapply (wp_tab c hka (off101_eq t)) $$ HT
  iintro HT
  iapply (wp_assume Variants.none (c : Thread nD τ) none Set.univ (chk14 (lt_of_eq_of_lt (ew_toNat _ _) (ord_lt _ _))))
  iapply Hk
  isplitl [HT]; · iexact HT
  isplitl [HA]; · iexact HA
  isplitl [HB]; · iexact HB
  iexact HC

/-- The last group waited for, the slot served again, and the first tile loaded. -/
theorem part8 {α : Type} {Q : α → sProp 𝕄} (hw1 : k0_chk1 v0 v3 v6 v9 v12 v15 v18 v21 v24 v27 v30 v33 v36 v39 v42 v45 v48 v51) (t : Fin (k0_t1_loop v0 v3 v6 v9 v12 v15 v18 v21 v24 v27 v30 v33 v36 v39 v42 v45 v48 v51).trips) (v101 : BitVec 32) (v296 : IVec S16x128 32) (v301 : FVec F S16x128 .f32) (v306 : IVec S16x128 32) (v311 : FVec F S16x128 .f32) (arg15 : BitVec 32) (k : ℕ) (h11 : k0_chk11 (ew (mask v0 v3 v6 v9 v12 v15 v18 v21 v24 v27 v30 v33 v36 v39 v42 v45 v48 v51) k)) (v322 : BitVec 32) (v373 : FVec F S16x1408 .bf16) (h12 : k0_chk12 (ew (mask v0 v3 v6 v9 v12 v15 v18 v21 v24 v27 v30 v33 v36 v39 v42 v45 v48 v51) k)) (v388 : FVec F S16x2816 .f32)
    (S2 : S8x2816.Idx → Elt F .f32) (AC : S16x2816.Idx → Elt F .f32) (hk : k = t.val) (hka : k < act (mask v0 v3 v6 v9 v12 v15 v18 v21 v24 v27 v30 v33 v36 v39 v42 v45 v48 v51)) (hx : k % 4 < 4)
    {kk : (Σ' (v416 : FVec F S16x128 .f32) (v421 : IVec S16x128 1) (v425 : FVec F S16x2816 .f32) (v426 : Vec F S16x128 .f32), FVec F S16x128 .f32) → Prog (TpuEff nD τ sig (Elt F) Λ₀ .tc) α} :
    iprop(Table (F := F) c arg12 (mask v0 v3 v6 v9 v12 v15 v18 v21 v24 v27 v30 v33 v36 v39 v42 v45 v48 v51) 8
        ∗ Holds (Val := Elt F) (c : Thread nD τ) arg4 S2
        ∗ Holds (Val := Elt F) (c : Thread nD τ) arg11 AC
        ∗ (gA c arg5 arg8 arg13 q5 f5 (k % 4) hx).Ready (mask v0 v3 v6 v9 v12 v15 v18 v21 v24 v27 v30 v33 v36 v39 v42 v45 v48 v51) k
        ∗ (gB c arg5 arg8 arg13 q5 f5 (k % 4) hx).Ready (mask v0 v3 v6 v9 v12 v15 v18 v21 v24 v27 v30 v33 v36 v39 v42 v45 v48 v51) k
        ∗ (gC c arg5 arg8 arg13 q5 f5 (k % 4) hx).Ready (mask v0 v3 v6 v9 v12 v15 v18 v21 v24 v27 v30 v33 v36 v39 v42 v45 v48 v51) k
        ∗ (gD c arg6 arg9 arg14 q6 f6 (k % 4) hx).Ready (mask v0 v3 v6 v9 v12 v15 v18 v21 v24 v27 v30 v33 v36 v39 v42 v45 v48 v51) k
        ∗ (gE c arg6 arg9 arg14 q6 f6 (k % 4) hx).Fly (mask v0 v3 v6 v9 v12 v15 v18 v21 v24 v27 v30 v33 v36 v39 v42 v45 v48 v51) k
        ∗ (∃ W, owes (c : Thread nD τ) 0 W))
      ⊢ iprop((iprop(Table (F := F) c arg12 (mask v0 v3 v6 v9 v12 v15 v18 v21 v24 v27 v30 v33 v36 v39 v42 v45 v48 v51) 8
        ∗ Holds (Val := Elt F) (c : Thread nD τ) arg4 S2
        ∗ Holds (Val := Elt F) (c : Thread nD τ) arg11 AC
        ∗ (gA c arg5 arg8 arg13 q5 f5 (k % 4) hx).Next (mask v0 v3 v6 v9 v12 v15 v18 v21 v24 v27 v30 v33 v36 v39 v42 v45 v48 v51) (k + 4)
        ∗ (gB c arg5 arg8 arg13 q5 f5 (k % 4) hx).Next (mask v0 v3 v6 v9 v12 v15 v18 v21 v24 v27 v30 v33 v36 v39 v42 v45 v48 v51) (k + 4)
        ∗ (gC c arg5 arg8 arg13 q5 f5 (k % 4) hx).Next (mask v0 v3 v6 v9 v12 v15 v18 v21 v24 v27 v30 v33 v36 v39 v42 v45 v48 v51) (k + 4)
        ∗ (gD c arg6 arg9 arg14 q6 f6 (k % 4) hx).Next (mask v0 v3 v6 v9 v12 v15 v18 v21 v24 v27 v30 v33 v36 v39 v42 v45 v48 v51) (k + 4)
        ∗ (gE c arg6 arg9 arg14 q6 f6 (k % 4) hx).Next (mask v0 v3 v6 v9 v12 v15 v18 v21 v24 v27 v30 v33 v36 v39 v42 v45 v48 v51) (k + 4)
        ∗ (∃ W, owes (c : Thread nD τ) 0 W)) -∗
          wp frame (wpE (defs₀ (F := F)) Variants.none (c : Thread nD τ) none) Set.univ (kk ⟨k0_pay10 v296 v301 v306 v311 (ew (mask v0 v3 v6 v9 v12 v15 v18 v21 v24 v27 v30 v33 v36 v39 v42 v45 v48 v51) k), k0_pay11 (F := F) v296 v306 (ew (mask v0 v3 v6 v9 v12 v15 v18 v21 v24 v27 v30 v33 v36 v39 v42 v45 v48 v51) k), k0_pay12 v373 v388 ((gE c arg6 arg9 arg14 q6 f6 (k % 4) hx).rows (mask v0 v3 v6 v9 v12 v15 v18 v21 v24 v27 v30 v33 v36 v39 v42 v45 v48 v51) k) (expRow S2 (ord (mask v0 v3 v6 v9 v12 v15 v18 v21 v24 v27 v30 v33 v36 v39 v42 v45 v48 v51) k) (ord_lt (mask v0 v3 v6 v9 v12 v15 v18 v21 v24 v27 v30 v33 v36 v39 v42 v45 v48 v51) k)), (fun i => AC ((Rect.unit (s := S16x2816) ![0, 0] S16x128.size inb_S16x2816_S16x128_0_0).emb i)), k0_pay13 v296 v301 v306 v311 (ew (mask v0 v3 v6 v9 v12 v15 v18 v21 v24 v27 v30 v33 v36 v39 v42 v45 v48 v51) k) v373 v388 ((gE c arg6 arg9 arg14 q6 f6 (k % 4) hx).rows (mask v0 v3 v6 v9 v12 v15 v18 v21 v24 v27 v30 v33 v36 v39 v42 v45 v48 v51) k) (expRow S2 (ord (mask v0 v3 v6 v9 v12 v15 v18 v21 v24 v27 v30 v33 v36 v39 v42 v45 v48 v51) k) (ord_lt (mask v0 v3 v6 v9 v12 v15 v18 v21 v24 v27 v30 v33 v36 v39 v42 v45 v48 v51) k))⟩) Q)
        -∗ wp frame (wpE (defs₀ (F := F)) Variants.none (c : Thread nD τ) none) Set.univ (k0_part8 arg0 harg0 arg1 harg1 arg2 harg2 arg3 harg3 arg4 harg4 arg5 harg5 arg6 harg6 arg7 harg7 arg8 harg8 arg9 harg9 arg10 harg10 arg11 harg11 arg12 harg12 arg13 arg14 v0 v3 v6 v9 v12 v15 v18 v21 v24 v27 v30 v33 v36 v39 v42 v45 v48 v51 hw1 v101 v296 v301 v306 v311 t arg15 (ew (mask v0 v3 v6 v9 v12 v15 v18 v21 v24 v27 v30 v33 v36 v39 v42 v45 v48 v51) k) h11 v322 v373 (ew (mask v0 v3 v6 v9 v12 v15 v18 v21 v24 v27 v30 v33 v36 v39 v42 v45 v48 v51) k) h12 v388 >>= kk) Q) := by
  rw [k0_part8_eq_skeleton]
  unfold k0_part8_skel
  subst hk
  iintro ⟨HT, H4, HAcc, HA, HB, HC, HD, HE, HW⟩ Hk
  iapply (wait Variants.none none (gE c arg6 arg9 arg14 q6 f6 (t.val % 4) hx) (mask v0 v3 v6 v9 v12 v15 v18 v21 v24 v27 v30 v33 v36 v39 v42 v45 v48 v51) t.val (off88_eq t) (cell14_eq arg14 hx (by decide) (off87_eq t))) $$ [HE HW]
  · isplitl [HE]; · iexact HE
    iexact HW
  iintro ⟨HE, HW⟩
  iapply (read Variants.none none (gE c arg6 arg9 arg14 q6 f6 (t.val % 4) hx) (mask v0 v3 v6 v9 v12 v15 v18 v21 v24 v27 v30 v33 v36 v39 v42 v45 v48 v51) t.val (off90_eq t)) $$ HE
  iintro HE
  ihave HA := (free_of_ready (gA c arg5 arg8 arg13 q5 f5 (t.val % 4) hx) (mask v0 v3 v6 v9 v12 v15 v18 v21 v24 v27 v30 v33 v36 v39 v42 v45 v48 v51) t.val) $$ HA
  ihave HB := (free_of_ready (gB c arg5 arg8 arg13 q5 f5 (t.val % 4) hx) (mask v0 v3 v6 v9 v12 v15 v18 v21 v24 v27 v30 v33 v36 v39 v42 v45 v48 v51) t.val) $$ HB
  ihave HC := (free_of_ready (gC c arg5 arg8 arg13 q5 f5 (t.val % 4) hx) (mask v0 v3 v6 v9 v12 v15 v18 v21 v24 v27 v30 v33 v36 v39 v42 v45 v48 v51) t.val) $$ HC
  ihave HD := (free_of_ready (gD c arg6 arg9 arg14 q6 f6 (t.val % 4) hx) (mask v0 v3 v6 v9 v12 v15 v18 v21 v24 v27 v30 v33 v36 v39 v42 v45 v48 v51) t.val) $$ HD
  ihave HE := (free_of_ready (gE c arg6 arg9 arg14 q6 f6 (t.val % 4) hx) (mask v0 v3 v6 v9 v12 v15 v18 v21 v24 v27 v30 v33 v36 v39 v42 v45 v48 v51) t.val) $$ HE
  by_cases hn : t.val + 4 < act (mask v0 v3 v6 v9 v12 v15 v18 v21 v24 v27 v30 v33 v36 v39 v42 v45 v48 v51)
  · iapply (wp_dif_pos c ((cond13_iff t).2 hn))
    iapply (wp_assoc c)
    iapply (part5 arg0 harg0 arg1 harg1 arg2 harg2 arg3 harg3 arg4 harg4 arg5 harg5 arg6 harg6 arg7 harg7 arg8 harg8 arg9 harg9 arg10 harg10 arg11 harg11 arg12 harg12 arg13 arg14 v0 v3 v6 v9 v12 v15 v18 v21 v24 v27 v30 v33 v36 v39 v42 v45 v48 v51 c q5 f5 hw1 t arg15 ((cond13_iff t).2 hn) t.val rfl hn hx) $$ [HT HA HB HC]
    · isplitl [HT]; · iexact HT
      isplitl [HA]; · iexact HA
      isplitl [HB]; · iexact HB
      iexact HC
    iintro ⟨HT, HA, HB, HC⟩
    iapply (start Variants.none none (gD c arg6 arg9 arg14 q6 f6 (t.val % 4) hx) (mask v0 v3 v6 v9 v12 v15 v18 v21 v24 v27 v30 v33 v36 v39 v42 v45 v48 v51) (t.val + 4) (off103_eq t) (offH104 _ _) (cell14_eq arg14 hx (by decide) (off102_eq t))) $$ HD
    iintro HD
    iapply (start Variants.none none (gE c arg6 arg9 arg14 q6 f6 (t.val % 4) hx) (mask v0 v3 v6 v9 v12 v15 v18 v21 v24 v27 v30 v33 v36 v39 v42 v45 v48 v51) (t.val + 4) (off106_eq t) (offH107 _ _) (cell14_eq arg14 hx (by decide) (off105_eq t))) $$ HE
    iintro HE
    iapply (wp_rowH c (ord_lt (mask v0 v3 v6 v9 v12 v15 v18 v21 v24 v27 v30 v33 v36 v39 v42 v45 v48 v51) t.val) (congrArg (fun x => ![x, 0]) (ew_toNat _ _))) $$ H4
    iintro H4
    iapply (wp_loadH Variants.none (c : Thread nD τ) none) $$ HAcc
    iintro HAcc
    iapply Hk
    isplitl [HT]; · iexact HT
    isplitl [H4]; · iexact H4
    isplitl [HAcc]; · iexact HAcc
    isplitl [HA]; · unfold Grp.Next; rw [if_pos hn]; iexact HA
    isplitl [HB]; · unfold Grp.Next; rw [if_pos hn]; iexact HB
    isplitl [HC]; · unfold Grp.Next; rw [if_pos hn]; iexact HC
    isplitl [HD]; · unfold Grp.Next; rw [if_pos hn]; iexact HD
    isplitl [HE]; · unfold Grp.Next; rw [if_pos hn]; iexact HE
    iexact HW
  · iapply (wp_dif_neg c (fun h => hn ((cond13_iff t).1 h)))
    iapply (wp_rowH c (ord_lt (mask v0 v3 v6 v9 v12 v15 v18 v21 v24 v27 v30 v33 v36 v39 v42 v45 v48 v51) t.val) (congrArg (fun x => ![x, 0]) (ew_toNat _ _))) $$ H4
    iintro H4
    iapply (wp_loadH Variants.none (c : Thread nD τ) none) $$ HAcc
    iintro HAcc
    iapply Hk
    isplitl [HT]; · iexact HT
    isplitl [H4]; · iexact H4
    isplitl [HAcc]; · iexact HAcc
    isplitl [HA]; · unfold Grp.Next; rw [if_neg hn]; iexact HA
    isplitl [HB]; · unfold Grp.Next; rw [if_neg hn]; iexact HB
    isplitl [HC]; · unfold Grp.Next; rw [if_neg hn]; iexact HC
    isplitl [HD]; · unfold Grp.Next; rw [if_neg hn]; iexact HD
    isplitl [HE]; · unfold Grp.Next; rw [if_neg hn]; iexact HE
    iexact HW

end Cert.Kernel.Hand

end
-- ==== Proof.FloatTiles.lean ====
/-
  The second half of a trip: the accumulator, one tile of columns at a time.
-/
module

public import proofs.«01_k».proof.Proof.FloatState

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MoeWords Cert.MoeRing

variable {F : FTy → Type} [FloatOps F]

local notation "𝕄" => MT nD τ sig Unit (Elt F) ℕ (Pipeline.UD sig nD τ) ℕ

/-- The row, and the column within its tile, of an element of the accumulator. -/
def tcol (i : S16x2816.Idx) : S16x128.Idx
  | ⟨0, _⟩ => i 0
  | ⟨1, _⟩ => ⟨(i 1).val % 128, Nat.mod_lt _ (by decide)⟩

/-- The accumulator with its columns below `o` served: a hit row gets its weighted product added, another row a zero. -/
def mix (cw : FVec F S16x128 .f32) (hit : IVec S16x128 1) (y : FVec F S16x2816 .f32) (X : S16x2816.Idx → Elt F .f32) (o : ℕ) : S16x2816.Idx → Elt F .f32 := fun i =>
  if (i 1).val < o then
    FloatOps.addf (φ := .f32) (X i) (Scalar.select (hit (tcol i)) (FloatOps.mulf (φ := .f32) (y i) (cw (tcol i))) (Scalar.ofBits .f32 0x00000000#32))
  else X i

theorem mix_zero (cw : FVec F S16x128 .f32) (hit : IVec S16x128 1) (y : FVec F S16x2816 .f32) (X : S16x2816.Idx → Elt F .f32) : mix cw hit y X 0 = X :=
  funext fun i => if_neg (Nat.not_lt_zero _)

/-- What is added to a tile. -/
def msk (cw : FVec F S16x128 .f32) (hit : IVec S16x128 1) (y : FVec F S16x2816 .f32) (o : ℕ) (h : S16x2816.Slices ![0, o] S16x128) : FVec F S16x128 .f32 :=
  select hit (mulf (extractStridedSlice S16x128 ![0, o] y h) cw) (broadcast S16x128 (Scalar.ofBits .f32 0x00000000#32))

/-- What is stored at a tile. -/
def tilePay (v d : FVec F S16x128 .f32) : FVec F S16x128 .f32 := shapeCast S16x128 (addf v d) shapeCasts_S16x128_S16x128

theorem tilePay_apply (v d : FVec F S16x128 .f32) (x : S16x128.Idx) : tilePay v d x = FloatOps.addf (v x) (d x) := by
  unfold tilePay
  show addf v d (Shape.reshapeEquiv _ x) = _
  rw [Shape.reshapeEquiv_self]
  rfl

/-- The tile's store. -/
theorem wp_tile {α : Type} {Q : α → sProp 𝕄} (c : Dev nD) {arg11 : Memref sig .tc .vmem S16x2816 .f32} {cw : FVec F S16x128 .f32} {hit : IVec S16x128 1} {y : FVec F S16x2816 .f32}
    {X : S16x2816.Idx → Elt F .f32} (o o' : ℕ) (ho : o % 128 = 0) (ho' : o' = o + 128) (hsl : S16x2816.Slices ![0, o] S16x128)
    {h : ∀ a, (![0, o] : Fin 2 → ℕ) a + S16x128.size a ≤ S16x2816.size a}
    {w : FVec F S16x128 .f32} {hx : (arg11.access (Rect.unit (s := S16x2816) ![0, o] S16x128.size h)).Stores Finset.univ} {hm : (Finset.univ : Finset S16x128.Idx) = Finset.univ ∨ ∀ a, (Rect.unit (s := S16x2816) ![0, o] S16x128.size h).stride a = 1}
    {k : PUnit → Prog (TpuEff nD τ sig (Elt F) Λ₀ .tc) α}
    (hw : w = tilePay (fun x => mix cw hit y X o ((Rect.unit (s := S16x2816) ![0, o] S16x128.size h).emb x)) (msk cw hit y o hsl)) :
    Holds (Val := Elt F) (c : Thread nD τ) arg11 (mix cw hit y X o) ⊢ iprop((Holds (Val := Elt F) (c : Thread nD τ) arg11 (mix cw hit y X o') -∗ wp frame (wpE (defs₀ (F := F)) Variants.none (c : Thread nD τ) none) Set.univ (k ⟨⟩) Q)
      -∗ wp frame (wpE (defs₀ (F := F)) Variants.none (c : Thread nD τ) none) Set.univ (.op (.store arg11 (Rect.unit (s := S16x2816) ![0, o] S16x128.size h) w Finset.univ hx hm) k) Q) := by
  subst ho' hw
  refine wp_storeH Variants.none (c : Thread nD τ) none (mix cw hit y X (o + 128)) (fun x => ?_) fun i hi => ?_
  · have h1 : ((Rect.unit (s := S16x2816) ![0, o] S16x128.size h).emb x 1).val = o + (x 1).val := by
      rw [Rect.emb_apply]; show o + 1 * (x 1).val = _; omega
    have h0 : ((Rect.unit (s := S16x2816) ![0, o] S16x128.size h).emb x 0).val = (x 0).val := by
      rw [Rect.emb_apply]; show 0 + 1 * (x 0).val = _; omega
    have hlt : (x 1).val < 128 := (x 1).isLt
    have ht : tcol ((Rect.unit (s := S16x2816) ![0, o] S16x128.size h).emb x) = x := by
      funext a
      match a with
      | ⟨0, _⟩ => exact Fin.ext h0
      | ⟨1, _⟩ => exact Fin.ext (by show ((Rect.unit (s := S16x2816) ![0, o] S16x128.size h).emb x 1).val % 128 = (x 1).val; rw [h1]; omega)
    rw [tilePay_apply]
    unfold mix
    rw [if_pos (by omega), if_neg (by omega), ht]
    refine congrArg (FloatOps.addf (φ := .f32) _) ?_
    show Scalar.select (hit x) _ _ = Scalar.select (hit x) (FloatOps.mulf (φ := .f32) (extractStridedSlice S16x128 ![0, o] y hsl x) (cw x)) _
    refine congrArg (fun z => Scalar.select (hit x) (FloatOps.mulf (φ := .f32) z (cw x)) _) ?_
    refine congrArg y (funext fun a => Fin.ext ?_)
    match a with
    | ⟨0, _⟩ => exact h0.trans (Nat.zero_add _).symm
    | ⟨1, _⟩ => exact h1
  · unfold mix
    by_cases h1 : (i 1).val < o
    · rw [if_pos h1, if_pos (by omega)]
    · by_cases h2 : (i 1).val < o + 128
      · exfalso
        apply hi
        refine Rect.mem_set_unit.2 fun a => ?_
        match a with
        | ⟨0, _⟩ => exact ⟨Nat.zero_le _, by show (i 0).val < 0 + 16; have : (i 0).val < 16 := (i 0).isLt; omega⟩
        | ⟨1, _⟩ => exact ⟨Nat.le_of_not_lt h1, h2⟩
      · rw [if_neg h1, if_neg h2]

variable (arg0 : Memref sig .tc .smem S9x2 .i32) (harg0 : arg0.IsWhole) (arg1 : Memref sig .tc .smem S9x2 .f32) (harg1 : arg1.IsWhole) (arg2 : Memref sig .tc .vmem S9x2816 .bf16) (harg2 : arg2.IsWhole) (arg3 : Memref sig .tc .vmem S8x2816 .f32) (harg3 : arg3.IsWhole) (arg4 : Memref sig .tc .vmem S8x2816 .f32) (harg4 : arg4.IsWhole) (arg5 : Memref sig .tc .hbm S8x2816x2816 .i8) (harg5 : arg5.IsWhole) (arg6 : Memref sig .tc .hbm S8x1408x2816 .i8) (harg6 : arg6.IsWhole) (arg7 : Memref sig .tc .vmem S9x2816 .bf16) (harg7 : arg7.IsWhole) (arg8 : Memref sig .tc .vmem S4x2816x2816 .i8) (harg8 : arg8.IsWhole) (arg9 : Memref sig .tc .vmem S4x1408x2816 .i8) (harg9 : arg9.IsWhole) (arg10 : Memref sig .tc .vmem S16x2816 .bf16) (harg10 : arg10.IsWhole) (arg11 : Memref sig .tc .vmem S16x2816 .f32) (harg11 : arg11.IsWhole) (arg12 : Memref sig .tc .smem S8 .i32) (harg12 : arg12.IsWhole) (arg13 : DmaSems sig S4x3) (arg14 : DmaSems sig S4x2)
variable (v0 v3 v6 v9 v12 v15 v18 v21 v24 v27 v30 v33 v36 v39 v42 v45 v48 v51 : BitVec 32)
variable (c : Dev nD)
  (q5 : Fin 12 → PosShare TreeShare) (q6 : Fin 8 → PosShare TreeShare)
  (f5 : Buf (Elt F) (arg5.view.loc (c : Thread nD τ))) (f6 : Buf (Elt F) (arg6.view.loc (c : Thread nD τ)))

/-- Four tiles of columns, from column 0. -/
theorem part9 {α : Type} {Q : α → sProp 𝕄} (cw : FVec F S16x128 .f32) (hit : IVec S16x128 1) (y : FVec F S16x2816 .f32) (X : S16x2816.Idx → Elt F .f32)
    {kk : (Σ' (v462 : Vec F S16x128 .f32), FVec F S16x128 .f32) → Prog (TpuEff nD τ sig (Elt F) Λ₀ .tc) α} :
    iprop(Holds (Val := Elt F) (c : Thread nD τ) arg11 (mix cw hit y X 0))
      ⊢ iprop((iprop(Holds (Val := Elt F) (c : Thread nD τ) arg11 (mix cw hit y X 512)) -∗
          wp frame (wpE (defs₀ (F := F)) Variants.none (c : Thread nD τ) none) Set.univ (kk ⟨(fun x => mix cw hit y X 512 ((Rect.unit (s := S16x2816) ![0, 512] S16x128.size inb_S16x2816_S16x128_0_512).emb x)), (msk cw hit y 512 slices_S16x2816_o0_512_S16x128)⟩) Q)
        -∗ wp frame (wpE (defs₀ (F := F)) Variants.none (c : Thread nD τ) none) Set.univ (k0_part9 arg0 harg0 arg1 harg1 arg2 harg2 arg3 harg3 arg4 harg4 arg5 harg5 arg6 harg6 arg7 harg7 arg8 harg8 arg9 harg9 arg10 harg10 arg11 harg11 arg12 harg12 arg13 arg14 cw hit y (fun x => mix cw hit y X 0 ((Rect.unit (s := S16x2816) ![0, 0] S16x128.size inb_S16x2816_S16x128_0_0).emb x)) (msk cw hit y 0 slices_S16x2816_o0_0_S16x128) >>= kk) Q) := by
  rw [k0_part9_eq_skeleton]
  unfold k0_part9_skel
  iintro HAcc Hk
  iapply (wp_loadH Variants.none (c : Thread nD τ) none) $$ HAcc
  iintro HAcc
  iapply (wp_tile c 0 128 (by decide) (by decide) slices_S16x2816_o0_0_S16x128 (w := _) rfl) $$ HAcc
  iintro HAcc
  iapply (wp_loadH Variants.none (c : Thread nD τ) none) $$ HAcc
  iintro HAcc
  iapply (wp_loadH Variants.none (c : Thread nD τ) none) $$ HAcc
  iintro HAcc
  iapply (wp_tile c 128 256 (by decide) (by decide) slices_S16x2816_o0_128_S16x128 (w := _) rfl) $$ HAcc
  iintro HAcc
  iapply (wp_loadH Variants.none (c : Thread nD τ) none) $$ HAcc
  iintro HAcc
  iapply (wp_loadH Variants.none (c : Thread nD τ) none) $$ HAcc
  iintro HAcc
  iapply (wp_tile c 256 384 (by decide) (by decide) slices_S16x2816_o0_256_S16x128 (w := _) rfl) $$ HAcc
  iintro HAcc
  iapply (wp_loadH Variants.none (c : Thread nD τ) none) $$ HAcc
  iintro HAcc
  iapply (wp_loadH Variants.none (c : Thread nD τ) none) $$ HAcc
  iintro HAcc
  iapply (wp_tile c 384 512 (by decide) (by decide) slices_S16x2816_o0_384_S16x128 (w := _) rfl) $$ HAcc
  iintro HAcc
  iapply (wp_loadH Variants.none (c : Thread nD τ) none) $$ HAcc
  iintro HAcc
  iapply Hk
  iexact HAcc

/-- Four tiles of columns, from column 512. -/
theorem part10 {α : Type} {Q : α → sProp 𝕄} (cw : FVec F S16x128 .f32) (hit : IVec S16x128 1) (y : FVec F S16x2816 .f32) (X : S16x2816.Idx → Elt F .f32)
    {kk : (Σ' (v462 : Vec F S16x128 .f32), FVec F S16x128 .f32) → Prog (TpuEff nD τ sig (Elt F) Λ₀ .tc) α} :
    iprop(Holds (Val := Elt F) (c : Thread nD τ) arg11 (mix cw hit y X 512))
      ⊢ iprop((iprop(Holds (Val := Elt F) (c : Thread nD τ) arg11 (mix cw hit y X 1024)) -∗
          wp frame (wpE (defs₀ (F := F)) Variants.none (c : Thread nD τ) none) Set.univ (kk ⟨(fun x => mix cw hit y X 1024 ((Rect.unit (s := S16x2816) ![0, 1024] S16x128.size inb_S16x2816_S16x128_0_1024).emb x)), (msk cw hit y 1024 slices_S16x2816_o0_1024_S16x128)⟩) Q)
        -∗ wp frame (wpE (defs₀ (F := F)) Variants.none (c : Thread nD τ) none) Set.univ (k0_part10 arg0 harg0 arg1 harg1 arg2 harg2 arg3 harg3 arg4 harg4 arg5 harg5 arg6 harg6 arg7 harg7 arg8 harg8 arg9 harg9 arg10 harg10 arg11 harg11 arg12 harg12 arg13 arg14 cw hit y (fun x => mix cw hit y X 512 ((Rect.unit (s := S16x2816) ![0, 512] S16x128.size inb_S16x2816_S16x128_0_512).emb x)) (msk cw hit y 512 slices_S16x2816_o0_512_S16x128) >>= kk) Q) := by
  rw [k0_part10_eq_skeleton]
  unfold k0_part10_skel
  iintro HAcc Hk
  iapply (wp_loadH Variants.none (c : Thread nD τ) none) $$ HAcc
  iintro HAcc
  iapply (wp_tile c 512 640 (by decide) (by decide) slices_S16x2816_o0_512_S16x128 (w := _) rfl) $$ HAcc
  iintro HAcc
  iapply (wp_loadH Variants.none (c : Thread nD τ) none) $$ HAcc
  iintro HAcc
  iapply (wp_loadH Variants.none (c : Thread nD τ) none) $$ HAcc
  iintro HAcc
  iapply (wp_tile c 640 768 (by decide) (by decide) slices_S16x2816_o0_640_S16x128 (w := _) rfl) $$ HAcc
  iintro HAcc
  iapply (wp_loadH Variants.none (c : Thread nD τ) none) $$ HAcc
  iintro HAcc
  iapply (wp_loadH Variants.none (c : Thread nD τ) none) $$ HAcc
  iintro HAcc
  iapply (wp_tile c 768 896 (by decide) (by decide) slices_S16x2816_o0_768_S16x128 (w := _) rfl) $$ HAcc
  iintro HAcc
  iapply (wp_loadH Variants.none (c : Thread nD τ) none) $$ HAcc
  iintro HAcc
  iapply (wp_loadH Variants.none (c : Thread nD τ) none) $$ HAcc
  iintro HAcc
  iapply (wp_tile c 896 1024 (by decide) (by decide) slices_S16x2816_o0_896_S16x128 (w := _) rfl) $$ HAcc
  iintro HAcc
  iapply (wp_loadH Variants.none (c : Thread nD τ) none) $$ HAcc
  iintro HAcc
  iapply Hk
  iexact HAcc

/-- Four tiles of columns, from column 1024. -/
theorem part11 {α : Type} {Q : α → sProp 𝕄} (cw : FVec F S16x128 .f32) (hit : IVec S16x128 1) (y : FVec F S16x2816 .f32) (X : S16x2816.Idx → Elt F .f32)
    {kk : (Σ' (v462 : Vec F S16x128 .f32), FVec F S16x128 .f32) → Prog (TpuEff nD τ sig (Elt F) Λ₀ .tc) α} :
    iprop(Holds (Val := Elt F) (c : Thread nD τ) arg11 (mix cw hit y X 1024))
      ⊢ iprop((iprop(Holds (Val := Elt F) (c : Thread nD τ) arg11 (mix cw hit y X 1536)) -∗
          wp frame (wpE (defs₀ (F := F)) Variants.none (c : Thread nD τ) none) Set.univ (kk ⟨(fun x => mix cw hit y X 1536 ((Rect.unit (s := S16x2816) ![0, 1536] S16x128.size inb_S16x2816_S16x128_0_1536).emb x)), (msk cw hit y 1536 slices_S16x2816_o0_1536_S16x128)⟩) Q)
        -∗ wp frame (wpE (defs₀ (F := F)) Variants.none (c : Thread nD τ) none) Set.univ (k0_part11 arg0 harg0 arg1 harg1 arg2 harg2 arg3 harg3 arg4 harg4 arg5 harg5 arg6 harg6 arg7 harg7 arg8 harg8 arg9 harg9 arg10 harg10 arg11 harg11 arg12 harg12 arg13 arg14 cw hit y (fun x => mix cw hit y X 1024 ((Rect.unit (s := S16x2816) ![0, 1024] S16x128.size inb_S16x2816_S16x128_0_1024).emb x)) (msk cw hit y 1024 slices_S16x2816_o0_1024_S16x128) >>= kk) Q) := by
  rw [k0_part11_eq_skeleton]
  unfold k0_part11_skel
  iintro HAcc Hk
  iapply (wp_loadH Variants.none (c : Thread nD τ) none) $$ HAcc
  iintro HAcc
  iapply (wp_tile c 1024 1152 (by decide) (by decide) slices_S16x2816_o0_1024_S16x128 (w := _) rfl) $$ HAcc
  iintro HAcc
  iapply (wp_loadH Variants.none (c : Thread nD τ) none) $$ HAcc
  iintro HAcc
  iapply (wp_loadH Variants.none (c : Thread nD τ) none) $$ HAcc
  iintro HAcc
  iapply (wp_tile c 1152 1280 (by decide) (by decide) slices_S16x2816_o0_1152_S16x128 (w := _) rfl) $$ HAcc
  iintro HAcc
  iapply (wp_loadH Variants.none (c : Thread nD τ) none) $$ HAcc
  iintro HAcc
  iapply (wp_loadH Variants.none (c : Thread nD τ) none) $$ HAcc
  iintro HAcc
  iapply (wp_tile c 1280 1408 (by decide) (by decide) slices_S16x2816_o0_1280_S16x128 (w := _) rfl) $$ HAcc
  iintro HAcc
  iapply (wp_loadH Variants.none (c : Thread nD τ) none) $$ HAcc
  iintro HAcc
  iapply (wp_loadH Variants.none (c : Thread nD τ) none) $$ HAcc
  iintro HAcc
  iapply (wp_tile c 1408 1536 (by decide) (by decide) slices_S16x2816_o0_1408_S16x128 (w := _) rfl) $$ HAcc
  iintro HAcc
  iapply (wp_loadH Variants.none (c : Thread nD τ) none) $$ HAcc
  iintro HAcc
  iapply Hk
  iexact HAcc

/-- Four tiles of columns, from column 1536. -/
theorem part12 {α : Type} {Q : α → sProp 𝕄} (cw : FVec F S16x128 .f32) (hit : IVec S16x128 1) (y : FVec F S16x2816 .f32) (X : S16x2816.Idx → Elt F .f32)
    {kk : (Σ' (v462 : Vec F S16x128 .f32), FVec F S16x128 .f32) → Prog (TpuEff nD τ sig (Elt F) Λ₀ .tc) α} :
    iprop(Holds (Val := Elt F) (c : Thread nD τ) arg11 (mix cw hit y X 1536))
      ⊢ iprop((iprop(Holds (Val := Elt F) (c : Thread nD τ) arg11 (mix cw hit y X 2048)) -∗
          wp frame (wpE (defs₀ (F := F)) Variants.none (c : Thread nD τ) none) Set.univ (kk ⟨(fun x => mix cw hit y X 2048 ((Rect.unit (s := S16x2816) ![0, 2048] S16x128.size inb_S16x2816_S16x128_0_2048).emb x)), (msk cw hit y 2048 slices_S16x2816_o0_2048_S16x128)⟩) Q)
        -∗ wp frame (wpE (defs₀ (F := F)) Variants.none (c : Thread nD τ) none) Set.univ (k0_part12 arg0 harg0 arg1 harg1 arg2 harg2 arg3 harg3 arg4 harg4 arg5 harg5 arg6 harg6 arg7 harg7 arg8 harg8 arg9 harg9 arg10 harg10 arg11 harg11 arg12 harg12 arg13 arg14 cw hit y (fun x => mix cw hit y X 1536 ((Rect.unit (s := S16x2816) ![0, 1536] S16x128.size inb_S16x2816_S16x128_0_1536).emb x)) (msk cw hit y 1536 slices_S16x2816_o0_1536_S16x128) >>= kk) Q) := by
  rw [k0_part12_eq_skeleton]
  unfold k0_part12_skel
  iintro HAcc Hk
  iapply (wp_loadH Variants.none (c : Thread nD τ) none) $$ HAcc
  iintro HAcc
  iapply (wp_tile c 1536 1664 (by decide) (by decide) slices_S16x2816_o0_1536_S16x128 (w := _) rfl) $$ HAcc
  iintro HAcc
  iapply (wp_loadH Variants.none (c : Thread nD τ) none) $$ HAcc
  iintro HAcc
  iapply (wp_loadH Variants.none (c : Thread nD τ) none) $$ HAcc
  iintro HAcc
  iapply (wp_tile c 1664 1792 (by decide) (by decide) slices_S16x2816_o0_1664_S16x128 (w := _) rfl) $$ HAcc
  iintro HAcc
  iapply (wp_loadH Variants.none (c : Thread nD τ) none) $$ HAcc
  iintro HAcc
  iapply (wp_loadH Variants.none (c : Thread nD τ) none) $$ HAcc
  iintro HAcc
  iapply (wp_tile c 1792 1920 (by decide) (by decide) slices_S16x2816_o0_1792_S16x128 (w := _) rfl) $$ HAcc
  iintro HAcc
  iapply (wp_loadH Variants.none (c : Thread nD τ) none) $$ HAcc
  iintro HAcc
  iapply (wp_loadH Variants.none (c : Thread nD τ) none) $$ HAcc
  iintro HAcc
  iapply (wp_tile c 1920 2048 (by decide) (by decide) slices_S16x2816_o0_1920_S16x128 (w := _) rfl) $$ HAcc
  iintro HAcc
  iapply (wp_loadH Variants.none (c : Thread nD τ) none) $$ HAcc
  iintro HAcc
  iapply Hk
  iexact HAcc

/-- Four tiles of columns, from column 2048. -/
theorem part13 {α : Type} {Q : α → sProp 𝕄} (cw : FVec F S16x128 .f32) (hit : IVec S16x128 1) (y : FVec F S16x2816 .f32) (X : S16x2816.Idx → Elt F .f32)
    {kk : (Σ' (v462 : Vec F S16x128 .f32), FVec F S16x128 .f32) → Prog (TpuEff nD τ sig (Elt F) Λ₀ .tc) α} :
    iprop(Holds (Val := Elt F) (c : Thread nD τ) arg11 (mix cw hit y X 2048))
      ⊢ iprop((iprop(Holds (Val := Elt F) (c : Thread nD τ) arg11 (mix cw hit y X 2560)) -∗
          wp frame (wpE (defs₀ (F := F)) Variants.none (c : Thread nD τ) none) Set.univ (kk ⟨(fun x => mix cw hit y X 2560 ((Rect.unit (s := S16x2816) ![0, 2560] S16x128.size inb_S16x2816_S16x128_0_2560).emb x)), (msk cw hit y 2560 slices_S16x2816_o0_2560_S16x128)⟩) Q)
        -∗ wp frame (wpE (defs₀ (F := F)) Variants.none (c : Thread nD τ) none) Set.univ (k0_part13 arg0 harg0 arg1 harg1 arg2 harg2 arg3 harg3 arg4 harg4 arg5 harg5 arg6 harg6 arg7 harg7 arg8 harg8 arg9 harg9 arg10 harg10 arg11 harg11 arg12 harg12 arg13 arg14 cw hit y (fun x => mix cw hit y X 2048 ((Rect.unit (s := S16x2816) ![0, 2048] S16x128.size inb_S16x2816_S16x128_0_2048).emb x)) (msk cw hit y 2048 slices_S16x2816_o0_2048_S16x128) >>= kk) Q) := by
  rw [k0_part13_eq_skeleton]
  unfold k0_part13_skel
  iintro HAcc Hk
  iapply (wp_loadH Variants.none (c : Thread nD τ) none) $$ HAcc
  iintro HAcc
  iapply (wp_tile c 2048 2176 (by decide) (by decide) slices_S16x2816_o0_2048_S16x128 (w := _) rfl) $$ HAcc
  iintro HAcc
  iapply (wp_loadH Variants.none (c : Thread nD τ) none) $$ HAcc
  iintro HAcc
  iapply (wp_loadH Variants.none (c : Thread nD τ) none) $$ HAcc
  iintro HAcc
  iapply (wp_tile c 2176 2304 (by decide) (by decide) slices_S16x2816_o0_2176_S16x128 (w := _) rfl) $$ HAcc
  iintro HAcc
  iapply (wp_loadH Variants.none (c : Thread nD τ) none) $$ HAcc
  iintro HAcc
  iapply (wp_loadH Variants.none (c : Thread nD τ) none) $$ HAcc
  iintro HAcc
  iapply (wp_tile c 2304 2432 (by decide) (by decide) slices_S16x2816_o0_2304_S16x128 (w := _) rfl) $$ HAcc
  iintro HAcc
  iapply (wp_loadH Variants.none (c : Thread nD τ) none) $$ HAcc
  iintro HAcc
  iapply (wp_loadH Variants.none (c : Thread nD τ) none) $$ HAcc
  iintro HAcc
  iapply (wp_tile c 2432 2560 (by decide) (by decide) slices_S16x2816_o0_2432_S16x128 (w := _) rfl) $$ HAcc
  iintro HAcc
  iapply (wp_loadH Variants.none (c : Thread nD τ) none) $$ HAcc
  iintro HAcc
  iapply Hk
  iexact HAcc

end Cert.Kernel.Hand

end
-- ==== Proof.FloatTrip.lean ====
/-
  One trip, and the loop.
-/
module

public import proofs.«01_k».proof.Proof.FloatLoads
public import proofs.«01_k».proof.Proof.FloatStarts
public import proofs.«01_k».proof.Proof.FloatTiles

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MoeWords Cert.MoeRing

variable {F : FTy → Type} [FloatOps F]

local notation "𝕄" => MT nD τ sig Unit (Elt F) ℕ (Pipeline.UD sig nD τ) ℕ

/-- An expert's rows of a weight array, a block of them. -/
def expRows {R : ℕ} (W : (⟨3, ![8, R, 2816]⟩ : Shape).Idx → Elt F .i8) (e : ℕ) (he : e < 8) (r n : ℕ) (hr : r + n ≤ R) :
    (⟨3, ![1, n, 2816]⟩ : Shape).Idx → Elt F .i8 := fun x => W ((blk (size := ![1, n, 2816]) ![e, r, 0] (inb3 he hr)).emb x)

section Expert

variable (W13 : S8x2816x2816.Idx → Elt F .i8) (W2 : S8x1408x2816.Idx → Elt F .i8) (XB : S16x2816.Idx → Elt F .bf16) (S13 S2 : S8x2816.Idx → Elt F .f32)
  (e : ℕ) (he : e < 8)

/-- The first product, over the first two groups of rows. -/
def exp350 : FVec F S16x2816 .f32 :=
  k0_pay7 (fun i => XB ((Rect.unit (s := S16x2816) ![0, 0] S16x1024.size inb_S16x2816_S16x1024_0_0).emb i)) (expRows W13 e he 0 1024 (by decide))
    (fun i => XB ((Rect.unit (s := S16x2816) ![0, 1024] S16x1024.size inb_S16x2816_S16x1024_0_1024).emb i)) (expRows W13 e he 1024 1024 (by decide))

/-- The gated hidden layer. -/
def exp373 : FVec F S16x1408 .bf16 :=
  k0_pay8 (exp350 W13 XB e he) (fun i => XB ((Rect.unit (s := S16x2816) ![0, 2048] S16x768.size inb_S16x2816_S16x768_0_2048).emb i))
    (expRows W13 e he 2048 768 (by decide)) (expRow S13 e he)

/-- The second product, over its first group of rows. -/
def exp388 : FVec F S16x2816 .f32 :=
  k0_pay9 (exp350 W13 XB e he) (fun i => XB ((Rect.unit (s := S16x2816) ![0, 2048] S16x768.size inb_S16x2816_S16x768_0_2048).emb i))
    (expRows W13 e he 2048 768 (by decide)) (expRow S13 e he) (expRows W2 e he 0 1024 (by decide))

/-- The expert's product. -/
def expY : FVec F S16x2816 .f32 :=
  k0_pay12 (exp373 W13 XB S13 e he) (exp388 W13 W2 XB S13 e he) (expRows W2 e he 1024 384 (by decide)) (expRow S2 e he)

/-- One expert's trip on the accumulator. -/
def stepE (v296 : IVec S16x128 32) (v301 : FVec F S16x128 .f32) (v306 : IVec S16x128 32) (v311 : FVec F S16x128 .f32)
    (X : S16x2816.Idx → Elt F .f32) : S16x2816.Idx → Elt F .f32 :=
  mix (k0_pay10 v296 v301 v306 v311 (BitVec.ofNat 32 e)) (k0_pay11 (F := F) v296 v306 (BitVec.ofNat 32 e)) (expY W13 W2 XB S13 S2 e he) X 2816

end Expert

/-- The accumulator after the first `k` active experts. -/
def accN (W13 : S8x2816x2816.Idx → Elt F .i8) (W2 : S8x1408x2816.Idx → Elt F .i8) (XB : S16x2816.Idx → Elt F .bf16) (S13 S2 : S8x2816.Idx → Elt F .f32)
    (v296 : IVec S16x128 32) (v301 : FVec F S16x128 .f32) (v306 : IVec S16x128 32) (v311 : FVec F S16x128 .f32)
    (X : S16x2816.Idx → Elt F .f32) (m : BitVec 32) : ℕ → S16x2816.Idx → Elt F .f32
  | 0 => X
  | k + 1 => stepE W13 W2 XB S13 S2 (ord m k) (ord_lt m k) v296 v301 v306 v311 (accN W13 W2 XB S13 S2 v296 v301 v306 v311 X m k)

variable (arg0 : Memref sig .tc .smem S9x2 .i32) (harg0 : arg0.IsWhole) (arg1 : Memref sig .tc .smem S9x2 .f32) (harg1 : arg1.IsWhole) (arg2 : Memref sig .tc .vmem S9x2816 .bf16) (harg2 : arg2.IsWhole) (arg3 : Memref sig .tc .vmem S8x2816 .f32) (harg3 : arg3.IsWhole) (arg4 : Memref sig .tc .vmem S8x2816 .f32) (harg4 : arg4.IsWhole) (arg5 : Memref sig .tc .hbm S8x2816x2816 .i8) (harg5 : arg5.IsWhole) (arg6 : Memref sig .tc .hbm S8x1408x2816 .i8) (harg6 : arg6.IsWhole) (arg7 : Memref sig .tc .vmem S9x2816 .bf16) (harg7 : arg7.IsWhole) (arg8 : Memref sig .tc .vmem S4x2816x2816 .i8) (harg8 : arg8.IsWhole) (arg9 : Memref sig .tc .vmem S4x1408x2816 .i8) (harg9 : arg9.IsWhole) (arg10 : Memref sig .tc .vmem S16x2816 .bf16) (harg10 : arg10.IsWhole) (arg11 : Memref sig .tc .vmem S16x2816 .f32) (harg11 : arg11.IsWhole) (arg12 : Memref sig .tc .smem S8 .i32) (harg12 : arg12.IsWhole) (arg13 : DmaSems sig S4x3) (arg14 : DmaSems sig S4x2)
variable (v0 v3 v6 v9 v12 v15 v18 v21 v24 v27 v30 v33 v36 v39 v42 v45 v48 v51 : BitVec 32)
variable (c : Dev nD)
  (q5 : Fin 12 → PosShare TreeShare) (q6 : Fin 8 → PosShare TreeShare)
  (f5 : Buf (Elt F) (arg5.view.loc (c : Thread nD τ))) (f6 : Buf (Elt F) (arg6.view.loc (c : Thread nD τ)))

theorem wp_done {α : Type} {Q : α → sProp 𝕄} {a : α} : Q a ⊢ wp frame (wpE (defs₀ (F := F)) Variants.none (c : Thread nD τ) none) Set.univ (Prog.ret a) Q := by
  rw [wp_ret]
  iintro H
  imodintro
  iexact H

/-- One trip. -/
theorem trip (hw1 : k0_chk1 v0 v3 v6 v9 v12 v15 v18 v21 v24 v27 v30 v33 v36 v39 v42 v45 v48 v51) (t : Fin (k0_t1_loop v0 v3 v6 v9 v12 v15 v18 v21 v24 v27 v30 v33 v36 v39 v42 v45 v48 v51).trips) (v101 : BitVec 32) (v127 : IVec S16x128 32) (v291 : FVec F S16x128 .f32) (v296 : IVec S16x128 32) (v301 : FVec F S16x128 .f32) (v306 : IVec S16x128 32) (c8 : BitVec 32) (v309 : Elt F .f32)
    (XB : S16x2816.Idx → Elt F .bf16) (S13 S2 : S8x2816.Idx → Elt F .f32) (X : S16x2816.Idx → Elt F .f32) (k : ℕ) (hk : k = t.val) (hka : k < act (mask v0 v3 v6 v9 v12 v15 v18 v21 v24 v27 v30 v33 v36 v39 v42 v45 v48 v51)) (hx : k % 4 < 4) :
    iprop(Table (F := F) c arg12 (mask v0 v3 v6 v9 v12 v15 v18 v21 v24 v27 v30 v33 v36 v39 v42 v45 v48 v51) 8
        ∗ Holds (Val := Elt F) (c : Thread nD τ) arg10 XB
        ∗ Holds (Val := Elt F) (c : Thread nD τ) arg3 S13
        ∗ Holds (Val := Elt F) (c : Thread nD τ) arg4 S2
        ∗ Holds (Val := Elt F) (c : Thread nD τ) arg11 X
        ∗ (gA c arg5 arg8 arg13 q5 f5 (k % 4) hx).Fly (mask v0 v3 v6 v9 v12 v15 v18 v21 v24 v27 v30 v33 v36 v39 v42 v45 v48 v51) k
        ∗ (gB c arg5 arg8 arg13 q5 f5 (k % 4) hx).Fly (mask v0 v3 v6 v9 v12 v15 v18 v21 v24 v27 v30 v33 v36 v39 v42 v45 v48 v51) k
        ∗ (gC c arg5 arg8 arg13 q5 f5 (k % 4) hx).Fly (mask v0 v3 v6 v9 v12 v15 v18 v21 v24 v27 v30 v33 v36 v39 v42 v45 v48 v51) k
        ∗ (gD c arg6 arg9 arg14 q6 f6 (k % 4) hx).Fly (mask v0 v3 v6 v9 v12 v15 v18 v21 v24 v27 v30 v33 v36 v39 v42 v45 v48 v51) k
        ∗ (gE c arg6 arg9 arg14 q6 f6 (k % 4) hx).Fly (mask v0 v3 v6 v9 v12 v15 v18 v21 v24 v27 v30 v33 v36 v39 v42 v45 v48 v51) k
        ∗ (∃ W, owes (c : Thread nD τ) 0 W))
      ⊢ wp frame (wpE (defs₀ (F := F)) Variants.none (c : Thread nD τ) none) Set.univ (k0_t1_body arg0 harg0 arg1 harg1 arg2 harg2 arg3 harg3 arg4 harg4 arg5 harg5 arg6 harg6 arg7 harg7 arg8 harg8 arg9 harg9 arg10 harg10 arg11 harg11 arg12 harg12 arg13 arg14 v0 v3 v6 v9 v12 v15 v18 v21 v24 v27 v30 v33 v36 v39 v42 v45 v48 v51 hw1 v101 v127 v291 v296 v301 v306 c8 v309 t ()) (fun _ => iprop(Table (F := F) c arg12 (mask v0 v3 v6 v9 v12 v15 v18 v21 v24 v27 v30 v33 v36 v39 v42 v45 v48 v51) 8
        ∗ Holds (Val := Elt F) (c : Thread nD τ) arg10 XB
        ∗ Holds (Val := Elt F) (c : Thread nD τ) arg3 S13
        ∗ Holds (Val := Elt F) (c : Thread nD τ) arg4 S2
        ∗ Holds (Val := Elt F) (c : Thread nD τ) arg11 (stepE (arg5.view.read (Elt F) f5) (arg6.view.read (Elt F) f6) XB S13 S2 (ord (mask v0 v3 v6 v9 v12 v15 v18 v21 v24 v27 v30 v33 v36 v39 v42 v45 v48 v51) k) (ord_lt (mask v0 v3 v6 v9 v12 v15 v18 v21 v24 v27 v30 v33 v36 v39 v42 v45 v48 v51) k) v296 v301 v306 (k0_pay1 v127 v291 c8 v309) X)
        ∗ (gA c arg5 arg8 arg13 q5 f5 (k % 4) hx).Next (mask v0 v3 v6 v9 v12 v15 v18 v21 v24 v27 v30 v33 v36 v39 v42 v45 v48 v51) (k + 4)
        ∗ (gB c arg5 arg8 arg13 q5 f5 (k % 4) hx).Next (mask v0 v3 v6 v9 v12 v15 v18 v21 v24 v27 v30 v33 v36 v39 v42 v45 v48 v51) (k + 4)
        ∗ (gC c arg5 arg8 arg13 q5 f5 (k % 4) hx).Next (mask v0 v3 v6 v9 v12 v15 v18 v21 v24 v27 v30 v33 v36 v39 v42 v45 v48 v51) (k + 4)
        ∗ (gD c arg6 arg9 arg14 q6 f6 (k % 4) hx).Next (mask v0 v3 v6 v9 v12 v15 v18 v21 v24 v27 v30 v33 v36 v39 v42 v45 v48 v51) (k + 4)
        ∗ (gE c arg6 arg9 arg14 q6 f6 (k % 4) hx).Next (mask v0 v3 v6 v9 v12 v15 v18 v21 v24 v27 v30 v33 v36 v39 v42 v45 v48 v51) (k + 4)
        ∗ (∃ W, owes (c : Thread nD τ) 0 W))) := by
  unfold k0_t1_body
  iintro ⟨HT, HX, H3, H4, HAcc, HA, HB, HC, HD, HE, HW⟩
  ihave HAcc := (show Holds (Val := Elt F) (c : Thread nD τ) arg11 X ⊢ Holds (Val := Elt F) (c : Thread nD τ) arg11 (mix (k0_pay10 v296 v301 v306 (k0_pay1 v127 v291 c8 v309) (ew (mask v0 v3 v6 v9 v12 v15 v18 v21 v24 v27 v30 v33 v36 v39 v42 v45 v48 v51) k)) (k0_pay11 (F := F) v296 v306 (ew (mask v0 v3 v6 v9 v12 v15 v18 v21 v24 v27 v30 v33 v36 v39 v42 v45 v48 v51) k)) (expY (arg5.view.read (Elt F) f5) (arg6.view.read (Elt F) f6) XB S13 S2 (ord (mask v0 v3 v6 v9 v12 v15 v18 v21 v24 v27 v30 v33 v36 v39 v42 v45 v48 v51) k) (ord_lt (mask v0 v3 v6 v9 v12 v15 v18 v21 v24 v27 v30 v33 v36 v39 v42 v45 v48 v51) k)) X 0) from by rw [mix_zero]) $$ HAcc
  iapply (part6 arg0 harg0 arg1 harg1 arg2 harg2 arg3 harg3 arg4 harg4 arg5 harg5 arg6 harg6 arg7 harg7 arg8 harg8 arg9 harg9 arg10 harg10 arg11 harg11 arg12 harg12 arg13 arg14 v0 v3 v6 v9 v12 v15 v18 v21 v24 v27 v30 v33 v36 v39 v42 v45 v48 v51 c q5 f5 hw1 t 0#32 1#32 XB k hk hka hx) $$ [HT HX HA HB HW]
  · isplitl [HT]; · iexact HT
    isplitl [HX]; · iexact HX
    isplitl [HA]; · iexact HA
    isplitl [HB]; · iexact HB
    iexact HW
  iintro ⟨HT, HX, HA, HB, HW⟩
  iapply (part7 arg0 harg0 arg1 harg1 arg2 harg2 arg3 harg3 arg4 harg4 arg5 harg5 arg6 harg6 arg7 harg7 arg8 harg8 arg9 harg9 arg10 harg10 arg11 harg11 arg12 harg12 arg13 arg14 v0 v3 v6 v9 v12 v15 v18 v21 v24 v27 v30 v33 v36 v39 v42 v45 v48 v51 c q5 q6 f5 f6 hw1 t k _ _ _ _ _ XB S13 hk hka hx) $$ [HT HX H3 HC HD HW]
  · isplitl [HT]; · iexact HT
    isplitl [HX]; · iexact HX
    isplitl [H3]; · iexact H3
    isplitl [HC]; · iexact HC
    isplitl [HD]; · iexact HD
    iexact HW
  iintro ⟨HT, HX, H3, HC, HD, HW⟩
  iapply (part8 arg0 harg0 arg1 harg1 arg2 harg2 arg3 harg3 arg4 harg4 arg5 harg5 arg6 harg6 arg7 harg7 arg8 harg8 arg9 harg9 arg10 harg10 arg11 harg11 arg12 harg12 arg13 arg14 v0 v3 v6 v9 v12 v15 v18 v21 v24 v27 v30 v33 v36 v39 v42 v45 v48 v51 c q5 q6 f5 f6 hw1 t v101 v296 v301 v306 (k0_pay1 v127 v291 c8 v309) _ k _ _ _ _ _ S2 (mix (k0_pay10 v296 v301 v306 (k0_pay1 v127 v291 c8 v309) (ew (mask v0 v3 v6 v9 v12 v15 v18 v21 v24 v27 v30 v33 v36 v39 v42 v45 v48 v51) k)) (k0_pay11 (F := F) v296 v306 (ew (mask v0 v3 v6 v9 v12 v15 v18 v21 v24 v27 v30 v33 v36 v39 v42 v45 v48 v51) k)) (expY (arg5.view.read (Elt F) f5) (arg6.view.read (Elt F) f6) XB S13 S2 (ord (mask v0 v3 v6 v9 v12 v15 v18 v21 v24 v27 v30 v33 v36 v39 v42 v45 v48 v51) k) (ord_lt (mask v0 v3 v6 v9 v12 v15 v18 v21 v24 v27 v30 v33 v36 v39 v42 v45 v48 v51) k)) X 0) hk hka hx) $$ [HT H4 HAcc HA HB HC HD HE HW]
  · isplitl [HT]; · iexact HT
    isplitl [H4]; · iexact H4
    isplitl [HAcc]; · iexact HAcc
    isplitl [HA]; · iexact HA
    isplitl [HB]; · iexact HB
    isplitl [HC]; · iexact HC
    isplitl [HD]; · iexact HD
    isplitl [HE]; · iexact HE
    iexact HW
  iintro ⟨HT, H4, HAcc, HA, HB, HC, HD, HE, HW⟩
  iapply (part9 arg0 harg0 arg1 harg1 arg2 harg2 arg3 harg3 arg4 harg4 arg5 harg5 arg6 harg6 arg7 harg7 arg8 harg8 arg9 harg9 arg10 harg10 arg11 harg11 arg12 harg12 arg13 arg14 c (k0_pay10 v296 v301 v306 (k0_pay1 v127 v291 c8 v309) (ew (mask v0 v3 v6 v9 v12 v15 v18 v21 v24 v27 v30 v33 v36 v39 v42 v45 v48 v51) k)) (k0_pay11 (F := F) v296 v306 (ew (mask v0 v3 v6 v9 v12 v15 v18 v21 v24 v27 v30 v33 v36 v39 v42 v45 v48 v51) k)) (expY (arg5.view.read (Elt F) f5) (arg6.view.read (Elt F) f6) XB S13 S2 (ord (mask v0 v3 v6 v9 v12 v15 v18 v21 v24 v27 v30 v33 v36 v39 v42 v45 v48 v51) k) (ord_lt (mask v0 v3 v6 v9 v12 v15 v18 v21 v24 v27 v30 v33 v36 v39 v42 v45 v48 v51) k)) X) $$ HAcc
  iintro HAcc
  iapply (part10 arg0 harg0 arg1 harg1 arg2 harg2 arg3 harg3 arg4 harg4 arg5 harg5 arg6 harg6 arg7 harg7 arg8 harg8 arg9 harg9 arg10 harg10 arg11 harg11 arg12 harg12 arg13 arg14 c (k0_pay10 v296 v301 v306 (k0_pay1 v127 v291 c8 v309) (ew (mask v0 v3 v6 v9 v12 v15 v18 v21 v24 v27 v30 v33 v36 v39 v42 v45 v48 v51) k)) (k0_pay11 (F := F) v296 v306 (ew (mask v0 v3 v6 v9 v12 v15 v18 v21 v24 v27 v30 v33 v36 v39 v42 v45 v48 v51) k)) (expY (arg5.view.read (Elt F) f5) (arg6.view.read (Elt F) f6) XB S13 S2 (ord (mask v0 v3 v6 v9 v12 v15 v18 v21 v24 v27 v30 v33 v36 v39 v42 v45 v48 v51) k) (ord_lt (mask v0 v3 v6 v9 v12 v15 v18 v21 v24 v27 v30 v33 v36 v39 v42 v45 v48 v51) k)) X) $$ HAcc
  iintro HAcc
  iapply (part11 arg0 harg0 arg1 harg1 arg2 harg2 arg3 harg3 arg4 harg4 arg5 harg5 arg6 harg6 arg7 harg7 arg8 harg8 arg9 harg9 arg10 harg10 arg11 harg11 arg12 harg12 arg13 arg14 c (k0_pay10 v296 v301 v306 (k0_pay1 v127 v291 c8 v309) (ew (mask v0 v3 v6 v9 v12 v15 v18 v21 v24 v27 v30 v33 v36 v39 v42 v45 v48 v51) k)) (k0_pay11 (F := F) v296 v306 (ew (mask v0 v3 v6 v9 v12 v15 v18 v21 v24 v27 v30 v33 v36 v39 v42 v45 v48 v51) k)) (expY (arg5.view.read (Elt F) f5) (arg6.view.read (Elt F) f6) XB S13 S2 (ord (mask v0 v3 v6 v9 v12 v15 v18 v21 v24 v27 v30 v33 v36 v39 v42 v45 v48 v51) k) (ord_lt (mask v0 v3 v6 v9 v12 v15 v18 v21 v24 v27 v30 v33 v36 v39 v42 v45 v48 v51) k)) X) $$ HAcc
  iintro HAcc
  iapply (part12 arg0 harg0 arg1 harg1 arg2 harg2 arg3 harg3 arg4 harg4 arg5 harg5 arg6 harg6 arg7 harg7 arg8 harg8 arg9 harg9 arg10 harg10 arg11 harg11 arg12 harg12 arg13 arg14 c (k0_pay10 v296 v301 v306 (k0_pay1 v127 v291 c8 v309) (ew (mask v0 v3 v6 v9 v12 v15 v18 v21 v24 v27 v30 v33 v36 v39 v42 v45 v48 v51) k)) (k0_pay11 (F := F) v296 v306 (ew (mask v0 v3 v6 v9 v12 v15 v18 v21 v24 v27 v30 v33 v36 v39 v42 v45 v48 v51) k)) (expY (arg5.view.read (Elt F) f5) (arg6.view.read (Elt F) f6) XB S13 S2 (ord (mask v0 v3 v6 v9 v12 v15 v18 v21 v24 v27 v30 v33 v36 v39 v42 v45 v48 v51) k) (ord_lt (mask v0 v3 v6 v9 v12 v15 v18 v21 v24 v27 v30 v33 v36 v39 v42 v45 v48 v51) k)) X) $$ HAcc
  iintro HAcc
  iapply (part13 arg0 harg0 arg1 harg1 arg2 harg2 arg3 harg3 arg4 harg4 arg5 harg5 arg6 harg6 arg7 harg7 arg8 harg8 arg9 harg9 arg10 harg10 arg11 harg11 arg12 harg12 arg13 arg14 c (k0_pay10 v296 v301 v306 (k0_pay1 v127 v291 c8 v309) (ew (mask v0 v3 v6 v9 v12 v15 v18 v21 v24 v27 v30 v33 v36 v39 v42 v45 v48 v51) k)) (k0_pay11 (F := F) v296 v306 (ew (mask v0 v3 v6 v9 v12 v15 v18 v21 v24 v27 v30 v33 v36 v39 v42 v45 v48 v51) k)) (expY (arg5.view.read (Elt F) f5) (arg6.view.read (Elt F) f6) XB S13 S2 (ord (mask v0 v3 v6 v9 v12 v15 v18 v21 v24 v27 v30 v33 v36 v39 v42 v45 v48 v51) k) (ord_lt (mask v0 v3 v6 v9 v12 v15 v18 v21 v24 v27 v30 v33 v36 v39 v42 v45 v48 v51) k)) X) $$ HAcc
  iintro HAcc
  iapply (wp_loadH Variants.none (c : Thread nD τ) none) $$ HAcc
  iintro HAcc
  iapply (wp_tile c 2560 2688 (by decide) (by decide) slices_S16x2816_o0_2560_S16x128 (w := _) rfl) $$ HAcc
  iintro HAcc
  iapply (wp_loadH Variants.none (c : Thread nD τ) none) $$ HAcc
  iintro HAcc
  iapply (wp_loadH Variants.none (c : Thread nD τ) none) $$ HAcc
  iintro HAcc
  iapply (wp_tile c 2688 2816 (by decide) (by decide) slices_S16x2816_o0_2688_S16x128 (w := _) rfl) $$ HAcc
  iintro HAcc
  iapply (wp_done c)
  isplitl [HT]; · iexact HT
  isplitl [HX]; · iexact HX
  isplitl [H3]; · iexact H3
  isplitl [H4]; · iexact H4
  isplitl [HAcc]; · iexact HAcc
  isplitl [HA]; · iexact HA
  isplitl [HB]; · iexact HB
  isplitl [HC]; · iexact HC
  isplitl [HD]; · iexact HD
  isplitl [HE]; · iexact HE
  iexact HW

end Cert.Kernel.Hand

end
-- ==== Proof.FloatLoop.lean ====
/-
  The ring of slots, and the loop over the active experts.
-/
module

public import proofs.«01_k».proof.Proof.FloatTrip

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MoeWords Cert.MoeRing

variable {F : FTy → Type} [FloatOps F]

local notation "𝕄" => MT nD τ sig Unit (Elt F) ℕ (Pipeline.UD sig nD τ) ℕ

section Ring

variable (c : Dev nD) (arg5 : Memref sig .tc .hbm S8x2816x2816 .i8) (arg6 : Memref sig .tc .hbm S8x1408x2816 .i8)
  (arg8 : Memref sig .tc .vmem S4x2816x2816 .i8) (arg9 : Memref sig .tc .vmem S4x1408x2816 .i8)
  (arg13 : DmaSems sig S4x3) (arg14 : DmaSems sig S4x2)
  (q5 : Fin 12 → PosShare TreeShare) (q6 : Fin 8 → PosShare TreeShare)
  (f5 : Buf (Elt F) (arg5.view.loc (c : Thread nD τ))) (f6 : Buf (Elt F) (arg6.view.loc (c : Thread nD τ))) (m : BitVec 32)

/-- A slot of the ring, the next position it serves being `j`. -/
def Slot (x : ℕ) (hx : x < 4) (j : ℕ) : sProp 𝕄 :=
  iprop((gA c arg5 arg8 arg13 q5 f5 x hx).Next m j ∗ (gB c arg5 arg8 arg13 q5 f5 x hx).Next m j ∗ (gC c arg5 arg8 arg13 q5 f5 x hx).Next m j
    ∗ (gD c arg6 arg9 arg14 q6 f6 x hx).Next m j ∗ (gE c arg6 arg9 arg14 q6 f6 x hx).Next m j)

/-- A slot with no copy in flight. -/
def Rest (x : ℕ) (hx : x < 4) : sProp 𝕄 :=
  iprop((gA c arg5 arg8 arg13 q5 f5 x hx).Free ∗ (gB c arg5 arg8 arg13 q5 f5 x hx).Free ∗ (gC c arg5 arg8 arg13 q5 f5 x hx).Free
    ∗ (gD c arg6 arg9 arg14 q6 f6 x hx).Free ∗ (gE c arg6 arg9 arg14 q6 f6 x hx).Free)

theorem slot_rest (x : ℕ) (hx : x < 4) (j : ℕ) (hj : act m ≤ j) : Slot c arg5 arg6 arg8 arg9 arg13 arg14 q5 q6 f5 f6 m x hx j = Rest c arg5 arg6 arg8 arg9 arg13 arg14 q5 q6 f5 f6 x hx := by
  unfold Slot Rest Grp.Next
  rw [if_neg (by omega), if_neg (by omega), if_neg (by omega), if_neg (by omega), if_neg (by omega)]

theorem slot_fly (x : ℕ) (hx : x < 4) (j : ℕ) (hj : j < act m) : Slot c arg5 arg6 arg8 arg9 arg13 arg14 q5 q6 f5 f6 m x hx j = iprop((gA c arg5 arg8 arg13 q5 f5 x hx).Fly m j ∗ (gB c arg5 arg8 arg13 q5 f5 x hx).Fly m j ∗ (gC c arg5 arg8 arg13 q5 f5 x hx).Fly m j
    ∗ (gD c arg6 arg9 arg14 q6 f6 x hx).Fly m j ∗ (gE c arg6 arg9 arg14 q6 f6 x hx).Fly m j) := by
  unfold Slot Grp.Next
  rw [if_pos hj, if_pos hj, if_pos hj, if_pos hj, if_pos hj]

/-- The next position slot `x` serves, before trip `k`. -/
def nxt (k x : ℕ) : ℕ := k + (x + 4 - k % 4) % 4

/-- The ring before trip `k`. -/
def RingAt (k : ℕ) : sProp 𝕄 :=
  iprop(Slot c arg5 arg6 arg8 arg9 arg13 arg14 q5 q6 f5 f6 m 0 (by decide) (nxt k 0) ∗ Slot c arg5 arg6 arg8 arg9 arg13 arg14 q5 q6 f5 f6 m 1 (by decide) (nxt k 1)
    ∗ Slot c arg5 arg6 arg8 arg9 arg13 arg14 q5 q6 f5 f6 m 2 (by decide) (nxt k 2) ∗ Slot c arg5 arg6 arg8 arg9 arg13 arg14 q5 q6 f5 f6 m 3 (by decide) (nxt k 3))

theorem ring_rest (k : ℕ) (hk : act m ≤ k) : RingAt c arg5 arg6 arg8 arg9 arg13 arg14 q5 q6 f5 f6 m k ⊢ iprop(Rest c arg5 arg6 arg8 arg9 arg13 arg14 q5 q6 f5 f6 0 (by decide) ∗ Rest c arg5 arg6 arg8 arg9 arg13 arg14 q5 q6 f5 f6 1 (by decide)
    ∗ Rest c arg5 arg6 arg8 arg9 arg13 arg14 q5 q6 f5 f6 2 (by decide) ∗ Rest c arg5 arg6 arg8 arg9 arg13 arg14 q5 q6 f5 f6 3 (by decide)) := by
  unfold RingAt
  rw [slot_rest, slot_rest, slot_rest, slot_rest] <;> (unfold nxt; omega)

/-- The slot of trip `k`. -/
theorem ring_focus (k r : ℕ) (hr : r = k % 4) (hx : r < 4) :
    RingAt c arg5 arg6 arg8 arg9 arg13 arg14 q5 q6 f5 f6 m k ⊢ iprop(Slot c arg5 arg6 arg8 arg9 arg13 arg14 q5 q6 f5 f6 m r hx k ∗ (Slot c arg5 arg6 arg8 arg9 arg13 arg14 q5 q6 f5 f6 m r hx (k + 4) -∗ RingAt c arg5 arg6 arg8 arg9 arg13 arg14 q5 q6 f5 f6 m (k + 1))) := by
  unfold RingAt
  have cases4 : r = 0 ∨ r = 1 ∨ r = 2 ∨ r = 3 := by omega
  rcases cases4 with h | h | h | h <;> subst h
  · rw [show nxt k 0 = k from by unfold nxt; omega, show nxt k 1 = k + 1 from by unfold nxt; omega, show nxt k 2 = k + 2 from by unfold nxt; omega, show nxt k 3 = k + 3 from by unfold nxt; omega]
    rw [show nxt (k + 1) 0 = k + 4 from by unfold nxt; omega, show nxt (k + 1) 1 = k + 1 from by unfold nxt; omega, show nxt (k + 1) 2 = k + 2 from by unfold nxt; omega, show nxt (k + 1) 3 = k + 3 from by unfold nxt; omega]
    iintro ⟨H0, H1, H2, H3⟩
    isplitl [H0]; · iexact H0
    iintro H0
    isplitl [H0]; · iexact H0
    isplitl [H1]; · iexact H1
    isplitl [H2]; · iexact H2
    iexact H3
  · rw [show nxt k 0 = k + 3 from by unfold nxt; omega, show nxt k 1 = k from by unfold nxt; omega, show nxt k 2 = k + 1 from by unfold nxt; omega, show nxt k 3 = k + 2 from by unfold nxt; omega]
    rw [show nxt (k + 1) 0 = k + 3 from by unfold nxt; omega, show nxt (k + 1) 1 = k + 4 from by unfold nxt; omega, show nxt (k + 1) 2 = k + 1 from by unfold nxt; omega, show nxt (k + 1) 3 = k + 2 from by unfold nxt; omega]
    iintro ⟨H0, H1, H2, H3⟩
    isplitl [H1]; · iexact H1
    iintro H1
    isplitl [H0]; · iexact H0
    isplitl [H1]; · iexact H1
    isplitl [H2]; · iexact H2
    iexact H3
  · rw [show nxt k 0 = k + 2 from by unfold nxt; omega, show nxt k 1 = k + 3 from by unfold nxt; omega, show nxt k 2 = k from by unfold nxt; omega, show nxt k 3 = k + 1 from by unfold nxt; omega]
    rw [show nxt (k + 1) 0 = k + 2 from by unfold nxt; omega, show nxt (k + 1) 1 = k + 3 from by unfold nxt; omega, show nxt (k + 1) 2 = k + 4 from by unfold nxt; omega, show nxt (k + 1) 3 = k + 1 from by unfold nxt; omega]
    iintro ⟨H0, H1, H2, H3⟩
    isplitl [H2]; · iexact H2
    iintro H2
    isplitl [H0]; · iexact H0
    isplitl [H1]; · iexact H1
    isplitl [H2]; · iexact H2
    iexact H3
  · rw [show nxt k 0 = k + 1 from by unfold nxt; omega, show nxt k 1 = k + 2 from by unfold nxt; omega, show nxt k 2 = k + 3 from by unfold nxt; omega, show nxt k 3 = k from by unfold nxt; omega]
    rw [show nxt (k + 1) 0 = k + 1 from by unfold nxt; omega, show nxt (k + 1) 1 = k + 2 from by unfold nxt; omega, show nxt (k + 1) 2 = k + 3 from by unfold nxt; omega, show nxt (k + 1) 3 = k + 4 from by unfold nxt; omega]
    iintro ⟨H0, H1, H2, H3⟩
    isplitl [H3]; · iexact H3
    iintro H3
    isplitl [H0]; · iexact H0
    isplitl [H1]; · iexact H1
    isplitl [H2]; · iexact H2
    iexact H3

end Ring

variable (arg0 : Memref sig .tc .smem S9x2 .i32) (harg0 : arg0.IsWhole) (arg1 : Memref sig .tc .smem S9x2 .f32) (harg1 : arg1.IsWhole) (arg2 : Memref sig .tc .vmem S9x2816 .bf16) (harg2 : arg2.IsWhole) (arg3 : Memref sig .tc .vmem S8x2816 .f32) (harg3 : arg3.IsWhole) (arg4 : Memref sig .tc .vmem S8x2816 .f32) (harg4 : arg4.IsWhole) (arg5 : Memref sig .tc .hbm S8x2816x2816 .i8) (harg5 : arg5.IsWhole) (arg6 : Memref sig .tc .hbm S8x1408x2816 .i8) (harg6 : arg6.IsWhole) (arg7 : Memref sig .tc .vmem S9x2816 .bf16) (harg7 : arg7.IsWhole) (arg8 : Memref sig .tc .vmem S4x2816x2816 .i8) (harg8 : arg8.IsWhole) (arg9 : Memref sig .tc .vmem S4x1408x2816 .i8) (harg9 : arg9.IsWhole) (arg10 : Memref sig .tc .vmem S16x2816 .bf16) (harg10 : arg10.IsWhole) (arg11 : Memref sig .tc .vmem S16x2816 .f32) (harg11 : arg11.IsWhole) (arg12 : Memref sig .tc .smem S8 .i32) (harg12 : arg12.IsWhole) (arg13 : DmaSems sig S4x3) (arg14 : DmaSems sig S4x2)
variable (v0 v3 v6 v9 v12 v15 v18 v21 v24 v27 v30 v33 v36 v39 v42 v45 v48 v51 : BitVec 32)
variable (c : Dev nD)
  (q5 : Fin 12 → PosShare TreeShare) (q6 : Fin 8 → PosShare TreeShare)
  (f5 : Buf (Elt F) (arg5.view.loc (c : Thread nD τ))) (f6 : Buf (Elt F) (arg6.view.loc (c : Thread nD τ)))

/-- One trip, on the whole ring. -/
theorem trip_ring (hw1 : k0_chk1 v0 v3 v6 v9 v12 v15 v18 v21 v24 v27 v30 v33 v36 v39 v42 v45 v48 v51) (v101 : BitVec 32) (v127 : IVec S16x128 32) (v291 : FVec F S16x128 .f32) (v296 : IVec S16x128 32) (v301 : FVec F S16x128 .f32) (v306 : IVec S16x128 32) (c8 : BitVec 32) (v309 : Elt F .f32)
    (XB : S16x2816.Idx → Elt F .bf16) (S13 S2 : S8x2816.Idx → Elt F .f32) (X : S16x2816.Idx → Elt F .f32) (t : Fin (k0_t1_loop v0 v3 v6 v9 v12 v15 v18 v21 v24 v27 v30 v33 v36 v39 v42 v45 v48 v51).trips) :
    iprop(Table (F := F) c arg12 (mask v0 v3 v6 v9 v12 v15 v18 v21 v24 v27 v30 v33 v36 v39 v42 v45 v48 v51) 8
        ∗ Holds (Val := Elt F) (c : Thread nD τ) arg10 XB
        ∗ Holds (Val := Elt F) (c : Thread nD τ) arg3 S13
        ∗ Holds (Val := Elt F) (c : Thread nD τ) arg4 S2
        ∗ Holds (Val := Elt F) (c : Thread nD τ) arg11 (accN (arg5.view.read (Elt F) f5) (arg6.view.read (Elt F) f6) XB S13 S2 v296 v301 v306 (k0_pay1 v127 v291 c8 v309) X (mask v0 v3 v6 v9 v12 v15 v18 v21 v24 v27 v30 v33 v36 v39 v42 v45 v48 v51) t.val)
        ∗ RingAt c arg5 arg6 arg8 arg9 arg13 arg14 q5 q6 f5 f6 (mask v0 v3 v6 v9 v12 v15 v18 v21 v24 v27 v30 v33 v36 v39 v42 v45 v48 v51) t.val
        ∗ (∃ W, owes (c : Thread nD τ) 0 W))
      ⊢ wp frame (wpE (defs₀ (F := F)) Variants.none (c : Thread nD τ) none) Set.univ (k0_t1_body arg0 harg0 arg1 harg1 arg2 harg2 arg3 harg3 arg4 harg4 arg5 harg5 arg6 harg6 arg7 harg7 arg8 harg8 arg9 harg9 arg10 harg10 arg11 harg11 arg12 harg12 arg13 arg14 v0 v3 v6 v9 v12 v15 v18 v21 v24 v27 v30 v33 v36 v39 v42 v45 v48 v51 hw1 v101 v127 v291 v296 v301 v306 c8 v309 t ()) (fun _ => iprop(Table (F := F) c arg12 (mask v0 v3 v6 v9 v12 v15 v18 v21 v24 v27 v30 v33 v36 v39 v42 v45 v48 v51) 8
        ∗ Holds (Val := Elt F) (c : Thread nD τ) arg10 XB
        ∗ Holds (Val := Elt F) (c : Thread nD τ) arg3 S13
        ∗ Holds (Val := Elt F) (c : Thread nD τ) arg4 S2
        ∗ Holds (Val := Elt F) (c : Thread nD τ) arg11 (accN (arg5.view.read (Elt F) f5) (arg6.view.read (Elt F) f6) XB S13 S2 v296 v301 v306 (k0_pay1 v127 v291 c8 v309) X (mask v0 v3 v6 v9 v12 v15 v18 v21 v24 v27 v30 v33 v36 v39 v42 v45 v48 v51) (t.val + 1))
        ∗ RingAt c arg5 arg6 arg8 arg9 arg13 arg14 q5 q6 f5 f6 (mask v0 v3 v6 v9 v12 v15 v18 v21 v24 v27 v30 v33 v36 v39 v42 v45 v48 v51) (t.val + 1)
        ∗ (∃ W, owes (c : Thread nD τ) 0 W))) := by
  have hka : t.val < act (mask v0 v3 v6 v9 v12 v15 v18 v21 v24 v27 v30 v33 v36 v39 v42 v45 v48 v51) := t1_lt t
  have hx : t.val % 4 < 4 := Nat.mod_lt _ (by decide)
  iintro ⟨HT, HX, H3, H4, HAcc, HR, HW⟩
  ihave HR := (ring_focus c arg5 arg6 arg8 arg9 arg13 arg14 q5 q6 f5 f6 (mask v0 v3 v6 v9 v12 v15 v18 v21 v24 v27 v30 v33 v36 v39 v42 v45 v48 v51) t.val (t.val % 4) rfl hx) $$ HR
  icases HR with ⟨HS, HR⟩
  ihave HS := (show Slot c arg5 arg6 arg8 arg9 arg13 arg14 q5 q6 f5 f6 (mask v0 v3 v6 v9 v12 v15 v18 v21 v24 v27 v30 v33 v36 v39 v42 v45 v48 v51) (t.val % 4) hx t.val ⊢ _ from .of_eq (slot_fly c arg5 arg6 arg8 arg9 arg13 arg14 q5 q6 f5 f6 (mask v0 v3 v6 v9 v12 v15 v18 v21 v24 v27 v30 v33 v36 v39 v42 v45 v48 v51) (t.val % 4) hx t.val hka)) $$ HS
  icases HS with ⟨HA, HB, HC, HD, HE⟩
  iapply (wp_wand_r _ _ _)
  isplitl [HT HX H3 H4 HAcc HA HB HC HD HE HW]
  · iapply (trip arg0 harg0 arg1 harg1 arg2 harg2 arg3 harg3 arg4 harg4 arg5 harg5 arg6 harg6 arg7 harg7 arg8 harg8 arg9 harg9 arg10 harg10 arg11 harg11 arg12 harg12 arg13 arg14 v0 v3 v6 v9 v12 v15 v18 v21 v24 v27 v30 v33 v36 v39 v42 v45 v48 v51 c q5 q6 f5 f6 hw1 t v101 v127 v291 v296 v301 v306 c8 v309 XB S13 S2 _ t.val rfl hka hx) $$ [HT HX H3 H4 HAcc HA HB HC HD HE HW]
    isplitl [HT]; · iexact HT
    isplitl [HX]; · iexact HX
    isplitl [H3]; · iexact H3
    isplitl [H4]; · iexact H4
    isplitl [HAcc]; · iexact HAcc
    isplitl [HA]; · iexact HA
    isplitl [HB]; · iexact HB
    isplitl [HC]; · iexact HC
    isplitl [HD]; · iexact HD
    isplitl [HE]; · iexact HE
    iexact HW
  iintro %u ⟨HT, HX, H3, H4, HAcc, HA, HB, HC, HD, HE, HW⟩
  isplitl [HT]; · iexact HT
  isplitl [HX]; · iexact HX
  isplitl [H3]; · iexact H3
  isplitl [H4]; · iexact H4
  isplitl [HAcc]; · iexact HAcc
  isplitl [HR HA HB HC HD HE]
  · iapply HR
    unfold Slot
    isplitl [HA]; · iexact HA
    isplitl [HB]; · iexact HB
    isplitl [HC]; · iexact HC
    isplitl [HD]; · iexact HD
    iexact HE
  iexact HW

/-- The loop over the active experts. -/
theorem loop1 {α : Type} {Q : α → sProp 𝕄} (hw1 : k0_chk1 v0 v3 v6 v9 v12 v15 v18 v21 v24 v27 v30 v33 v36 v39 v42 v45 v48 v51) (v101 : BitVec 32) (v127 : IVec S16x128 32) (v291 : FVec F S16x128 .f32) (v296 : IVec S16x128 32) (v301 : FVec F S16x128 .f32) (v306 : IVec S16x128 32) (c8 : BitVec 32) (v309 : Elt F .f32)
    (XB : S16x2816.Idx → Elt F .bf16) (S13 S2 : S8x2816.Idx → Elt F .f32) (X : S16x2816.Idx → Elt F .f32)
    {kk : Unit → Prog (TpuEff nD τ sig (Elt F) Λ₀ .tc) α} :
    iprop(Table (F := F) c arg12 (mask v0 v3 v6 v9 v12 v15 v18 v21 v24 v27 v30 v33 v36 v39 v42 v45 v48 v51) 8
        ∗ Holds (Val := Elt F) (c : Thread nD τ) arg10 XB
        ∗ Holds (Val := Elt F) (c : Thread nD τ) arg3 S13
        ∗ Holds (Val := Elt F) (c : Thread nD τ) arg4 S2
        ∗ Holds (Val := Elt F) (c : Thread nD τ) arg11 (accN (arg5.view.read (Elt F) f5) (arg6.view.read (Elt F) f6) XB S13 S2 v296 v301 v306 (k0_pay1 v127 v291 c8 v309) X (mask v0 v3 v6 v9 v12 v15 v18 v21 v24 v27 v30 v33 v36 v39 v42 v45 v48 v51) 0)
        ∗ RingAt c arg5 arg6 arg8 arg9 arg13 arg14 q5 q6 f5 f6 (mask v0 v3 v6 v9 v12 v15 v18 v21 v24 v27 v30 v33 v36 v39 v42 v45 v48 v51) 0
        ∗ (∃ W, owes (c : Thread nD τ) 0 W))
      ⊢ iprop((iprop(Table (F := F) c arg12 (mask v0 v3 v6 v9 v12 v15 v18 v21 v24 v27 v30 v33 v36 v39 v42 v45 v48 v51) 8
        ∗ Holds (Val := Elt F) (c : Thread nD τ) arg10 XB
        ∗ Holds (Val := Elt F) (c : Thread nD τ) arg3 S13
        ∗ Holds (Val := Elt F) (c : Thread nD τ) arg4 S2
        ∗ Holds (Val := Elt F) (c : Thread nD τ) arg11 (accN (arg5.view.read (Elt F) f5) (arg6.view.read (Elt F) f6) XB S13 S2 v296 v301 v306 (k0_pay1 v127 v291 c8 v309) X (mask v0 v3 v6 v9 v12 v15 v18 v21 v24 v27 v30 v33 v36 v39 v42 v45 v48 v51) (act (mask v0 v3 v6 v9 v12 v15 v18 v21 v24 v27 v30 v33 v36 v39 v42 v45 v48 v51)))
        ∗ RingAt c arg5 arg6 arg8 arg9 arg13 arg14 q5 q6 f5 f6 (mask v0 v3 v6 v9 v12 v15 v18 v21 v24 v27 v30 v33 v36 v39 v42 v45 v48 v51) (act (mask v0 v3 v6 v9 v12 v15 v18 v21 v24 v27 v30 v33 v36 v39 v42 v45 v48 v51))
        ∗ (∃ W, owes (c : Thread nD τ) 0 W)) -∗ wp frame (wpE (defs₀ (F := F)) Variants.none (c : Thread nD τ) none) Set.univ (kk ()) Q)
        -∗ wp frame (wpE (defs₀ (F := F)) Variants.none (c : Thread nD τ) none) Set.univ (Scf.Loop.for (k0_t1_loop v0 v3 v6 v9 v12 v15 v18 v21 v24 v27 v30 v33 v36 v39 v42 v45 v48 v51) (k0_t1_ok v0 v3 v6 v9 v12 v15 v18 v21 v24 v27 v30 v33 v36 v39 v42 v45 v48 v51 hw1) ⟨⟩ (k0_t1_body arg0 harg0 arg1 harg1 arg2 harg2 arg3 harg3 arg4 harg4 arg5 harg5 arg6 harg6 arg7 harg7 arg8 harg8 arg9 harg9 arg10 harg10 arg11 harg11 arg12 harg12 arg13 arg14 v0 v3 v6 v9 v12 v15 v18 v21 v24 v27 v30 v33 v36 v39 v42 v45 v48 v51 hw1 v101 v127 v291 v296 v301 v306 c8 v309) >>= kk) Q) := by
  iintro H HK
  iapply (Scf.wp_for_bind _ _ _ _ _ _ (k0_t1_ok v0 v3 v6 v9 v12 v15 v18 v21 v24 v27 v30 v33 v36 v39 v42 v45 v48 v51 hw1) () (k0_t1_body arg0 harg0 arg1 harg1 arg2 harg2 arg3 harg3 arg4 harg4 arg5 harg5 arg6 harg6 arg7 harg7 arg8 harg8 arg9 harg9 arg10 harg10 arg11 harg11 arg12 harg12 arg13 arg14 v0 v3 v6 v9 v12 v15 v18 v21 v24 v27 v30 v33 v36 v39 v42 v45 v48 v51 hw1 v101 v127 v291 v296 v301 v306 c8 v309)
    (fun k _ => iprop(Table (F := F) c arg12 (mask v0 v3 v6 v9 v12 v15 v18 v21 v24 v27 v30 v33 v36 v39 v42 v45 v48 v51) 8
        ∗ Holds (Val := Elt F) (c : Thread nD τ) arg10 XB
        ∗ Holds (Val := Elt F) (c : Thread nD τ) arg3 S13
        ∗ Holds (Val := Elt F) (c : Thread nD τ) arg4 S2
        ∗ Holds (Val := Elt F) (c : Thread nD τ) arg11 (accN (arg5.view.read (Elt F) f5) (arg6.view.read (Elt F) f6) XB S13 S2 v296 v301 v306 (k0_pay1 v127 v291 c8 v309) X (mask v0 v3 v6 v9 v12 v15 v18 v21 v24 v27 v30 v33 v36 v39 v42 v45 v48 v51) k)
        ∗ RingAt c arg5 arg6 arg8 arg9 arg13 arg14 q5 q6 f5 f6 (mask v0 v3 v6 v9 v12 v15 v18 v21 v24 v27 v30 v33 v36 v39 v42 v45 v48 v51) k
        ∗ (∃ W, owes (c : Thread nD τ) 0 W))) (fun k u => trip_ring arg0 harg0 arg1 harg1 arg2 harg2 arg3 harg3 arg4 harg4 arg5 harg5 arg6 harg6 arg7 harg7 arg8 harg8 arg9 harg9 arg10 harg10 arg11 harg11 arg12 harg12 arg13 arg14 v0 v3 v6 v9 v12 v15 v18 v21 v24 v27 v30 v33 v36 v39 v42 v45 v48 v51 c q5 q6 f5 f6 hw1 v101 v127 v291 v296 v301 v306 c8 v309 XB S13 S2 X k)) $$ H
  iintro %u H
  iapply HK
  ihave H := (show iprop(Table (F := F) c arg12 (mask v0 v3 v6 v9 v12 v15 v18 v21 v24 v27 v30 v33 v36 v39 v42 v45 v48 v51) 8
        ∗ Holds (Val := Elt F) (c : Thread nD τ) arg10 XB
        ∗ Holds (Val := Elt F) (c : Thread nD τ) arg3 S13
        ∗ Holds (Val := Elt F) (c : Thread nD τ) arg4 S2
        ∗ Holds (Val := Elt F) (c : Thread nD τ) arg11 (accN (arg5.view.read (Elt F) f5) (arg6.view.read (Elt F) f6) XB S13 S2 v296 v301 v306 (k0_pay1 v127 v291 c8 v309) X (mask v0 v3 v6 v9 v12 v15 v18 v21 v24 v27 v30 v33 v36 v39 v42 v45 v48 v51) (Scf.trips (k0_t1_loop v0 v3 v6 v9 v12 v15 v18 v21 v24 v27 v30 v33 v36 v39 v42 v45 v48 v51).lb (k0_t1_loop v0 v3 v6 v9 v12 v15 v18 v21 v24 v27 v30 v33 v36 v39 v42 v45 v48 v51).ub (k0_t1_loop v0 v3 v6 v9 v12 v15 v18 v21 v24 v27 v30 v33 v36 v39 v42 v45 v48 v51).st))
        ∗ RingAt c arg5 arg6 arg8 arg9 arg13 arg14 q5 q6 f5 f6 (mask v0 v3 v6 v9 v12 v15 v18 v21 v24 v27 v30 v33 v36 v39 v42 v45 v48 v51) (Scf.trips (k0_t1_loop v0 v3 v6 v9 v12 v15 v18 v21 v24 v27 v30 v33 v36 v39 v42 v45 v48 v51).lb (k0_t1_loop v0 v3 v6 v9 v12 v15 v18 v21 v24 v27 v30 v33 v36 v39 v42 v45 v48 v51).ub (k0_t1_loop v0 v3 v6 v9 v12 v15 v18 v21 v24 v27 v30 v33 v36 v39 v42 v45 v48 v51).st)
        ∗ (∃ W, owes (c : Thread nD τ) 0 W)) ⊢ iprop(Table (F := F) c arg12 (mask v0 v3 v6 v9 v12 v15 v18 v21 v24 v27 v30 v33 v36 v39 v42 v45 v48 v51) 8
        ∗ Holds (Val := Elt F) (c : Thread nD τ) arg10 XB
        ∗ Holds (Val := Elt F) (c : Thread nD τ) arg3 S13
        ∗ Holds (Val := Elt F) (c : Thread nD τ) arg4 S2
        ∗ Holds (Val := Elt F) (c : Thread nD τ) arg11 (accN (arg5.view.read (Elt F) f5) (arg6.view.read (Elt F) f6) XB S13 S2 v296 v301 v306 (k0_pay1 v127 v291 c8 v309) X (mask v0 v3 v6 v9 v12 v15 v18 v21 v24 v27 v30 v33 v36 v39 v42 v45 v48 v51) (act (mask v0 v3 v6 v9 v12 v15 v18 v21 v24 v27 v30 v33 v36 v39 v42 v45 v48 v51)))
        ∗ RingAt c arg5 arg6 arg8 arg9 arg13 arg14 q5 q6 f5 f6 (mask v0 v3 v6 v9 v12 v15 v18 v21 v24 v27 v30 v33 v36 v39 v42 v45 v48 v51) (act (mask v0 v3 v6 v9 v12 v15 v18 v21 v24 v27 v30 v33 v36 v39 v42 v45 v48 v51))
        ∗ (∃ W, owes (c : Thread nD τ) 0 W)) from by
    rw [show Scf.trips (k0_t1_loop v0 v3 v6 v9 v12 v15 v18 v21 v24 v27 v30 v33 v36 v39 v42 v45 v48 v51).lb (k0_t1_loop v0 v3 v6 v9 v12 v15 v18 v21 v24 v27 v30 v33 v36 v39 v42 v45 v48 v51).ub (k0_t1_loop v0 v3 v6 v9 v12 v15 v18 v21 v24 v27 v30 v33 v36 v39 v42 v45 v48 v51).st = act (mask v0 v3 v6 v9 v12 v15 v18 v21 v24 v27 v30 v33 v36 v39 v42 v45 v48 v51) from trips1]) $$ H
  iexact H

end Cert.Kernel.Hand

end
-- ==== Proof.FloatPrefix.lean ====
/-
  What runs before the loop.
-/
module

public import proofs.«01_k».proof.Proof.FloatStarts
public import proofs.«01_k».proof.Proof.FloatLoop
public import Idealize.ShloMosaic.Lib.Pointwise.Index

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MoeWords Cert.MoeRing

variable {F : FTy → Type} [FloatOps F]

local notation "𝕄" => MT nD τ sig Unit (Elt F) ℕ (Pipeline.UD sig nD τ) ℕ

section

variable (c : Dev nD)

theorem lt0_4 : 0 < 4 := by decide
theorem lt1_4 : 1 < 4 := by decide
theorem lt2_4 : 2 < 4 := by decide
theorem lt3_4 : 3 < 4 := by decide

theorem wp_pure {α β : Type} {Q : α → sProp 𝕄} {a : β} {kk : β → Prog (TpuEff nD τ sig (Elt F) Λ₀ .tc) α} :
    wp frame (wpE (defs₀ (F := F)) Variants.none (c : Thread nD τ) none) Set.univ (kk a) Q ⊢ wp frame (wpE (defs₀ (F := F)) Variants.none (c : Thread nD τ) none) Set.univ (Prog.bind (Prog.ret a) kk) Q := .rfl

/-- The index of row `i` and column `j` of the small arrays. -/
def at92 (i : Fin 9) (j : Fin 2) : S9x2.Idx := ix2 i j

theorem emb_at92 {off : Fin 2 → ℕ} {h : ∀ a, off a + S1x1.size a ≤ S9x2.size a} {i : Fin 9} {j : Fin 2} (ho : off = ![i.val, j.val])
    (x : (Rect.unit (s := S9x2) off S1x1.size h).shape.Idx) : (Rect.unit (s := S9x2) off S1x1.size h).emb x = at92 i j := by
  subst ho
  funext a
  apply Fin.ext
  rw [Rect.emb_apply]
  have hx := (x a).isLt
  fin_cases a
  · have : (x 0).val < 1 := hx
    change i.val + 1 * (x 0).val = i.val
    omega
  · have : (x 1).val < 1 := hx
    change j.val + 1 * (x 1).val = j.val
    omega

/-- The load of one word of a small array. -/
theorem wp_at {α : Type} {Q : α → sProp 𝕄} {e : EltTy} {m : Memref sig .tc .smem S9x2 e} {X : S9x2.Idx → Elt F e} (i : Fin 9) (j : Fin 2)
    {off : Fin 2 → ℕ} {h : ∀ a, off a + S1x1.size a ≤ S9x2.size a} {hl : m.view.LoadsAt (Rect.unit (s := S9x2) off S1x1.size h).toLoadRect}
    {k : (S1x1.Idx → Elt F e) → Prog (TpuEff nD τ sig (Elt F) Λ₀ .tc) α} (ho : off = ![i.val, j.val]) :
    Holds (Val := Elt F) (c : Thread nD τ) m X ⊢ iprop((Holds (Val := Elt F) (c : Thread nD τ) m X -∗ wp frame (wpE (defs₀ (F := F)) Variants.none (c : Thread nD τ) none) Set.univ (k (fun _ => X (at92 i j))) Q)
      -∗ wp frame (wpE (defs₀ (F := F)) Variants.none (c : Thread nD τ) none) Set.univ (.op (.load m (Rect.unit (s := S9x2) off S1x1.size h).toLoadRect hl) k) Q) := by
  iintro HT Hk
  iapply (wp_loadH Variants.none (c : Thread nD τ) none (X := X)) $$ HT
  iintro HT
  rw [show (fun x : (Rect.unit (s := S9x2) off S1x1.size h).shape.Idx => X ((Rect.unit (s := S9x2) off S1x1.size h).emb x)) = fun _ => X (at92 i j) from funext fun x => congrArg X (emb_at92 ho x)]
  iapply Hk
  iexact HT

/-- A branch whose two sides go on alike. -/
theorem wp_joinD {α β : Type} {Q : α → sProp 𝕄} {S S1 : sProp 𝕄} {C : Prop} {dec : Decidable C} {p : C → Prog (TpuEff nD τ sig (Elt F) Λ₀ .tc) β}
    {K : Prog (TpuEff nD τ sig (Elt F) Λ₀ .tc) β} {k : β → Prog (TpuEff nD τ sig (Elt F) Λ₀ .tc) α}
    (hK : S1 ⊢ wp frame (wpE (defs₀ (F := F)) Variants.none (c : Thread nD τ) none) Set.univ (Prog.bind K k) Q) (h1 : (S1 ⊢ wp frame (wpE (defs₀ (F := F)) Variants.none (c : Thread nD τ) none) Set.univ (Prog.bind K k) Q) → ∀ h : C, S ⊢ wp frame (wpE (defs₀ (F := F)) Variants.none (c : Thread nD τ) none) Set.univ (Prog.bind (p h) k) Q) (h2 : ¬C → S ⊢ S1) :
    S ⊢ wp frame (wpE (defs₀ (F := F)) Variants.none (c : Thread nD τ) none) Set.univ (Prog.bind (dite C p (fun _ => K)) k) Q := by
  by_cases h : C
  · rw [dif_pos h]; exact h1 hK h
  · rw [dif_neg h]; exact BIBase.Entails.trans (h2 h) hK

theorem wp_joinI {α β : Type} {Q : α → sProp 𝕄} {S S1 : sProp 𝕄} {C : Prop} {dec : Decidable C} {p : Prog (TpuEff nD τ sig (Elt F) Λ₀ .tc) β}
    {K : Prog (TpuEff nD τ sig (Elt F) Λ₀ .tc) β} {k : β → Prog (TpuEff nD τ sig (Elt F) Λ₀ .tc) α}
    (hK : S1 ⊢ wp frame (wpE (defs₀ (F := F)) Variants.none (c : Thread nD τ) none) Set.univ (Prog.bind K k) Q) (h1 : (S1 ⊢ wp frame (wpE (defs₀ (F := F)) Variants.none (c : Thread nD τ) none) Set.univ (Prog.bind K k) Q) → C → S ⊢ wp frame (wpE (defs₀ (F := F)) Variants.none (c : Thread nD τ) none) Set.univ (Prog.bind p k) Q) (h2 : ¬C → S ⊢ S1) :
    S ⊢ wp frame (wpE (defs₀ (F := F)) Variants.none (c : Thread nD τ) none) Set.univ (Prog.bind (ite C p K) k) Q := by
  by_cases h : C
  · rw [if_pos h]; exact h1 hK h
  · rw [if_neg h]; exact BIBase.Entails.trans (h2 h) hK

theorem Tab.put {m : BitVec 32} {e : ℕ} (he : e < 8) (hb : bit m e = 1#32) {T : S8.Idx → BitVec 32} (h : Tab m e T) :
    Tab m (e + 1) (fun i => if (i 0).val = num m e then BitVec.ofNat 32 e else T i) := by
  intro e' he' hb' i hi
  rcases Nat.lt_succ_iff_lt_or_eq.mp he' with hl | rfl
  · have hne : (i 0).val ≠ num m e := fun hh => absurd (num_inj m (by omega) he hb' hb (hi.symm.trans hh)) (by omega)
    show (if (i 0).val = num m e then _ else _) = _
    rw [if_neg hne]
    exact h e' hl hb' i hi
  · show (if (i 0).val = num m e' then _ else _) = _
    rw [if_pos hi]

theorem Tab.skip {m : BitVec 32} {e : ℕ} (hb : ¬bit m e = 1#32) {T : S8.Idx → BitVec 32} (h : Tab m e T) : Tab m (e + 1) T := by
  intro e' he' hb' i hi
  rcases Nat.lt_succ_iff_lt_or_eq.mp he' with hl | rfl
  · exact h e' hl hb' i hi
  · exact absurd hb' hb

theorem Table.skip {arg12 : Memref sig .tc .smem S8 .i32} {m : BitVec 32} {e : ℕ} (hb : ¬bit m e = 1#32) :
    Table (F := F) c arg12 m e ⊢ Table (F := F) c arg12 m (e + 1) := by
  unfold Table
  iintro ⟨%T, %hT, HT⟩
  iexists T
  isplitr
  · ipureintro; exact hT.skip hb
  iexact HT

/-- Writing an active expert into the table. -/
theorem wp_put {α : Type} {Q : α → sProp 𝕄} {arg12 : Memref sig .tc .smem S8 .i32} {m : BitVec 32} {e : ℕ} (he : e < 8) (hb : bit m e = 1#32)
    {off : Fin 1 → ℕ} {h : ∀ a, off a + S1.size a ≤ S8.size a} {hl : arg12.view.LoadsAt (Rect.unit (s := S8) off S1.size h).toLoadRect}
    {w : BitVec 32} {hx : (arg12.access (Rect.unit (s := S8) off S1.size h)).Stores Finset.univ}
    {hm : (Finset.univ : Finset (Rect.unit (s := S8) off S1.size h).shape.Idx) = Finset.univ ∨ ∀ a, (Rect.unit (s := S8) off S1.size h).stride a = 1}
    {k : PUnit → Prog (TpuEff nD τ sig (Elt F) Λ₀ .tc) α} (hoff : off = ![num m e]) (hw : w = BitVec.ofNat 32 e) :
    Table (F := F) c arg12 m e ⊢ iprop((Table (F := F) c arg12 m (e + 1) -∗ wp frame (wpE (defs₀ (F := F)) Variants.none (c : Thread nD τ) none) Set.univ (k ⟨⟩) Q)
      -∗ wp frame (wpE (defs₀ (F := F)) Variants.none (c : Thread nD τ) none) Set.univ (.op (.load arg12 (Rect.unit (s := S8) off S1.size h).toLoadRect hl) fun _ =>
        .op (.store arg12 (Rect.unit (s := S8) off S1.size h) (fun _ => w) Finset.univ hx hm) k) Q) := by
  subst hoff hw
  unfold Table
  iintro ⟨%T, %hT, HT⟩ Hk
  iapply (wp_loadH Variants.none (c : Thread nD τ) none (X := T)) $$ HT
  iintro HT
  iapply (wp_storeH Variants.none (c : Thread nD τ) none (X := T) (fun i => if (i 0).val = num m e then BitVec.ofNat 32 e else T i)
    (fun x => if_pos (emb_word _ x)) (fun y hy => if_neg fun hh => hy (by
      rw [Rect.mem_set_unit]
      intro a
      rw [Fin.eq_zero a]
      exact ⟨le_of_eq hh.symm, lt_of_eq_of_lt hh (Nat.lt_succ_self _)⟩))) $$ HT
  iintro HT
  iapply Hk
  iexists _
  isplitr
  · ipureintro; exact hT.put he hb
  iexact HT

section

variable (arg5 : Memref sig .tc .hbm S8x2816x2816 .i8) (arg6 : Memref sig .tc .hbm S8x1408x2816 .i8)
  (arg8 : Memref sig .tc .vmem S4x2816x2816 .i8) (arg9 : Memref sig .tc .vmem S4x1408x2816 .i8)
  (arg13 : DmaSems sig S4x3) (arg14 : DmaSems sig S4x2)
  (q5 : Fin 12 → PosShare TreeShare) (q6 : Fin 8 → PosShare TreeShare)
  (f5 : Buf (Elt F) (arg5.view.loc (c : Thread nD τ))) (f6 : Buf (Elt F) (arg6.view.loc (c : Thread nD τ)))

theorem rest_open (x : ℕ) (hx : x < 4) : Rest c arg5 arg6 arg8 arg9 arg13 arg14 q5 q6 f5 f6 x hx ⊢ iprop((gA c arg5 arg8 arg13 q5 f5 x hx).Free ∗ (gB c arg5 arg8 arg13 q5 f5 x hx).Free ∗ (gC c arg5 arg8 arg13 q5 f5 x hx).Free ∗ (gD c arg6 arg9 arg14 q6 f6 x hx).Free ∗ (gE c arg6 arg9 arg14 q6 f6 x hx).Free) := by
  unfold Rest; exact .rfl

theorem slot_mk (m : BitVec 32) (x : ℕ) (hx : x < 4) (j : ℕ) (hj : j < act m) : iprop((gA c arg5 arg8 arg13 q5 f5 x hx).Fly m j ∗ (gB c arg5 arg8 arg13 q5 f5 x hx).Fly m j ∗ (gC c arg5 arg8 arg13 q5 f5 x hx).Fly m j ∗ (gD c arg6 arg9 arg14 q6 f6 x hx).Fly m j ∗ (gE c arg6 arg9 arg14 q6 f6 x hx).Fly m j) ⊢ Slot c arg5 arg6 arg8 arg9 arg13 arg14 q5 q6 f5 f6 m x hx j :=
  .of_eq (slot_fly c arg5 arg6 arg8 arg9 arg13 arg14 q5 q6 f5 f6 m x hx j hj).symm

theorem slot_none (m : BitVec 32) (x : ℕ) (hx : x < 4) (j : ℕ) (hj : act m ≤ j) : Rest c arg5 arg6 arg8 arg9 arg13 arg14 q5 q6 f5 f6 x hx ⊢ Slot c arg5 arg6 arg8 arg9 arg13 arg14 q5 q6 f5 f6 m x hx j :=
  .of_eq (slot_rest c arg5 arg6 arg8 arg9 arg13 arg14 q5 q6 f5 f6 m x hx j hj).symm

end

theorem offH10 (m : BitVec 32) (j : ℕ) : k0_off10 (ew m j) = ![ord m j, 0, 0] := congrArg (fun x => ![x, 0, 0]) (ew_toNat m j)
theorem offH13 (m : BitVec 32) (j : ℕ) : k0_off13 (ew m j) = ![ord m j, 1024, 0] := congrArg (fun x => ![x, 1024, 0]) (ew_toNat m j)
theorem offH16 (m : BitVec 32) (j : ℕ) : k0_off16 (ew m j) = ![ord m j, 2048, 0] := congrArg (fun x => ![x, 2048, 0]) (ew_toNat m j)
theorem offH19 (m : BitVec 32) (j : ℕ) : k0_off19 (ew m j) = ![ord m j, 0, 0] := congrArg (fun x => ![x, 0, 0]) (ew_toNat m j)
theorem offH22 (m : BitVec 32) (j : ℕ) : k0_off22 (ew m j) = ![ord m j, 1024, 0] := congrArg (fun x => ![x, 1024, 0]) (ew_toNat m j)
theorem offH25 (m : BitVec 32) (j : ℕ) : k0_off25 (ew m j) = ![ord m j, 0, 0] := congrArg (fun x => ![x, 0, 0]) (ew_toNat m j)
theorem offH28 (m : BitVec 32) (j : ℕ) : k0_off28 (ew m j) = ![ord m j, 1024, 0] := congrArg (fun x => ![x, 1024, 0]) (ew_toNat m j)
theorem offH31 (m : BitVec 32) (j : ℕ) : k0_off31 (ew m j) = ![ord m j, 2048, 0] := congrArg (fun x => ![x, 2048, 0]) (ew_toNat m j)
theorem offH34 (m : BitVec 32) (j : ℕ) : k0_off34 (ew m j) = ![ord m j, 0, 0] := congrArg (fun x => ![x, 0, 0]) (ew_toNat m j)
theorem offH37 (m : BitVec 32) (j : ℕ) : k0_off37 (ew m j) = ![ord m j, 1024, 0] := congrArg (fun x => ![x, 1024, 0]) (ew_toNat m j)
theorem offH40 (m : BitVec 32) (j : ℕ) : k0_off40 (ew m j) = ![ord m j, 0, 0] := congrArg (fun x => ![x, 0, 0]) (ew_toNat m j)
theorem offH43 (m : BitVec 32) (j : ℕ) : k0_off43 (ew m j) = ![ord m j, 1024, 0] := congrArg (fun x => ![x, 1024, 0]) (ew_toNat m j)
theorem offH46 (m : BitVec 32) (j : ℕ) : k0_off46 (ew m j) = ![ord m j, 2048, 0] := congrArg (fun x => ![x, 2048, 0]) (ew_toNat m j)
theorem offH49 (m : BitVec 32) (j : ℕ) : k0_off49 (ew m j) = ![ord m j, 0, 0] := congrArg (fun x => ![x, 0, 0]) (ew_toNat m j)
theorem offH52 (m : BitVec 32) (j : ℕ) : k0_off52 (ew m j) = ![ord m j, 1024, 0] := congrArg (fun x => ![x, 1024, 0]) (ew_toNat m j)
theorem offH55 (m : BitVec 32) (j : ℕ) : k0_off55 (ew m j) = ![ord m j, 0, 0] := congrArg (fun x => ![x, 0, 0]) (ew_toNat m j)
theorem offH58 (m : BitVec 32) (j : ℕ) : k0_off58 (ew m j) = ![ord m j, 1024, 0] := congrArg (fun x => ![x, 1024, 0]) (ew_toNat m j)
theorem offH61 (m : BitVec 32) (j : ℕ) : k0_off61 (ew m j) = ![ord m j, 2048, 0] := congrArg (fun x => ![x, 2048, 0]) (ew_toNat m j)
theorem offH64 (m : BitVec 32) (j : ℕ) : k0_off64 (ew m j) = ![ord m j, 0, 0] := congrArg (fun x => ![x, 0, 0]) (ew_toNat m j)
theorem offH67 (m : BitVec 32) (j : ℕ) : k0_off67 (ew m j) = ![ord m j, 1024, 0] := congrArg (fun x => ![x, 1024, 0]) (ew_toNat m j)

section Parts

variable (arg0 : Memref sig .tc .smem S9x2 .i32) (harg0 : arg0.IsWhole) (arg1 : Memref sig .tc .smem S9x2 .f32) (harg1 : arg1.IsWhole) (arg2 : Memref sig .tc .vmem S9x2816 .bf16) (harg2 : arg2.IsWhole) (arg3 : Memref sig .tc .vmem S8x2816 .f32) (harg3 : arg3.IsWhole) (arg4 : Memref sig .tc .vmem S8x2816 .f32) (harg4 : arg4.IsWhole) (arg5 : Memref sig .tc .hbm S8x2816x2816 .i8) (harg5 : arg5.IsWhole) (arg6 : Memref sig .tc .hbm S8x1408x2816 .i8) (harg6 : arg6.IsWhole) (arg7 : Memref sig .tc .vmem S9x2816 .bf16) (harg7 : arg7.IsWhole) (arg8 : Memref sig .tc .vmem S4x2816x2816 .i8) (harg8 : arg8.IsWhole) (arg9 : Memref sig .tc .vmem S4x1408x2816 .i8) (harg9 : arg9.IsWhole) (arg10 : Memref sig .tc .vmem S16x2816 .bf16) (harg10 : arg10.IsWhole) (arg11 : Memref sig .tc .vmem S16x2816 .f32) (harg11 : arg11.IsWhole) (arg12 : Memref sig .tc .smem S8 .i32) (harg12 : arg12.IsWhole) (arg13 : DmaSems sig S4x3) (arg14 : DmaSems sig S4x2)
variable (v0 v3 v6 v9 v12 v15 v18 v21 v24 v27 v30 v33 v36 v39 v42 v45 v48 v51 : BitVec 32)
variable (q5 : Fin 12 → PosShare TreeShare) (q6 : Fin 8 → PosShare TreeShare)
  (f5 : Buf (Elt F) (arg5.view.loc (c : Thread nD τ))) (f6 : Buf (Elt F) (arg6.view.loc (c : Thread nD τ)))

/-- The first ten expert numbers. -/
theorem part23 {α : Type} {Q : α → sProp 𝕄} (I : S9x2.Idx → Elt F .i32)
    {kk : (Σ' (v0 : Elt F .i32) (v3 : Elt F .i32) (v6 : Elt F .i32) (v9 : Elt F .i32) (v12 : Elt F .i32) (v15 : Elt F .i32) (v18 : Elt F .i32) (v21 : Elt F .i32) (v24 : Elt F .i32) (v26 : BitVec 32) (v27 : Elt F .i32), BitVec 32) → Prog (TpuEff nD τ sig (Elt F) Λ₀ .tc) α} :
    iprop(Holds (Val := Elt F) (c : Thread nD τ) arg0 I)
      ⊢ iprop((iprop(Holds (Val := Elt F) (c : Thread nD τ) arg0 I) -∗
          wp frame (wpE (defs₀ (F := F)) Variants.none (c : Thread nD τ) none) Set.univ (kk ⟨(I (at92 0 0)), (I (at92 0 1)), (I (at92 1 0)), (I (at92 1 1)), (I (at92 2 0)), (I (at92 2 1)), (I (at92 3 0)), (I (at92 3 1)), (I (at92 4 0)), (Scalar.ori (Scalar.ori (Scalar.ori (Scalar.ori (Scalar.ori (Scalar.ori (Scalar.ori (Scalar.ori (Scalar.ori 0#32 (Scalar.shli 1#32 (I (at92 0 0)))) (Scalar.shli 1#32 (I (at92 0 1)))) (Scalar.shli 1#32 (I (at92 1 0)))) (Scalar.shli 1#32 (I (at92 1 1)))) (Scalar.shli 1#32 (I (at92 2 0)))) (Scalar.shli 1#32 (I (at92 2 1)))) (Scalar.shli 1#32 (I (at92 3 0)))) (Scalar.shli 1#32 (I (at92 3 1)))) (Scalar.shli 1#32 (I (at92 4 0)))), (I (at92 4 1)), (Scalar.shli 1#32 (I (at92 4 1)))⟩) Q)
        -∗ wp frame (wpE (defs₀ (F := F)) Variants.none (c : Thread nD τ) none) Set.univ (k0_part23 arg0 harg0 arg1 harg1 arg2 harg2 arg3 harg3 arg4 harg4 arg5 harg5 arg6 harg6 arg7 harg7 arg8 harg8 arg9 harg9 arg10 harg10 arg11 harg11 arg12 harg12 arg13 arg14 >>= kk) Q) := by
  rw [k0_part23_eq_skeleton]
  unfold k0_part23_skel
  iintro ⟨H0⟩ Hk
  iapply (wp_at c (0 : Fin 9) (0 : Fin 2) rfl) $$ H0
  iintro H0
  iapply (wp_at c (0 : Fin 9) (1 : Fin 2) rfl) $$ H0
  iintro H0
  iapply (wp_at c (1 : Fin 9) (0 : Fin 2) rfl) $$ H0
  iintro H0
  iapply (wp_at c (1 : Fin 9) (1 : Fin 2) rfl) $$ H0
  iintro H0
  iapply (wp_at c (2 : Fin 9) (0 : Fin 2) rfl) $$ H0
  iintro H0
  iapply (wp_at c (2 : Fin 9) (1 : Fin 2) rfl) $$ H0
  iintro H0
  iapply (wp_at c (3 : Fin 9) (0 : Fin 2) rfl) $$ H0
  iintro H0
  iapply (wp_at c (3 : Fin 9) (1 : Fin 2) rfl) $$ H0
  iintro H0
  iapply (wp_at c (4 : Fin 9) (0 : Fin 2) rfl) $$ H0
  iintro H0
  iapply (wp_at c (4 : Fin 9) (1 : Fin 2) rfl) $$ H0
  iintro H0
  iapply Hk
  iexact H0

/-- The other expert numbers, and the mask of the experts asked for. -/
theorem part24 {α : Type} {Q : α → sProp 𝕄} (I : S9x2.Idx → Elt F .i32)
    {kk : (Σ' (v30 : Elt F .i32) (v33 : Elt F .i32) (v36 : Elt F .i32) (v39 : Elt F .i32) (v42 : Elt F .i32) (v45 : Elt F .i32) (v48 : Elt F .i32) (v51 : Elt F .i32) (k0_hw1 : k0_chk1 (I (at92 0 0)) (I (at92 0 1)) (I (at92 1 0)) (I (at92 1 1)) (I (at92 2 0)) (I (at92 2 1)) (I (at92 3 0)) (I (at92 3 1)) (I (at92 4 0)) (I (at92 4 1)) v30 v33 v36 v39 v42 v45 v48 v51) (v53 : BitVec 32) (v55 : BitVec 32) (c0_i32_47 : BitVec 32), BitVec 1) → Prog (TpuEff nD τ sig (Elt F) Λ₀ .tc) α} :
    Holds (Val := Elt F) (c : Thread nD τ) arg0 I ⊢ iprop((∀ v53 : BitVec 32, ∀ v55 : BitVec 32, ∀ v58 : BitVec 1, ⌜v58 = 1#1 ↔ bit (mask (I (at92 0 0)) (I (at92 0 1)) (I (at92 1 0)) (I (at92 1 1)) (I (at92 2 0)) (I (at92 2 1)) (I (at92 3 0)) (I (at92 3 1)) (I (at92 4 0)) (I (at92 4 1)) (I (at92 5 0)) (I (at92 5 1)) (I (at92 6 0)) (I (at92 6 1)) (I (at92 7 0)) (I (at92 7 1)) (I (at92 8 0)) (I (at92 8 1))) 0 = 1#32⌝ -∗ Holds (Val := Elt F) (c : Thread nD τ) arg0 I -∗
          wp frame (wpE (defs₀ (F := F)) Variants.none (c : Thread nD τ) none) Set.univ (kk ⟨(I (at92 5 0)), (I (at92 5 1)), (I (at92 6 0)), (I (at92 6 1)), (I (at92 7 0)), (I (at92 7 1)), (I (at92 8 0)), (I (at92 8 1)), chk1, v53, v55, 0#32, v58⟩) Q)
        -∗ wp frame (wpE (defs₀ (F := F)) Variants.none (c : Thread nD τ) none) Set.univ (k0_part24 arg0 harg0 arg1 harg1 arg2 harg2 arg3 harg3 arg4 harg4 arg5 harg5 arg6 harg6 arg7 harg7 arg8 harg8 arg9 harg9 arg10 harg10 arg11 harg11 arg12 harg12 arg13 arg14 (I (at92 0 0)) (I (at92 0 1)) (I (at92 1 0)) (I (at92 1 1)) (I (at92 2 0)) (I (at92 2 1)) (I (at92 3 0)) (I (at92 3 1)) (I (at92 4 0)) (Scalar.ori (Scalar.ori (Scalar.ori (Scalar.ori (Scalar.ori (Scalar.ori (Scalar.ori (Scalar.ori (Scalar.ori 0#32 (Scalar.shli 1#32 (I (at92 0 0)))) (Scalar.shli 1#32 (I (at92 0 1)))) (Scalar.shli 1#32 (I (at92 1 0)))) (Scalar.shli 1#32 (I (at92 1 1)))) (Scalar.shli 1#32 (I (at92 2 0)))) (Scalar.shli 1#32 (I (at92 2 1)))) (Scalar.shli 1#32 (I (at92 3 0)))) (Scalar.shli 1#32 (I (at92 3 1)))) (Scalar.shli 1#32 (I (at92 4 0)))) (I (at92 4 1)) (Scalar.shli 1#32 (I (at92 4 1))) >>= kk) Q) := by
  rw [k0_part24_eq_skeleton]
  unfold k0_part24_skel
  iintro H0 Hk
  iapply (wp_at c (5 : Fin 9) (0 : Fin 2) rfl) $$ H0
  iintro H0
  iapply (wp_at c (5 : Fin 9) (1 : Fin 2) rfl) $$ H0
  iintro H0
  iapply (wp_at c (6 : Fin 9) (0 : Fin 2) rfl) $$ H0
  iintro H0
  iapply (wp_at c (6 : Fin 9) (1 : Fin 2) rfl) $$ H0
  iintro H0
  iapply (wp_at c (7 : Fin 9) (0 : Fin 2) rfl) $$ H0
  iintro H0
  iapply (wp_at c (7 : Fin 9) (1 : Fin 2) rfl) $$ H0
  iintro H0
  iapply (wp_at c (8 : Fin 9) (0 : Fin 2) rfl) $$ H0
  iintro H0
  iapply (wp_at c (8 : Fin 9) (1 : Fin 2) rfl) $$ H0
  iintro H0
  iapply (wp_assume Variants.none (c : Thread nD τ) none Set.univ chk1)
  iapply (wp_pure c)
  iapply Hk
  · ipureintro; exact on_iff (mask (I (at92 0 0)) (I (at92 0 1)) (I (at92 1 0)) (I (at92 1 1)) (I (at92 2 0)) (I (at92 2 1)) (I (at92 3 0)) (I (at92 3 1)) (I (at92 4 0)) (I (at92 4 1)) (I (at92 5 0)) (I (at92 5 1)) (I (at92 6 0)) (I (at92 6 1)) (I (at92 7 0)) (I (at92 7 1)) (I (at92 8 0)) (I (at92 8 1))) 0
  iexact H0

/-- The first six entries of the table of active experts. -/
theorem part25 {α : Type} {Q : α → sProp 𝕄} (hw1 : k0_chk1 v0 v3 v6 v9 v12 v15 v18 v21 v24 v27 v30 v33 v36 v39 v42 v45 v48 v51) (v53 v55 : BitVec 32) (v58 : BitVec 1) (h58 : v58 = 1#1 ↔ bit (mask v0 v3 v6 v9 v12 v15 v18 v21 v24 v27 v30 v33 v36 v39 v42 v45 v48 v51) 0 = 1#32)
    {kk : (Σ' (v89 : BitVec 32), BitVec 32) → Prog (TpuEff nD τ sig (Elt F) Λ₀ .tc) α} :
    iprop(Table (F := F) c arg12 (mask v0 v3 v6 v9 v12 v15 v18 v21 v24 v27 v30 v33 v36 v39 v42 v45 v48 v51) 0 ∗ (Table (F := F) c arg12 (mask v0 v3 v6 v9 v12 v15 v18 v21 v24 v27 v30 v33 v36 v39 v42 v45 v48 v51) 6 -∗ ∀ v89 : BitVec 32, ∀ v90 : BitVec 32, wp frame (wpE (defs₀ (F := F)) Variants.none (c : Thread nD τ) none) Set.univ (kk ⟨v89, v90⟩) Q)) ⊢ wp frame (wpE (defs₀ (F := F)) Variants.none (c : Thread nD τ) none) Set.univ (k0_part25 arg0 harg0 arg1 harg1 arg2 harg2 arg3 harg3 arg4 harg4 arg5 harg5 arg6 harg6 arg7 harg7 arg8 harg8 arg9 harg9 arg10 harg10 arg11 harg11 arg12 harg12 arg13 arg14 v0 v3 v6 v9 v12 v15 v18 v21 v24 v27 v30 v33 v36 v39 v42 v45 v48 v51 hw1 v53 v55 0#32 v58 >>= kk) Q := by
  rw [k0_part25_eq_skeleton]
  unfold k0_part25_skel
  refine wp_joinI c (S1 := iprop(Table (F := F) c arg12 (mask v0 v3 v6 v9 v12 v15 v18 v21 v24 v27 v30 v33 v36 v39 v42 v45 v48 v51) 1 ∗ (Table (F := F) c arg12 (mask v0 v3 v6 v9 v12 v15 v18 v21 v24 v27 v30 v33 v36 v39 v42 v45 v48 v51) 6 -∗ ∀ v89 : BitVec 32, ∀ v90 : BitVec 32, wp frame (wpE (defs₀ (F := F)) Variants.none (c : Thread nD τ) none) Set.univ (kk ⟨v89, v90⟩) Q))) ?_ (fun hK h => ?_) (fun h => ?_)
  rotate_left
  · iintro ⟨HT, HR⟩
    iapply (wp_put c (by decide) (h58.1 h) rfl rfl) $$ HT
    iintro HT
    iapply hK
    isplitl [HT]; · iexact HT
    iexact HR
  · iintro ⟨HT, HR⟩
    isplitl [HT]
    · iapply (Table.skip c (fun hb => h (h58.2 hb))) $$ HT
    iexact HR
  refine wp_joinD c (S1 := iprop(Table (F := F) c arg12 (mask v0 v3 v6 v9 v12 v15 v18 v21 v24 v27 v30 v33 v36 v39 v42 v45 v48 v51) 2 ∗ (Table (F := F) c arg12 (mask v0 v3 v6 v9 v12 v15 v18 v21 v24 v27 v30 v33 v36 v39 v42 v45 v48 v51) 6 -∗ ∀ v89 : BitVec 32, ∀ v90 : BitVec 32, wp frame (wpE (defs₀ (F := F)) Variants.none (c : Thread nD τ) none) Set.univ (kk ⟨v89, v90⟩) Q))) ?_ (fun hK h => ?_) (fun h => ?_)
  rotate_left
  · iintro ⟨HT, HR⟩
    iapply (wp_put c (by decide) (cond2_iff.1 h) off1_eq rfl) $$ HT
    iintro HT
    iapply hK
    isplitl [HT]; · iexact HT
    iexact HR
  · iintro ⟨HT, HR⟩
    isplitl [HT]
    · iapply (Table.skip c (fun hb => h (cond2_iff.2 hb))) $$ HT
    iexact HR
  refine wp_joinD c (S1 := iprop(Table (F := F) c arg12 (mask v0 v3 v6 v9 v12 v15 v18 v21 v24 v27 v30 v33 v36 v39 v42 v45 v48 v51) 3 ∗ (Table (F := F) c arg12 (mask v0 v3 v6 v9 v12 v15 v18 v21 v24 v27 v30 v33 v36 v39 v42 v45 v48 v51) 6 -∗ ∀ v89 : BitVec 32, ∀ v90 : BitVec 32, wp frame (wpE (defs₀ (F := F)) Variants.none (c : Thread nD τ) none) Set.univ (kk ⟨v89, v90⟩) Q))) ?_ (fun hK h => ?_) (fun h => ?_)
  rotate_left
  · iintro ⟨HT, HR⟩
    iapply (wp_put c (by decide) (cond3_iff.1 h) off2_eq rfl) $$ HT
    iintro HT
    iapply hK
    isplitl [HT]; · iexact HT
    iexact HR
  · iintro ⟨HT, HR⟩
    isplitl [HT]
    · iapply (Table.skip c (fun hb => h (cond3_iff.2 hb))) $$ HT
    iexact HR
  refine wp_joinD c (S1 := iprop(Table (F := F) c arg12 (mask v0 v3 v6 v9 v12 v15 v18 v21 v24 v27 v30 v33 v36 v39 v42 v45 v48 v51) 4 ∗ (Table (F := F) c arg12 (mask v0 v3 v6 v9 v12 v15 v18 v21 v24 v27 v30 v33 v36 v39 v42 v45 v48 v51) 6 -∗ ∀ v89 : BitVec 32, ∀ v90 : BitVec 32, wp frame (wpE (defs₀ (F := F)) Variants.none (c : Thread nD τ) none) Set.univ (kk ⟨v89, v90⟩) Q))) ?_ (fun hK h => ?_) (fun h => ?_)
  rotate_left
  · iintro ⟨HT, HR⟩
    iapply (wp_put c (by decide) (cond4_iff.1 h) off3_eq rfl) $$ HT
    iintro HT
    iapply hK
    isplitl [HT]; · iexact HT
    iexact HR
  · iintro ⟨HT, HR⟩
    isplitl [HT]
    · iapply (Table.skip c (fun hb => h (cond4_iff.2 hb))) $$ HT
    iexact HR
  refine wp_joinD c (S1 := iprop(Table (F := F) c arg12 (mask v0 v3 v6 v9 v12 v15 v18 v21 v24 v27 v30 v33 v36 v39 v42 v45 v48 v51) 5 ∗ (Table (F := F) c arg12 (mask v0 v3 v6 v9 v12 v15 v18 v21 v24 v27 v30 v33 v36 v39 v42 v45 v48 v51) 6 -∗ ∀ v89 : BitVec 32, ∀ v90 : BitVec 32, wp frame (wpE (defs₀ (F := F)) Variants.none (c : Thread nD τ) none) Set.univ (kk ⟨v89, v90⟩) Q))) ?_ (fun hK h => ?_) (fun h => ?_)
  rotate_left
  · iintro ⟨HT, HR⟩
    iapply (wp_put c (by decide) (cond5_iff.1 h) off4_eq rfl) $$ HT
    iintro HT
    iapply hK
    isplitl [HT]; · iexact HT
    iexact HR
  · iintro ⟨HT, HR⟩
    isplitl [HT]
    · iapply (Table.skip c (fun hb => h (cond5_iff.2 hb))) $$ HT
    iexact HR
  refine wp_joinD c (S1 := iprop(Table (F := F) c arg12 (mask v0 v3 v6 v9 v12 v15 v18 v21 v24 v27 v30 v33 v36 v39 v42 v45 v48 v51) 6 ∗ (Table (F := F) c arg12 (mask v0 v3 v6 v9 v12 v15 v18 v21 v24 v27 v30 v33 v36 v39 v42 v45 v48 v51) 6 -∗ ∀ v89 : BitVec 32, ∀ v90 : BitVec 32, wp frame (wpE (defs₀ (F := F)) Variants.none (c : Thread nD τ) none) Set.univ (kk ⟨v89, v90⟩) Q))) ?_ (fun hK h => ?_) (fun h => ?_)
  rotate_left
  · iintro ⟨HT, HR⟩
    iapply (wp_put c (by decide) (cond6_iff.1 h) off5_eq rfl) $$ HT
    iintro HT
    iapply hK
    isplitl [HT]; · iexact HT
    iexact HR
  · iintro ⟨HT, HR⟩
    isplitl [HT]
    · iapply (Table.skip c (fun hb => h (cond6_iff.2 hb))) $$ HT
    iexact HR
  iintro ⟨HT, HR⟩
  ispecialize HR $$ HT
  iapply (wp_pure c)
  iapply HR

/-- The first copies of slot 0. -/
theorem part1 {α : Type} {Q : α → sProp 𝕄} (h : k0_cond9 v0 v3 v6 v9 v12 v15 v18 v21 v24 v27 v30 v33 v36 v39 v42 v45 v48 v51 = 1#1) (hi : 0 < act (mask v0 v3 v6 v9 v12 v15 v18 v21 v24 v27 v30 v33 v36 v39 v42 v45 v48 v51))
    {kk : (Σ' (v340 : Elt F .i32), k0_chk3 v0 v3 v6 v9 v12 v15 v18 v21 v24 v27 v30 v33 v36 v39 v42 v45 v48 v51 v340) → Prog (TpuEff nD τ sig (Elt F) Λ₀ .tc) α} :
    iprop(Table (F := F) c arg12 (mask v0 v3 v6 v9 v12 v15 v18 v21 v24 v27 v30 v33 v36 v39 v42 v45 v48 v51) 8
        ∗ (gA c arg5 arg8 arg13 q5 f5 0 lt0_4).Free
        ∗ (gB c arg5 arg8 arg13 q5 f5 0 lt0_4).Free
        ∗ (gC c arg5 arg8 arg13 q5 f5 0 lt0_4).Free
        ∗ (gD c arg6 arg9 arg14 q6 f6 0 lt0_4).Free)
      ⊢ iprop((iprop(Table (F := F) c arg12 (mask v0 v3 v6 v9 v12 v15 v18 v21 v24 v27 v30 v33 v36 v39 v42 v45 v48 v51) 8
        ∗ (gA c arg5 arg8 arg13 q5 f5 0 lt0_4).Fly (mask v0 v3 v6 v9 v12 v15 v18 v21 v24 v27 v30 v33 v36 v39 v42 v45 v48 v51) 0
        ∗ (gB c arg5 arg8 arg13 q5 f5 0 lt0_4).Fly (mask v0 v3 v6 v9 v12 v15 v18 v21 v24 v27 v30 v33 v36 v39 v42 v45 v48 v51) 0
        ∗ (gC c arg5 arg8 arg13 q5 f5 0 lt0_4).Fly (mask v0 v3 v6 v9 v12 v15 v18 v21 v24 v27 v30 v33 v36 v39 v42 v45 v48 v51) 0
        ∗ (gD c arg6 arg9 arg14 q6 f6 0 lt0_4).Fly (mask v0 v3 v6 v9 v12 v15 v18 v21 v24 v27 v30 v33 v36 v39 v42 v45 v48 v51) 0) -∗
          wp frame (wpE (defs₀ (F := F)) Variants.none (c : Thread nD τ) none) Set.univ (kk ⟨ew (mask v0 v3 v6 v9 v12 v15 v18 v21 v24 v27 v30 v33 v36 v39 v42 v45 v48 v51) 0, chk3 (lt_of_eq_of_lt (ew_toNat _ _) (ord_lt _ _))⟩) Q)
        -∗ wp frame (wpE (defs₀ (F := F)) Variants.none (c : Thread nD τ) none) Set.univ (k0_part1 arg0 harg0 arg1 harg1 arg2 harg2 arg3 harg3 arg4 harg4 arg5 harg5 arg6 harg6 arg7 harg7 arg8 harg8 arg9 harg9 arg10 harg10 arg11 harg11 arg12 harg12 arg13 arg14 v0 v3 v6 v9 v12 v15 v18 v21 v24 v27 v30 v33 v36 v39 v42 v45 v48 v51 h >>= kk) Q) := by
  rw [k0_part1_eq_skeleton]
  unfold k0_part1_skel
  iintro ⟨HT, HA, HB, HC, HD⟩ Hk
  iapply (wp_tab c hi rfl) $$ HT
  iintro HT
  iapply (wp_assume Variants.none (c : Thread nD τ) none Set.univ (chk2 (lt_of_eq_of_lt (ew_toNat _ _) (ord_lt _ _))))
  iapply (start Variants.none none (gA c arg5 arg8 arg13 q5 f5 0 lt0_4) (mask v0 v3 v6 v9 v12 v15 v18 v21 v24 v27 v30 v33 v36 v39 v42 v45 v48 v51) 0 (off9_eq) (offH10 _ _) (cell13_eq arg13 lt0_4 (by decide) off8_eq)) $$ HA
  iintro HA
  iapply (start Variants.none none (gB c arg5 arg8 arg13 q5 f5 0 lt0_4) (mask v0 v3 v6 v9 v12 v15 v18 v21 v24 v27 v30 v33 v36 v39 v42 v45 v48 v51) 0 (off12_eq) (offH13 _ _) (cell13_eq arg13 lt0_4 (by decide) off11_eq)) $$ HB
  iintro HB
  iapply (start Variants.none none (gC c arg5 arg8 arg13 q5 f5 0 lt0_4) (mask v0 v3 v6 v9 v12 v15 v18 v21 v24 v27 v30 v33 v36 v39 v42 v45 v48 v51) 0 (off15_eq) (offH16 _ _) (cell13_eq arg13 lt0_4 (by decide) off14_eq)) $$ HC
  iintro HC
  iapply (wp_tab c hi rfl) $$ HT
  iintro HT
  iapply (wp_assume Variants.none (c : Thread nD τ) none Set.univ (chk3 (lt_of_eq_of_lt (ew_toNat _ _) (ord_lt _ _))))
  iapply (start Variants.none none (gD c arg6 arg9 arg14 q6 f6 0 lt0_4) (mask v0 v3 v6 v9 v12 v15 v18 v21 v24 v27 v30 v33 v36 v39 v42 v45 v48 v51) 0 (off18_eq) (offH19 _ _) (cell14_eq arg14 lt0_4 (by decide) off17_eq)) $$ HD
  iintro HD
  iapply Hk
  isplitl [HT]; · iexact HT
  isplitl [HA]; · iexact HA
  isplitl [HB]; · iexact HB
  isplitl [HC]; · iexact HC
  iexact HD

/-- The first copies of slot 1. -/
theorem part2 {α : Type} {Q : α → sProp 𝕄} (h : k0_cond10 v0 v3 v6 v9 v12 v15 v18 v21 v24 v27 v30 v33 v36 v39 v42 v45 v48 v51 = 1#1) (hi : 1 < act (mask v0 v3 v6 v9 v12 v15 v18 v21 v24 v27 v30 v33 v36 v39 v42 v45 v48 v51))
    {kk : (Σ' (v340 : Elt F .i32), k0_chk5 v0 v3 v6 v9 v12 v15 v18 v21 v24 v27 v30 v33 v36 v39 v42 v45 v48 v51 v340) → Prog (TpuEff nD τ sig (Elt F) Λ₀ .tc) α} :
    iprop(Table (F := F) c arg12 (mask v0 v3 v6 v9 v12 v15 v18 v21 v24 v27 v30 v33 v36 v39 v42 v45 v48 v51) 8
        ∗ (gA c arg5 arg8 arg13 q5 f5 1 lt1_4).Free
        ∗ (gB c arg5 arg8 arg13 q5 f5 1 lt1_4).Free
        ∗ (gC c arg5 arg8 arg13 q5 f5 1 lt1_4).Free
        ∗ (gD c arg6 arg9 arg14 q6 f6 1 lt1_4).Free)
      ⊢ iprop((iprop(Table (F := F) c arg12 (mask v0 v3 v6 v9 v12 v15 v18 v21 v24 v27 v30 v33 v36 v39 v42 v45 v48 v51) 8
        ∗ (gA c arg5 arg8 arg13 q5 f5 1 lt1_4).Fly (mask v0 v3 v6 v9 v12 v15 v18 v21 v24 v27 v30 v33 v36 v39 v42 v45 v48 v51) 1
        ∗ (gB c arg5 arg8 arg13 q5 f5 1 lt1_4).Fly (mask v0 v3 v6 v9 v12 v15 v18 v21 v24 v27 v30 v33 v36 v39 v42 v45 v48 v51) 1
        ∗ (gC c arg5 arg8 arg13 q5 f5 1 lt1_4).Fly (mask v0 v3 v6 v9 v12 v15 v18 v21 v24 v27 v30 v33 v36 v39 v42 v45 v48 v51) 1
        ∗ (gD c arg6 arg9 arg14 q6 f6 1 lt1_4).Fly (mask v0 v3 v6 v9 v12 v15 v18 v21 v24 v27 v30 v33 v36 v39 v42 v45 v48 v51) 1) -∗
          wp frame (wpE (defs₀ (F := F)) Variants.none (c : Thread nD τ) none) Set.univ (kk ⟨ew (mask v0 v3 v6 v9 v12 v15 v18 v21 v24 v27 v30 v33 v36 v39 v42 v45 v48 v51) 1, chk5 (lt_of_eq_of_lt (ew_toNat _ _) (ord_lt _ _))⟩) Q)
        -∗ wp frame (wpE (defs₀ (F := F)) Variants.none (c : Thread nD τ) none) Set.univ (k0_part2 arg0 harg0 arg1 harg1 arg2 harg2 arg3 harg3 arg4 harg4 arg5 harg5 arg6 harg6 arg7 harg7 arg8 harg8 arg9 harg9 arg10 harg10 arg11 harg11 arg12 harg12 arg13 arg14 v0 v3 v6 v9 v12 v15 v18 v21 v24 v27 v30 v33 v36 v39 v42 v45 v48 v51 h >>= kk) Q) := by
  rw [k0_part2_eq_skeleton]
  unfold k0_part2_skel
  iintro ⟨HT, HA, HB, HC, HD⟩ Hk
  iapply (wp_tab c hi rfl) $$ HT
  iintro HT
  iapply (wp_assume Variants.none (c : Thread nD τ) none Set.univ (chk4 (lt_of_eq_of_lt (ew_toNat _ _) (ord_lt _ _))))
  iapply (start Variants.none none (gA c arg5 arg8 arg13 q5 f5 1 lt1_4) (mask v0 v3 v6 v9 v12 v15 v18 v21 v24 v27 v30 v33 v36 v39 v42 v45 v48 v51) 1 (off24_eq) (offH25 _ _) (cell13_eq arg13 lt1_4 (by decide) off23_eq)) $$ HA
  iintro HA
  iapply (start Variants.none none (gB c arg5 arg8 arg13 q5 f5 1 lt1_4) (mask v0 v3 v6 v9 v12 v15 v18 v21 v24 v27 v30 v33 v36 v39 v42 v45 v48 v51) 1 (off27_eq) (offH28 _ _) (cell13_eq arg13 lt1_4 (by decide) off26_eq)) $$ HB
  iintro HB
  iapply (start Variants.none none (gC c arg5 arg8 arg13 q5 f5 1 lt1_4) (mask v0 v3 v6 v9 v12 v15 v18 v21 v24 v27 v30 v33 v36 v39 v42 v45 v48 v51) 1 (off30_eq) (offH31 _ _) (cell13_eq arg13 lt1_4 (by decide) off29_eq)) $$ HC
  iintro HC
  iapply (wp_tab c hi rfl) $$ HT
  iintro HT
  iapply (wp_assume Variants.none (c : Thread nD τ) none Set.univ (chk5 (lt_of_eq_of_lt (ew_toNat _ _) (ord_lt _ _))))
  iapply (start Variants.none none (gD c arg6 arg9 arg14 q6 f6 1 lt1_4) (mask v0 v3 v6 v9 v12 v15 v18 v21 v24 v27 v30 v33 v36 v39 v42 v45 v48 v51) 1 (off33_eq) (offH34 _ _) (cell14_eq arg14 lt1_4 (by decide) off32_eq)) $$ HD
  iintro HD
  iapply Hk
  isplitl [HT]; · iexact HT
  isplitl [HA]; · iexact HA
  isplitl [HB]; · iexact HB
  isplitl [HC]; · iexact HC
  iexact HD

/-- The first copies of slot 2. -/
theorem part3 {α : Type} {Q : α → sProp 𝕄} (h : k0_cond11 v0 v3 v6 v9 v12 v15 v18 v21 v24 v27 v30 v33 v36 v39 v42 v45 v48 v51 = 1#1) (hi : 2 < act (mask v0 v3 v6 v9 v12 v15 v18 v21 v24 v27 v30 v33 v36 v39 v42 v45 v48 v51))
    {kk : (Σ' (v340 : Elt F .i32), k0_chk7 v0 v3 v6 v9 v12 v15 v18 v21 v24 v27 v30 v33 v36 v39 v42 v45 v48 v51 v340) → Prog (TpuEff nD τ sig (Elt F) Λ₀ .tc) α} :
    iprop(Table (F := F) c arg12 (mask v0 v3 v6 v9 v12 v15 v18 v21 v24 v27 v30 v33 v36 v39 v42 v45 v48 v51) 8
        ∗ (gA c arg5 arg8 arg13 q5 f5 2 lt2_4).Free
        ∗ (gB c arg5 arg8 arg13 q5 f5 2 lt2_4).Free
        ∗ (gC c arg5 arg8 arg13 q5 f5 2 lt2_4).Free
        ∗ (gD c arg6 arg9 arg14 q6 f6 2 lt2_4).Free)
      ⊢ iprop((iprop(Table (F := F) c arg12 (mask v0 v3 v6 v9 v12 v15 v18 v21 v24 v27 v30 v33 v36 v39 v42 v45 v48 v51) 8
        ∗ (gA c arg5 arg8 arg13 q5 f5 2 lt2_4).Fly (mask v0 v3 v6 v9 v12 v15 v18 v21 v24 v27 v30 v33 v36 v39 v42 v45 v48 v51) 2
        ∗ (gB c arg5 arg8 arg13 q5 f5 2 lt2_4).Fly (mask v0 v3 v6 v9 v12 v15 v18 v21 v24 v27 v30 v33 v36 v39 v42 v45 v48 v51) 2
        ∗ (gC c arg5 arg8 arg13 q5 f5 2 lt2_4).Fly (mask v0 v3 v6 v9 v12 v15 v18 v21 v24 v27 v30 v33 v36 v39 v42 v45 v48 v51) 2
        ∗ (gD c arg6 arg9 arg14 q6 f6 2 lt2_4).Fly (mask v0 v3 v6 v9 v12 v15 v18 v21 v24 v27 v30 v33 v36 v39 v42 v45 v48 v51) 2) -∗
          wp frame (wpE (defs₀ (F := F)) Variants.none (c : Thread nD τ) none) Set.univ (kk ⟨ew (mask v0 v3 v6 v9 v12 v15 v18 v21 v24 v27 v30 v33 v36 v39 v42 v45 v48 v51) 2, chk7 (lt_of_eq_of_lt (ew_toNat _ _) (ord_lt _ _))⟩) Q)
        -∗ wp frame (wpE (defs₀ (F := F)) Variants.none (c : Thread nD τ) none) Set.univ (k0_part3 arg0 harg0 arg1 harg1 arg2 harg2 arg3 harg3 arg4 harg4 arg5 harg5 arg6 harg6 arg7 harg7 arg8 harg8 arg9 harg9 arg10 harg10 arg11 harg11 arg12 harg12 arg13 arg14 v0 v3 v6 v9 v12 v15 v18 v21 v24 v27 v30 v33 v36 v39 v42 v45 v48 v51 h >>= kk) Q) := by
  rw [k0_part3_eq_skeleton]
  unfold k0_part3_skel
  iintro ⟨HT, HA, HB, HC, HD⟩ Hk
  iapply (wp_tab c hi rfl) $$ HT
  iintro HT
  iapply (wp_assume Variants.none (c : Thread nD τ) none Set.univ (chk6 (lt_of_eq_of_lt (ew_toNat _ _) (ord_lt _ _))))
  iapply (start Variants.none none (gA c arg5 arg8 arg13 q5 f5 2 lt2_4) (mask v0 v3 v6 v9 v12 v15 v18 v21 v24 v27 v30 v33 v36 v39 v42 v45 v48 v51) 2 (off39_eq) (offH40 _ _) (cell13_eq arg13 lt2_4 (by decide) off38_eq)) $$ HA
  iintro HA
  iapply (start Variants.none none (gB c arg5 arg8 arg13 q5 f5 2 lt2_4) (mask v0 v3 v6 v9 v12 v15 v18 v21 v24 v27 v30 v33 v36 v39 v42 v45 v48 v51) 2 (off42_eq) (offH43 _ _) (cell13_eq arg13 lt2_4 (by decide) off41_eq)) $$ HB
  iintro HB
  iapply (start Variants.none none (gC c arg5 arg8 arg13 q5 f5 2 lt2_4) (mask v0 v3 v6 v9 v12 v15 v18 v21 v24 v27 v30 v33 v36 v39 v42 v45 v48 v51) 2 (off45_eq) (offH46 _ _) (cell13_eq arg13 lt2_4 (by decide) off44_eq)) $$ HC
  iintro HC
  iapply (wp_tab c hi rfl) $$ HT
  iintro HT
  iapply (wp_assume Variants.none (c : Thread nD τ) none Set.univ (chk7 (lt_of_eq_of_lt (ew_toNat _ _) (ord_lt _ _))))
  iapply (start Variants.none none (gD c arg6 arg9 arg14 q6 f6 2 lt2_4) (mask v0 v3 v6 v9 v12 v15 v18 v21 v24 v27 v30 v33 v36 v39 v42 v45 v48 v51) 2 (off48_eq) (offH49 _ _) (cell14_eq arg14 lt2_4 (by decide) off47_eq)) $$ HD
  iintro HD
  iapply Hk
  isplitl [HT]; · iexact HT
  isplitl [HA]; · iexact HA
  isplitl [HB]; · iexact HB
  isplitl [HC]; · iexact HC
  iexact HD

/-- The first copies of slot 3. -/
theorem part4 {α : Type} {Q : α → sProp 𝕄} (h : k0_cond12 v0 v3 v6 v9 v12 v15 v18 v21 v24 v27 v30 v33 v36 v39 v42 v45 v48 v51 = 1#1) (hi : 3 < act (mask v0 v3 v6 v9 v12 v15 v18 v21 v24 v27 v30 v33 v36 v39 v42 v45 v48 v51))
    {kk : (Σ' (v340 : Elt F .i32), k0_chk9 v0 v3 v6 v9 v12 v15 v18 v21 v24 v27 v30 v33 v36 v39 v42 v45 v48 v51 v340) → Prog (TpuEff nD τ sig (Elt F) Λ₀ .tc) α} :
    iprop(Table (F := F) c arg12 (mask v0 v3 v6 v9 v12 v15 v18 v21 v24 v27 v30 v33 v36 v39 v42 v45 v48 v51) 8
        ∗ (gA c arg5 arg8 arg13 q5 f5 3 lt3_4).Free
        ∗ (gB c arg5 arg8 arg13 q5 f5 3 lt3_4).Free
        ∗ (gC c arg5 arg8 arg13 q5 f5 3 lt3_4).Free
        ∗ (gD c arg6 arg9 arg14 q6 f6 3 lt3_4).Free)
      ⊢ iprop((iprop(Table (F := F) c arg12 (mask v0 v3 v6 v9 v12 v15 v18 v21 v24 v27 v30 v33 v36 v39 v42 v45 v48 v51) 8
        ∗ (gA c arg5 arg8 arg13 q5 f5 3 lt3_4).Fly (mask v0 v3 v6 v9 v12 v15 v18 v21 v24 v27 v30 v33 v36 v39 v42 v45 v48 v51) 3
        ∗ (gB c arg5 arg8 arg13 q5 f5 3 lt3_4).Fly (mask v0 v3 v6 v9 v12 v15 v18 v21 v24 v27 v30 v33 v36 v39 v42 v45 v48 v51) 3
        ∗ (gC c arg5 arg8 arg13 q5 f5 3 lt3_4).Fly (mask v0 v3 v6 v9 v12 v15 v18 v21 v24 v27 v30 v33 v36 v39 v42 v45 v48 v51) 3
        ∗ (gD c arg6 arg9 arg14 q6 f6 3 lt3_4).Fly (mask v0 v3 v6 v9 v12 v15 v18 v21 v24 v27 v30 v33 v36 v39 v42 v45 v48 v51) 3) -∗
          wp frame (wpE (defs₀ (F := F)) Variants.none (c : Thread nD τ) none) Set.univ (kk ⟨ew (mask v0 v3 v6 v9 v12 v15 v18 v21 v24 v27 v30 v33 v36 v39 v42 v45 v48 v51) 3, chk9 (lt_of_eq_of_lt (ew_toNat _ _) (ord_lt _ _))⟩) Q)
        -∗ wp frame (wpE (defs₀ (F := F)) Variants.none (c : Thread nD τ) none) Set.univ (k0_part4 arg0 harg0 arg1 harg1 arg2 harg2 arg3 harg3 arg4 harg4 arg5 harg5 arg6 harg6 arg7 harg7 arg8 harg8 arg9 harg9 arg10 harg10 arg11 harg11 arg12 harg12 arg13 arg14 v0 v3 v6 v9 v12 v15 v18 v21 v24 v27 v30 v33 v36 v39 v42 v45 v48 v51 h >>= kk) Q) := by
  rw [k0_part4_eq_skeleton]
  unfold k0_part4_skel
  iintro ⟨HT, HA, HB, HC, HD⟩ Hk
  iapply (wp_tab c hi rfl) $$ HT
  iintro HT
  iapply (wp_assume Variants.none (c : Thread nD τ) none Set.univ (chk8 (lt_of_eq_of_lt (ew_toNat _ _) (ord_lt _ _))))
  iapply (start Variants.none none (gA c arg5 arg8 arg13 q5 f5 3 lt3_4) (mask v0 v3 v6 v9 v12 v15 v18 v21 v24 v27 v30 v33 v36 v39 v42 v45 v48 v51) 3 (off54_eq) (offH55 _ _) (cell13_eq arg13 lt3_4 (by decide) off53_eq)) $$ HA
  iintro HA
  iapply (start Variants.none none (gB c arg5 arg8 arg13 q5 f5 3 lt3_4) (mask v0 v3 v6 v9 v12 v15 v18 v21 v24 v27 v30 v33 v36 v39 v42 v45 v48 v51) 3 (off57_eq) (offH58 _ _) (cell13_eq arg13 lt3_4 (by decide) off56_eq)) $$ HB
  iintro HB
  iapply (start Variants.none none (gC c arg5 arg8 arg13 q5 f5 3 lt3_4) (mask v0 v3 v6 v9 v12 v15 v18 v21 v24 v27 v30 v33 v36 v39 v42 v45 v48 v51) 3 (off60_eq) (offH61 _ _) (cell13_eq arg13 lt3_4 (by decide) off59_eq)) $$ HC
  iintro HC
  iapply (wp_tab c hi rfl) $$ HT
  iintro HT
  iapply (wp_assume Variants.none (c : Thread nD τ) none Set.univ (chk9 (lt_of_eq_of_lt (ew_toNat _ _) (ord_lt _ _))))
  iapply (start Variants.none none (gD c arg6 arg9 arg14 q6 f6 3 lt3_4) (mask v0 v3 v6 v9 v12 v15 v18 v21 v24 v27 v30 v33 v36 v39 v42 v45 v48 v51) 3 (off63_eq) (offH64 _ _) (cell14_eq arg14 lt3_4 (by decide) off62_eq)) $$ HD
  iintro HD
  iapply Hk
  isplitl [HT]; · iexact HT
  isplitl [HA]; · iexact HA
  isplitl [HB]; · iexact HB
  isplitl [HC]; · iexact HC
  iexact HD

theorem pay71_rect (x : (Rect.unit (s := S16x2816) ![0, 0] S16x2816.size inb_S16x2816_S16x2816_0_0).shape.Idx) :
    (Rect.unit (s := S16x2816) ![0, 0] S16x2816.size inb_S16x2816_S16x2816_0_0).emb x = x := by
  funext a
  apply Fin.ext
  rw [Rect.emb_apply]
  fin_cases a
  · change 0 + 1 * (x 0).val = (x 0).val
    omega
  · change 0 + 1 * (x 1).val = (x 1).val
    omega

theorem whole_set (y : S16x2816.Idx) : y ∈ (Rect.unit (s := S16x2816) ![0, 0] S16x2816.size inb_S16x2816_S16x2816_0_0).set := by
  rw [Rect.mem_set_unit]
  intro a
  have h := (y a).isLt
  fin_cases a
  · exact ⟨Nat.zero_le _, lt_of_lt_of_eq h (Nat.zero_add _).symm⟩
  · exact ⟨Nat.zero_le _, lt_of_lt_of_eq h (Nat.zero_add _).symm⟩

/-- The rest of the table, the first copies of the four slots, and the two buffers set to zero. -/
theorem part26 {α : Type} {Q : α → sProp 𝕄} (hw1 : k0_chk1 v0 v3 v6 v9 v12 v15 v18 v21 v24 v27 v30 v33 v36 v39 v42 v45 v48 v51) (v53 v89 v90 : BitVec 32)
    {kk : BitVec 32 → Prog (TpuEff nD τ sig (Elt F) Λ₀ .tc) α} :
    iprop(Table (F := F) c arg12 (mask v0 v3 v6 v9 v12 v15 v18 v21 v24 v27 v30 v33 v36 v39 v42 v45 v48 v51) 6 ∗ (Rest c arg5 arg6 arg8 arg9 arg13 arg14 q5 q6 f5 f6 0 lt0_4 ∗ Rest c arg5 arg6 arg8 arg9 arg13 arg14 q5 q6 f5 f6 1 lt1_4 ∗ Rest c arg5 arg6 arg8 arg9 arg13 arg14 q5 q6 f5 f6 2 lt2_4 ∗ Rest c arg5 arg6 arg8 arg9 arg13 arg14 q5 q6 f5 f6 3 lt3_4 ∗ ((∃ XA : S16x2816.Idx → Elt F .f32, Holds (Val := Elt F) (c : Thread nD τ) arg11 XA) ∗ (∃ XB : S16x2816.Idx → Elt F .bf16, Holds (Val := Elt F) (c : Thread nD τ) arg10 XB)) ∗ ((Table (F := F) c arg12 (mask v0 v3 v6 v9 v12 v15 v18 v21 v24 v27 v30 v33 v36 v39 v42 v45 v48 v51) 8
        ∗ Slot c arg5 arg6 arg8 arg9 arg13 arg14 q5 q6 f5 f6 (mask v0 v3 v6 v9 v12 v15 v18 v21 v24 v27 v30 v33 v36 v39 v42 v45 v48 v51) 0 lt0_4 0
        ∗ Slot c arg5 arg6 arg8 arg9 arg13 arg14 q5 q6 f5 f6 (mask v0 v3 v6 v9 v12 v15 v18 v21 v24 v27 v30 v33 v36 v39 v42 v45 v48 v51) 1 lt1_4 1
        ∗ Slot c arg5 arg6 arg8 arg9 arg13 arg14 q5 q6 f5 f6 (mask v0 v3 v6 v9 v12 v15 v18 v21 v24 v27 v30 v33 v36 v39 v42 v45 v48 v51) 2 lt2_4 2
        ∗ Slot c arg5 arg6 arg8 arg9 arg13 arg14 q5 q6 f5 f6 (mask v0 v3 v6 v9 v12 v15 v18 v21 v24 v27 v30 v33 v36 v39 v42 v45 v48 v51) 3 lt3_4 3
        ∗ Holds (Val := Elt F) (c : Thread nD τ) arg11 (k0_pay71 (F := F))
        ∗ Holds (Val := Elt F) (c : Thread nD τ) arg10 (k0_pay72 (F := F))) -∗ ∀ v101 : BitVec 32, wp frame (wpE (defs₀ (F := F)) Variants.none (c : Thread nD τ) none) Set.univ (kk v101) Q))) ⊢ wp frame (wpE (defs₀ (F := F)) Variants.none (c : Thread nD τ) none) Set.univ (k0_part26 arg0 harg0 arg1 harg1 arg2 harg2 arg3 harg3 arg4 harg4 arg5 harg5 arg6 harg6 arg7 harg7 arg8 harg8 arg9 harg9 arg10 harg10 arg11 harg11 arg12 harg12 arg13 arg14 v0 v3 v6 v9 v12 v15 v18 v21 v24 v27 v30 v33 v36 v39 v42 v45 v48 v51 hw1 v53 v89 v90 >>= kk) Q := by
  rw [k0_part26_eq_skeleton]
  unfold k0_part26_skel
  refine wp_joinD c (S1 := iprop(Table (F := F) c arg12 (mask v0 v3 v6 v9 v12 v15 v18 v21 v24 v27 v30 v33 v36 v39 v42 v45 v48 v51) 7 ∗ (Rest c arg5 arg6 arg8 arg9 arg13 arg14 q5 q6 f5 f6 0 lt0_4 ∗ Rest c arg5 arg6 arg8 arg9 arg13 arg14 q5 q6 f5 f6 1 lt1_4 ∗ Rest c arg5 arg6 arg8 arg9 arg13 arg14 q5 q6 f5 f6 2 lt2_4 ∗ Rest c arg5 arg6 arg8 arg9 arg13 arg14 q5 q6 f5 f6 3 lt3_4 ∗ ((∃ XA : S16x2816.Idx → Elt F .f32, Holds (Val := Elt F) (c : Thread nD τ) arg11 XA) ∗ (∃ XB : S16x2816.Idx → Elt F .bf16, Holds (Val := Elt F) (c : Thread nD τ) arg10 XB)) ∗ ((Table (F := F) c arg12 (mask v0 v3 v6 v9 v12 v15 v18 v21 v24 v27 v30 v33 v36 v39 v42 v45 v48 v51) 8
        ∗ Slot c arg5 arg6 arg8 arg9 arg13 arg14 q5 q6 f5 f6 (mask v0 v3 v6 v9 v12 v15 v18 v21 v24 v27 v30 v33 v36 v39 v42 v45 v48 v51) 0 lt0_4 0
        ∗ Slot c arg5 arg6 arg8 arg9 arg13 arg14 q5 q6 f5 f6 (mask v0 v3 v6 v9 v12 v15 v18 v21 v24 v27 v30 v33 v36 v39 v42 v45 v48 v51) 1 lt1_4 1
        ∗ Slot c arg5 arg6 arg8 arg9 arg13 arg14 q5 q6 f5 f6 (mask v0 v3 v6 v9 v12 v15 v18 v21 v24 v27 v30 v33 v36 v39 v42 v45 v48 v51) 2 lt2_4 2
        ∗ Slot c arg5 arg6 arg8 arg9 arg13 arg14 q5 q6 f5 f6 (mask v0 v3 v6 v9 v12 v15 v18 v21 v24 v27 v30 v33 v36 v39 v42 v45 v48 v51) 3 lt3_4 3
        ∗ Holds (Val := Elt F) (c : Thread nD τ) arg11 (k0_pay71 (F := F))
        ∗ Holds (Val := Elt F) (c : Thread nD τ) arg10 (k0_pay72 (F := F))) -∗ ∀ v101 : BitVec 32, wp frame (wpE (defs₀ (F := F)) Variants.none (c : Thread nD τ) none) Set.univ (kk v101) Q)))) ?_ (fun hK h => ?_) (fun h => ?_)
  rotate_left
  · iintro ⟨HT, HR⟩
    iapply (wp_put c (by decide) (cond7_iff.1 h) off6_eq rfl) $$ HT
    iintro HT
    iapply hK
    isplitl [HT]; · iexact HT
    iexact HR
  · iintro ⟨HT, HR⟩
    isplitl [HT]
    · iapply (Table.skip c (fun hb => h (cond7_iff.2 hb))) $$ HT
    iexact HR
  refine wp_joinD c (S1 := iprop(Table (F := F) c arg12 (mask v0 v3 v6 v9 v12 v15 v18 v21 v24 v27 v30 v33 v36 v39 v42 v45 v48 v51) 8 ∗ (Rest c arg5 arg6 arg8 arg9 arg13 arg14 q5 q6 f5 f6 0 lt0_4 ∗ Rest c arg5 arg6 arg8 arg9 arg13 arg14 q5 q6 f5 f6 1 lt1_4 ∗ Rest c arg5 arg6 arg8 arg9 arg13 arg14 q5 q6 f5 f6 2 lt2_4 ∗ Rest c arg5 arg6 arg8 arg9 arg13 arg14 q5 q6 f5 f6 3 lt3_4 ∗ ((∃ XA : S16x2816.Idx → Elt F .f32, Holds (Val := Elt F) (c : Thread nD τ) arg11 XA) ∗ (∃ XB : S16x2816.Idx → Elt F .bf16, Holds (Val := Elt F) (c : Thread nD τ) arg10 XB)) ∗ ((Table (F := F) c arg12 (mask v0 v3 v6 v9 v12 v15 v18 v21 v24 v27 v30 v33 v36 v39 v42 v45 v48 v51) 8
        ∗ Slot c arg5 arg6 arg8 arg9 arg13 arg14 q5 q6 f5 f6 (mask v0 v3 v6 v9 v12 v15 v18 v21 v24 v27 v30 v33 v36 v39 v42 v45 v48 v51) 0 lt0_4 0
        ∗ Slot c arg5 arg6 arg8 arg9 arg13 arg14 q5 q6 f5 f6 (mask v0 v3 v6 v9 v12 v15 v18 v21 v24 v27 v30 v33 v36 v39 v42 v45 v48 v51) 1 lt1_4 1
        ∗ Slot c arg5 arg6 arg8 arg9 arg13 arg14 q5 q6 f5 f6 (mask v0 v3 v6 v9 v12 v15 v18 v21 v24 v27 v30 v33 v36 v39 v42 v45 v48 v51) 2 lt2_4 2
        ∗ Slot c arg5 arg6 arg8 arg9 arg13 arg14 q5 q6 f5 f6 (mask v0 v3 v6 v9 v12 v15 v18 v21 v24 v27 v30 v33 v36 v39 v42 v45 v48 v51) 3 lt3_4 3
        ∗ Holds (Val := Elt F) (c : Thread nD τ) arg11 (k0_pay71 (F := F))
        ∗ Holds (Val := Elt F) (c : Thread nD τ) arg10 (k0_pay72 (F := F))) -∗ ∀ v101 : BitVec 32, wp frame (wpE (defs₀ (F := F)) Variants.none (c : Thread nD τ) none) Set.univ (kk v101) Q)))) ?_ (fun hK h => ?_) (fun h => ?_)
  rotate_left
  · iintro ⟨HT, HR⟩
    iapply (wp_put c (by decide) (cond8_iff.1 h) off7_eq rfl) $$ HT
    iintro HT
    iapply hK
    isplitl [HT]; · iexact HT
    iexact HR
  · iintro ⟨HT, HR⟩
    isplitl [HT]
    · iapply (Table.skip c (fun hb => h (cond8_iff.2 hb))) $$ HT
    iexact HR
  refine wp_joinD c (S1 := iprop(Table (F := F) c arg12 (mask v0 v3 v6 v9 v12 v15 v18 v21 v24 v27 v30 v33 v36 v39 v42 v45 v48 v51) 8 ∗ (Slot c arg5 arg6 arg8 arg9 arg13 arg14 q5 q6 f5 f6 (mask v0 v3 v6 v9 v12 v15 v18 v21 v24 v27 v30 v33 v36 v39 v42 v45 v48 v51) 0 lt0_4 0 ∗ Rest c arg5 arg6 arg8 arg9 arg13 arg14 q5 q6 f5 f6 1 lt1_4 ∗ Rest c arg5 arg6 arg8 arg9 arg13 arg14 q5 q6 f5 f6 2 lt2_4 ∗ Rest c arg5 arg6 arg8 arg9 arg13 arg14 q5 q6 f5 f6 3 lt3_4 ∗ ((∃ XA : S16x2816.Idx → Elt F .f32, Holds (Val := Elt F) (c : Thread nD τ) arg11 XA) ∗ (∃ XB : S16x2816.Idx → Elt F .bf16, Holds (Val := Elt F) (c : Thread nD τ) arg10 XB)) ∗ ((Table (F := F) c arg12 (mask v0 v3 v6 v9 v12 v15 v18 v21 v24 v27 v30 v33 v36 v39 v42 v45 v48 v51) 8
        ∗ Slot c arg5 arg6 arg8 arg9 arg13 arg14 q5 q6 f5 f6 (mask v0 v3 v6 v9 v12 v15 v18 v21 v24 v27 v30 v33 v36 v39 v42 v45 v48 v51) 0 lt0_4 0
        ∗ Slot c arg5 arg6 arg8 arg9 arg13 arg14 q5 q6 f5 f6 (mask v0 v3 v6 v9 v12 v15 v18 v21 v24 v27 v30 v33 v36 v39 v42 v45 v48 v51) 1 lt1_4 1
        ∗ Slot c arg5 arg6 arg8 arg9 arg13 arg14 q5 q6 f5 f6 (mask v0 v3 v6 v9 v12 v15 v18 v21 v24 v27 v30 v33 v36 v39 v42 v45 v48 v51) 2 lt2_4 2
        ∗ Slot c arg5 arg6 arg8 arg9 arg13 arg14 q5 q6 f5 f6 (mask v0 v3 v6 v9 v12 v15 v18 v21 v24 v27 v30 v33 v36 v39 v42 v45 v48 v51) 3 lt3_4 3
        ∗ Holds (Val := Elt F) (c : Thread nD τ) arg11 (k0_pay71 (F := F))
        ∗ Holds (Val := Elt F) (c : Thread nD τ) arg10 (k0_pay72 (F := F))) -∗ ∀ v101 : BitVec 32, wp frame (wpE (defs₀ (F := F)) Variants.none (c : Thread nD τ) none) Set.univ (kk v101) Q)))) ?_ (fun hK h => ?_) (fun h => ?_)
  rotate_left
  · have hi : 0 < act (mask v0 v3 v6 v9 v12 v15 v18 v21 v24 v27 v30 v33 v36 v39 v42 v45 v48 v51) := cond9_iff.1 h
    iintro ⟨HT, HS0, HS1, HS2, HS3, HBUF, HK⟩
    ihave HS0 := (rest_open c arg5 arg6 arg8 arg9 arg13 arg14 q5 q6 f5 f6 0 lt0_4) $$ HS0
    icases HS0 with ⟨HA, HB, HC, HD, HE⟩
    iapply (wp_assoc c)
    iapply (part1 c arg0 harg0 arg1 harg1 arg2 harg2 arg3 harg3 arg4 harg4 arg5 harg5 arg6 harg6 arg7 harg7 arg8 harg8 arg9 harg9 arg10 harg10 arg11 harg11 arg12 harg12 arg13 arg14 v0 v3 v6 v9 v12 v15 v18 v21 v24 v27 v30 v33 v36 v39 v42 v45 v48 v51 q5 q6 f5 f6 h hi) $$ [HT HA HB HC HD]
    · isplitl [HT]; · iexact HT
      isplitl [HA]; · iexact HA
      isplitl [HB]; · iexact HB
      isplitl [HC]; · iexact HC
      iexact HD
    iintro ⟨HT, HA, HB, HC, HD⟩
    iapply (start Variants.none none (gE c arg6 arg9 arg14 q6 f6 0 lt0_4) (mask v0 v3 v6 v9 v12 v15 v18 v21 v24 v27 v30 v33 v36 v39 v42 v45 v48 v51) 0 (off21_eq) (offH22 _ _) (cell14_eq arg14 lt0_4 (by decide) off20_eq)) $$ HE
    iintro HE
    iapply hK
    isplitl [HT]; · iexact HT
    isplitl [HA HB HC HD HE]
    · iapply (slot_mk c arg5 arg6 arg8 arg9 arg13 arg14 q5 q6 f5 f6 (mask v0 v3 v6 v9 v12 v15 v18 v21 v24 v27 v30 v33 v36 v39 v42 v45 v48 v51) 0 lt0_4 0 hi)
      isplitl [HA]; · iexact HA
      isplitl [HB]; · iexact HB
      isplitl [HC]; · iexact HC
      isplitl [HD]; · iexact HD
      iexact HE
    isplitl [HS1]; · iexact HS1
    isplitl [HS2]; · iexact HS2
    isplitl [HS3]; · iexact HS3
    isplitl [HBUF]; · iexact HBUF
    iexact HK
  · have hi : act (mask v0 v3 v6 v9 v12 v15 v18 v21 v24 v27 v30 v33 v36 v39 v42 v45 v48 v51) ≤ 0 := Nat.le_of_not_lt fun hh => h (cond9_iff.2 hh)
    iintro ⟨HT, HS0, HS1, HS2, HS3, HBUF, HK⟩
    isplitl [HT]; · iexact HT
    isplitl [HS0]
    · iapply (slot_none c arg5 arg6 arg8 arg9 arg13 arg14 q5 q6 f5 f6 (mask v0 v3 v6 v9 v12 v15 v18 v21 v24 v27 v30 v33 v36 v39 v42 v45 v48 v51) 0 lt0_4 0 hi) $$ HS0
    isplitl [HS1]; · iexact HS1
    isplitl [HS2]; · iexact HS2
    isplitl [HS3]; · iexact HS3
    isplitl [HBUF]; · iexact HBUF
    iexact HK
  refine wp_joinD c (S1 := iprop(Table (F := F) c arg12 (mask v0 v3 v6 v9 v12 v15 v18 v21 v24 v27 v30 v33 v36 v39 v42 v45 v48 v51) 8 ∗ (Slot c arg5 arg6 arg8 arg9 arg13 arg14 q5 q6 f5 f6 (mask v0 v3 v6 v9 v12 v15 v18 v21 v24 v27 v30 v33 v36 v39 v42 v45 v48 v51) 0 lt0_4 0 ∗ Slot c arg5 arg6 arg8 arg9 arg13 arg14 q5 q6 f5 f6 (mask v0 v3 v6 v9 v12 v15 v18 v21 v24 v27 v30 v33 v36 v39 v42 v45 v48 v51) 1 lt1_4 1 ∗ Rest c arg5 arg6 arg8 arg9 arg13 arg14 q5 q6 f5 f6 2 lt2_4 ∗ Rest c arg5 arg6 arg8 arg9 arg13 arg14 q5 q6 f5 f6 3 lt3_4 ∗ ((∃ XA : S16x2816.Idx → Elt F .f32, Holds (Val := Elt F) (c : Thread nD τ) arg11 XA) ∗ (∃ XB : S16x2816.Idx → Elt F .bf16, Holds (Val := Elt F) (c : Thread nD τ) arg10 XB)) ∗ ((Table (F := F) c arg12 (mask v0 v3 v6 v9 v12 v15 v18 v21 v24 v27 v30 v33 v36 v39 v42 v45 v48 v51) 8
        ∗ Slot c arg5 arg6 arg8 arg9 arg13 arg14 q5 q6 f5 f6 (mask v0 v3 v6 v9 v12 v15 v18 v21 v24 v27 v30 v33 v36 v39 v42 v45 v48 v51) 0 lt0_4 0
        ∗ Slot c arg5 arg6 arg8 arg9 arg13 arg14 q5 q6 f5 f6 (mask v0 v3 v6 v9 v12 v15 v18 v21 v24 v27 v30 v33 v36 v39 v42 v45 v48 v51) 1 lt1_4 1
        ∗ Slot c arg5 arg6 arg8 arg9 arg13 arg14 q5 q6 f5 f6 (mask v0 v3 v6 v9 v12 v15 v18 v21 v24 v27 v30 v33 v36 v39 v42 v45 v48 v51) 2 lt2_4 2
        ∗ Slot c arg5 arg6 arg8 arg9 arg13 arg14 q5 q6 f5 f6 (mask v0 v3 v6 v9 v12 v15 v18 v21 v24 v27 v30 v33 v36 v39 v42 v45 v48 v51) 3 lt3_4 3
        ∗ Holds (Val := Elt F) (c : Thread nD τ) arg11 (k0_pay71 (F := F))
        ∗ Holds (Val := Elt F) (c : Thread nD τ) arg10 (k0_pay72 (F := F))) -∗ ∀ v101 : BitVec 32, wp frame (wpE (defs₀ (F := F)) Variants.none (c : Thread nD τ) none) Set.univ (kk v101) Q)))) ?_ (fun hK h => ?_) (fun h => ?_)
  rotate_left
  · have hi : 1 < act (mask v0 v3 v6 v9 v12 v15 v18 v21 v24 v27 v30 v33 v36 v39 v42 v45 v48 v51) := cond10_iff.1 h
    iintro ⟨HT, HS0, HS1, HS2, HS3, HBUF, HK⟩
    ihave HS1 := (rest_open c arg5 arg6 arg8 arg9 arg13 arg14 q5 q6 f5 f6 1 lt1_4) $$ HS1
    icases HS1 with ⟨HA, HB, HC, HD, HE⟩
    iapply (wp_assoc c)
    iapply (part2 c arg0 harg0 arg1 harg1 arg2 harg2 arg3 harg3 arg4 harg4 arg5 harg5 arg6 harg6 arg7 harg7 arg8 harg8 arg9 harg9 arg10 harg10 arg11 harg11 arg12 harg12 arg13 arg14 v0 v3 v6 v9 v12 v15 v18 v21 v24 v27 v30 v33 v36 v39 v42 v45 v48 v51 q5 q6 f5 f6 h hi) $$ [HT HA HB HC HD]
    · isplitl [HT]; · iexact HT
      isplitl [HA]; · iexact HA
      isplitl [HB]; · iexact HB
      isplitl [HC]; · iexact HC
      iexact HD
    iintro ⟨HT, HA, HB, HC, HD⟩
    iapply (start Variants.none none (gE c arg6 arg9 arg14 q6 f6 1 lt1_4) (mask v0 v3 v6 v9 v12 v15 v18 v21 v24 v27 v30 v33 v36 v39 v42 v45 v48 v51) 1 (off36_eq) (offH37 _ _) (cell14_eq arg14 lt1_4 (by decide) off35_eq)) $$ HE
    iintro HE
    iapply hK
    isplitl [HT]; · iexact HT
    isplitl [HS0]; · iexact HS0
    isplitl [HA HB HC HD HE]
    · iapply (slot_mk c arg5 arg6 arg8 arg9 arg13 arg14 q5 q6 f5 f6 (mask v0 v3 v6 v9 v12 v15 v18 v21 v24 v27 v30 v33 v36 v39 v42 v45 v48 v51) 1 lt1_4 1 hi)
      isplitl [HA]; · iexact HA
      isplitl [HB]; · iexact HB
      isplitl [HC]; · iexact HC
      isplitl [HD]; · iexact HD
      iexact HE
    isplitl [HS2]; · iexact HS2
    isplitl [HS3]; · iexact HS3
    isplitl [HBUF]; · iexact HBUF
    iexact HK
  · have hi : act (mask v0 v3 v6 v9 v12 v15 v18 v21 v24 v27 v30 v33 v36 v39 v42 v45 v48 v51) ≤ 1 := Nat.le_of_not_lt fun hh => h (cond10_iff.2 hh)
    iintro ⟨HT, HS0, HS1, HS2, HS3, HBUF, HK⟩
    isplitl [HT]; · iexact HT
    isplitl [HS0]; · iexact HS0
    isplitl [HS1]
    · iapply (slot_none c arg5 arg6 arg8 arg9 arg13 arg14 q5 q6 f5 f6 (mask v0 v3 v6 v9 v12 v15 v18 v21 v24 v27 v30 v33 v36 v39 v42 v45 v48 v51) 1 lt1_4 1 hi) $$ HS1
    isplitl [HS2]; · iexact HS2
    isplitl [HS3]; · iexact HS3
    isplitl [HBUF]; · iexact HBUF
    iexact HK
  refine wp_joinD c (S1 := iprop(Table (F := F) c arg12 (mask v0 v3 v6 v9 v12 v15 v18 v21 v24 v27 v30 v33 v36 v39 v42 v45 v48 v51) 8 ∗ (Slot c arg5 arg6 arg8 arg9 arg13 arg14 q5 q6 f5 f6 (mask v0 v3 v6 v9 v12 v15 v18 v21 v24 v27 v30 v33 v36 v39 v42 v45 v48 v51) 0 lt0_4 0 ∗ Slot c arg5 arg6 arg8 arg9 arg13 arg14 q5 q6 f5 f6 (mask v0 v3 v6 v9 v12 v15 v18 v21 v24 v27 v30 v33 v36 v39 v42 v45 v48 v51) 1 lt1_4 1 ∗ Slot c arg5 arg6 arg8 arg9 arg13 arg14 q5 q6 f5 f6 (mask v0 v3 v6 v9 v12 v15 v18 v21 v24 v27 v30 v33 v36 v39 v42 v45 v48 v51) 2 lt2_4 2 ∗ Rest c arg5 arg6 arg8 arg9 arg13 arg14 q5 q6 f5 f6 3 lt3_4 ∗ ((∃ XA : S16x2816.Idx → Elt F .f32, Holds (Val := Elt F) (c : Thread nD τ) arg11 XA) ∗ (∃ XB : S16x2816.Idx → Elt F .bf16, Holds (Val := Elt F) (c : Thread nD τ) arg10 XB)) ∗ ((Table (F := F) c arg12 (mask v0 v3 v6 v9 v12 v15 v18 v21 v24 v27 v30 v33 v36 v39 v42 v45 v48 v51) 8
        ∗ Slot c arg5 arg6 arg8 arg9 arg13 arg14 q5 q6 f5 f6 (mask v0 v3 v6 v9 v12 v15 v18 v21 v24 v27 v30 v33 v36 v39 v42 v45 v48 v51) 0 lt0_4 0
        ∗ Slot c arg5 arg6 arg8 arg9 arg13 arg14 q5 q6 f5 f6 (mask v0 v3 v6 v9 v12 v15 v18 v21 v24 v27 v30 v33 v36 v39 v42 v45 v48 v51) 1 lt1_4 1
        ∗ Slot c arg5 arg6 arg8 arg9 arg13 arg14 q5 q6 f5 f6 (mask v0 v3 v6 v9 v12 v15 v18 v21 v24 v27 v30 v33 v36 v39 v42 v45 v48 v51) 2 lt2_4 2
        ∗ Slot c arg5 arg6 arg8 arg9 arg13 arg14 q5 q6 f5 f6 (mask v0 v3 v6 v9 v12 v15 v18 v21 v24 v27 v30 v33 v36 v39 v42 v45 v48 v51) 3 lt3_4 3
        ∗ Holds (Val := Elt F) (c : Thread nD τ) arg11 (k0_pay71 (F := F))
        ∗ Holds (Val := Elt F) (c : Thread nD τ) arg10 (k0_pay72 (F := F))) -∗ ∀ v101 : BitVec 32, wp frame (wpE (defs₀ (F := F)) Variants.none (c : Thread nD τ) none) Set.univ (kk v101) Q)))) ?_ (fun hK h => ?_) (fun h => ?_)
  rotate_left
  · have hi : 2 < act (mask v0 v3 v6 v9 v12 v15 v18 v21 v24 v27 v30 v33 v36 v39 v42 v45 v48 v51) := cond11_iff.1 h
    iintro ⟨HT, HS0, HS1, HS2, HS3, HBUF, HK⟩
    ihave HS2 := (rest_open c arg5 arg6 arg8 arg9 arg13 arg14 q5 q6 f5 f6 2 lt2_4) $$ HS2
    icases HS2 with ⟨HA, HB, HC, HD, HE⟩
    iapply (wp_assoc c)
    iapply (part3 c arg0 harg0 arg1 harg1 arg2 harg2 arg3 harg3 arg4 harg4 arg5 harg5 arg6 harg6 arg7 harg7 arg8 harg8 arg9 harg9 arg10 harg10 arg11 harg11 arg12 harg12 arg13 arg14 v0 v3 v6 v9 v12 v15 v18 v21 v24 v27 v30 v33 v36 v39 v42 v45 v48 v51 q5 q6 f5 f6 h hi) $$ [HT HA HB HC HD]
    · isplitl [HT]; · iexact HT
      isplitl [HA]; · iexact HA
      isplitl [HB]; · iexact HB
      isplitl [HC]; · iexact HC
      iexact HD
    iintro ⟨HT, HA, HB, HC, HD⟩
    iapply (start Variants.none none (gE c arg6 arg9 arg14 q6 f6 2 lt2_4) (mask v0 v3 v6 v9 v12 v15 v18 v21 v24 v27 v30 v33 v36 v39 v42 v45 v48 v51) 2 (off51_eq) (offH52 _ _) (cell14_eq arg14 lt2_4 (by decide) off50_eq)) $$ HE
    iintro HE
    iapply hK
    isplitl [HT]; · iexact HT
    isplitl [HS0]; · iexact HS0
    isplitl [HS1]; · iexact HS1
    isplitl [HA HB HC HD HE]
    · iapply (slot_mk c arg5 arg6 arg8 arg9 arg13 arg14 q5 q6 f5 f6 (mask v0 v3 v6 v9 v12 v15 v18 v21 v24 v27 v30 v33 v36 v39 v42 v45 v48 v51) 2 lt2_4 2 hi)
      isplitl [HA]; · iexact HA
      isplitl [HB]; · iexact HB
      isplitl [HC]; · iexact HC
      isplitl [HD]; · iexact HD
      iexact HE
    isplitl [HS3]; · iexact HS3
    isplitl [HBUF]; · iexact HBUF
    iexact HK
  · have hi : act (mask v0 v3 v6 v9 v12 v15 v18 v21 v24 v27 v30 v33 v36 v39 v42 v45 v48 v51) ≤ 2 := Nat.le_of_not_lt fun hh => h (cond11_iff.2 hh)
    iintro ⟨HT, HS0, HS1, HS2, HS3, HBUF, HK⟩
    isplitl [HT]; · iexact HT
    isplitl [HS0]; · iexact HS0
    isplitl [HS1]; · iexact HS1
    isplitl [HS2]
    · iapply (slot_none c arg5 arg6 arg8 arg9 arg13 arg14 q5 q6 f5 f6 (mask v0 v3 v6 v9 v12 v15 v18 v21 v24 v27 v30 v33 v36 v39 v42 v45 v48 v51) 2 lt2_4 2 hi) $$ HS2
    isplitl [HS3]; · iexact HS3
    isplitl [HBUF]; · iexact HBUF
    iexact HK
  refine wp_joinD c (S1 := iprop(Table (F := F) c arg12 (mask v0 v3 v6 v9 v12 v15 v18 v21 v24 v27 v30 v33 v36 v39 v42 v45 v48 v51) 8 ∗ (Slot c arg5 arg6 arg8 arg9 arg13 arg14 q5 q6 f5 f6 (mask v0 v3 v6 v9 v12 v15 v18 v21 v24 v27 v30 v33 v36 v39 v42 v45 v48 v51) 0 lt0_4 0 ∗ Slot c arg5 arg6 arg8 arg9 arg13 arg14 q5 q6 f5 f6 (mask v0 v3 v6 v9 v12 v15 v18 v21 v24 v27 v30 v33 v36 v39 v42 v45 v48 v51) 1 lt1_4 1 ∗ Slot c arg5 arg6 arg8 arg9 arg13 arg14 q5 q6 f5 f6 (mask v0 v3 v6 v9 v12 v15 v18 v21 v24 v27 v30 v33 v36 v39 v42 v45 v48 v51) 2 lt2_4 2 ∗ Slot c arg5 arg6 arg8 arg9 arg13 arg14 q5 q6 f5 f6 (mask v0 v3 v6 v9 v12 v15 v18 v21 v24 v27 v30 v33 v36 v39 v42 v45 v48 v51) 3 lt3_4 3 ∗ ((∃ XA : S16x2816.Idx → Elt F .f32, Holds (Val := Elt F) (c : Thread nD τ) arg11 XA) ∗ (∃ XB : S16x2816.Idx → Elt F .bf16, Holds (Val := Elt F) (c : Thread nD τ) arg10 XB)) ∗ ((Table (F := F) c arg12 (mask v0 v3 v6 v9 v12 v15 v18 v21 v24 v27 v30 v33 v36 v39 v42 v45 v48 v51) 8
        ∗ Slot c arg5 arg6 arg8 arg9 arg13 arg14 q5 q6 f5 f6 (mask v0 v3 v6 v9 v12 v15 v18 v21 v24 v27 v30 v33 v36 v39 v42 v45 v48 v51) 0 lt0_4 0
        ∗ Slot c arg5 arg6 arg8 arg9 arg13 arg14 q5 q6 f5 f6 (mask v0 v3 v6 v9 v12 v15 v18 v21 v24 v27 v30 v33 v36 v39 v42 v45 v48 v51) 1 lt1_4 1
        ∗ Slot c arg5 arg6 arg8 arg9 arg13 arg14 q5 q6 f5 f6 (mask v0 v3 v6 v9 v12 v15 v18 v21 v24 v27 v30 v33 v36 v39 v42 v45 v48 v51) 2 lt2_4 2
        ∗ Slot c arg5 arg6 arg8 arg9 arg13 arg14 q5 q6 f5 f6 (mask v0 v3 v6 v9 v12 v15 v18 v21 v24 v27 v30 v33 v36 v39 v42 v45 v48 v51) 3 lt3_4 3
        ∗ Holds (Val := Elt F) (c : Thread nD τ) arg11 (k0_pay71 (F := F))
        ∗ Holds (Val := Elt F) (c : Thread nD τ) arg10 (k0_pay72 (F := F))) -∗ ∀ v101 : BitVec 32, wp frame (wpE (defs₀ (F := F)) Variants.none (c : Thread nD τ) none) Set.univ (kk v101) Q)))) ?_ (fun hK h => ?_) (fun h => ?_)
  rotate_left
  · have hi : 3 < act (mask v0 v3 v6 v9 v12 v15 v18 v21 v24 v27 v30 v33 v36 v39 v42 v45 v48 v51) := cond12_iff.1 h
    iintro ⟨HT, HS0, HS1, HS2, HS3, HBUF, HK⟩
    ihave HS3 := (rest_open c arg5 arg6 arg8 arg9 arg13 arg14 q5 q6 f5 f6 3 lt3_4) $$ HS3
    icases HS3 with ⟨HA, HB, HC, HD, HE⟩
    iapply (wp_assoc c)
    iapply (part4 c arg0 harg0 arg1 harg1 arg2 harg2 arg3 harg3 arg4 harg4 arg5 harg5 arg6 harg6 arg7 harg7 arg8 harg8 arg9 harg9 arg10 harg10 arg11 harg11 arg12 harg12 arg13 arg14 v0 v3 v6 v9 v12 v15 v18 v21 v24 v27 v30 v33 v36 v39 v42 v45 v48 v51 q5 q6 f5 f6 h hi) $$ [HT HA HB HC HD]
    · isplitl [HT]; · iexact HT
      isplitl [HA]; · iexact HA
      isplitl [HB]; · iexact HB
      isplitl [HC]; · iexact HC
      iexact HD
    iintro ⟨HT, HA, HB, HC, HD⟩
    iapply (start Variants.none none (gE c arg6 arg9 arg14 q6 f6 3 lt3_4) (mask v0 v3 v6 v9 v12 v15 v18 v21 v24 v27 v30 v33 v36 v39 v42 v45 v48 v51) 3 (off66_eq) (offH67 _ _) (cell14_eq arg14 lt3_4 (by decide) off65_eq)) $$ HE
    iintro HE
    iapply hK
    isplitl [HT]; · iexact HT
    isplitl [HS0]; · iexact HS0
    isplitl [HS1]; · iexact HS1
    isplitl [HS2]; · iexact HS2
    isplitl [HA HB HC HD HE]
    · iapply (slot_mk c arg5 arg6 arg8 arg9 arg13 arg14 q5 q6 f5 f6 (mask v0 v3 v6 v9 v12 v15 v18 v21 v24 v27 v30 v33 v36 v39 v42 v45 v48 v51) 3 lt3_4 3 hi)
      isplitl [HA]; · iexact HA
      isplitl [HB]; · iexact HB
      isplitl [HC]; · iexact HC
      isplitl [HD]; · iexact HD
      iexact HE
    isplitl [HBUF]; · iexact HBUF
    iexact HK
  · have hi : act (mask v0 v3 v6 v9 v12 v15 v18 v21 v24 v27 v30 v33 v36 v39 v42 v45 v48 v51) ≤ 3 := Nat.le_of_not_lt fun hh => h (cond12_iff.2 hh)
    iintro ⟨HT, HS0, HS1, HS2, HS3, HBUF, HK⟩
    isplitl [HT]; · iexact HT
    isplitl [HS0]; · iexact HS0
    isplitl [HS1]; · iexact HS1
    isplitl [HS2]; · iexact HS2
    isplitl [HS3]
    · iapply (slot_none c arg5 arg6 arg8 arg9 arg13 arg14 q5 q6 f5 f6 (mask v0 v3 v6 v9 v12 v15 v18 v21 v24 v27 v30 v33 v36 v39 v42 v45 v48 v51) 3 lt3_4 3 hi) $$ HS3
    isplitl [HBUF]; · iexact HBUF
    iexact HK
  iintro ⟨HT, HS0, HS1, HS2, HS3, ⟨⟨%XA, HA⟩, ⟨%XB, HB⟩⟩, HK⟩
  iapply (wp_loadH Variants.none (c : Thread nD τ) none (X := XA)) $$ HA
  iintro HA
  iapply (wp_storeH Variants.none (c : Thread nD τ) none (X := XA) (k0_pay71 (F := F)) (fun x => congrArg _ (pay71_rect x)) (fun y hy => absurd (whole_set y) hy)) $$ HA
  iintro HA
  iapply (wp_loadH Variants.none (c : Thread nD τ) none (X := XB)) $$ HB
  iintro HB
  iapply (wp_storeH Variants.none (c : Thread nD τ) none (X := XB) (k0_pay72 (F := F)) (fun x => congrArg _ (pay71_rect x)) (fun y hy => absurd (whole_set y) hy)) $$ HB
  iintro HB
  ispecialize HK $$ [HT HS0 HS1 HS2 HS3 HA HB]
  · isplitl [HT]; · iexact HT
    isplitl [HS0]; · iexact HS0
    isplitl [HS1]; · iexact HS1
    isplitl [HS2]; · iexact HS2
    isplitl [HS3]; · iexact HS3
    isplitl [HA]; · iexact HA
    iexact HB
  iapply (wp_pure c)
  iapply HK

/-- The rows of the input, in the sixteen rows the products take. -/
def xbOf (X : S9x2816.Idx → Elt F .bf16) : S16x2816.Idx → Elt F .bf16 := fun y =>
  if h : (y 0).val < 10 then updateSlice (s := S10x2816) (fun x => k0_pay72 (F := F) ((Rect.unit (s := S16x2816) ![0, 0] S10x2816.size inb_S16x2816_S10x2816_0_0).emb x))
    (k0_pay73 (F := F) X) ![0, 0] slices_S10x2816_S9x2816_0_0 (ix2 (⟨(y 0).val, h⟩ : Fin 10) (y 1 : Fin 2816)) else k0_pay72 (F := F) y

theorem nine_rect (x : (Rect.unit (s := S9x2816) ![0, 0] S9x2816.size inb_S9x2816_S9x2816_0_0).shape.Idx) :
    (Rect.unit (s := S9x2816) ![0, 0] S9x2816.size inb_S9x2816_S9x2816_0_0).emb x = x := by
  funext a
  apply Fin.ext
  rw [Rect.emb_apply]
  fin_cases a
  · change 0 + 1 * (x 0).val = (x 0).val
    omega
  · change 0 + 1 * (x 1).val = (x 1).val
    omega

theorem xb_in (X : S9x2816.Idx → Elt F .bf16) (x : (Rect.unit (s := S16x2816) ![0, 0] S10x2816.size inb_S16x2816_S10x2816_0_0).shape.Idx) :
    xbOf X ((Rect.unit (s := S16x2816) ![0, 0] S10x2816.size inb_S16x2816_S10x2816_0_0).emb x)
      = updateSlice (s := S10x2816) (fun x => k0_pay72 (F := F) ((Rect.unit (s := S16x2816) ![0, 0] S10x2816.size inb_S16x2816_S10x2816_0_0).emb x))
          (k0_pay73 (F := F) X) ![0, 0] slices_S10x2816_S9x2816_0_0 x := by
  have h0 : (((Rect.unit (s := S16x2816) ![0, 0] S10x2816.size inb_S16x2816_S10x2816_0_0).emb x) 0).val = (x 0).val := by
    rw [Rect.emb_apply]
    change 0 + 1 * (x 0).val = (x 0).val
    omega
  have h1 : (((Rect.unit (s := S16x2816) ![0, 0] S10x2816.size inb_S16x2816_S10x2816_0_0).emb x) 1).val = (x 1).val := by
    rw [Rect.emb_apply]
    change 0 + 1 * (x 1).val = (x 1).val
    omega
  have hx : (x 0).val < 10 := (x 0).isLt
  unfold xbOf
  rw [dif_pos (by rw [h0]; exact hx)]
  congr 1
  funext a
  apply Fin.ext
  fin_cases a
  · exact h0
  · exact h1

theorem xb_out (X : S9x2816.Idx → Elt F .bf16) (y : S16x2816.Idx) (hy : y ∉ (Rect.unit (s := S16x2816) ![0, 0] S10x2816.size inb_S16x2816_S10x2816_0_0).set) :
    xbOf X y = k0_pay72 (F := F) y := by
  unfold xbOf
  rw [dif_neg]
  intro h
  apply hy
  rw [Rect.mem_set_unit]
  intro a
  have hl := (y a).isLt
  fin_cases a
  · exact ⟨Nat.zero_le _, lt_of_lt_of_eq h (Nat.zero_add _).symm⟩
  · exact ⟨Nat.zero_le _, lt_of_lt_of_eq hl (Nat.zero_add _).symm⟩

/-- The input rows, and the first terms of the tables of weights. -/
theorem part27 {α : Type} {Q : α → sProp 𝕄} (I : S9x2.Idx → Elt F .i32) (W : S9x2.Idx → Elt F .f32) (X2 : S9x2816.Idx → Elt F .bf16)
    {kk : (Σ' (v127 : IVec S16x128 32) (v141 : FVec F S16x128 .f32) (v146 : IVec S16x128 32) (v151 : FVec F S16x128 .f32) (v156 : IVec S16x128 32), BitVec 32) → Prog (TpuEff nD τ sig (Elt F) Λ₀ .tc) α} :
    iprop(Holds (Val := Elt F) (c : Thread nD τ) arg0 I
        ∗ Holds (Val := Elt F) (c : Thread nD τ) arg1 W
        ∗ Holds (Val := Elt F) (c : Thread nD τ) arg2 X2
        ∗ Holds (Val := Elt F) (c : Thread nD τ) arg10 (k0_pay72 (F := F)))
      ⊢ iprop((iprop(Holds (Val := Elt F) (c : Thread nD τ) arg0 I
        ∗ Holds (Val := Elt F) (c : Thread nD τ) arg1 W
        ∗ Holds (Val := Elt F) (c : Thread nD τ) arg2 X2
        ∗ Holds (Val := Elt F) (c : Thread nD τ) arg10 (xbOf X2)) -∗
          wp frame (wpE (defs₀ (F := F)) Variants.none (c : Thread nD τ) none) Set.univ (kk ⟨(iota .tc S16x128 32 [0] iota_S16x128_d0_w32), k0_pay74 (W (at92 0 0)), k0_pay75 (I (at92 0 1)), k0_pay76 (W (at92 0 1)), k0_pay77 (I (at92 0 0)) (I (at92 1 0)), 1#32⟩) Q)
        -∗ wp frame (wpE (defs₀ (F := F)) Variants.none (c : Thread nD τ) none) Set.univ (k0_part27 arg0 harg0 arg1 harg1 arg2 harg2 arg3 harg3 arg4 harg4 arg5 harg5 arg6 harg6 arg7 harg7 arg8 harg8 arg9 harg9 arg10 harg10 arg11 harg11 arg12 harg12 arg13 arg14 >>= kk) Q) := by
  rw [k0_part27_eq_skeleton]
  unfold k0_part27_skel
  iintro ⟨H0, H1, H2, HX⟩ Hk
  iapply (wp_loadH Variants.none (c : Thread nD τ) none) $$ H2
  iintro H2
  iapply (wp_loadH Variants.none (c : Thread nD τ) none) $$ HX
  iintro HX
  iapply (wp_loadH Variants.none (c : Thread nD τ) none) $$ HX
  iintro HX
  rw [show (fun x : (Rect.unit (s := S9x2816) ![0, 0] S9x2816.size inb_S9x2816_S9x2816_0_0).shape.Idx => X2 ((Rect.unit (s := S9x2816) ![0, 0] S9x2816.size inb_S9x2816_S9x2816_0_0).emb x)) = X2 from funext fun x => congrArg X2 (nine_rect x)]
  iapply (wp_storeH Variants.none (c : Thread nD τ) none (xbOf X2) (fun x => (xb_in X2 x)) (fun y hy => xb_out X2 y hy)) $$ HX
  iintro HX
  iapply (wp_at c (0 : Fin 9) (0 : Fin 2) rfl) $$ H0
  iintro H0
  iapply (wp_at c (0 : Fin 9) (0 : Fin 2) rfl) $$ H1
  iintro H1
  iapply (wp_at c (0 : Fin 9) (1 : Fin 2) rfl) $$ H0
  iintro H0
  iapply (wp_at c (0 : Fin 9) (1 : Fin 2) rfl) $$ H1
  iintro H1
  iapply (wp_at c (1 : Fin 9) (0 : Fin 2) rfl) $$ H0
  iintro H0
  iapply Hk
  isplitl [H0]; · iexact H0
  isplitl [H1]; · iexact H1
  isplitl [H2]; · iexact H2
  iexact HX

/-- Further terms of the tables of weights. -/
theorem part28 {α : Type} {Q : α → sProp 𝕄} (I : S9x2.Idx → Elt F .i32) (W : S9x2.Idx → Elt F .f32) (v127 : IVec S16x128 32) (v141 : FVec F S16x128 .f32) (v146 : IVec S16x128 32) (v151 : FVec F S16x128 .f32) (v156 : IVec S16x128 32) (c1_i32_107 : BitVec 32)
    {kk : (Σ' (v176 : IVec S16x128 32) (v181 : FVec F S16x128 .f32) (v186 : IVec S16x128 32) (v191 : FVec F S16x128 .f32), IVec S16x128 1) → Prog (TpuEff nD τ sig (Elt F) Λ₀ .tc) α} :
    iprop(Holds (Val := Elt F) (c : Thread nD τ) arg0 I
        ∗ Holds (Val := Elt F) (c : Thread nD τ) arg1 W)
      ⊢ iprop((iprop(Holds (Val := Elt F) (c : Thread nD τ) arg0 I
        ∗ Holds (Val := Elt F) (c : Thread nD τ) arg1 W) -∗
          wp frame (wpE (defs₀ (F := F)) Variants.none (c : Thread nD τ) none) Set.univ (kk ⟨k0_pay78 v127 v156 (I (at92 2 0)), k0_pay79 v127 v141 c1_i32_107 (W (at92 1 0)) (W (at92 2 0)), k0_pay80 v127 v146 (I (at92 1 1)) (I (at92 2 1)), k0_pay81 v127 v151 (W (at92 1 1)) (W (at92 2 1)), k0_pay82 v127⟩) Q)
        -∗ wp frame (wpE (defs₀ (F := F)) Variants.none (c : Thread nD τ) none) Set.univ (k0_part28 arg0 harg0 arg1 harg1 arg2 harg2 arg3 harg3 arg4 harg4 arg5 harg5 arg6 harg6 arg7 harg7 arg8 harg8 arg9 harg9 arg10 harg10 arg11 harg11 arg12 harg12 arg13 arg14 v127 v141 v146 v151 v156 c1_i32_107 >>= kk) Q) := by
  rw [k0_part28_eq_skeleton]
  unfold k0_part28_skel
  iintro ⟨H0, H1⟩ Hk
  iapply (wp_at c (1 : Fin 9) (0 : Fin 2) rfl) $$ H1
  iintro H1
  iapply (wp_at c (1 : Fin 9) (1 : Fin 2) rfl) $$ H0
  iintro H0
  iapply (wp_at c (1 : Fin 9) (1 : Fin 2) rfl) $$ H1
  iintro H1
  iapply (wp_at c (2 : Fin 9) (0 : Fin 2) rfl) $$ H0
  iintro H0
  iapply (wp_at c (2 : Fin 9) (0 : Fin 2) rfl) $$ H1
  iintro H1
  iapply (wp_at c (2 : Fin 9) (1 : Fin 2) rfl) $$ H0
  iintro H0
  iapply (wp_at c (2 : Fin 9) (1 : Fin 2) rfl) $$ H1
  iintro H1
  iapply Hk
  isplitl [H0]; · iexact H0
  iexact H1

/-- Further terms of the tables of weights. -/
theorem part29 {α : Type} {Q : α → sProp 𝕄} (I : S9x2.Idx → Elt F .i32) (W : S9x2.Idx → Elt F .f32) (v127 : IVec S16x128 32) (v176 : IVec S16x128 32) (v181 : FVec F S16x128 .f32) (v186 : IVec S16x128 32) (v191 : FVec F S16x128 .f32) (v193 : IVec S16x128 1)
    {kk : (Σ' (v216 : IVec S16x128 32) (v221 : FVec F S16x128 .f32) (v226 : IVec S16x128 32) (v231 : FVec F S16x128 .f32), BitVec 32) → Prog (TpuEff nD τ sig (Elt F) Λ₀ .tc) α} :
    iprop(Holds (Val := Elt F) (c : Thread nD τ) arg0 I
        ∗ Holds (Val := Elt F) (c : Thread nD τ) arg1 W)
      ⊢ iprop((iprop(Holds (Val := Elt F) (c : Thread nD τ) arg0 I
        ∗ Holds (Val := Elt F) (c : Thread nD τ) arg1 W) -∗
          wp frame (wpE (defs₀ (F := F)) Variants.none (c : Thread nD τ) none) Set.univ (kk ⟨k0_pay83 v127 v176 v193 (I (at92 3 0)) (I (at92 4 0)), k0_pay84 v127 v181 (W (at92 3 0)) (W (at92 4 0)), k0_pay85 v127 v186 (I (at92 3 1)) (I (at92 4 1)), k0_pay86 v127 v191 (W (at92 3 1)) (W (at92 4 1)), 5#32⟩) Q)
        -∗ wp frame (wpE (defs₀ (F := F)) Variants.none (c : Thread nD τ) none) Set.univ (k0_part29 arg0 harg0 arg1 harg1 arg2 harg2 arg3 harg3 arg4 harg4 arg5 harg5 arg6 harg6 arg7 harg7 arg8 harg8 arg9 harg9 arg10 harg10 arg11 harg11 arg12 harg12 arg13 arg14 v127 v176 v181 v186 v191 v193 >>= kk) Q) := by
  rw [k0_part29_eq_skeleton]
  unfold k0_part29_skel
  iintro ⟨H0, H1⟩ Hk
  iapply (wp_at c (3 : Fin 9) (0 : Fin 2) rfl) $$ H0
  iintro H0
  iapply (wp_at c (3 : Fin 9) (0 : Fin 2) rfl) $$ H1
  iintro H1
  iapply (wp_at c (3 : Fin 9) (1 : Fin 2) rfl) $$ H0
  iintro H0
  iapply (wp_at c (3 : Fin 9) (1 : Fin 2) rfl) $$ H1
  iintro H1
  iapply (wp_at c (4 : Fin 9) (0 : Fin 2) rfl) $$ H0
  iintro H0
  iapply (wp_at c (4 : Fin 9) (0 : Fin 2) rfl) $$ H1
  iintro H1
  iapply (wp_at c (4 : Fin 9) (1 : Fin 2) rfl) $$ H0
  iintro H0
  iapply (wp_at c (4 : Fin 9) (1 : Fin 2) rfl) $$ H1
  iintro H1
  iapply Hk
  isplitl [H0]; · iexact H0
  iexact H1

/-- Further terms of the tables of weights. -/
theorem part30 {α : Type} {Q : α → sProp 𝕄} (I : S9x2.Idx → Elt F .i32) (W : S9x2.Idx → Elt F .f32) (v127 : IVec S16x128 32) (v216 : IVec S16x128 32) (v221 : FVec F S16x128 .f32) (v226 : IVec S16x128 32) (v231 : FVec F S16x128 .f32) (c5_i32_152 : BitVec 32)
    {kk : (Σ' (v251 : FVec F S16x128 .f32) (v256 : IVec S16x128 32) (v261 : FVec F S16x128 .f32) (v266 : IVec S16x128 32), IVec S16x128 1) → Prog (TpuEff nD τ sig (Elt F) Λ₀ .tc) α} :
    iprop(Holds (Val := Elt F) (c : Thread nD τ) arg0 I
        ∗ Holds (Val := Elt F) (c : Thread nD τ) arg1 W)
      ⊢ iprop((iprop(Holds (Val := Elt F) (c : Thread nD τ) arg0 I
        ∗ Holds (Val := Elt F) (c : Thread nD τ) arg1 W) -∗
          wp frame (wpE (defs₀ (F := F)) Variants.none (c : Thread nD τ) none) Set.univ (kk ⟨k0_pay87 v127 v231 (W (at92 5 1)), k0_pay88 v127 v216 c5_i32_152 (I (at92 5 0)) (I (at92 6 0)), k0_pay89 v127 v221 (W (at92 5 0)) (W (at92 6 0)), k0_pay90 v127 v226 (I (at92 5 1)) (I (at92 6 1)), k0_pay91 v127⟩) Q)
        -∗ wp frame (wpE (defs₀ (F := F)) Variants.none (c : Thread nD τ) none) Set.univ (k0_part30 arg0 harg0 arg1 harg1 arg2 harg2 arg3 harg3 arg4 harg4 arg5 harg5 arg6 harg6 arg7 harg7 arg8 harg8 arg9 harg9 arg10 harg10 arg11 harg11 arg12 harg12 arg13 arg14 v127 v216 v221 v226 v231 c5_i32_152 >>= kk) Q) := by
  rw [k0_part30_eq_skeleton]
  unfold k0_part30_skel
  iintro ⟨H0, H1⟩ Hk
  iapply (wp_at c (5 : Fin 9) (0 : Fin 2) rfl) $$ H0
  iintro H0
  iapply (wp_at c (5 : Fin 9) (0 : Fin 2) rfl) $$ H1
  iintro H1
  iapply (wp_at c (5 : Fin 9) (1 : Fin 2) rfl) $$ H0
  iintro H0
  iapply (wp_at c (5 : Fin 9) (1 : Fin 2) rfl) $$ H1
  iintro H1
  iapply (wp_at c (6 : Fin 9) (0 : Fin 2) rfl) $$ H0
  iintro H0
  iapply (wp_at c (6 : Fin 9) (0 : Fin 2) rfl) $$ H1
  iintro H1
  iapply (wp_at c (6 : Fin 9) (1 : Fin 2) rfl) $$ H0
  iintro H0
  iapply Hk
  isplitl [H0]; · iexact H0
  iexact H1

/-- Further terms of the tables of weights. -/
theorem part31 {α : Type} {Q : α → sProp 𝕄} (I : S9x2.Idx → Elt F .i32) (W : S9x2.Idx → Elt F .f32) (v127 : IVec S16x128 32) (v251 : FVec F S16x128 .f32) (v256 : IVec S16x128 32) (v261 : FVec F S16x128 .f32) (v266 : IVec S16x128 32) (v268 : IVec S16x128 1)
    {kk : (Σ' (v291 : FVec F S16x128 .f32) (v296 : IVec S16x128 32) (v301 : FVec F S16x128 .f32) (v306 : IVec S16x128 32), BitVec 32) → Prog (TpuEff nD τ sig (Elt F) Λ₀ .tc) α} :
    iprop(Holds (Val := Elt F) (c : Thread nD τ) arg0 I
        ∗ Holds (Val := Elt F) (c : Thread nD τ) arg1 W)
      ⊢ iprop((iprop(Holds (Val := Elt F) (c : Thread nD τ) arg0 I
        ∗ Holds (Val := Elt F) (c : Thread nD τ) arg1 W) -∗
          wp frame (wpE (defs₀ (F := F)) Variants.none (c : Thread nD τ) none) Set.univ (kk ⟨k0_pay92 v127 v251 v268 (W (at92 6 1)) (W (at92 7 1)), k0_pay93 v127 v256 (I (at92 7 0)) (I (at92 8 0)), k0_pay94 v127 v261 (W (at92 7 0)) (W (at92 8 0)), k0_pay95 v127 v266 (I (at92 7 1)) (I (at92 8 1)), 8#32⟩) Q)
        -∗ wp frame (wpE (defs₀ (F := F)) Variants.none (c : Thread nD τ) none) Set.univ (k0_part31 arg0 harg0 arg1 harg1 arg2 harg2 arg3 harg3 arg4 harg4 arg5 harg5 arg6 harg6 arg7 harg7 arg8 harg8 arg9 harg9 arg10 harg10 arg11 harg11 arg12 harg12 arg13 arg14 v127 v251 v256 v261 v266 v268 >>= kk) Q) := by
  rw [k0_part31_eq_skeleton]
  unfold k0_part31_skel
  iintro ⟨H0, H1⟩ Hk
  iapply (wp_at c (6 : Fin 9) (1 : Fin 2) rfl) $$ H1
  iintro H1
  iapply (wp_at c (7 : Fin 9) (0 : Fin 2) rfl) $$ H0
  iintro H0
  iapply (wp_at c (7 : Fin 9) (0 : Fin 2) rfl) $$ H1
  iintro H1
  iapply (wp_at c (7 : Fin 9) (1 : Fin 2) rfl) $$ H0
  iintro H0
  iapply (wp_at c (7 : Fin 9) (1 : Fin 2) rfl) $$ H1
  iintro H1
  iapply (wp_at c (8 : Fin 9) (0 : Fin 2) rfl) $$ H0
  iintro H0
  iapply (wp_at c (8 : Fin 9) (0 : Fin 2) rfl) $$ H1
  iintro H1
  iapply (wp_at c (8 : Fin 9) (1 : Fin 2) rfl) $$ H0
  iintro H0
  iapply Hk
  isplitl [H0]; · iexact H0
  iexact H1

end Parts

end

end Cert.Kernel.Hand

end
-- ==== Proof.FloatBody.lean ====
/-
  The kernel's body.
-/
module

public import proofs.«01_k».proof.Proof.FloatTrip
public import proofs.«01_k».proof.Proof.FloatPrefix

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MoeWords Cert.MoeRing

variable {F : FTy → Type} [FloatOps F]

local notation "𝕄" => MT nD τ sig Unit (Elt F) ℕ (Pipeline.UD sig nD τ) ℕ

/-! ### The tables of weights -/

section Vectors

variable (I : S9x2.Idx → Elt F .i32) (W : S9x2.Idx → Elt F .f32)

/-- The mask of the experts asked for. -/
def maskOf (I : S9x2.Idx → Elt F .i32) : BitVec 32 := mask (I (at92 0 0)) (I (at92 0 1)) (I (at92 1 0)) (I (at92 1 1)) (I (at92 2 0)) (I (at92 2 1)) (I (at92 3 0)) (I (at92 3 1)) (I (at92 4 0)) (I (at92 4 1)) (I (at92 5 0)) (I (at92 5 1)) (I (at92 6 0)) (I (at92 6 1)) (I (at92 7 0)) (I (at92 7 1)) (I (at92 8 0)) (I (at92 8 1))

/-- The row numbers. -/
def rowNo : IVec S16x128 32 := iota .tc S16x128 32 [0] iota_S16x128_d0_w32

def w141 (I : S9x2.Idx → Elt F .i32) (W : S9x2.Idx → Elt F .f32) : FVec F S16x128 .f32 := k0_pay74 (W (at92 0 0))

def w146 (I : S9x2.Idx → Elt F .i32) (W : S9x2.Idx → Elt F .f32) : IVec S16x128 32 := k0_pay75 (I (at92 0 1))

def w151 (I : S9x2.Idx → Elt F .i32) (W : S9x2.Idx → Elt F .f32) : FVec F S16x128 .f32 := k0_pay76 (W (at92 0 1))

def w156 (I : S9x2.Idx → Elt F .i32) (W : S9x2.Idx → Elt F .f32) : IVec S16x128 32 := k0_pay77 (I (at92 0 0)) (I (at92 1 0))

def w176 (I : S9x2.Idx → Elt F .i32) (W : S9x2.Idx → Elt F .f32) : IVec S16x128 32 := k0_pay78 rowNo (w156 I W) (I (at92 2 0))

def w181 (I : S9x2.Idx → Elt F .i32) (W : S9x2.Idx → Elt F .f32) : FVec F S16x128 .f32 := k0_pay79 rowNo (w141 I W) 1#32 (W (at92 1 0)) (W (at92 2 0))

def w186 (I : S9x2.Idx → Elt F .i32) (W : S9x2.Idx → Elt F .f32) : IVec S16x128 32 := k0_pay80 rowNo (w146 I W) (I (at92 1 1)) (I (at92 2 1))

def w191 (I : S9x2.Idx → Elt F .i32) (W : S9x2.Idx → Elt F .f32) : FVec F S16x128 .f32 := k0_pay81 rowNo (w151 I W) (W (at92 1 1)) (W (at92 2 1))

def w193 (I : S9x2.Idx → Elt F .i32) (W : S9x2.Idx → Elt F .f32) : IVec S16x128 1 := k0_pay82 rowNo

def w216 (I : S9x2.Idx → Elt F .i32) (W : S9x2.Idx → Elt F .f32) : IVec S16x128 32 := k0_pay83 rowNo (w176 I W) (w193 I W) (I (at92 3 0)) (I (at92 4 0))

def w221 (I : S9x2.Idx → Elt F .i32) (W : S9x2.Idx → Elt F .f32) : FVec F S16x128 .f32 := k0_pay84 rowNo (w181 I W) (W (at92 3 0)) (W (at92 4 0))

def w226 (I : S9x2.Idx → Elt F .i32) (W : S9x2.Idx → Elt F .f32) : IVec S16x128 32 := k0_pay85 rowNo (w186 I W) (I (at92 3 1)) (I (at92 4 1))

def w231 (I : S9x2.Idx → Elt F .i32) (W : S9x2.Idx → Elt F .f32) : FVec F S16x128 .f32 := k0_pay86 rowNo (w191 I W) (W (at92 3 1)) (W (at92 4 1))

def w251 (I : S9x2.Idx → Elt F .i32) (W : S9x2.Idx → Elt F .f32) : FVec F S16x128 .f32 := k0_pay87 rowNo (w231 I W) (W (at92 5 1))

def w256 (I : S9x2.Idx → Elt F .i32) (W : S9x2.Idx → Elt F .f32) : IVec S16x128 32 := k0_pay88 rowNo (w216 I W) 5#32 (I (at92 5 0)) (I (at92 6 0))

def w261 (I : S9x2.Idx → Elt F .i32) (W : S9x2.Idx → Elt F .f32) : FVec F S16x128 .f32 := k0_pay89 rowNo (w221 I W) (W (at92 5 0)) (W (at92 6 0))

def w266 (I : S9x2.Idx → Elt F .i32) (W : S9x2.Idx → Elt F .f32) : IVec S16x128 32 := k0_pay90 rowNo (w226 I W) (I (at92 5 1)) (I (at92 6 1))

def w268 (I : S9x2.Idx → Elt F .i32) (W : S9x2.Idx → Elt F .f32) : IVec S16x128 1 := k0_pay91 rowNo

def w291 (I : S9x2.Idx → Elt F .i32) (W : S9x2.Idx → Elt F .f32) : FVec F S16x128 .f32 := k0_pay92 rowNo (w251 I W) (w268 I W) (W (at92 6 1)) (W (at92 7 1))

def w296 (I : S9x2.Idx → Elt F .i32) (W : S9x2.Idx → Elt F .f32) : IVec S16x128 32 := k0_pay93 rowNo (w256 I W) (I (at92 7 0)) (I (at92 8 0))

def w301 (I : S9x2.Idx → Elt F .i32) (W : S9x2.Idx → Elt F .f32) : FVec F S16x128 .f32 := k0_pay94 rowNo (w261 I W) (W (at92 7 0)) (W (at92 8 0))

def w306 (I : S9x2.Idx → Elt F .i32) (W : S9x2.Idx → Elt F .f32) : IVec S16x128 32 := k0_pay95 rowNo (w266 I W) (I (at92 7 1)) (I (at92 8 1))

def w311 (I : S9x2.Idx → Elt F .i32) (W : S9x2.Idx → Elt F .f32) : FVec F S16x128 .f32 := k0_pay1 rowNo (w291 I W) 8#32 (W (at92 8 1))

/-- The accumulator after the loop. -/
def accOf (W13 : S8x2816x2816.Idx → Elt F .i8) (W2 : S8x1408x2816.Idx → Elt F .i8) (I : S9x2.Idx → Elt F .i32) (W : S9x2.Idx → Elt F .f32)
    (X2 : S9x2816.Idx → Elt F .bf16) (S13 S2 : S8x2816.Idx → Elt F .f32) : S16x2816.Idx → Elt F .f32 :=
  accN W13 W2 (xbOf X2) S13 S2 (w296 I W) (w301 I W) (w306 I W) (w311 I W) (k0_pay71 (F := F)) (maskOf I) (act (maskOf I))

/-- What the kernel writes. -/
def outOf (W13 : S8x2816x2816.Idx → Elt F .i8) (W2 : S8x1408x2816.Idx → Elt F .i8) (I : S9x2.Idx → Elt F .i32) (W : S9x2.Idx → Elt F .f32)
    (X2 : S9x2816.Idx → Elt F .bf16) (S13 S2 : S8x2816.Idx → Elt F .f32) : S9x2816.Idx → Elt F .bf16 :=
  k0_pay6 (F := F) (fun x => accOf W13 W2 I W X2 S13 S2 ((Rect.unit (s := S16x2816) ![0, 0] S9x2816.size inb_S16x2816_S9x2816_0_0).emb x))

end Vectors

section

variable (c : Dev nD)

variable (arg0 : Memref sig .tc .smem S9x2 .i32) (harg0 : arg0.IsWhole) (arg1 : Memref sig .tc .smem S9x2 .f32) (harg1 : arg1.IsWhole) (arg2 : Memref sig .tc .vmem S9x2816 .bf16) (harg2 : arg2.IsWhole) (arg3 : Memref sig .tc .vmem S8x2816 .f32) (harg3 : arg3.IsWhole) (arg4 : Memref sig .tc .vmem S8x2816 .f32) (harg4 : arg4.IsWhole) (arg5 : Memref sig .tc .hbm S8x2816x2816 .i8) (harg5 : arg5.IsWhole) (arg6 : Memref sig .tc .hbm S8x1408x2816 .i8) (harg6 : arg6.IsWhole) (arg7 : Memref sig .tc .vmem S9x2816 .bf16) (harg7 : arg7.IsWhole) (arg8 : Memref sig .tc .vmem S4x2816x2816 .i8) (harg8 : arg8.IsWhole) (arg9 : Memref sig .tc .vmem S4x1408x2816 .i8) (harg9 : arg9.IsWhole) (arg10 : Memref sig .tc .vmem S16x2816 .bf16) (harg10 : arg10.IsWhole) (arg11 : Memref sig .tc .vmem S16x2816 .f32) (harg11 : arg11.IsWhole) (arg12 : Memref sig .tc .smem S8 .i32) (harg12 : arg12.IsWhole) (arg13 : DmaSems sig S4x3) (arg14 : DmaSems sig S4x2)
variable (q5 : Fin 12 → PosShare TreeShare) (q6 : Fin 8 → PosShare TreeShare)
  (f5 : Buf (Elt F) (arg5.view.loc (c : Thread nD τ))) (f6 : Buf (Elt F) (arg6.view.loc (c : Thread nD τ)))

/-- The loop over the trips left over has none. -/
theorem loop2 {α : Type} {Q : α → sProp 𝕄} (v0 v3 v6 v9 v12 v15 v18 v21 v24 v27 v30 v33 v36 v39 v42 v45 v48 v51 : BitVec 32) (hw1 : k0_chk1 v0 v3 v6 v9 v12 v15 v18 v21 v24 v27 v30 v33 v36 v39 v42 v45 v48 v51) {body} {kk : Unit → Prog (TpuEff nD τ sig (Elt F) Λ₀ .tc) α} :
    wp frame (wpE (defs₀ (F := F)) Variants.none (c : Thread nD τ) none) Set.univ (kk ()) Q ⊢ wp frame (wpE (defs₀ (F := F)) Variants.none (c : Thread nD τ) none) Set.univ (Scf.Loop.for (k0_t2_loop v0 v3 v6 v9 v12 v15 v18 v21 v24 v27 v30 v33 v36 v39 v42 v45 v48 v51) (k0_t2_ok v0 v3 v6 v9 v12 v15 v18 v21 v24 v27 v30 v33 v36 v39 v42 v45 v48 v51 hw1) ⟨⟩ body >>= kk) Q :=
  Scf.wp_for0_bind _ _ _ _ _ _ _ _ trips2 kk Q _ .rfl

theorem ring_start (m : BitVec 32) : iprop(Slot c arg5 arg6 arg8 arg9 arg13 arg14 q5 q6 f5 f6 m 0 lt0_4 0 ∗ Slot c arg5 arg6 arg8 arg9 arg13 arg14 q5 q6 f5 f6 m 1 lt1_4 1 ∗ Slot c arg5 arg6 arg8 arg9 arg13 arg14 q5 q6 f5 f6 m 2 lt2_4 2 ∗ Slot c arg5 arg6 arg8 arg9 arg13 arg14 q5 q6 f5 f6 m 3 lt3_4 3) ⊢ RingAt c arg5 arg6 arg8 arg9 arg13 arg14 q5 q6 f5 f6 m 0 := by
  unfold RingAt nxt; exact .rfl

theorem nine_set (y : S9x2816.Idx) : y ∈ (Rect.unit (s := S9x2816) ![0, 0] S9x2816.size inb_S9x2816_S9x2816_0_0).set := by
  rw [Rect.mem_set_unit]
  intro a
  have h := (y a).isLt
  fin_cases a
  · exact ⟨Nat.zero_le _, lt_of_lt_of_eq h (Nat.zero_add _).symm⟩
  · exact ⟨Nat.zero_le _, lt_of_lt_of_eq h (Nat.zero_add _).symm⟩

/-- The kernel's body. -/
theorem body (I : S9x2.Idx → Elt F .i32) (W : S9x2.Idx → Elt F .f32) (X2 : S9x2816.Idx → Elt F .bf16) (S13 S2 : S8x2816.Idx → Elt F .f32) :
    iprop(Holds (Val := Elt F) (c : Thread nD τ) arg0 I
      ∗ Holds (Val := Elt F) (c : Thread nD τ) arg1 W
      ∗ Holds (Val := Elt F) (c : Thread nD τ) arg2 X2
      ∗ Holds (Val := Elt F) (c : Thread nD τ) arg3 S13
      ∗ Holds (Val := Elt F) (c : Thread nD τ) arg4 S2
      ∗ (∃ O : S9x2816.Idx → Elt F .bf16, Holds (Val := Elt F) (c : Thread nD τ) arg7 O)
      ∗ (∃ XA : S16x2816.Idx → Elt F .f32, Holds (Val := Elt F) (c : Thread nD τ) arg11 XA) ∗ (∃ XB : S16x2816.Idx → Elt F .bf16, Holds (Val := Elt F) (c : Thread nD τ) arg10 XB) ∗ (∃ T : S8.Idx → BitVec 32, Holds (Val := Elt F) (c : Thread nD τ) arg12 T)
      ∗ Rest c arg5 arg6 arg8 arg9 arg13 arg14 q5 q6 f5 f6 0 lt0_4 ∗ Rest c arg5 arg6 arg8 arg9 arg13 arg14 q5 q6 f5 f6 1 lt1_4 ∗ Rest c arg5 arg6 arg8 arg9 arg13 arg14 q5 q6 f5 f6 2 lt2_4 ∗ Rest c arg5 arg6 arg8 arg9 arg13 arg14 q5 q6 f5 f6 3 lt3_4
      ∗ (∃ W, owes (c : Thread nD τ) 0 W))
      ⊢ wp frame (wpE (defs₀ (F := F)) Variants.none (c : Thread nD τ) none) Set.univ (cc0_moe_decode arg0 harg0 arg1 harg1 arg2 harg2 arg3 harg3 arg4 harg4 arg5 harg5 arg6 harg6 arg7 harg7 arg8 harg8 arg9 harg9 arg10 harg10 arg11 harg11 arg12 harg12 arg13 arg14) (fun _ => iprop(Holds (Val := Elt F) (c : Thread nD τ) arg0 I
      ∗ Holds (Val := Elt F) (c : Thread nD τ) arg1 W
      ∗ Holds (Val := Elt F) (c : Thread nD τ) arg2 X2
      ∗ Holds (Val := Elt F) (c : Thread nD τ) arg3 S13
      ∗ Holds (Val := Elt F) (c : Thread nD τ) arg4 S2
      ∗ Holds (Val := Elt F) (c : Thread nD τ) arg7 (outOf (arg5.view.read (Elt F) f5) (arg6.view.read (Elt F) f6) I W X2 S13 S2)
      ∗ (∃ XA : S16x2816.Idx → Elt F .f32, Holds (Val := Elt F) (c : Thread nD τ) arg11 XA) ∗ (∃ XB : S16x2816.Idx → Elt F .bf16, Holds (Val := Elt F) (c : Thread nD τ) arg10 XB) ∗ (∃ T : S8.Idx → BitVec 32, Holds (Val := Elt F) (c : Thread nD τ) arg12 T)
      ∗ Rest c arg5 arg6 arg8 arg9 arg13 arg14 q5 q6 f5 f6 0 lt0_4 ∗ Rest c arg5 arg6 arg8 arg9 arg13 arg14 q5 q6 f5 f6 1 lt1_4 ∗ Rest c arg5 arg6 arg8 arg9 arg13 arg14 q5 q6 f5 f6 2 lt2_4 ∗ Rest c arg5 arg6 arg8 arg9 arg13 arg14 q5 q6 f5 f6 3 lt3_4
      ∗ (∃ W, owes (c : Thread nD τ) 0 W))) := by
  rw [cc0_moe_decode_eq_skeleton]
  unfold cc0_moe_decode_skel
  iintro ⟨H0, H1, H2, H3, H4, ⟨%O, H7⟩, HA, HB, ⟨%T, HT⟩, HS0, HS1, HS2, HS3, HW⟩
  iapply (part23 c arg0 harg0 arg1 harg1 arg2 harg2 arg3 harg3 arg4 harg4 arg5 harg5 arg6 harg6 arg7 harg7 arg8 harg8 arg9 harg9 arg10 harg10 arg11 harg11 arg12 harg12 arg13 arg14 I) $$ H0
  iintro H0
  iapply (part24 c arg0 harg0 arg1 harg1 arg2 harg2 arg3 harg3 arg4 harg4 arg5 harg5 arg6 harg6 arg7 harg7 arg8 harg8 arg9 harg9 arg10 harg10 arg11 harg11 arg12 harg12 arg13 arg14 I) $$ H0
  iintro %v53 %v55 %v58 %h58 H0
  iapply (part25 c arg0 harg0 arg1 harg1 arg2 harg2 arg3 harg3 arg4 harg4 arg5 harg5 arg6 harg6 arg7 harg7 arg8 harg8 arg9 harg9 arg10 harg10 arg11 harg11 arg12 harg12 arg13 arg14 (I (at92 0 0)) (I (at92 0 1)) (I (at92 1 0)) (I (at92 1 1)) (I (at92 2 0)) (I (at92 2 1)) (I (at92 3 0)) (I (at92 3 1)) (I (at92 4 0)) (I (at92 4 1)) (I (at92 5 0)) (I (at92 5 1)) (I (at92 6 0)) (I (at92 6 1)) (I (at92 7 0)) (I (at92 7 1)) (I (at92 8 0)) (I (at92 8 1)) chk1 v53 v55 v58 h58)
  isplitl [HT]
  · unfold Table
    iexists T
    isplitr
    · ipureintro; exact fun e' he' => absurd he' (Nat.not_lt_zero _)
    iexact HT
  iintro HT %v89 %v90
  iapply (part26 c arg0 harg0 arg1 harg1 arg2 harg2 arg3 harg3 arg4 harg4 arg5 harg5 arg6 harg6 arg7 harg7 arg8 harg8 arg9 harg9 arg10 harg10 arg11 harg11 arg12 harg12 arg13 arg14 (I (at92 0 0)) (I (at92 0 1)) (I (at92 1 0)) (I (at92 1 1)) (I (at92 2 0)) (I (at92 2 1)) (I (at92 3 0)) (I (at92 3 1)) (I (at92 4 0)) (I (at92 4 1)) (I (at92 5 0)) (I (at92 5 1)) (I (at92 6 0)) (I (at92 6 1)) (I (at92 7 0)) (I (at92 7 1)) (I (at92 8 0)) (I (at92 8 1)) q5 q6 f5 f6 chk1 v53 v89 v90)
  isplitl [HT]; · iexact HT
  isplitl [HS0]; · iexact HS0
  isplitl [HS1]; · iexact HS1
  isplitl [HS2]; · iexact HS2
  isplitl [HS3]; · iexact HS3
  isplitl [HA HB]
  · isplitl [HA]; · iexact HA
    iexact HB
  iintro ⟨HT, HS0, HS1, HS2, HS3, HA, HB⟩ %v101
  iapply (part27 c arg0 harg0 arg1 harg1 arg2 harg2 arg3 harg3 arg4 harg4 arg5 harg5 arg6 harg6 arg7 harg7 arg8 harg8 arg9 harg9 arg10 harg10 arg11 harg11 arg12 harg12 arg13 arg14 I W X2) $$ [H0 H1 H2 HB]
  · isplitl [H0]; · iexact H0
    isplitl [H1]; · iexact H1
    isplitl [H2]; · iexact H2
    iexact HB
  iintro ⟨H0, H1, H2, HB⟩
  iapply (part28 c arg0 harg0 arg1 harg1 arg2 harg2 arg3 harg3 arg4 harg4 arg5 harg5 arg6 harg6 arg7 harg7 arg8 harg8 arg9 harg9 arg10 harg10 arg11 harg11 arg12 harg12 arg13 arg14 I W rowNo (w141 I W) (w146 I W) (w151 I W) (w156 I W) 1#32) $$ [H0 H1]
  · isplitl [H0]; · iexact H0
    iexact H1
  iintro ⟨H0, H1⟩
  iapply (part29 c arg0 harg0 arg1 harg1 arg2 harg2 arg3 harg3 arg4 harg4 arg5 harg5 arg6 harg6 arg7 harg7 arg8 harg8 arg9 harg9 arg10 harg10 arg11 harg11 arg12 harg12 arg13 arg14 I W rowNo (w176 I W) (w181 I W) (w186 I W) (w191 I W) (w193 I W)) $$ [H0 H1]
  · isplitl [H0]; · iexact H0
    iexact H1
  iintro ⟨H0, H1⟩
  iapply (part30 c arg0 harg0 arg1 harg1 arg2 harg2 arg3 harg3 arg4 harg4 arg5 harg5 arg6 harg6 arg7 harg7 arg8 harg8 arg9 harg9 arg10 harg10 arg11 harg11 arg12 harg12 arg13 arg14 I W rowNo (w216 I W) (w221 I W) (w226 I W) (w231 I W) 5#32) $$ [H0 H1]
  · isplitl [H0]; · iexact H0
    iexact H1
  iintro ⟨H0, H1⟩
  iapply (part31 c arg0 harg0 arg1 harg1 arg2 harg2 arg3 harg3 arg4 harg4 arg5 harg5 arg6 harg6 arg7 harg7 arg8 harg8 arg9 harg9 arg10 harg10 arg11 harg11 arg12 harg12 arg13 arg14 I W rowNo (w251 I W) (w256 I W) (w261 I W) (w266 I W) (w268 I W)) $$ [H0 H1]
  · isplitl [H0]; · iexact H0
    iexact H1
  iintro ⟨H0, H1⟩
  iapply (wp_at c (8 : Fin 9) (1 : Fin 2) rfl) $$ H1
  iintro H1
  iapply (loop1 arg0 harg0 arg1 harg1 arg2 harg2 arg3 harg3 arg4 harg4 arg5 harg5 arg6 harg6 arg7 harg7 arg8 harg8 arg9 harg9 arg10 harg10 arg11 harg11 arg12 harg12 arg13 arg14 (I (at92 0 0)) (I (at92 0 1)) (I (at92 1 0)) (I (at92 1 1)) (I (at92 2 0)) (I (at92 2 1)) (I (at92 3 0)) (I (at92 3 1)) (I (at92 4 0)) (I (at92 4 1)) (I (at92 5 0)) (I (at92 5 1)) (I (at92 6 0)) (I (at92 6 1)) (I (at92 7 0)) (I (at92 7 1)) (I (at92 8 0)) (I (at92 8 1)) c q5 q6 f5 f6 chk1 v101 rowNo (w291 I W) (w296 I W) (w301 I W) (w306 I W) 8#32 (W (at92 8 1)) (xbOf X2) S13 S2 (k0_pay71 (F := F))) $$ [HT HB H3 H4 HA HS0 HS1 HS2 HS3 HW]
  · isplitl [HT]; · iexact HT
    isplitl [HB]; · iexact HB
    isplitl [H3]; · iexact H3
    isplitl [H4]; · iexact H4
    isplitl [HA]; · iexact HA
    isplitl [HS0 HS1 HS2 HS3]
    · iapply (ring_start c arg5 arg6 arg8 arg9 arg13 arg14 q5 q6 f5 f6)
      isplitl [HS0]; · iexact HS0
      isplitl [HS1]; · iexact HS1
      isplitl [HS2]; · iexact HS2
      iexact HS3
    iexact HW
  iintro ⟨HT, HB, H3, H4, HA, HR, HW⟩
  ihave HR := (ring_rest c arg5 arg6 arg8 arg9 arg13 arg14 q5 q6 f5 f6 _ _ (le_refl _)) $$ HR
  icases HR with ⟨HS0, HS1, HS2, HS3⟩
  iapply (loop2 c (I (at92 0 0)) (I (at92 0 1)) (I (at92 1 0)) (I (at92 1 1)) (I (at92 2 0)) (I (at92 2 1)) (I (at92 3 0)) (I (at92 3 1)) (I (at92 4 0)) (I (at92 4 1)) (I (at92 5 0)) (I (at92 5 1)) (I (at92 6 0)) (I (at92 6 1)) (I (at92 7 0)) (I (at92 7 1)) (I (at92 8 0)) (I (at92 8 1)) chk1)
  iapply (wp_loadH Variants.none (c : Thread nD τ) none) $$ HA
  iintro HA
  iapply (wp_loadH Variants.none (c : Thread nD τ) none) $$ H7
  iintro H7
  iapply (wp_storeH Variants.none (c : Thread nD τ) none (outOf (arg5.view.read (Elt F) f5) (arg6.view.read (Elt F) f6) I W X2 S13 S2) (fun x => congrArg _ (nine_rect x)) (fun y hy => absurd (nine_set y) hy)) $$ H7
  iintro H7
  iapply (wp_done c)
  isplitl [H0]; · iexact H0
  isplitl [H1]; · iexact H1
  isplitl [H2]; · iexact H2
  isplitl [H3]; · iexact H3
  isplitl [H4]; · iexact H4
  isplitl [H7]; · iexact H7
  isplitl [HA]; · iexists _; iexact HA
  isplitl [HB]; · iexists _; iexact HB
  isplitl [HT]
  · unfold Table
    icases HT with ⟨%T', -, HT⟩
    iexists T'
    iexact HT
  isplitl [HS0]; · iexact HS0
  isplitl [HS1]; · iexact HS1
  isplitl [HS2]; · iexact HS2
  isplitl [HS3]; · iexact HS3
  iexact HW

end

end Cert.Kernel.Hand

end
-- ==== Proof.Pieces.lean ====
/-
  Taking a buffer held whole apart into pieces, each at contents nothing names, and putting it back.
-/
module

public import Idealize.ShloMosaic.Lib.Pipeline
public import Idealize.ShloMosaic.Lib.Pipeline.FrameBody
public import Idealize.ShloMosaic.Lib.ReshapeSlab
public import Idealize.ShloMosaic.Lib.Ring
public import Idealize.ShloMosaic.Lib.Tactic
public import proofs.«01_k».proof.Proof.Ring

@[expose] public section

noncomputable section

namespace Cert.MoeRing

open Idealize.ShloMosaic Idealize.ShloMosaic.TcCoe Idealize.ShloMosaic.Tactic
open Idealize.ShloMosaic.Transfers
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}

local notation "𝕄" => MT nD τ sig Unit Val ℕ (Pipeline.UD sig nD τ) ℕ

variable (ℓ : Loc nD τ sig)

/-- The elements `S` of a buffer at some contents. -/
def Some_ (S : Finset (Idx ℓ)) : sProp 𝕄 := iprop(∃ f : Buf Val ℓ, ℓ ↦[S]{fullShare} f)

/-- The pieces `Ks` of `S` one by one, and what is left of `S`. -/
def Pieces : Finset (Idx ℓ) → List (Finset (Idx ℓ)) → sProp 𝕄
  | S, [] => Some_ ℓ S
  | S, K :: Ks => iprop(Some_ ℓ K ∗ Pieces (S \ K) Ks)

theorem some_split {S K : Finset (Idx ℓ)} (h : K ⊆ S) : (Some_ (Val := Val) ℓ S) ⊢ iprop(Some_ (Val := Val) ℓ K ∗ Some_ (Val := Val) ℓ (S \ K)) := by
  unfold Some_
  iintro ⟨%f, H⟩
  ihave H := (pointsTo_split_subset (Val := Val) (Ix := Unit) (Name := ℕ) (U := Pipeline.UD sig nD τ) (Lvl := ℕ) h).1 $$ H
  icases H with ⟨H1, H2⟩
  isplitl [H1]; · iexists f; iexact H1
  iexists f; iexact H2

theorem some_join {S K : Finset (Idx ℓ)} (h : K ⊆ S) : iprop(Some_ (Val := Val) ℓ K ∗ Some_ (Val := Val) ℓ (S \ K)) ⊢ Some_ (Val := Val) ℓ S := by
  unfold Some_
  iintro ⟨⟨%f, H1⟩, ⟨%g, H2⟩⟩
  iexists (K.piecewise f g)
  iapply (pointsTo_join_subset (Val := Val) (Ix := Unit) (Name := ℕ) (U := Pipeline.UD sig nD τ) (Lvl := ℕ) h)
  isplitl [H1]; · iexact H1
  iexact H2

theorem pieces_split (Ks : List (Finset (Idx ℓ))) : ∀ (S : Finset (Idx ℓ)), Ks.Pairwise Disjoint → (∀ K ∈ Ks, K ⊆ S) →
    Some_ (Val := Val) ℓ S ⊢ Pieces ℓ S Ks := by
  induction Ks with
  | nil => intro S _ _; exact .rfl
  | cons K Ks ih =>
    intro S hp hs
    rw [List.pairwise_cons] at hp
    refine (some_split ℓ (hs K (List.mem_cons_self ..))).trans (sep_mono .rfl (ih _ hp.2 fun K' h' => ?_))
    exact Finset.subset_sdiff.mpr ⟨hs K' (List.mem_cons_of_mem _ h'), (hp.1 K' h').symm⟩

theorem pieces_join (Ks : List (Finset (Idx ℓ))) : ∀ (S : Finset (Idx ℓ)), Ks.Pairwise Disjoint → (∀ K ∈ Ks, K ⊆ S) →
    Pieces ℓ S Ks ⊢ Some_ (Val := Val) ℓ S := by
  induction Ks with
  | nil => intro S _ _; exact .rfl
  | cons K Ks ih =>
    intro S hp hs
    rw [List.pairwise_cons] at hp
    refine (sep_mono .rfl (ih _ hp.2 fun K' h' => ?_)).trans (some_join ℓ (hs K (List.mem_cons_self ..)))
    exact Finset.subset_sdiff.mpr ⟨hs K' (List.mem_cons_of_mem _ h'), (hp.1 K' h').symm⟩

/-- A list of blocks given by slot, first row and number of rows, no two of which meet. -/
def Apart (p q : ℕ × ℕ × ℕ) : Prop := p.1 ≠ q.1 ∨ p.2.1 + p.2.2 ≤ q.2.1 ∨ q.2.1 + q.2.2 ≤ p.2.1

instance (p q : ℕ × ℕ × ℕ) : Decidable (Apart p q) := by unfold Apart; infer_instance

theorem blk_disjoint {κ : Kind} {sp : Space} {e : EltTy} {S R : ℕ} (A : Memref sig κ sp ⟨3, ![S, R, 2816]⟩ e)
    {x r n x' r' n' : ℕ} (h : ∀ a, (![x, r, 0] : Fin 3 → ℕ) a + (![1, n, 2816] : Fin 3 → ℕ) a ≤ (![S, R, 2816] : Fin 3 → ℕ) a)
    (h' : ∀ a, (![x', r', 0] : Fin 3 → ℕ) a + (![1, n', 2816] : Fin 3 → ℕ) a ≤ (![S, R, 2816] : Fin 3 → ℕ) a)
    (ha : Apart (x, r, n) (x', r', n')) :
    Disjoint (A.access (blk (size := ![1, n, 2816]) ![x, r, 0] h)).set (A.access (blk (size := ![1, n', 2816]) ![x', r', 0] h')).set := by
  rcases ha with ha | ha
  · refine View.disjoint_slice_of_sep A.view _ _ (0 : Fin 3) rfl rfl ?_
    simp only at ha
    change x + 1 ≤ x' ∨ x' + 1 ≤ x
    omega
  · exact View.disjoint_slice_of_sep A.view _ _ (1 : Fin 3) rfl rfl ha

end Cert.MoeRing

end
-- ==== Proof.FloatRings.lean ====
/-
  The buffers, semaphores and arrays the launch hands the body, as the slots of the two rings.
-/
module

public import proofs.«01_k».proof.Proof.FloatBody
public import proofs.«01_k».proof.Proof.Pieces
public import proofs.«01_k».proof.Proof.Gen.Kernel.Frame

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MoeWords Cert.MoeRing

variable {F : FTy → Type} [FloatOps F]

local notation "𝕄" => MT nD τ sig Unit (Elt F) ℕ (Pipeline.UD sig nD τ) ℕ

/-! ### The semaphores and the arrays the kernel copies with -/

abbrev osem0 : Fin 20 → SemLoc sig := fun j => (![SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25] : Fin 20 → SemLoc sig) j
theorem ownSemFacts0 : Pipeline.OwnSemFacts spec0 osem0 := by decide

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0) := by
  rw [Pipeline.ownSems0_eq_of_list c osem0 [0, 1, 2, 3, 4, 5, 6, 7, 8, 9, 10, 11, 12, 13, 14, 15, 16, 17, 18, 19] (by decide) (by decide)]; rfl
theorem c13_0_0 : cell13 cc0_scratch5 0 0 lt0_4 (by decide) = 6 := by decide
theorem c13_0_1 : cell13 cc0_scratch5 0 1 lt0_4 (by decide) = 7 := by decide
theorem c13_0_2 : cell13 cc0_scratch5 0 2 lt0_4 (by decide) = 8 := by decide
theorem c13_1_0 : cell13 cc0_scratch5 1 0 lt1_4 (by decide) = 9 := by decide
theorem c13_1_1 : cell13 cc0_scratch5 1 1 lt1_4 (by decide) = 10 := by decide
theorem c13_1_2 : cell13 cc0_scratch5 1 2 lt1_4 (by decide) = 11 := by decide
theorem c13_2_0 : cell13 cc0_scratch5 2 0 lt2_4 (by decide) = 12 := by decide
theorem c13_2_1 : cell13 cc0_scratch5 2 1 lt2_4 (by decide) = 13 := by decide
theorem c13_2_2 : cell13 cc0_scratch5 2 2 lt2_4 (by decide) = 14 := by decide
theorem c13_3_0 : cell13 cc0_scratch5 3 0 lt3_4 (by decide) = 15 := by decide
theorem c13_3_1 : cell13 cc0_scratch5 3 1 lt3_4 (by decide) = 16 := by decide
theorem c13_3_2 : cell13 cc0_scratch5 3 2 lt3_4 (by decide) = 17 := by decide
theorem c14_0_0 : cell14 cc0_scratch6 0 0 lt0_4 (by decide) = 18 := by decide
theorem c14_0_1 : cell14 cc0_scratch6 0 1 lt0_4 (by decide) = 19 := by decide
theorem c14_1_0 : cell14 cc0_scratch6 1 0 lt1_4 (by decide) = 20 := by decide
theorem c14_1_1 : cell14 cc0_scratch6 1 1 lt1_4 (by decide) = 21 := by decide
theorem c14_2_0 : cell14 cc0_scratch6 2 0 lt2_4 (by decide) = 22 := by decide
theorem c14_2_1 : cell14 cc0_scratch6 2 1 lt2_4 (by decide) = 23 := by decide
theorem c14_3_0 : cell14 cc0_scratch6 3 0 lt3_4 (by decide) = 24 := by decide
theorem c14_3_1 : cell14 cc0_scratch6 3 1 lt3_4 (by decide) = 25 := by decide

/-- The arrays left in HBM. -/
def H0 : Finset (Ref sig .tc) := {main_arg3, main_arg5}
theorem H0_sub : H0 ⊆ Pipeline.restRefs sig spec0 := by decide

variable (m : (ℓ : Loc nD τ sig) → Buf (Elt F) ℓ) (ρ : Dev nD → PrngReg)

theorem hbmPts0_eq (c : Dev nD) :
    (bigSep H0 (fun b => ((c : Thread nD τ).loc b) ↦{fullShare} V m c b) : sProp 𝕄)
      = iprop((((c : Thread nD τ).loc main_arg3) ↦{fullShare} V m c main_arg3) ∗ (((c : Thread nD τ).loc main_arg5) ↦{fullShare} V m c main_arg5)) := by
  rw [BI.bigSep_eq_bigSepL_of_eq [main_arg3, main_arg5] (by decide) (by decide)]; rfl

/-- The share of the array each copy reads by. -/
abbrev tok12 : Fin 12 → PosShare TreeShare := Transfers.shareTok fullShare 12
abbrev tok8 : Fin 8 → PosShare TreeShare := Transfers.shareTok fullShare 8

/-- The blocks of the first ring. -/
abbrev blocks0 (c : Dev nD) : List (Finset (Idx ((c : Thread nD τ).loc cc0_scratch0))) := [((Memref.whole cc0_scratch0).access (gA c (Memref.whole main_arg3) (Memref.whole cc0_scratch0) cc0_scratch5 tok12 (V m c main_arg3) 0 lt0_4).at_).set, ((Memref.whole cc0_scratch0).access (gB c (Memref.whole main_arg3) (Memref.whole cc0_scratch0) cc0_scratch5 tok12 (V m c main_arg3) 0 lt0_4).at_).set, ((Memref.whole cc0_scratch0).access (gC c (Memref.whole main_arg3) (Memref.whole cc0_scratch0) cc0_scratch5 tok12 (V m c main_arg3) 0 lt0_4).at_).set, ((Memref.whole cc0_scratch0).access (gA c (Memref.whole main_arg3) (Memref.whole cc0_scratch0) cc0_scratch5 tok12 (V m c main_arg3) 1 lt1_4).at_).set, ((Memref.whole cc0_scratch0).access (gB c (Memref.whole main_arg3) (Memref.whole cc0_scratch0) cc0_scratch5 tok12 (V m c main_arg3) 1 lt1_4).at_).set, ((Memref.whole cc0_scratch0).access (gC c (Memref.whole main_arg3) (Memref.whole cc0_scratch0) cc0_scratch5 tok12 (V m c main_arg3) 1 lt1_4).at_).set, ((Memref.whole cc0_scratch0).access (gA c (Memref.whole main_arg3) (Memref.whole cc0_scratch0) cc0_scratch5 tok12 (V m c main_arg3) 2 lt2_4).at_).set, ((Memref.whole cc0_scratch0).access (gB c (Memref.whole main_arg3) (Memref.whole cc0_scratch0) cc0_scratch5 tok12 (V m c main_arg3) 2 lt2_4).at_).set, ((Memref.whole cc0_scratch0).access (gC c (Memref.whole main_arg3) (Memref.whole cc0_scratch0) cc0_scratch5 tok12 (V m c main_arg3) 2 lt2_4).at_).set, ((Memref.whole cc0_scratch0).access (gA c (Memref.whole main_arg3) (Memref.whole cc0_scratch0) cc0_scratch5 tok12 (V m c main_arg3) 3 lt3_4).at_).set, ((Memref.whole cc0_scratch0).access (gB c (Memref.whole main_arg3) (Memref.whole cc0_scratch0) cc0_scratch5 tok12 (V m c main_arg3) 3 lt3_4).at_).set, ((Memref.whole cc0_scratch0).access (gC c (Memref.whole main_arg3) (Memref.whole cc0_scratch0) cc0_scratch5 tok12 (V m c main_arg3) 3 lt3_4).at_).set]
/-- The blocks of the second ring. -/
abbrev blocks1 (c : Dev nD) : List (Finset (Idx ((c : Thread nD τ).loc cc0_scratch1))) := [((Memref.whole cc0_scratch1).access (gD c (Memref.whole main_arg5) (Memref.whole cc0_scratch1) cc0_scratch6 tok8 (V m c main_arg5) 0 lt0_4).at_).set, ((Memref.whole cc0_scratch1).access (gE c (Memref.whole main_arg5) (Memref.whole cc0_scratch1) cc0_scratch6 tok8 (V m c main_arg5) 0 lt0_4).at_).set, ((Memref.whole cc0_scratch1).access (gD c (Memref.whole main_arg5) (Memref.whole cc0_scratch1) cc0_scratch6 tok8 (V m c main_arg5) 1 lt1_4).at_).set, ((Memref.whole cc0_scratch1).access (gE c (Memref.whole main_arg5) (Memref.whole cc0_scratch1) cc0_scratch6 tok8 (V m c main_arg5) 1 lt1_4).at_).set, ((Memref.whole cc0_scratch1).access (gD c (Memref.whole main_arg5) (Memref.whole cc0_scratch1) cc0_scratch6 tok8 (V m c main_arg5) 2 lt2_4).at_).set, ((Memref.whole cc0_scratch1).access (gE c (Memref.whole main_arg5) (Memref.whole cc0_scratch1) cc0_scratch6 tok8 (V m c main_arg5) 2 lt2_4).at_).set, ((Memref.whole cc0_scratch1).access (gD c (Memref.whole main_arg5) (Memref.whole cc0_scratch1) cc0_scratch6 tok8 (V m c main_arg5) 3 lt3_4).at_).set, ((Memref.whole cc0_scratch1).access (gE c (Memref.whole main_arg5) (Memref.whole cc0_scratch1) cc0_scratch6 tok8 (V m c main_arg5) 3 lt3_4).at_).set]

theorem blocks0_apart (c : Dev nD) : (blocks0 m c).Pairwise Disjoint := by
  simp only [blocks0, List.pairwise_cons, List.mem_cons, List.not_mem_nil, or_false, forall_eq_or_imp, forall_eq, List.Pairwise.nil, and_true, false_imp_iff, implies_true]
  repeat' apply And.intro
  all_goals exact blk_disjoint _ _ _ (by dsimp only [Apart, gA, gB, gC, gD, gE]; decide)
theorem blocks1_apart (c : Dev nD) : (blocks1 m c).Pairwise Disjoint := by
  simp only [blocks1, List.pairwise_cons, List.mem_cons, List.not_mem_nil, or_false, forall_eq_or_imp, forall_eq, List.Pairwise.nil, and_true, false_imp_iff, implies_true]
  repeat' apply And.intro
  all_goals exact blk_disjoint _ _ _ (by dsimp only [Apart, gA, gB, gC, gD, gE]; decide)

/-- The whole of a buffer, as its pieces. -/
theorem whole_some (ℓ : Loc nD τ sig) : (iprop(∃ f : Buf (Elt F) ℓ, ℓ ↦{fullShare} f) : sProp 𝕄) = Some_ ℓ Finset.univ := rfl

/-- What is left when the blocks and the shares are handed out. -/
def Left (c : Dev nD) : sProp 𝕄 :=
  iprop(Some_ ((c : Thread nD τ).loc cc0_scratch0) (List.foldl (fun S K => S \ K) Finset.univ (blocks0 m c))
    ∗ Some_ ((c : Thread nD τ).loc cc0_scratch1) (List.foldl (fun S K => S \ K) Finset.univ (blocks1 m c))
    ∗ (((c : Thread nD τ).loc main_arg3) ↦{Transfers.shareDrop fullShare 12} V m c main_arg3)
    ∗ (((c : Thread nD τ).loc main_arg5) ↦{Transfers.shareDrop fullShare 8} V m c main_arg5))

theorem pieces0_eq (c : Dev nD) : (Pieces (Val := Elt F) ((c : Thread nD τ).loc cc0_scratch0) Finset.univ (blocks0 m c))
    = iprop(Some_ ((c : Thread nD τ).loc cc0_scratch0) (((Memref.whole cc0_scratch0).access (gA c (Memref.whole main_arg3) (Memref.whole cc0_scratch0) cc0_scratch5 tok12 (V m c main_arg3) 0 lt0_4).at_).set) ∗ Some_ ((c : Thread nD τ).loc cc0_scratch0) (((Memref.whole cc0_scratch0).access (gB c (Memref.whole main_arg3) (Memref.whole cc0_scratch0) cc0_scratch5 tok12 (V m c main_arg3) 0 lt0_4).at_).set) ∗ Some_ ((c : Thread nD τ).loc cc0_scratch0) (((Memref.whole cc0_scratch0).access (gC c (Memref.whole main_arg3) (Memref.whole cc0_scratch0) cc0_scratch5 tok12 (V m c main_arg3) 0 lt0_4).at_).set) ∗ Some_ ((c : Thread nD τ).loc cc0_scratch0) (((Memref.whole cc0_scratch0).access (gA c (Memref.whole main_arg3) (Memref.whole cc0_scratch0) cc0_scratch5 tok12 (V m c main_arg3) 1 lt1_4).at_).set) ∗ Some_ ((c : Thread nD τ).loc cc0_scratch0) (((Memref.whole cc0_scratch0).access (gB c (Memref.whole main_arg3) (Memref.whole cc0_scratch0) cc0_scratch5 tok12 (V m c main_arg3) 1 lt1_4).at_).set) ∗ Some_ ((c : Thread nD τ).loc cc0_scratch0) (((Memref.whole cc0_scratch0).access (gC c (Memref.whole main_arg3) (Memref.whole cc0_scratch0) cc0_scratch5 tok12 (V m c main_arg3) 1 lt1_4).at_).set) ∗ Some_ ((c : Thread nD τ).loc cc0_scratch0) (((Memref.whole cc0_scratch0).access (gA c (Memref.whole main_arg3) (Memref.whole cc0_scratch0) cc0_scratch5 tok12 (V m c main_arg3) 2 lt2_4).at_).set) ∗ Some_ ((c : Thread nD τ).loc cc0_scratch0) (((Memref.whole cc0_scratch0).access (gB c (Memref.whole main_arg3) (Memref.whole cc0_scratch0) cc0_scratch5 tok12 (V m c main_arg3) 2 lt2_4).at_).set) ∗ Some_ ((c : Thread nD τ).loc cc0_scratch0) (((Memref.whole cc0_scratch0).access (gC c (Memref.whole main_arg3) (Memref.whole cc0_scratch0) cc0_scratch5 tok12 (V m c main_arg3) 2 lt2_4).at_).set) ∗ Some_ ((c : Thread nD τ).loc cc0_scratch0) (((Memref.whole cc0_scratch0).access (gA c (Memref.whole main_arg3) (Memref.whole cc0_scratch0) cc0_scratch5 tok12 (V m c main_arg3) 3 lt3_4).at_).set) ∗ Some_ ((c : Thread nD τ).loc cc0_scratch0) (((Memref.whole cc0_scratch0).access (gB c (Memref.whole main_arg3) (Memref.whole cc0_scratch0) cc0_scratch5 tok12 (V m c main_arg3) 3 lt3_4).at_).set) ∗ Some_ ((c : Thread nD τ).loc cc0_scratch0) (((Memref.whole cc0_scratch0).access (gC c (Memref.whole main_arg3) (Memref.whole cc0_scratch0) cc0_scratch5 tok12 (V m c main_arg3) 3 lt3_4).at_).set) ∗ Some_ ((c : Thread nD τ).loc cc0_scratch0) (List.foldl (fun S K => S \ K) Finset.univ (blocks0 m c))) := rfl

theorem pieces1_eq (c : Dev nD) : (Pieces (Val := Elt F) ((c : Thread nD τ).loc cc0_scratch1) Finset.univ (blocks1 m c))
    = iprop(Some_ ((c : Thread nD τ).loc cc0_scratch1) (((Memref.whole cc0_scratch1).access (gD c (Memref.whole main_arg5) (Memref.whole cc0_scratch1) cc0_scratch6 tok8 (V m c main_arg5) 0 lt0_4).at_).set) ∗ Some_ ((c : Thread nD τ).loc cc0_scratch1) (((Memref.whole cc0_scratch1).access (gE c (Memref.whole main_arg5) (Memref.whole cc0_scratch1) cc0_scratch6 tok8 (V m c main_arg5) 0 lt0_4).at_).set) ∗ Some_ ((c : Thread nD τ).loc cc0_scratch1) (((Memref.whole cc0_scratch1).access (gD c (Memref.whole main_arg5) (Memref.whole cc0_scratch1) cc0_scratch6 tok8 (V m c main_arg5) 1 lt1_4).at_).set) ∗ Some_ ((c : Thread nD τ).loc cc0_scratch1) (((Memref.whole cc0_scratch1).access (gE c (Memref.whole main_arg5) (Memref.whole cc0_scratch1) cc0_scratch6 tok8 (V m c main_arg5) 1 lt1_4).at_).set) ∗ Some_ ((c : Thread nD τ).loc cc0_scratch1) (((Memref.whole cc0_scratch1).access (gD c (Memref.whole main_arg5) (Memref.whole cc0_scratch1) cc0_scratch6 tok8 (V m c main_arg5) 2 lt2_4).at_).set) ∗ Some_ ((c : Thread nD τ).loc cc0_scratch1) (((Memref.whole cc0_scratch1).access (gE c (Memref.whole main_arg5) (Memref.whole cc0_scratch1) cc0_scratch6 tok8 (V m c main_arg5) 2 lt2_4).at_).set) ∗ Some_ ((c : Thread nD τ).loc cc0_scratch1) (((Memref.whole cc0_scratch1).access (gD c (Memref.whole main_arg5) (Memref.whole cc0_scratch1) cc0_scratch6 tok8 (V m c main_arg5) 3 lt3_4).at_).set) ∗ Some_ ((c : Thread nD τ).loc cc0_scratch1) (((Memref.whole cc0_scratch1).access (gE c (Memref.whole main_arg5) (Memref.whole cc0_scratch1) cc0_scratch6 tok8 (V m c main_arg5) 3 lt3_4).at_).set) ∗ Some_ ((c : Thread nD τ).loc cc0_scratch1) (List.foldl (fun S K => S \ K) Finset.univ (blocks1 m c))) := rfl

theorem toks12 (c : Dev nD) : (BI.bigSep Finset.univ (fun i : Fin 12 => ((c : Thread nD τ).loc main_arg3) ↦{tok12 i} V m c main_arg3) : sProp 𝕄)
    = iprop((((c : Thread nD τ).loc main_arg3) ↦{tok12 0} V m c main_arg3) ∗ (((c : Thread nD τ).loc main_arg3) ↦{tok12 1} V m c main_arg3) ∗ (((c : Thread nD τ).loc main_arg3) ↦{tok12 2} V m c main_arg3) ∗ (((c : Thread nD τ).loc main_arg3) ↦{tok12 3} V m c main_arg3) ∗ (((c : Thread nD τ).loc main_arg3) ↦{tok12 4} V m c main_arg3) ∗ (((c : Thread nD τ).loc main_arg3) ↦{tok12 5} V m c main_arg3) ∗ (((c : Thread nD τ).loc main_arg3) ↦{tok12 6} V m c main_arg3) ∗ (((c : Thread nD τ).loc main_arg3) ↦{tok12 7} V m c main_arg3) ∗ (((c : Thread nD τ).loc main_arg3) ↦{tok12 8} V m c main_arg3) ∗ (((c : Thread nD τ).loc main_arg3) ↦{tok12 9} V m c main_arg3) ∗ (((c : Thread nD τ).loc main_arg3) ↦{tok12 10} V m c main_arg3) ∗ (((c : Thread nD τ).loc main_arg3) ↦{tok12 11} V m c main_arg3)) :=
  bigSep_univ_eq_bigSepL [0, 1, 2, 3, 4, 5, 6, 7, 8, 9, 10, 11] (by decide) (by decide) _
theorem toks8 (c : Dev nD) : (BI.bigSep Finset.univ (fun i : Fin 8 => ((c : Thread nD τ).loc main_arg5) ↦{tok8 i} V m c main_arg5) : sProp 𝕄)
    = iprop((((c : Thread nD τ).loc main_arg5) ↦{tok8 0} V m c main_arg5) ∗ (((c : Thread nD τ).loc main_arg5) ↦{tok8 1} V m c main_arg5) ∗ (((c : Thread nD τ).loc main_arg5) ↦{tok8 2} V m c main_arg5) ∗ (((c : Thread nD τ).loc main_arg5) ↦{tok8 3} V m c main_arg5) ∗ (((c : Thread nD τ).loc main_arg5) ↦{tok8 4} V m c main_arg5) ∗ (((c : Thread nD τ).loc main_arg5) ↦{tok8 5} V m c main_arg5) ∗ (((c : Thread nD τ).loc main_arg5) ↦{tok8 6} V m c main_arg5) ∗ (((c : Thread nD τ).loc main_arg5) ↦{tok8 7} V m c main_arg5)) :=
  bigSep_univ_eq_bigSepL [0, 1, 2, 3, 4, 5, 6, 7] (by decide) (by decide) _

/-- The free slots of the two rings. -/
def Slots (c : Dev nD) : sProp 𝕄 := iprop(Rest c (Memref.whole main_arg3) (Memref.whole main_arg5) (Memref.whole cc0_scratch0) (Memref.whole cc0_scratch1) cc0_scratch5 cc0_scratch6 tok12 tok8 (V m c main_arg3) (V m c main_arg5) 0 lt0_4 ∗ Rest c (Memref.whole main_arg3) (Memref.whole main_arg5) (Memref.whole cc0_scratch0) (Memref.whole cc0_scratch1) cc0_scratch5 cc0_scratch6 tok12 tok8 (V m c main_arg3) (V m c main_arg5) 1 lt1_4 ∗ Rest c (Memref.whole main_arg3) (Memref.whole main_arg5) (Memref.whole cc0_scratch0) (Memref.whole cc0_scratch1) cc0_scratch5 cc0_scratch6 tok12 tok8 (V m c main_arg3) (V m c main_arg5) 2 lt2_4 ∗ Rest c (Memref.whole main_arg3) (Memref.whole main_arg5) (Memref.whole cc0_scratch0) (Memref.whole cc0_scratch1) cc0_scratch5 cc0_scratch6 tok12 tok8 (V m c main_arg3) (V m c main_arg5) 3 lt3_4)

theorem slots_eq (c : Dev nD) : Slots m c = iprop((((((c : Thread nD τ).loc main_arg3) ↦{tok12 0} V m c main_arg3) ∗ Some_ ((c : Thread nD τ).loc cc0_scratch0) ((Memref.whole cc0_scratch0).access (gA c (Memref.whole main_arg3) (Memref.whole cc0_scratch0) cc0_scratch5 tok12 (V m c main_arg3) 0 lt0_4).at_).set ∗ semVal ((c : Thread nD τ), SemLoc.dma 6) 0) ∗ ((((c : Thread nD τ).loc main_arg3) ↦{tok12 1} V m c main_arg3) ∗ Some_ ((c : Thread nD τ).loc cc0_scratch0) ((Memref.whole cc0_scratch0).access (gB c (Memref.whole main_arg3) (Memref.whole cc0_scratch0) cc0_scratch5 tok12 (V m c main_arg3) 0 lt0_4).at_).set ∗ semVal ((c : Thread nD τ), SemLoc.dma 7) 0) ∗ ((((c : Thread nD τ).loc main_arg3) ↦{tok12 2} V m c main_arg3) ∗ Some_ ((c : Thread nD τ).loc cc0_scratch0) ((Memref.whole cc0_scratch0).access (gC c (Memref.whole main_arg3) (Memref.whole cc0_scratch0) cc0_scratch5 tok12 (V m c main_arg3) 0 lt0_4).at_).set ∗ semVal ((c : Thread nD τ), SemLoc.dma 8) 0) ∗ ((((c : Thread nD τ).loc main_arg5) ↦{tok8 0} V m c main_arg5) ∗ Some_ ((c : Thread nD τ).loc cc0_scratch1) ((Memref.whole cc0_scratch1).access (gD c (Memref.whole main_arg5) (Memref.whole cc0_scratch1) cc0_scratch6 tok8 (V m c main_arg5) 0 lt0_4).at_).set ∗ semVal ((c : Thread nD τ), SemLoc.dma 18) 0) ∗ ((((c : Thread nD τ).loc main_arg5) ↦{tok8 1} V m c main_arg5) ∗ Some_ ((c : Thread nD τ).loc cc0_scratch1) ((Memref.whole cc0_scratch1).access (gE c (Memref.whole main_arg5) (Memref.whole cc0_scratch1) cc0_scratch6 tok8 (V m c main_arg5) 0 lt0_4).at_).set ∗ semVal ((c : Thread nD τ), SemLoc.dma 19) 0)) ∗ (((((c : Thread nD τ).loc main_arg3) ↦{tok12 3} V m c main_arg3) ∗ Some_ ((c : Thread nD τ).loc cc0_scratch0) ((Memref.whole cc0_scratch0).access (gA c (Memref.whole main_arg3) (Memref.whole cc0_scratch0) cc0_scratch5 tok12 (V m c main_arg3) 1 lt1_4).at_).set ∗ semVal ((c : Thread nD τ), SemLoc.dma 9) 0) ∗ ((((c : Thread nD τ).loc main_arg3) ↦{tok12 4} V m c main_arg3) ∗ Some_ ((c : Thread nD τ).loc cc0_scratch0) ((Memref.whole cc0_scratch0).access (gB c (Memref.whole main_arg3) (Memref.whole cc0_scratch0) cc0_scratch5 tok12 (V m c main_arg3) 1 lt1_4).at_).set ∗ semVal ((c : Thread nD τ), SemLoc.dma 10) 0) ∗ ((((c : Thread nD τ).loc main_arg3) ↦{tok12 5} V m c main_arg3) ∗ Some_ ((c : Thread nD τ).loc cc0_scratch0) ((Memref.whole cc0_scratch0).access (gC c (Memref.whole main_arg3) (Memref.whole cc0_scratch0) cc0_scratch5 tok12 (V m c main_arg3) 1 lt1_4).at_).set ∗ semVal ((c : Thread nD τ), SemLoc.dma 11) 0) ∗ ((((c : Thread nD τ).loc main_arg5) ↦{tok8 2} V m c main_arg5) ∗ Some_ ((c : Thread nD τ).loc cc0_scratch1) ((Memref.whole cc0_scratch1).access (gD c (Memref.whole main_arg5) (Memref.whole cc0_scratch1) cc0_scratch6 tok8 (V m c main_arg5) 1 lt1_4).at_).set ∗ semVal ((c : Thread nD τ), SemLoc.dma 20) 0) ∗ ((((c : Thread nD τ).loc main_arg5) ↦{tok8 3} V m c main_arg5) ∗ Some_ ((c : Thread nD τ).loc cc0_scratch1) ((Memref.whole cc0_scratch1).access (gE c (Memref.whole main_arg5) (Memref.whole cc0_scratch1) cc0_scratch6 tok8 (V m c main_arg5) 1 lt1_4).at_).set ∗ semVal ((c : Thread nD τ), SemLoc.dma 21) 0)) ∗ (((((c : Thread nD τ).loc main_arg3) ↦{tok12 6} V m c main_arg3) ∗ Some_ ((c : Thread nD τ).loc cc0_scratch0) ((Memref.whole cc0_scratch0).access (gA c (Memref.whole main_arg3) (Memref.whole cc0_scratch0) cc0_scratch5 tok12 (V m c main_arg3) 2 lt2_4).at_).set ∗ semVal ((c : Thread nD τ), SemLoc.dma 12) 0) ∗ ((((c : Thread nD τ).loc main_arg3) ↦{tok12 7} V m c main_arg3) ∗ Some_ ((c : Thread nD τ).loc cc0_scratch0) ((Memref.whole cc0_scratch0).access (gB c (Memref.whole main_arg3) (Memref.whole cc0_scratch0) cc0_scratch5 tok12 (V m c main_arg3) 2 lt2_4).at_).set ∗ semVal ((c : Thread nD τ), SemLoc.dma 13) 0) ∗ ((((c : Thread nD τ).loc main_arg3) ↦{tok12 8} V m c main_arg3) ∗ Some_ ((c : Thread nD τ).loc cc0_scratch0) ((Memref.whole cc0_scratch0).access (gC c (Memref.whole main_arg3) (Memref.whole cc0_scratch0) cc0_scratch5 tok12 (V m c main_arg3) 2 lt2_4).at_).set ∗ semVal ((c : Thread nD τ), SemLoc.dma 14) 0) ∗ ((((c : Thread nD τ).loc main_arg5) ↦{tok8 4} V m c main_arg5) ∗ Some_ ((c : Thread nD τ).loc cc0_scratch1) ((Memref.whole cc0_scratch1).access (gD c (Memref.whole main_arg5) (Memref.whole cc0_scratch1) cc0_scratch6 tok8 (V m c main_arg5) 2 lt2_4).at_).set ∗ semVal ((c : Thread nD τ), SemLoc.dma 22) 0) ∗ ((((c : Thread nD τ).loc main_arg5) ↦{tok8 5} V m c main_arg5) ∗ Some_ ((c : Thread nD τ).loc cc0_scratch1) ((Memref.whole cc0_scratch1).access (gE c (Memref.whole main_arg5) (Memref.whole cc0_scratch1) cc0_scratch6 tok8 (V m c main_arg5) 2 lt2_4).at_).set ∗ semVal ((c : Thread nD τ), SemLoc.dma 23) 0)) ∗ (((((c : Thread nD τ).loc main_arg3) ↦{tok12 9} V m c main_arg3) ∗ Some_ ((c : Thread nD τ).loc cc0_scratch0) ((Memref.whole cc0_scratch0).access (gA c (Memref.whole main_arg3) (Memref.whole cc0_scratch0) cc0_scratch5 tok12 (V m c main_arg3) 3 lt3_4).at_).set ∗ semVal ((c : Thread nD τ), SemLoc.dma 15) 0) ∗ ((((c : Thread nD τ).loc main_arg3) ↦{tok12 10} V m c main_arg3) ∗ Some_ ((c : Thread nD τ).loc cc0_scratch0) ((Memref.whole cc0_scratch0).access (gB c (Memref.whole main_arg3) (Memref.whole cc0_scratch0) cc0_scratch5 tok12 (V m c main_arg3) 3 lt3_4).at_).set ∗ semVal ((c : Thread nD τ), SemLoc.dma 16) 0) ∗ ((((c : Thread nD τ).loc main_arg3) ↦{tok12 11} V m c main_arg3) ∗ Some_ ((c : Thread nD τ).loc cc0_scratch0) ((Memref.whole cc0_scratch0).access (gC c (Memref.whole main_arg3) (Memref.whole cc0_scratch0) cc0_scratch5 tok12 (V m c main_arg3) 3 lt3_4).at_).set ∗ semVal ((c : Thread nD τ), SemLoc.dma 17) 0) ∗ ((((c : Thread nD τ).loc main_arg5) ↦{tok8 6} V m c main_arg5) ∗ Some_ ((c : Thread nD τ).loc cc0_scratch1) ((Memref.whole cc0_scratch1).access (gD c (Memref.whole main_arg5) (Memref.whole cc0_scratch1) cc0_scratch6 tok8 (V m c main_arg5) 3 lt3_4).at_).set ∗ semVal ((c : Thread nD τ), SemLoc.dma 24) 0) ∗ ((((c : Thread nD τ).loc main_arg5) ↦{tok8 7} V m c main_arg5) ∗ Some_ ((c : Thread nD τ).loc cc0_scratch1) ((Memref.whole cc0_scratch1).access (gE c (Memref.whole main_arg5) (Memref.whole cc0_scratch1) cc0_scratch6 tok8 (V m c main_arg5) 3 lt3_4).at_).set ∗ semVal ((c : Thread nD τ), SemLoc.dma 25) 0))) := rfl

theorem slots_split (c : Dev nD) :
    iprop((∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)
      ∗ Pipeline.ownSems0 (Ix := Unit) (Name := ℕ) (U := Pipeline.UD sig nD τ) (Lvl := ℕ) (Val := Elt F) (τ := τ) osem0 c
      ∗ (bigSep H0 (fun b => ((c : Thread nD τ).loc b) ↦{fullShare} V m c b)))
      ⊢ iprop(Slots m c ∗ Left m c) := by
  rw [ownSems00_eq, hbmPts0_eq, whole_some, whole_some]
  iintro ⟨HA, HB, ⟨Hs0, Hs1, Hs2, Hs3, Hs4, Hs5, Hs6, Hs7, Hs8, Hs9, Hs10, Hs11, Hs12, Hs13, Hs14, Hs15, Hs16, Hs17, Hs18, Hs19⟩, H3, H5⟩
  ihave HA := (pieces_split _ (blocks0 m c) Finset.univ (blocks0_apart m c) fun _ _ => Finset.subset_univ _) $$ HA
  ihave HB := (pieces_split _ (blocks1 m c) Finset.univ (blocks1_apart m c) fun _ _ => Finset.subset_univ _) $$ HB
  ihave H3 := (Transfers.pointsTo_toks_split (Val := Elt F) (Ix := Unit) (Name := ℕ) (U := Pipeline.UD sig nD τ) (Lvl := ℕ) fullShare 12) $$ H3
  ihave H5 := (Transfers.pointsTo_toks_split (Val := Elt F) (Ix := Unit) (Name := ℕ) (U := Pipeline.UD sig nD τ) (Lvl := ℕ) fullShare 8) $$ H5
  icases H3 with ⟨H3, HT⟩
  icases H5 with ⟨H5, HU⟩
  ihave HT := (Entails.of_eq (toks12 m c)) $$ HT
  ihave HU := (Entails.of_eq (toks8 m c)) $$ HU
  icases HT with ⟨Ht0, Ht1, Ht2, Ht3, Ht4, Ht5, Ht6, Ht7, Ht8, Ht9, Ht10, Ht11⟩
  icases HU with ⟨Hu0, Hu1, Hu2, Hu3, Hu4, Hu5, Hu6, Hu7⟩
  ihave HA := (Entails.of_eq (pieces0_eq m c)) $$ HA
  ihave HB := (Entails.of_eq (pieces1_eq m c)) $$ HB
  icases HA with ⟨Hk0, Hk1, Hk2, Hk3, Hk4, Hk5, Hk6, Hk7, Hk8, Hk9, Hk10, Hk11, HA⟩
  icases HB with ⟨Hl0, Hl1, Hl2, Hl3, Hl4, Hl5, Hl6, Hl7, HB⟩
  isplitr [HA HB H3 H5]
  · rw [slots_eq]
    isplitl [Ht0 Hk0 Hs0 Ht1 Hk1 Hs1 Ht2 Hk2 Hs2 Hu0 Hl0 Hs12 Hu1 Hl1 Hs13]
    · isplitl [Ht0 Hk0 Hs0]
      · isplitl [Ht0]; · iexact Ht0
        isplitl [Hk0]; · iexact Hk0
        iexact Hs0
      isplitl [Ht1 Hk1 Hs1]
      · isplitl [Ht1]; · iexact Ht1
        isplitl [Hk1]; · iexact Hk1
        iexact Hs1
      isplitl [Ht2 Hk2 Hs2]
      · isplitl [Ht2]; · iexact Ht2
        isplitl [Hk2]; · iexact Hk2
        iexact Hs2
      isplitl [Hu0 Hl0 Hs12]
      · isplitl [Hu0]; · iexact Hu0
        isplitl [Hl0]; · iexact Hl0
        iexact Hs12
      isplitl [Hu1]; · iexact Hu1
      isplitl [Hl1]; · iexact Hl1
      iexact Hs13
    isplitl [Ht3 Hk3 Hs3 Ht4 Hk4 Hs4 Ht5 Hk5 Hs5 Hu2 Hl2 Hs14 Hu3 Hl3 Hs15]
    · isplitl [Ht3 Hk3 Hs3]
      · isplitl [Ht3]; · iexact Ht3
        isplitl [Hk3]; · iexact Hk3
        iexact Hs3
      isplitl [Ht4 Hk4 Hs4]
      · isplitl [Ht4]; · iexact Ht4
        isplitl [Hk4]; · iexact Hk4
        iexact Hs4
      isplitl [Ht5 Hk5 Hs5]
      · isplitl [Ht5]; · iexact Ht5
        isplitl [Hk5]; · iexact Hk5
        iexact Hs5
      isplitl [Hu2 Hl2 Hs14]
      · isplitl [Hu2]; · iexact Hu2
        isplitl [Hl2]; · iexact Hl2
        iexact Hs14
      isplitl [Hu3]; · iexact Hu3
      isplitl [Hl3]; · iexact Hl3
      iexact Hs15
    isplitl [Ht6 Hk6 Hs6 Ht7 Hk7 Hs7 Ht8 Hk8 Hs8 Hu4 Hl4 Hs16 Hu5 Hl5 Hs17]
    · isplitl [Ht6 Hk6 Hs6]
      · isplitl [Ht6]; · iexact Ht6
        isplitl [Hk6]; · iexact Hk6
        iexact Hs6
      isplitl [Ht7 Hk7 Hs7]
      · isplitl [Ht7]; · iexact Ht7
        isplitl [Hk7]; · iexact Hk7
        iexact Hs7
      isplitl [Ht8 Hk8 Hs8]
      · isplitl [Ht8]; · iexact Ht8
        isplitl [Hk8]; · iexact Hk8
        iexact Hs8
      isplitl [Hu4 Hl4 Hs16]
      · isplitl [Hu4]; · iexact Hu4
        isplitl [Hl4]; · iexact Hl4
        iexact Hs16
      isplitl [Hu5]; · iexact Hu5
      isplitl [Hl5]; · iexact Hl5
      iexact Hs17
    isplitl [Ht9 Hk9 Hs9]
    · isplitl [Ht9]; · iexact Ht9
      isplitl [Hk9]; · iexact Hk9
      iexact Hs9
    isplitl [Ht10 Hk10 Hs10]
    · isplitl [Ht10]; · iexact Ht10
      isplitl [Hk10]; · iexact Hk10
      iexact Hs10
    isplitl [Ht11 Hk11 Hs11]
    · isplitl [Ht11]; · iexact Ht11
      isplitl [Hk11]; · iexact Hk11
      iexact Hs11
    isplitl [Hu6 Hl6 Hs18]
    · isplitl [Hu6]; · iexact Hu6
      isplitl [Hl6]; · iexact Hl6
      iexact Hs18
    isplitl [Hu7]; · iexact Hu7
    isplitl [Hl7]; · iexact Hl7
    iexact Hs19
  unfold Left
  isplitl [HA]; · iexact HA
  isplitl [HB]; · iexact HB
  isplitl [H3]; · iexact H3
  iexact H5

theorem slots_join (c : Dev nD) :
    iprop(Slots m c ∗ Left m c) ⊢ iprop((∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)
      ∗ Pipeline.ownSems0 (Ix := Unit) (Name := ℕ) (U := Pipeline.UD sig nD τ) (Lvl := ℕ) (Val := Elt F) (τ := τ) osem0 c
      ∗ (bigSep H0 (fun b => ((c : Thread nD τ).loc b) ↦{fullShare} V m c b))) := by
  rw [ownSems00_eq, hbmPts0_eq, whole_some, whole_some, slots_eq]
  unfold Left
  iintro ⟨⟨⟨⟨Ht0, Hk0, Hs0⟩, ⟨Ht1, Hk1, Hs1⟩, ⟨Ht2, Hk2, Hs2⟩, ⟨Hu0, Hl0, Hs12⟩, ⟨Hu1, Hl1, Hs13⟩⟩, ⟨⟨Ht3, Hk3, Hs3⟩, ⟨Ht4, Hk4, Hs4⟩, ⟨Ht5, Hk5, Hs5⟩, ⟨Hu2, Hl2, Hs14⟩, ⟨Hu3, Hl3, Hs15⟩⟩, ⟨⟨Ht6, Hk6, Hs6⟩, ⟨Ht7, Hk7, Hs7⟩, ⟨Ht8, Hk8, Hs8⟩, ⟨Hu4, Hl4, Hs16⟩, ⟨Hu5, Hl5, Hs17⟩⟩, ⟨⟨Ht9, Hk9, Hs9⟩, ⟨Ht10, Hk10, Hs10⟩, ⟨Ht11, Hk11, Hs11⟩, ⟨Hu6, Hl6, Hs18⟩, ⟨Hu7, Hl7, Hs19⟩⟩⟩, HA, HB, H3, H5⟩
  isplitl [HA Hk0 Hk1 Hk2 Hk3 Hk4 Hk5 Hk6 Hk7 Hk8 Hk9 Hk10 Hk11]
  · iapply (pieces_join _ (blocks0 m c) Finset.univ (blocks0_apart m c) fun _ _ => Finset.subset_univ _)
    iapply (Entails.of_eq (pieces0_eq m c).symm)
    isplitl [Hk0]; · iexact Hk0
    isplitl [Hk1]; · iexact Hk1
    isplitl [Hk2]; · iexact Hk2
    isplitl [Hk3]; · iexact Hk3
    isplitl [Hk4]; · iexact Hk4
    isplitl [Hk5]; · iexact Hk5
    isplitl [Hk6]; · iexact Hk6
    isplitl [Hk7]; · iexact Hk7
    isplitl [Hk8]; · iexact Hk8
    isplitl [Hk9]; · iexact Hk9
    isplitl [Hk10]; · iexact Hk10
    isplitl [Hk11]; · iexact Hk11
    iexact HA
  isplitl [HB Hl0 Hl1 Hl2 Hl3 Hl4 Hl5 Hl6 Hl7]
  · iapply (pieces_join _ (blocks1 m c) Finset.univ (blocks1_apart m c) fun _ _ => Finset.subset_univ _)
    iapply (Entails.of_eq (pieces1_eq m c).symm)
    isplitl [Hl0]; · iexact Hl0
    isplitl [Hl1]; · iexact Hl1
    isplitl [Hl2]; · iexact Hl2
    isplitl [Hl3]; · iexact Hl3
    isplitl [Hl4]; · iexact Hl4
    isplitl [Hl5]; · iexact Hl5
    isplitl [Hl6]; · iexact Hl6
    isplitl [Hl7]; · iexact Hl7
    iexact HB
  isplitl [Hs0 Hs1 Hs2 Hs3 Hs4 Hs5 Hs6 Hs7 Hs8 Hs9 Hs10 Hs11 Hs12 Hs13 Hs14 Hs15 Hs16 Hs17 Hs18 Hs19]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hs14]; · iexact Hs14
    isplitl [Hs15]; · iexact Hs15
    isplitl [Hs16]; · iexact Hs16
    isplitl [Hs17]; · iexact Hs17
    isplitl [Hs18]; · iexact Hs18
    iexact Hs19
  isplitl [H3 Ht0 Ht1 Ht2 Ht3 Ht4 Ht5 Ht6 Ht7 Ht8 Ht9 Ht10 Ht11]
  · iapply (Transfers.pointsTo_toks_join (Val := Elt F) (Ix := Unit) (Name := ℕ) (U := Pipeline.UD sig nD τ) (Lvl := ℕ) fullShare 12)
    isplitl [H3]; · iexact H3
    iapply (Entails.of_eq (toks12 m c).symm)
    isplitl [Ht0]; · iexact Ht0
    isplitl [Ht1]; · iexact Ht1
    isplitl [Ht2]; · iexact Ht2
    isplitl [Ht3]; · iexact Ht3
    isplitl [Ht4]; · iexact Ht4
    isplitl [Ht5]; · iexact Ht5
    isplitl [Ht6]; · iexact Ht6
    isplitl [Ht7]; · iexact Ht7
    isplitl [Ht8]; · iexact Ht8
    isplitl [Ht9]; · iexact Ht9
    isplitl [Ht10]; · iexact Ht10
    iexact Ht11
  iapply (Transfers.pointsTo_toks_join (Val := Elt F) (Ix := Unit) (Name := ℕ) (U := Pipeline.UD sig nD τ) (Lvl := ℕ) fullShare 8)
  isplitl [H5]; · iexact H5
  iapply (Entails.of_eq (toks8 m c).symm)
  isplitl [Hu0]; · iexact Hu0
  isplitl [Hu1]; · iexact Hu1
  isplitl [Hu2]; · iexact Hu2
  isplitl [Hu3]; · iexact Hu3
  isplitl [Hu4]; · iexact Hu4
  isplitl [Hu5]; · iexact Hu5
  isplitl [Hu6]; · iexact Hu6
  iexact Hu7

end Cert.Kernel.Hand

end
-- ==== Proof.FloatLaunch.lean ====
/-
  The launch: what the body is handed, the run of the whole program, and what it leaves of the arguments.
-/
module

public import proofs.«01_k».proof.Proof.FloatRings

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MoeWords Cert.MoeRing

variable {F : FTy → Type} [FloatOps F]

local notation "𝕄" => MT nD τ sig Unit (Elt F) ℕ (Pipeline.UD sig nD τ) ℕ

open Idealize.ShloMosaic.Pipeline (Dat Cfg Window BodyObligation cellOf)

variable (m : (ℓ : Loc nD τ sig) → Buf (Elt F) ℓ) (ρ : Dev nD → PrngReg)

/-! ### What the body leaves in the result's block, and the data of the pipeline -/

/-- The block the body leaves: the result of the launch, of the blocks of the operands and the two arrays of experts. -/
def outAt (c : Dev nD) (t : Fin cfg0.N) : S9x2816.Idx → Elt F .bf16 :=
  outOf ((Memref.whole main_arg3).view.read (Elt F) (V m c main_arg3)) ((Memref.whole main_arg5).view.read (Elt F) (V m c main_arg5))
    (iblk m c 0 t) (iblk m c 1 t) (iblk m c 2 t) (iblk m c 3 t) (iblk m c 4 t)

/-- The data of the one pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)

/-! ### The body, on what the pipeline hands it -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem PhiD0_eq (c : Dev nD) : (Pipeline.ΦD osem0 spec0 H0 (V m) c : sProp 𝕄)
    = iprop(Pipeline.scopedRest (Ix := Unit) (Name := ℕ) (U := Pipeline.UD sig nD τ) (Lvl := ℕ) (Val := Elt F) spec0 c ∗ (∃ r, prngReg c r)
      ∗ Pipeline.ownSems0 (Ix := Unit) (Name := ℕ) (U := Pipeline.UD sig nD τ) (Lvl := ℕ) (Val := Elt F) (τ := τ) osem0 c
      ∗ bigSep H0 (fun b => ((c : Thread nD τ).loc b) ↦{fullShare} V m c b)) := rfl

/-- A buffer held whole at some contents. -/
theorem holds_whole (c : Dev nD) (b : Ref sig .tc) :
    (iprop(∃ f : Buf (Elt F) ((c : Thread nD τ).loc b), ((c : Thread nD τ).loc b) ↦{fullShare} f) : sProp 𝕄)
      ⊢ iprop(∃ X : b.ty.shape.Idx → Elt F b.ty.elt, Holds (Val := Elt F) (c : Thread nD τ) (Memref.whole b) X) := by
  unfold Holds
  iintro ⟨%f, H⟩
  iexists f
  iapply (Entails.of_eq (owns_whole (Ix := Unit) (Name := ℕ) (U := Pipeline.UD sig nD τ) (Lvl := ℕ) (c : Thread nD τ) b fullShare f).symm)
  iexact H

theorem whole_holds (c : Dev nD) (b : Ref sig .tc) :
    (iprop(∃ X : b.ty.shape.Idx → Elt F b.ty.elt, Holds (Val := Elt F) (c : Thread nD τ) (Memref.whole b) X) : sProp 𝕄)
      ⊢ iprop(∃ f : Buf (Elt F) ((c : Thread nD τ).loc b), ((c : Thread nD τ).loc b) ↦{fullShare} f) := by
  unfold Holds
  iintro ⟨%f, H⟩
  iexists f
  iapply (Entails.of_eq (owns_whole (Ix := Unit) (Name := ℕ) (U := Pipeline.UD sig nD τ) (Lvl := ℕ) (c : Thread nD τ) b fullShare f))
  iexact H

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, after0_0, after0_1, after0_2, after0_3, after0_4, after0_5]
  rw [show (dats m 0 c).Φ t.castSucc = Pipeline.ΦD osem0 spec0 H0 (V m) c from rfl, PhiD0_eq, scopedRest0_eq]
  unfold Dat.owesAt Pipeline.owesWithin
  rw [show (dats m 0 c).owed t.castSucc = 0 from rfl, show (dats m 0 c).owed t.succ = 0 from rfl]
  iintro ⟨⟨⟨HS0, HS1, HS2, HS3, HS4⟩, Hg, Hq, Hh⟩, ⟨%W, -, HW⟩, ⟨%d0, H0⟩, ⟨%d1, H1⟩, ⟨%d2, H2⟩, ⟨%d3, H3⟩, ⟨%d4, H4⟩, ⟨%d5, H5⟩⟩
  ihave HL := (slots_split m c) $$ [HS0 HS1 Hq Hh]
  · isplitl [HS0]; · iexact HS0
    isplitl [HS1]; · iexact HS1
    isplitl [Hq]; · iexact Hq
    iexact Hh
  icases HL with ⟨HR, HL⟩
  unfold Slots
  icases HR with ⟨HR0, HR1, HR2, HR3⟩
  ihave HS2 := (holds_whole c cc0_scratch2) $$ HS2
  ihave HS3 := (holds_whole c cc0_scratch3) $$ HS3
  ihave HS4 := (holds_whole c cc0_scratch4) $$ HS4
  iapply (wp_wand_r)
  isplitr [Hg HL]
  · iapply (body c (win0_0.stage (cfg0.slots t 0)) (hstage0_0 0) (win0_1.stage (cfg0.slots t 1)) (hstage0_1 0) (win0_2.stage (cfg0.slots t 2)) (hstage0_2 0) (win0_3.stage (cfg0.slots t 3)) (hstage0_3 0) (win0_4.stage (cfg0.slots t 4)) (hstage0_4 0) (Memref.whole main_arg3) (Memref.isWhole_whole _) (Memref.whole main_arg5) (Memref.isWhole_whole _) (win0_5.stage (cfg0.slots t 5)) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 tok12 tok8 (V m c main_arg3) (V m c main_arg5) (iblk m c 0 t) (iblk m c 1 t) (iblk m c 2 t) (iblk m c 3 t) (iblk m c 4 t))
    rw [before0_0, before0_1, before0_2, before0_3, before0_4]
    unfold Holds
    isplitl [H0]; · iexact H0
    isplitl [H1]; · iexact H1
    isplitl [H2]; · iexact H2
    isplitl [H3]; · iexact H3
    isplitl [H4]; · iexact H4
    isplitl [H5]; · iexists _; iexact H5
    isplitl [HS3]; · iexact HS3
    isplitl [HS2]; · iexact HS2
    isplitl [HS4]; · iexact HS4
    isplitl [HR0]; · iexact HR0
    isplitl [HR1]; · iexact HR1
    isplitl [HR2]; · iexact HR2
    isplitl [HR3]; · iexact HR3
    iexists W; iexact HW
  iintro %_ ⟨H0, H1, H2, H3, H4, H5, HS3, HS2, HS4, HR0, HR1, HR2, HR3, ⟨%W', HW⟩⟩
  ihave HS2 := (whole_holds c cc0_scratch2) $$ HS2
  ihave HS3 := (whole_holds c cc0_scratch3) $$ HS3
  ihave HS4 := (whole_holds c cc0_scratch4) $$ HS4
  ihave HL := (slots_join m c) $$ [HL HR0 HR1 HR2 HR3]
  · isplitr [HL]
    · unfold Slots
      isplitl [HR0]; · iexact HR0
      isplitl [HR1]; · iexact HR1
      isplitl [HR2]; · iexact HR2
      iexact HR3
    iexact HL
  icases HL with ⟨HS0, HS1, Hq, Hh⟩
  isplitl [HS0 HS1 HS2 HS3 HS4 Hg Hq Hh]
  · isplitl [HS0 HS1 HS2 HS3 HS4]
    · isplitl [HS0]; · iexact HS0
      isplitl [HS1]; · iexact HS1
      isplitl [HS2]; · iexact HS2
      isplitl [HS3]; · iexact HS3
      iexact HS4
    isplitl [Hg]; · iexact Hg
    isplitl [Hq]; · iexact Hq
    iexact Hh
  isplitl [HW]
  · iexists W'
    isplitr; · ipureintro; exact fun _ _ => Or.inl trivial
    iexact HW
  unfold Holds outAt
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ### The run -/

theorem sfx_subH : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  refine Pipeline.sub_tailRefsBut _ _ _ op ((List.forall_iff_forall_mem.mp hostOps1_sub) op hop) (fun k => k.elim0) ?_
  simp only [hostOps1, List.mem_cons, List.mem_nil_iff, or_false] at hop
  rcases hop with rfl
  intro b hb
  simp only [H0, Finset.mem_insert, Finset.mem_singleton] at hb
  rw [StableHlo.reshape_bufs]
  rcases hb with rfl | rfl <;>
  · simp only [Finset.mem_insert, Finset.mem_singleton, not_or]
    exact ⟨StableHlo.devRef_ne_of_ne (by decide), StableHlo.devRef_ne_of_ne (by decide)⟩

theorem W_arg0 (c : Dev nD) : Pipeline.afterTail₀ cfgs (dats m) 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

theorem W_arg1 (c : Dev nD) : Pipeline.afterTail₀ cfgs (dats m) 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

theorem W_arg2 (c : Dev nD) : Pipeline.afterTail₀ cfgs (dats m) 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c

theorem W_arg3 (c : Dev nD) : Pipeline.afterTail₀ cfgs (dats m) 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c

theorem W_arg5 (c : Dev nD) : Pipeline.afterTail₀ cfgs (dats m) 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg5 (by exact (by decide : ∀ w, Pipeline.arrRef spec0 w ≠ main_arg5))]
  exact V_main_arg5 m c

set_option maxHeartbeats 800000 in
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

set_option backward.isDefEq.respectTransparency.types false in
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := sfx_subH) (hfresh := sfx_fresh) (hkeep := sfx_keeps)
    (hmain := hmainD m Variants.none) (hA := A_eq m) (hin := fun _ => .rfl) (hout := fun _ => .rfl)

/-- The arguments end as they began, and every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨((h.1 c).2 main_arg0 (Pipeline.mem_restRefs_of main_arg0 (by decide) (by decide))).trans (W_arg0 m c),
      ((h.1 c).2 main_arg1 (Pipeline.mem_restRefs_of main_arg1 (by decide) (by decide))).trans (W_arg1 m c),
      ((h.1 c).2 main_arg2 (Pipeline.mem_restRefs_of main_arg2 (by decide) (by decide))).trans (W_arg2 m c),
      ((h.1 c).2 main_arg3 (Pipeline.mem_restRefs_of main_arg3 (by decide) (by decide))).trans (W_arg3 m c),
      ((h.1 c).1 3).trans (((dats m 0 c).arrAt_in 3 rfl _).trans ((A_eq m c 3).trans (V_main_arg4 m c))),
      ((h.1 c).2 main_arg5 (Pipeline.mem_restRefs_of main_arg5 (by decide) (by decide))).trans (W_arg5 m c),
      ((h.1 c).1 4).trans (((dats m 0 c).arrAt_in 4 rfl _).trans ((A_eq m c 4).trans (V_main_arg6 m c)))⟩, h.2⟩) (run_main m ρ)

end Cert.Kernel.Hand

end
-- ==== Proof.IdealOffs.lean ====
/-
  The offsets of the kernel's blocks and cells in closed form, and its own checks of them.
-/
module

public import proofs.«01_k».proof.Proof.Gen.KernelIdeal
public import proofs.«01_k».proof.Proof.Words

@[expose] public section

noncomputable section

namespace Cert.KernelIdeal

open Idealize.ShloMosaic Cert.MoeWords

/-- The mask of active experts: one bit for each expert named by the 18 ids. -/
def mask (v0 v3 v6 v9 v12 v15 v18 v21 v24 v27 v30 v33 v36 v39 v42 v45 v48 v51 : BitVec 32) : BitVec 32 :=
  (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori 0#32 (Scalar.shli 1#32 v0)) (Scalar.shli 1#32 v3)) (Scalar.shli 1#32 v6)) (Scalar.shli 1#32 v9)) (Scalar.shli 1#32 v12)) (Scalar.shli 1#32 v15)) (Scalar.shli 1#32 v18)) (Scalar.shli 1#32 v21)) (Scalar.shli 1#32 v24)) (Scalar.shli 1#32 v27)) (Scalar.shli 1#32 v30)) (Scalar.shli 1#32 v33)) (Scalar.shli 1#32 v36)) (Scalar.shli 1#32 v39)) (Scalar.shli 1#32 v42)) (Scalar.shli 1#32 v45)) (Scalar.shli 1#32 v48)) (Scalar.shli 1#32 v51))

variable {v0 v3 v6 v9 v12 v15 v18 v21 v24 v27 v30 v33 v36 v39 v42 v45 v48 v51 : BitVec 32}

theorem trips1 : (k0_t1_loop v0 v3 v6 v9 v12 v15 v18 v21 v24 v27 v30 v33 v36 v39 v42 v45 v48 v51).trips = act (mask v0 v3 v6 v9 v12 v15 v18 v21 v24 v27 v30 v33 v36 v39 v42 v45 v48 v51) := trips_eq (mask v0 v3 v6 v9 v12 v15 v18 v21 v24 v27 v30 v33 v36 v39 v42 v45 v48 v51)

theorem trips2 : (k0_t2_loop v0 v3 v6 v9 v12 v15 v18 v21 v24 v27 v30 v33 v36 v39 v42 v45 v48 v51).trips = 0 := trips2_eq (mask v0 v3 v6 v9 v12 v15 v18 v21 v24 v27 v30 v33 v36 v39 v42 v45 v48 v51)

theorem t1_lt (t : Fin (k0_t1_loop v0 v3 v6 v9 v12 v15 v18 v21 v24 v27 v30 v33 v36 v39 v42 v45 v48 v51).trips) : t.val < act (mask v0 v3 v6 v9 v12 v15 v18 v21 v24 v27 v30 v33 v36 v39 v42 v45 v48 v51) := lt_of_lt_of_eq t.isLt trips1

theorem t1_lt8 (t : Fin (k0_t1_loop v0 v3 v6 v9 v12 v15 v18 v21 v24 v27 v30 v33 v36 v39 v42 v45 v48 v51).trips) : t.val < 8 := lt_of_lt_of_le (t1_lt t) (act_le _)

theorem no2 {P : Prop} (t : Fin (k0_t2_loop v0 v3 v6 v9 v12 v15 v18 v21 v24 v27 v30 v33 v36 v39 v42 v45 v48 v51).trips) : P := absurd (lt_of_lt_of_eq t.isLt trips2) (Nat.not_lt_zero _)

theorem off1_eq : k0_off1 v0 v3 v6 v9 v12 v15 v18 v21 v24 v27 v30 v33 v36 v39 v42 v45 v48 v51 = ![num (mask v0 v3 v6 v9 v12 v15 v18 v21 v24 v27 v30 v33 v36 v39 v42 v45 v48 v51) 1] := rfl
theorem off2_eq : k0_off2 v0 v3 v6 v9 v12 v15 v18 v21 v24 v27 v30 v33 v36 v39 v42 v45 v48 v51 = ![num (mask v0 v3 v6 v9 v12 v15 v18 v21 v24 v27 v30 v33 v36 v39 v42 v45 v48 v51) 2] := rfl
theorem off3_eq : k0_off3 v0 v3 v6 v9 v12 v15 v18 v21 v24 v27 v30 v33 v36 v39 v42 v45 v48 v51 = ![num (mask v0 v3 v6 v9 v12 v15 v18 v21 v24 v27 v30 v33 v36 v39 v42 v45 v48 v51) 3] := rfl
theorem off4_eq : k0_off4 v0 v3 v6 v9 v12 v15 v18 v21 v24 v27 v30 v33 v36 v39 v42 v45 v48 v51 = ![num (mask v0 v3 v6 v9 v12 v15 v18 v21 v24 v27 v30 v33 v36 v39 v42 v45 v48 v51) 4] := rfl
theorem off5_eq : k0_off5 v0 v3 v6 v9 v12 v15 v18 v21 v24 v27 v30 v33 v36 v39 v42 v45 v48 v51 = ![num (mask v0 v3 v6 v9 v12 v15 v18 v21 v24 v27 v30 v33 v36 v39 v42 v45 v48 v51) 5] := rfl
theorem off6_eq : k0_off6 v0 v3 v6 v9 v12 v15 v18 v21 v24 v27 v30 v33 v36 v39 v42 v45 v48 v51 = ![num (mask v0 v3 v6 v9 v12 v15 v18 v21 v24 v27 v30 v33 v36 v39 v42 v45 v48 v51) 6] := rfl
theorem off7_eq : k0_off7 v0 v3 v6 v9 v12 v15 v18 v21 v24 v27 v30 v33 v36 v39 v42 v45 v48 v51 = ![num (mask v0 v3 v6 v9 v12 v15 v18 v21 v24 v27 v30 v33 v36 v39 v42 v45 v48 v51) 7] := rfl
theorem cond2_iff : k0_cond2 v0 v3 v6 v9 v12 v15 v18 v21 v24 v27 v30 v33 v36 v39 v42 v45 v48 v51 = 1#1 ↔ bit (mask v0 v3 v6 v9 v12 v15 v18 v21 v24 v27 v30 v33 v36 v39 v42 v45 v48 v51) 1 = 1#32 := on_iff (mask v0 v3 v6 v9 v12 v15 v18 v21 v24 v27 v30 v33 v36 v39 v42 v45 v48 v51) 1
theorem cond3_iff : k0_cond3 v0 v3 v6 v9 v12 v15 v18 v21 v24 v27 v30 v33 v36 v39 v42 v45 v48 v51 = 1#1 ↔ bit (mask v0 v3 v6 v9 v12 v15 v18 v21 v24 v27 v30 v33 v36 v39 v42 v45 v48 v51) 2 = 1#32 := on_iff (mask v0 v3 v6 v9 v12 v15 v18 v21 v24 v27 v30 v33 v36 v39 v42 v45 v48 v51) 2
theorem cond4_iff : k0_cond4 v0 v3 v6 v9 v12 v15 v18 v21 v24 v27 v30 v33 v36 v39 v42 v45 v48 v51 = 1#1 ↔ bit (mask v0 v3 v6 v9 v12 v15 v18 v21 v24 v27 v30 v33 v36 v39 v42 v45 v48 v51) 3 = 1#32 := on_iff (mask v0 v3 v6 v9 v12 v15 v18 v21 v24 v27 v30 v33 v36 v39 v42 v45 v48 v51) 3
theorem cond5_iff : k0_cond5 v0 v3 v6 v9 v12 v15 v18 v21 v24 v27 v30 v33 v36 v39 v42 v45 v48 v51 = 1#1 ↔ bit (mask v0 v3 v6 v9 v12 v15 v18 v21 v24 v27 v30 v33 v36 v39 v42 v45 v48 v51) 4 = 1#32 := on_iff (mask v0 v3 v6 v9 v12 v15 v18 v21 v24 v27 v30 v33 v36 v39 v42 v45 v48 v51) 4
theorem cond6_iff : k0_cond6 v0 v3 v6 v9 v12 v15 v18 v21 v24 v27 v30 v33 v36 v39 v42 v45 v48 v51 = 1#1 ↔ bit (mask v0 v3 v6 v9 v12 v15 v18 v21 v24 v27 v30 v33 v36 v39 v42 v45 v48 v51) 5 = 1#32 := on_iff (mask v0 v3 v6 v9 v12 v15 v18 v21 v24 v27 v30 v33 v36 v39 v42 v45 v48 v51) 5
theorem cond7_iff : k0_cond7 v0 v3 v6 v9 v12 v15 v18 v21 v24 v27 v30 v33 v36 v39 v42 v45 v48 v51 = 1#1 ↔ bit (mask v0 v3 v6 v9 v12 v15 v18 v21 v24 v27 v30 v33 v36 v39 v42 v45 v48 v51) 6 = 1#32 := on_iff (mask v0 v3 v6 v9 v12 v15 v18 v21 v24 v27 v30 v33 v36 v39 v42 v45 v48 v51) 6
theorem cond8_iff : k0_cond8 v0 v3 v6 v9 v12 v15 v18 v21 v24 v27 v30 v33 v36 v39 v42 v45 v48 v51 = 1#1 ↔ bit (mask v0 v3 v6 v9 v12 v15 v18 v21 v24 v27 v30 v33 v36 v39 v42 v45 v48 v51) 7 = 1#32 := on_iff (mask v0 v3 v6 v9 v12 v15 v18 v21 v24 v27 v30 v33 v36 v39 v42 v45 v48 v51) 7
theorem cond9_iff : k0_cond9 v0 v3 v6 v9 v12 v15 v18 v21 v24 v27 v30 v33 v36 v39 v42 v45 v48 v51 = 1#1 ↔ 0 < act (mask v0 v3 v6 v9 v12 v15 v18 v21 v24 v27 v30 v33 v36 v39 v42 v45 v48 v51) := first_iff (mask v0 v3 v6 v9 v12 v15 v18 v21 v24 v27 v30 v33 v36 v39 v42 v45 v48 v51) 0 (by decide)
theorem cond10_iff : k0_cond10 v0 v3 v6 v9 v12 v15 v18 v21 v24 v27 v30 v33 v36 v39 v42 v45 v48 v51 = 1#1 ↔ 1 < act (mask v0 v3 v6 v9 v12 v15 v18 v21 v24 v27 v30 v33 v36 v39 v42 v45 v48 v51) := first_iff (mask v0 v3 v6 v9 v12 v15 v18 v21 v24 v27 v30 v33 v36 v39 v42 v45 v48 v51) 1 (by decide)
theorem cond11_iff : k0_cond11 v0 v3 v6 v9 v12 v15 v18 v21 v24 v27 v30 v33 v36 v39 v42 v45 v48 v51 = 1#1 ↔ 2 < act (mask v0 v3 v6 v9 v12 v15 v18 v21 v24 v27 v30 v33 v36 v39 v42 v45 v48 v51) := first_iff (mask v0 v3 v6 v9 v12 v15 v18 v21 v24 v27 v30 v33 v36 v39 v42 v45 v48 v51) 2 (by decide)
theorem cond12_iff : k0_cond12 v0 v3 v6 v9 v12 v15 v18 v21 v24 v27 v30 v33 v36 v39 v42 v45 v48 v51 = 1#1 ↔ 3 < act (mask v0 v3 v6 v9 v12 v15 v18 v21 v24 v27 v30 v33 v36 v39 v42 v45 v48 v51) := first_iff (mask v0 v3 v6 v9 v12 v15 v18 v21 v24 v27 v30 v33 v36 v39 v42 v45 v48 v51) 3 (by decide)
theorem cond13_iff (t : Fin (k0_t1_loop v0 v3 v6 v9 v12 v15 v18 v21 v24 v27 v30 v33 v36 v39 v42 v45 v48 v51).trips) : k0_cond13 v0 v3 v6 v9 v12 v15 v18 v21 v24 v27 v30 v33 v36 v39 v42 v45 v48 v51 t = 1#1 ↔ t.val + 4 < act (mask v0 v3 v6 v9 v12 v15 v18 v21 v24 v27 v30 v33 v36 v39 v42 v45 v48 v51) := next_iff (mask v0 v3 v6 v9 v12 v15 v18 v21 v24 v27 v30 v33 v36 v39 v42 v45 v48 v51) t.val (t1_lt8 t)

theorem off8_eq : k0_off8 = ![0, 0] := by decide
theorem off9_eq : k0_off9 = ![0, 0, 0] := by decide
theorem off11_eq : k0_off11 = ![0, 1] := by decide
theorem off12_eq : k0_off12 = ![0, 1024, 0] := by decide
theorem off14_eq : k0_off14 = ![0, 2] := by decide
theorem off15_eq : k0_off15 = ![0, 2048, 0] := by decide
theorem off17_eq : k0_off17 = ![0, 0] := by decide
theorem off18_eq : k0_off18 = ![0, 0, 0] := by decide
theorem off20_eq : k0_off20 = ![0, 1] := by decide
theorem off21_eq : k0_off21 = ![0, 1024, 0] := by decide
theorem off23_eq : k0_off23 = ![1, 0] := by decide
theorem off24_eq : k0_off24 = ![1, 0, 0] := by decide
theorem off26_eq : k0_off26 = ![1, 1] := by decide
theorem off27_eq : k0_off27 = ![1, 1024, 0] := by decide
theorem off29_eq : k0_off29 = ![1, 2] := by decide
theorem off30_eq : k0_off30 = ![1, 2048, 0] := by decide
theorem off32_eq : k0_off32 = ![1, 0] := by decide
theorem off33_eq : k0_off33 = ![1, 0, 0] := by decide
theorem off35_eq : k0_off35 = ![1, 1] := by decide
theorem off36_eq : k0_off36 = ![1, 1024, 0] := by decide
theorem off38_eq : k0_off38 = ![2, 0] := by decide
theorem off39_eq : k0_off39 = ![2, 0, 0] := by decide
theorem off41_eq : k0_off41 = ![2, 1] := by decide
theorem off42_eq : k0_off42 = ![2, 1024, 0] := by decide
theorem off44_eq : k0_off44 = ![2, 2] := by decide
theorem off45_eq : k0_off45 = ![2, 2048, 0] := by decide
theorem off47_eq : k0_off47 = ![2, 0] := by decide
theorem off48_eq : k0_off48 = ![2, 0, 0] := by decide
theorem off50_eq : k0_off50 = ![2, 1] := by decide
theorem off51_eq : k0_off51 = ![2, 1024, 0] := by decide
theorem off53_eq : k0_off53 = ![3, 0] := by decide
theorem off54_eq : k0_off54 = ![3, 0, 0] := by decide
theorem off56_eq : k0_off56 = ![3, 1] := by decide
theorem off57_eq : k0_off57 = ![3, 1024, 0] := by decide
theorem off59_eq : k0_off59 = ![3, 2] := by decide
theorem off60_eq : k0_off60 = ![3, 2048, 0] := by decide
theorem off62_eq : k0_off62 = ![3, 0] := by decide
theorem off63_eq : k0_off63 = ![3, 0, 0] := by decide
theorem off65_eq : k0_off65 = ![3, 1] := by decide
theorem off66_eq : k0_off66 = ![3, 1024, 0] := by decide
theorem off68_eq (t : Fin (k0_t1_loop v0 v3 v6 v9 v12 v15 v18 v21 v24 v27 v30 v33 v36 v39 v42 v45 v48 v51).trips) : k0_off68 v0 v3 v6 v9 v12 v15 v18 v21 v24 v27 v30 v33 v36 v39 v42 v45 v48 v51 t = ![t.val] :=
  congrArg (fun x => ![x]) (idx_toNat t.val (t1_lt8 t))
theorem off69_eq (t : Fin (k0_t1_loop v0 v3 v6 v9 v12 v15 v18 v21 v24 v27 v30 v33 v36 v39 v42 v45 v48 v51).trips) : k0_off69 v0 v3 v6 v9 v12 v15 v18 v21 v24 v27 v30 v33 v36 v39 v42 v45 v48 v51 t = ![t.val % 4, 0] :=
  congrArg (fun x => ![x, 0]) (slot_toNat t.val (t1_lt8 t))
theorem off70_eq (t : Fin (k0_t1_loop v0 v3 v6 v9 v12 v15 v18 v21 v24 v27 v30 v33 v36 v39 v42 v45 v48 v51).trips) : k0_off70 v0 v3 v6 v9 v12 v15 v18 v21 v24 v27 v30 v33 v36 v39 v42 v45 v48 v51 t = ![t.val % 4, 0, 0] :=
  congrArg (fun x => ![x, 0, 0]) (slot_toNat t.val (t1_lt8 t))
theorem off72_eq (t : Fin (k0_t1_loop v0 v3 v6 v9 v12 v15 v18 v21 v24 v27 v30 v33 v36 v39 v42 v45 v48 v51).trips) : k0_off72 v0 v3 v6 v9 v12 v15 v18 v21 v24 v27 v30 v33 v36 v39 v42 v45 v48 v51 t = ![t.val % 4, 0, 0] :=
  congrArg (fun x => ![x, 0, 0]) (slotIdx_toNat t.val (t1_lt8 t))
theorem off73_eq (t : Fin (k0_t1_loop v0 v3 v6 v9 v12 v15 v18 v21 v24 v27 v30 v33 v36 v39 v42 v45 v48 v51).trips) : k0_off73 v0 v3 v6 v9 v12 v15 v18 v21 v24 v27 v30 v33 v36 v39 v42 v45 v48 v51 t = ![t.val % 4, 1] :=
  congrArg (fun x => ![x, 1]) (slot_toNat t.val (t1_lt8 t))
theorem off74_eq (t : Fin (k0_t1_loop v0 v3 v6 v9 v12 v15 v18 v21 v24 v27 v30 v33 v36 v39 v42 v45 v48 v51).trips) : k0_off74 v0 v3 v6 v9 v12 v15 v18 v21 v24 v27 v30 v33 v36 v39 v42 v45 v48 v51 t = ![t.val % 4, 1024, 0] :=
  congrArg (fun x => ![x, 1024, 0]) (slot_toNat t.val (t1_lt8 t))
theorem off76_eq (t : Fin (k0_t1_loop v0 v3 v6 v9 v12 v15 v18 v21 v24 v27 v30 v33 v36 v39 v42 v45 v48 v51).trips) : k0_off76 v0 v3 v6 v9 v12 v15 v18 v21 v24 v27 v30 v33 v36 v39 v42 v45 v48 v51 t = ![t.val % 4, 1024, 0] :=
  congrArg (fun x => ![x, 1024, 0]) (slotIdx_toNat t.val (t1_lt8 t))
theorem off77_eq (t : Fin (k0_t1_loop v0 v3 v6 v9 v12 v15 v18 v21 v24 v27 v30 v33 v36 v39 v42 v45 v48 v51).trips) : k0_off77 v0 v3 v6 v9 v12 v15 v18 v21 v24 v27 v30 v33 v36 v39 v42 v45 v48 v51 t = ![t.val % 4, 2] :=
  congrArg (fun x => ![x, 2]) (slot_toNat t.val (t1_lt8 t))
theorem off78_eq (t : Fin (k0_t1_loop v0 v3 v6 v9 v12 v15 v18 v21 v24 v27 v30 v33 v36 v39 v42 v45 v48 v51).trips) : k0_off78 v0 v3 v6 v9 v12 v15 v18 v21 v24 v27 v30 v33 v36 v39 v42 v45 v48 v51 t = ![t.val % 4, 2048, 0] :=
  congrArg (fun x => ![x, 2048, 0]) (slot_toNat t.val (t1_lt8 t))
theorem off80_eq (t : Fin (k0_t1_loop v0 v3 v6 v9 v12 v15 v18 v21 v24 v27 v30 v33 v36 v39 v42 v45 v48 v51).trips) : k0_off80 v0 v3 v6 v9 v12 v15 v18 v21 v24 v27 v30 v33 v36 v39 v42 v45 v48 v51 t = ![t.val % 4, 2048, 0] :=
  congrArg (fun x => ![x, 2048, 0]) (slotIdx_toNat t.val (t1_lt8 t))
theorem off82_eq (t : Fin (k0_t1_loop v0 v3 v6 v9 v12 v15 v18 v21 v24 v27 v30 v33 v36 v39 v42 v45 v48 v51).trips) : k0_off82 v0 v3 v6 v9 v12 v15 v18 v21 v24 v27 v30 v33 v36 v39 v42 v45 v48 v51 t = ![t.val] :=
  congrArg (fun x => ![x]) (idx_toNat t.val (t1_lt8 t))
theorem off83_eq (t : Fin (k0_t1_loop v0 v3 v6 v9 v12 v15 v18 v21 v24 v27 v30 v33 v36 v39 v42 v45 v48 v51).trips) : k0_off83 v0 v3 v6 v9 v12 v15 v18 v21 v24 v27 v30 v33 v36 v39 v42 v45 v48 v51 t = ![t.val % 4, 0] :=
  congrArg (fun x => ![x, 0]) (slot_toNat t.val (t1_lt8 t))
theorem off84_eq (t : Fin (k0_t1_loop v0 v3 v6 v9 v12 v15 v18 v21 v24 v27 v30 v33 v36 v39 v42 v45 v48 v51).trips) : k0_off84 v0 v3 v6 v9 v12 v15 v18 v21 v24 v27 v30 v33 v36 v39 v42 v45 v48 v51 t = ![t.val % 4, 0, 0] :=
  congrArg (fun x => ![x, 0, 0]) (slot_toNat t.val (t1_lt8 t))
theorem off86_eq (t : Fin (k0_t1_loop v0 v3 v6 v9 v12 v15 v18 v21 v24 v27 v30 v33 v36 v39 v42 v45 v48 v51).trips) : k0_off86 v0 v3 v6 v9 v12 v15 v18 v21 v24 v27 v30 v33 v36 v39 v42 v45 v48 v51 t = ![t.val % 4, 0, 0] :=
  congrArg (fun x => ![x, 0, 0]) (slotIdx_toNat t.val (t1_lt8 t))
theorem off87_eq (t : Fin (k0_t1_loop v0 v3 v6 v9 v12 v15 v18 v21 v24 v27 v30 v33 v36 v39 v42 v45 v48 v51).trips) : k0_off87 v0 v3 v6 v9 v12 v15 v18 v21 v24 v27 v30 v33 v36 v39 v42 v45 v48 v51 t = ![t.val % 4, 1] :=
  congrArg (fun x => ![x, 1]) (slot_toNat t.val (t1_lt8 t))
theorem off88_eq (t : Fin (k0_t1_loop v0 v3 v6 v9 v12 v15 v18 v21 v24 v27 v30 v33 v36 v39 v42 v45 v48 v51).trips) : k0_off88 v0 v3 v6 v9 v12 v15 v18 v21 v24 v27 v30 v33 v36 v39 v42 v45 v48 v51 t = ![t.val % 4, 1024, 0] :=
  congrArg (fun x => ![x, 1024, 0]) (slot_toNat t.val (t1_lt8 t))
theorem off90_eq (t : Fin (k0_t1_loop v0 v3 v6 v9 v12 v15 v18 v21 v24 v27 v30 v33 v36 v39 v42 v45 v48 v51).trips) : k0_off90 v0 v3 v6 v9 v12 v15 v18 v21 v24 v27 v30 v33 v36 v39 v42 v45 v48 v51 t = ![t.val % 4, 1024, 0] :=
  congrArg (fun x => ![x, 1024, 0]) (slotIdx_toNat t.val (t1_lt8 t))
theorem off91_eq (t : Fin (k0_t1_loop v0 v3 v6 v9 v12 v15 v18 v21 v24 v27 v30 v33 v36 v39 v42 v45 v48 v51).trips) : k0_off91 v0 v3 v6 v9 v12 v15 v18 v21 v24 v27 v30 v33 v36 v39 v42 v45 v48 v51 t = ![t.val + 4] :=
  congrArg (fun x => ![x]) (idx4_toNat t.val (t1_lt8 t))
theorem off92_eq (t : Fin (k0_t1_loop v0 v3 v6 v9 v12 v15 v18 v21 v24 v27 v30 v33 v36 v39 v42 v45 v48 v51).trips) : k0_off92 v0 v3 v6 v9 v12 v15 v18 v21 v24 v27 v30 v33 v36 v39 v42 v45 v48 v51 t = ![t.val % 4, 0] :=
  congrArg (fun x => ![x, 0]) (slot4_toNat t.val (t1_lt8 t))
theorem off93_eq (t : Fin (k0_t1_loop v0 v3 v6 v9 v12 v15 v18 v21 v24 v27 v30 v33 v36 v39 v42 v45 v48 v51).trips) : k0_off93 v0 v3 v6 v9 v12 v15 v18 v21 v24 v27 v30 v33 v36 v39 v42 v45 v48 v51 t = ![t.val % 4, 0, 0] :=
  congrArg (fun x => ![x, 0, 0]) (slot4_toNat t.val (t1_lt8 t))
theorem off95_eq (t : Fin (k0_t1_loop v0 v3 v6 v9 v12 v15 v18 v21 v24 v27 v30 v33 v36 v39 v42 v45 v48 v51).trips) : k0_off95 v0 v3 v6 v9 v12 v15 v18 v21 v24 v27 v30 v33 v36 v39 v42 v45 v48 v51 t = ![t.val % 4, 1] :=
  congrArg (fun x => ![x, 1]) (slot4_toNat t.val (t1_lt8 t))
theorem off96_eq (t : Fin (k0_t1_loop v0 v3 v6 v9 v12 v15 v18 v21 v24 v27 v30 v33 v36 v39 v42 v45 v48 v51).trips) : k0_off96 v0 v3 v6 v9 v12 v15 v18 v21 v24 v27 v30 v33 v36 v39 v42 v45 v48 v51 t = ![t.val % 4, 1024, 0] :=
  congrArg (fun x => ![x, 1024, 0]) (slot4_toNat t.val (t1_lt8 t))
theorem off98_eq (t : Fin (k0_t1_loop v0 v3 v6 v9 v12 v15 v18 v21 v24 v27 v30 v33 v36 v39 v42 v45 v48 v51).trips) : k0_off98 v0 v3 v6 v9 v12 v15 v18 v21 v24 v27 v30 v33 v36 v39 v42 v45 v48 v51 t = ![t.val % 4, 2] :=
  congrArg (fun x => ![x, 2]) (slot4_toNat t.val (t1_lt8 t))
theorem off99_eq (t : Fin (k0_t1_loop v0 v3 v6 v9 v12 v15 v18 v21 v24 v27 v30 v33 v36 v39 v42 v45 v48 v51).trips) : k0_off99 v0 v3 v6 v9 v12 v15 v18 v21 v24 v27 v30 v33 v36 v39 v42 v45 v48 v51 t = ![t.val % 4, 2048, 0] :=
  congrArg (fun x => ![x, 2048, 0]) (slot4_toNat t.val (t1_lt8 t))
theorem off101_eq (t : Fin (k0_t1_loop v0 v3 v6 v9 v12 v15 v18 v21 v24 v27 v30 v33 v36 v39 v42 v45 v48 v51).trips) : k0_off101 v0 v3 v6 v9 v12 v15 v18 v21 v24 v27 v30 v33 v36 v39 v42 v45 v48 v51 t = ![t.val + 4] :=
  congrArg (fun x => ![x]) (idx4_toNat t.val (t1_lt8 t))
theorem off102_eq (t : Fin (k0_t1_loop v0 v3 v6 v9 v12 v15 v18 v21 v24 v27 v30 v33 v36 v39 v42 v45 v48 v51).trips) : k0_off102 v0 v3 v6 v9 v12 v15 v18 v21 v24 v27 v30 v33 v36 v39 v42 v45 v48 v51 t = ![t.val % 4, 0] :=
  congrArg (fun x => ![x, 0]) (slot4_toNat t.val (t1_lt8 t))
theorem off103_eq (t : Fin (k0_t1_loop v0 v3 v6 v9 v12 v15 v18 v21 v24 v27 v30 v33 v36 v39 v42 v45 v48 v51).trips) : k0_off103 v0 v3 v6 v9 v12 v15 v18 v21 v24 v27 v30 v33 v36 v39 v42 v45 v48 v51 t = ![t.val % 4, 0, 0] :=
  congrArg (fun x => ![x, 0, 0]) (slot4_toNat t.val (t1_lt8 t))
theorem off105_eq (t : Fin (k0_t1_loop v0 v3 v6 v9 v12 v15 v18 v21 v24 v27 v30 v33 v36 v39 v42 v45 v48 v51).trips) : k0_off105 v0 v3 v6 v9 v12 v15 v18 v21 v24 v27 v30 v33 v36 v39 v42 v45 v48 v51 t = ![t.val % 4, 1] :=
  congrArg (fun x => ![x, 1]) (slot4_toNat t.val (t1_lt8 t))
theorem off106_eq (t : Fin (k0_t1_loop v0 v3 v6 v9 v12 v15 v18 v21 v24 v27 v30 v33 v36 v39 v42 v45 v48 v51).trips) : k0_off106 v0 v3 v6 v9 v12 v15 v18 v21 v24 v27 v30 v33 v36 v39 v42 v45 v48 v51 t = ![t.val % 4, 1024, 0] :=
  congrArg (fun x => ![x, 1024, 0]) (slot4_toNat t.val (t1_lt8 t))
theorem chk1_0 : k0_chk1_0 v0 v3 v6 v9 v12 v15 v18 v21 v24 v27 v30 v33 v36 v39 v42 v45 v48 v51 :=
  ⟨fun h => by rw [off1_eq]; exact inb1 (lt_of_lt_of_le (num_lt_act _ 1 (by decide) (cond2_iff.mp h)) (act_le _)),
    fun h => by rw [off2_eq]; exact inb1 (lt_of_lt_of_le (num_lt_act _ 2 (by decide) (cond3_iff.mp h)) (act_le _)),
    fun h => by rw [off3_eq]; exact inb1 (lt_of_lt_of_le (num_lt_act _ 3 (by decide) (cond4_iff.mp h)) (act_le _)),
    fun h => by rw [off4_eq]; exact inb1 (lt_of_lt_of_le (num_lt_act _ 4 (by decide) (cond5_iff.mp h)) (act_le _)),
    fun h => by rw [off5_eq]; exact inb1 (lt_of_lt_of_le (num_lt_act _ 5 (by decide) (cond6_iff.mp h)) (act_le _)),
    fun h => by rw [off6_eq]; exact inb1 (lt_of_lt_of_le (num_lt_act _ 6 (by decide) (cond7_iff.mp h)) (act_le _)),
    fun h => by rw [off7_eq]; exact inb1 (lt_of_lt_of_le (num_lt_act _ 7 (by decide) (cond8_iff.mp h)) (act_le _)),
    loop_ok (mask v0 v3 v6 v9 v12 v15 v18 v21 v24 v27 v30 v33 v36 v39 v42 v45 v48 v51),
    fun t => by rw [off68_eq]; exact inb1 (t1_lt8 t),
    fun t => by rw [off69_eq]; exact inb2 (Nat.mod_lt _ (by decide)) (by decide),
    fun t => by rw [off70_eq]; exact inb3 (Nat.mod_lt _ (by decide)) (by decide),
    fun t hinb => words3 hinb (by rw [off70_eq]; exact ⟨0, rfl⟩) (by decide),
    fun t => by rw [off72_eq]; exact inb3 (Nat.mod_lt _ (by decide)) (by decide),
    fun t => by rw [off73_eq]; exact inb2 (Nat.mod_lt _ (by decide)) (by decide),
    fun t => by rw [off74_eq]; exact inb3 (Nat.mod_lt _ (by decide)) (by decide),
    fun t hinb => words3 hinb (by rw [off74_eq]; exact ⟨256, rfl⟩) (by decide),
    fun t => by rw [off76_eq]; exact inb3 (Nat.mod_lt _ (by decide)) (by decide),
    fun t => by rw [off77_eq]; exact inb2 (Nat.mod_lt _ (by decide)) (by decide),
    fun t => by rw [off78_eq]; exact inb3 (Nat.mod_lt _ (by decide)) (by decide),
    fun t hinb => words3 hinb (by rw [off78_eq]; exact ⟨512, rfl⟩) (by decide),
    fun t => by rw [off80_eq]; exact inb3 (Nat.mod_lt _ (by decide)) (by decide),
    fun t => by rw [off82_eq]; exact inb1 (t1_lt8 t),
    fun t => by rw [off83_eq]; exact inb2 (Nat.mod_lt _ (by decide)) (by decide),
    fun t => by rw [off84_eq]; exact inb3 (Nat.mod_lt _ (by decide)) (by decide),
    fun t hinb => words3 hinb (by rw [off84_eq]; exact ⟨0, rfl⟩) (by decide),
    fun t => by rw [off86_eq]; exact inb3 (Nat.mod_lt _ (by decide)) (by decide),
    fun t => by rw [off87_eq]; exact inb2 (Nat.mod_lt _ (by decide)) (by decide),
    fun t => by rw [off88_eq]; exact inb3 (Nat.mod_lt _ (by decide)) (by decide),
    fun t hinb => words3 hinb (by rw [off88_eq]; exact ⟨256, rfl⟩) (by decide),
    fun t => by rw [off90_eq]; exact inb3 (Nat.mod_lt _ (by decide)) (by decide),
    fun t h => by rw [off91_eq]; exact inb1 (lt_of_lt_of_le ((cond13_iff t).mp h) (act_le _)),
    fun t h => by rw [off92_eq]; exact inb2 (Nat.mod_lt _ (by decide)) (by decide)⟩

theorem chk1_1 : k0_chk1_1 v0 v3 v6 v9 v12 v15 v18 v21 v24 v27 v30 v33 v36 v39 v42 v45 v48 v51 :=
  ⟨fun t h => by rw [off93_eq]; exact inb3 (Nat.mod_lt _ (by decide)) (by decide),
    fun t h hinb => words3 hinb (by rw [off93_eq]; exact ⟨0, rfl⟩) (by decide),
    fun t h => by rw [off95_eq]; exact inb2 (Nat.mod_lt _ (by decide)) (by decide),
    fun t h => by rw [off96_eq]; exact inb3 (Nat.mod_lt _ (by decide)) (by decide),
    fun t h hinb => words3 hinb (by rw [off96_eq]; exact ⟨256, rfl⟩) (by decide),
    fun t h => by rw [off98_eq]; exact inb2 (Nat.mod_lt _ (by decide)) (by decide),
    fun t h => by rw [off99_eq]; exact inb3 (Nat.mod_lt _ (by decide)) (by decide),
    fun t h hinb => words3 hinb (by rw [off99_eq]; exact ⟨512, rfl⟩) (by decide),
    fun t h => by rw [off101_eq]; exact inb1 (lt_of_lt_of_le ((cond13_iff t).mp h) (act_le _)),
    fun t h => by rw [off102_eq]; exact inb2 (Nat.mod_lt _ (by decide)) (by decide),
    fun t h => by rw [off103_eq]; exact inb3 (Nat.mod_lt _ (by decide)) (by decide),
    fun t h hinb => words3 hinb (by rw [off103_eq]; exact ⟨0, rfl⟩) (by decide),
    fun t h => by rw [off105_eq]; exact inb2 (Nat.mod_lt _ (by decide)) (by decide),
    fun t h => by rw [off106_eq]; exact inb3 (Nat.mod_lt _ (by decide)) (by decide),
    fun t h hinb => words3 hinb (by rw [off106_eq]; exact ⟨256, rfl⟩) (by decide),
    loop2_ok (mask v0 v3 v6 v9 v12 v15 v18 v21 v24 v27 v30 v33 v36 v39 v42 v45 v48 v51),
    fun t => no2 t,
    fun t => no2 t,
    fun t => no2 t,
    fun t => no2 t,
    fun t => no2 t,
    fun t => no2 t,
    fun t => no2 t,
    fun t => no2 t,
    fun t => no2 t,
    fun t => no2 t,
    fun t => no2 t,
    fun t => no2 t,
    fun t => no2 t,
    fun t => no2 t,
    fun t => no2 t,
    fun t => no2 t⟩

theorem chk1_2 : k0_chk1_2 v0 v3 v6 v9 v12 v15 v18 v21 v24 v27 v30 v33 v36 v39 v42 v45 v48 v51 :=
  ⟨fun t => no2 t,
    fun t => no2 t,
    fun t => no2 t,
    fun t => no2 t,
    fun t => no2 t,
    fun t => no2 t,
    fun t => no2 t,
    fun t => no2 t,
    fun t => no2 t,
    fun t => no2 t,
    fun t => no2 t,
    fun t => no2 t,
    fun t => no2 t,
    fun t => no2 t,
    fun t => no2 t,
    fun t => no2 t,
    fun t => no2 t,
    fun t => no2 t,
    fun t => no2 t,
    fun t => no2 t,
    fun t => no2 t,
    fun t => no2 t,
    fun t => no2 t⟩

/-- The kernel's check of its offsets holds for all ids. -/
theorem chk1 : k0_chk1 v0 v3 v6 v9 v12 v15 v18 v21 v24 v27 v30 v33 v36 v39 v42 v45 v48 v51 := ⟨chk1_0, chk1_1, chk1_2⟩

theorem inbs {v : BitVec 32} (hv : v.toNat < 8) :
    ∀ a : Fin 2, (![(Scalar.indexCast v).toNat, 0] : Fin 2 → ℕ) a + (![1, 2816] : Fin 2 → ℕ) a ≤ (![8, 2816] : Fin 2 → ℕ) a := by
  intro a
  fin_cases a
  · show v.toNat + 1 ≤ 8; omega
  · show 0 + 2816 ≤ 2816; omega

theorem chk2 {v : BitVec 32} (hv : v.toNat < 8) : k0_chk2 v0 v3 v6 v9 v12 v15 v18 v21 v24 v27 v30 v33 v36 v39 v42 v45 v48 v51 v :=
  ⟨fun h => inb3 hv (by decide),
    fun h hinb => words3 hinb ⟨0, rfl⟩ (by decide),
    fun h => inb3 hv (by decide),
    fun h hinb => words3 hinb ⟨256, rfl⟩ (by decide),
    fun h => inb3 hv (by decide),
    fun h hinb => words3 hinb ⟨512, rfl⟩ (by decide)⟩

theorem chk3 {v : BitVec 32} (hv : v.toNat < 8) : k0_chk3 v0 v3 v6 v9 v12 v15 v18 v21 v24 v27 v30 v33 v36 v39 v42 v45 v48 v51 v :=
  ⟨fun h => inb3 hv (by decide),
    fun h hinb => words3 hinb ⟨0, rfl⟩ (by decide),
    fun h => inb3 hv (by decide),
    fun h hinb => words3 hinb ⟨256, rfl⟩ (by decide)⟩

theorem chk4 {v : BitVec 32} (hv : v.toNat < 8) : k0_chk4 v0 v3 v6 v9 v12 v15 v18 v21 v24 v27 v30 v33 v36 v39 v42 v45 v48 v51 v :=
  ⟨fun h => inb3 hv (by decide),
    fun h hinb => words3 hinb ⟨0, rfl⟩ (by decide),
    fun h => inb3 hv (by decide),
    fun h hinb => words3 hinb ⟨256, rfl⟩ (by decide),
    fun h => inb3 hv (by decide),
    fun h hinb => words3 hinb ⟨512, rfl⟩ (by decide)⟩

theorem chk5 {v : BitVec 32} (hv : v.toNat < 8) : k0_chk5 v0 v3 v6 v9 v12 v15 v18 v21 v24 v27 v30 v33 v36 v39 v42 v45 v48 v51 v :=
  ⟨fun h => inb3 hv (by decide),
    fun h hinb => words3 hinb ⟨0, rfl⟩ (by decide),
    fun h => inb3 hv (by decide),
    fun h hinb => words3 hinb ⟨256, rfl⟩ (by decide)⟩

theorem chk6 {v : BitVec 32} (hv : v.toNat < 8) : k0_chk6 v0 v3 v6 v9 v12 v15 v18 v21 v24 v27 v30 v33 v36 v39 v42 v45 v48 v51 v :=
  ⟨fun h => inb3 hv (by decide),
    fun h hinb => words3 hinb ⟨0, rfl⟩ (by decide),
    fun h => inb3 hv (by decide),
    fun h hinb => words3 hinb ⟨256, rfl⟩ (by decide),
    fun h => inb3 hv (by decide),
    fun h hinb => words3 hinb ⟨512, rfl⟩ (by decide)⟩

theorem chk7 {v : BitVec 32} (hv : v.toNat < 8) : k0_chk7 v0 v3 v6 v9 v12 v15 v18 v21 v24 v27 v30 v33 v36 v39 v42 v45 v48 v51 v :=
  ⟨fun h => inb3 hv (by decide),
    fun h hinb => words3 hinb ⟨0, rfl⟩ (by decide),
    fun h => inb3 hv (by decide),
    fun h hinb => words3 hinb ⟨256, rfl⟩ (by decide)⟩

theorem chk8 {v : BitVec 32} (hv : v.toNat < 8) : k0_chk8 v0 v3 v6 v9 v12 v15 v18 v21 v24 v27 v30 v33 v36 v39 v42 v45 v48 v51 v :=
  ⟨fun h => inb3 hv (by decide),
    fun h hinb => words3 hinb ⟨0, rfl⟩ (by decide),
    fun h => inb3 hv (by decide),
    fun h hinb => words3 hinb ⟨256, rfl⟩ (by decide),
    fun h => inb3 hv (by decide),
    fun h hinb => words3 hinb ⟨512, rfl⟩ (by decide)⟩

theorem chk9 {v : BitVec 32} (hv : v.toNat < 8) : k0_chk9 v0 v3 v6 v9 v12 v15 v18 v21 v24 v27 v30 v33 v36 v39 v42 v45 v48 v51 v :=
  ⟨fun h => inb3 hv (by decide),
    fun h hinb => words3 hinb ⟨0, rfl⟩ (by decide),
    fun h => inb3 hv (by decide),
    fun h hinb => words3 hinb ⟨256, rfl⟩ (by decide)⟩

theorem chk10 {v : BitVec 32} (hv : v.toNat < 8) : k0_chk10  v :=
  ⟨inb3 hv (by decide),
    fun hinb => words3 hinb ⟨0, rfl⟩ (by decide),
    inb3 hv (by decide),
    fun hinb => words3 hinb ⟨256, rfl⟩ (by decide),
    inb3 hv (by decide),
    fun hinb => words3 hinb ⟨512, rfl⟩ (by decide)⟩

theorem chk11 {v : BitVec 32} (hv : v.toNat < 8) : k0_chk11  v :=
  ⟨inbs hv,
    inbs hv⟩

theorem chk12 {v : BitVec 32} (hv : v.toNat < 8) : k0_chk12  v :=
  ⟨inb3 hv (by decide),
    fun hinb => words3 hinb ⟨0, rfl⟩ (by decide),
    inb3 hv (by decide),
    fun hinb => words3 hinb ⟨256, rfl⟩ (by decide)⟩

theorem chk13 {t : Fin (k0_t1_loop v0 v3 v6 v9 v12 v15 v18 v21 v24 v27 v30 v33 v36 v39 v42 v45 v48 v51).trips} {v : BitVec 32} (hv : v.toNat < 8) : k0_chk13 v0 v3 v6 v9 v12 v15 v18 v21 v24 v27 v30 v33 v36 v39 v42 v45 v48 v51 t v :=
  ⟨fun h => inb3 hv (by decide),
    fun h hinb => words3 hinb ⟨0, rfl⟩ (by decide),
    fun h => inb3 hv (by decide),
    fun h hinb => words3 hinb ⟨256, rfl⟩ (by decide),
    fun h => inb3 hv (by decide),
    fun h hinb => words3 hinb ⟨512, rfl⟩ (by decide)⟩

theorem chk14 {t : Fin (k0_t1_loop v0 v3 v6 v9 v12 v15 v18 v21 v24 v27 v30 v33 v36 v39 v42 v45 v48 v51).trips} {v : BitVec 32} (hv : v.toNat < 8) : k0_chk14 v0 v3 v6 v9 v12 v15 v18 v21 v24 v27 v30 v33 v36 v39 v42 v45 v48 v51 t v :=
  ⟨fun h => inb3 hv (by decide),
    fun h hinb => words3 hinb ⟨0, rfl⟩ (by decide),
    fun h => inb3 hv (by decide),
    fun h hinb => words3 hinb ⟨256, rfl⟩ (by decide)⟩

end Cert.KernelIdeal

end
-- ==== Proof.IdealState.lean ====
/-
  What is held between two trips of the loop over the active experts, and what a trip computes.
-/
module

public import proofs.«01_k».proof.Proof.Gen.KernelIdeal.Skeleton
public import proofs.«01_k».proof.Proof.IdealOffs
public import proofs.«01_k».proof.Proof.Slots
public import proofs.«01_k».proof.Proof.Cells

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MoeWords Cert.MoeRing

variable {F : FTy → Type} [FloatOps F]

local notation "𝕄" => MT nD τ sig Unit (Elt F) ℕ (Pipeline.UD sig nD τ) ℕ

variable (c : Dev nD)

/-- The word at position `k` of the table of active experts. -/
abbrev ew (m : BitVec 32) (k : ℕ) : BitVec 32 := BitVec.ofNat 32 (ord m k)

theorem ew_toNat (m : BitVec 32) (k : ℕ) : (ew m k).toNat = ord m k := by
  have := ord_lt m k
  rw [BitVec.toNat_ofNat, Nat.mod_eq_of_lt (by omega)]

/-- The table holds the active experts below `e`, each at its position. -/
def Tab (m : BitVec 32) (e : ℕ) (T : S8.Idx → BitVec 32) : Prop :=
  ∀ e', e' < e → bit m e' = 1#32 → ∀ i : S8.Idx, (i 0).val = num m e' → T i = BitVec.ofNat 32 e'

theorem Tab.at_ {m : BitVec 32} {T : S8.Idx → BitVec 32} (h : Tab m 8 T) {k : ℕ} (hk : k < act m) (i : S8.Idx) (hi : (i 0).val = k) :
    T i = ew m k := by
  obtain ⟨e, he, hb, hn⟩ := exists_expert m k hk
  rw [h e he hb i (by rw [hi, hn]), ew, ← hn, ord_num m e he hb]

/-- The table in its buffer. -/
def Table (arg12 : Memref sig .tc .smem S8 .i32) (m : BitVec 32) (e : ℕ) : sProp 𝕄 :=
  iprop(∃ T : S8.Idx → BitVec 32, ⌜Tab m e T⌝ ∗ Holds (Val := Elt F) (c : Thread nD τ) arg12 T)

section Groups

variable (arg5 : Memref sig .tc .hbm S8x2816x2816 .i8) (arg6 : Memref sig .tc .hbm S8x1408x2816 .i8)
  (arg8 : Memref sig .tc .vmem S4x2816x2816 .i8) (arg9 : Memref sig .tc .vmem S4x1408x2816 .i8)
  (arg13 : DmaSems sig S4x3) (arg14 : DmaSems sig S4x2)
  (q5 : Fin 12 → PosShare TreeShare) (q6 : Fin 8 → PosShare TreeShare)
  (f5 : Buf (Elt F) (arg5.view.loc (c : Thread nD τ))) (f6 : Buf (Elt F) (arg6.view.loc (c : Thread nD τ)))

/-- The cell of slot `x` and group `g` of the first ring. -/
abbrev cell13 (x g : ℕ) (hx : x < 4) (hg : g < 3) : DmaSem sig :=
  ((arg13.slice (Rect.unit (s := S4x3) ![x, g] S1x1.size (inb2 hx hg))).squeeze S_ squeezes_S1x1_S_).sem

/-- The cell of slot `x` and group `g` of the second ring. -/
abbrev cell14 (x g : ℕ) (hx : x < 4) (hg : g < 2) : DmaSem sig :=
  ((arg14.slice (Rect.unit (s := S4x2) ![x, g] S1x1.size (inb2 hx hg))).squeeze S_ squeezes_S1x1_S_).sem

theorem cell13_eq {off : Fin 2 → ℕ} {h : ∀ a, off a + S1x1.size a ≤ S4x3.size a} {x g : ℕ} (hx : x < 4) (hg : g < 3) (ho : off = ![x, g]) :
    ((arg13.slice (Rect.unit (s := S4x3) off S1x1.size h)).squeeze S_ squeezes_S1x1_S_).sem = cell13 arg13 x g hx hg := by
  subst ho; rfl

theorem cell14_eq {off : Fin 2 → ℕ} {h : ∀ a, off a + S1x1.size a ≤ S4x2.size a} {x g : ℕ} (hx : x < 4) (hg : g < 2) (ho : off = ![x, g]) :
    ((arg14.slice (Rect.unit (s := S4x2) off S1x1.size h)).squeeze S_ squeezes_S1x1_S_).sem = cell14 arg14 x g hx hg := by
  subst ho; rfl

/-- Rows 0 to 1024 of a slot of the first ring. -/
abbrev gA (x : ℕ) (hx : x < 4) : Grp nD τ sig (Elt F) (c : Thread nD τ) where
  S := 4
  R := 2816
  cs := .vmem
  sp := .hbm
  A := arg8
  H := arg5
  x := x
  hx := hx
  r := 0
  n := 1024
  hr := by decide
  hsq := squeezes_S1x1024x2816_S1024x2816
  hn := by decide
  sm := cell13 arg13 x 0 hx (by decide)
  q := q5 ⟨3 * x, by omega⟩
  fh := f5

/-- Rows 1024 to 2048 of a slot of the first ring. -/
abbrev gB (x : ℕ) (hx : x < 4) : Grp nD τ sig (Elt F) (c : Thread nD τ) where
  S := 4
  R := 2816
  cs := .vmem
  sp := .hbm
  A := arg8
  H := arg5
  x := x
  hx := hx
  r := 1024
  n := 1024
  hr := by decide
  hsq := squeezes_S1x1024x2816_S1024x2816
  hn := by decide
  sm := cell13 arg13 x 1 hx (by decide)
  q := q5 ⟨3 * x + 1, by omega⟩
  fh := f5

/-- Rows 2048 to 2816 of a slot of the first ring. -/
abbrev gC (x : ℕ) (hx : x < 4) : Grp nD τ sig (Elt F) (c : Thread nD τ) where
  S := 4
  R := 2816
  cs := .vmem
  sp := .hbm
  A := arg8
  H := arg5
  x := x
  hx := hx
  r := 2048
  n := 768
  hr := by decide
  hsq := squeezes_S1x768x2816_S768x2816
  hn := by decide
  sm := cell13 arg13 x 2 hx (by decide)
  q := q5 ⟨3 * x + 2, by omega⟩
  fh := f5

/-- Rows 0 to 1024 of a slot of the second ring. -/
abbrev gD (x : ℕ) (hx : x < 4) : Grp nD τ sig (Elt F) (c : Thread nD τ) where
  S := 4
  R := 1408
  cs := .vmem
  sp := .hbm
  A := arg9
  H := arg6
  x := x
  hx := hx
  r := 0
  n := 1024
  hr := by decide
  hsq := squeezes_S1x1024x2816_S1024x2816
  hn := by decide
  sm := cell14 arg14 x 0 hx (by decide)
  q := q6 ⟨2 * x, by omega⟩
  fh := f6

/-- Rows 1024 to 1408 of a slot of the second ring. -/
abbrev gE (x : ℕ) (hx : x < 4) : Grp nD τ sig (Elt F) (c : Thread nD τ) where
  S := 4
  R := 1408
  cs := .vmem
  sp := .hbm
  A := arg9
  H := arg6
  x := x
  hx := hx
  r := 1024
  n := 384
  hr := by decide
  hsq := squeezes_S1x384x2816_S384x2816
  hn := by decide
  sm := cell14 arg14 x 1 hx (by decide)
  q := q6 ⟨2 * x + 1, by omega⟩
  fh := f6

end Groups

theorem emb_word {j : ℕ} (h : ∀ a, (![j] : Fin 1 → ℕ) a + S1.size a ≤ S8.size a) (x : S1.Idx) :
    ((Rect.unit (s := S8) ![j] S1.size h).emb x 0).val = j := by
  have h0 : (x 0).val = 0 := by
    have : (x 0).val < 1 := (x 0).isLt
    omega
  rw [Rect.emb_apply, h0]
  rfl

/-- A load of the word at position `j` of the table. -/
theorem wp_tab {α : Type} {Q : α → sProp 𝕄} {arg12 : Memref sig .tc .smem S8 .i32} {m : BitVec 32} {j : ℕ} (hj : j < act m)
    {off : Fin 1 → ℕ} {h : ∀ a, off a + S1.size a ≤ S8.size a} {hl : arg12.view.LoadsAt (Rect.unit (s := S8) off S1.size h).toLoadRect}
    {k : (S1.Idx → Elt F .i32) → Prog (TpuEff nD τ sig (Elt F) Λ₀ .tc) α} (hoff : off = ![j]) :
    (Table (F := F) c arg12 m 8) ⊢ iprop((Table (F := F) c arg12 m 8 -∗ wp frame (wpE (defs₀ (F := F)) Variants.none (c : Thread nD τ) none) Set.univ (k (fun _ => ew m j)) Q)
      -∗ wp frame (wpE (defs₀ (F := F)) Variants.none (c : Thread nD τ) none) Set.univ (.op (.load arg12 (Rect.unit (s := S8) off S1.size h).toLoadRect hl) k) Q) := by
  subst hoff
  unfold Table
  iintro ⟨%T, %hT, HT⟩ Hk
  iapply (wp_loadH Variants.none (c : Thread nD τ) none (X := T)) $$ HT
  iintro HT
  rw [show (fun x : (Rect.unit (s := S8) ![j] S1.size h).shape.Idx => T ((Rect.unit (s := S8) ![j] S1.size h).emb x)) = fun _ => ew m j from funext fun x => hT.at_ hj _ (emb_word _ x)]
  iapply Hk
  iexists T
  isplitr
  · ipureintro; exact hT
  iexact HT

theorem inbRow {e : ℕ} (he : e < 8) : ∀ a : Fin 2, (![e, 0] : Fin 2 → ℕ) a + S1x2816.size a ≤ S8x2816.size a
  | ⟨0, _⟩ => by show e + 1 ≤ 8; omega
  | ⟨1, _⟩ => by show 0 + 2816 ≤ 2816; omega

/-- An expert's row of a scale array. -/
def expRow (X : S8x2816.Idx → Elt F .f32) (e : ℕ) (he : e < 8) : S1x2816.Idx → Elt F .f32 :=
  fun i => X ((Rect.unit (s := S8x2816) ![e, 0] S1x2816.size (inbRow he)).emb i)

theorem expRow_eq (X : S8x2816.Idx → Elt F .f32) {e : ℕ} (he : e < 8) {off : Fin 2 → ℕ} (h : ∀ a, off a + S1x2816.size a ≤ S8x2816.size a) (ho : off = ![e, 0]) :
    (fun i => X ((Rect.unit (s := S8x2816) off S1x2816.size h).emb i)) = expRow X e he := by
  subst ho; rfl

/-- A load of an expert's row. -/
theorem wp_rowH {α : Type} {Q : α → sProp 𝕄} {m : Memref sig .tc .vmem S8x2816 .f32} {X : S8x2816.Idx → Elt F .f32} {e : ℕ} (he : e < 8)
    {off : Fin 2 → ℕ} {h : ∀ a, off a + S1x2816.size a ≤ S8x2816.size a} {hl : m.view.LoadsAt (Rect.unit (s := S8x2816) off S1x2816.size h).toLoadRect}
    {k : (S1x2816.Idx → Elt F .f32) → Prog (TpuEff nD τ sig (Elt F) Λ₀ .tc) α} (hoff : off = ![e, 0]) :
    Holds (Val := Elt F) (c : Thread nD τ) m X ⊢ iprop((Holds (Val := Elt F) (c : Thread nD τ) m X -∗ wp frame (wpE (defs₀ (F := F)) Variants.none (c : Thread nD τ) none) Set.univ (k (expRow X e he)) Q)
      -∗ wp frame (wpE (defs₀ (F := F)) Variants.none (c : Thread nD τ) none) Set.univ (.op (.load m (Rect.unit (s := S8x2816) off S1x2816.size h).toLoadRect hl) k) Q) := by
  subst hoff
  iintro HX Hk
  iapply (wp_loadH Variants.none (c : Thread nD τ) none (X := X)) $$ HX
  iintro HX
  iapply Hk
  iexact HX

end Cert.KernelIdeal.Hand

end
-- ==== Proof.IdealLoads.lean ====
/-
  The first half of a trip: the waits for the expert's rows and the loads of them.
-/
module

public import proofs.«01_k».proof.Proof.IdealState

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MoeWords Cert.MoeRing

variable {F : FTy → Type} [FloatOps F]

local notation "𝕄" => MT nD τ sig Unit (Elt F) ℕ (Pipeline.UD sig nD τ) ℕ

variable (arg0 : Memref sig .tc .smem S9x2 .i32) (harg0 : arg0.IsWhole) (arg1 : Memref sig .tc .smem S9x2 .f32) (harg1 : arg1.IsWhole) (arg2 : Memref sig .tc .vmem S9x2816 .bf16) (harg2 : arg2.IsWhole) (arg3 : Memref sig .tc .vmem S8x2816 .f32) (harg3 : arg3.IsWhole) (arg4 : Memref sig .tc .vmem S8x2816 .f32) (harg4 : arg4.IsWhole) (arg5 : Memref sig .tc .hbm S8x2816x2816 .i8) (harg5 : arg5.IsWhole) (arg6 : Memref sig .tc .hbm S8x1408x2816 .i8) (harg6 : arg6.IsWhole) (arg7 : Memref sig .tc .vmem S9x2816 .bf16) (harg7 : arg7.IsWhole) (arg8 : Memref sig .tc .vmem S4x2816x2816 .i8) (harg8 : arg8.IsWhole) (arg9 : Memref sig .tc .vmem S4x1408x2816 .i8) (harg9 : arg9.IsWhole) (arg10 : Memref sig .tc .vmem S16x2816 .bf16) (harg10 : arg10.IsWhole) (arg11 : Memref sig .tc .vmem S16x2816 .f32) (harg11 : arg11.IsWhole) (arg12 : Memref sig .tc .smem S8 .i32) (harg12 : arg12.IsWhole) (arg13 : DmaSems sig S4x3) (arg14 : DmaSems sig S4x2)
variable (v0 v3 v6 v9 v12 v15 v18 v21 v24 v27 v30 v33 v36 v39 v42 v45 v48 v51 : BitVec 32)
variable (c : Dev nD)
  (q5 : Fin 12 → PosShare TreeShare) (q6 : Fin 8 → PosShare TreeShare)
  (f5 : Buf (Elt F) (arg5.view.loc (c : Thread nD τ))) (f6 : Buf (Elt F) (arg6.view.loc (c : Thread nD τ)))

/-- The first two groups of rows. -/
theorem part6 {α : Type} {Q : α → sProp 𝕄} (hw1 : k0_chk1 v0 v3 v6 v9 v12 v15 v18 v21 v24 v27 v30 v33 v36 v39 v42 v45 v48 v51) (t : Fin (k0_t1_loop v0 v3 v6 v9 v12 v15 v18 v21 v24 v27 v30 v33 v36 v39 v42 v45 v48 v51).trips) (c0 c1 : BitVec 32)
    (XB : S16x2816.Idx → Elt F .bf16) (k : ℕ) (hk : k = t.val) (hka : k < act (mask v0 v3 v6 v9 v12 v15 v18 v21 v24 v27 v30 v33 v36 v39 v42 v45 v48 v51)) (hx : k % 4 < 4)
    {kk : (Σ' (arg15 : BitVec 32) (v321 : Elt F .i32) (k0_hw11 : k0_chk11 v321) (v322 : BitVec 32) (v324 : Elt F .i32) (k0_hw10 : k0_chk10 v324), FVec F S16x2816 .f32) → Prog (TpuEff nD τ sig (Elt F) Λ₀ .tc) α} :
    iprop(Table (F := F) c arg12 (mask v0 v3 v6 v9 v12 v15 v18 v21 v24 v27 v30 v33 v36 v39 v42 v45 v48 v51) 8 ∗ Holds (Val := Elt F) (c : Thread nD τ) arg10 XB
        ∗ (gA c arg5 arg8 arg13 q5 f5 (k % 4) hx).Fly (mask v0 v3 v6 v9 v12 v15 v18 v21 v24 v27 v30 v33 v36 v39 v42 v45 v48 v51) k ∗ (gB c arg5 arg8 arg13 q5 f5 (k % 4) hx).Fly (mask v0 v3 v6 v9 v12 v15 v18 v21 v24 v27 v30 v33 v36 v39 v42 v45 v48 v51) k
        ∗ (∃ W, owes (c : Thread nD τ) 0 W))
      ⊢ iprop((iprop(Table (F := F) c arg12 (mask v0 v3 v6 v9 v12 v15 v18 v21 v24 v27 v30 v33 v36 v39 v42 v45 v48 v51) 8 ∗ Holds (Val := Elt F) (c : Thread nD τ) arg10 XB
        ∗ (gA c arg5 arg8 arg13 q5 f5 (k % 4) hx).Ready (mask v0 v3 v6 v9 v12 v15 v18 v21 v24 v27 v30 v33 v36 v39 v42 v45 v48 v51) k ∗ (gB c arg5 arg8 arg13 q5 f5 (k % 4) hx).Ready (mask v0 v3 v6 v9 v12 v15 v18 v21 v24 v27 v30 v33 v36 v39 v42 v45 v48 v51) k
        ∗ (∃ W, owes (c : Thread nD τ) 0 W)) -∗
          wp frame (wpE (defs₀ (F := F)) Variants.none (c : Thread nD τ) none) Set.univ (kk ⟨Scf.iv c0 c1 t, ew (mask v0 v3 v6 v9 v12 v15 v18 v21 v24 v27 v30 v33 v36 v39 v42 v45 v48 v51) k, chk11 (lt_of_eq_of_lt (ew_toNat _ _) (ord_lt _ _)), Scalar.remsi (Scf.iv c0 c1 t) 4#32, ew (mask v0 v3 v6 v9 v12 v15 v18 v21 v24 v27 v30 v33 v36 v39 v42 v45 v48 v51) k, chk10 (lt_of_eq_of_lt (ew_toNat _ _) (ord_lt _ _)),
            k0_pay7 (fun i => XB ((Rect.unit (s := S16x2816) ![0, 0] S16x1024.size inb_S16x2816_S16x1024_0_0).emb i)) ((gA c arg5 arg8 arg13 q5 f5 (k % 4) hx).rows (mask v0 v3 v6 v9 v12 v15 v18 v21 v24 v27 v30 v33 v36 v39 v42 v45 v48 v51) k)
              (fun i => XB ((Rect.unit (s := S16x2816) ![0, 1024] S16x1024.size inb_S16x2816_S16x1024_0_1024).emb i)) ((gB c arg5 arg8 arg13 q5 f5 (k % 4) hx).rows (mask v0 v3 v6 v9 v12 v15 v18 v21 v24 v27 v30 v33 v36 v39 v42 v45 v48 v51) k)⟩) Q)
        -∗ wp frame (wpE (defs₀ (F := F)) Variants.none (c : Thread nD τ) none) Set.univ (k0_part6 arg0 harg0 arg1 harg1 arg2 harg2 arg3 harg3 arg4 harg4 arg5 harg5 arg6 harg6 arg7 harg7 arg8 harg8 arg9 harg9 arg10 harg10 arg11 harg11 arg12 harg12 arg13 arg14 v0 v3 v6 v9 v12 v15 v18 v21 v24 v27 v30 v33 v36 v39 v42 v45 v48 v51 hw1 c0 c1 t >>= kk) Q) := by
  rw [k0_part6_eq_skeleton]
  unfold k0_part6_skel
  subst hk
  iintro ⟨HT, HX, HA, HB, HW⟩ Hk
  iapply (wp_tab c hka (off68_eq t)) $$ HT
  iintro HT
  iapply (wp_assume Variants.none (c : Thread nD τ) none Set.univ (chk11 (lt_of_eq_of_lt (ew_toNat _ _) (ord_lt _ _))))
  iapply (wp_tab c hka (off68_eq t)) $$ HT
  iintro HT
  iapply (wp_assume Variants.none (c : Thread nD τ) none Set.univ (chk10 (lt_of_eq_of_lt (ew_toNat _ _) (ord_lt _ _))))
  iapply (wait Variants.none none (gA c arg5 arg8 arg13 q5 f5 (t.val % 4) hx) (mask v0 v3 v6 v9 v12 v15 v18 v21 v24 v27 v30 v33 v36 v39 v42 v45 v48 v51) t.val (off70_eq t) (cell13_eq arg13 hx (by decide) (off69_eq t))) $$ [HA HW]
  · isplitl [HA]; · iexact HA
    iexact HW
  iintro ⟨HA, HW⟩
  iapply (wp_loadH Variants.none (c : Thread nD τ) none) $$ HX
  iintro HX
  iapply (read Variants.none none (gA c arg5 arg8 arg13 q5 f5 (t.val % 4) hx) (mask v0 v3 v6 v9 v12 v15 v18 v21 v24 v27 v30 v33 v36 v39 v42 v45 v48 v51) t.val (off72_eq t)) $$ HA
  iintro HA
  iapply (wait Variants.none none (gB c arg5 arg8 arg13 q5 f5 (t.val % 4) hx) (mask v0 v3 v6 v9 v12 v15 v18 v21 v24 v27 v30 v33 v36 v39 v42 v45 v48 v51) t.val (off74_eq t) (cell13_eq arg13 hx (by decide) (off73_eq t))) $$ [HB HW]
  · isplitl [HB]; · iexact HB
    iexact HW
  iintro ⟨HB, HW⟩
  iapply (wp_loadH Variants.none (c : Thread nD τ) none) $$ HX
  iintro HX
  iapply (read Variants.none none (gB c arg5 arg8 arg13 q5 f5 (t.val % 4) hx) (mask v0 v3 v6 v9 v12 v15 v18 v21 v24 v27 v30 v33 v36 v39 v42 v45 v48 v51) t.val (off76_eq t)) $$ HB
  iintro HB
  iapply Hk
  isplitl [HT]; · iexact HT
  isplitl [HX]; · iexact HX
  isplitl [HA]; · iexact HA
  isplitl [HB]; · iexact HB
  iexact HW

/-- The third group, the scales, and the first group of the second array. -/
theorem part7 {α : Type} {Q : α → sProp 𝕄} (hw1 : k0_chk1 v0 v3 v6 v9 v12 v15 v18 v21 v24 v27 v30 v33 v36 v39 v42 v45 v48 v51) (t : Fin (k0_t1_loop v0 v3 v6 v9 v12 v15 v18 v21 v24 v27 v30 v33 v36 v39 v42 v45 v48 v51).trips) (k : ℕ) (arg15 : BitVec 32) (h11 : k0_chk11 (ew (mask v0 v3 v6 v9 v12 v15 v18 v21 v24 v27 v30 v33 v36 v39 v42 v45 v48 v51) k)) (v322 : BitVec 32) (h10 : k0_chk10 (ew (mask v0 v3 v6 v9 v12 v15 v18 v21 v24 v27 v30 v33 v36 v39 v42 v45 v48 v51) k)) (v350 : FVec F S16x2816 .f32)
    (XB : S16x2816.Idx → Elt F .bf16) (S13 : S8x2816.Idx → Elt F .f32) (hk : k = t.val) (hka : k < act (mask v0 v3 v6 v9 v12 v15 v18 v21 v24 v27 v30 v33 v36 v39 v42 v45 v48 v51)) (hx : k % 4 < 4)
    {kk : (Σ' (v373 : FVec F S16x1408 .bf16) (v375 : Elt F .i32) (k0_hw12 : k0_chk12 v375), FVec F S16x2816 .f32) → Prog (TpuEff nD τ sig (Elt F) Λ₀ .tc) α} :
    iprop(Table (F := F) c arg12 (mask v0 v3 v6 v9 v12 v15 v18 v21 v24 v27 v30 v33 v36 v39 v42 v45 v48 v51) 8
        ∗ Holds (Val := Elt F) (c : Thread nD τ) arg10 XB
        ∗ Holds (Val := Elt F) (c : Thread nD τ) arg3 S13
        ∗ (gC c arg5 arg8 arg13 q5 f5 (k % 4) hx).Fly (mask v0 v3 v6 v9 v12 v15 v18 v21 v24 v27 v30 v33 v36 v39 v42 v45 v48 v51) k
        ∗ (gD c arg6 arg9 arg14 q6 f6 (k % 4) hx).Fly (mask v0 v3 v6 v9 v12 v15 v18 v21 v24 v27 v30 v33 v36 v39 v42 v45 v48 v51) k
        ∗ (∃ W, owes (c : Thread nD τ) 0 W))
      ⊢ iprop((iprop(Table (F := F) c arg12 (mask v0 v3 v6 v9 v12 v15 v18 v21 v24 v27 v30 v33 v36 v39 v42 v45 v48 v51) 8
        ∗ Holds (Val := Elt F) (c : Thread nD τ) arg10 XB
        ∗ Holds (Val := Elt F) (c : Thread nD τ) arg3 S13
        ∗ (gC c arg5 arg8 arg13 q5 f5 (k % 4) hx).Ready (mask v0 v3 v6 v9 v12 v15 v18 v21 v24 v27 v30 v33 v36 v39 v42 v45 v48 v51) k
        ∗ (gD c arg6 arg9 arg14 q6 f6 (k % 4) hx).Ready (mask v0 v3 v6 v9 v12 v15 v18 v21 v24 v27 v30 v33 v36 v39 v42 v45 v48 v51) k
        ∗ (∃ W, owes (c : Thread nD τ) 0 W)) -∗
          wp frame (wpE (defs₀ (F := F)) Variants.none (c : Thread nD τ) none) Set.univ (kk ⟨k0_pay8 v350 (fun i => XB ((Rect.unit (s := S16x2816) ![0, 2048] S16x768.size inb_S16x2816_S16x768_0_2048).emb i)) ((gC c arg5 arg8 arg13 q5 f5 (k % 4) hx).rows (mask v0 v3 v6 v9 v12 v15 v18 v21 v24 v27 v30 v33 v36 v39 v42 v45 v48 v51) k) (expRow S13 (ord (mask v0 v3 v6 v9 v12 v15 v18 v21 v24 v27 v30 v33 v36 v39 v42 v45 v48 v51) k) (ord_lt (mask v0 v3 v6 v9 v12 v15 v18 v21 v24 v27 v30 v33 v36 v39 v42 v45 v48 v51) k)), ew (mask v0 v3 v6 v9 v12 v15 v18 v21 v24 v27 v30 v33 v36 v39 v42 v45 v48 v51) k, chk12 (lt_of_eq_of_lt (ew_toNat _ _) (ord_lt _ _)), k0_pay9 v350 (fun i => XB ((Rect.unit (s := S16x2816) ![0, 2048] S16x768.size inb_S16x2816_S16x768_0_2048).emb i)) ((gC c arg5 arg8 arg13 q5 f5 (k % 4) hx).rows (mask v0 v3 v6 v9 v12 v15 v18 v21 v24 v27 v30 v33 v36 v39 v42 v45 v48 v51) k) (expRow S13 (ord (mask v0 v3 v6 v9 v12 v15 v18 v21 v24 v27 v30 v33 v36 v39 v42 v45 v48 v51) k) (ord_lt (mask v0 v3 v6 v9 v12 v15 v18 v21 v24 v27 v30 v33 v36 v39 v42 v45 v48 v51) k)) ((gD c arg6 arg9 arg14 q6 f6 (k % 4) hx).rows (mask v0 v3 v6 v9 v12 v15 v18 v21 v24 v27 v30 v33 v36 v39 v42 v45 v48 v51) k)⟩) Q)
        -∗ wp frame (wpE (defs₀ (F := F)) Variants.none (c : Thread nD τ) none) Set.univ (k0_part7 arg0 harg0 arg1 harg1 arg2 harg2 arg3 harg3 arg4 harg4 arg5 harg5 arg6 harg6 arg7 harg7 arg8 harg8 arg9 harg9 arg10 harg10 arg11 harg11 arg12 harg12 arg13 arg14 v0 v3 v6 v9 v12 v15 v18 v21 v24 v27 v30 v33 v36 v39 v42 v45 v48 v51 hw1 t arg15 (ew (mask v0 v3 v6 v9 v12 v15 v18 v21 v24 v27 v30 v33 v36 v39 v42 v45 v48 v51) k) h11 v322 (ew (mask v0 v3 v6 v9 v12 v15 v18 v21 v24 v27 v30 v33 v36 v39 v42 v45 v48 v51) k) h10 v350 >>= kk) Q) := by
  rw [k0_part7_eq_skeleton]
  unfold k0_part7_skel
  subst hk
  iintro ⟨HT, HX, H3, HC, HD, HW⟩ Hk
  iapply (wait Variants.none none (gC c arg5 arg8 arg13 q5 f5 (t.val % 4) hx) (mask v0 v3 v6 v9 v12 v15 v18 v21 v24 v27 v30 v33 v36 v39 v42 v45 v48 v51) t.val (off78_eq t) (cell13_eq arg13 hx (by decide) (off77_eq t))) $$ [HC HW]
  · isplitl [HC]; · iexact HC
    iexact HW
  iintro ⟨HC, HW⟩
  iapply (wp_loadH Variants.none (c : Thread nD τ) none) $$ HX
  iintro HX
  iapply (read Variants.none none (gC c arg5 arg8 arg13 q5 f5 (t.val % 4) hx) (mask v0 v3 v6 v9 v12 v15 v18 v21 v24 v27 v30 v33 v36 v39 v42 v45 v48 v51) t.val (off80_eq t)) $$ HC
  iintro HC
  iapply (wp_rowH c (ord_lt (mask v0 v3 v6 v9 v12 v15 v18 v21 v24 v27 v30 v33 v36 v39 v42 v45 v48 v51) t.val) (congrArg (fun x => ![x, 0]) (ew_toNat _ _))) $$ H3
  iintro H3
  iapply (wp_tab c hka (off82_eq t)) $$ HT
  iintro HT
  iapply (wp_assume Variants.none (c : Thread nD τ) none Set.univ (chk12 (lt_of_eq_of_lt (ew_toNat _ _) (ord_lt _ _))))
  iapply (wait Variants.none none (gD c arg6 arg9 arg14 q6 f6 (t.val % 4) hx) (mask v0 v3 v6 v9 v12 v15 v18 v21 v24 v27 v30 v33 v36 v39 v42 v45 v48 v51) t.val (off84_eq t) (cell14_eq arg14 hx (by decide) (off83_eq t))) $$ [HD HW]
  · isplitl [HD]; · iexact HD
    iexact HW
  iintro ⟨HD, HW⟩
  iapply (read Variants.none none (gD c arg6 arg9 arg14 q6 f6 (t.val % 4) hx) (mask v0 v3 v6 v9 v12 v15 v18 v21 v24 v27 v30 v33 v36 v39 v42 v45 v48 v51) t.val (off86_eq t)) $$ HD
  iintro HD
  iapply Hk
  isplitl [HT]; · iexact HT
  isplitl [HX]; · iexact HX
  isplitl [H3]; · iexact H3
  isplitl [HC]; · iexact HC
  isplitl [HD]; · iexact HD
  iexact HW

end Cert.KernelIdeal.Hand

end
-- ==== Proof.IdealStarts.lean ====
/-
  Starting the copies of an expert's rows, before the loop and within a trip.
-/
module

public import proofs.«01_k».proof.Proof.IdealState

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MoeWords Cert.MoeRing

variable {F : FTy → Type} [FloatOps F]

local notation "𝕄" => MT nD τ sig Unit (Elt F) ℕ (Pipeline.UD sig nD τ) ℕ

variable (arg0 : Memref sig .tc .smem S9x2 .i32) (harg0 : arg0.IsWhole) (arg1 : Memref sig .tc .smem S9x2 .f32) (harg1 : arg1.IsWhole) (arg2 : Memref sig .tc .vmem S9x2816 .bf16) (harg2 : arg2.IsWhole) (arg3 : Memref sig .tc .vmem S8x2816 .f32) (harg3 : arg3.IsWhole) (arg4 : Memref sig .tc .vmem S8x2816 .f32) (harg4 : arg4.IsWhole) (arg5 : Memref sig .tc .hbm S8x2816x2816 .i8) (harg5 : arg5.IsWhole) (arg6 : Memref sig .tc .hbm S8x1408x2816 .i8) (harg6 : arg6.IsWhole) (arg7 : Memref sig .tc .vmem S9x2816 .bf16) (harg7 : arg7.IsWhole) (arg8 : Memref sig .tc .vmem S4x2816x2816 .i8) (harg8 : arg8.IsWhole) (arg9 : Memref sig .tc .vmem S4x1408x2816 .i8) (harg9 : arg9.IsWhole) (arg10 : Memref sig .tc .vmem S16x2816 .bf16) (harg10 : arg10.IsWhole) (arg11 : Memref sig .tc .vmem S16x2816 .f32) (harg11 : arg11.IsWhole) (arg12 : Memref sig .tc .smem S8 .i32) (harg12 : arg12.IsWhole) (arg13 : DmaSems sig S4x3) (arg14 : DmaSems sig S4x2)
variable (v0 v3 v6 v9 v12 v15 v18 v21 v24 v27 v30 v33 v36 v39 v42 v45 v48 v51 : BitVec 32)
variable (c : Dev nD)
  (q5 : Fin 12 → PosShare TreeShare) (q6 : Fin 8 → PosShare TreeShare)
  (f5 : Buf (Elt F) (arg5.view.loc (c : Thread nD τ))) (f6 : Buf (Elt F) (arg6.view.loc (c : Thread nD τ)))

/-- A program that takes one branch. -/
theorem wp_dif_pos {α β : Type} {Q : α → sProp 𝕄} {C : Prop} {dec : Decidable C} {p : C → Prog (TpuEff nD τ sig (Elt F) Λ₀ .tc) β}
    {q : ¬C → Prog (TpuEff nD τ sig (Elt F) Λ₀ .tc) β} {k : β → Prog (TpuEff nD τ sig (Elt F) Λ₀ .tc) α} (h : C) :
    wp frame (wpE (defs₀ (F := F)) Variants.none (c : Thread nD τ) none) Set.univ (Prog.bind (p h) k) Q ⊢ wp frame (wpE (defs₀ (F := F)) Variants.none (c : Thread nD τ) none) Set.univ (Prog.bind (dite C p q) k) Q := by
  rw [dif_pos h]

theorem wp_dif_neg {α β : Type} {Q : α → sProp 𝕄} {C : Prop} {dec : Decidable C} {p : C → Prog (TpuEff nD τ sig (Elt F) Λ₀ .tc) β}
    {q : ¬C → Prog (TpuEff nD τ sig (Elt F) Λ₀ .tc) β} {k : β → Prog (TpuEff nD τ sig (Elt F) Λ₀ .tc) α} (h : ¬C) :
    wp frame (wpE (defs₀ (F := F)) Variants.none (c : Thread nD τ) none) Set.univ (Prog.bind (q h) k) Q ⊢ wp frame (wpE (defs₀ (F := F)) Variants.none (c : Thread nD τ) none) Set.univ (Prog.bind (dite C p q) k) Q := by
  rw [dif_neg h]

/-- A program's part at its head. -/
theorem wp_assoc {α β γ : Type} {Q : α → sProp 𝕄} {p : Prog (TpuEff nD τ sig (Elt F) Λ₀ .tc) β}
    {f : β → Prog (TpuEff nD τ sig (Elt F) Λ₀ .tc) γ} {k : γ → Prog (TpuEff nD τ sig (Elt F) Λ₀ .tc) α} :
    wp frame (wpE (defs₀ (F := F)) Variants.none (c : Thread nD τ) none) Set.univ (p >>= fun a => Prog.bind (f a) k) Q ⊢ wp frame (wpE (defs₀ (F := F)) Variants.none (c : Thread nD τ) none) Set.univ (Prog.bind (Prog.bind p f) k) Q := by
  rw [show Prog.bind (Prog.bind p f) k = (p >>= f) >>= k from rfl, bind_assoc]
  exact .rfl

theorem offH94 (m : BitVec 32) (j : ℕ) : k0_off94 (ew m j) = ![ord m j, 0, 0] := congrArg (fun x => ![x, 0, 0]) (ew_toNat m j)
theorem offH97 (m : BitVec 32) (j : ℕ) : k0_off97 (ew m j) = ![ord m j, 1024, 0] := congrArg (fun x => ![x, 1024, 0]) (ew_toNat m j)
theorem offH100 (m : BitVec 32) (j : ℕ) : k0_off100 (ew m j) = ![ord m j, 2048, 0] := congrArg (fun x => ![x, 2048, 0]) (ew_toNat m j)
theorem offH104 (m : BitVec 32) (j : ℕ) : k0_off104 (ew m j) = ![ord m j, 0, 0] := congrArg (fun x => ![x, 0, 0]) (ew_toNat m j)
theorem offH107 (m : BitVec 32) (j : ℕ) : k0_off107 (ew m j) = ![ord m j, 1024, 0] := congrArg (fun x => ![x, 1024, 0]) (ew_toNat m j)

/-- The next expert of the slot: its first three groups started. -/
theorem part5 {α : Type} {Q : α → sProp 𝕄} (hw1 : k0_chk1 v0 v3 v6 v9 v12 v15 v18 v21 v24 v27 v30 v33 v36 v39 v42 v45 v48 v51) (t : Fin (k0_t1_loop v0 v3 v6 v9 v12 v15 v18 v21 v24 v27 v30 v33 v36 v39 v42 v45 v48 v51).trips) (arg15 : BitVec 32) (h13 : k0_cond13 v0 v3 v6 v9 v12 v15 v18 v21 v24 v27 v30 v33 v36 v39 v42 v45 v48 v51 t = 1#1) (k : ℕ) (hk : k = t.val) (hka : k + 4 < act (mask v0 v3 v6 v9 v12 v15 v18 v21 v24 v27 v30 v33 v36 v39 v42 v45 v48 v51)) (hx : k % 4 < 4)
    {kk : (Σ' (v648 : Elt F .i32), k0_chk14 v0 v3 v6 v9 v12 v15 v18 v21 v24 v27 v30 v33 v36 v39 v42 v45 v48 v51 t v648) → Prog (TpuEff nD τ sig (Elt F) Λ₀ .tc) α} :
    iprop(Table (F := F) c arg12 (mask v0 v3 v6 v9 v12 v15 v18 v21 v24 v27 v30 v33 v36 v39 v42 v45 v48 v51) 8
        ∗ (gA c arg5 arg8 arg13 q5 f5 (k % 4) hx).Free
        ∗ (gB c arg5 arg8 arg13 q5 f5 (k % 4) hx).Free
        ∗ (gC c arg5 arg8 arg13 q5 f5 (k % 4) hx).Free)
      ⊢ iprop((iprop(Table (F := F) c arg12 (mask v0 v3 v6 v9 v12 v15 v18 v21 v24 v27 v30 v33 v36 v39 v42 v45 v48 v51) 8
        ∗ (gA c arg5 arg8 arg13 q5 f5 (k % 4) hx).Fly (mask v0 v3 v6 v9 v12 v15 v18 v21 v24 v27 v30 v33 v36 v39 v42 v45 v48 v51) (k + 4)
        ∗ (gB c arg5 arg8 arg13 q5 f5 (k % 4) hx).Fly (mask v0 v3 v6 v9 v12 v15 v18 v21 v24 v27 v30 v33 v36 v39 v42 v45 v48 v51) (k + 4)
        ∗ (gC c arg5 arg8 arg13 q5 f5 (k % 4) hx).Fly (mask v0 v3 v6 v9 v12 v15 v18 v21 v24 v27 v30 v33 v36 v39 v42 v45 v48 v51) (k + 4)) -∗
          wp frame (wpE (defs₀ (F := F)) Variants.none (c : Thread nD τ) none) Set.univ (kk ⟨ew (mask v0 v3 v6 v9 v12 v15 v18 v21 v24 v27 v30 v33 v36 v39 v42 v45 v48 v51) (k + 4), chk14 (lt_of_eq_of_lt (ew_toNat _ _) (ord_lt _ _))⟩) Q)
        -∗ wp frame (wpE (defs₀ (F := F)) Variants.none (c : Thread nD τ) none) Set.univ (k0_part5 arg0 harg0 arg1 harg1 arg2 harg2 arg3 harg3 arg4 harg4 arg5 harg5 arg6 harg6 arg7 harg7 arg8 harg8 arg9 harg9 arg10 harg10 arg11 harg11 arg12 harg12 arg13 arg14 v0 v3 v6 v9 v12 v15 v18 v21 v24 v27 v30 v33 v36 v39 v42 v45 v48 v51 hw1 t arg15 h13 >>= kk) Q) := by
  rw [k0_part5_eq_skeleton]
  unfold k0_part5_skel
  subst hk
  iintro ⟨HT, HA, HB, HC⟩ Hk
  iapply (wp_tab c hka (off91_eq t)) $$ HT
  iintro HT
  iapply (wp_assume Variants.none (c : Thread nD τ) none Set.univ (chk13 (lt_of_eq_of_lt (ew_toNat _ _) (ord_lt _ _))))
  iapply (start Variants.none none (gA c arg5 arg8 arg13 q5 f5 (t.val % 4) hx) (mask v0 v3 v6 v9 v12 v15 v18 v21 v24 v27 v30 v33 v36 v39 v42 v45 v48 v51) (t.val + 4) (off93_eq t) (offH94 _ _) (cell13_eq arg13 hx (by decide) (off92_eq t))) $$ HA
  iintro HA
  iapply (start Variants.none none (gB c arg5 arg8 arg13 q5 f5 (t.val % 4) hx) (mask v0 v3 v6 v9 v12 v15 v18 v21 v24 v27 v30 v33 v36 v39 v42 v45 v48 v51) (t.val + 4) (off96_eq t) (offH97 _ _) (cell13_eq arg13 hx (by decide) (off95_eq t))) $$ HB
  iintro HB
  iapply (start Variants.none none (gC c arg5 arg8 arg13 q5 f5 (t.val % 4) hx) (mask v0 v3 v6 v9 v12 v15 v18 v21 v24 v27 v30 v33 v36 v39 v42 v45 v48 v51) (t.val + 4) (off99_eq t) (offH100 _ _) (cell13_eq arg13 hx (by decide) (off98_eq t))) $$ HC
  iintro HC
  iapply (wp_tab c hka (off101_eq t)) $$ HT
  iintro HT
  iapply (wp_assume Variants.none (c : Thread nD τ) none Set.univ (chk14 (lt_of_eq_of_lt (ew_toNat _ _) (ord_lt _ _))))
  iapply Hk
  isplitl [HT]; · iexact HT
  isplitl [HA]; · iexact HA
  isplitl [HB]; · iexact HB
  iexact HC

/-- The last group waited for, the slot served again, and the first tile loaded. -/
theorem part8 {α : Type} {Q : α → sProp 𝕄} (hw1 : k0_chk1 v0 v3 v6 v9 v12 v15 v18 v21 v24 v27 v30 v33 v36 v39 v42 v45 v48 v51) (t : Fin (k0_t1_loop v0 v3 v6 v9 v12 v15 v18 v21 v24 v27 v30 v33 v36 v39 v42 v45 v48 v51).trips) (v101 : BitVec 32) (v296 : IVec S16x128 32) (v301 : FVec F S16x128 .f32) (v306 : IVec S16x128 32) (v311 : FVec F S16x128 .f32) (arg15 : BitVec 32) (k : ℕ) (h11 : k0_chk11 (ew (mask v0 v3 v6 v9 v12 v15 v18 v21 v24 v27 v30 v33 v36 v39 v42 v45 v48 v51) k)) (v322 : BitVec 32) (v373 : FVec F S16x1408 .bf16) (h12 : k0_chk12 (ew (mask v0 v3 v6 v9 v12 v15 v18 v21 v24 v27 v30 v33 v36 v39 v42 v45 v48 v51) k)) (v388 : FVec F S16x2816 .f32)
    (S2 : S8x2816.Idx → Elt F .f32) (AC : S16x2816.Idx → Elt F .f32) (hk : k = t.val) (hka : k < act (mask v0 v3 v6 v9 v12 v15 v18 v21 v24 v27 v30 v33 v36 v39 v42 v45 v48 v51)) (hx : k % 4 < 4)
    {kk : (Σ' (v416 : FVec F S16x128 .f32) (v421 : IVec S16x128 1) (v425 : FVec F S16x2816 .f32) (v426 : Vec F S16x128 .f32), FVec F S16x128 .f32) → Prog (TpuEff nD τ sig (Elt F) Λ₀ .tc) α} :
    iprop(Table (F := F) c arg12 (mask v0 v3 v6 v9 v12 v15 v18 v21 v24 v27 v30 v33 v36 v39 v42 v45 v48 v51) 8
        ∗ Holds (Val := Elt F) (c : Thread nD τ) arg4 S2
        ∗ Holds (Val := Elt F) (c : Thread nD τ) arg11 AC
        ∗ (gA c arg5 arg8 arg13 q5 f5 (k % 4) hx).Ready (mask v0 v3 v6 v9 v12 v15 v18 v21 v24 v27 v30 v33 v36 v39 v42 v45 v48 v51) k
        ∗ (gB c arg5 arg8 arg13 q5 f5 (k % 4) hx).Ready (mask v0 v3 v6 v9 v12 v15 v18 v21 v24 v27 v30 v33 v36 v39 v42 v45 v48 v51) k
        ∗ (gC c arg5 arg8 arg13 q5 f5 (k % 4) hx).Ready (mask v0 v3 v6 v9 v12 v15 v18 v21 v24 v27 v30 v33 v36 v39 v42 v45 v48 v51) k
        ∗ (gD c arg6 arg9 arg14 q6 f6 (k % 4) hx).Ready (mask v0 v3 v6 v9 v12 v15 v18 v21 v24 v27 v30 v33 v36 v39 v42 v45 v48 v51) k
        ∗ (gE c arg6 arg9 arg14 q6 f6 (k % 4) hx).Fly (mask v0 v3 v6 v9 v12 v15 v18 v21 v24 v27 v30 v33 v36 v39 v42 v45 v48 v51) k
        ∗ (∃ W, owes (c : Thread nD τ) 0 W))
      ⊢ iprop((iprop(Table (F := F) c arg12 (mask v0 v3 v6 v9 v12 v15 v18 v21 v24 v27 v30 v33 v36 v39 v42 v45 v48 v51) 8
        ∗ Holds (Val := Elt F) (c : Thread nD τ) arg4 S2
        ∗ Holds (Val := Elt F) (c : Thread nD τ) arg11 AC
        ∗ (gA c arg5 arg8 arg13 q5 f5 (k % 4) hx).Next (mask v0 v3 v6 v9 v12 v15 v18 v21 v24 v27 v30 v33 v36 v39 v42 v45 v48 v51) (k + 4)
        ∗ (gB c arg5 arg8 arg13 q5 f5 (k % 4) hx).Next (mask v0 v3 v6 v9 v12 v15 v18 v21 v24 v27 v30 v33 v36 v39 v42 v45 v48 v51) (k + 4)
        ∗ (gC c arg5 arg8 arg13 q5 f5 (k % 4) hx).Next (mask v0 v3 v6 v9 v12 v15 v18 v21 v24 v27 v30 v33 v36 v39 v42 v45 v48 v51) (k + 4)
        ∗ (gD c arg6 arg9 arg14 q6 f6 (k % 4) hx).Next (mask v0 v3 v6 v9 v12 v15 v18 v21 v24 v27 v30 v33 v36 v39 v42 v45 v48 v51) (k + 4)
        ∗ (gE c arg6 arg9 arg14 q6 f6 (k % 4) hx).Next (mask v0 v3 v6 v9 v12 v15 v18 v21 v24 v27 v30 v33 v36 v39 v42 v45 v48 v51) (k + 4)
        ∗ (∃ W, owes (c : Thread nD τ) 0 W)) -∗
          wp frame (wpE (defs₀ (F := F)) Variants.none (c : Thread nD τ) none) Set.univ (kk ⟨k0_pay10 v296 v301 v306 v311 (ew (mask v0 v3 v6 v9 v12 v15 v18 v21 v24 v27 v30 v33 v36 v39 v42 v45 v48 v51) k), k0_pay11 (F := F) v296 v306 (ew (mask v0 v3 v6 v9 v12 v15 v18 v21 v24 v27 v30 v33 v36 v39 v42 v45 v48 v51) k), k0_pay12 v373 v388 ((gE c arg6 arg9 arg14 q6 f6 (k % 4) hx).rows (mask v0 v3 v6 v9 v12 v15 v18 v21 v24 v27 v30 v33 v36 v39 v42 v45 v48 v51) k) (expRow S2 (ord (mask v0 v3 v6 v9 v12 v15 v18 v21 v24 v27 v30 v33 v36 v39 v42 v45 v48 v51) k) (ord_lt (mask v0 v3 v6 v9 v12 v15 v18 v21 v24 v27 v30 v33 v36 v39 v42 v45 v48 v51) k)), (fun i => AC ((Rect.unit (s := S16x2816) ![0, 0] S16x128.size inb_S16x2816_S16x128_0_0).emb i)), k0_pay13 v296 v301 v306 v311 (ew (mask v0 v3 v6 v9 v12 v15 v18 v21 v24 v27 v30 v33 v36 v39 v42 v45 v48 v51) k) v373 v388 ((gE c arg6 arg9 arg14 q6 f6 (k % 4) hx).rows (mask v0 v3 v6 v9 v12 v15 v18 v21 v24 v27 v30 v33 v36 v39 v42 v45 v48 v51) k) (expRow S2 (ord (mask v0 v3 v6 v9 v12 v15 v18 v21 v24 v27 v30 v33 v36 v39 v42 v45 v48 v51) k) (ord_lt (mask v0 v3 v6 v9 v12 v15 v18 v21 v24 v27 v30 v33 v36 v39 v42 v45 v48 v51) k))⟩) Q)
        -∗ wp frame (wpE (defs₀ (F := F)) Variants.none (c : Thread nD τ) none) Set.univ (k0_part8 arg0 harg0 arg1 harg1 arg2 harg2 arg3 harg3 arg4 harg4 arg5 harg5 arg6 harg6 arg7 harg7 arg8 harg8 arg9 harg9 arg10 harg10 arg11 harg11 arg12 harg12 arg13 arg14 v0 v3 v6 v9 v12 v15 v18 v21 v24 v27 v30 v33 v36 v39 v42 v45 v48 v51 hw1 v101 v296 v301 v306 v311 t arg15 (ew (mask v0 v3 v6 v9 v12 v15 v18 v21 v24 v27 v30 v33 v36 v39 v42 v45 v48 v51) k) h11 v322 v373 (ew (mask v0 v3 v6 v9 v12 v15 v18 v21 v24 v27 v30 v33 v36 v39 v42 v45 v48 v51) k) h12 v388 >>= kk) Q) := by
  rw [k0_part8_eq_skeleton]
  unfold k0_part8_skel
  subst hk
  iintro ⟨HT, H4, HAcc, HA, HB, HC, HD, HE, HW⟩ Hk
  iapply (wait Variants.none none (gE c arg6 arg9 arg14 q6 f6 (t.val % 4) hx) (mask v0 v3 v6 v9 v12 v15 v18 v21 v24 v27 v30 v33 v36 v39 v42 v45 v48 v51) t.val (off88_eq t) (cell14_eq arg14 hx (by decide) (off87_eq t))) $$ [HE HW]
  · isplitl [HE]; · iexact HE
    iexact HW
  iintro ⟨HE, HW⟩
  iapply (read Variants.none none (gE c arg6 arg9 arg14 q6 f6 (t.val % 4) hx) (mask v0 v3 v6 v9 v12 v15 v18 v21 v24 v27 v30 v33 v36 v39 v42 v45 v48 v51) t.val (off90_eq t)) $$ HE
  iintro HE
  ihave HA := (free_of_ready (gA c arg5 arg8 arg13 q5 f5 (t.val % 4) hx) (mask v0 v3 v6 v9 v12 v15 v18 v21 v24 v27 v30 v33 v36 v39 v42 v45 v48 v51) t.val) $$ HA
  ihave HB := (free_of_ready (gB c arg5 arg8 arg13 q5 f5 (t.val % 4) hx) (mask v0 v3 v6 v9 v12 v15 v18 v21 v24 v27 v30 v33 v36 v39 v42 v45 v48 v51) t.val) $$ HB
  ihave HC := (free_of_ready (gC c arg5 arg8 arg13 q5 f5 (t.val % 4) hx) (mask v0 v3 v6 v9 v12 v15 v18 v21 v24 v27 v30 v33 v36 v39 v42 v45 v48 v51) t.val) $$ HC
  ihave HD := (free_of_ready (gD c arg6 arg9 arg14 q6 f6 (t.val % 4) hx) (mask v0 v3 v6 v9 v12 v15 v18 v21 v24 v27 v30 v33 v36 v39 v42 v45 v48 v51) t.val) $$ HD
  ihave HE := (free_of_ready (gE c arg6 arg9 arg14 q6 f6 (t.val % 4) hx) (mask v0 v3 v6 v9 v12 v15 v18 v21 v24 v27 v30 v33 v36 v39 v42 v45 v48 v51) t.val) $$ HE
  by_cases hn : t.val + 4 < act (mask v0 v3 v6 v9 v12 v15 v18 v21 v24 v27 v30 v33 v36 v39 v42 v45 v48 v51)
  · iapply (wp_dif_pos c ((cond13_iff t).2 hn))
    iapply (wp_assoc c)
    iapply (part5 arg0 harg0 arg1 harg1 arg2 harg2 arg3 harg3 arg4 harg4 arg5 harg5 arg6 harg6 arg7 harg7 arg8 harg8 arg9 harg9 arg10 harg10 arg11 harg11 arg12 harg12 arg13 arg14 v0 v3 v6 v9 v12 v15 v18 v21 v24 v27 v30 v33 v36 v39 v42 v45 v48 v51 c q5 f5 hw1 t arg15 ((cond13_iff t).2 hn) t.val rfl hn hx) $$ [HT HA HB HC]
    · isplitl [HT]; · iexact HT
      isplitl [HA]; · iexact HA
      isplitl [HB]; · iexact HB
      iexact HC
    iintro ⟨HT, HA, HB, HC⟩
    iapply (start Variants.none none (gD c arg6 arg9 arg14 q6 f6 (t.val % 4) hx) (mask v0 v3 v6 v9 v12 v15 v18 v21 v24 v27 v30 v33 v36 v39 v42 v45 v48 v51) (t.val + 4) (off103_eq t) (offH104 _ _) (cell14_eq arg14 hx (by decide) (off102_eq t))) $$ HD
    iintro HD
    iapply (start Variants.none none (gE c arg6 arg9 arg14 q6 f6 (t.val % 4) hx) (mask v0 v3 v6 v9 v12 v15 v18 v21 v24 v27 v30 v33 v36 v39 v42 v45 v48 v51) (t.val + 4) (off106_eq t) (offH107 _ _) (cell14_eq arg14 hx (by decide) (off105_eq t))) $$ HE
    iintro HE
    iapply (wp_rowH c (ord_lt (mask v0 v3 v6 v9 v12 v15 v18 v21 v24 v27 v30 v33 v36 v39 v42 v45 v48 v51) t.val) (congrArg (fun x => ![x, 0]) (ew_toNat _ _))) $$ H4
    iintro H4
    iapply (wp_loadH Variants.none (c : Thread nD τ) none) $$ HAcc
    iintro HAcc
    iapply Hk
    isplitl [HT]; · iexact HT
    isplitl [H4]; · iexact H4
    isplitl [HAcc]; · iexact HAcc
    isplitl [HA]; · unfold Grp.Next; rw [if_pos hn]; iexact HA
    isplitl [HB]; · unfold Grp.Next; rw [if_pos hn]; iexact HB
    isplitl [HC]; · unfold Grp.Next; rw [if_pos hn]; iexact HC
    isplitl [HD]; · unfold Grp.Next; rw [if_pos hn]; iexact HD
    isplitl [HE]; · unfold Grp.Next; rw [if_pos hn]; iexact HE
    iexact HW
  · iapply (wp_dif_neg c (fun h => hn ((cond13_iff t).1 h)))
    iapply (wp_rowH c (ord_lt (mask v0 v3 v6 v9 v12 v15 v18 v21 v24 v27 v30 v33 v36 v39 v42 v45 v48 v51) t.val) (congrArg (fun x => ![x, 0]) (ew_toNat _ _))) $$ H4
    iintro H4
    iapply (wp_loadH Variants.none (c : Thread nD τ) none) $$ HAcc
    iintro HAcc
    iapply Hk
    isplitl [HT]; · iexact HT
    isplitl [H4]; · iexact H4
    isplitl [HAcc]; · iexact HAcc
    isplitl [HA]; · unfold Grp.Next; rw [if_neg hn]; iexact HA
    isplitl [HB]; · unfold Grp.Next; rw [if_neg hn]; iexact HB
    isplitl [HC]; · unfold Grp.Next; rw [if_neg hn]; iexact HC
    isplitl [HD]; · unfold Grp.Next; rw [if_neg hn]; iexact HD
    isplitl [HE]; · unfold Grp.Next; rw [if_neg hn]; iexact HE
    iexact HW

end Cert.KernelIdeal.Hand

end
-- ==== Proof.IdealTiles.lean ====
/-
  The second half of a trip: the accumulator, one tile of columns at a time.
-/
module

public import proofs.«01_k».proof.Proof.IdealState

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MoeWords Cert.MoeRing

variable {F : FTy → Type} [FloatOps F]

local notation "𝕄" => MT nD τ sig Unit (Elt F) ℕ (Pipeline.UD sig nD τ) ℕ

/-- The row, and the column within its tile, of an element of the accumulator. -/
def tcol (i : S16x2816.Idx) : S16x128.Idx
  | ⟨0, _⟩ => i 0
  | ⟨1, _⟩ => ⟨(i 1).val % 128, Nat.mod_lt _ (by decide)⟩

/-- The accumulator with its columns below `o` served: a hit row gets its weighted product added, another row a zero. -/
def mix (cw : FVec F S16x128 .f32) (hit : IVec S16x128 1) (y : FVec F S16x2816 .f32) (X : S16x2816.Idx → Elt F .f32) (o : ℕ) : S16x2816.Idx → Elt F .f32 := fun i =>
  if (i 1).val < o then
    FloatOps.addf (φ := .f32) (X i) (Scalar.select (hit (tcol i)) (FloatOps.mulf (φ := .f32) (y i) (cw (tcol i))) (Scalar.ofBits .f32 0x00000000#32))
  else X i

theorem mix_zero (cw : FVec F S16x128 .f32) (hit : IVec S16x128 1) (y : FVec F S16x2816 .f32) (X : S16x2816.Idx → Elt F .f32) : mix cw hit y X 0 = X :=
  funext fun i => if_neg (Nat.not_lt_zero _)

/-- What is added to a tile. -/
def msk (cw : FVec F S16x128 .f32) (hit : IVec S16x128 1) (y : FVec F S16x2816 .f32) (o : ℕ) (h : S16x2816.Slices ![0, o] S16x128) : FVec F S16x128 .f32 :=
  select hit (mulf (extractStridedSlice S16x128 ![0, o] y h) cw) (broadcast S16x128 (Scalar.ofBits .f32 0x00000000#32))

/-- What is stored at a tile. -/
def tilePay (v d : FVec F S16x128 .f32) : FVec F S16x128 .f32 := shapeCast S16x128 (addf v d) shapeCasts_S16x128_S16x128

theorem tilePay_apply (v d : FVec F S16x128 .f32) (x : S16x128.Idx) : tilePay v d x = FloatOps.addf (v x) (d x) := by
  unfold tilePay
  show addf v d (Shape.reshapeEquiv _ x) = _
  rw [Shape.reshapeEquiv_self]
  rfl

/-- The tile's store. -/
theorem wp_tile {α : Type} {Q : α → sProp 𝕄} (c : Dev nD) {arg11 : Memref sig .tc .vmem S16x2816 .f32} {cw : FVec F S16x128 .f32} {hit : IVec S16x128 1} {y : FVec F S16x2816 .f32}
    {X : S16x2816.Idx → Elt F .f32} (o o' : ℕ) (ho : o % 128 = 0) (ho' : o' = o + 128) (hsl : S16x2816.Slices ![0, o] S16x128)
    {h : ∀ a, (![0, o] : Fin 2 → ℕ) a + S16x128.size a ≤ S16x2816.size a}
    {w : FVec F S16x128 .f32} {hx : (arg11.access (Rect.unit (s := S16x2816) ![0, o] S16x128.size h)).Stores Finset.univ} {hm : (Finset.univ : Finset S16x128.Idx) = Finset.univ ∨ ∀ a, (Rect.unit (s := S16x2816) ![0, o] S16x128.size h).stride a = 1}
    {k : PUnit → Prog (TpuEff nD τ sig (Elt F) Λ₀ .tc) α}
    (hw : w = tilePay (fun x => mix cw hit y X o ((Rect.unit (s := S16x2816) ![0, o] S16x128.size h).emb x)) (msk cw hit y o hsl)) :
    Holds (Val := Elt F) (c : Thread nD τ) arg11 (mix cw hit y X o) ⊢ iprop((Holds (Val := Elt F) (c : Thread nD τ) arg11 (mix cw hit y X o') -∗ wp frame (wpE (defs₀ (F := F)) Variants.none (c : Thread nD τ) none) Set.univ (k ⟨⟩) Q)
      -∗ wp frame (wpE (defs₀ (F := F)) Variants.none (c : Thread nD τ) none) Set.univ (.op (.store arg11 (Rect.unit (s := S16x2816) ![0, o] S16x128.size h) w Finset.univ hx hm) k) Q) := by
  subst ho' hw
  refine wp_storeH Variants.none (c : Thread nD τ) none (mix cw hit y X (o + 128)) (fun x => ?_) fun i hi => ?_
  · have h1 : ((Rect.unit (s := S16x2816) ![0, o] S16x128.size h).emb x 1).val = o + (x 1).val := by
      rw [Rect.emb_apply]; show o + 1 * (x 1).val = _; omega
    have h0 : ((Rect.unit (s := S16x2816) ![0, o] S16x128.size h).emb x 0).val = (x 0).val := by
      rw [Rect.emb_apply]; show 0 + 1 * (x 0).val = _; omega
    have hlt : (x 1).val < 128 := (x 1).isLt
    have ht : tcol ((Rect.unit (s := S16x2816) ![0, o] S16x128.size h).emb x) = x := by
      funext a
      match a with
      | ⟨0, _⟩ => exact Fin.ext h0
      | ⟨1, _⟩ => exact Fin.ext (by show ((Rect.unit (s := S16x2816) ![0, o] S16x128.size h).emb x 1).val % 128 = (x 1).val; rw [h1]; omega)
    rw [tilePay_apply]
    unfold mix
    rw [if_pos (by omega), if_neg (by omega), ht]
    refine congrArg (FloatOps.addf (φ := .f32) _) ?_
    show Scalar.select (hit x) _ _ = Scalar.select (hit x) (FloatOps.mulf (φ := .f32) (extractStridedSlice S16x128 ![0, o] y hsl x) (cw x)) _
    refine congrArg (fun z => Scalar.select (hit x) (FloatOps.mulf (φ := .f32) z (cw x)) _) ?_
    refine congrArg y (funext fun a => Fin.ext ?_)
    match a with
    | ⟨0, _⟩ => exact h0.trans (Nat.zero_add _).symm
    | ⟨1, _⟩ => exact h1
  · unfold mix
    by_cases h1 : (i 1).val < o
    · rw [if_pos h1, if_pos (by omega)]
    · by_cases h2 : (i 1).val < o + 128
      · exfalso
        apply hi
        refine Rect.mem_set_unit.2 fun a => ?_
        match a with
        | ⟨0, _⟩ => exact ⟨Nat.zero_le _, by show (i 0).val < 0 + 16; have : (i 0).val < 16 := (i 0).isLt; omega⟩
        | ⟨1, _⟩ => exact ⟨Nat.le_of_not_lt h1, h2⟩
      · rw [if_neg h1, if_neg h2]

variable (arg0 : Memref sig .tc .smem S9x2 .i32) (harg0 : arg0.IsWhole) (arg1 : Memref sig .tc .smem S9x2 .f32) (harg1 : arg1.IsWhole) (arg2 : Memref sig .tc .vmem S9x2816 .bf16) (harg2 : arg2.IsWhole) (arg3 : Memref sig .tc .vmem S8x2816 .f32) (harg3 : arg3.IsWhole) (arg4 : Memref sig .tc .vmem S8x2816 .f32) (harg4 : arg4.IsWhole) (arg5 : Memref sig .tc .hbm S8x2816x2816 .i8) (harg5 : arg5.IsWhole) (arg6 : Memref sig .tc .hbm S8x1408x2816 .i8) (harg6 : arg6.IsWhole) (arg7 : Memref sig .tc .vmem S9x2816 .bf16) (harg7 : arg7.IsWhole) (arg8 : Memref sig .tc .vmem S4x2816x2816 .i8) (harg8 : arg8.IsWhole) (arg9 : Memref sig .tc .vmem S4x1408x2816 .i8) (harg9 : arg9.IsWhole) (arg10 : Memref sig .tc .vmem S16x2816 .bf16) (harg10 : arg10.IsWhole) (arg11 : Memref sig .tc .vmem S16x2816 .f32) (harg11 : arg11.IsWhole) (arg12 : Memref sig .tc .smem S8 .i32) (harg12 : arg12.IsWhole) (arg13 : DmaSems sig S4x3) (arg14 : DmaSems sig S4x2)
variable (v0 v3 v6 v9 v12 v15 v18 v21 v24 v27 v30 v33 v36 v39 v42 v45 v48 v51 : BitVec 32)
variable (c : Dev nD)
  (q5 : Fin 12 → PosShare TreeShare) (q6 : Fin 8 → PosShare TreeShare)
  (f5 : Buf (Elt F) (arg5.view.loc (c : Thread nD τ))) (f6 : Buf (Elt F) (arg6.view.loc (c : Thread nD τ)))

/-- Four tiles of columns, from column 0. -/
theorem part9 {α : Type} {Q : α → sProp 𝕄} (cw : FVec F S16x128 .f32) (hit : IVec S16x128 1) (y : FVec F S16x2816 .f32) (X : S16x2816.Idx → Elt F .f32)
    {kk : (Σ' (v462 : Vec F S16x128 .f32), FVec F S16x128 .f32) → Prog (TpuEff nD τ sig (Elt F) Λ₀ .tc) α} :
    iprop(Holds (Val := Elt F) (c : Thread nD τ) arg11 (mix cw hit y X 0))
      ⊢ iprop((iprop(Holds (Val := Elt F) (c : Thread nD τ) arg11 (mix cw hit y X 512)) -∗
          wp frame (wpE (defs₀ (F := F)) Variants.none (c : Thread nD τ) none) Set.univ (kk ⟨(fun x => mix cw hit y X 512 ((Rect.unit (s := S16x2816) ![0, 512] S16x128.size inb_S16x2816_S16x128_0_512).emb x)), (msk cw hit y 512 slices_S16x2816_o0_512_S16x128)⟩) Q)
        -∗ wp frame (wpE (defs₀ (F := F)) Variants.none (c : Thread nD τ) none) Set.univ (k0_part9 arg0 harg0 arg1 harg1 arg2 harg2 arg3 harg3 arg4 harg4 arg5 harg5 arg6 harg6 arg7 harg7 arg8 harg8 arg9 harg9 arg10 harg10 arg11 harg11 arg12 harg12 arg13 arg14 cw hit y (fun x => mix cw hit y X 0 ((Rect.unit (s := S16x2816) ![0, 0] S16x128.size inb_S16x2816_S16x128_0_0).emb x)) (msk cw hit y 0 slices_S16x2816_o0_0_S16x128) >>= kk) Q) := by
  rw [k0_part9_eq_skeleton]
  unfold k0_part9_skel
  iintro HAcc Hk
  iapply (wp_loadH Variants.none (c : Thread nD τ) none) $$ HAcc
  iintro HAcc
  iapply (wp_tile c 0 128 (by decide) (by decide) slices_S16x2816_o0_0_S16x128 (w := _) rfl) $$ HAcc
  iintro HAcc
  iapply (wp_loadH Variants.none (c : Thread nD τ) none) $$ HAcc
  iintro HAcc
  iapply (wp_loadH Variants.none (c : Thread nD τ) none) $$ HAcc
  iintro HAcc
  iapply (wp_tile c 128 256 (by decide) (by decide) slices_S16x2816_o0_128_S16x128 (w := _) rfl) $$ HAcc
  iintro HAcc
  iapply (wp_loadH Variants.none (c : Thread nD τ) none) $$ HAcc
  iintro HAcc
  iapply (wp_loadH Variants.none (c : Thread nD τ) none) $$ HAcc
  iintro HAcc
  iapply (wp_tile c 256 384 (by decide) (by decide) slices_S16x2816_o0_256_S16x128 (w := _) rfl) $$ HAcc
  iintro HAcc
  iapply (wp_loadH Variants.none (c : Thread nD τ) none) $$ HAcc
  iintro HAcc
  iapply (wp_loadH Variants.none (c : Thread nD τ) none) $$ HAcc
  iintro HAcc
  iapply (wp_tile c 384 512 (by decide) (by decide) slices_S16x2816_o0_384_S16x128 (w := _) rfl) $$ HAcc
  iintro HAcc
  iapply (wp_loadH Variants.none (c : Thread nD τ) none) $$ HAcc
  iintro HAcc
  iapply Hk
  iexact HAcc

/-- Four tiles of columns, from column 512. -/
theorem part10 {α : Type} {Q : α → sProp 𝕄} (cw : FVec F S16x128 .f32) (hit : IVec S16x128 1) (y : FVec F S16x2816 .f32) (X : S16x2816.Idx → Elt F .f32)
    {kk : (Σ' (v462 : Vec F S16x128 .f32), FVec F S16x128 .f32) → Prog (TpuEff nD τ sig (Elt F) Λ₀ .tc) α} :
    iprop(Holds (Val := Elt F) (c : Thread nD τ) arg11 (mix cw hit y X 512))
      ⊢ iprop((iprop(Holds (Val := Elt F) (c : Thread nD τ) arg11 (mix cw hit y X 1024)) -∗
          wp frame (wpE (defs₀ (F := F)) Variants.none (c : Thread nD τ) none) Set.univ (kk ⟨(fun x => mix cw hit y X 1024 ((Rect.unit (s := S16x2816) ![0, 1024] S16x128.size inb_S16x2816_S16x128_0_1024).emb x)), (msk cw hit y 1024 slices_S16x2816_o0_1024_S16x128)⟩) Q)
        -∗ wp frame (wpE (defs₀ (F := F)) Variants.none (c : Thread nD τ) none) Set.univ (k0_part10 arg0 harg0 arg1 harg1 arg2 harg2 arg3 harg3 arg4 harg4 arg5 harg5 arg6 harg6 arg7 harg7 arg8 harg8 arg9 harg9 arg10 harg10 arg11 harg11 arg12 harg12 arg13 arg14 cw hit y (fun x => mix cw hit y X 512 ((Rect.unit (s := S16x2816) ![0, 512] S16x128.size inb_S16x2816_S16x128_0_512).emb x)) (msk cw hit y 512 slices_S16x2816_o0_512_S16x128) >>= kk) Q) := by
  rw [k0_part10_eq_skeleton]
  unfold k0_part10_skel
  iintro HAcc Hk
  iapply (wp_loadH Variants.none (c : Thread nD τ) none) $$ HAcc
  iintro HAcc
  iapply (wp_tile c 512 640 (by decide) (by decide) slices_S16x2816_o0_512_S16x128 (w := _) rfl) $$ HAcc
  iintro HAcc
  iapply (wp_loadH Variants.none (c : Thread nD τ) none) $$ HAcc
  iintro HAcc
  iapply (wp_loadH Variants.none (c : Thread nD τ) none) $$ HAcc
  iintro HAcc
  iapply (wp_tile c 640 768 (by decide) (by decide) slices_S16x2816_o0_640_S16x128 (w := _) rfl) $$ HAcc
  iintro HAcc
  iapply (wp_loadH Variants.none (c : Thread nD τ) none) $$ HAcc
  iintro HAcc
  iapply (wp_loadH Variants.none (c : Thread nD τ) none) $$ HAcc
  iintro HAcc
  iapply (wp_tile c 768 896 (by decide) (by decide) slices_S16x2816_o0_768_S16x128 (w := _) rfl) $$ HAcc
  iintro HAcc
  iapply (wp_loadH Variants.none (c : Thread nD τ) none) $$ HAcc
  iintro HAcc
  iapply (wp_loadH Variants.none (c : Thread nD τ) none) $$ HAcc
  iintro HAcc
  iapply (wp_tile c 896 1024 (by decide) (by decide) slices_S16x2816_o0_896_S16x128 (w := _) rfl) $$ HAcc
  iintro HAcc
  iapply (wp_loadH Variants.none (c : Thread nD τ) none) $$ HAcc
  iintro HAcc
  iapply Hk
  iexact HAcc

/-- Four tiles of columns, from column 1024. -/
theorem part11 {α : Type} {Q : α → sProp 𝕄} (cw : FVec F S16x128 .f32) (hit : IVec S16x128 1) (y : FVec F S16x2816 .f32) (X : S16x2816.Idx → Elt F .f32)
    {kk : (Σ' (v462 : Vec F S16x128 .f32), FVec F S16x128 .f32) → Prog (TpuEff nD τ sig (Elt F) Λ₀ .tc) α} :
    iprop(Holds (Val := Elt F) (c : Thread nD τ) arg11 (mix cw hit y X 1024))
      ⊢ iprop((iprop(Holds (Val := Elt F) (c : Thread nD τ) arg11 (mix cw hit y X 1536)) -∗
          wp frame (wpE (defs₀ (F := F)) Variants.none (c : Thread nD τ) none) Set.univ (kk ⟨(fun x => mix cw hit y X 1536 ((Rect.unit (s := S16x2816) ![0, 1536] S16x128.size inb_S16x2816_S16x128_0_1536).emb x)), (msk cw hit y 1536 slices_S16x2816_o0_1536_S16x128)⟩) Q)
        -∗ wp frame (wpE (defs₀ (F := F)) Variants.none (c : Thread nD τ) none) Set.univ (k0_part11 arg0 harg0 arg1 harg1 arg2 harg2 arg3 harg3 arg4 harg4 arg5 harg5 arg6 harg6 arg7 harg7 arg8 harg8 arg9 harg9 arg10 harg10 arg11 harg11 arg12 harg12 arg13 arg14 cw hit y (fun x => mix cw hit y X 1024 ((Rect.unit (s := S16x2816) ![0, 1024] S16x128.size inb_S16x2816_S16x128_0_1024).emb x)) (msk cw hit y 1024 slices_S16x2816_o0_1024_S16x128) >>= kk) Q) := by
  rw [k0_part11_eq_skeleton]
  unfold k0_part11_skel
  iintro HAcc Hk
  iapply (wp_loadH Variants.none (c : Thread nD τ) none) $$ HAcc
  iintro HAcc
  iapply (wp_tile c 1024 1152 (by decide) (by decide) slices_S16x2816_o0_1024_S16x128 (w := _) rfl) $$ HAcc
  iintro HAcc
  iapply (wp_loadH Variants.none (c : Thread nD τ) none) $$ HAcc
  iintro HAcc
  iapply (wp_loadH Variants.none (c : Thread nD τ) none) $$ HAcc
  iintro HAcc
  iapply (wp_tile c 1152 1280 (by decide) (by decide) slices_S16x2816_o0_1152_S16x128 (w := _) rfl) $$ HAcc
  iintro HAcc
  iapply (wp_loadH Variants.none (c : Thread nD τ) none) $$ HAcc
  iintro HAcc
  iapply (wp_loadH Variants.none (c : Thread nD τ) none) $$ HAcc
  iintro HAcc
  iapply (wp_tile c 1280 1408 (by decide) (by decide) slices_S16x2816_o0_1280_S16x128 (w := _) rfl) $$ HAcc
  iintro HAcc
  iapply (wp_loadH Variants.none (c : Thread nD τ) none) $$ HAcc
  iintro HAcc
  iapply (wp_loadH Variants.none (c : Thread nD τ) none) $$ HAcc
  iintro HAcc
  iapply (wp_tile c 1408 1536 (by decide) (by decide) slices_S16x2816_o0_1408_S16x128 (w := _) rfl) $$ HAcc
  iintro HAcc
  iapply (wp_loadH Variants.none (c : Thread nD τ) none) $$ HAcc
  iintro HAcc
  iapply Hk
  iexact HAcc

/-- Four tiles of columns, from column 1536. -/
theorem part12 {α : Type} {Q : α → sProp 𝕄} (cw : FVec F S16x128 .f32) (hit : IVec S16x128 1) (y : FVec F S16x2816 .f32) (X : S16x2816.Idx → Elt F .f32)
    {kk : (Σ' (v462 : Vec F S16x128 .f32), FVec F S16x128 .f32) → Prog (TpuEff nD τ sig (Elt F) Λ₀ .tc) α} :
    iprop(Holds (Val := Elt F) (c : Thread nD τ) arg11 (mix cw hit y X 1536))
      ⊢ iprop((iprop(Holds (Val := Elt F) (c : Thread nD τ) arg11 (mix cw hit y X 2048)) -∗
          wp frame (wpE (defs₀ (F := F)) Variants.none (c : Thread nD τ) none) Set.univ (kk ⟨(fun x => mix cw hit y X 2048 ((Rect.unit (s := S16x2816) ![0, 2048] S16x128.size inb_S16x2816_S16x128_0_2048).emb x)), (msk cw hit y 2048 slices_S16x2816_o0_2048_S16x128)⟩) Q)
        -∗ wp frame (wpE (defs₀ (F := F)) Variants.none (c : Thread nD τ) none) Set.univ (k0_part12 arg0 harg0 arg1 harg1 arg2 harg2 arg3 harg3 arg4 harg4 arg5 harg5 arg6 harg6 arg7 harg7 arg8 harg8 arg9 harg9 arg10 harg10 arg11 harg11 arg12 harg12 arg13 arg14 cw hit y (fun x => mix cw hit y X 1536 ((Rect.unit (s := S16x2816) ![0, 1536] S16x128.size inb_S16x2816_S16x128_0_1536).emb x)) (msk cw hit y 1536 slices_S16x2816_o0_1536_S16x128) >>= kk) Q) := by
  rw [k0_part12_eq_skeleton]
  unfold k0_part12_skel
  iintro HAcc Hk
  iapply (wp_loadH Variants.none (c : Thread nD τ) none) $$ HAcc
  iintro HAcc
  iapply (wp_tile c 1536 1664 (by decide) (by decide) slices_S16x2816_o0_1536_S16x128 (w := _) rfl) $$ HAcc
  iintro HAcc
  iapply (wp_loadH Variants.none (c : Thread nD τ) none) $$ HAcc
  iintro HAcc
  iapply (wp_loadH Variants.none (c : Thread nD τ) none) $$ HAcc
  iintro HAcc
  iapply (wp_tile c 1664 1792 (by decide) (by decide) slices_S16x2816_o0_1664_S16x128 (w := _) rfl) $$ HAcc
  iintro HAcc
  iapply (wp_loadH Variants.none (c : Thread nD τ) none) $$ HAcc
  iintro HAcc
  iapply (wp_loadH Variants.none (c : Thread nD τ) none) $$ HAcc
  iintro HAcc
  iapply (wp_tile c 1792 1920 (by decide) (by decide) slices_S16x2816_o0_1792_S16x128 (w := _) rfl) $$ HAcc
  iintro HAcc
  iapply (wp_loadH Variants.none (c : Thread nD τ) none) $$ HAcc
  iintro HAcc
  iapply (wp_loadH Variants.none (c : Thread nD τ) none) $$ HAcc
  iintro HAcc
  iapply (wp_tile c 1920 2048 (by decide) (by decide) slices_S16x2816_o0_1920_S16x128 (w := _) rfl) $$ HAcc
  iintro HAcc
  iapply (wp_loadH Variants.none (c : Thread nD τ) none) $$ HAcc
  iintro HAcc
  iapply Hk
  iexact HAcc

/-- Four tiles of columns, from column 2048. -/
theorem part13 {α : Type} {Q : α → sProp 𝕄} (cw : FVec F S16x128 .f32) (hit : IVec S16x128 1) (y : FVec F S16x2816 .f32) (X : S16x2816.Idx → Elt F .f32)
    {kk : (Σ' (v462 : Vec F S16x128 .f32), FVec F S16x128 .f32) → Prog (TpuEff nD τ sig (Elt F) Λ₀ .tc) α} :
    iprop(Holds (Val := Elt F) (c : Thread nD τ) arg11 (mix cw hit y X 2048))
      ⊢ iprop((iprop(Holds (Val := Elt F) (c : Thread nD τ) arg11 (mix cw hit y X 2560)) -∗
          wp frame (wpE (defs₀ (F := F)) Variants.none (c : Thread nD τ) none) Set.univ (kk ⟨(fun x => mix cw hit y X 2560 ((Rect.unit (s := S16x2816) ![0, 2560] S16x128.size inb_S16x2816_S16x128_0_2560).emb x)), (msk cw hit y 2560 slices_S16x2816_o0_2560_S16x128)⟩) Q)
        -∗ wp frame (wpE (defs₀ (F := F)) Variants.none (c : Thread nD τ) none) Set.univ (k0_part13 arg0 harg0 arg1 harg1 arg2 harg2 arg3 harg3 arg4 harg4 arg5 harg5 arg6 harg6 arg7 harg7 arg8 harg8 arg9 harg9 arg10 harg10 arg11 harg11 arg12 harg12 arg13 arg14 cw hit y (fun x => mix cw hit y X 2048 ((Rect.unit (s := S16x2816) ![0, 2048] S16x128.size inb_S16x2816_S16x128_0_2048).emb x)) (msk cw hit y 2048 slices_S16x2816_o0_2048_S16x128) >>= kk) Q) := by
  rw [k0_part13_eq_skeleton]
  unfold k0_part13_skel
  iintro HAcc Hk
  iapply (wp_loadH Variants.none (c : Thread nD τ) none) $$ HAcc
  iintro HAcc
  iapply (wp_tile c 2048 2176 (by decide) (by decide) slices_S16x2816_o0_2048_S16x128 (w := _) rfl) $$ HAcc
  iintro HAcc
  iapply (wp_loadH Variants.none (c : Thread nD τ) none) $$ HAcc
  iintro HAcc
  iapply (wp_loadH Variants.none (c : Thread nD τ) none) $$ HAcc
  iintro HAcc
  iapply (wp_tile c 2176 2304 (by decide) (by decide) slices_S16x2816_o0_2176_S16x128 (w := _) rfl) $$ HAcc
  iintro HAcc
  iapply (wp_loadH Variants.none (c : Thread nD τ) none) $$ HAcc
  iintro HAcc
  iapply (wp_loadH Variants.none (c : Thread nD τ) none) $$ HAcc
  iintro HAcc
  iapply (wp_tile c 2304 2432 (by decide) (by decide) slices_S16x2816_o0_2304_S16x128 (w := _) rfl) $$ HAcc
  iintro HAcc
  iapply (wp_loadH Variants.none (c : Thread nD τ) none) $$ HAcc
  iintro HAcc
  iapply (wp_loadH Variants.none (c : Thread nD τ) none) $$ HAcc
  iintro HAcc
  iapply (wp_tile c 2432 2560 (by decide) (by decide) slices_S16x2816_o0_2432_S16x128 (w := _) rfl) $$ HAcc
  iintro HAcc
  iapply (wp_loadH Variants.none (c : Thread nD τ) none) $$ HAcc
  iintro HAcc
  iapply Hk
  iexact HAcc

end Cert.KernelIdeal.Hand

end
-- ==== Proof.IdealTrip.lean ====
/-
  One trip, and the loop.
-/
module

public import proofs.«01_k».proof.Proof.IdealLoads
public import proofs.«01_k».proof.Proof.IdealStarts
public import proofs.«01_k».proof.Proof.IdealTiles

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MoeWords Cert.MoeRing

variable {F : FTy → Type} [FloatOps F]

local notation "𝕄" => MT nD τ sig Unit (Elt F) ℕ (Pipeline.UD sig nD τ) ℕ

/-- An expert's rows of a weight array, a block of them. -/
def expRows {R : ℕ} (W : (⟨3, ![8, R, 2816]⟩ : Shape).Idx → Elt F .i8) (e : ℕ) (he : e < 8) (r n : ℕ) (hr : r + n ≤ R) :
    (⟨3, ![1, n, 2816]⟩ : Shape).Idx → Elt F .i8 := fun x => W ((blk (size := ![1, n, 2816]) ![e, r, 0] (inb3 he hr)).emb x)

section Expert

variable (W13 : S8x2816x2816.Idx → Elt F .i8) (W2 : S8x1408x2816.Idx → Elt F .i8) (XB : S16x2816.Idx → Elt F .bf16) (S13 S2 : S8x2816.Idx → Elt F .f32)
  (e : ℕ) (he : e < 8)

/-- The first product, over the first two groups of rows. -/
def exp350 : FVec F S16x2816 .f32 :=
  k0_pay7 (fun i => XB ((Rect.unit (s := S16x2816) ![0, 0] S16x1024.size inb_S16x2816_S16x1024_0_0).emb i)) (expRows W13 e he 0 1024 (by decide))
    (fun i => XB ((Rect.unit (s := S16x2816) ![0, 1024] S16x1024.size inb_S16x2816_S16x1024_0_1024).emb i)) (expRows W13 e he 1024 1024 (by decide))

/-- The gated hidden layer. -/
def exp373 : FVec F S16x1408 .bf16 :=
  k0_pay8 (exp350 W13 XB e he) (fun i => XB ((Rect.unit (s := S16x2816) ![0, 2048] S16x768.size inb_S16x2816_S16x768_0_2048).emb i))
    (expRows W13 e he 2048 768 (by decide)) (expRow S13 e he)

/-- The second product, over its first group of rows. -/
def exp388 : FVec F S16x2816 .f32 :=
  k0_pay9 (exp350 W13 XB e he) (fun i => XB ((Rect.unit (s := S16x2816) ![0, 2048] S16x768.size inb_S16x2816_S16x768_0_2048).emb i))
    (expRows W13 e he 2048 768 (by decide)) (expRow S13 e he) (expRows W2 e he 0 1024 (by decide))

/-- The expert's product. -/
def expY : FVec F S16x2816 .f32 :=
  k0_pay12 (exp373 W13 XB S13 e he) (exp388 W13 W2 XB S13 e he) (expRows W2 e he 1024 384 (by decide)) (expRow S2 e he)

/-- One expert's trip on the accumulator. -/
def stepE (v296 : IVec S16x128 32) (v301 : FVec F S16x128 .f32) (v306 : IVec S16x128 32) (v311 : FVec F S16x128 .f32)
    (X : S16x2816.Idx → Elt F .f32) : S16x2816.Idx → Elt F .f32 :=
  mix (k0_pay10 v296 v301 v306 v311 (BitVec.ofNat 32 e)) (k0_pay11 (F := F) v296 v306 (BitVec.ofNat 32 e)) (expY W13 W2 XB S13 S2 e he) X 2816

end Expert

/-- The accumulator after the first `k` active experts. -/
def accN (W13 : S8x2816x2816.Idx → Elt F .i8) (W2 : S8x1408x2816.Idx → Elt F .i8) (XB : S16x2816.Idx → Elt F .bf16) (S13 S2 : S8x2816.Idx → Elt F .f32)
    (v296 : IVec S16x128 32) (v301 : FVec F S16x128 .f32) (v306 : IVec S16x128 32) (v311 : FVec F S16x128 .f32)
    (X : S16x2816.Idx → Elt F .f32) (m : BitVec 32) : ℕ → S16x2816.Idx → Elt F .f32
  | 0 => X
  | k + 1 => stepE W13 W2 XB S13 S2 (ord m k) (ord_lt m k) v296 v301 v306 v311 (accN W13 W2 XB S13 S2 v296 v301 v306 v311 X m k)

variable (arg0 : Memref sig .tc .smem S9x2 .i32) (harg0 : arg0.IsWhole) (arg1 : Memref sig .tc .smem S9x2 .f32) (harg1 : arg1.IsWhole) (arg2 : Memref sig .tc .vmem S9x2816 .bf16) (harg2 : arg2.IsWhole) (arg3 : Memref sig .tc .vmem S8x2816 .f32) (harg3 : arg3.IsWhole) (arg4 : Memref sig .tc .vmem S8x2816 .f32) (harg4 : arg4.IsWhole) (arg5 : Memref sig .tc .hbm S8x2816x2816 .i8) (harg5 : arg5.IsWhole) (arg6 : Memref sig .tc .hbm S8x1408x2816 .i8) (harg6 : arg6.IsWhole) (arg7 : Memref sig .tc .vmem S9x2816 .bf16) (harg7 : arg7.IsWhole) (arg8 : Memref sig .tc .vmem S4x2816x2816 .i8) (harg8 : arg8.IsWhole) (arg9 : Memref sig .tc .vmem S4x1408x2816 .i8) (harg9 : arg9.IsWhole) (arg10 : Memref sig .tc .vmem S16x2816 .bf16) (harg10 : arg10.IsWhole) (arg11 : Memref sig .tc .vmem S16x2816 .f32) (harg11 : arg11.IsWhole) (arg12 : Memref sig .tc .smem S8 .i32) (harg12 : arg12.IsWhole) (arg13 : DmaSems sig S4x3) (arg14 : DmaSems sig S4x2)
variable (v0 v3 v6 v9 v12 v15 v18 v21 v24 v27 v30 v33 v36 v39 v42 v45 v48 v51 : BitVec 32)
variable (c : Dev nD)
  (q5 : Fin 12 → PosShare TreeShare) (q6 : Fin 8 → PosShare TreeShare)
  (f5 : Buf (Elt F) (arg5.view.loc (c : Thread nD τ))) (f6 : Buf (Elt F) (arg6.view.loc (c : Thread nD τ)))

theorem wp_done {α : Type} {Q : α → sProp 𝕄} {a : α} : Q a ⊢ wp frame (wpE (defs₀ (F := F)) Variants.none (c : Thread nD τ) none) Set.univ (Prog.ret a) Q := by
  rw [wp_ret]
  iintro H
  imodintro
  iexact H

/-- One trip. -/
theorem trip (hw1 : k0_chk1 v0 v3 v6 v9 v12 v15 v18 v21 v24 v27 v30 v33 v36 v39 v42 v45 v48 v51) (t : Fin (k0_t1_loop v0 v3 v6 v9 v12 v15 v18 v21 v24 v27 v30 v33 v36 v39 v42 v45 v48 v51).trips) (v101 : BitVec 32) (v127 : IVec S16x128 32) (v291 : FVec F S16x128 .f32) (v296 : IVec S16x128 32) (v301 : FVec F S16x128 .f32) (v306 : IVec S16x128 32) (c8 : BitVec 32) (v309 : Elt F .f32)
    (XB : S16x2816.Idx → Elt F .bf16) (S13 S2 : S8x2816.Idx → Elt F .f32) (X : S16x2816.Idx → Elt F .f32) (k : ℕ) (hk : k = t.val) (hka : k < act (mask v0 v3 v6 v9 v12 v15 v18 v21 v24 v27 v30 v33 v36 v39 v42 v45 v48 v51)) (hx : k % 4 < 4) :
    iprop(Table (F := F) c arg12 (mask v0 v3 v6 v9 v12 v15 v18 v21 v24 v27 v30 v33 v36 v39 v42 v45 v48 v51) 8
        ∗ Holds (Val := Elt F) (c : Thread nD τ) arg10 XB
        ∗ Holds (Val := Elt F) (c : Thread nD τ) arg3 S13
        ∗ Holds (Val := Elt F) (c : Thread nD τ) arg4 S2
        ∗ Holds (Val := Elt F) (c : Thread nD τ) arg11 X
        ∗ (gA c arg5 arg8 arg13 q5 f5 (k % 4) hx).Fly (mask v0 v3 v6 v9 v12 v15 v18 v21 v24 v27 v30 v33 v36 v39 v42 v45 v48 v51) k
        ∗ (gB c arg5 arg8 arg13 q5 f5 (k % 4) hx).Fly (mask v0 v3 v6 v9 v12 v15 v18 v21 v24 v27 v30 v33 v36 v39 v42 v45 v48 v51) k
        ∗ (gC c arg5 arg8 arg13 q5 f5 (k % 4) hx).Fly (mask v0 v3 v6 v9 v12 v15 v18 v21 v24 v27 v30 v33 v36 v39 v42 v45 v48 v51) k
        ∗ (gD c arg6 arg9 arg14 q6 f6 (k % 4) hx).Fly (mask v0 v3 v6 v9 v12 v15 v18 v21 v24 v27 v30 v33 v36 v39 v42 v45 v48 v51) k
        ∗ (gE c arg6 arg9 arg14 q6 f6 (k % 4) hx).Fly (mask v0 v3 v6 v9 v12 v15 v18 v21 v24 v27 v30 v33 v36 v39 v42 v45 v48 v51) k
        ∗ (∃ W, owes (c : Thread nD τ) 0 W))
      ⊢ wp frame (wpE (defs₀ (F := F)) Variants.none (c : Thread nD τ) none) Set.univ (k0_t1_body arg0 harg0 arg1 harg1 arg2 harg2 arg3 harg3 arg4 harg4 arg5 harg5 arg6 harg6 arg7 harg7 arg8 harg8 arg9 harg9 arg10 harg10 arg11 harg11 arg12 harg12 arg13 arg14 v0 v3 v6 v9 v12 v15 v18 v21 v24 v27 v30 v33 v36 v39 v42 v45 v48 v51 hw1 v101 v127 v291 v296 v301 v306 c8 v309 t ()) (fun _ => iprop(Table (F := F) c arg12 (mask v0 v3 v6 v9 v12 v15 v18 v21 v24 v27 v30 v33 v36 v39 v42 v45 v48 v51) 8
        ∗ Holds (Val := Elt F) (c : Thread nD τ) arg10 XB
        ∗ Holds (Val := Elt F) (c : Thread nD τ) arg3 S13
        ∗ Holds (Val := Elt F) (c : Thread nD τ) arg4 S2
        ∗ Holds (Val := Elt F) (c : Thread nD τ) arg11 (stepE (arg5.view.read (Elt F) f5) (arg6.view.read (Elt F) f6) XB S13 S2 (ord (mask v0 v3 v6 v9 v12 v15 v18 v21 v24 v27 v30 v33 v36 v39 v42 v45 v48 v51) k) (ord_lt (mask v0 v3 v6 v9 v12 v15 v18 v21 v24 v27 v30 v33 v36 v39 v42 v45 v48 v51) k) v296 v301 v306 (k0_pay1 v127 v291 c8 v309) X)
        ∗ (gA c arg5 arg8 arg13 q5 f5 (k % 4) hx).Next (mask v0 v3 v6 v9 v12 v15 v18 v21 v24 v27 v30 v33 v36 v39 v42 v45 v48 v51) (k + 4)
        ∗ (gB c arg5 arg8 arg13 q5 f5 (k % 4) hx).Next (mask v0 v3 v6 v9 v12 v15 v18 v21 v24 v27 v30 v33 v36 v39 v42 v45 v48 v51) (k + 4)
        ∗ (gC c arg5 arg8 arg13 q5 f5 (k % 4) hx).Next (mask v0 v3 v6 v9 v12 v15 v18 v21 v24 v27 v30 v33 v36 v39 v42 v45 v48 v51) (k + 4)
        ∗ (gD c arg6 arg9 arg14 q6 f6 (k % 4) hx).Next (mask v0 v3 v6 v9 v12 v15 v18 v21 v24 v27 v30 v33 v36 v39 v42 v45 v48 v51) (k + 4)
        ∗ (gE c arg6 arg9 arg14 q6 f6 (k % 4) hx).Next (mask v0 v3 v6 v9 v12 v15 v18 v21 v24 v27 v30 v33 v36 v39 v42 v45 v48 v51) (k + 4)
        ∗ (∃ W, owes (c : Thread nD τ) 0 W))) := by
  unfold k0_t1_body
  iintro ⟨HT, HX, H3, H4, HAcc, HA, HB, HC, HD, HE, HW⟩
  ihave HAcc := (show Holds (Val := Elt F) (c : Thread nD τ) arg11 X ⊢ Holds (Val := Elt F) (c : Thread nD τ) arg11 (mix (k0_pay10 v296 v301 v306 (k0_pay1 v127 v291 c8 v309) (ew (mask v0 v3 v6 v9 v12 v15 v18 v21 v24 v27 v30 v33 v36 v39 v42 v45 v48 v51) k)) (k0_pay11 (F := F) v296 v306 (ew (mask v0 v3 v6 v9 v12 v15 v18 v21 v24 v27 v30 v33 v36 v39 v42 v45 v48 v51) k)) (expY (arg5.view.read (Elt F) f5) (arg6.view.read (Elt F) f6) XB S13 S2 (ord (mask v0 v3 v6 v9 v12 v15 v18 v21 v24 v27 v30 v33 v36 v39 v42 v45 v48 v51) k) (ord_lt (mask v0 v3 v6 v9 v12 v15 v18 v21 v24 v27 v30 v33 v36 v39 v42 v45 v48 v51) k)) X 0) from by rw [mix_zero]) $$ HAcc
  iapply (part6 arg0 harg0 arg1 harg1 arg2 harg2 arg3 harg3 arg4 harg4 arg5 harg5 arg6 harg6 arg7 harg7 arg8 harg8 arg9 harg9 arg10 harg10 arg11 harg11 arg12 harg12 arg13 arg14 v0 v3 v6 v9 v12 v15 v18 v21 v24 v27 v30 v33 v36 v39 v42 v45 v48 v51 c q5 f5 hw1 t 0#32 1#32 XB k hk hka hx) $$ [HT HX HA HB HW]
  · isplitl [HT]; · iexact HT
    isplitl [HX]; · iexact HX
    isplitl [HA]; · iexact HA
    isplitl [HB]; · iexact HB
    iexact HW
  iintro ⟨HT, HX, HA, HB, HW⟩
  iapply (part7 arg0 harg0 arg1 harg1 arg2 harg2 arg3 harg3 arg4 harg4 arg5 harg5 arg6 harg6 arg7 harg7 arg8 harg8 arg9 harg9 arg10 harg10 arg11 harg11 arg12 harg12 arg13 arg14 v0 v3 v6 v9 v12 v15 v18 v21 v24 v27 v30 v33 v36 v39 v42 v45 v48 v51 c q5 q6 f5 f6 hw1 t k _ _ _ _ _ XB S13 hk hka hx) $$ [HT HX H3 HC HD HW]
  · isplitl [HT]; · iexact HT
    isplitl [HX]; · iexact HX
    isplitl [H3]; · iexact H3
    isplitl [HC]; · iexact HC
    isplitl [HD]; · iexact HD
    iexact HW
  iintro ⟨HT, HX, H3, HC, HD, HW⟩
  iapply (part8 arg0 harg0 arg1 harg1 arg2 harg2 arg3 harg3 arg4 harg4 arg5 harg5 arg6 harg6 arg7 harg7 arg8 harg8 arg9 harg9 arg10 harg10 arg11 harg11 arg12 harg12 arg13 arg14 v0 v3 v6 v9 v12 v15 v18 v21 v24 v27 v30 v33 v36 v39 v42 v45 v48 v51 c q5 q6 f5 f6 hw1 t v101 v296 v301 v306 (k0_pay1 v127 v291 c8 v309) _ k _ _ _ _ _ S2 (mix (k0_pay10 v296 v301 v306 (k0_pay1 v127 v291 c8 v309) (ew (mask v0 v3 v6 v9 v12 v15 v18 v21 v24 v27 v30 v33 v36 v39 v42 v45 v48 v51) k)) (k0_pay11 (F := F) v296 v306 (ew (mask v0 v3 v6 v9 v12 v15 v18 v21 v24 v27 v30 v33 v36 v39 v42 v45 v48 v51) k)) (expY (arg5.view.read (Elt F) f5) (arg6.view.read (Elt F) f6) XB S13 S2 (ord (mask v0 v3 v6 v9 v12 v15 v18 v21 v24 v27 v30 v33 v36 v39 v42 v45 v48 v51) k) (ord_lt (mask v0 v3 v6 v9 v12 v15 v18 v21 v24 v27 v30 v33 v36 v39 v42 v45 v48 v51) k)) X 0) hk hka hx) $$ [HT H4 HAcc HA HB HC HD HE HW]
  · isplitl [HT]; · iexact HT
    isplitl [H4]; · iexact H4
    isplitl [HAcc]; · iexact HAcc
    isplitl [HA]; · iexact HA
    isplitl [HB]; · iexact HB
    isplitl [HC]; · iexact HC
    isplitl [HD]; · iexact HD
    isplitl [HE]; · iexact HE
    iexact HW
  iintro ⟨HT, H4, HAcc, HA, HB, HC, HD, HE, HW⟩
  iapply (part9 arg0 harg0 arg1 harg1 arg2 harg2 arg3 harg3 arg4 harg4 arg5 harg5 arg6 harg6 arg7 harg7 arg8 harg8 arg9 harg9 arg10 harg10 arg11 harg11 arg12 harg12 arg13 arg14 c (k0_pay10 v296 v301 v306 (k0_pay1 v127 v291 c8 v309) (ew (mask v0 v3 v6 v9 v12 v15 v18 v21 v24 v27 v30 v33 v36 v39 v42 v45 v48 v51) k)) (k0_pay11 (F := F) v296 v306 (ew (mask v0 v3 v6 v9 v12 v15 v18 v21 v24 v27 v30 v33 v36 v39 v42 v45 v48 v51) k)) (expY (arg5.view.read (Elt F) f5) (arg6.view.read (Elt F) f6) XB S13 S2 (ord (mask v0 v3 v6 v9 v12 v15 v18 v21 v24 v27 v30 v33 v36 v39 v42 v45 v48 v51) k) (ord_lt (mask v0 v3 v6 v9 v12 v15 v18 v21 v24 v27 v30 v33 v36 v39 v42 v45 v48 v51) k)) X) $$ HAcc
  iintro HAcc
  iapply (part10 arg0 harg0 arg1 harg1 arg2 harg2 arg3 harg3 arg4 harg4 arg5 harg5 arg6 harg6 arg7 harg7 arg8 harg8 arg9 harg9 arg10 harg10 arg11 harg11 arg12 harg12 arg13 arg14 c (k0_pay10 v296 v301 v306 (k0_pay1 v127 v291 c8 v309) (ew (mask v0 v3 v6 v9 v12 v15 v18 v21 v24 v27 v30 v33 v36 v39 v42 v45 v48 v51) k)) (k0_pay11 (F := F) v296 v306 (ew (mask v0 v3 v6 v9 v12 v15 v18 v21 v24 v27 v30 v33 v36 v39 v42 v45 v48 v51) k)) (expY (arg5.view.read (Elt F) f5) (arg6.view.read (Elt F) f6) XB S13 S2 (ord (mask v0 v3 v6 v9 v12 v15 v18 v21 v24 v27 v30 v33 v36 v39 v42 v45 v48 v51) k) (ord_lt (mask v0 v3 v6 v9 v12 v15 v18 v21 v24 v27 v30 v33 v36 v39 v42 v45 v48 v51) k)) X) $$ HAcc
  iintro HAcc
  iapply (part11 arg0 harg0 arg1 harg1 arg2 harg2 arg3 harg3 arg4 harg4 arg5 harg5 arg6 harg6 arg7 harg7 arg8 harg8 arg9 harg9 arg10 harg10 arg11 harg11 arg12 harg12 arg13 arg14 c (k0_pay10 v296 v301 v306 (k0_pay1 v127 v291 c8 v309) (ew (mask v0 v3 v6 v9 v12 v15 v18 v21 v24 v27 v30 v33 v36 v39 v42 v45 v48 v51) k)) (k0_pay11 (F := F) v296 v306 (ew (mask v0 v3 v6 v9 v12 v15 v18 v21 v24 v27 v30 v33 v36 v39 v42 v45 v48 v51) k)) (expY (arg5.view.read (Elt F) f5) (arg6.view.read (Elt F) f6) XB S13 S2 (ord (mask v0 v3 v6 v9 v12 v15 v18 v21 v24 v27 v30 v33 v36 v39 v42 v45 v48 v51) k) (ord_lt (mask v0 v3 v6 v9 v12 v15 v18 v21 v24 v27 v30 v33 v36 v39 v42 v45 v48 v51) k)) X) $$ HAcc
  iintro HAcc
  iapply (part12 arg0 harg0 arg1 harg1 arg2 harg2 arg3 harg3 arg4 harg4 arg5 harg5 arg6 harg6 arg7 harg7 arg8 harg8 arg9 harg9 arg10 harg10 arg11 harg11 arg12 harg12 arg13 arg14 c (k0_pay10 v296 v301 v306 (k0_pay1 v127 v291 c8 v309) (ew (mask v0 v3 v6 v9 v12 v15 v18 v21 v24 v27 v30 v33 v36 v39 v42 v45 v48 v51) k)) (k0_pay11 (F := F) v296 v306 (ew (mask v0 v3 v6 v9 v12 v15 v18 v21 v24 v27 v30 v33 v36 v39 v42 v45 v48 v51) k)) (expY (arg5.view.read (Elt F) f5) (arg6.view.read (Elt F) f6) XB S13 S2 (ord (mask v0 v3 v6 v9 v12 v15 v18 v21 v24 v27 v30 v33 v36 v39 v42 v45 v48 v51) k) (ord_lt (mask v0 v3 v6 v9 v12 v15 v18 v21 v24 v27 v30 v33 v36 v39 v42 v45 v48 v51) k)) X) $$ HAcc
  iintro HAcc
  iapply (part13 arg0 harg0 arg1 harg1 arg2 harg2 arg3 harg3 arg4 harg4 arg5 harg5 arg6 harg6 arg7 harg7 arg8 harg8 arg9 harg9 arg10 harg10 arg11 harg11 arg12 harg12 arg13 arg14 c (k0_pay10 v296 v301 v306 (k0_pay1 v127 v291 c8 v309) (ew (mask v0 v3 v6 v9 v12 v15 v18 v21 v24 v27 v30 v33 v36 v39 v42 v45 v48 v51) k)) (k0_pay11 (F := F) v296 v306 (ew (mask v0 v3 v6 v9 v12 v15 v18 v21 v24 v27 v30 v33 v36 v39 v42 v45 v48 v51) k)) (expY (arg5.view.read (Elt F) f5) (arg6.view.read (Elt F) f6) XB S13 S2 (ord (mask v0 v3 v6 v9 v12 v15 v18 v21 v24 v27 v30 v33 v36 v39 v42 v45 v48 v51) k) (ord_lt (mask v0 v3 v6 v9 v12 v15 v18 v21 v24 v27 v30 v33 v36 v39 v42 v45 v48 v51) k)) X) $$ HAcc
  iintro HAcc
  iapply (wp_loadH Variants.none (c : Thread nD τ) none) $$ HAcc
  iintro HAcc
  iapply (wp_tile c 2560 2688 (by decide) (by decide) slices_S16x2816_o0_2560_S16x128 (w := _) rfl) $$ HAcc
  iintro HAcc
  iapply (wp_loadH Variants.none (c : Thread nD τ) none) $$ HAcc
  iintro HAcc
  iapply (wp_loadH Variants.none (c : Thread nD τ) none) $$ HAcc
  iintro HAcc
  iapply (wp_tile c 2688 2816 (by decide) (by decide) slices_S16x2816_o0_2688_S16x128 (w := _) rfl) $$ HAcc
  iintro HAcc
  iapply (wp_done c)
  isplitl [HT]; · iexact HT
  isplitl [HX]; · iexact HX
  isplitl [H3]; · iexact H3
  isplitl [H4]; · iexact H4
  isplitl [HAcc]; · iexact HAcc
  isplitl [HA]; · iexact HA
  isplitl [HB]; · iexact HB
  isplitl [HC]; · iexact HC
  isplitl [HD]; · iexact HD
  isplitl [HE]; · iexact HE
  iexact HW

end Cert.KernelIdeal.Hand

end
-- ==== Proof.IdealLoop.lean ====
/-
  The ring of slots, and the loop over the active experts.
-/
module

public import proofs.«01_k».proof.Proof.IdealTrip

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MoeWords Cert.MoeRing

variable {F : FTy → Type} [FloatOps F]

local notation "𝕄" => MT nD τ sig Unit (Elt F) ℕ (Pipeline.UD sig nD τ) ℕ

section Ring

variable (c : Dev nD) (arg5 : Memref sig .tc .hbm S8x2816x2816 .i8) (arg6 : Memref sig .tc .hbm S8x1408x2816 .i8)
  (arg8 : Memref sig .tc .vmem S4x2816x2816 .i8) (arg9 : Memref sig .tc .vmem S4x1408x2816 .i8)
  (arg13 : DmaSems sig S4x3) (arg14 : DmaSems sig S4x2)
  (q5 : Fin 12 → PosShare TreeShare) (q6 : Fin 8 → PosShare TreeShare)
  (f5 : Buf (Elt F) (arg5.view.loc (c : Thread nD τ))) (f6 : Buf (Elt F) (arg6.view.loc (c : Thread nD τ))) (m : BitVec 32)

/-- A slot of the ring, the next position it serves being `j`. -/
def Slot (x : ℕ) (hx : x < 4) (j : ℕ) : sProp 𝕄 :=
  iprop((gA c arg5 arg8 arg13 q5 f5 x hx).Next m j ∗ (gB c arg5 arg8 arg13 q5 f5 x hx).Next m j ∗ (gC c arg5 arg8 arg13 q5 f5 x hx).Next m j
    ∗ (gD c arg6 arg9 arg14 q6 f6 x hx).Next m j ∗ (gE c arg6 arg9 arg14 q6 f6 x hx).Next m j)

/-- A slot with no copy in flight. -/
def Rest (x : ℕ) (hx : x < 4) : sProp 𝕄 :=
  iprop((gA c arg5 arg8 arg13 q5 f5 x hx).Free ∗ (gB c arg5 arg8 arg13 q5 f5 x hx).Free ∗ (gC c arg5 arg8 arg13 q5 f5 x hx).Free
    ∗ (gD c arg6 arg9 arg14 q6 f6 x hx).Free ∗ (gE c arg6 arg9 arg14 q6 f6 x hx).Free)

theorem slot_rest (x : ℕ) (hx : x < 4) (j : ℕ) (hj : act m ≤ j) : Slot c arg5 arg6 arg8 arg9 arg13 arg14 q5 q6 f5 f6 m x hx j = Rest c arg5 arg6 arg8 arg9 arg13 arg14 q5 q6 f5 f6 x hx := by
  unfold Slot Rest Grp.Next
  rw [if_neg (by omega), if_neg (by omega), if_neg (by omega), if_neg (by omega), if_neg (by omega)]

theorem slot_fly (x : ℕ) (hx : x < 4) (j : ℕ) (hj : j < act m) : Slot c arg5 arg6 arg8 arg9 arg13 arg14 q5 q6 f5 f6 m x hx j = iprop((gA c arg5 arg8 arg13 q5 f5 x hx).Fly m j ∗ (gB c arg5 arg8 arg13 q5 f5 x hx).Fly m j ∗ (gC c arg5 arg8 arg13 q5 f5 x hx).Fly m j
    ∗ (gD c arg6 arg9 arg14 q6 f6 x hx).Fly m j ∗ (gE c arg6 arg9 arg14 q6 f6 x hx).Fly m j) := by
  unfold Slot Grp.Next
  rw [if_pos hj, if_pos hj, if_pos hj, if_pos hj, if_pos hj]

/-- The next position slot `x` serves, before trip `k`. -/
def nxt (k x : ℕ) : ℕ := k + (x + 4 - k % 4) % 4

/-- The ring before trip `k`. -/
def RingAt (k : ℕ) : sProp 𝕄 :=
  iprop(Slot c arg5 arg6 arg8 arg9 arg13 arg14 q5 q6 f5 f6 m 0 (by decide) (nxt k 0) ∗ Slot c arg5 arg6 arg8 arg9 arg13 arg14 q5 q6 f5 f6 m 1 (by decide) (nxt k 1)
    ∗ Slot c arg5 arg6 arg8 arg9 arg13 arg14 q5 q6 f5 f6 m 2 (by decide) (nxt k 2) ∗ Slot c arg5 arg6 arg8 arg9 arg13 arg14 q5 q6 f5 f6 m 3 (by decide) (nxt k 3))

theorem ring_rest (k : ℕ) (hk : act m ≤ k) : RingAt c arg5 arg6 arg8 arg9 arg13 arg14 q5 q6 f5 f6 m k ⊢ iprop(Rest c arg5 arg6 arg8 arg9 arg13 arg14 q5 q6 f5 f6 0 (by decide) ∗ Rest c arg5 arg6 arg8 arg9 arg13 arg14 q5 q6 f5 f6 1 (by decide)
    ∗ Rest c arg5 arg6 arg8 arg9 arg13 arg14 q5 q6 f5 f6 2 (by decide) ∗ Rest c arg5 arg6 arg8 arg9 arg13 arg14 q5 q6 f5 f6 3 (by decide)) := by
  unfold RingAt
  rw [slot_rest, slot_rest, slot_rest, slot_rest] <;> (unfold nxt; omega)

/-- The slot of trip `k`. -/
theorem ring_focus (k r : ℕ) (hr : r = k % 4) (hx : r < 4) :
    RingAt c arg5 arg6 arg8 arg9 arg13 arg14 q5 q6 f5 f6 m k ⊢ iprop(Slot c arg5 arg6 arg8 arg9 arg13 arg14 q5 q6 f5 f6 m r hx k ∗ (Slot c arg5 arg6 arg8 arg9 arg13 arg14 q5 q6 f5 f6 m r hx (k + 4) -∗ RingAt c arg5 arg6 arg8 arg9 arg13 arg14 q5 q6 f5 f6 m (k + 1))) := by
  unfold RingAt
  have cases4 : r = 0 ∨ r = 1 ∨ r = 2 ∨ r = 3 := by omega
  rcases cases4 with h | h | h | h <;> subst h
  · rw [show nxt k 0 = k from by unfold nxt; omega, show nxt k 1 = k + 1 from by unfold nxt; omega, show nxt k 2 = k + 2 from by unfold nxt; omega, show nxt k 3 = k + 3 from by unfold nxt; omega]
    rw [show nxt (k + 1) 0 = k + 4 from by unfold nxt; omega, show nxt (k + 1) 1 = k + 1 from by unfold nxt; omega, show nxt (k + 1) 2 = k + 2 from by unfold nxt; omega, show nxt (k + 1) 3 = k + 3 from by unfold nxt; omega]
    iintro ⟨H0, H1, H2, H3⟩
    isplitl [H0]; · iexact H0
    iintro H0
    isplitl [H0]; · iexact H0
    isplitl [H1]; · iexact H1
    isplitl [H2]; · iexact H2
    iexact H3
  · rw [show nxt k 0 = k + 3 from by unfold nxt; omega, show nxt k 1 = k from by unfold nxt; omega, show nxt k 2 = k + 1 from by unfold nxt; omega, show nxt k 3 = k + 2 from by unfold nxt; omega]
    rw [show nxt (k + 1) 0 = k + 3 from by unfold nxt; omega, show nxt (k + 1) 1 = k + 4 from by unfold nxt; omega, show nxt (k + 1) 2 = k + 1 from by unfold nxt; omega, show nxt (k + 1) 3 = k + 2 from by unfold nxt; omega]
    iintro ⟨H0, H1, H2, H3⟩
    isplitl [H1]; · iexact H1
    iintro H1
    isplitl [H0]; · iexact H0
    isplitl [H1]; · iexact H1
    isplitl [H2]; · iexact H2
    iexact H3
  · rw [show nxt k 0 = k + 2 from by unfold nxt; omega, show nxt k 1 = k + 3 from by unfold nxt; omega, show nxt k 2 = k from by unfold nxt; omega, show nxt k 3 = k + 1 from by unfold nxt; omega]
    rw [show nxt (k + 1) 0 = k + 2 from by unfold nxt; omega, show nxt (k + 1) 1 = k + 3 from by unfold nxt; omega, show nxt (k + 1) 2 = k + 4 from by unfold nxt; omega, show nxt (k + 1) 3 = k + 1 from by unfold nxt; omega]
    iintro ⟨H0, H1, H2, H3⟩
    isplitl [H2]; · iexact H2
    iintro H2
    isplitl [H0]; · iexact H0
    isplitl [H1]; · iexact H1
    isplitl [H2]; · iexact H2
    iexact H3
  · rw [show nxt k 0 = k + 1 from by unfold nxt; omega, show nxt k 1 = k + 2 from by unfold nxt; omega, show nxt k 2 = k + 3 from by unfold nxt; omega, show nxt k 3 = k from by unfold nxt; omega]
    rw [show nxt (k + 1) 0 = k + 1 from by unfold nxt; omega, show nxt (k + 1) 1 = k + 2 from by unfold nxt; omega, show nxt (k + 1) 2 = k + 3 from by unfold nxt; omega, show nxt (k + 1) 3 = k + 4 from by unfold nxt; omega]
    iintro ⟨H0, H1, H2, H3⟩
    isplitl [H3]; · iexact H3
    iintro H3
    isplitl [H0]; · iexact H0
    isplitl [H1]; · iexact H1
    isplitl [H2]; · iexact H2
    iexact H3

end Ring

variable (arg0 : Memref sig .tc .smem S9x2 .i32) (harg0 : arg0.IsWhole) (arg1 : Memref sig .tc .smem S9x2 .f32) (harg1 : arg1.IsWhole) (arg2 : Memref sig .tc .vmem S9x2816 .bf16) (harg2 : arg2.IsWhole) (arg3 : Memref sig .tc .vmem S8x2816 .f32) (harg3 : arg3.IsWhole) (arg4 : Memref sig .tc .vmem S8x2816 .f32) (harg4 : arg4.IsWhole) (arg5 : Memref sig .tc .hbm S8x2816x2816 .i8) (harg5 : arg5.IsWhole) (arg6 : Memref sig .tc .hbm S8x1408x2816 .i8) (harg6 : arg6.IsWhole) (arg7 : Memref sig .tc .vmem S9x2816 .bf16) (harg7 : arg7.IsWhole) (arg8 : Memref sig .tc .vmem S4x2816x2816 .i8) (harg8 : arg8.IsWhole) (arg9 : Memref sig .tc .vmem S4x1408x2816 .i8) (harg9 : arg9.IsWhole) (arg10 : Memref sig .tc .vmem S16x2816 .bf16) (harg10 : arg10.IsWhole) (arg11 : Memref sig .tc .vmem S16x2816 .f32) (harg11 : arg11.IsWhole) (arg12 : Memref sig .tc .smem S8 .i32) (harg12 : arg12.IsWhole) (arg13 : DmaSems sig S4x3) (arg14 : DmaSems sig S4x2)
variable (v0 v3 v6 v9 v12 v15 v18 v21 v24 v27 v30 v33 v36 v39 v42 v45 v48 v51 : BitVec 32)
variable (c : Dev nD)
  (q5 : Fin 12 → PosShare TreeShare) (q6 : Fin 8 → PosShare TreeShare)
  (f5 : Buf (Elt F) (arg5.view.loc (c : Thread nD τ))) (f6 : Buf (Elt F) (arg6.view.loc (c : Thread nD τ)))

/-- One trip, on the whole ring. -/
theorem trip_ring (hw1 : k0_chk1 v0 v3 v6 v9 v12 v15 v18 v21 v24 v27 v30 v33 v36 v39 v42 v45 v48 v51) (v101 : BitVec 32) (v127 : IVec S16x128 32) (v291 : FVec F S16x128 .f32) (v296 : IVec S16x128 32) (v301 : FVec F S16x128 .f32) (v306 : IVec S16x128 32) (c8 : BitVec 32) (v309 : Elt F .f32)
    (XB : S16x2816.Idx → Elt F .bf16) (S13 S2 : S8x2816.Idx → Elt F .f32) (X : S16x2816.Idx → Elt F .f32) (t : Fin (k0_t1_loop v0 v3 v6 v9 v12 v15 v18 v21 v24 v27 v30 v33 v36 v39 v42 v45 v48 v51).trips) :
    iprop(Table (F := F) c arg12 (mask v0 v3 v6 v9 v12 v15 v18 v21 v24 v27 v30 v33 v36 v39 v42 v45 v48 v51) 8
        ∗ Holds (Val := Elt F) (c : Thread nD τ) arg10 XB
        ∗ Holds (Val := Elt F) (c : Thread nD τ) arg3 S13
        ∗ Holds (Val := Elt F) (c : Thread nD τ) arg4 S2
        ∗ Holds (Val := Elt F) (c : Thread nD τ) arg11 (accN (arg5.view.read (Elt F) f5) (arg6.view.read (Elt F) f6) XB S13 S2 v296 v301 v306 (k0_pay1 v127 v291 c8 v309) X (mask v0 v3 v6 v9 v12 v15 v18 v21 v24 v27 v30 v33 v36 v39 v42 v45 v48 v51) t.val)
        ∗ RingAt c arg5 arg6 arg8 arg9 arg13 arg14 q5 q6 f5 f6 (mask v0 v3 v6 v9 v12 v15 v18 v21 v24 v27 v30 v33 v36 v39 v42 v45 v48 v51) t.val
        ∗ (∃ W, owes (c : Thread nD τ) 0 W))
      ⊢ wp frame (wpE (defs₀ (F := F)) Variants.none (c : Thread nD τ) none) Set.univ (k0_t1_body arg0 harg0 arg1 harg1 arg2 harg2 arg3 harg3 arg4 harg4 arg5 harg5 arg6 harg6 arg7 harg7 arg8 harg8 arg9 harg9 arg10 harg10 arg11 harg11 arg12 harg12 arg13 arg14 v0 v3 v6 v9 v12 v15 v18 v21 v24 v27 v30 v33 v36 v39 v42 v45 v48 v51 hw1 v101 v127 v291 v296 v301 v306 c8 v309 t ()) (fun _ => iprop(Table (F := F) c arg12 (mask v0 v3 v6 v9 v12 v15 v18 v21 v24 v27 v30 v33 v36 v39 v42 v45 v48 v51) 8
        ∗ Holds (Val := Elt F) (c : Thread nD τ) arg10 XB
        ∗ Holds (Val := Elt F) (c : Thread nD τ) arg3 S13
        ∗ Holds (Val := Elt F) (c : Thread nD τ) arg4 S2
        ∗ Holds (Val := Elt F) (c : Thread nD τ) arg11 (accN (arg5.view.read (Elt F) f5) (arg6.view.read (Elt F) f6) XB S13 S2 v296 v301 v306 (k0_pay1 v127 v291 c8 v309) X (mask v0 v3 v6 v9 v12 v15 v18 v21 v24 v27 v30 v33 v36 v39 v42 v45 v48 v51) (t.val + 1))
        ∗ RingAt c arg5 arg6 arg8 arg9 arg13 arg14 q5 q6 f5 f6 (mask v0 v3 v6 v9 v12 v15 v18 v21 v24 v27 v30 v33 v36 v39 v42 v45 v48 v51) (t.val + 1)
        ∗ (∃ W, owes (c : Thread nD τ) 0 W))) := by
  have hka : t.val < act (mask v0 v3 v6 v9 v12 v15 v18 v21 v24 v27 v30 v33 v36 v39 v42 v45 v48 v51) := t1_lt t
  have hx : t.val % 4 < 4 := Nat.mod_lt _ (by decide)
  iintro ⟨HT, HX, H3, H4, HAcc, HR, HW⟩
  ihave HR := (ring_focus c arg5 arg6 arg8 arg9 arg13 arg14 q5 q6 f5 f6 (mask v0 v3 v6 v9 v12 v15 v18 v21 v24 v27 v30 v33 v36 v39 v42 v45 v48 v51) t.val (t.val % 4) rfl hx) $$ HR
  icases HR with ⟨HS, HR⟩
  ihave HS := (show Slot c arg5 arg6 arg8 arg9 arg13 arg14 q5 q6 f5 f6 (mask v0 v3 v6 v9 v12 v15 v18 v21 v24 v27 v30 v33 v36 v39 v42 v45 v48 v51) (t.val % 4) hx t.val ⊢ _ from .of_eq (slot_fly c arg5 arg6 arg8 arg9 arg13 arg14 q5 q6 f5 f6 (mask v0 v3 v6 v9 v12 v15 v18 v21 v24 v27 v30 v33 v36 v39 v42 v45 v48 v51) (t.val % 4) hx t.val hka)) $$ HS
  icases HS with ⟨HA, HB, HC, HD, HE⟩
  iapply (wp_wand_r _ _ _)
  isplitl [HT HX H3 H4 HAcc HA HB HC HD HE HW]
  · iapply (trip arg0 harg0 arg1 harg1 arg2 harg2 arg3 harg3 arg4 harg4 arg5 harg5 arg6 harg6 arg7 harg7 arg8 harg8 arg9 harg9 arg10 harg10 arg11 harg11 arg12 harg12 arg13 arg14 v0 v3 v6 v9 v12 v15 v18 v21 v24 v27 v30 v33 v36 v39 v42 v45 v48 v51 c q5 q6 f5 f6 hw1 t v101 v127 v291 v296 v301 v306 c8 v309 XB S13 S2 _ t.val rfl hka hx) $$ [HT HX H3 H4 HAcc HA HB HC HD HE HW]
    isplitl [HT]; · iexact HT
    isplitl [HX]; · iexact HX
    isplitl [H3]; · iexact H3
    isplitl [H4]; · iexact H4
    isplitl [HAcc]; · iexact HAcc
    isplitl [HA]; · iexact HA
    isplitl [HB]; · iexact HB
    isplitl [HC]; · iexact HC
    isplitl [HD]; · iexact HD
    isplitl [HE]; · iexact HE
    iexact HW
  iintro %u ⟨HT, HX, H3, H4, HAcc, HA, HB, HC, HD, HE, HW⟩
  isplitl [HT]; · iexact HT
  isplitl [HX]; · iexact HX
  isplitl [H3]; · iexact H3
  isplitl [H4]; · iexact H4
  isplitl [HAcc]; · iexact HAcc
  isplitl [HR HA HB HC HD HE]
  · iapply HR
    unfold Slot
    isplitl [HA]; · iexact HA
    isplitl [HB]; · iexact HB
    isplitl [HC]; · iexact HC
    isplitl [HD]; · iexact HD
    iexact HE
  iexact HW

/-- The loop over the active experts. -/
theorem loop1 {α : Type} {Q : α → sProp 𝕄} (hw1 : k0_chk1 v0 v3 v6 v9 v12 v15 v18 v21 v24 v27 v30 v33 v36 v39 v42 v45 v48 v51) (v101 : BitVec 32) (v127 : IVec S16x128 32) (v291 : FVec F S16x128 .f32) (v296 : IVec S16x128 32) (v301 : FVec F S16x128 .f32) (v306 : IVec S16x128 32) (c8 : BitVec 32) (v309 : Elt F .f32)
    (XB : S16x2816.Idx → Elt F .bf16) (S13 S2 : S8x2816.Idx → Elt F .f32) (X : S16x2816.Idx → Elt F .f32)
    {kk : Unit → Prog (TpuEff nD τ sig (Elt F) Λ₀ .tc) α} :
    iprop(Table (F := F) c arg12 (mask v0 v3 v6 v9 v12 v15 v18 v21 v24 v27 v30 v33 v36 v39 v42 v45 v48 v51) 8
        ∗ Holds (Val := Elt F) (c : Thread nD τ) arg10 XB
        ∗ Holds (Val := Elt F) (c : Thread nD τ) arg3 S13
        ∗ Holds (Val := Elt F) (c : Thread nD τ) arg4 S2
        ∗ Holds (Val := Elt F) (c : Thread nD τ) arg11 (accN (arg5.view.read (Elt F) f5) (arg6.view.read (Elt F) f6) XB S13 S2 v296 v301 v306 (k0_pay1 v127 v291 c8 v309) X (mask v0 v3 v6 v9 v12 v15 v18 v21 v24 v27 v30 v33 v36 v39 v42 v45 v48 v51) 0)
        ∗ RingAt c arg5 arg6 arg8 arg9 arg13 arg14 q5 q6 f5 f6 (mask v0 v3 v6 v9 v12 v15 v18 v21 v24 v27 v30 v33 v36 v39 v42 v45 v48 v51) 0
        ∗ (∃ W, owes (c : Thread nD τ) 0 W))
      ⊢ iprop((iprop(Table (F := F) c arg12 (mask v0 v3 v6 v9 v12 v15 v18 v21 v24 v27 v30 v33 v36 v39 v42 v45 v48 v51) 8
        ∗ Holds (Val := Elt F) (c : Thread nD τ) arg10 XB
        ∗ Holds (Val := Elt F) (c : Thread nD τ) arg3 S13
        ∗ Holds (Val := Elt F) (c : Thread nD τ) arg4 S2
        ∗ Holds (Val := Elt F) (c : Thread nD τ) arg11 (accN (arg5.view.read (Elt F) f5) (arg6.view.read (Elt F) f6) XB S13 S2 v296 v301 v306 (k0_pay1 v127 v291 c8 v309) X (mask v0 v3 v6 v9 v12 v15 v18 v21 v24 v27 v30 v33 v36 v39 v42 v45 v48 v51) (act (mask v0 v3 v6 v9 v12 v15 v18 v21 v24 v27 v30 v33 v36 v39 v42 v45 v48 v51)))
        ∗ RingAt c arg5 arg6 arg8 arg9 arg13 arg14 q5 q6 f5 f6 (mask v0 v3 v6 v9 v12 v15 v18 v21 v24 v27 v30 v33 v36 v39 v42 v45 v48 v51) (act (mask v0 v3 v6 v9 v12 v15 v18 v21 v24 v27 v30 v33 v36 v39 v42 v45 v48 v51))
        ∗ (∃ W, owes (c : Thread nD τ) 0 W)) -∗ wp frame (wpE (defs₀ (F := F)) Variants.none (c : Thread nD τ) none) Set.univ (kk ()) Q)
        -∗ wp frame (wpE (defs₀ (F := F)) Variants.none (c : Thread nD τ) none) Set.univ (Scf.Loop.for (k0_t1_loop v0 v3 v6 v9 v12 v15 v18 v21 v24 v27 v30 v33 v36 v39 v42 v45 v48 v51) (k0_t1_ok v0 v3 v6 v9 v12 v15 v18 v21 v24 v27 v30 v33 v36 v39 v42 v45 v48 v51 hw1) ⟨⟩ (k0_t1_body arg0 harg0 arg1 harg1 arg2 harg2 arg3 harg3 arg4 harg4 arg5 harg5 arg6 harg6 arg7 harg7 arg8 harg8 arg9 harg9 arg10 harg10 arg11 harg11 arg12 harg12 arg13 arg14 v0 v3 v6 v9 v12 v15 v18 v21 v24 v27 v30 v33 v36 v39 v42 v45 v48 v51 hw1 v101 v127 v291 v296 v301 v306 c8 v309) >>= kk) Q) := by
  iintro H HK
  iapply (Scf.wp_for_bind _ _ _ _ _ _ (k0_t1_ok v0 v3 v6 v9 v12 v15 v18 v21 v24 v27 v30 v33 v36 v39 v42 v45 v48 v51 hw1) () (k0_t1_body arg0 harg0 arg1 harg1 arg2 harg2 arg3 harg3 arg4 harg4 arg5 harg5 arg6 harg6 arg7 harg7 arg8 harg8 arg9 harg9 arg10 harg10 arg11 harg11 arg12 harg12 arg13 arg14 v0 v3 v6 v9 v12 v15 v18 v21 v24 v27 v30 v33 v36 v39 v42 v45 v48 v51 hw1 v101 v127 v291 v296 v301 v306 c8 v309)
    (fun k _ => iprop(Table (F := F) c arg12 (mask v0 v3 v6 v9 v12 v15 v18 v21 v24 v27 v30 v33 v36 v39 v42 v45 v48 v51) 8
        ∗ Holds (Val := Elt F) (c : Thread nD τ) arg10 XB
        ∗ Holds (Val := Elt F) (c : Thread nD τ) arg3 S13
        ∗ Holds (Val := Elt F) (c : Thread nD τ) arg4 S2
        ∗ Holds (Val := Elt F) (c : Thread nD τ) arg11 (accN (arg5.view.read (Elt F) f5) (arg6.view.read (Elt F) f6) XB S13 S2 v296 v301 v306 (k0_pay1 v127 v291 c8 v309) X (mask v0 v3 v6 v9 v12 v15 v18 v21 v24 v27 v30 v33 v36 v39 v42 v45 v48 v51) k)
        ∗ RingAt c arg5 arg6 arg8 arg9 arg13 arg14 q5 q6 f5 f6 (mask v0 v3 v6 v9 v12 v15 v18 v21 v24 v27 v30 v33 v36 v39 v42 v45 v48 v51) k
        ∗ (∃ W, owes (c : Thread nD τ) 0 W))) (fun k u => trip_ring arg0 harg0 arg1 harg1 arg2 harg2 arg3 harg3 arg4 harg4 arg5 harg5 arg6 harg6 arg7 harg7 arg8 harg8 arg9 harg9 arg10 harg10 arg11 harg11 arg12 harg12 arg13 arg14 v0 v3 v6 v9 v12 v15 v18 v21 v24 v27 v30 v33 v36 v39 v42 v45 v48 v51 c q5 q6 f5 f6 hw1 v101 v127 v291 v296 v301 v306 c8 v309 XB S13 S2 X k)) $$ H
  iintro %u H
  iapply HK
  ihave H := (show iprop(Table (F := F) c arg12 (mask v0 v3 v6 v9 v12 v15 v18 v21 v24 v27 v30 v33 v36 v39 v42 v45 v48 v51) 8
        ∗ Holds (Val := Elt F) (c : Thread nD τ) arg10 XB
        ∗ Holds (Val := Elt F) (c : Thread nD τ) arg3 S13
        ∗ Holds (Val := Elt F) (c : Thread nD τ) arg4 S2
        ∗ Holds (Val := Elt F) (c : Thread nD τ) arg11 (accN (arg5.view.read (Elt F) f5) (arg6.view.read (Elt F) f6) XB S13 S2 v296 v301 v306 (k0_pay1 v127 v291 c8 v309) X (mask v0 v3 v6 v9 v12 v15 v18 v21 v24 v27 v30 v33 v36 v39 v42 v45 v48 v51) (Scf.trips (k0_t1_loop v0 v3 v6 v9 v12 v15 v18 v21 v24 v27 v30 v33 v36 v39 v42 v45 v48 v51).lb (k0_t1_loop v0 v3 v6 v9 v12 v15 v18 v21 v24 v27 v30 v33 v36 v39 v42 v45 v48 v51).ub (k0_t1_loop v0 v3 v6 v9 v12 v15 v18 v21 v24 v27 v30 v33 v36 v39 v42 v45 v48 v51).st))
        ∗ RingAt c arg5 arg6 arg8 arg9 arg13 arg14 q5 q6 f5 f6 (mask v0 v3 v6 v9 v12 v15 v18 v21 v24 v27 v30 v33 v36 v39 v42 v45 v48 v51) (Scf.trips (k0_t1_loop v0 v3 v6 v9 v12 v15 v18 v21 v24 v27 v30 v33 v36 v39 v42 v45 v48 v51).lb (k0_t1_loop v0 v3 v6 v9 v12 v15 v18 v21 v24 v27 v30 v33 v36 v39 v42 v45 v48 v51).ub (k0_t1_loop v0 v3 v6 v9 v12 v15 v18 v21 v24 v27 v30 v33 v36 v39 v42 v45 v48 v51).st)
        ∗ (∃ W, owes (c : Thread nD τ) 0 W)) ⊢ iprop(Table (F := F) c arg12 (mask v0 v3 v6 v9 v12 v15 v18 v21 v24 v27 v30 v33 v36 v39 v42 v45 v48 v51) 8
        ∗ Holds (Val := Elt F) (c : Thread nD τ) arg10 XB
        ∗ Holds (Val := Elt F) (c : Thread nD τ) arg3 S13
        ∗ Holds (Val := Elt F) (c : Thread nD τ) arg4 S2
        ∗ Holds (Val := Elt F) (c : Thread nD τ) arg11 (accN (arg5.view.read (Elt F) f5) (arg6.view.read (Elt F) f6) XB S13 S2 v296 v301 v306 (k0_pay1 v127 v291 c8 v309) X (mask v0 v3 v6 v9 v12 v15 v18 v21 v24 v27 v30 v33 v36 v39 v42 v45 v48 v51) (act (mask v0 v3 v6 v9 v12 v15 v18 v21 v24 v27 v30 v33 v36 v39 v42 v45 v48 v51)))
        ∗ RingAt c arg5 arg6 arg8 arg9 arg13 arg14 q5 q6 f5 f6 (mask v0 v3 v6 v9 v12 v15 v18 v21 v24 v27 v30 v33 v36 v39 v42 v45 v48 v51) (act (mask v0 v3 v6 v9 v12 v15 v18 v21 v24 v27 v30 v33 v36 v39 v42 v45 v48 v51))
        ∗ (∃ W, owes (c : Thread nD τ) 0 W)) from by
    rw [show Scf.trips (k0_t1_loop v0 v3 v6 v9 v12 v15 v18 v21 v24 v27 v30 v33 v36 v39 v42 v45 v48 v51).lb (k0_t1_loop v0 v3 v6 v9 v12 v15 v18 v21 v24 v27 v30 v33 v36 v39 v42 v45 v48 v51).ub (k0_t1_loop v0 v3 v6 v9 v12 v15 v18 v21 v24 v27 v30 v33 v36 v39 v42 v45 v48 v51).st = act (mask v0 v3 v6 v9 v12 v15 v18 v21 v24 v27 v30 v33 v36 v39 v42 v45 v48 v51) from trips1]) $$ H
  iexact H

end Cert.KernelIdeal.Hand

end
-- ==== Proof.IdealPrefix.lean ====
/-
  What runs before the loop.
-/
module

public import proofs.«01_k».proof.Proof.IdealStarts
public import proofs.«01_k».proof.Proof.IdealLoop
public import Idealize.ShloMosaic.Lib.Pointwise.Index

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MoeWords Cert.MoeRing

variable {F : FTy → Type} [FloatOps F]

local notation "𝕄" => MT nD τ sig Unit (Elt F) ℕ (Pipeline.UD sig nD τ) ℕ

section

variable (c : Dev nD)

theorem lt0_4 : 0 < 4 := by decide
theorem lt1_4 : 1 < 4 := by decide
theorem lt2_4 : 2 < 4 := by decide
theorem lt3_4 : 3 < 4 := by decide

theorem wp_pure {α β : Type} {Q : α → sProp 𝕄} {a : β} {kk : β → Prog (TpuEff nD τ sig (Elt F) Λ₀ .tc) α} :
    wp frame (wpE (defs₀ (F := F)) Variants.none (c : Thread nD τ) none) Set.univ (kk a) Q ⊢ wp frame (wpE (defs₀ (F := F)) Variants.none (c : Thread nD τ) none) Set.univ (Prog.bind (Prog.ret a) kk) Q := .rfl

/-- The index of row `i` and column `j` of the small arrays. -/
def at92 (i : Fin 9) (j : Fin 2) : S9x2.Idx := ix2 i j

theorem emb_at92 {off : Fin 2 → ℕ} {h : ∀ a, off a + S1x1.size a ≤ S9x2.size a} {i : Fin 9} {j : Fin 2} (ho : off = ![i.val, j.val])
    (x : (Rect.unit (s := S9x2) off S1x1.size h).shape.Idx) : (Rect.unit (s := S9x2) off S1x1.size h).emb x = at92 i j := by
  subst ho
  funext a
  apply Fin.ext
  rw [Rect.emb_apply]
  have hx := (x a).isLt
  fin_cases a
  · have : (x 0).val < 1 := hx
    change i.val + 1 * (x 0).val = i.val
    omega
  · have : (x 1).val < 1 := hx
    change j.val + 1 * (x 1).val = j.val
    omega

/-- The load of one word of a small array. -/
theorem wp_at {α : Type} {Q : α → sProp 𝕄} {e : EltTy} {m : Memref sig .tc .smem S9x2 e} {X : S9x2.Idx → Elt F e} (i : Fin 9) (j : Fin 2)
    {off : Fin 2 → ℕ} {h : ∀ a, off a + S1x1.size a ≤ S9x2.size a} {hl : m.view.LoadsAt (Rect.unit (s := S9x2) off S1x1.size h).toLoadRect}
    {k : (S1x1.Idx → Elt F e) → Prog (TpuEff nD τ sig (Elt F) Λ₀ .tc) α} (ho : off = ![i.val, j.val]) :
    Holds (Val := Elt F) (c : Thread nD τ) m X ⊢ iprop((Holds (Val := Elt F) (c : Thread nD τ) m X -∗ wp frame (wpE (defs₀ (F := F)) Variants.none (c : Thread nD τ) none) Set.univ (k (fun _ => X (at92 i j))) Q)
      -∗ wp frame (wpE (defs₀ (F := F)) Variants.none (c : Thread nD τ) none) Set.univ (.op (.load m (Rect.unit (s := S9x2) off S1x1.size h).toLoadRect hl) k) Q) := by
  iintro HT Hk
  iapply (wp_loadH Variants.none (c : Thread nD τ) none (X := X)) $$ HT
  iintro HT
  rw [show (fun x : (Rect.unit (s := S9x2) off S1x1.size h).shape.Idx => X ((Rect.unit (s := S9x2) off S1x1.size h).emb x)) = fun _ => X (at92 i j) from funext fun x => congrArg X (emb_at92 ho x)]
  iapply Hk
  iexact HT

/-- A branch whose two sides go on alike. -/
theorem wp_joinD {α β : Type} {Q : α → sProp 𝕄} {S S1 : sProp 𝕄} {C : Prop} {dec : Decidable C} {p : C → Prog (TpuEff nD τ sig (Elt F) Λ₀ .tc) β}
    {K : Prog (TpuEff nD τ sig (Elt F) Λ₀ .tc) β} {k : β → Prog (TpuEff nD τ sig (Elt F) Λ₀ .tc) α}
    (hK : S1 ⊢ wp frame (wpE (defs₀ (F := F)) Variants.none (c : Thread nD τ) none) Set.univ (Prog.bind K k) Q) (h1 : (S1 ⊢ wp frame (wpE (defs₀ (F := F)) Variants.none (c : Thread nD τ) none) Set.univ (Prog.bind K k) Q) → ∀ h : C, S ⊢ wp frame (wpE (defs₀ (F := F)) Variants.none (c : Thread nD τ) none) Set.univ (Prog.bind (p h) k) Q) (h2 : ¬C → S ⊢ S1) :
    S ⊢ wp frame (wpE (defs₀ (F := F)) Variants.none (c : Thread nD τ) none) Set.univ (Prog.bind (dite C p (fun _ => K)) k) Q := by
  by_cases h : C
  · rw [dif_pos h]; exact h1 hK h
  · rw [dif_neg h]; exact BIBase.Entails.trans (h2 h) hK

theorem wp_joinI {α β : Type} {Q : α → sProp 𝕄} {S S1 : sProp 𝕄} {C : Prop} {dec : Decidable C} {p : Prog (TpuEff nD τ sig (Elt F) Λ₀ .tc) β}
    {K : Prog (TpuEff nD τ sig (Elt F) Λ₀ .tc) β} {k : β → Prog (TpuEff nD τ sig (Elt F) Λ₀ .tc) α}
    (hK : S1 ⊢ wp frame (wpE (defs₀ (F := F)) Variants.none (c : Thread nD τ) none) Set.univ (Prog.bind K k) Q) (h1 : (S1 ⊢ wp frame (wpE (defs₀ (F := F)) Variants.none (c : Thread nD τ) none) Set.univ (Prog.bind K k) Q) → C → S ⊢ wp frame (wpE (defs₀ (F := F)) Variants.none (c : Thread nD τ) none) Set.univ (Prog.bind p k) Q) (h2 : ¬C → S ⊢ S1) :
    S ⊢ wp frame (wpE (defs₀ (F := F)) Variants.none (c : Thread nD τ) none) Set.univ (Prog.bind (ite C p K) k) Q := by
  by_cases h : C
  · rw [if_pos h]; exact h1 hK h
  · rw [if_neg h]; exact BIBase.Entails.trans (h2 h) hK

theorem Tab.put {m : BitVec 32} {e : ℕ} (he : e < 8) (hb : bit m e = 1#32) {T : S8.Idx → BitVec 32} (h : Tab m e T) :
    Tab m (e + 1) (fun i => if (i 0).val = num m e then BitVec.ofNat 32 e else T i) := by
  intro e' he' hb' i hi
  rcases Nat.lt_succ_iff_lt_or_eq.mp he' with hl | rfl
  · have hne : (i 0).val ≠ num m e := fun hh => absurd (num_inj m (by omega) he hb' hb (hi.symm.trans hh)) (by omega)
    show (if (i 0).val = num m e then _ else _) = _
    rw [if_neg hne]
    exact h e' hl hb' i hi
  · show (if (i 0).val = num m e' then _ else _) = _
    rw [if_pos hi]

theorem Tab.skip {m : BitVec 32} {e : ℕ} (hb : ¬bit m e = 1#32) {T : S8.Idx → BitVec 32} (h : Tab m e T) : Tab m (e + 1) T := by
  intro e' he' hb' i hi
  rcases Nat.lt_succ_iff_lt_or_eq.mp he' with hl | rfl
  · exact h e' hl hb' i hi
  · exact absurd hb' hb

theorem Table.skip {arg12 : Memref sig .tc .smem S8 .i32} {m : BitVec 32} {e : ℕ} (hb : ¬bit m e = 1#32) :
    Table (F := F) c arg12 m e ⊢ Table (F := F) c arg12 m (e + 1) := by
  unfold Table
  iintro ⟨%T, %hT, HT⟩
  iexists T
  isplitr
  · ipureintro; exact hT.skip hb
  iexact HT

/-- Writing an active expert into the table. -/
theorem wp_put {α : Type} {Q : α → sProp 𝕄} {arg12 : Memref sig .tc .smem S8 .i32} {m : BitVec 32} {e : ℕ} (he : e < 8) (hb : bit m e = 1#32)
    {off : Fin 1 → ℕ} {h : ∀ a, off a + S1.size a ≤ S8.size a} {hl : arg12.view.LoadsAt (Rect.unit (s := S8) off S1.size h).toLoadRect}
    {w : BitVec 32} {hx : (arg12.access (Rect.unit (s := S8) off S1.size h)).Stores Finset.univ}
    {hm : (Finset.univ : Finset (Rect.unit (s := S8) off S1.size h).shape.Idx) = Finset.univ ∨ ∀ a, (Rect.unit (s := S8) off S1.size h).stride a = 1}
    {k : PUnit → Prog (TpuEff nD τ sig (Elt F) Λ₀ .tc) α} (hoff : off = ![num m e]) (hw : w = BitVec.ofNat 32 e) :
    Table (F := F) c arg12 m e ⊢ iprop((Table (F := F) c arg12 m (e + 1) -∗ wp frame (wpE (defs₀ (F := F)) Variants.none (c : Thread nD τ) none) Set.univ (k ⟨⟩) Q)
      -∗ wp frame (wpE (defs₀ (F := F)) Variants.none (c : Thread nD τ) none) Set.univ (.op (.load arg12 (Rect.unit (s := S8) off S1.size h).toLoadRect hl) fun _ =>
        .op (.store arg12 (Rect.unit (s := S8) off S1.size h) (fun _ => w) Finset.univ hx hm) k) Q) := by
  subst hoff hw
  unfold Table
  iintro ⟨%T, %hT, HT⟩ Hk
  iapply (wp_loadH Variants.none (c : Thread nD τ) none (X := T)) $$ HT
  iintro HT
  iapply (wp_storeH Variants.none (c : Thread nD τ) none (X := T) (fun i => if (i 0).val = num m e then BitVec.ofNat 32 e else T i)
    (fun x => if_pos (emb_word _ x)) (fun y hy => if_neg fun hh => hy (by
      rw [Rect.mem_set_unit]
      intro a
      rw [Fin.eq_zero a]
      exact ⟨le_of_eq hh.symm, lt_of_eq_of_lt hh (Nat.lt_succ_self _)⟩))) $$ HT
  iintro HT
  iapply Hk
  iexists _
  isplitr
  · ipureintro; exact hT.put he hb
  iexact HT

section

variable (arg5 : Memref sig .tc .hbm S8x2816x2816 .i8) (arg6 : Memref sig .tc .hbm S8x1408x2816 .i8)
  (arg8 : Memref sig .tc .vmem S4x2816x2816 .i8) (arg9 : Memref sig .tc .vmem S4x1408x2816 .i8)
  (arg13 : DmaSems sig S4x3) (arg14 : DmaSems sig S4x2)
  (q5 : Fin 12 → PosShare TreeShare) (q6 : Fin 8 → PosShare TreeShare)
  (f5 : Buf (Elt F) (arg5.view.loc (c : Thread nD τ))) (f6 : Buf (Elt F) (arg6.view.loc (c : Thread nD τ)))

theorem rest_open (x : ℕ) (hx : x < 4) : Rest c arg5 arg6 arg8 arg9 arg13 arg14 q5 q6 f5 f6 x hx ⊢ iprop((gA c arg5 arg8 arg13 q5 f5 x hx).Free ∗ (gB c arg5 arg8 arg13 q5 f5 x hx).Free ∗ (gC c arg5 arg8 arg13 q5 f5 x hx).Free ∗ (gD c arg6 arg9 arg14 q6 f6 x hx).Free ∗ (gE c arg6 arg9 arg14 q6 f6 x hx).Free) := by
  unfold Rest; exact .rfl

theorem slot_mk (m : BitVec 32) (x : ℕ) (hx : x < 4) (j : ℕ) (hj : j < act m) : iprop((gA c arg5 arg8 arg13 q5 f5 x hx).Fly m j ∗ (gB c arg5 arg8 arg13 q5 f5 x hx).Fly m j ∗ (gC c arg5 arg8 arg13 q5 f5 x hx).Fly m j ∗ (gD c arg6 arg9 arg14 q6 f6 x hx).Fly m j ∗ (gE c arg6 arg9 arg14 q6 f6 x hx).Fly m j) ⊢ Slot c arg5 arg6 arg8 arg9 arg13 arg14 q5 q6 f5 f6 m x hx j :=
  .of_eq (slot_fly c arg5 arg6 arg8 arg9 arg13 arg14 q5 q6 f5 f6 m x hx j hj).symm

theorem slot_none (m : BitVec 32) (x : ℕ) (hx : x < 4) (j : ℕ) (hj : act m ≤ j) : Rest c arg5 arg6 arg8 arg9 arg13 arg14 q5 q6 f5 f6 x hx ⊢ Slot c arg5 arg6 arg8 arg9 arg13 arg14 q5 q6 f5 f6 m x hx j :=
  .of_eq (slot_rest c arg5 arg6 arg8 arg9 arg13 arg14 q5 q6 f5 f6 m x hx j hj).symm

end

theorem offH10 (m : BitVec 32) (j : ℕ) : k0_off10 (ew m j) = ![ord m j, 0, 0] := congrArg (fun x => ![x, 0, 0]) (ew_toNat m j)
theorem offH13 (m : BitVec 32) (j : ℕ) : k0_off13 (ew m j) = ![ord m j, 1024, 0] := congrArg (fun x => ![x, 1024, 0]) (ew_toNat m j)
theorem offH16 (m : BitVec 32) (j : ℕ) : k0_off16 (ew m j) = ![ord m j, 2048, 0] := congrArg (fun x => ![x, 2048, 0]) (ew_toNat m j)
theorem offH19 (m : BitVec 32) (j : ℕ) : k0_off19 (ew m j) = ![ord m j, 0, 0] := congrArg (fun x => ![x, 0, 0]) (ew_toNat m j)
theorem offH22 (m : BitVec 32) (j : ℕ) : k0_off22 (ew m j) = ![ord m j, 1024, 0] := congrArg (fun x => ![x, 1024, 0]) (ew_toNat m j)
theorem offH25 (m : BitVec 32) (j : ℕ) : k0_off25 (ew m j) = ![ord m j, 0, 0] := congrArg (fun x => ![x, 0, 0]) (ew_toNat m j)
theorem offH28 (m : BitVec 32) (j : ℕ) : k0_off28 (ew m j) = ![ord m j, 1024, 0] := congrArg (fun x => ![x, 1024, 0]) (ew_toNat m j)
theorem offH31 (m : BitVec 32) (j : ℕ) : k0_off31 (ew m j) = ![ord m j, 2048, 0] := congrArg (fun x => ![x, 2048, 0]) (ew_toNat m j)
theorem offH34 (m : BitVec 32) (j : ℕ) : k0_off34 (ew m j) = ![ord m j, 0, 0] := congrArg (fun x => ![x, 0, 0]) (ew_toNat m j)
theorem offH37 (m : BitVec 32) (j : ℕ) : k0_off37 (ew m j) = ![ord m j, 1024, 0] := congrArg (fun x => ![x, 1024, 0]) (ew_toNat m j)
theorem offH40 (m : BitVec 32) (j : ℕ) : k0_off40 (ew m j) = ![ord m j, 0, 0] := congrArg (fun x => ![x, 0, 0]) (ew_toNat m j)
theorem offH43 (m : BitVec 32) (j : ℕ) : k0_off43 (ew m j) = ![ord m j, 1024, 0] := congrArg (fun x => ![x, 1024, 0]) (ew_toNat m j)
theorem offH46 (m : BitVec 32) (j : ℕ) : k0_off46 (ew m j) = ![ord m j, 2048, 0] := congrArg (fun x => ![x, 2048, 0]) (ew_toNat m j)
theorem offH49 (m : BitVec 32) (j : ℕ) : k0_off49 (ew m j) = ![ord m j, 0, 0] := congrArg (fun x => ![x, 0, 0]) (ew_toNat m j)
theorem offH52 (m : BitVec 32) (j : ℕ) : k0_off52 (ew m j) = ![ord m j, 1024, 0] := congrArg (fun x => ![x, 1024, 0]) (ew_toNat m j)
theorem offH55 (m : BitVec 32) (j : ℕ) : k0_off55 (ew m j) = ![ord m j, 0, 0] := congrArg (fun x => ![x, 0, 0]) (ew_toNat m j)
theorem offH58 (m : BitVec 32) (j : ℕ) : k0_off58 (ew m j) = ![ord m j, 1024, 0] := congrArg (fun x => ![x, 1024, 0]) (ew_toNat m j)
theorem offH61 (m : BitVec 32) (j : ℕ) : k0_off61 (ew m j) = ![ord m j, 2048, 0] := congrArg (fun x => ![x, 2048, 0]) (ew_toNat m j)
theorem offH64 (m : BitVec 32) (j : ℕ) : k0_off64 (ew m j) = ![ord m j, 0, 0] := congrArg (fun x => ![x, 0, 0]) (ew_toNat m j)
theorem offH67 (m : BitVec 32) (j : ℕ) : k0_off67 (ew m j) = ![ord m j, 1024, 0] := congrArg (fun x => ![x, 1024, 0]) (ew_toNat m j)

section Parts

variable (arg0 : Memref sig .tc .smem S9x2 .i32) (harg0 : arg0.IsWhole) (arg1 : Memref sig .tc .smem S9x2 .f32) (harg1 : arg1.IsWhole) (arg2 : Memref sig .tc .vmem S9x2816 .bf16) (harg2 : arg2.IsWhole) (arg3 : Memref sig .tc .vmem S8x2816 .f32) (harg3 : arg3.IsWhole) (arg4 : Memref sig .tc .vmem S8x2816 .f32) (harg4 : arg4.IsWhole) (arg5 : Memref sig .tc .hbm S8x2816x2816 .i8) (harg5 : arg5.IsWhole) (arg6 : Memref sig .tc .hbm S8x1408x2816 .i8) (harg6 : arg6.IsWhole) (arg7 : Memref sig .tc .vmem S9x2816 .bf16) (harg7 : arg7.IsWhole) (arg8 : Memref sig .tc .vmem S4x2816x2816 .i8) (harg8 : arg8.IsWhole) (arg9 : Memref sig .tc .vmem S4x1408x2816 .i8) (harg9 : arg9.IsWhole) (arg10 : Memref sig .tc .vmem S16x2816 .bf16) (harg10 : arg10.IsWhole) (arg11 : Memref sig .tc .vmem S16x2816 .f32) (harg11 : arg11.IsWhole) (arg12 : Memref sig .tc .smem S8 .i32) (harg12 : arg12.IsWhole) (arg13 : DmaSems sig S4x3) (arg14 : DmaSems sig S4x2)
variable (v0 v3 v6 v9 v12 v15 v18 v21 v24 v27 v30 v33 v36 v39 v42 v45 v48 v51 : BitVec 32)
variable (q5 : Fin 12 → PosShare TreeShare) (q6 : Fin 8 → PosShare TreeShare)
  (f5 : Buf (Elt F) (arg5.view.loc (c : Thread nD τ))) (f6 : Buf (Elt F) (arg6.view.loc (c : Thread nD τ)))

/-- The first ten expert numbers. -/
theorem part23 {α : Type} {Q : α → sProp 𝕄} (I : S9x2.Idx → Elt F .i32)
    {kk : (Σ' (v0 : Elt F .i32) (v3 : Elt F .i32) (v6 : Elt F .i32) (v9 : Elt F .i32) (v12 : Elt F .i32) (v15 : Elt F .i32) (v18 : Elt F .i32) (v21 : Elt F .i32) (v24 : Elt F .i32) (v26 : BitVec 32) (v27 : Elt F .i32), BitVec 32) → Prog (TpuEff nD τ sig (Elt F) Λ₀ .tc) α} :
    iprop(Holds (Val := Elt F) (c : Thread nD τ) arg0 I)
      ⊢ iprop((iprop(Holds (Val := Elt F) (c : Thread nD τ) arg0 I) -∗
          wp frame (wpE (defs₀ (F := F)) Variants.none (c : Thread nD τ) none) Set.univ (kk ⟨(I (at92 0 0)), (I (at92 0 1)), (I (at92 1 0)), (I (at92 1 1)), (I (at92 2 0)), (I (at92 2 1)), (I (at92 3 0)), (I (at92 3 1)), (I (at92 4 0)), (Scalar.ori (Scalar.ori (Scalar.ori (Scalar.ori (Scalar.ori (Scalar.ori (Scalar.ori (Scalar.ori (Scalar.ori 0#32 (Scalar.shli 1#32 (I (at92 0 0)))) (Scalar.shli 1#32 (I (at92 0 1)))) (Scalar.shli 1#32 (I (at92 1 0)))) (Scalar.shli 1#32 (I (at92 1 1)))) (Scalar.shli 1#32 (I (at92 2 0)))) (Scalar.shli 1#32 (I (at92 2 1)))) (Scalar.shli 1#32 (I (at92 3 0)))) (Scalar.shli 1#32 (I (at92 3 1)))) (Scalar.shli 1#32 (I (at92 4 0)))), (I (at92 4 1)), (Scalar.shli 1#32 (I (at92 4 1)))⟩) Q)
        -∗ wp frame (wpE (defs₀ (F := F)) Variants.none (c : Thread nD τ) none) Set.univ (k0_part23 arg0 harg0 arg1 harg1 arg2 harg2 arg3 harg3 arg4 harg4 arg5 harg5 arg6 harg6 arg7 harg7 arg8 harg8 arg9 harg9 arg10 harg10 arg11 harg11 arg12 harg12 arg13 arg14 >>= kk) Q) := by
  rw [k0_part23_eq_skeleton]
  unfold k0_part23_skel
  iintro ⟨H0⟩ Hk
  iapply (wp_at c (0 : Fin 9) (0 : Fin 2) rfl) $$ H0
  iintro H0
  iapply (wp_at c (0 : Fin 9) (1 : Fin 2) rfl) $$ H0
  iintro H0
  iapply (wp_at c (1 : Fin 9) (0 : Fin 2) rfl) $$ H0
  iintro H0
  iapply (wp_at c (1 : Fin 9) (1 : Fin 2) rfl) $$ H0
  iintro H0
  iapply (wp_at c (2 : Fin 9) (0 : Fin 2) rfl) $$ H0
  iintro H0
  iapply (wp_at c (2 : Fin 9) (1 : Fin 2) rfl) $$ H0
  iintro H0
  iapply (wp_at c (3 : Fin 9) (0 : Fin 2) rfl) $$ H0
  iintro H0
  iapply (wp_at c (3 : Fin 9) (1 : Fin 2) rfl) $$ H0
  iintro H0
  iapply (wp_at c (4 : Fin 9) (0 : Fin 2) rfl) $$ H0
  iintro H0
  iapply (wp_at c (4 : Fin 9) (1 : Fin 2) rfl) $$ H0
  iintro H0
  iapply Hk
  iexact H0

/-- The other expert numbers, and the mask of the experts asked for. -/
theorem part24 {α : Type} {Q : α → sProp 𝕄} (I : S9x2.Idx → Elt F .i32)
    {kk : (Σ' (v30 : Elt F .i32) (v33 : Elt F .i32) (v36 : Elt F .i32) (v39 : Elt F .i32) (v42 : Elt F .i32) (v45 : Elt F .i32) (v48 : Elt F .i32) (v51 : Elt F .i32) (k0_hw1 : k0_chk1 (I (at92 0 0)) (I (at92 0 1)) (I (at92 1 0)) (I (at92 1 1)) (I (at92 2 0)) (I (at92 2 1)) (I (at92 3 0)) (I (at92 3 1)) (I (at92 4 0)) (I (at92 4 1)) v30 v33 v36 v39 v42 v45 v48 v51) (v53 : BitVec 32) (v55 : BitVec 32) (c0_i32_47 : BitVec 32), BitVec 1) → Prog (TpuEff nD τ sig (Elt F) Λ₀ .tc) α} :
    Holds (Val := Elt F) (c : Thread nD τ) arg0 I ⊢ iprop((∀ v53 : BitVec 32, ∀ v55 : BitVec 32, ∀ v58 : BitVec 1, ⌜v58 = 1#1 ↔ bit (mask (I (at92 0 0)) (I (at92 0 1)) (I (at92 1 0)) (I (at92 1 1)) (I (at92 2 0)) (I (at92 2 1)) (I (at92 3 0)) (I (at92 3 1)) (I (at92 4 0)) (I (at92 4 1)) (I (at92 5 0)) (I (at92 5 1)) (I (at92 6 0)) (I (at92 6 1)) (I (at92 7 0)) (I (at92 7 1)) (I (at92 8 0)) (I (at92 8 1))) 0 = 1#32⌝ -∗ Holds (Val := Elt F) (c : Thread nD τ) arg0 I -∗
          wp frame (wpE (defs₀ (F := F)) Variants.none (c : Thread nD τ) none) Set.univ (kk ⟨(I (at92 5 0)), (I (at92 5 1)), (I (at92 6 0)), (I (at92 6 1)), (I (at92 7 0)), (I (at92 7 1)), (I (at92 8 0)), (I (at92 8 1)), chk1, v53, v55, 0#32, v58⟩) Q)
        -∗ wp frame (wpE (defs₀ (F := F)) Variants.none (c : Thread nD τ) none) Set.univ (k0_part24 arg0 harg0 arg1 harg1 arg2 harg2 arg3 harg3 arg4 harg4 arg5 harg5 arg6 harg6 arg7 harg7 arg8 harg8 arg9 harg9 arg10 harg10 arg11 harg11 arg12 harg12 arg13 arg14 (I (at92 0 0)) (I (at92 0 1)) (I (at92 1 0)) (I (at92 1 1)) (I (at92 2 0)) (I (at92 2 1)) (I (at92 3 0)) (I (at92 3 1)) (I (at92 4 0)) (Scalar.ori (Scalar.ori (Scalar.ori (Scalar.ori (Scalar.ori (Scalar.ori (Scalar.ori (Scalar.ori (Scalar.ori 0#32 (Scalar.shli 1#32 (I (at92 0 0)))) (Scalar.shli 1#32 (I (at92 0 1)))) (Scalar.shli 1#32 (I (at92 1 0)))) (Scalar.shli 1#32 (I (at92 1 1)))) (Scalar.shli 1#32 (I (at92 2 0)))) (Scalar.shli 1#32 (I (at92 2 1)))) (Scalar.shli 1#32 (I (at92 3 0)))) (Scalar.shli 1#32 (I (at92 3 1)))) (Scalar.shli 1#32 (I (at92 4 0)))) (I (at92 4 1)) (Scalar.shli 1#32 (I (at92 4 1))) >>= kk) Q) := by
  rw [k0_part24_eq_skeleton]
  unfold k0_part24_skel
  iintro H0 Hk
  iapply (wp_at c (5 : Fin 9) (0 : Fin 2) rfl) $$ H0
  iintro H0
  iapply (wp_at c (5 : Fin 9) (1 : Fin 2) rfl) $$ H0
  iintro H0
  iapply (wp_at c (6 : Fin 9) (0 : Fin 2) rfl) $$ H0
  iintro H0
  iapply (wp_at c (6 : Fin 9) (1 : Fin 2) rfl) $$ H0
  iintro H0
  iapply (wp_at c (7 : Fin 9) (0 : Fin 2) rfl) $$ H0
  iintro H0
  iapply (wp_at c (7 : Fin 9) (1 : Fin 2) rfl) $$ H0
  iintro H0
  iapply (wp_at c (8 : Fin 9) (0 : Fin 2) rfl) $$ H0
  iintro H0
  iapply (wp_at c (8 : Fin 9) (1 : Fin 2) rfl) $$ H0
  iintro H0
  iapply (wp_assume Variants.none (c : Thread nD τ) none Set.univ chk1)
  iapply (wp_pure c)
  iapply Hk
  · ipureintro; exact on_iff (mask (I (at92 0 0)) (I (at92 0 1)) (I (at92 1 0)) (I (at92 1 1)) (I (at92 2 0)) (I (at92 2 1)) (I (at92 3 0)) (I (at92 3 1)) (I (at92 4 0)) (I (at92 4 1)) (I (at92 5 0)) (I (at92 5 1)) (I (at92 6 0)) (I (at92 6 1)) (I (at92 7 0)) (I (at92 7 1)) (I (at92 8 0)) (I (at92 8 1))) 0
  iexact H0

/-- The first six entries of the table of active experts. -/
theorem part25 {α : Type} {Q : α → sProp 𝕄} (hw1 : k0_chk1 v0 v3 v6 v9 v12 v15 v18 v21 v24 v27 v30 v33 v36 v39 v42 v45 v48 v51) (v53 v55 : BitVec 32) (v58 : BitVec 1) (h58 : v58 = 1#1 ↔ bit (mask v0 v3 v6 v9 v12 v15 v18 v21 v24 v27 v30 v33 v36 v39 v42 v45 v48 v51) 0 = 1#32)
    {kk : (Σ' (v89 : BitVec 32), BitVec 32) → Prog (TpuEff nD τ sig (Elt F) Λ₀ .tc) α} :
    iprop(Table (F := F) c arg12 (mask v0 v3 v6 v9 v12 v15 v18 v21 v24 v27 v30 v33 v36 v39 v42 v45 v48 v51) 0 ∗ (Table (F := F) c arg12 (mask v0 v3 v6 v9 v12 v15 v18 v21 v24 v27 v30 v33 v36 v39 v42 v45 v48 v51) 6 -∗ ∀ v89 : BitVec 32, ∀ v90 : BitVec 32, wp frame (wpE (defs₀ (F := F)) Variants.none (c : Thread nD τ) none) Set.univ (kk ⟨v89, v90⟩) Q)) ⊢ wp frame (wpE (defs₀ (F := F)) Variants.none (c : Thread nD τ) none) Set.univ (k0_part25 arg0 harg0 arg1 harg1 arg2 harg2 arg3 harg3 arg4 harg4 arg5 harg5 arg6 harg6 arg7 harg7 arg8 harg8 arg9 harg9 arg10 harg10 arg11 harg11 arg12 harg12 arg13 arg14 v0 v3 v6 v9 v12 v15 v18 v21 v24 v27 v30 v33 v36 v39 v42 v45 v48 v51 hw1 v53 v55 0#32 v58 >>= kk) Q := by
  rw [k0_part25_eq_skeleton]
  unfold k0_part25_skel
  refine wp_joinI c (S1 := iprop(Table (F := F) c arg12 (mask v0 v3 v6 v9 v12 v15 v18 v21 v24 v27 v30 v33 v36 v39 v42 v45 v48 v51) 1 ∗ (Table (F := F) c arg12 (mask v0 v3 v6 v9 v12 v15 v18 v21 v24 v27 v30 v33 v36 v39 v42 v45 v48 v51) 6 -∗ ∀ v89 : BitVec 32, ∀ v90 : BitVec 32, wp frame (wpE (defs₀ (F := F)) Variants.none (c : Thread nD τ) none) Set.univ (kk ⟨v89, v90⟩) Q))) ?_ (fun hK h => ?_) (fun h => ?_)
  rotate_left
  · iintro ⟨HT, HR⟩
    iapply (wp_put c (by decide) (h58.1 h) rfl rfl) $$ HT
    iintro HT
    iapply hK
    isplitl [HT]; · iexact HT
    iexact HR
  · iintro ⟨HT, HR⟩
    isplitl [HT]
    · iapply (Table.skip c (fun hb => h (h58.2 hb))) $$ HT
    iexact HR
  refine wp_joinD c (S1 := iprop(Table (F := F) c arg12 (mask v0 v3 v6 v9 v12 v15 v18 v21 v24 v27 v30 v33 v36 v39 v42 v45 v48 v51) 2 ∗ (Table (F := F) c arg12 (mask v0 v3 v6 v9 v12 v15 v18 v21 v24 v27 v30 v33 v36 v39 v42 v45 v48 v51) 6 -∗ ∀ v89 : BitVec 32, ∀ v90 : BitVec 32, wp frame (wpE (defs₀ (F := F)) Variants.none (c : Thread nD τ) none) Set.univ (kk ⟨v89, v90⟩) Q))) ?_ (fun hK h => ?_) (fun h => ?_)
  rotate_left
  · iintro ⟨HT, HR⟩
    iapply (wp_put c (by decide) (cond2_iff.1 h) off1_eq rfl) $$ HT
    iintro HT
    iapply hK
    isplitl [HT]; · iexact HT
    iexact HR
  · iintro ⟨HT, HR⟩
    isplitl [HT]
    · iapply (Table.skip c (fun hb => h (cond2_iff.2 hb))) $$ HT
    iexact HR
  refine wp_joinD c (S1 := iprop(Table (F := F) c arg12 (mask v0 v3 v6 v9 v12 v15 v18 v21 v24 v27 v30 v33 v36 v39 v42 v45 v48 v51) 3 ∗ (Table (F := F) c arg12 (mask v0 v3 v6 v9 v12 v15 v18 v21 v24 v27 v30 v33 v36 v39 v42 v45 v48 v51) 6 -∗ ∀ v89 : BitVec 32, ∀ v90 : BitVec 32, wp frame (wpE (defs₀ (F := F)) Variants.none (c : Thread nD τ) none) Set.univ (kk ⟨v89, v90⟩) Q))) ?_ (fun hK h => ?_) (fun h => ?_)
  rotate_left
  · iintro ⟨HT, HR⟩
    iapply (wp_put c (by decide) (cond3_iff.1 h) off2_eq rfl) $$ HT
    iintro HT
    iapply hK
    isplitl [HT]; · iexact HT
    iexact HR
  · iintro ⟨HT, HR⟩
    isplitl [HT]
    · iapply (Table.skip c (fun hb => h (cond3_iff.2 hb))) $$ HT
    iexact HR
  refine wp_joinD c (S1 := iprop(Table (F := F) c arg12 (mask v0 v3 v6 v9 v12 v15 v18 v21 v24 v27 v30 v33 v36 v39 v42 v45 v48 v51) 4 ∗ (Table (F := F) c arg12 (mask v0 v3 v6 v9 v12 v15 v18 v21 v24 v27 v30 v33 v36 v39 v42 v45 v48 v51) 6 -∗ ∀ v89 : BitVec 32, ∀ v90 : BitVec 32, wp frame (wpE (defs₀ (F := F)) Variants.none (c : Thread nD τ) none) Set.univ (kk ⟨v89, v90⟩) Q))) ?_ (fun hK h => ?_) (fun h => ?_)
  rotate_left
  · iintro ⟨HT, HR⟩
    iapply (wp_put c (by decide) (cond4_iff.1 h) off3_eq rfl) $$ HT
    iintro HT
    iapply hK
    isplitl [HT]; · iexact HT
    iexact HR
  · iintro ⟨HT, HR⟩
    isplitl [HT]
    · iapply (Table.skip c (fun hb => h (cond4_iff.2 hb))) $$ HT
    iexact HR
  refine wp_joinD c (S1 := iprop(Table (F := F) c arg12 (mask v0 v3 v6 v9 v12 v15 v18 v21 v24 v27 v30 v33 v36 v39 v42 v45 v48 v51) 5 ∗ (Table (F := F) c arg12 (mask v0 v3 v6 v9 v12 v15 v18 v21 v24 v27 v30 v33 v36 v39 v42 v45 v48 v51) 6 -∗ ∀ v89 : BitVec 32, ∀ v90 : BitVec 32, wp frame (wpE (defs₀ (F := F)) Variants.none (c : Thread nD τ) none) Set.univ (kk ⟨v89, v90⟩) Q))) ?_ (fun hK h => ?_) (fun h => ?_)
  rotate_left
  · iintro ⟨HT, HR⟩
    iapply (wp_put c (by decide) (cond5_iff.1 h) off4_eq rfl) $$ HT
    iintro HT
    iapply hK
    isplitl [HT]; · iexact HT
    iexact HR
  · iintro ⟨HT, HR⟩
    isplitl [HT]
    · iapply (Table.skip c (fun hb => h (cond5_iff.2 hb))) $$ HT
    iexact HR
  refine wp_joinD c (S1 := iprop(Table (F := F) c arg12 (mask v0 v3 v6 v9 v12 v15 v18 v21 v24 v27 v30 v33 v36 v39 v42 v45 v48 v51) 6 ∗ (Table (F := F) c arg12 (mask v0 v3 v6 v9 v12 v15 v18 v21 v24 v27 v30 v33 v36 v39 v42 v45 v48 v51) 6 -∗ ∀ v89 : BitVec 32, ∀ v90 : BitVec 32, wp frame (wpE (defs₀ (F := F)) Variants.none (c : Thread nD τ) none) Set.univ (kk ⟨v89, v90⟩) Q))) ?_ (fun hK h => ?_) (fun h => ?_)
  rotate_left
  · iintro ⟨HT, HR⟩
    iapply (wp_put c (by decide) (cond6_iff.1 h) off5_eq rfl) $$ HT
    iintro HT
    iapply hK
    isplitl [HT]; · iexact HT
    iexact HR
  · iintro ⟨HT, HR⟩
    isplitl [HT]
    · iapply (Table.skip c (fun hb => h (cond6_iff.2 hb))) $$ HT
    iexact HR
  iintro ⟨HT, HR⟩
  ispecialize HR $$ HT
  iapply (wp_pure c)
  iapply HR

/-- The first copies of slot 0. -/
theorem part1 {α : Type} {Q : α → sProp 𝕄} (h : k0_cond9 v0 v3 v6 v9 v12 v15 v18 v21 v24 v27 v30 v33 v36 v39 v42 v45 v48 v51 = 1#1) (hi : 0 < act (mask v0 v3 v6 v9 v12 v15 v18 v21 v24 v27 v30 v33 v36 v39 v42 v45 v48 v51))
    {kk : (Σ' (v340 : Elt F .i32), k0_chk3 v0 v3 v6 v9 v12 v15 v18 v21 v24 v27 v30 v33 v36 v39 v42 v45 v48 v51 v340) → Prog (TpuEff nD τ sig (Elt F) Λ₀ .tc) α} :
    iprop(Table (F := F) c arg12 (mask v0 v3 v6 v9 v12 v15 v18 v21 v24 v27 v30 v33 v36 v39 v42 v45 v48 v51) 8
        ∗ (gA c arg5 arg8 arg13 q5 f5 0 lt0_4).Free
        ∗ (gB c arg5 arg8 arg13 q5 f5 0 lt0_4).Free
        ∗ (gC c arg5 arg8 arg13 q5 f5 0 lt0_4).Free
        ∗ (gD c arg6 arg9 arg14 q6 f6 0 lt0_4).Free)
      ⊢ iprop((iprop(Table (F := F) c arg12 (mask v0 v3 v6 v9 v12 v15 v18 v21 v24 v27 v30 v33 v36 v39 v42 v45 v48 v51) 8
        ∗ (gA c arg5 arg8 arg13 q5 f5 0 lt0_4).Fly (mask v0 v3 v6 v9 v12 v15 v18 v21 v24 v27 v30 v33 v36 v39 v42 v45 v48 v51) 0
        ∗ (gB c arg5 arg8 arg13 q5 f5 0 lt0_4).Fly (mask v0 v3 v6 v9 v12 v15 v18 v21 v24 v27 v30 v33 v36 v39 v42 v45 v48 v51) 0
        ∗ (gC c arg5 arg8 arg13 q5 f5 0 lt0_4).Fly (mask v0 v3 v6 v9 v12 v15 v18 v21 v24 v27 v30 v33 v36 v39 v42 v45 v48 v51) 0
        ∗ (gD c arg6 arg9 arg14 q6 f6 0 lt0_4).Fly (mask v0 v3 v6 v9 v12 v15 v18 v21 v24 v27 v30 v33 v36 v39 v42 v45 v48 v51) 0) -∗
          wp frame (wpE (defs₀ (F := F)) Variants.none (c : Thread nD τ) none) Set.univ (kk ⟨ew (mask v0 v3 v6 v9 v12 v15 v18 v21 v24 v27 v30 v33 v36 v39 v42 v45 v48 v51) 0, chk3 (lt_of_eq_of_lt (ew_toNat _ _) (ord_lt _ _))⟩) Q)
        -∗ wp frame (wpE (defs₀ (F := F)) Variants.none (c : Thread nD τ) none) Set.univ (k0_part1 arg0 harg0 arg1 harg1 arg2 harg2 arg3 harg3 arg4 harg4 arg5 harg5 arg6 harg6 arg7 harg7 arg8 harg8 arg9 harg9 arg10 harg10 arg11 harg11 arg12 harg12 arg13 arg14 v0 v3 v6 v9 v12 v15 v18 v21 v24 v27 v30 v33 v36 v39 v42 v45 v48 v51 h >>= kk) Q) := by
  rw [k0_part1_eq_skeleton]
  unfold k0_part1_skel
  iintro ⟨HT, HA, HB, HC, HD⟩ Hk
  iapply (wp_tab c hi rfl) $$ HT
  iintro HT
  iapply (wp_assume Variants.none (c : Thread nD τ) none Set.univ (chk2 (lt_of_eq_of_lt (ew_toNat _ _) (ord_lt _ _))))
  iapply (start Variants.none none (gA c arg5 arg8 arg13 q5 f5 0 lt0_4) (mask v0 v3 v6 v9 v12 v15 v18 v21 v24 v27 v30 v33 v36 v39 v42 v45 v48 v51) 0 (off9_eq) (offH10 _ _) (cell13_eq arg13 lt0_4 (by decide) off8_eq)) $$ HA
  iintro HA
  iapply (start Variants.none none (gB c arg5 arg8 arg13 q5 f5 0 lt0_4) (mask v0 v3 v6 v9 v12 v15 v18 v21 v24 v27 v30 v33 v36 v39 v42 v45 v48 v51) 0 (off12_eq) (offH13 _ _) (cell13_eq arg13 lt0_4 (by decide) off11_eq)) $$ HB
  iintro HB
  iapply (start Variants.none none (gC c arg5 arg8 arg13 q5 f5 0 lt0_4) (mask v0 v3 v6 v9 v12 v15 v18 v21 v24 v27 v30 v33 v36 v39 v42 v45 v48 v51) 0 (off15_eq) (offH16 _ _) (cell13_eq arg13 lt0_4 (by decide) off14_eq)) $$ HC
  iintro HC
  iapply (wp_tab c hi rfl) $$ HT
  iintro HT
  iapply (wp_assume Variants.none (c : Thread nD τ) none Set.univ (chk3 (lt_of_eq_of_lt (ew_toNat _ _) (ord_lt _ _))))
  iapply (start Variants.none none (gD c arg6 arg9 arg14 q6 f6 0 lt0_4) (mask v0 v3 v6 v9 v12 v15 v18 v21 v24 v27 v30 v33 v36 v39 v42 v45 v48 v51) 0 (off18_eq) (offH19 _ _) (cell14_eq arg14 lt0_4 (by decide) off17_eq)) $$ HD
  iintro HD
  iapply Hk
  isplitl [HT]; · iexact HT
  isplitl [HA]; · iexact HA
  isplitl [HB]; · iexact HB
  isplitl [HC]; · iexact HC
  iexact HD

/-- The first copies of slot 1. -/
theorem part2 {α : Type} {Q : α → sProp 𝕄} (h : k0_cond10 v0 v3 v6 v9 v12 v15 v18 v21 v24 v27 v30 v33 v36 v39 v42 v45 v48 v51 = 1#1) (hi : 1 < act (mask v0 v3 v6 v9 v12 v15 v18 v21 v24 v27 v30 v33 v36 v39 v42 v45 v48 v51))
    {kk : (Σ' (v340 : Elt F .i32), k0_chk5 v0 v3 v6 v9 v12 v15 v18 v21 v24 v27 v30 v33 v36 v39 v42 v45 v48 v51 v340) → Prog (TpuEff nD τ sig (Elt F) Λ₀ .tc) α} :
    iprop(Table (F := F) c arg12 (mask v0 v3 v6 v9 v12 v15 v18 v21 v24 v27 v30 v33 v36 v39 v42 v45 v48 v51) 8
        ∗ (gA c arg5 arg8 arg13 q5 f5 1 lt1_4).Free
        ∗ (gB c arg5 arg8 arg13 q5 f5 1 lt1_4).Free
        ∗ (gC c arg5 arg8 arg13 q5 f5 1 lt1_4).Free
        ∗ (gD c arg6 arg9 arg14 q6 f6 1 lt1_4).Free)
      ⊢ iprop((iprop(Table (F := F) c arg12 (mask v0 v3 v6 v9 v12 v15 v18 v21 v24 v27 v30 v33 v36 v39 v42 v45 v48 v51) 8
        ∗ (gA c arg5 arg8 arg13 q5 f5 1 lt1_4).Fly (mask v0 v3 v6 v9 v12 v15 v18 v21 v24 v27 v30 v33 v36 v39 v42 v45 v48 v51) 1
        ∗ (gB c arg5 arg8 arg13 q5 f5 1 lt1_4).Fly (mask v0 v3 v6 v9 v12 v15 v18 v21 v24 v27 v30 v33 v36 v39 v42 v45 v48 v51) 1
        ∗ (gC c arg5 arg8 arg13 q5 f5 1 lt1_4).Fly (mask v0 v3 v6 v9 v12 v15 v18 v21 v24 v27 v30 v33 v36 v39 v42 v45 v48 v51) 1
        ∗ (gD c arg6 arg9 arg14 q6 f6 1 lt1_4).Fly (mask v0 v3 v6 v9 v12 v15 v18 v21 v24 v27 v30 v33 v36 v39 v42 v45 v48 v51) 1) -∗
          wp frame (wpE (defs₀ (F := F)) Variants.none (c : Thread nD τ) none) Set.univ (kk ⟨ew (mask v0 v3 v6 v9 v12 v15 v18 v21 v24 v27 v30 v33 v36 v39 v42 v45 v48 v51) 1, chk5 (lt_of_eq_of_lt (ew_toNat _ _) (ord_lt _ _))⟩) Q)
        -∗ wp frame (wpE (defs₀ (F := F)) Variants.none (c : Thread nD τ) none) Set.univ (k0_part2 arg0 harg0 arg1 harg1 arg2 harg2 arg3 harg3 arg4 harg4 arg5 harg5 arg6 harg6 arg7 harg7 arg8 harg8 arg9 harg9 arg10 harg10 arg11 harg11 arg12 harg12 arg13 arg14 v0 v3 v6 v9 v12 v15 v18 v21 v24 v27 v30 v33 v36 v39 v42 v45 v48 v51 h >>= kk) Q) := by
  rw [k0_part2_eq_skeleton]
  unfold k0_part2_skel
  iintro ⟨HT, HA, HB, HC, HD⟩ Hk
  iapply (wp_tab c hi rfl) $$ HT
  iintro HT
  iapply (wp_assume Variants.none (c : Thread nD τ) none Set.univ (chk4 (lt_of_eq_of_lt (ew_toNat _ _) (ord_lt _ _))))
  iapply (start Variants.none none (gA c arg5 arg8 arg13 q5 f5 1 lt1_4) (mask v0 v3 v6 v9 v12 v15 v18 v21 v24 v27 v30 v33 v36 v39 v42 v45 v48 v51) 1 (off24_eq) (offH25 _ _) (cell13_eq arg13 lt1_4 (by decide) off23_eq)) $$ HA
  iintro HA
  iapply (start Variants.none none (gB c arg5 arg8 arg13 q5 f5 1 lt1_4) (mask v0 v3 v6 v9 v12 v15 v18 v21 v24 v27 v30 v33 v36 v39 v42 v45 v48 v51) 1 (off27_eq) (offH28 _ _) (cell13_eq arg13 lt1_4 (by decide) off26_eq)) $$ HB
  iintro HB
  iapply (start Variants.none none (gC c arg5 arg8 arg13 q5 f5 1 lt1_4) (mask v0 v3 v6 v9 v12 v15 v18 v21 v24 v27 v30 v33 v36 v39 v42 v45 v48 v51) 1 (off30_eq) (offH31 _ _) (cell13_eq arg13 lt1_4 (by decide) off29_eq)) $$ HC
  iintro HC
  iapply (wp_tab c hi rfl) $$ HT
  iintro HT
  iapply (wp_assume Variants.none (c : Thread nD τ) none Set.univ (chk5 (lt_of_eq_of_lt (ew_toNat _ _) (ord_lt _ _))))
  iapply (start Variants.none none (gD c arg6 arg9 arg14 q6 f6 1 lt1_4) (mask v0 v3 v6 v9 v12 v15 v18 v21 v24 v27 v30 v33 v36 v39 v42 v45 v48 v51) 1 (off33_eq) (offH34 _ _) (cell14_eq arg14 lt1_4 (by decide) off32_eq)) $$ HD
  iintro HD
  iapply Hk
  isplitl [HT]; · iexact HT
  isplitl [HA]; · iexact HA
  isplitl [HB]; · iexact HB
  isplitl [HC]; · iexact HC
  iexact HD

/-- The first copies of slot 2. -/
theorem part3 {α : Type} {Q : α → sProp 𝕄} (h : k0_cond11 v0 v3 v6 v9 v12 v15 v18 v21 v24 v27 v30 v33 v36 v39 v42 v45 v48 v51 = 1#1) (hi : 2 < act (mask v0 v3 v6 v9 v12 v15 v18 v21 v24 v27 v30 v33 v36 v39 v42 v45 v48 v51))
    {kk : (Σ' (v340 : Elt F .i32), k0_chk7 v0 v3 v6 v9 v12 v15 v18 v21 v24 v27 v30 v33 v36 v39 v42 v45 v48 v51 v340) → Prog (TpuEff nD τ sig (Elt F) Λ₀ .tc) α} :
    iprop(Table (F := F) c arg12 (mask v0 v3 v6 v9 v12 v15 v18 v21 v24 v27 v30 v33 v36 v39 v42 v45 v48 v51) 8
        ∗ (gA c arg5 arg8 arg13 q5 f5 2 lt2_4).Free
        ∗ (gB c arg5 arg8 arg13 q5 f5 2 lt2_4).Free
        ∗ (gC c arg5 arg8 arg13 q5 f5 2 lt2_4).Free
        ∗ (gD c arg6 arg9 arg14 q6 f6 2 lt2_4).Free)
      ⊢ iprop((iprop(Table (F := F) c arg12 (mask v0 v3 v6 v9 v12 v15 v18 v21 v24 v27 v30 v33 v36 v39 v42 v45 v48 v51) 8
        ∗ (gA c arg5 arg8 arg13 q5 f5 2 lt2_4).Fly (mask v0 v3 v6 v9 v12 v15 v18 v21 v24 v27 v30 v33 v36 v39 v42 v45 v48 v51) 2
        ∗ (gB c arg5 arg8 arg13 q5 f5 2 lt2_4).Fly (mask v0 v3 v6 v9 v12 v15 v18 v21 v24 v27 v30 v33 v36 v39 v42 v45 v48 v51) 2
        ∗ (gC c arg5 arg8 arg13 q5 f5 2 lt2_4).Fly (mask v0 v3 v6 v9 v12 v15 v18 v21 v24 v27 v30 v33 v36 v39 v42 v45 v48 v51) 2
        ∗ (gD c arg6 arg9 arg14 q6 f6 2 lt2_4).Fly (mask v0 v3 v6 v9 v12 v15 v18 v21 v24 v27 v30 v33 v36 v39 v42 v45 v48 v51) 2) -∗
          wp frame (wpE (defs₀ (F := F)) Variants.none (c : Thread nD τ) none) Set.univ (kk ⟨ew (mask v0 v3 v6 v9 v12 v15 v18 v21 v24 v27 v30 v33 v36 v39 v42 v45 v48 v51) 2, chk7 (lt_of_eq_of_lt (ew_toNat _ _) (ord_lt _ _))⟩) Q)
        -∗ wp frame (wpE (defs₀ (F := F)) Variants.none (c : Thread nD τ) none) Set.univ (k0_part3 arg0 harg0 arg1 harg1 arg2 harg2 arg3 harg3 arg4 harg4 arg5 harg5 arg6 harg6 arg7 harg7 arg8 harg8 arg9 harg9 arg10 harg10 arg11 harg11 arg12 harg12 arg13 arg14 v0 v3 v6 v9 v12 v15 v18 v21 v24 v27 v30 v33 v36 v39 v42 v45 v48 v51 h >>= kk) Q) := by
  rw [k0_part3_eq_skeleton]
  unfold k0_part3_skel
  iintro ⟨HT, HA, HB, HC, HD⟩ Hk
  iapply (wp_tab c hi rfl) $$ HT
  iintro HT
  iapply (wp_assume Variants.none (c : Thread nD τ) none Set.univ (chk6 (lt_of_eq_of_lt (ew_toNat _ _) (ord_lt _ _))))
  iapply (start Variants.none none (gA c arg5 arg8 arg13 q5 f5 2 lt2_4) (mask v0 v3 v6 v9 v12 v15 v18 v21 v24 v27 v30 v33 v36 v39 v42 v45 v48 v51) 2 (off39_eq) (offH40 _ _) (cell13_eq arg13 lt2_4 (by decide) off38_eq)) $$ HA
  iintro HA
  iapply (start Variants.none none (gB c arg5 arg8 arg13 q5 f5 2 lt2_4) (mask v0 v3 v6 v9 v12 v15 v18 v21 v24 v27 v30 v33 v36 v39 v42 v45 v48 v51) 2 (off42_eq) (offH43 _ _) (cell13_eq arg13 lt2_4 (by decide) off41_eq)) $$ HB
  iintro HB
  iapply (start Variants.none none (gC c arg5 arg8 arg13 q5 f5 2 lt2_4) (mask v0 v3 v6 v9 v12 v15 v18 v21 v24 v27 v30 v33 v36 v39 v42 v45 v48 v51) 2 (off45_eq) (offH46 _ _) (cell13_eq arg13 lt2_4 (by decide) off44_eq)) $$ HC
  iintro HC
  iapply (wp_tab c hi rfl) $$ HT
  iintro HT
  iapply (wp_assume Variants.none (c : Thread nD τ) none Set.univ (chk7 (lt_of_eq_of_lt (ew_toNat _ _) (ord_lt _ _))))
  iapply (start Variants.none none (gD c arg6 arg9 arg14 q6 f6 2 lt2_4) (mask v0 v3 v6 v9 v12 v15 v18 v21 v24 v27 v30 v33 v36 v39 v42 v45 v48 v51) 2 (off48_eq) (offH49 _ _) (cell14_eq arg14 lt2_4 (by decide) off47_eq)) $$ HD
  iintro HD
  iapply Hk
  isplitl [HT]; · iexact HT
  isplitl [HA]; · iexact HA
  isplitl [HB]; · iexact HB
  isplitl [HC]; · iexact HC
  iexact HD

/-- The first copies of slot 3. -/
theorem part4 {α : Type} {Q : α → sProp 𝕄} (h : k0_cond12 v0 v3 v6 v9 v12 v15 v18 v21 v24 v27 v30 v33 v36 v39 v42 v45 v48 v51 = 1#1) (hi : 3 < act (mask v0 v3 v6 v9 v12 v15 v18 v21 v24 v27 v30 v33 v36 v39 v42 v45 v48 v51))
    {kk : (Σ' (v340 : Elt F .i32), k0_chk9 v0 v3 v6 v9 v12 v15 v18 v21 v24 v27 v30 v33 v36 v39 v42 v45 v48 v51 v340) → Prog (TpuEff nD τ sig (Elt F) Λ₀ .tc) α} :
    iprop(Table (F := F) c arg12 (mask v0 v3 v6 v9 v12 v15 v18 v21 v24 v27 v30 v33 v36 v39 v42 v45 v48 v51) 8
        ∗ (gA c arg5 arg8 arg13 q5 f5 3 lt3_4).Free
        ∗ (gB c arg5 arg8 arg13 q5 f5 3 lt3_4).Free
        ∗ (gC c arg5 arg8 arg13 q5 f5 3 lt3_4).Free
        ∗ (gD c arg6 arg9 arg14 q6 f6 3 lt3_4).Free)
      ⊢ iprop((iprop(Table (F := F) c arg12 (mask v0 v3 v6 v9 v12 v15 v18 v21 v24 v27 v30 v33 v36 v39 v42 v45 v48 v51) 8
        ∗ (gA c arg5 arg8 arg13 q5 f5 3 lt3_4).Fly (mask v0 v3 v6 v9 v12 v15 v18 v21 v24 v27 v30 v33 v36 v39 v42 v45 v48 v51) 3
        ∗ (gB c arg5 arg8 arg13 q5 f5 3 lt3_4).Fly (mask v0 v3 v6 v9 v12 v15 v18 v21 v24 v27 v30 v33 v36 v39 v42 v45 v48 v51) 3
        ∗ (gC c arg5 arg8 arg13 q5 f5 3 lt3_4).Fly (mask v0 v3 v6 v9 v12 v15 v18 v21 v24 v27 v30 v33 v36 v39 v42 v45 v48 v51) 3
        ∗ (gD c arg6 arg9 arg14 q6 f6 3 lt3_4).Fly (mask v0 v3 v6 v9 v12 v15 v18 v21 v24 v27 v30 v33 v36 v39 v42 v45 v48 v51) 3) -∗
          wp frame (wpE (defs₀ (F := F)) Variants.none (c : Thread nD τ) none) Set.univ (kk ⟨ew (mask v0 v3 v6 v9 v12 v15 v18 v21 v24 v27 v30 v33 v36 v39 v42 v45 v48 v51) 3, chk9 (lt_of_eq_of_lt (ew_toNat _ _) (ord_lt _ _))⟩) Q)
        -∗ wp frame (wpE (defs₀ (F := F)) Variants.none (c : Thread nD τ) none) Set.univ (k0_part4 arg0 harg0 arg1 harg1 arg2 harg2 arg3 harg3 arg4 harg4 arg5 harg5 arg6 harg6 arg7 harg7 arg8 harg8 arg9 harg9 arg10 harg10 arg11 harg11 arg12 harg12 arg13 arg14 v0 v3 v6 v9 v12 v15 v18 v21 v24 v27 v30 v33 v36 v39 v42 v45 v48 v51 h >>= kk) Q) := by
  rw [k0_part4_eq_skeleton]
  unfold k0_part4_skel
  iintro ⟨HT, HA, HB, HC, HD⟩ Hk
  iapply (wp_tab c hi rfl) $$ HT
  iintro HT
  iapply (wp_assume Variants.none (c : Thread nD τ) none Set.univ (chk8 (lt_of_eq_of_lt (ew_toNat _ _) (ord_lt _ _))))
  iapply (start Variants.none none (gA c arg5 arg8 arg13 q5 f5 3 lt3_4) (mask v0 v3 v6 v9 v12 v15 v18 v21 v24 v27 v30 v33 v36 v39 v42 v45 v48 v51) 3 (off54_eq) (offH55 _ _) (cell13_eq arg13 lt3_4 (by decide) off53_eq)) $$ HA
  iintro HA
  iapply (start Variants.none none (gB c arg5 arg8 arg13 q5 f5 3 lt3_4) (mask v0 v3 v6 v9 v12 v15 v18 v21 v24 v27 v30 v33 v36 v39 v42 v45 v48 v51) 3 (off57_eq) (offH58 _ _) (cell13_eq arg13 lt3_4 (by decide) off56_eq)) $$ HB
  iintro HB
  iapply (start Variants.none none (gC c arg5 arg8 arg13 q5 f5 3 lt3_4) (mask v0 v3 v6 v9 v12 v15 v18 v21 v24 v27 v30 v33 v36 v39 v42 v45 v48 v51) 3 (off60_eq) (offH61 _ _) (cell13_eq arg13 lt3_4 (by decide) off59_eq)) $$ HC
  iintro HC
  iapply (wp_tab c hi rfl) $$ HT
  iintro HT
  iapply (wp_assume Variants.none (c : Thread nD τ) none Set.univ (chk9 (lt_of_eq_of_lt (ew_toNat _ _) (ord_lt _ _))))
  iapply (start Variants.none none (gD c arg6 arg9 arg14 q6 f6 3 lt3_4) (mask v0 v3 v6 v9 v12 v15 v18 v21 v24 v27 v30 v33 v36 v39 v42 v45 v48 v51) 3 (off63_eq) (offH64 _ _) (cell14_eq arg14 lt3_4 (by decide) off62_eq)) $$ HD
  iintro HD
  iapply Hk
  isplitl [HT]; · iexact HT
  isplitl [HA]; · iexact HA
  isplitl [HB]; · iexact HB
  isplitl [HC]; · iexact HC
  iexact HD

theorem pay71_rect (x : (Rect.unit (s := S16x2816) ![0, 0] S16x2816.size inb_S16x2816_S16x2816_0_0).shape.Idx) :
    (Rect.unit (s := S16x2816) ![0, 0] S16x2816.size inb_S16x2816_S16x2816_0_0).emb x = x := by
  funext a
  apply Fin.ext
  rw [Rect.emb_apply]
  fin_cases a
  · change 0 + 1 * (x 0).val = (x 0).val
    omega
  · change 0 + 1 * (x 1).val = (x 1).val
    omega

theorem whole_set (y : S16x2816.Idx) : y ∈ (Rect.unit (s := S16x2816) ![0, 0] S16x2816.size inb_S16x2816_S16x2816_0_0).set := by
  rw [Rect.mem_set_unit]
  intro a
  have h := (y a).isLt
  fin_cases a
  · exact ⟨Nat.zero_le _, lt_of_lt_of_eq h (Nat.zero_add _).symm⟩
  · exact ⟨Nat.zero_le _, lt_of_lt_of_eq h (Nat.zero_add _).symm⟩

/-- The rest of the table, the first copies of the four slots, and the two buffers set to zero. -/
theorem part26 {α : Type} {Q : α → sProp 𝕄} (hw1 : k0_chk1 v0 v3 v6 v9 v12 v15 v18 v21 v24 v27 v30 v33 v36 v39 v42 v45 v48 v51) (v53 v89 v90 : BitVec 32)
    {kk : BitVec 32 → Prog (TpuEff nD τ sig (Elt F) Λ₀ .tc) α} :
    iprop(Table (F := F) c arg12 (mask v0 v3 v6 v9 v12 v15 v18 v21 v24 v27 v30 v33 v36 v39 v42 v45 v48 v51) 6 ∗ (Rest c arg5 arg6 arg8 arg9 arg13 arg14 q5 q6 f5 f6 0 lt0_4 ∗ Rest c arg5 arg6 arg8 arg9 arg13 arg14 q5 q6 f5 f6 1 lt1_4 ∗ Rest c arg5 arg6 arg8 arg9 arg13 arg14 q5 q6 f5 f6 2 lt2_4 ∗ Rest c arg5 arg6 arg8 arg9 arg13 arg14 q5 q6 f5 f6 3 lt3_4 ∗ ((∃ XA : S16x2816.Idx → Elt F .f32, Holds (Val := Elt F) (c : Thread nD τ) arg11 XA) ∗ (∃ XB : S16x2816.Idx → Elt F .bf16, Holds (Val := Elt F) (c : Thread nD τ) arg10 XB)) ∗ ((Table (F := F) c arg12 (mask v0 v3 v6 v9 v12 v15 v18 v21 v24 v27 v30 v33 v36 v39 v42 v45 v48 v51) 8
        ∗ Slot c arg5 arg6 arg8 arg9 arg13 arg14 q5 q6 f5 f6 (mask v0 v3 v6 v9 v12 v15 v18 v21 v24 v27 v30 v33 v36 v39 v42 v45 v48 v51) 0 lt0_4 0
        ∗ Slot c arg5 arg6 arg8 arg9 arg13 arg14 q5 q6 f5 f6 (mask v0 v3 v6 v9 v12 v15 v18 v21 v24 v27 v30 v33 v36 v39 v42 v45 v48 v51) 1 lt1_4 1
        ∗ Slot c arg5 arg6 arg8 arg9 arg13 arg14 q5 q6 f5 f6 (mask v0 v3 v6 v9 v12 v15 v18 v21 v24 v27 v30 v33 v36 v39 v42 v45 v48 v51) 2 lt2_4 2
        ∗ Slot c arg5 arg6 arg8 arg9 arg13 arg14 q5 q6 f5 f6 (mask v0 v3 v6 v9 v12 v15 v18 v21 v24 v27 v30 v33 v36 v39 v42 v45 v48 v51) 3 lt3_4 3
        ∗ Holds (Val := Elt F) (c : Thread nD τ) arg11 (k0_pay71 (F := F))
        ∗ Holds (Val := Elt F) (c : Thread nD τ) arg10 (k0_pay72 (F := F))) -∗ ∀ v101 : BitVec 32, wp frame (wpE (defs₀ (F := F)) Variants.none (c : Thread nD τ) none) Set.univ (kk v101) Q))) ⊢ wp frame (wpE (defs₀ (F := F)) Variants.none (c : Thread nD τ) none) Set.univ (k0_part26 arg0 harg0 arg1 harg1 arg2 harg2 arg3 harg3 arg4 harg4 arg5 harg5 arg6 harg6 arg7 harg7 arg8 harg8 arg9 harg9 arg10 harg10 arg11 harg11 arg12 harg12 arg13 arg14 v0 v3 v6 v9 v12 v15 v18 v21 v24 v27 v30 v33 v36 v39 v42 v45 v48 v51 hw1 v53 v89 v90 >>= kk) Q := by
  rw [k0_part26_eq_skeleton]
  unfold k0_part26_skel
  refine wp_joinD c (S1 := iprop(Table (F := F) c arg12 (mask v0 v3 v6 v9 v12 v15 v18 v21 v24 v27 v30 v33 v36 v39 v42 v45 v48 v51) 7 ∗ (Rest c arg5 arg6 arg8 arg9 arg13 arg14 q5 q6 f5 f6 0 lt0_4 ∗ Rest c arg5 arg6 arg8 arg9 arg13 arg14 q5 q6 f5 f6 1 lt1_4 ∗ Rest c arg5 arg6 arg8 arg9 arg13 arg14 q5 q6 f5 f6 2 lt2_4 ∗ Rest c arg5 arg6 arg8 arg9 arg13 arg14 q5 q6 f5 f6 3 lt3_4 ∗ ((∃ XA : S16x2816.Idx → Elt F .f32, Holds (Val := Elt F) (c : Thread nD τ) arg11 XA) ∗ (∃ XB : S16x2816.Idx → Elt F .bf16, Holds (Val := Elt F) (c : Thread nD τ) arg10 XB)) ∗ ((Table (F := F) c arg12 (mask v0 v3 v6 v9 v12 v15 v18 v21 v24 v27 v30 v33 v36 v39 v42 v45 v48 v51) 8
        ∗ Slot c arg5 arg6 arg8 arg9 arg13 arg14 q5 q6 f5 f6 (mask v0 v3 v6 v9 v12 v15 v18 v21 v24 v27 v30 v33 v36 v39 v42 v45 v48 v51) 0 lt0_4 0
        ∗ Slot c arg5 arg6 arg8 arg9 arg13 arg14 q5 q6 f5 f6 (mask v0 v3 v6 v9 v12 v15 v18 v21 v24 v27 v30 v33 v36 v39 v42 v45 v48 v51) 1 lt1_4 1
        ∗ Slot c arg5 arg6 arg8 arg9 arg13 arg14 q5 q6 f5 f6 (mask v0 v3 v6 v9 v12 v15 v18 v21 v24 v27 v30 v33 v36 v39 v42 v45 v48 v51) 2 lt2_4 2
        ∗ Slot c arg5 arg6 arg8 arg9 arg13 arg14 q5 q6 f5 f6 (mask v0 v3 v6 v9 v12 v15 v18 v21 v24 v27 v30 v33 v36 v39 v42 v45 v48 v51) 3 lt3_4 3
        ∗ Holds (Val := Elt F) (c : Thread nD τ) arg11 (k0_pay71 (F := F))
        ∗ Holds (Val := Elt F) (c : Thread nD τ) arg10 (k0_pay72 (F := F))) -∗ ∀ v101 : BitVec 32, wp frame (wpE (defs₀ (F := F)) Variants.none (c : Thread nD τ) none) Set.univ (kk v101) Q)))) ?_ (fun hK h => ?_) (fun h => ?_)
  rotate_left
  · iintro ⟨HT, HR⟩
    iapply (wp_put c (by decide) (cond7_iff.1 h) off6_eq rfl) $$ HT
    iintro HT
    iapply hK
    isplitl [HT]; · iexact HT
    iexact HR
  · iintro ⟨HT, HR⟩
    isplitl [HT]
    · iapply (Table.skip c (fun hb => h (cond7_iff.2 hb))) $$ HT
    iexact HR
  refine wp_joinD c (S1 := iprop(Table (F := F) c arg12 (mask v0 v3 v6 v9 v12 v15 v18 v21 v24 v27 v30 v33 v36 v39 v42 v45 v48 v51) 8 ∗ (Rest c arg5 arg6 arg8 arg9 arg13 arg14 q5 q6 f5 f6 0 lt0_4 ∗ Rest c arg5 arg6 arg8 arg9 arg13 arg14 q5 q6 f5 f6 1 lt1_4 ∗ Rest c arg5 arg6 arg8 arg9 arg13 arg14 q5 q6 f5 f6 2 lt2_4 ∗ Rest c arg5 arg6 arg8 arg9 arg13 arg14 q5 q6 f5 f6 3 lt3_4 ∗ ((∃ XA : S16x2816.Idx → Elt F .f32, Holds (Val := Elt F) (c : Thread nD τ) arg11 XA) ∗ (∃ XB : S16x2816.Idx → Elt F .bf16, Holds (Val := Elt F) (c : Thread nD τ) arg10 XB)) ∗ ((Table (F := F) c arg12 (mask v0 v3 v6 v9 v12 v15 v18 v21 v24 v27 v30 v33 v36 v39 v42 v45 v48 v51) 8
        ∗ Slot c arg5 arg6 arg8 arg9 arg13 arg14 q5 q6 f5 f6 (mask v0 v3 v6 v9 v12 v15 v18 v21 v24 v27 v30 v33 v36 v39 v42 v45 v48 v51) 0 lt0_4 0
        ∗ Slot c arg5 arg6 arg8 arg9 arg13 arg14 q5 q6 f5 f6 (mask v0 v3 v6 v9 v12 v15 v18 v21 v24 v27 v30 v33 v36 v39 v42 v45 v48 v51) 1 lt1_4 1
        ∗ Slot c arg5 arg6 arg8 arg9 arg13 arg14 q5 q6 f5 f6 (mask v0 v3 v6 v9 v12 v15 v18 v21 v24 v27 v30 v33 v36 v39 v42 v45 v48 v51) 2 lt2_4 2
        ∗ Slot c arg5 arg6 arg8 arg9 arg13 arg14 q5 q6 f5 f6 (mask v0 v3 v6 v9 v12 v15 v18 v21 v24 v27 v30 v33 v36 v39 v42 v45 v48 v51) 3 lt3_4 3
        ∗ Holds (Val := Elt F) (c : Thread nD τ) arg11 (k0_pay71 (F := F))
        ∗ Holds (Val := Elt F) (c : Thread nD τ) arg10 (k0_pay72 (F := F))) -∗ ∀ v101 : BitVec 32, wp frame (wpE (defs₀ (F := F)) Variants.none (c : Thread nD τ) none) Set.univ (kk v101) Q)))) ?_ (fun hK h => ?_) (fun h => ?_)
  rotate_left
  · iintro ⟨HT, HR⟩
    iapply (wp_put c (by decide) (cond8_iff.1 h) off7_eq rfl) $$ HT
    iintro HT
    iapply hK
    isplitl [HT]; · iexact HT
    iexact HR
  · iintro ⟨HT, HR⟩
    isplitl [HT]
    · iapply (Table.skip c (fun hb => h (cond8_iff.2 hb))) $$ HT
    iexact HR
  refine wp_joinD c (S1 := iprop(Table (F := F) c arg12 (mask v0 v3 v6 v9 v12 v15 v18 v21 v24 v27 v30 v33 v36 v39 v42 v45 v48 v51) 8 ∗ (Slot c arg5 arg6 arg8 arg9 arg13 arg14 q5 q6 f5 f6 (mask v0 v3 v6 v9 v12 v15 v18 v21 v24 v27 v30 v33 v36 v39 v42 v45 v48 v51) 0 lt0_4 0 ∗ Rest c arg5 arg6 arg8 arg9 arg13 arg14 q5 q6 f5 f6 1 lt1_4 ∗ Rest c arg5 arg6 arg8 arg9 arg13 arg14 q5 q6 f5 f6 2 lt2_4 ∗ Rest c arg5 arg6 arg8 arg9 arg13 arg14 q5 q6 f5 f6 3 lt3_4 ∗ ((∃ XA : S16x2816.Idx → Elt F .f32, Holds (Val := Elt F) (c : Thread nD τ) arg11 XA) ∗ (∃ XB : S16x2816.Idx → Elt F .bf16, Holds (Val := Elt F) (c : Thread nD τ) arg10 XB)) ∗ ((Table (F := F) c arg12 (mask v0 v3 v6 v9 v12 v15 v18 v21 v24 v27 v30 v33 v36 v39 v42 v45 v48 v51) 8
        ∗ Slot c arg5 arg6 arg8 arg9 arg13 arg14 q5 q6 f5 f6 (mask v0 v3 v6 v9 v12 v15 v18 v21 v24 v27 v30 v33 v36 v39 v42 v45 v48 v51) 0 lt0_4 0
        ∗ Slot c arg5 arg6 arg8 arg9 arg13 arg14 q5 q6 f5 f6 (mask v0 v3 v6 v9 v12 v15 v18 v21 v24 v27 v30 v33 v36 v39 v42 v45 v48 v51) 1 lt1_4 1
        ∗ Slot c arg5 arg6 arg8 arg9 arg13 arg14 q5 q6 f5 f6 (mask v0 v3 v6 v9 v12 v15 v18 v21 v24 v27 v30 v33 v36 v39 v42 v45 v48 v51) 2 lt2_4 2
        ∗ Slot c arg5 arg6 arg8 arg9 arg13 arg14 q5 q6 f5 f6 (mask v0 v3 v6 v9 v12 v15 v18 v21 v24 v27 v30 v33 v36 v39 v42 v45 v48 v51) 3 lt3_4 3
        ∗ Holds (Val := Elt F) (c : Thread nD τ) arg11 (k0_pay71 (F := F))
        ∗ Holds (Val := Elt F) (c : Thread nD τ) arg10 (k0_pay72 (F := F))) -∗ ∀ v101 : BitVec 32, wp frame (wpE (defs₀ (F := F)) Variants.none (c : Thread nD τ) none) Set.univ (kk v101) Q)))) ?_ (fun hK h => ?_) (fun h => ?_)
  rotate_left
  · have hi : 0 < act (mask v0 v3 v6 v9 v12 v15 v18 v21 v24 v27 v30 v33 v36 v39 v42 v45 v48 v51) := cond9_iff.1 h
    iintro ⟨HT, HS0, HS1, HS2, HS3, HBUF, HK⟩
    ihave HS0 := (rest_open c arg5 arg6 arg8 arg9 arg13 arg14 q5 q6 f5 f6 0 lt0_4) $$ HS0
    icases HS0 with ⟨HA, HB, HC, HD, HE⟩
    iapply (wp_assoc c)
    iapply (part1 c arg0 harg0 arg1 harg1 arg2 harg2 arg3 harg3 arg4 harg4 arg5 harg5 arg6 harg6 arg7 harg7 arg8 harg8 arg9 harg9 arg10 harg10 arg11 harg11 arg12 harg12 arg13 arg14 v0 v3 v6 v9 v12 v15 v18 v21 v24 v27 v30 v33 v36 v39 v42 v45 v48 v51 q5 q6 f5 f6 h hi) $$ [HT HA HB HC HD]
    · isplitl [HT]; · iexact HT
      isplitl [HA]; · iexact HA
      isplitl [HB]; · iexact HB
      isplitl [HC]; · iexact HC
      iexact HD
    iintro ⟨HT, HA, HB, HC, HD⟩
    iapply (start Variants.none none (gE c arg6 arg9 arg14 q6 f6 0 lt0_4) (mask v0 v3 v6 v9 v12 v15 v18 v21 v24 v27 v30 v33 v36 v39 v42 v45 v48 v51) 0 (off21_eq) (offH22 _ _) (cell14_eq arg14 lt0_4 (by decide) off20_eq)) $$ HE
    iintro HE
    iapply hK
    isplitl [HT]; · iexact HT
    isplitl [HA HB HC HD HE]
    · iapply (slot_mk c arg5 arg6 arg8 arg9 arg13 arg14 q5 q6 f5 f6 (mask v0 v3 v6 v9 v12 v15 v18 v21 v24 v27 v30 v33 v36 v39 v42 v45 v48 v51) 0 lt0_4 0 hi)
      isplitl [HA]; · iexact HA
      isplitl [HB]; · iexact HB
      isplitl [HC]; · iexact HC
      isplitl [HD]; · iexact HD
      iexact HE
    isplitl [HS1]; · iexact HS1
    isplitl [HS2]; · iexact HS2
    isplitl [HS3]; · iexact HS3
    isplitl [HBUF]; · iexact HBUF
    iexact HK
  · have hi : act (mask v0 v3 v6 v9 v12 v15 v18 v21 v24 v27 v30 v33 v36 v39 v42 v45 v48 v51) ≤ 0 := Nat.le_of_not_lt fun hh => h (cond9_iff.2 hh)
    iintro ⟨HT, HS0, HS1, HS2, HS3, HBUF, HK⟩
    isplitl [HT]; · iexact HT
    isplitl [HS0]
    · iapply (slot_none c arg5 arg6 arg8 arg9 arg13 arg14 q5 q6 f5 f6 (mask v0 v3 v6 v9 v12 v15 v18 v21 v24 v27 v30 v33 v36 v39 v42 v45 v48 v51) 0 lt0_4 0 hi) $$ HS0
    isplitl [HS1]; · iexact HS1
    isplitl [HS2]; · iexact HS2
    isplitl [HS3]; · iexact HS3
    isplitl [HBUF]; · iexact HBUF
    iexact HK
  refine wp_joinD c (S1 := iprop(Table (F := F) c arg12 (mask v0 v3 v6 v9 v12 v15 v18 v21 v24 v27 v30 v33 v36 v39 v42 v45 v48 v51) 8 ∗ (Slot c arg5 arg6 arg8 arg9 arg13 arg14 q5 q6 f5 f6 (mask v0 v3 v6 v9 v12 v15 v18 v21 v24 v27 v30 v33 v36 v39 v42 v45 v48 v51) 0 lt0_4 0 ∗ Slot c arg5 arg6 arg8 arg9 arg13 arg14 q5 q6 f5 f6 (mask v0 v3 v6 v9 v12 v15 v18 v21 v24 v27 v30 v33 v36 v39 v42 v45 v48 v51) 1 lt1_4 1 ∗ Rest c arg5 arg6 arg8 arg9 arg13 arg14 q5 q6 f5 f6 2 lt2_4 ∗ Rest c arg5 arg6 arg8 arg9 arg13 arg14 q5 q6 f5 f6 3 lt3_4 ∗ ((∃ XA : S16x2816.Idx → Elt F .f32, Holds (Val := Elt F) (c : Thread nD τ) arg11 XA) ∗ (∃ XB : S16x2816.Idx → Elt F .bf16, Holds (Val := Elt F) (c : Thread nD τ) arg10 XB)) ∗ ((Table (F := F) c arg12 (mask v0 v3 v6 v9 v12 v15 v18 v21 v24 v27 v30 v33 v36 v39 v42 v45 v48 v51) 8
        ∗ Slot c arg5 arg6 arg8 arg9 arg13 arg14 q5 q6 f5 f6 (mask v0 v3 v6 v9 v12 v15 v18 v21 v24 v27 v30 v33 v36 v39 v42 v45 v48 v51) 0 lt0_4 0
        ∗ Slot c arg5 arg6 arg8 arg9 arg13 arg14 q5 q6 f5 f6 (mask v0 v3 v6 v9 v12 v15 v18 v21 v24 v27 v30 v33 v36 v39 v42 v45 v48 v51) 1 lt1_4 1
        ∗ Slot c arg5 arg6 arg8 arg9 arg13 arg14 q5 q6 f5 f6 (mask v0 v3 v6 v9 v12 v15 v18 v21 v24 v27 v30 v33 v36 v39 v42 v45 v48 v51) 2 lt2_4 2
        ∗ Slot c arg5 arg6 arg8 arg9 arg13 arg14 q5 q6 f5 f6 (mask v0 v3 v6 v9 v12 v15 v18 v21 v24 v27 v30 v33 v36 v39 v42 v45 v48 v51) 3 lt3_4 3
        ∗ Holds (Val := Elt F) (c : Thread nD τ) arg11 (k0_pay71 (F := F))
        ∗ Holds (Val := Elt F) (c : Thread nD τ) arg10 (k0_pay72 (F := F))) -∗ ∀ v101 : BitVec 32, wp frame (wpE (defs₀ (F := F)) Variants.none (c : Thread nD τ) none) Set.univ (kk v101) Q)))) ?_ (fun hK h => ?_) (fun h => ?_)
  rotate_left
  · have hi : 1 < act (mask v0 v3 v6 v9 v12 v15 v18 v21 v24 v27 v30 v33 v36 v39 v42 v45 v48 v51) := cond10_iff.1 h
    iintro ⟨HT, HS0, HS1, HS2, HS3, HBUF, HK⟩
    ihave HS1 := (rest_open c arg5 arg6 arg8 arg9 arg13 arg14 q5 q6 f5 f6 1 lt1_4) $$ HS1
    icases HS1 with ⟨HA, HB, HC, HD, HE⟩
    iapply (wp_assoc c)
    iapply (part2 c arg0 harg0 arg1 harg1 arg2 harg2 arg3 harg3 arg4 harg4 arg5 harg5 arg6 harg6 arg7 harg7 arg8 harg8 arg9 harg9 arg10 harg10 arg11 harg11 arg12 harg12 arg13 arg14 v0 v3 v6 v9 v12 v15 v18 v21 v24 v27 v30 v33 v36 v39 v42 v45 v48 v51 q5 q6 f5 f6 h hi) $$ [HT HA HB HC HD]
    · isplitl [HT]; · iexact HT
      isplitl [HA]; · iexact HA
      isplitl [HB]; · iexact HB
      isplitl [HC]; · iexact HC
      iexact HD
    iintro ⟨HT, HA, HB, HC, HD⟩
    iapply (start Variants.none none (gE c arg6 arg9 arg14 q6 f6 1 lt1_4) (mask v0 v3 v6 v9 v12 v15 v18 v21 v24 v27 v30 v33 v36 v39 v42 v45 v48 v51) 1 (off36_eq) (offH37 _ _) (cell14_eq arg14 lt1_4 (by decide) off35_eq)) $$ HE
    iintro HE
    iapply hK
    isplitl [HT]; · iexact HT
    isplitl [HS0]; · iexact HS0
    isplitl [HA HB HC HD HE]
    · iapply (slot_mk c arg5 arg6 arg8 arg9 arg13 arg14 q5 q6 f5 f6 (mask v0 v3 v6 v9 v12 v15 v18 v21 v24 v27 v30 v33 v36 v39 v42 v45 v48 v51) 1 lt1_4 1 hi)
      isplitl [HA]; · iexact HA
      isplitl [HB]; · iexact HB
      isplitl [HC]; · iexact HC
      isplitl [HD]; · iexact HD
      iexact HE
    isplitl [HS2]; · iexact HS2
    isplitl [HS3]; · iexact HS3
    isplitl [HBUF]; · iexact HBUF
    iexact HK
  · have hi : act (mask v0 v3 v6 v9 v12 v15 v18 v21 v24 v27 v30 v33 v36 v39 v42 v45 v48 v51) ≤ 1 := Nat.le_of_not_lt fun hh => h (cond10_iff.2 hh)
    iintro ⟨HT, HS0, HS1, HS2, HS3, HBUF, HK⟩
    isplitl [HT]; · iexact HT
    isplitl [HS0]; · iexact HS0
    isplitl [HS1]
    · iapply (slot_none c arg5 arg6 arg8 arg9 arg13 arg14 q5 q6 f5 f6 (mask v0 v3 v6 v9 v12 v15 v18 v21 v24 v27 v30 v33 v36 v39 v42 v45 v48 v51) 1 lt1_4 1 hi) $$ HS1
    isplitl [HS2]; · iexact HS2
    isplitl [HS3]; · iexact HS3
    isplitl [HBUF]; · iexact HBUF
    iexact HK
  refine wp_joinD c (S1 := iprop(Table (F := F) c arg12 (mask v0 v3 v6 v9 v12 v15 v18 v21 v24 v27 v30 v33 v36 v39 v42 v45 v48 v51) 8 ∗ (Slot c arg5 arg6 arg8 arg9 arg13 arg14 q5 q6 f5 f6 (mask v0 v3 v6 v9 v12 v15 v18 v21 v24 v27 v30 v33 v36 v39 v42 v45 v48 v51) 0 lt0_4 0 ∗ Slot c arg5 arg6 arg8 arg9 arg13 arg14 q5 q6 f5 f6 (mask v0 v3 v6 v9 v12 v15 v18 v21 v24 v27 v30 v33 v36 v39 v42 v45 v48 v51) 1 lt1_4 1 ∗ Slot c arg5 arg6 arg8 arg9 arg13 arg14 q5 q6 f5 f6 (mask v0 v3 v6 v9 v12 v15 v18 v21 v24 v27 v30 v33 v36 v39 v42 v45 v48 v51) 2 lt2_4 2 ∗ Rest c arg5 arg6 arg8 arg9 arg13 arg14 q5 q6 f5 f6 3 lt3_4 ∗ ((∃ XA : S16x2816.Idx → Elt F .f32, Holds (Val := Elt F) (c : Thread nD τ) arg11 XA) ∗ (∃ XB : S16x2816.Idx → Elt F .bf16, Holds (Val := Elt F) (c : Thread nD τ) arg10 XB)) ∗ ((Table (F := F) c arg12 (mask v0 v3 v6 v9 v12 v15 v18 v21 v24 v27 v30 v33 v36 v39 v42 v45 v48 v51) 8
        ∗ Slot c arg5 arg6 arg8 arg9 arg13 arg14 q5 q6 f5 f6 (mask v0 v3 v6 v9 v12 v15 v18 v21 v24 v27 v30 v33 v36 v39 v42 v45 v48 v51) 0 lt0_4 0
        ∗ Slot c arg5 arg6 arg8 arg9 arg13 arg14 q5 q6 f5 f6 (mask v0 v3 v6 v9 v12 v15 v18 v21 v24 v27 v30 v33 v36 v39 v42 v45 v48 v51) 1 lt1_4 1
        ∗ Slot c arg5 arg6 arg8 arg9 arg13 arg14 q5 q6 f5 f6 (mask v0 v3 v6 v9 v12 v15 v18 v21 v24 v27 v30 v33 v36 v39 v42 v45 v48 v51) 2 lt2_4 2
        ∗ Slot c arg5 arg6 arg8 arg9 arg13 arg14 q5 q6 f5 f6 (mask v0 v3 v6 v9 v12 v15 v18 v21 v24 v27 v30 v33 v36 v39 v42 v45 v48 v51) 3 lt3_4 3
        ∗ Holds (Val := Elt F) (c : Thread nD τ) arg11 (k0_pay71 (F := F))
        ∗ Holds (Val := Elt F) (c : Thread nD τ) arg10 (k0_pay72 (F := F))) -∗ ∀ v101 : BitVec 32, wp frame (wpE (defs₀ (F := F)) Variants.none (c : Thread nD τ) none) Set.univ (kk v101) Q)))) ?_ (fun hK h => ?_) (fun h => ?_)
  rotate_left
  · have hi : 2 < act (mask v0 v3 v6 v9 v12 v15 v18 v21 v24 v27 v30 v33 v36 v39 v42 v45 v48 v51) := cond11_iff.1 h
    iintro ⟨HT, HS0, HS1, HS2, HS3, HBUF, HK⟩
    ihave HS2 := (rest_open c arg5 arg6 arg8 arg9 arg13 arg14 q5 q6 f5 f6 2 lt2_4) $$ HS2
    icases HS2 with ⟨HA, HB, HC, HD, HE⟩
    iapply (wp_assoc c)
    iapply (part3 c arg0 harg0 arg1 harg1 arg2 harg2 arg3 harg3 arg4 harg4 arg5 harg5 arg6 harg6 arg7 harg7 arg8 harg8 arg9 harg9 arg10 harg10 arg11 harg11 arg12 harg12 arg13 arg14 v0 v3 v6 v9 v12 v15 v18 v21 v24 v27 v30 v33 v36 v39 v42 v45 v48 v51 q5 q6 f5 f6 h hi) $$ [HT HA HB HC HD]
    · isplitl [HT]; · iexact HT
      isplitl [HA]; · iexact HA
      isplitl [HB]; · iexact HB
      isplitl [HC]; · iexact HC
      iexact HD
    iintro ⟨HT, HA, HB, HC, HD⟩
    iapply (start Variants.none none (gE c arg6 arg9 arg14 q6 f6 2 lt2_4) (mask v0 v3 v6 v9 v12 v15 v18 v21 v24 v27 v30 v33 v36 v39 v42 v45 v48 v51) 2 (off51_eq) (offH52 _ _) (cell14_eq arg14 lt2_4 (by decide) off50_eq)) $$ HE
    iintro HE
    iapply hK
    isplitl [HT]; · iexact HT
    isplitl [HS0]; · iexact HS0
    isplitl [HS1]; · iexact HS1
    isplitl [HA HB HC HD HE]
    · iapply (slot_mk c arg5 arg6 arg8 arg9 arg13 arg14 q5 q6 f5 f6 (mask v0 v3 v6 v9 v12 v15 v18 v21 v24 v27 v30 v33 v36 v39 v42 v45 v48 v51) 2 lt2_4 2 hi)
      isplitl [HA]; · iexact HA
      isplitl [HB]; · iexact HB
      isplitl [HC]; · iexact HC
      isplitl [HD]; · iexact HD
      iexact HE
    isplitl [HS3]; · iexact HS3
    isplitl [HBUF]; · iexact HBUF
    iexact HK
  · have hi : act (mask v0 v3 v6 v9 v12 v15 v18 v21 v24 v27 v30 v33 v36 v39 v42 v45 v48 v51) ≤ 2 := Nat.le_of_not_lt fun hh => h (cond11_iff.2 hh)
    iintro ⟨HT, HS0, HS1, HS2, HS3, HBUF, HK⟩
    isplitl [HT]; · iexact HT
    isplitl [HS0]; · iexact HS0
    isplitl [HS1]; · iexact HS1
    isplitl [HS2]
    · iapply (slot_none c arg5 arg6 arg8 arg9 arg13 arg14 q5 q6 f5 f6 (mask v0 v3 v6 v9 v12 v15 v18 v21 v24 v27 v30 v33 v36 v39 v42 v45 v48 v51) 2 lt2_4 2 hi) $$ HS2
    isplitl [HS3]; · iexact HS3
    isplitl [HBUF]; · iexact HBUF
    iexact HK
  refine wp_joinD c (S1 := iprop(Table (F := F) c arg12 (mask v0 v3 v6 v9 v12 v15 v18 v21 v24 v27 v30 v33 v36 v39 v42 v45 v48 v51) 8 ∗ (Slot c arg5 arg6 arg8 arg9 arg13 arg14 q5 q6 f5 f6 (mask v0 v3 v6 v9 v12 v15 v18 v21 v24 v27 v30 v33 v36 v39 v42 v45 v48 v51) 0 lt0_4 0 ∗ Slot c arg5 arg6 arg8 arg9 arg13 arg14 q5 q6 f5 f6 (mask v0 v3 v6 v9 v12 v15 v18 v21 v24 v27 v30 v33 v36 v39 v42 v45 v48 v51) 1 lt1_4 1 ∗ Slot c arg5 arg6 arg8 arg9 arg13 arg14 q5 q6 f5 f6 (mask v0 v3 v6 v9 v12 v15 v18 v21 v24 v27 v30 v33 v36 v39 v42 v45 v48 v51) 2 lt2_4 2 ∗ Slot c arg5 arg6 arg8 arg9 arg13 arg14 q5 q6 f5 f6 (mask v0 v3 v6 v9 v12 v15 v18 v21 v24 v27 v30 v33 v36 v39 v42 v45 v48 v51) 3 lt3_4 3 ∗ ((∃ XA : S16x2816.Idx → Elt F .f32, Holds (Val := Elt F) (c : Thread nD τ) arg11 XA) ∗ (∃ XB : S16x2816.Idx → Elt F .bf16, Holds (Val := Elt F) (c : Thread nD τ) arg10 XB)) ∗ ((Table (F := F) c arg12 (mask v0 v3 v6 v9 v12 v15 v18 v21 v24 v27 v30 v33 v36 v39 v42 v45 v48 v51) 8
        ∗ Slot c arg5 arg6 arg8 arg9 arg13 arg14 q5 q6 f5 f6 (mask v0 v3 v6 v9 v12 v15 v18 v21 v24 v27 v30 v33 v36 v39 v42 v45 v48 v51) 0 lt0_4 0
        ∗ Slot c arg5 arg6 arg8 arg9 arg13 arg14 q5 q6 f5 f6 (mask v0 v3 v6 v9 v12 v15 v18 v21 v24 v27 v30 v33 v36 v39 v42 v45 v48 v51) 1 lt1_4 1
        ∗ Slot c arg5 arg6 arg8 arg9 arg13 arg14 q5 q6 f5 f6 (mask v0 v3 v6 v9 v12 v15 v18 v21 v24 v27 v30 v33 v36 v39 v42 v45 v48 v51) 2 lt2_4 2
        ∗ Slot c arg5 arg6 arg8 arg9 arg13 arg14 q5 q6 f5 f6 (mask v0 v3 v6 v9 v12 v15 v18 v21 v24 v27 v30 v33 v36 v39 v42 v45 v48 v51) 3 lt3_4 3
        ∗ Holds (Val := Elt F) (c : Thread nD τ) arg11 (k0_pay71 (F := F))
        ∗ Holds (Val := Elt F) (c : Thread nD τ) arg10 (k0_pay72 (F := F))) -∗ ∀ v101 : BitVec 32, wp frame (wpE (defs₀ (F := F)) Variants.none (c : Thread nD τ) none) Set.univ (kk v101) Q)))) ?_ (fun hK h => ?_) (fun h => ?_)
  rotate_left
  · have hi : 3 < act (mask v0 v3 v6 v9 v12 v15 v18 v21 v24 v27 v30 v33 v36 v39 v42 v45 v48 v51) := cond12_iff.1 h
    iintro ⟨HT, HS0, HS1, HS2, HS3, HBUF, HK⟩
    ihave HS3 := (rest_open c arg5 arg6 arg8 arg9 arg13 arg14 q5 q6 f5 f6 3 lt3_4) $$ HS3
    icases HS3 with ⟨HA, HB, HC, HD, HE⟩
    iapply (wp_assoc c)
    iapply (part4 c arg0 harg0 arg1 harg1 arg2 harg2 arg3 harg3 arg4 harg4 arg5 harg5 arg6 harg6 arg7 harg7 arg8 harg8 arg9 harg9 arg10 harg10 arg11 harg11 arg12 harg12 arg13 arg14 v0 v3 v6 v9 v12 v15 v18 v21 v24 v27 v30 v33 v36 v39 v42 v45 v48 v51 q5 q6 f5 f6 h hi) $$ [HT HA HB HC HD]
    · isplitl [HT]; · iexact HT
      isplitl [HA]; · iexact HA
      isplitl [HB]; · iexact HB
      isplitl [HC]; · iexact HC
      iexact HD
    iintro ⟨HT, HA, HB, HC, HD⟩
    iapply (start Variants.none none (gE c arg6 arg9 arg14 q6 f6 3 lt3_4) (mask v0 v3 v6 v9 v12 v15 v18 v21 v24 v27 v30 v33 v36 v39 v42 v45 v48 v51) 3 (off66_eq) (offH67 _ _) (cell14_eq arg14 lt3_4 (by decide) off65_eq)) $$ HE
    iintro HE
    iapply hK
    isplitl [HT]; · iexact HT
    isplitl [HS0]; · iexact HS0
    isplitl [HS1]; · iexact HS1
    isplitl [HS2]; · iexact HS2
    isplitl [HA HB HC HD HE]
    · iapply (slot_mk c arg5 arg6 arg8 arg9 arg13 arg14 q5 q6 f5 f6 (mask v0 v3 v6 v9 v12 v15 v18 v21 v24 v27 v30 v33 v36 v39 v42 v45 v48 v51) 3 lt3_4 3 hi)
      isplitl [HA]; · iexact HA
      isplitl [HB]; · iexact HB
      isplitl [HC]; · iexact HC
      isplitl [HD]; · iexact HD
      iexact HE
    isplitl [HBUF]; · iexact HBUF
    iexact HK
  · have hi : act (mask v0 v3 v6 v9 v12 v15 v18 v21 v24 v27 v30 v33 v36 v39 v42 v45 v48 v51) ≤ 3 := Nat.le_of_not_lt fun hh => h (cond12_iff.2 hh)
    iintro ⟨HT, HS0, HS1, HS2, HS3, HBUF, HK⟩
    isplitl [HT]; · iexact HT
    isplitl [HS0]; · iexact HS0
    isplitl [HS1]; · iexact HS1
    isplitl [HS2]; · iexact HS2
    isplitl [HS3]
    · iapply (slot_none c arg5 arg6 arg8 arg9 arg13 arg14 q5 q6 f5 f6 (mask v0 v3 v6 v9 v12 v15 v18 v21 v24 v27 v30 v33 v36 v39 v42 v45 v48 v51) 3 lt3_4 3 hi) $$ HS3
    isplitl [HBUF]; · iexact HBUF
    iexact HK
  iintro ⟨HT, HS0, HS1, HS2, HS3, ⟨⟨%XA, HA⟩, ⟨%XB, HB⟩⟩, HK⟩
  iapply (wp_loadH Variants.none (c : Thread nD τ) none (X := XA)) $$ HA
  iintro HA
  iapply (wp_storeH Variants.none (c : Thread nD τ) none (X := XA) (k0_pay71 (F := F)) (fun x => congrArg _ (pay71_rect x)) (fun y hy => absurd (whole_set y) hy)) $$ HA
  iintro HA
  iapply (wp_loadH Variants.none (c : Thread nD τ) none (X := XB)) $$ HB
  iintro HB
  iapply (wp_storeH Variants.none (c : Thread nD τ) none (X := XB) (k0_pay72 (F := F)) (fun x => congrArg _ (pay71_rect x)) (fun y hy => absurd (whole_set y) hy)) $$ HB
  iintro HB
  ispecialize HK $$ [HT HS0 HS1 HS2 HS3 HA HB]
  · isplitl [HT]; · iexact HT
    isplitl [HS0]; · iexact HS0
    isplitl [HS1]; · iexact HS1
    isplitl [HS2]; · iexact HS2
    isplitl [HS3]; · iexact HS3
    isplitl [HA]; · iexact HA
    iexact HB
  iapply (wp_pure c)
  iapply HK

/-- The rows of the input, in the sixteen rows the products take. -/
def xbOf (X : S9x2816.Idx → Elt F .bf16) : S16x2816.Idx → Elt F .bf16 := fun y =>
  if h : (y 0).val < 10 then updateSlice (s := S10x2816) (fun x => k0_pay72 (F := F) ((Rect.unit (s := S16x2816) ![0, 0] S10x2816.size inb_S16x2816_S10x2816_0_0).emb x))
    (k0_pay73 (F := F) X) ![0, 0] slices_S10x2816_S9x2816_0_0 (ix2 (⟨(y 0).val, h⟩ : Fin 10) (y 1 : Fin 2816)) else k0_pay72 (F := F) y

theorem nine_rect (x : (Rect.unit (s := S9x2816) ![0, 0] S9x2816.size inb_S9x2816_S9x2816_0_0).shape.Idx) :
    (Rect.unit (s := S9x2816) ![0, 0] S9x2816.size inb_S9x2816_S9x2816_0_0).emb x = x := by
  funext a
  apply Fin.ext
  rw [Rect.emb_apply]
  fin_cases a
  · change 0 + 1 * (x 0).val = (x 0).val
    omega
  · change 0 + 1 * (x 1).val = (x 1).val
    omega

theorem xb_in (X : S9x2816.Idx → Elt F .bf16) (x : (Rect.unit (s := S16x2816) ![0, 0] S10x2816.size inb_S16x2816_S10x2816_0_0).shape.Idx) :
    xbOf X ((Rect.unit (s := S16x2816) ![0, 0] S10x2816.size inb_S16x2816_S10x2816_0_0).emb x)
      = updateSlice (s := S10x2816) (fun x => k0_pay72 (F := F) ((Rect.unit (s := S16x2816) ![0, 0] S10x2816.size inb_S16x2816_S10x2816_0_0).emb x))
          (k0_pay73 (F := F) X) ![0, 0] slices_S10x2816_S9x2816_0_0 x := by
  have h0 : (((Rect.unit (s := S16x2816) ![0, 0] S10x2816.size inb_S16x2816_S10x2816_0_0).emb x) 0).val = (x 0).val := by
    rw [Rect.emb_apply]
    change 0 + 1 * (x 0).val = (x 0).val
    omega
  have h1 : (((Rect.unit (s := S16x2816) ![0, 0] S10x2816.size inb_S16x2816_S10x2816_0_0).emb x) 1).val = (x 1).val := by
    rw [Rect.emb_apply]
    change 0 + 1 * (x 1).val = (x 1).val
    omega
  have hx : (x 0).val < 10 := (x 0).isLt
  unfold xbOf
  rw [dif_pos (by rw [h0]; exact hx)]
  congr 1
  funext a
  apply Fin.ext
  fin_cases a
  · exact h0
  · exact h1

theorem xb_out (X : S9x2816.Idx → Elt F .bf16) (y : S16x2816.Idx) (hy : y ∉ (Rect.unit (s := S16x2816) ![0, 0] S10x2816.size inb_S16x2816_S10x2816_0_0).set) :
    xbOf X y = k0_pay72 (F := F) y := by
  unfold xbOf
  rw [dif_neg]
  intro h
  apply hy
  rw [Rect.mem_set_unit]
  intro a
  have hl := (y a).isLt
  fin_cases a
  · exact ⟨Nat.zero_le _, lt_of_lt_of_eq h (Nat.zero_add _).symm⟩
  · exact ⟨Nat.zero_le _, lt_of_lt_of_eq hl (Nat.zero_add _).symm⟩

/-- The input rows, and the first terms of the tables of weights. -/
theorem part27 {α : Type} {Q : α → sProp 𝕄} (I : S9x2.Idx → Elt F .i32) (W : S9x2.Idx → Elt F .f32) (X2 : S9x2816.Idx → Elt F .bf16)
    {kk : (Σ' (v127 : IVec S16x128 32) (v141 : FVec F S16x128 .f32) (v146 : IVec S16x128 32) (v151 : FVec F S16x128 .f32) (v156 : IVec S16x128 32), BitVec 32) → Prog (TpuEff nD τ sig (Elt F) Λ₀ .tc) α} :
    iprop(Holds (Val := Elt F) (c : Thread nD τ) arg0 I
        ∗ Holds (Val := Elt F) (c : Thread nD τ) arg1 W
        ∗ Holds (Val := Elt F) (c : Thread nD τ) arg2 X2
        ∗ Holds (Val := Elt F) (c : Thread nD τ) arg10 (k0_pay72 (F := F)))
      ⊢ iprop((iprop(Holds (Val := Elt F) (c : Thread nD τ) arg0 I
        ∗ Holds (Val := Elt F) (c : Thread nD τ) arg1 W
        ∗ Holds (Val := Elt F) (c : Thread nD τ) arg2 X2
        ∗ Holds (Val := Elt F) (c : Thread nD τ) arg10 (xbOf X2)) -∗
          wp frame (wpE (defs₀ (F := F)) Variants.none (c : Thread nD τ) none) Set.univ (kk ⟨(iota .tc S16x128 32 [0] iota_S16x128_d0_w32), k0_pay74 (W (at92 0 0)), k0_pay75 (I (at92 0 1)), k0_pay76 (W (at92 0 1)), k0_pay77 (I (at92 0 0)) (I (at92 1 0)), 1#32⟩) Q)
        -∗ wp frame (wpE (defs₀ (F := F)) Variants.none (c : Thread nD τ) none) Set.univ (k0_part27 arg0 harg0 arg1 harg1 arg2 harg2 arg3 harg3 arg4 harg4 arg5 harg5 arg6 harg6 arg7 harg7 arg8 harg8 arg9 harg9 arg10 harg10 arg11 harg11 arg12 harg12 arg13 arg14 >>= kk) Q) := by
  rw [k0_part27_eq_skeleton]
  unfold k0_part27_skel
  iintro ⟨H0, H1, H2, HX⟩ Hk
  iapply (wp_loadH Variants.none (c : Thread nD τ) none) $$ H2
  iintro H2
  iapply (wp_loadH Variants.none (c : Thread nD τ) none) $$ HX
  iintro HX
  iapply (wp_loadH Variants.none (c : Thread nD τ) none) $$ HX
  iintro HX
  rw [show (fun x : (Rect.unit (s := S9x2816) ![0, 0] S9x2816.size inb_S9x2816_S9x2816_0_0).shape.Idx => X2 ((Rect.unit (s := S9x2816) ![0, 0] S9x2816.size inb_S9x2816_S9x2816_0_0).emb x)) = X2 from funext fun x => congrArg X2 (nine_rect x)]
  iapply (wp_storeH Variants.none (c : Thread nD τ) none (xbOf X2) (fun x => (xb_in X2 x)) (fun y hy => xb_out X2 y hy)) $$ HX
  iintro HX
  iapply (wp_at c (0 : Fin 9) (0 : Fin 2) rfl) $$ H0
  iintro H0
  iapply (wp_at c (0 : Fin 9) (0 : Fin 2) rfl) $$ H1
  iintro H1
  iapply (wp_at c (0 : Fin 9) (1 : Fin 2) rfl) $$ H0
  iintro H0
  iapply (wp_at c (0 : Fin 9) (1 : Fin 2) rfl) $$ H1
  iintro H1
  iapply (wp_at c (1 : Fin 9) (0 : Fin 2) rfl) $$ H0
  iintro H0
  iapply Hk
  isplitl [H0]; · iexact H0
  isplitl [H1]; · iexact H1
  isplitl [H2]; · iexact H2
  iexact HX

/-- Further terms of the tables of weights. -/
theorem part28 {α : Type} {Q : α → sProp 𝕄} (I : S9x2.Idx → Elt F .i32) (W : S9x2.Idx → Elt F .f32) (v127 : IVec S16x128 32) (v141 : FVec F S16x128 .f32) (v146 : IVec S16x128 32) (v151 : FVec F S16x128 .f32) (v156 : IVec S16x128 32) (c1_i32_107 : BitVec 32)
    {kk : (Σ' (v176 : IVec S16x128 32) (v181 : FVec F S16x128 .f32) (v186 : IVec S16x128 32) (v191 : FVec F S16x128 .f32), IVec S16x128 1) → Prog (TpuEff nD τ sig (Elt F) Λ₀ .tc) α} :
    iprop(Holds (Val := Elt F) (c : Thread nD τ) arg0 I
        ∗ Holds (Val := Elt F) (c : Thread nD τ) arg1 W)
      ⊢ iprop((iprop(Holds (Val := Elt F) (c : Thread nD τ) arg0 I
        ∗ Holds (Val := Elt F) (c : Thread nD τ) arg1 W) -∗
          wp frame (wpE (defs₀ (F := F)) Variants.none (c : Thread nD τ) none) Set.univ (kk ⟨k0_pay78 v127 v156 (I (at92 2 0)), k0_pay79 v127 v141 c1_i32_107 (W (at92 1 0)) (W (at92 2 0)), k0_pay80 v127 v146 (I (at92 1 1)) (I (at92 2 1)), k0_pay81 v127 v151 (W (at92 1 1)) (W (at92 2 1)), k0_pay82 v127⟩) Q)
        -∗ wp frame (wpE (defs₀ (F := F)) Variants.none (c : Thread nD τ) none) Set.univ (k0_part28 arg0 harg0 arg1 harg1 arg2 harg2 arg3 harg3 arg4 harg4 arg5 harg5 arg6 harg6 arg7 harg7 arg8 harg8 arg9 harg9 arg10 harg10 arg11 harg11 arg12 harg12 arg13 arg14 v127 v141 v146 v151 v156 c1_i32_107 >>= kk) Q) := by
  rw [k0_part28_eq_skeleton]
  unfold k0_part28_skel
  iintro ⟨H0, H1⟩ Hk
  iapply (wp_at c (1 : Fin 9) (0 : Fin 2) rfl) $$ H1
  iintro H1
  iapply (wp_at c (1 : Fin 9) (1 : Fin 2) rfl) $$ H0
  iintro H0
  iapply (wp_at c (1 : Fin 9) (1 : Fin 2) rfl) $$ H1
  iintro H1
  iapply (wp_at c (2 : Fin 9) (0 : Fin 2) rfl) $$ H0
  iintro H0
  iapply (wp_at c (2 : Fin 9) (0 : Fin 2) rfl) $$ H1
  iintro H1
  iapply (wp_at c (2 : Fin 9) (1 : Fin 2) rfl) $$ H0
  iintro H0
  iapply (wp_at c (2 : Fin 9) (1 : Fin 2) rfl) $$ H1
  iintro H1
  iapply Hk
  isplitl [H0]; · iexact H0
  iexact H1

/-- Further terms of the tables of weights. -/
theorem part29 {α : Type} {Q : α → sProp 𝕄} (I : S9x2.Idx → Elt F .i32) (W : S9x2.Idx → Elt F .f32) (v127 : IVec S16x128 32) (v176 : IVec S16x128 32) (v181 : FVec F S16x128 .f32) (v186 : IVec S16x128 32) (v191 : FVec F S16x128 .f32) (v193 : IVec S16x128 1)
    {kk : (Σ' (v216 : IVec S16x128 32) (v221 : FVec F S16x128 .f32) (v226 : IVec S16x128 32) (v231 : FVec F S16x128 .f32), BitVec 32) → Prog (TpuEff nD τ sig (Elt F) Λ₀ .tc) α} :
    iprop(Holds (Val := Elt F) (c : Thread nD τ) arg0 I
        ∗ Holds (Val := Elt F) (c : Thread nD τ) arg1 W)
      ⊢ iprop((iprop(Holds (Val := Elt F) (c : Thread nD τ) arg0 I
        ∗ Holds (Val := Elt F) (c : Thread nD τ) arg1 W) -∗
          wp frame (wpE (defs₀ (F := F)) Variants.none (c : Thread nD τ) none) Set.univ (kk ⟨k0_pay83 v127 v176 v193 (I (at92 3 0)) (I (at92 4 0)), k0_pay84 v127 v181 (W (at92 3 0)) (W (at92 4 0)), k0_pay85 v127 v186 (I (at92 3 1)) (I (at92 4 1)), k0_pay86 v127 v191 (W (at92 3 1)) (W (at92 4 1)), 5#32⟩) Q)
        -∗ wp frame (wpE (defs₀ (F := F)) Variants.none (c : Thread nD τ) none) Set.univ (k0_part29 arg0 harg0 arg1 harg1 arg2 harg2 arg3 harg3 arg4 harg4 arg5 harg5 arg6 harg6 arg7 harg7 arg8 harg8 arg9 harg9 arg10 harg10 arg11 harg11 arg12 harg12 arg13 arg14 v127 v176 v181 v186 v191 v193 >>= kk) Q) := by
  rw [k0_part29_eq_skeleton]
  unfold k0_part29_skel
  iintro ⟨H0, H1⟩ Hk
  iapply (wp_at c (3 : Fin 9) (0 : Fin 2) rfl) $$ H0
  iintro H0
  iapply (wp_at c (3 : Fin 9) (0 : Fin 2) rfl) $$ H1
  iintro H1
  iapply (wp_at c (3 : Fin 9) (1 : Fin 2) rfl) $$ H0
  iintro H0
  iapply (wp_at c (3 : Fin 9) (1 : Fin 2) rfl) $$ H1
  iintro H1
  iapply (wp_at c (4 : Fin 9) (0 : Fin 2) rfl) $$ H0
  iintro H0
  iapply (wp_at c (4 : Fin 9) (0 : Fin 2) rfl) $$ H1
  iintro H1
  iapply (wp_at c (4 : Fin 9) (1 : Fin 2) rfl) $$ H0
  iintro H0
  iapply (wp_at c (4 : Fin 9) (1 : Fin 2) rfl) $$ H1
  iintro H1
  iapply Hk
  isplitl [H0]; · iexact H0
  iexact H1

/-- Further terms of the tables of weights. -/
theorem part30 {α : Type} {Q : α → sProp 𝕄} (I : S9x2.Idx → Elt F .i32) (W : S9x2.Idx → Elt F .f32) (v127 : IVec S16x128 32) (v216 : IVec S16x128 32) (v221 : FVec F S16x128 .f32) (v226 : IVec S16x128 32) (v231 : FVec F S16x128 .f32) (c5_i32_152 : BitVec 32)
    {kk : (Σ' (v251 : FVec F S16x128 .f32) (v256 : IVec S16x128 32) (v261 : FVec F S16x128 .f32) (v266 : IVec S16x128 32), IVec S16x128 1) → Prog (TpuEff nD τ sig (Elt F) Λ₀ .tc) α} :
    iprop(Holds (Val := Elt F) (c : Thread nD τ) arg0 I
        ∗ Holds (Val := Elt F) (c : Thread nD τ) arg1 W)
      ⊢ iprop((iprop(Holds (Val := Elt F) (c : Thread nD τ) arg0 I
        ∗ Holds (Val := Elt F) (c : Thread nD τ) arg1 W) -∗
          wp frame (wpE (defs₀ (F := F)) Variants.none (c : Thread nD τ) none) Set.univ (kk ⟨k0_pay87 v127 v231 (W (at92 5 1)), k0_pay88 v127 v216 c5_i32_152 (I (at92 5 0)) (I (at92 6 0)), k0_pay89 v127 v221 (W (at92 5 0)) (W (at92 6 0)), k0_pay90 v127 v226 (I (at92 5 1)) (I (at92 6 1)), k0_pay91 v127⟩) Q)
        -∗ wp frame (wpE (defs₀ (F := F)) Variants.none (c : Thread nD τ) none) Set.univ (k0_part30 arg0 harg0 arg1 harg1 arg2 harg2 arg3 harg3 arg4 harg4 arg5 harg5 arg6 harg6 arg7 harg7 arg8 harg8 arg9 harg9 arg10 harg10 arg11 harg11 arg12 harg12 arg13 arg14 v127 v216 v221 v226 v231 c5_i32_152 >>= kk) Q) := by
  rw [k0_part30_eq_skeleton]
  unfold k0_part30_skel
  iintro ⟨H0, H1⟩ Hk
  iapply (wp_at c (5 : Fin 9) (0 : Fin 2) rfl) $$ H0
  iintro H0
  iapply (wp_at c (5 : Fin 9) (0 : Fin 2) rfl) $$ H1
  iintro H1
  iapply (wp_at c (5 : Fin 9) (1 : Fin 2) rfl) $$ H0
  iintro H0
  iapply (wp_at c (5 : Fin 9) (1 : Fin 2) rfl) $$ H1
  iintro H1
  iapply (wp_at c (6 : Fin 9) (0 : Fin 2) rfl) $$ H0
  iintro H0
  iapply (wp_at c (6 : Fin 9) (0 : Fin 2) rfl) $$ H1
  iintro H1
  iapply (wp_at c (6 : Fin 9) (1 : Fin 2) rfl) $$ H0
  iintro H0
  iapply Hk
  isplitl [H0]; · iexact H0
  iexact H1

/-- Further terms of the tables of weights. -/
theorem part31 {α : Type} {Q : α → sProp 𝕄} (I : S9x2.Idx → Elt F .i32) (W : S9x2.Idx → Elt F .f32) (v127 : IVec S16x128 32) (v251 : FVec F S16x128 .f32) (v256 : IVec S16x128 32) (v261 : FVec F S16x128 .f32) (v266 : IVec S16x128 32) (v268 : IVec S16x128 1)
    {kk : (Σ' (v291 : FVec F S16x128 .f32) (v296 : IVec S16x128 32) (v301 : FVec F S16x128 .f32) (v306 : IVec S16x128 32), BitVec 32) → Prog (TpuEff nD τ sig (Elt F) Λ₀ .tc) α} :
    iprop(Holds (Val := Elt F) (c : Thread nD τ) arg0 I
        ∗ Holds (Val := Elt F) (c : Thread nD τ) arg1 W)
      ⊢ iprop((iprop(Holds (Val := Elt F) (c : Thread nD τ) arg0 I
        ∗ Holds (Val := Elt F) (c : Thread nD τ) arg1 W) -∗
          wp frame (wpE (defs₀ (F := F)) Variants.none (c : Thread nD τ) none) Set.univ (kk ⟨k0_pay92 v127 v251 v268 (W (at92 6 1)) (W (at92 7 1)), k0_pay93 v127 v256 (I (at92 7 0)) (I (at92 8 0)), k0_pay94 v127 v261 (W (at92 7 0)) (W (at92 8 0)), k0_pay95 v127 v266 (I (at92 7 1)) (I (at92 8 1)), 8#32⟩) Q)
        -∗ wp frame (wpE (defs₀ (F := F)) Variants.none (c : Thread nD τ) none) Set.univ (k0_part31 arg0 harg0 arg1 harg1 arg2 harg2 arg3 harg3 arg4 harg4 arg5 harg5 arg6 harg6 arg7 harg7 arg8 harg8 arg9 harg9 arg10 harg10 arg11 harg11 arg12 harg12 arg13 arg14 v127 v251 v256 v261 v266 v268 >>= kk) Q) := by
  rw [k0_part31_eq_skeleton]
  unfold k0_part31_skel
  iintro ⟨H0, H1⟩ Hk
  iapply (wp_at c (6 : Fin 9) (1 : Fin 2) rfl) $$ H1
  iintro H1
  iapply (wp_at c (7 : Fin 9) (0 : Fin 2) rfl) $$ H0
  iintro H0
  iapply (wp_at c (7 : Fin 9) (0 : Fin 2) rfl) $$ H1
  iintro H1
  iapply (wp_at c (7 : Fin 9) (1 : Fin 2) rfl) $$ H0
  iintro H0
  iapply (wp_at c (7 : Fin 9) (1 : Fin 2) rfl) $$ H1
  iintro H1
  iapply (wp_at c (8 : Fin 9) (0 : Fin 2) rfl) $$ H0
  iintro H0
  iapply (wp_at c (8 : Fin 9) (0 : Fin 2) rfl) $$ H1
  iintro H1
  iapply (wp_at c (8 : Fin 9) (1 : Fin 2) rfl) $$ H0
  iintro H0
  iapply Hk
  isplitl [H0]; · iexact H0
  iexact H1

end Parts

end

end Cert.KernelIdeal.Hand

end
-- ==== Proof.IdealBody.lean ====
/-
  The kernel's body.
-/
module

public import proofs.«01_k».proof.Proof.IdealTrip
public import proofs.«01_k».proof.Proof.IdealPrefix

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MoeWords Cert.MoeRing

variable {F : FTy → Type} [FloatOps F]

local notation "𝕄" => MT nD τ sig Unit (Elt F) ℕ (Pipeline.UD sig nD τ) ℕ

/-! ### The tables of weights -/

section Vectors

variable (I : S9x2.Idx → Elt F .i32) (W : S9x2.Idx → Elt F .f32)

/-- The mask of the experts asked for. -/
def maskOf (I : S9x2.Idx → Elt F .i32) : BitVec 32 := mask (I (at92 0 0)) (I (at92 0 1)) (I (at92 1 0)) (I (at92 1 1)) (I (at92 2 0)) (I (at92 2 1)) (I (at92 3 0)) (I (at92 3 1)) (I (at92 4 0)) (I (at92 4 1)) (I (at92 5 0)) (I (at92 5 1)) (I (at92 6 0)) (I (at92 6 1)) (I (at92 7 0)) (I (at92 7 1)) (I (at92 8 0)) (I (at92 8 1))

/-- The row numbers. -/
def rowNo : IVec S16x128 32 := iota .tc S16x128 32 [0] iota_S16x128_d0_w32

def w141 (I : S9x2.Idx → Elt F .i32) (W : S9x2.Idx → Elt F .f32) : FVec F S16x128 .f32 := k0_pay74 (W (at92 0 0))

def w146 (I : S9x2.Idx → Elt F .i32) (W : S9x2.Idx → Elt F .f32) : IVec S16x128 32 := k0_pay75 (I (at92 0 1))

def w151 (I : S9x2.Idx → Elt F .i32) (W : S9x2.Idx → Elt F .f32) : FVec F S16x128 .f32 := k0_pay76 (W (at92 0 1))

def w156 (I : S9x2.Idx → Elt F .i32) (W : S9x2.Idx → Elt F .f32) : IVec S16x128 32 := k0_pay77 (I (at92 0 0)) (I (at92 1 0))

def w176 (I : S9x2.Idx → Elt F .i32) (W : S9x2.Idx → Elt F .f32) : IVec S16x128 32 := k0_pay78 rowNo (w156 I W) (I (at92 2 0))

def w181 (I : S9x2.Idx → Elt F .i32) (W : S9x2.Idx → Elt F .f32) : FVec F S16x128 .f32 := k0_pay79 rowNo (w141 I W) 1#32 (W (at92 1 0)) (W (at92 2 0))

def w186 (I : S9x2.Idx → Elt F .i32) (W : S9x2.Idx → Elt F .f32) : IVec S16x128 32 := k0_pay80 rowNo (w146 I W) (I (at92 1 1)) (I (at92 2 1))

def w191 (I : S9x2.Idx → Elt F .i32) (W : S9x2.Idx → Elt F .f32) : FVec F S16x128 .f32 := k0_pay81 rowNo (w151 I W) (W (at92 1 1)) (W (at92 2 1))

def w193 (I : S9x2.Idx → Elt F .i32) (W : S9x2.Idx → Elt F .f32) : IVec S16x128 1 := k0_pay82 rowNo

def w216 (I : S9x2.Idx → Elt F .i32) (W : S9x2.Idx → Elt F .f32) : IVec S16x128 32 := k0_pay83 rowNo (w176 I W) (w193 I W) (I (at92 3 0)) (I (at92 4 0))

def w221 (I : S9x2.Idx → Elt F .i32) (W : S9x2.Idx → Elt F .f32) : FVec F S16x128 .f32 := k0_pay84 rowNo (w181 I W) (W (at92 3 0)) (W (at92 4 0))

def w226 (I : S9x2.Idx → Elt F .i32) (W : S9x2.Idx → Elt F .f32) : IVec S16x128 32 := k0_pay85 rowNo (w186 I W) (I (at92 3 1)) (I (at92 4 1))

def w231 (I : S9x2.Idx → Elt F .i32) (W : S9x2.Idx → Elt F .f32) : FVec F S16x128 .f32 := k0_pay86 rowNo (w191 I W) (W (at92 3 1)) (W (at92 4 1))

def w251 (I : S9x2.Idx → Elt F .i32) (W : S9x2.Idx → Elt F .f32) : FVec F S16x128 .f32 := k0_pay87 rowNo (w231 I W) (W (at92 5 1))

def w256 (I : S9x2.Idx → Elt F .i32) (W : S9x2.Idx → Elt F .f32) : IVec S16x128 32 := k0_pay88 rowNo (w216 I W) 5#32 (I (at92 5 0)) (I (at92 6 0))

def w261 (I : S9x2.Idx → Elt F .i32) (W : S9x2.Idx → Elt F .f32) : FVec F S16x128 .f32 := k0_pay89 rowNo (w221 I W) (W (at92 5 0)) (W (at92 6 0))

def w266 (I : S9x2.Idx → Elt F .i32) (W : S9x2.Idx → Elt F .f32) : IVec S16x128 32 := k0_pay90 rowNo (w226 I W) (I (at92 5 1)) (I (at92 6 1))

def w268 (I : S9x2.Idx → Elt F .i32) (W : S9x2.Idx → Elt F .f32) : IVec S16x128 1 := k0_pay91 rowNo

def w291 (I : S9x2.Idx → Elt F .i32) (W : S9x2.Idx → Elt F .f32) : FVec F S16x128 .f32 := k0_pay92 rowNo (w251 I W) (w268 I W) (W (at92 6 1)) (W (at92 7 1))

def w296 (I : S9x2.Idx → Elt F .i32) (W : S9x2.Idx → Elt F .f32) : IVec S16x128 32 := k0_pay93 rowNo (w256 I W) (I (at92 7 0)) (I (at92 8 0))

def w301 (I : S9x2.Idx → Elt F .i32) (W : S9x2.Idx → Elt F .f32) : FVec F S16x128 .f32 := k0_pay94 rowNo (w261 I W) (W (at92 7 0)) (W (at92 8 0))

def w306 (I : S9x2.Idx → Elt F .i32) (W : S9x2.Idx → Elt F .f32) : IVec S16x128 32 := k0_pay95 rowNo (w266 I W) (I (at92 7 1)) (I (at92 8 1))

def w311 (I : S9x2.Idx → Elt F .i32) (W : S9x2.Idx → Elt F .f32) : FVec F S16x128 .f32 := k0_pay1 rowNo (w291 I W) 8#32 (W (at92 8 1))

/-- The accumulator after the loop. -/
def accOf (W13 : S8x2816x2816.Idx → Elt F .i8) (W2 : S8x1408x2816.Idx → Elt F .i8) (I : S9x2.Idx → Elt F .i32) (W : S9x2.Idx → Elt F .f32)
    (X2 : S9x2816.Idx → Elt F .bf16) (S13 S2 : S8x2816.Idx → Elt F .f32) : S16x2816.Idx → Elt F .f32 :=
  accN W13 W2 (xbOf X2) S13 S2 (w296 I W) (w301 I W) (w306 I W) (w311 I W) (k0_pay71 (F := F)) (maskOf I) (act (maskOf I))

/-- What the kernel writes. -/
def outOf (W13 : S8x2816x2816.Idx → Elt F .i8) (W2 : S8x1408x2816.Idx → Elt F .i8) (I : S9x2.Idx → Elt F .i32) (W : S9x2.Idx → Elt F .f32)
    (X2 : S9x2816.Idx → Elt F .bf16) (S13 S2 : S8x2816.Idx → Elt F .f32) : S9x2816.Idx → Elt F .bf16 :=
  k0_pay6 (F := F) (fun x => accOf W13 W2 I W X2 S13 S2 ((Rect.unit (s := S16x2816) ![0, 0] S9x2816.size inb_S16x2816_S9x2816_0_0).emb x))

end Vectors

section

variable (c : Dev nD)

variable (arg0 : Memref sig .tc .smem S9x2 .i32) (harg0 : arg0.IsWhole) (arg1 : Memref sig .tc .smem S9x2 .f32) (harg1 : arg1.IsWhole) (arg2 : Memref sig .tc .vmem S9x2816 .bf16) (harg2 : arg2.IsWhole) (arg3 : Memref sig .tc .vmem S8x2816 .f32) (harg3 : arg3.IsWhole) (arg4 : Memref sig .tc .vmem S8x2816 .f32) (harg4 : arg4.IsWhole) (arg5 : Memref sig .tc .hbm S8x2816x2816 .i8) (harg5 : arg5.IsWhole) (arg6 : Memref sig .tc .hbm S8x1408x2816 .i8) (harg6 : arg6.IsWhole) (arg7 : Memref sig .tc .vmem S9x2816 .bf16) (harg7 : arg7.IsWhole) (arg8 : Memref sig .tc .vmem S4x2816x2816 .i8) (harg8 : arg8.IsWhole) (arg9 : Memref sig .tc .vmem S4x1408x2816 .i8) (harg9 : arg9.IsWhole) (arg10 : Memref sig .tc .vmem S16x2816 .bf16) (harg10 : arg10.IsWhole) (arg11 : Memref sig .tc .vmem S16x2816 .f32) (harg11 : arg11.IsWhole) (arg12 : Memref sig .tc .smem S8 .i32) (harg12 : arg12.IsWhole) (arg13 : DmaSems sig S4x3) (arg14 : DmaSems sig S4x2)
variable (q5 : Fin 12 → PosShare TreeShare) (q6 : Fin 8 → PosShare TreeShare)
  (f5 : Buf (Elt F) (arg5.view.loc (c : Thread nD τ))) (f6 : Buf (Elt F) (arg6.view.loc (c : Thread nD τ)))

/-- The loop over the trips left over has none. -/
theorem loop2 {α : Type} {Q : α → sProp 𝕄} (v0 v3 v6 v9 v12 v15 v18 v21 v24 v27 v30 v33 v36 v39 v42 v45 v48 v51 : BitVec 32) (hw1 : k0_chk1 v0 v3 v6 v9 v12 v15 v18 v21 v24 v27 v30 v33 v36 v39 v42 v45 v48 v51) {body} {kk : Unit → Prog (TpuEff nD τ sig (Elt F) Λ₀ .tc) α} :
    wp frame (wpE (defs₀ (F := F)) Variants.none (c : Thread nD τ) none) Set.univ (kk ()) Q ⊢ wp frame (wpE (defs₀ (F := F)) Variants.none (c : Thread nD τ) none) Set.univ (Scf.Loop.for (k0_t2_loop v0 v3 v6 v9 v12 v15 v18 v21 v24 v27 v30 v33 v36 v39 v42 v45 v48 v51) (k0_t2_ok v0 v3 v6 v9 v12 v15 v18 v21 v24 v27 v30 v33 v36 v39 v42 v45 v48 v51 hw1) ⟨⟩ body >>= kk) Q :=
  Scf.wp_for0_bind _ _ _ _ _ _ _ _ trips2 kk Q _ .rfl

theorem ring_start (m : BitVec 32) : iprop(Slot c arg5 arg6 arg8 arg9 arg13 arg14 q5 q6 f5 f6 m 0 lt0_4 0 ∗ Slot c arg5 arg6 arg8 arg9 arg13 arg14 q5 q6 f5 f6 m 1 lt1_4 1 ∗ Slot c arg5 arg6 arg8 arg9 arg13 arg14 q5 q6 f5 f6 m 2 lt2_4 2 ∗ Slot c arg5 arg6 arg8 arg9 arg13 arg14 q5 q6 f5 f6 m 3 lt3_4 3) ⊢ RingAt c arg5 arg6 arg8 arg9 arg13 arg14 q5 q6 f5 f6 m 0 := by
  unfold RingAt nxt; exact .rfl

theorem nine_set (y : S9x2816.Idx) : y ∈ (Rect.unit (s := S9x2816) ![0, 0] S9x2816.size inb_S9x2816_S9x2816_0_0).set := by
  rw [Rect.mem_set_unit]
  intro a
  have h := (y a).isLt
  fin_cases a
  · exact ⟨Nat.zero_le _, lt_of_lt_of_eq h (Nat.zero_add _).symm⟩
  · exact ⟨Nat.zero_le _, lt_of_lt_of_eq h (Nat.zero_add _).symm⟩

/-- The kernel's body. -/
theorem body (I : S9x2.Idx → Elt F .i32) (W : S9x2.Idx → Elt F .f32) (X2 : S9x2816.Idx → Elt F .bf16) (S13 S2 : S8x2816.Idx → Elt F .f32) :
    iprop(Holds (Val := Elt F) (c : Thread nD τ) arg0 I
      ∗ Holds (Val := Elt F) (c : Thread nD τ) arg1 W
      ∗ Holds (Val := Elt F) (c : Thread nD τ) arg2 X2
      ∗ Holds (Val := Elt F) (c : Thread nD τ) arg3 S13
      ∗ Holds (Val := Elt F) (c : Thread nD τ) arg4 S2
      ∗ (∃ O : S9x2816.Idx → Elt F .bf16, Holds (Val := Elt F) (c : Thread nD τ) arg7 O)
      ∗ (∃ XA : S16x2816.Idx → Elt F .f32, Holds (Val := Elt F) (c : Thread nD τ) arg11 XA) ∗ (∃ XB : S16x2816.Idx → Elt F .bf16, Holds (Val := Elt F) (c : Thread nD τ) arg10 XB) ∗ (∃ T : S8.Idx → BitVec 32, Holds (Val := Elt F) (c : Thread nD τ) arg12 T)
      ∗ Rest c arg5 arg6 arg8 arg9 arg13 arg14 q5 q6 f5 f6 0 lt0_4 ∗ Rest c arg5 arg6 arg8 arg9 arg13 arg14 q5 q6 f5 f6 1 lt1_4 ∗ Rest c arg5 arg6 arg8 arg9 arg13 arg14 q5 q6 f5 f6 2 lt2_4 ∗ Rest c arg5 arg6 arg8 arg9 arg13 arg14 q5 q6 f5 f6 3 lt3_4
      ∗ (∃ W, owes (c : Thread nD τ) 0 W))
      ⊢ wp frame (wpE (defs₀ (F := F)) Variants.none (c : Thread nD τ) none) Set.univ (cc0_moe_decode arg0 harg0 arg1 harg1 arg2 harg2 arg3 harg3 arg4 harg4 arg5 harg5 arg6 harg6 arg7 harg7 arg8 harg8 arg9 harg9 arg10 harg10 arg11 harg11 arg12 harg12 arg13 arg14) (fun _ => iprop(Holds (Val := Elt F) (c : Thread nD τ) arg0 I
      ∗ Holds (Val := Elt F) (c : Thread nD τ) arg1 W
      ∗ Holds (Val := Elt F) (c : Thread nD τ) arg2 X2
      ∗ Holds (Val := Elt F) (c : Thread nD τ) arg3 S13
      ∗ Holds (Val := Elt F) (c : Thread nD τ) arg4 S2
      ∗ Holds (Val := Elt F) (c : Thread nD τ) arg7 (outOf (arg5.view.read (Elt F) f5) (arg6.view.read (Elt F) f6) I W X2 S13 S2)
      ∗ (∃ XA : S16x2816.Idx → Elt F .f32, Holds (Val := Elt F) (c : Thread nD τ) arg11 XA) ∗ (∃ XB : S16x2816.Idx → Elt F .bf16, Holds (Val := Elt F) (c : Thread nD τ) arg10 XB) ∗ (∃ T : S8.Idx → BitVec 32, Holds (Val := Elt F) (c : Thread nD τ) arg12 T)
      ∗ Rest c arg5 arg6 arg8 arg9 arg13 arg14 q5 q6 f5 f6 0 lt0_4 ∗ Rest c arg5 arg6 arg8 arg9 arg13 arg14 q5 q6 f5 f6 1 lt1_4 ∗ Rest c arg5 arg6 arg8 arg9 arg13 arg14 q5 q6 f5 f6 2 lt2_4 ∗ Rest c arg5 arg6 arg8 arg9 arg13 arg14 q5 q6 f5 f6 3 lt3_4
      ∗ (∃ W, owes (c : Thread nD τ) 0 W))) := by
  rw [cc0_moe_decode_eq_skeleton]
  unfold cc0_moe_decode_skel
  iintro ⟨H0, H1, H2, H3, H4, ⟨%O, H7⟩, HA, HB, ⟨%T, HT⟩, HS0, HS1, HS2, HS3, HW⟩
  iapply (part23 c arg0 harg0 arg1 harg1 arg2 harg2 arg3 harg3 arg4 harg4 arg5 harg5 arg6 harg6 arg7 harg7 arg8 harg8 arg9 harg9 arg10 harg10 arg11 harg11 arg12 harg12 arg13 arg14 I) $$ H0
  iintro H0
  iapply (part24 c arg0 harg0 arg1 harg1 arg2 harg2 arg3 harg3 arg4 harg4 arg5 harg5 arg6 harg6 arg7 harg7 arg8 harg8 arg9 harg9 arg10 harg10 arg11 harg11 arg12 harg12 arg13 arg14 I) $$ H0
  iintro %v53 %v55 %v58 %h58 H0
  iapply (part25 c arg0 harg0 arg1 harg1 arg2 harg2 arg3 harg3 arg4 harg4 arg5 harg5 arg6 harg6 arg7 harg7 arg8 harg8 arg9 harg9 arg10 harg10 arg11 harg11 arg12 harg12 arg13 arg14 (I (at92 0 0)) (I (at92 0 1)) (I (at92 1 0)) (I (at92 1 1)) (I (at92 2 0)) (I (at92 2 1)) (I (at92 3 0)) (I (at92 3 1)) (I (at92 4 0)) (I (at92 4 1)) (I (at92 5 0)) (I (at92 5 1)) (I (at92 6 0)) (I (at92 6 1)) (I (at92 7 0)) (I (at92 7 1)) (I (at92 8 0)) (I (at92 8 1)) chk1 v53 v55 v58 h58)
  isplitl [HT]
  · unfold Table
    iexists T
    isplitr
    · ipureintro; exact fun e' he' => absurd he' (Nat.not_lt_zero _)
    iexact HT
  iintro HT %v89 %v90
  iapply (part26 c arg0 harg0 arg1 harg1 arg2 harg2 arg3 harg3 arg4 harg4 arg5 harg5 arg6 harg6 arg7 harg7 arg8 harg8 arg9 harg9 arg10 harg10 arg11 harg11 arg12 harg12 arg13 arg14 (I (at92 0 0)) (I (at92 0 1)) (I (at92 1 0)) (I (at92 1 1)) (I (at92 2 0)) (I (at92 2 1)) (I (at92 3 0)) (I (at92 3 1)) (I (at92 4 0)) (I (at92 4 1)) (I (at92 5 0)) (I (at92 5 1)) (I (at92 6 0)) (I (at92 6 1)) (I (at92 7 0)) (I (at92 7 1)) (I (at92 8 0)) (I (at92 8 1)) q5 q6 f5 f6 chk1 v53 v89 v90)
  isplitl [HT]; · iexact HT
  isplitl [HS0]; · iexact HS0
  isplitl [HS1]; · iexact HS1
  isplitl [HS2]; · iexact HS2
  isplitl [HS3]; · iexact HS3
  isplitl [HA HB]
  · isplitl [HA]; · iexact HA
    iexact HB
  iintro ⟨HT, HS0, HS1, HS2, HS3, HA, HB⟩ %v101
  iapply (part27 c arg0 harg0 arg1 harg1 arg2 harg2 arg3 harg3 arg4 harg4 arg5 harg5 arg6 harg6 arg7 harg7 arg8 harg8 arg9 harg9 arg10 harg10 arg11 harg11 arg12 harg12 arg13 arg14 I W X2) $$ [H0 H1 H2 HB]
  · isplitl [H0]; · iexact H0
    isplitl [H1]; · iexact H1
    isplitl [H2]; · iexact H2
    iexact HB
  iintro ⟨H0, H1, H2, HB⟩
  iapply (part28 c arg0 harg0 arg1 harg1 arg2 harg2 arg3 harg3 arg4 harg4 arg5 harg5 arg6 harg6 arg7 harg7 arg8 harg8 arg9 harg9 arg10 harg10 arg11 harg11 arg12 harg12 arg13 arg14 I W rowNo (w141 I W) (w146 I W) (w151 I W) (w156 I W) 1#32) $$ [H0 H1]
  · isplitl [H0]; · iexact H0
    iexact H1
  iintro ⟨H0, H1⟩
  iapply (part29 c arg0 harg0 arg1 harg1 arg2 harg2 arg3 harg3 arg4 harg4 arg5 harg5 arg6 harg6 arg7 harg7 arg8 harg8 arg9 harg9 arg10 harg10 arg11 harg11 arg12 harg12 arg13 arg14 I W rowNo (w176 I W) (w181 I W) (w186 I W) (w191 I W) (w193 I W)) $$ [H0 H1]
  · isplitl [H0]; · iexact H0
    iexact H1
  iintro ⟨H0, H1⟩
  iapply (part30 c arg0 harg0 arg1 harg1 arg2 harg2 arg3 harg3 arg4 harg4 arg5 harg5 arg6 harg6 arg7 harg7 arg8 harg8 arg9 harg9 arg10 harg10 arg11 harg11 arg12 harg12 arg13 arg14 I W rowNo (w216 I W) (w221 I W) (w226 I W) (w231 I W) 5#32) $$ [H0 H1]
  · isplitl [H0]; · iexact H0
    iexact H1
  iintro ⟨H0, H1⟩
  iapply (part31 c arg0 harg0 arg1 harg1 arg2 harg2 arg3 harg3 arg4 harg4 arg5 harg5 arg6 harg6 arg7 harg7 arg8 harg8 arg9 harg9 arg10 harg10 arg11 harg11 arg12 harg12 arg13 arg14 I W rowNo (w251 I W) (w256 I W) (w261 I W) (w266 I W) (w268 I W)) $$ [H0 H1]
  · isplitl [H0]; · iexact H0
    iexact H1
  iintro ⟨H0, H1⟩
  iapply (wp_at c (8 : Fin 9) (1 : Fin 2) rfl) $$ H1
  iintro H1
  iapply (loop1 arg0 harg0 arg1 harg1 arg2 harg2 arg3 harg3 arg4 harg4 arg5 harg5 arg6 harg6 arg7 harg7 arg8 harg8 arg9 harg9 arg10 harg10 arg11 harg11 arg12 harg12 arg13 arg14 (I (at92 0 0)) (I (at92 0 1)) (I (at92 1 0)) (I (at92 1 1)) (I (at92 2 0)) (I (at92 2 1)) (I (at92 3 0)) (I (at92 3 1)) (I (at92 4 0)) (I (at92 4 1)) (I (at92 5 0)) (I (at92 5 1)) (I (at92 6 0)) (I (at92 6 1)) (I (at92 7 0)) (I (at92 7 1)) (I (at92 8 0)) (I (at92 8 1)) c q5 q6 f5 f6 chk1 v101 rowNo (w291 I W) (w296 I W) (w301 I W) (w306 I W) 8#32 (W (at92 8 1)) (xbOf X2) S13 S2 (k0_pay71 (F := F))) $$ [HT HB H3 H4 HA HS0 HS1 HS2 HS3 HW]
  · isplitl [HT]; · iexact HT
    isplitl [HB]; · iexact HB
    isplitl [H3]; · iexact H3
    isplitl [H4]; · iexact H4
    isplitl [HA]; · iexact HA
    isplitl [HS0 HS1 HS2 HS3]
    · iapply (ring_start c arg5 arg6 arg8 arg9 arg13 arg14 q5 q6 f5 f6)
      isplitl [HS0]; · iexact HS0
      isplitl [HS1]; · iexact HS1
      isplitl [HS2]; · iexact HS2
      iexact HS3
    iexact HW
  iintro ⟨HT, HB, H3, H4, HA, HR, HW⟩
  ihave HR := (ring_rest c arg5 arg6 arg8 arg9 arg13 arg14 q5 q6 f5 f6 _ _ (le_refl _)) $$ HR
  icases HR with ⟨HS0, HS1, HS2, HS3⟩
  iapply (loop2 c (I (at92 0 0)) (I (at92 0 1)) (I (at92 1 0)) (I (at92 1 1)) (I (at92 2 0)) (I (at92 2 1)) (I (at92 3 0)) (I (at92 3 1)) (I (at92 4 0)) (I (at92 4 1)) (I (at92 5 0)) (I (at92 5 1)) (I (at92 6 0)) (I (at92 6 1)) (I (at92 7 0)) (I (at92 7 1)) (I (at92 8 0)) (I (at92 8 1)) chk1)
  iapply (wp_loadH Variants.none (c : Thread nD τ) none) $$ HA
  iintro HA
  iapply (wp_loadH Variants.none (c : Thread nD τ) none) $$ H7
  iintro H7
  iapply (wp_storeH Variants.none (c : Thread nD τ) none (outOf (arg5.view.read (Elt F) f5) (arg6.view.read (Elt F) f6) I W X2 S13 S2) (fun x => congrArg _ (nine_rect x)) (fun y hy => absurd (nine_set y) hy)) $$ H7
  iintro H7
  iapply (wp_done c)
  isplitl [H0]; · iexact H0
  isplitl [H1]; · iexact H1
  isplitl [H2]; · iexact H2
  isplitl [H3]; · iexact H3
  isplitl [H4]; · iexact H4
  isplitl [H7]; · iexact H7
  isplitl [HA]; · iexists _; iexact HA
  isplitl [HB]; · iexists _; iexact HB
  isplitl [HT]
  · unfold Table
    icases HT with ⟨%T', -, HT⟩
    iexists T'
    iexact HT
  isplitl [HS0]; · iexact HS0
  isplitl [HS1]; · iexact HS1
  isplitl [HS2]; · iexact HS2
  isplitl [HS3]; · iexact HS3
  iexact HW

end

end Cert.KernelIdeal.Hand

end
-- ==== Proof.IdealRings.lean ====
/-
  The buffers, semaphores and arrays the launch hands the body, as the slots of the two rings.
-/
module

public import proofs.«01_k».proof.Proof.IdealBody
public import proofs.«01_k».proof.Proof.Pieces
public import proofs.«01_k».proof.Proof.Gen.KernelIdeal.Frame

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MoeWords Cert.MoeRing

variable {F : FTy → Type} [FloatOps F]

local notation "𝕄" => MT nD τ sig Unit (Elt F) ℕ (Pipeline.UD sig nD τ) ℕ

/-! ### The semaphores and the arrays the kernel copies with -/

abbrev osem0 : Fin 20 → SemLoc sig := fun j => (![SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25] : Fin 20 → SemLoc sig) j
theorem ownSemFacts0 : Pipeline.OwnSemFacts spec0 osem0 := by decide

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0) := by
  rw [Pipeline.ownSems0_eq_of_list c osem0 [0, 1, 2, 3, 4, 5, 6, 7, 8, 9, 10, 11, 12, 13, 14, 15, 16, 17, 18, 19] (by decide) (by decide)]; rfl
theorem c13_0_0 : cell13 cc0_scratch5 0 0 lt0_4 (by decide) = 6 := by decide
theorem c13_0_1 : cell13 cc0_scratch5 0 1 lt0_4 (by decide) = 7 := by decide
theorem c13_0_2 : cell13 cc0_scratch5 0 2 lt0_4 (by decide) = 8 := by decide
theorem c13_1_0 : cell13 cc0_scratch5 1 0 lt1_4 (by decide) = 9 := by decide
theorem c13_1_1 : cell13 cc0_scratch5 1 1 lt1_4 (by decide) = 10 := by decide
theorem c13_1_2 : cell13 cc0_scratch5 1 2 lt1_4 (by decide) = 11 := by decide
theorem c13_2_0 : cell13 cc0_scratch5 2 0 lt2_4 (by decide) = 12 := by decide
theorem c13_2_1 : cell13 cc0_scratch5 2 1 lt2_4 (by decide) = 13 := by decide
theorem c13_2_2 : cell13 cc0_scratch5 2 2 lt2_4 (by decide) = 14 := by decide
theorem c13_3_0 : cell13 cc0_scratch5 3 0 lt3_4 (by decide) = 15 := by decide
theorem c13_3_1 : cell13 cc0_scratch5 3 1 lt3_4 (by decide) = 16 := by decide
theorem c13_3_2 : cell13 cc0_scratch5 3 2 lt3_4 (by decide) = 17 := by decide
theorem c14_0_0 : cell14 cc0_scratch6 0 0 lt0_4 (by decide) = 18 := by decide
theorem c14_0_1 : cell14 cc0_scratch6 0 1 lt0_4 (by decide) = 19 := by decide
theorem c14_1_0 : cell14 cc0_scratch6 1 0 lt1_4 (by decide) = 20 := by decide
theorem c14_1_1 : cell14 cc0_scratch6 1 1 lt1_4 (by decide) = 21 := by decide
theorem c14_2_0 : cell14 cc0_scratch6 2 0 lt2_4 (by decide) = 22 := by decide
theorem c14_2_1 : cell14 cc0_scratch6 2 1 lt2_4 (by decide) = 23 := by decide
theorem c14_3_0 : cell14 cc0_scratch6 3 0 lt3_4 (by decide) = 24 := by decide
theorem c14_3_1 : cell14 cc0_scratch6 3 1 lt3_4 (by decide) = 25 := by decide

/-- The arrays left in HBM. -/
def H0 : Finset (Ref sig .tc) := {main_arg3, main_arg5}
theorem H0_sub : H0 ⊆ Pipeline.restRefs sig spec0 := by decide

variable (m : (ℓ : Loc nD τ sig) → Buf (Elt F) ℓ) (ρ : Dev nD → PrngReg)

theorem hbmPts0_eq (c : Dev nD) :
    (bigSep H0 (fun b => ((c : Thread nD τ).loc b) ↦{fullShare} V m c b) : sProp 𝕄)
      = iprop((((c : Thread nD τ).loc main_arg3) ↦{fullShare} V m c main_arg3) ∗ (((c : Thread nD τ).loc main_arg5) ↦{fullShare} V m c main_arg5)) := by
  rw [BI.bigSep_eq_bigSepL_of_eq [main_arg3, main_arg5] (by decide) (by decide)]; rfl

/-- The share of the array each copy reads by. -/
abbrev tok12 : Fin 12 → PosShare TreeShare := Transfers.shareTok fullShare 12
abbrev tok8 : Fin 8 → PosShare TreeShare := Transfers.shareTok fullShare 8

/-- The blocks of the first ring. -/
abbrev blocks0 (c : Dev nD) : List (Finset (Idx ((c : Thread nD τ).loc cc0_scratch0))) := [((Memref.whole cc0_scratch0).access (gA c (Memref.whole main_arg3) (Memref.whole cc0_scratch0) cc0_scratch5 tok12 (V m c main_arg3) 0 lt0_4).at_).set, ((Memref.whole cc0_scratch0).access (gB c (Memref.whole main_arg3) (Memref.whole cc0_scratch0) cc0_scratch5 tok12 (V m c main_arg3) 0 lt0_4).at_).set, ((Memref.whole cc0_scratch0).access (gC c (Memref.whole main_arg3) (Memref.whole cc0_scratch0) cc0_scratch5 tok12 (V m c main_arg3) 0 lt0_4).at_).set, ((Memref.whole cc0_scratch0).access (gA c (Memref.whole main_arg3) (Memref.whole cc0_scratch0) cc0_scratch5 tok12 (V m c main_arg3) 1 lt1_4).at_).set, ((Memref.whole cc0_scratch0).access (gB c (Memref.whole main_arg3) (Memref.whole cc0_scratch0) cc0_scratch5 tok12 (V m c main_arg3) 1 lt1_4).at_).set, ((Memref.whole cc0_scratch0).access (gC c (Memref.whole main_arg3) (Memref.whole cc0_scratch0) cc0_scratch5 tok12 (V m c main_arg3) 1 lt1_4).at_).set, ((Memref.whole cc0_scratch0).access (gA c (Memref.whole main_arg3) (Memref.whole cc0_scratch0) cc0_scratch5 tok12 (V m c main_arg3) 2 lt2_4).at_).set, ((Memref.whole cc0_scratch0).access (gB c (Memref.whole main_arg3) (Memref.whole cc0_scratch0) cc0_scratch5 tok12 (V m c main_arg3) 2 lt2_4).at_).set, ((Memref.whole cc0_scratch0).access (gC c (Memref.whole main_arg3) (Memref.whole cc0_scratch0) cc0_scratch5 tok12 (V m c main_arg3) 2 lt2_4).at_).set, ((Memref.whole cc0_scratch0).access (gA c (Memref.whole main_arg3) (Memref.whole cc0_scratch0) cc0_scratch5 tok12 (V m c main_arg3) 3 lt3_4).at_).set, ((Memref.whole cc0_scratch0).access (gB c (Memref.whole main_arg3) (Memref.whole cc0_scratch0) cc0_scratch5 tok12 (V m c main_arg3) 3 lt3_4).at_).set, ((Memref.whole cc0_scratch0).access (gC c (Memref.whole main_arg3) (Memref.whole cc0_scratch0) cc0_scratch5 tok12 (V m c main_arg3) 3 lt3_4).at_).set]
/-- The blocks of the second ring. -/
abbrev blocks1 (c : Dev nD) : List (Finset (Idx ((c : Thread nD τ).loc cc0_scratch1))) := [((Memref.whole cc0_scratch1).access (gD c (Memref.whole main_arg5) (Memref.whole cc0_scratch1) cc0_scratch6 tok8 (V m c main_arg5) 0 lt0_4).at_).set, ((Memref.whole cc0_scratch1).access (gE c (Memref.whole main_arg5) (Memref.whole cc0_scratch1) cc0_scratch6 tok8 (V m c main_arg5) 0 lt0_4).at_).set, ((Memref.whole cc0_scratch1).access (gD c (Memref.whole main_arg5) (Memref.whole cc0_scratch1) cc0_scratch6 tok8 (V m c main_arg5) 1 lt1_4).at_).set, ((Memref.whole cc0_scratch1).access (gE c (Memref.whole main_arg5) (Memref.whole cc0_scratch1) cc0_scratch6 tok8 (V m c main_arg5) 1 lt1_4).at_).set, ((Memref.whole cc0_scratch1).access (gD c (Memref.whole main_arg5) (Memref.whole cc0_scratch1) cc0_scratch6 tok8 (V m c main_arg5) 2 lt2_4).at_).set, ((Memref.whole cc0_scratch1).access (gE c (Memref.whole main_arg5) (Memref.whole cc0_scratch1) cc0_scratch6 tok8 (V m c main_arg5) 2 lt2_4).at_).set, ((Memref.whole cc0_scratch1).access (gD c (Memref.whole main_arg5) (Memref.whole cc0_scratch1) cc0_scratch6 tok8 (V m c main_arg5) 3 lt3_4).at_).set, ((Memref.whole cc0_scratch1).access (gE c (Memref.whole main_arg5) (Memref.whole cc0_scratch1) cc0_scratch6 tok8 (V m c main_arg5) 3 lt3_4).at_).set]

theorem blocks0_apart (c : Dev nD) : (blocks0 m c).Pairwise Disjoint := by
  simp only [blocks0, List.pairwise_cons, List.mem_cons, List.not_mem_nil, or_false, forall_eq_or_imp, forall_eq, List.Pairwise.nil, and_true, false_imp_iff, implies_true]
  repeat' apply And.intro
  all_goals exact blk_disjoint _ _ _ (by dsimp only [Apart, gA, gB, gC, gD, gE]; decide)
theorem blocks1_apart (c : Dev nD) : (blocks1 m c).Pairwise Disjoint := by
  simp only [blocks1, List.pairwise_cons, List.mem_cons, List.not_mem_nil, or_false, forall_eq_or_imp, forall_eq, List.Pairwise.nil, and_true, false_imp_iff, implies_true]
  repeat' apply And.intro
  all_goals exact blk_disjoint _ _ _ (by dsimp only [Apart, gA, gB, gC, gD, gE]; decide)

/-- The whole of a buffer, as its pieces. -/
theorem whole_some (ℓ : Loc nD τ sig) : (iprop(∃ f : Buf (Elt F) ℓ, ℓ ↦{fullShare} f) : sProp 𝕄) = Some_ ℓ Finset.univ := rfl

/-- What is left when the blocks and the shares are handed out. -/
def Left (c : Dev nD) : sProp 𝕄 :=
  iprop(Some_ ((c : Thread nD τ).loc cc0_scratch0) (List.foldl (fun S K => S \ K) Finset.univ (blocks0 m c))
    ∗ Some_ ((c : Thread nD τ).loc cc0_scratch1) (List.foldl (fun S K => S \ K) Finset.univ (blocks1 m c))
    ∗ (((c : Thread nD τ).loc main_arg3) ↦{Transfers.shareDrop fullShare 12} V m c main_arg3)
    ∗ (((c : Thread nD τ).loc main_arg5) ↦{Transfers.shareDrop fullShare 8} V m c main_arg5))

theorem pieces0_eq (c : Dev nD) : (Pieces (Val := Elt F) ((c : Thread nD τ).loc cc0_scratch0) Finset.univ (blocks0 m c))
    = iprop(Some_ ((c : Thread nD τ).loc cc0_scratch0) (((Memref.whole cc0_scratch0).access (gA c (Memref.whole main_arg3) (Memref.whole cc0_scratch0) cc0_scratch5 tok12 (V m c main_arg3) 0 lt0_4).at_).set) ∗ Some_ ((c : Thread nD τ).loc cc0_scratch0) (((Memref.whole cc0_scratch0).access (gB c (Memref.whole main_arg3) (Memref.whole cc0_scratch0) cc0_scratch5 tok12 (V m c main_arg3) 0 lt0_4).at_).set) ∗ Some_ ((c : Thread nD τ).loc cc0_scratch0) (((Memref.whole cc0_scratch0).access (gC c (Memref.whole main_arg3) (Memref.whole cc0_scratch0) cc0_scratch5 tok12 (V m c main_arg3) 0 lt0_4).at_).set) ∗ Some_ ((c : Thread nD τ).loc cc0_scratch0) (((Memref.whole cc0_scratch0).access (gA c (Memref.whole main_arg3) (Memref.whole cc0_scratch0) cc0_scratch5 tok12 (V m c main_arg3) 1 lt1_4).at_).set) ∗ Some_ ((c : Thread nD τ).loc cc0_scratch0) (((Memref.whole cc0_scratch0).access (gB c (Memref.whole main_arg3) (Memref.whole cc0_scratch0) cc0_scratch5 tok12 (V m c main_arg3) 1 lt1_4).at_).set) ∗ Some_ ((c : Thread nD τ).loc cc0_scratch0) (((Memref.whole cc0_scratch0).access (gC c (Memref.whole main_arg3) (Memref.whole cc0_scratch0) cc0_scratch5 tok12 (V m c main_arg3) 1 lt1_4).at_).set) ∗ Some_ ((c : Thread nD τ).loc cc0_scratch0) (((Memref.whole cc0_scratch0).access (gA c (Memref.whole main_arg3) (Memref.whole cc0_scratch0) cc0_scratch5 tok12 (V m c main_arg3) 2 lt2_4).at_).set) ∗ Some_ ((c : Thread nD τ).loc cc0_scratch0) (((Memref.whole cc0_scratch0).access (gB c (Memref.whole main_arg3) (Memref.whole cc0_scratch0) cc0_scratch5 tok12 (V m c main_arg3) 2 lt2_4).at_).set) ∗ Some_ ((c : Thread nD τ).loc cc0_scratch0) (((Memref.whole cc0_scratch0).access (gC c (Memref.whole main_arg3) (Memref.whole cc0_scratch0) cc0_scratch5 tok12 (V m c main_arg3) 2 lt2_4).at_).set) ∗ Some_ ((c : Thread nD τ).loc cc0_scratch0) (((Memref.whole cc0_scratch0).access (gA c (Memref.whole main_arg3) (Memref.whole cc0_scratch0) cc0_scratch5 tok12 (V m c main_arg3) 3 lt3_4).at_).set) ∗ Some_ ((c : Thread nD τ).loc cc0_scratch0) (((Memref.whole cc0_scratch0).access (gB c (Memref.whole main_arg3) (Memref.whole cc0_scratch0) cc0_scratch5 tok12 (V m c main_arg3) 3 lt3_4).at_).set) ∗ Some_ ((c : Thread nD τ).loc cc0_scratch0) (((Memref.whole cc0_scratch0).access (gC c (Memref.whole main_arg3) (Memref.whole cc0_scratch0) cc0_scratch5 tok12 (V m c main_arg3) 3 lt3_4).at_).set) ∗ Some_ ((c : Thread nD τ).loc cc0_scratch0) (List.foldl (fun S K => S \ K) Finset.univ (blocks0 m c))) := rfl

theorem pieces1_eq (c : Dev nD) : (Pieces (Val := Elt F) ((c : Thread nD τ).loc cc0_scratch1) Finset.univ (blocks1 m c))
    = iprop(Some_ ((c : Thread nD τ).loc cc0_scratch1) (((Memref.whole cc0_scratch1).access (gD c (Memref.whole main_arg5) (Memref.whole cc0_scratch1) cc0_scratch6 tok8 (V m c main_arg5) 0 lt0_4).at_).set) ∗ Some_ ((c : Thread nD τ).loc cc0_scratch1) (((Memref.whole cc0_scratch1).access (gE c (Memref.whole main_arg5) (Memref.whole cc0_scratch1) cc0_scratch6 tok8 (V m c main_arg5) 0 lt0_4).at_).set) ∗ Some_ ((c : Thread nD τ).loc cc0_scratch1) (((Memref.whole cc0_scratch1).access (gD c (Memref.whole main_arg5) (Memref.whole cc0_scratch1) cc0_scratch6 tok8 (V m c main_arg5) 1 lt1_4).at_).set) ∗ Some_ ((c : Thread nD τ).loc cc0_scratch1) (((Memref.whole cc0_scratch1).access (gE c (Memref.whole main_arg5) (Memref.whole cc0_scratch1) cc0_scratch6 tok8 (V m c main_arg5) 1 lt1_4).at_).set) ∗ Some_ ((c : Thread nD τ).loc cc0_scratch1) (((Memref.whole cc0_scratch1).access (gD c (Memref.whole main_arg5) (Memref.whole cc0_scratch1) cc0_scratch6 tok8 (V m c main_arg5) 2 lt2_4).at_).set) ∗ Some_ ((c : Thread nD τ).loc cc0_scratch1) (((Memref.whole cc0_scratch1).access (gE c (Memref.whole main_arg5) (Memref.whole cc0_scratch1) cc0_scratch6 tok8 (V m c main_arg5) 2 lt2_4).at_).set) ∗ Some_ ((c : Thread nD τ).loc cc0_scratch1) (((Memref.whole cc0_scratch1).access (gD c (Memref.whole main_arg5) (Memref.whole cc0_scratch1) cc0_scratch6 tok8 (V m c main_arg5) 3 lt3_4).at_).set) ∗ Some_ ((c : Thread nD τ).loc cc0_scratch1) (((Memref.whole cc0_scratch1).access (gE c (Memref.whole main_arg5) (Memref.whole cc0_scratch1) cc0_scratch6 tok8 (V m c main_arg5) 3 lt3_4).at_).set) ∗ Some_ ((c : Thread nD τ).loc cc0_scratch1) (List.foldl (fun S K => S \ K) Finset.univ (blocks1 m c))) := rfl

theorem toks12 (c : Dev nD) : (BI.bigSep Finset.univ (fun i : Fin 12 => ((c : Thread nD τ).loc main_arg3) ↦{tok12 i} V m c main_arg3) : sProp 𝕄)
    = iprop((((c : Thread nD τ).loc main_arg3) ↦{tok12 0} V m c main_arg3) ∗ (((c : Thread nD τ).loc main_arg3) ↦{tok12 1} V m c main_arg3) ∗ (((c : Thread nD τ).loc main_arg3) ↦{tok12 2} V m c main_arg3) ∗ (((c : Thread nD τ).loc main_arg3) ↦{tok12 3} V m c main_arg3) ∗ (((c : Thread nD τ).loc main_arg3) ↦{tok12 4} V m c main_arg3) ∗ (((c : Thread nD τ).loc main_arg3) ↦{tok12 5} V m c main_arg3) ∗ (((c : Thread nD τ).loc main_arg3) ↦{tok12 6} V m c main_arg3) ∗ (((c : Thread nD τ).loc main_arg3) ↦{tok12 7} V m c main_arg3) ∗ (((c : Thread nD τ).loc main_arg3) ↦{tok12 8} V m c main_arg3) ∗ (((c : Thread nD τ).loc main_arg3) ↦{tok12 9} V m c main_arg3) ∗ (((c : Thread nD τ).loc main_arg3) ↦{tok12 10} V m c main_arg3) ∗ (((c : Thread nD τ).loc main_arg3) ↦{tok12 11} V m c main_arg3)) :=
  bigSep_univ_eq_bigSepL [0, 1, 2, 3, 4, 5, 6, 7, 8, 9, 10, 11] (by decide) (by decide) _
theorem toks8 (c : Dev nD) : (BI.bigSep Finset.univ (fun i : Fin 8 => ((c : Thread nD τ).loc main_arg5) ↦{tok8 i} V m c main_arg5) : sProp 𝕄)
    = iprop((((c : Thread nD τ).loc main_arg5) ↦{tok8 0} V m c main_arg5) ∗ (((c : Thread nD τ).loc main_arg5) ↦{tok8 1} V m c main_arg5) ∗ (((c : Thread nD τ).loc main_arg5) ↦{tok8 2} V m c main_arg5) ∗ (((c : Thread nD τ).loc main_arg5) ↦{tok8 3} V m c main_arg5) ∗ (((c : Thread nD τ).loc main_arg5) ↦{tok8 4} V m c main_arg5) ∗ (((c : Thread nD τ).loc main_arg5) ↦{tok8 5} V m c main_arg5) ∗ (((c : Thread nD τ).loc main_arg5) ↦{tok8 6} V m c main_arg5) ∗ (((c : Thread nD τ).loc main_arg5) ↦{tok8 7} V m c main_arg5)) :=
  bigSep_univ_eq_bigSepL [0, 1, 2, 3, 4, 5, 6, 7] (by decide) (by decide) _

/-- The free slots of the two rings. -/
def Slots (c : Dev nD) : sProp 𝕄 := iprop(Rest c (Memref.whole main_arg3) (Memref.whole main_arg5) (Memref.whole cc0_scratch0) (Memref.whole cc0_scratch1) cc0_scratch5 cc0_scratch6 tok12 tok8 (V m c main_arg3) (V m c main_arg5) 0 lt0_4 ∗ Rest c (Memref.whole main_arg3) (Memref.whole main_arg5) (Memref.whole cc0_scratch0) (Memref.whole cc0_scratch1) cc0_scratch5 cc0_scratch6 tok12 tok8 (V m c main_arg3) (V m c main_arg5) 1 lt1_4 ∗ Rest c (Memref.whole main_arg3) (Memref.whole main_arg5) (Memref.whole cc0_scratch0) (Memref.whole cc0_scratch1) cc0_scratch5 cc0_scratch6 tok12 tok8 (V m c main_arg3) (V m c main_arg5) 2 lt2_4 ∗ Rest c (Memref.whole main_arg3) (Memref.whole main_arg5) (Memref.whole cc0_scratch0) (Memref.whole cc0_scratch1) cc0_scratch5 cc0_scratch6 tok12 tok8 (V m c main_arg3) (V m c main_arg5) 3 lt3_4)

theorem slots_eq (c : Dev nD) : Slots m c = iprop((((((c : Thread nD τ).loc main_arg3) ↦{tok12 0} V m c main_arg3) ∗ Some_ ((c : Thread nD τ).loc cc0_scratch0) ((Memref.whole cc0_scratch0).access (gA c (Memref.whole main_arg3) (Memref.whole cc0_scratch0) cc0_scratch5 tok12 (V m c main_arg3) 0 lt0_4).at_).set ∗ semVal ((c : Thread nD τ), SemLoc.dma 6) 0) ∗ ((((c : Thread nD τ).loc main_arg3) ↦{tok12 1} V m c main_arg3) ∗ Some_ ((c : Thread nD τ).loc cc0_scratch0) ((Memref.whole cc0_scratch0).access (gB c (Memref.whole main_arg3) (Memref.whole cc0_scratch0) cc0_scratch5 tok12 (V m c main_arg3) 0 lt0_4).at_).set ∗ semVal ((c : Thread nD τ), SemLoc.dma 7) 0) ∗ ((((c : Thread nD τ).loc main_arg3) ↦{tok12 2} V m c main_arg3) ∗ Some_ ((c : Thread nD τ).loc cc0_scratch0) ((Memref.whole cc0_scratch0).access (gC c (Memref.whole main_arg3) (Memref.whole cc0_scratch0) cc0_scratch5 tok12 (V m c main_arg3) 0 lt0_4).at_).set ∗ semVal ((c : Thread nD τ), SemLoc.dma 8) 0) ∗ ((((c : Thread nD τ).loc main_arg5) ↦{tok8 0} V m c main_arg5) ∗ Some_ ((c : Thread nD τ).loc cc0_scratch1) ((Memref.whole cc0_scratch1).access (gD c (Memref.whole main_arg5) (Memref.whole cc0_scratch1) cc0_scratch6 tok8 (V m c main_arg5) 0 lt0_4).at_).set ∗ semVal ((c : Thread nD τ), SemLoc.dma 18) 0) ∗ ((((c : Thread nD τ).loc main_arg5) ↦{tok8 1} V m c main_arg5) ∗ Some_ ((c : Thread nD τ).loc cc0_scratch1) ((Memref.whole cc0_scratch1).access (gE c (Memref.whole main_arg5) (Memref.whole cc0_scratch1) cc0_scratch6 tok8 (V m c main_arg5) 0 lt0_4).at_).set ∗ semVal ((c : Thread nD τ), SemLoc.dma 19) 0)) ∗ (((((c : Thread nD τ).loc main_arg3) ↦{tok12 3} V m c main_arg3) ∗ Some_ ((c : Thread nD τ).loc cc0_scratch0) ((Memref.whole cc0_scratch0).access (gA c (Memref.whole main_arg3) (Memref.whole cc0_scratch0) cc0_scratch5 tok12 (V m c main_arg3) 1 lt1_4).at_).set ∗ semVal ((c : Thread nD τ), SemLoc.dma 9) 0) ∗ ((((c : Thread nD τ).loc main_arg3) ↦{tok12 4} V m c main_arg3) ∗ Some_ ((c : Thread nD τ).loc cc0_scratch0) ((Memref.whole cc0_scratch0).access (gB c (Memref.whole main_arg3) (Memref.whole cc0_scratch0) cc0_scratch5 tok12 (V m c main_arg3) 1 lt1_4).at_).set ∗ semVal ((c : Thread nD τ), SemLoc.dma 10) 0) ∗ ((((c : Thread nD τ).loc main_arg3) ↦{tok12 5} V m c main_arg3) ∗ Some_ ((c : Thread nD τ).loc cc0_scratch0) ((Memref.whole cc0_scratch0).access (gC c (Memref.whole main_arg3) (Memref.whole cc0_scratch0) cc0_scratch5 tok12 (V m c main_arg3) 1 lt1_4).at_).set ∗ semVal ((c : Thread nD τ), SemLoc.dma 11) 0) ∗ ((((c : Thread nD τ).loc main_arg5) ↦{tok8 2} V m c main_arg5) ∗ Some_ ((c : Thread nD τ).loc cc0_scratch1) ((Memref.whole cc0_scratch1).access (gD c (Memref.whole main_arg5) (Memref.whole cc0_scratch1) cc0_scratch6 tok8 (V m c main_arg5) 1 lt1_4).at_).set ∗ semVal ((c : Thread nD τ), SemLoc.dma 20) 0) ∗ ((((c : Thread nD τ).loc main_arg5) ↦{tok8 3} V m c main_arg5) ∗ Some_ ((c : Thread nD τ).loc cc0_scratch1) ((Memref.whole cc0_scratch1).access (gE c (Memref.whole main_arg5) (Memref.whole cc0_scratch1) cc0_scratch6 tok8 (V m c main_arg5) 1 lt1_4).at_).set ∗ semVal ((c : Thread nD τ), SemLoc.dma 21) 0)) ∗ (((((c : Thread nD τ).loc main_arg3) ↦{tok12 6} V m c main_arg3) ∗ Some_ ((c : Thread nD τ).loc cc0_scratch0) ((Memref.whole cc0_scratch0).access (gA c (Memref.whole main_arg3) (Memref.whole cc0_scratch0) cc0_scratch5 tok12 (V m c main_arg3) 2 lt2_4).at_).set ∗ semVal ((c : Thread nD τ), SemLoc.dma 12) 0) ∗ ((((c : Thread nD τ).loc main_arg3) ↦{tok12 7} V m c main_arg3) ∗ Some_ ((c : Thread nD τ).loc cc0_scratch0) ((Memref.whole cc0_scratch0).access (gB c (Memref.whole main_arg3) (Memref.whole cc0_scratch0) cc0_scratch5 tok12 (V m c main_arg3) 2 lt2_4).at_).set ∗ semVal ((c : Thread nD τ), SemLoc.dma 13) 0) ∗ ((((c : Thread nD τ).loc main_arg3) ↦{tok12 8} V m c main_arg3) ∗ Some_ ((c : Thread nD τ).loc cc0_scratch0) ((Memref.whole cc0_scratch0).access (gC c (Memref.whole main_arg3) (Memref.whole cc0_scratch0) cc0_scratch5 tok12 (V m c main_arg3) 2 lt2_4).at_).set ∗ semVal ((c : Thread nD τ), SemLoc.dma 14) 0) ∗ ((((c : Thread nD τ).loc main_arg5) ↦{tok8 4} V m c main_arg5) ∗ Some_ ((c : Thread nD τ).loc cc0_scratch1) ((Memref.whole cc0_scratch1).access (gD c (Memref.whole main_arg5) (Memref.whole cc0_scratch1) cc0_scratch6 tok8 (V m c main_arg5) 2 lt2_4).at_).set ∗ semVal ((c : Thread nD τ), SemLoc.dma 22) 0) ∗ ((((c : Thread nD τ).loc main_arg5) ↦{tok8 5} V m c main_arg5) ∗ Some_ ((c : Thread nD τ).loc cc0_scratch1) ((Memref.whole cc0_scratch1).access (gE c (Memref.whole main_arg5) (Memref.whole cc0_scratch1) cc0_scratch6 tok8 (V m c main_arg5) 2 lt2_4).at_).set ∗ semVal ((c : Thread nD τ), SemLoc.dma 23) 0)) ∗ (((((c : Thread nD τ).loc main_arg3) ↦{tok12 9} V m c main_arg3) ∗ Some_ ((c : Thread nD τ).loc cc0_scratch0) ((Memref.whole cc0_scratch0).access (gA c (Memref.whole main_arg3) (Memref.whole cc0_scratch0) cc0_scratch5 tok12 (V m c main_arg3) 3 lt3_4).at_).set ∗ semVal ((c : Thread nD τ), SemLoc.dma 15) 0) ∗ ((((c : Thread nD τ).loc main_arg3) ↦{tok12 10} V m c main_arg3) ∗ Some_ ((c : Thread nD τ).loc cc0_scratch0) ((Memref.whole cc0_scratch0).access (gB c (Memref.whole main_arg3) (Memref.whole cc0_scratch0) cc0_scratch5 tok12 (V m c main_arg3) 3 lt3_4).at_).set ∗ semVal ((c : Thread nD τ), SemLoc.dma 16) 0) ∗ ((((c : Thread nD τ).loc main_arg3) ↦{tok12 11} V m c main_arg3) ∗ Some_ ((c : Thread nD τ).loc cc0_scratch0) ((Memref.whole cc0_scratch0).access (gC c (Memref.whole main_arg3) (Memref.whole cc0_scratch0) cc0_scratch5 tok12 (V m c main_arg3) 3 lt3_4).at_).set ∗ semVal ((c : Thread nD τ), SemLoc.dma 17) 0) ∗ ((((c : Thread nD τ).loc main_arg5) ↦{tok8 6} V m c main_arg5) ∗ Some_ ((c : Thread nD τ).loc cc0_scratch1) ((Memref.whole cc0_scratch1).access (gD c (Memref.whole main_arg5) (Memref.whole cc0_scratch1) cc0_scratch6 tok8 (V m c main_arg5) 3 lt3_4).at_).set ∗ semVal ((c : Thread nD τ), SemLoc.dma 24) 0) ∗ ((((c : Thread nD τ).loc main_arg5) ↦{tok8 7} V m c main_arg5) ∗ Some_ ((c : Thread nD τ).loc cc0_scratch1) ((Memref.whole cc0_scratch1).access (gE c (Memref.whole main_arg5) (Memref.whole cc0_scratch1) cc0_scratch6 tok8 (V m c main_arg5) 3 lt3_4).at_).set ∗ semVal ((c : Thread nD τ), SemLoc.dma 25) 0))) := rfl

theorem slots_split (c : Dev nD) :
    iprop((∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)
      ∗ Pipeline.ownSems0 (Ix := Unit) (Name := ℕ) (U := Pipeline.UD sig nD τ) (Lvl := ℕ) (Val := Elt F) (τ := τ) osem0 c
      ∗ (bigSep H0 (fun b => ((c : Thread nD τ).loc b) ↦{fullShare} V m c b)))
      ⊢ iprop(Slots m c ∗ Left m c) := by
  rw [ownSems00_eq, hbmPts0_eq, whole_some, whole_some]
  iintro ⟨HA, HB, ⟨Hs0, Hs1, Hs2, Hs3, Hs4, Hs5, Hs6, Hs7, Hs8, Hs9, Hs10, Hs11, Hs12, Hs13, Hs14, Hs15, Hs16, Hs17, Hs18, Hs19⟩, H3, H5⟩
  ihave HA := (pieces_split _ (blocks0 m c) Finset.univ (blocks0_apart m c) fun _ _ => Finset.subset_univ _) $$ HA
  ihave HB := (pieces_split _ (blocks1 m c) Finset.univ (blocks1_apart m c) fun _ _ => Finset.subset_univ _) $$ HB
  ihave H3 := (Transfers.pointsTo_toks_split (Val := Elt F) (Ix := Unit) (Name := ℕ) (U := Pipeline.UD sig nD τ) (Lvl := ℕ) fullShare 12) $$ H3
  ihave H5 := (Transfers.pointsTo_toks_split (Val := Elt F) (Ix := Unit) (Name := ℕ) (U := Pipeline.UD sig nD τ) (Lvl := ℕ) fullShare 8) $$ H5
  icases H3 with ⟨H3, HT⟩
  icases H5 with ⟨H5, HU⟩
  ihave HT := (Entails.of_eq (toks12 m c)) $$ HT
  ihave HU := (Entails.of_eq (toks8 m c)) $$ HU
  icases HT with ⟨Ht0, Ht1, Ht2, Ht3, Ht4, Ht5, Ht6, Ht7, Ht8, Ht9, Ht10, Ht11⟩
  icases HU with ⟨Hu0, Hu1, Hu2, Hu3, Hu4, Hu5, Hu6, Hu7⟩
  ihave HA := (Entails.of_eq (pieces0_eq m c)) $$ HA
  ihave HB := (Entails.of_eq (pieces1_eq m c)) $$ HB
  icases HA with ⟨Hk0, Hk1, Hk2, Hk3, Hk4, Hk5, Hk6, Hk7, Hk8, Hk9, Hk10, Hk11, HA⟩
  icases HB with ⟨Hl0, Hl1, Hl2, Hl3, Hl4, Hl5, Hl6, Hl7, HB⟩
  isplitr [HA HB H3 H5]
  · rw [slots_eq]
    isplitl [Ht0 Hk0 Hs0 Ht1 Hk1 Hs1 Ht2 Hk2 Hs2 Hu0 Hl0 Hs12 Hu1 Hl1 Hs13]
    · isplitl [Ht0 Hk0 Hs0]
      · isplitl [Ht0]; · iexact Ht0
        isplitl [Hk0]; · iexact Hk0
        iexact Hs0
      isplitl [Ht1 Hk1 Hs1]
      · isplitl [Ht1]; · iexact Ht1
        isplitl [Hk1]; · iexact Hk1
        iexact Hs1
      isplitl [Ht2 Hk2 Hs2]
      · isplitl [Ht2]; · iexact Ht2
        isplitl [Hk2]; · iexact Hk2
        iexact Hs2
      isplitl [Hu0 Hl0 Hs12]
      · isplitl [Hu0]; · iexact Hu0
        isplitl [Hl0]; · iexact Hl0
        iexact Hs12
      isplitl [Hu1]; · iexact Hu1
      isplitl [Hl1]; · iexact Hl1
      iexact Hs13
    isplitl [Ht3 Hk3 Hs3 Ht4 Hk4 Hs4 Ht5 Hk5 Hs5 Hu2 Hl2 Hs14 Hu3 Hl3 Hs15]
    · isplitl [Ht3 Hk3 Hs3]
      · isplitl [Ht3]; · iexact Ht3
        isplitl [Hk3]; · iexact Hk3
        iexact Hs3
      isplitl [Ht4 Hk4 Hs4]
      · isplitl [Ht4]; · iexact Ht4
        isplitl [Hk4]; · iexact Hk4
        iexact Hs4
      isplitl [Ht5 Hk5 Hs5]
      · isplitl [Ht5]; · iexact Ht5
        isplitl [Hk5]; · iexact Hk5
        iexact Hs5
      isplitl [Hu2 Hl2 Hs14]
      · isplitl [Hu2]; · iexact Hu2
        isplitl [Hl2]; · iexact Hl2
        iexact Hs14
      isplitl [Hu3]; · iexact Hu3
      isplitl [Hl3]; · iexact Hl3
      iexact Hs15
    isplitl [Ht6 Hk6 Hs6 Ht7 Hk7 Hs7 Ht8 Hk8 Hs8 Hu4 Hl4 Hs16 Hu5 Hl5 Hs17]
    · isplitl [Ht6 Hk6 Hs6]
      · isplitl [Ht6]; · iexact Ht6
        isplitl [Hk6]; · iexact Hk6
        iexact Hs6
      isplitl [Ht7 Hk7 Hs7]
      · isplitl [Ht7]; · iexact Ht7
        isplitl [Hk7]; · iexact Hk7
        iexact Hs7
      isplitl [Ht8 Hk8 Hs8]
      · isplitl [Ht8]; · iexact Ht8
        isplitl [Hk8]; · iexact Hk8
        iexact Hs8
      isplitl [Hu4 Hl4 Hs16]
      · isplitl [Hu4]; · iexact Hu4
        isplitl [Hl4]; · iexact Hl4
        iexact Hs16
      isplitl [Hu5]; · iexact Hu5
      isplitl [Hl5]; · iexact Hl5
      iexact Hs17
    isplitl [Ht9 Hk9 Hs9]
    · isplitl [Ht9]; · iexact Ht9
      isplitl [Hk9]; · iexact Hk9
      iexact Hs9
    isplitl [Ht10 Hk10 Hs10]
    · isplitl [Ht10]; · iexact Ht10
      isplitl [Hk10]; · iexact Hk10
      iexact Hs10
    isplitl [Ht11 Hk11 Hs11]
    · isplitl [Ht11]; · iexact Ht11
      isplitl [Hk11]; · iexact Hk11
      iexact Hs11
    isplitl [Hu6 Hl6 Hs18]
    · isplitl [Hu6]; · iexact Hu6
      isplitl [Hl6]; · iexact Hl6
      iexact Hs18
    isplitl [Hu7]; · iexact Hu7
    isplitl [Hl7]; · iexact Hl7
    iexact Hs19
  unfold Left
  isplitl [HA]; · iexact HA
  isplitl [HB]; · iexact HB
  isplitl [H3]; · iexact H3
  iexact H5

theorem slots_join (c : Dev nD) :
    iprop(Slots m c ∗ Left m c) ⊢ iprop((∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)
      ∗ Pipeline.ownSems0 (Ix := Unit) (Name := ℕ) (U := Pipeline.UD sig nD τ) (Lvl := ℕ) (Val := Elt F) (τ := τ) osem0 c
      ∗ (bigSep H0 (fun b => ((c : Thread nD τ).loc b) ↦{fullShare} V m c b))) := by
  rw [ownSems00_eq, hbmPts0_eq, whole_some, whole_some, slots_eq]
  unfold Left
  iintro ⟨⟨⟨⟨Ht0, Hk0, Hs0⟩, ⟨Ht1, Hk1, Hs1⟩, ⟨Ht2, Hk2, Hs2⟩, ⟨Hu0, Hl0, Hs12⟩, ⟨Hu1, Hl1, Hs13⟩⟩, ⟨⟨Ht3, Hk3, Hs3⟩, ⟨Ht4, Hk4, Hs4⟩, ⟨Ht5, Hk5, Hs5⟩, ⟨Hu2, Hl2, Hs14⟩, ⟨Hu3, Hl3, Hs15⟩⟩, ⟨⟨Ht6, Hk6, Hs6⟩, ⟨Ht7, Hk7, Hs7⟩, ⟨Ht8, Hk8, Hs8⟩, ⟨Hu4, Hl4, Hs16⟩, ⟨Hu5, Hl5, Hs17⟩⟩, ⟨⟨Ht9, Hk9, Hs9⟩, ⟨Ht10, Hk10, Hs10⟩, ⟨Ht11, Hk11, Hs11⟩, ⟨Hu6, Hl6, Hs18⟩, ⟨Hu7, Hl7, Hs19⟩⟩⟩, HA, HB, H3, H5⟩
  isplitl [HA Hk0 Hk1 Hk2 Hk3 Hk4 Hk5 Hk6 Hk7 Hk8 Hk9 Hk10 Hk11]
  · iapply (pieces_join _ (blocks0 m c) Finset.univ (blocks0_apart m c) fun _ _ => Finset.subset_univ _)
    iapply (Entails.of_eq (pieces0_eq m c).symm)
    isplitl [Hk0]; · iexact Hk0
    isplitl [Hk1]; · iexact Hk1
    isplitl [Hk2]; · iexact Hk2
    isplitl [Hk3]; · iexact Hk3
    isplitl [Hk4]; · iexact Hk4
    isplitl [Hk5]; · iexact Hk5
    isplitl [Hk6]; · iexact Hk6
    isplitl [Hk7]; · iexact Hk7
    isplitl [Hk8]; · iexact Hk8
    isplitl [Hk9]; · iexact Hk9
    isplitl [Hk10]; · iexact Hk10
    isplitl [Hk11]; · iexact Hk11
    iexact HA
  isplitl [HB Hl0 Hl1 Hl2 Hl3 Hl4 Hl5 Hl6 Hl7]
  · iapply (pieces_join _ (blocks1 m c) Finset.univ (blocks1_apart m c) fun _ _ => Finset.subset_univ _)
    iapply (Entails.of_eq (pieces1_eq m c).symm)
    isplitl [Hl0]; · iexact Hl0
    isplitl [Hl1]; · iexact Hl1
    isplitl [Hl2]; · iexact Hl2
    isplitl [Hl3]; · iexact Hl3
    isplitl [Hl4]; · iexact Hl4
    isplitl [Hl5]; · iexact Hl5
    isplitl [Hl6]; · iexact Hl6
    isplitl [Hl7]; · iexact Hl7
    iexact HB
  isplitl [Hs0 Hs1 Hs2 Hs3 Hs4 Hs5 Hs6 Hs7 Hs8 Hs9 Hs10 Hs11 Hs12 Hs13 Hs14 Hs15 Hs16 Hs17 Hs18 Hs19]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hs14]; · iexact Hs14
    isplitl [Hs15]; · iexact Hs15
    isplitl [Hs16]; · iexact Hs16
    isplitl [Hs17]; · iexact Hs17
    isplitl [Hs18]; · iexact Hs18
    iexact Hs19
  isplitl [H3 Ht0 Ht1 Ht2 Ht3 Ht4 Ht5 Ht6 Ht7 Ht8 Ht9 Ht10 Ht11]
  · iapply (Transfers.pointsTo_toks_join (Val := Elt F) (Ix := Unit) (Name := ℕ) (U := Pipeline.UD sig nD τ) (Lvl := ℕ) fullShare 12)
    isplitl [H3]; · iexact H3
    iapply (Entails.of_eq (toks12 m c).symm)
    isplitl [Ht0]; · iexact Ht0
    isplitl [Ht1]; · iexact Ht1
    isplitl [Ht2]; · iexact Ht2
    isplitl [Ht3]; · iexact Ht3
    isplitl [Ht4]; · iexact Ht4
    isplitl [Ht5]; · iexact Ht5
    isplitl [Ht6]; · iexact Ht6
    isplitl [Ht7]; · iexact Ht7
    isplitl [Ht8]; · iexact Ht8
    isplitl [Ht9]; · iexact Ht9
    isplitl [Ht10]; · iexact Ht10
    iexact Ht11
  iapply (Transfers.pointsTo_toks_join (Val := Elt F) (Ix := Unit) (Name := ℕ) (U := Pipeline.UD sig nD τ) (Lvl := ℕ) fullShare 8)
  isplitl [H5]; · iexact H5
  iapply (Entails.of_eq (toks8 m c).symm)
  isplitl [Hu0]; · iexact Hu0
  isplitl [Hu1]; · iexact Hu1
  isplitl [Hu2]; · iexact Hu2
  isplitl [Hu3]; · iexact Hu3
  isplitl [Hu4]; · iexact Hu4
  isplitl [Hu5]; · iexact Hu5
  isplitl [Hu6]; · iexact Hu6
  iexact Hu7

end Cert.KernelIdeal.Hand

end
-- ==== Proof.IdealLaunch.lean ====
/-
  The launch: what the body is handed, the run of the whole program, and what it leaves of the arguments.
-/
module

public import proofs.«01_k».proof.Proof.IdealRings

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MoeWords Cert.MoeRing

variable {F : FTy → Type} [FloatOps F]

local notation "𝕄" => MT nD τ sig Unit (Elt F) ℕ (Pipeline.UD sig nD τ) ℕ

open Idealize.ShloMosaic.Pipeline (Dat Cfg Window BodyObligation cellOf)

variable (m : (ℓ : Loc nD τ sig) → Buf (Elt F) ℓ) (ρ : Dev nD → PrngReg)

/-! ### What the body leaves in the result's block, and the data of the pipeline -/

/-- The block the body leaves: the result of the launch, of the blocks of the operands and the two arrays of experts. -/
def outAt (c : Dev nD) (t : Fin cfg0.N) : S9x2816.Idx → Elt F .bf16 :=
  outOf ((Memref.whole main_arg3).view.read (Elt F) (V m c main_arg3)) ((Memref.whole main_arg5).view.read (Elt F) (V m c main_arg5))
    (iblk m c 0 t) (iblk m c 1 t) (iblk m c 2 t) (iblk m c 3 t) (iblk m c 4 t)

/-- The data of the one pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)

/-! ### The body, on what the pipeline hands it -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem PhiD0_eq (c : Dev nD) : (Pipeline.ΦD osem0 spec0 H0 (V m) c : sProp 𝕄)
    = iprop(Pipeline.scopedRest (Ix := Unit) (Name := ℕ) (U := Pipeline.UD sig nD τ) (Lvl := ℕ) (Val := Elt F) spec0 c ∗ (∃ r, prngReg c r)
      ∗ Pipeline.ownSems0 (Ix := Unit) (Name := ℕ) (U := Pipeline.UD sig nD τ) (Lvl := ℕ) (Val := Elt F) (τ := τ) osem0 c
      ∗ bigSep H0 (fun b => ((c : Thread nD τ).loc b) ↦{fullShare} V m c b)) := rfl

/-- A buffer held whole at some contents. -/
theorem holds_whole (c : Dev nD) (b : Ref sig .tc) :
    (iprop(∃ f : Buf (Elt F) ((c : Thread nD τ).loc b), ((c : Thread nD τ).loc b) ↦{fullShare} f) : sProp 𝕄)
      ⊢ iprop(∃ X : b.ty.shape.Idx → Elt F b.ty.elt, Holds (Val := Elt F) (c : Thread nD τ) (Memref.whole b) X) := by
  unfold Holds
  iintro ⟨%f, H⟩
  iexists f
  iapply (Entails.of_eq (owns_whole (Ix := Unit) (Name := ℕ) (U := Pipeline.UD sig nD τ) (Lvl := ℕ) (c : Thread nD τ) b fullShare f).symm)
  iexact H

theorem whole_holds (c : Dev nD) (b : Ref sig .tc) :
    (iprop(∃ X : b.ty.shape.Idx → Elt F b.ty.elt, Holds (Val := Elt F) (c : Thread nD τ) (Memref.whole b) X) : sProp 𝕄)
      ⊢ iprop(∃ f : Buf (Elt F) ((c : Thread nD τ).loc b), ((c : Thread nD τ).loc b) ↦{fullShare} f) := by
  unfold Holds
  iintro ⟨%f, H⟩
  iexists f
  iapply (Entails.of_eq (owns_whole (Ix := Unit) (Name := ℕ) (U := Pipeline.UD sig nD τ) (Lvl := ℕ) (c : Thread nD τ) b fullShare f))
  iexact H

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, after0_0, after0_1, after0_2, after0_3, after0_4, after0_5]
  rw [show (dats m 0 c).Φ t.castSucc = Pipeline.ΦD osem0 spec0 H0 (V m) c from rfl, PhiD0_eq, scopedRest0_eq]
  unfold Dat.owesAt Pipeline.owesWithin
  rw [show (dats m 0 c).owed t.castSucc = 0 from rfl, show (dats m 0 c).owed t.succ = 0 from rfl]
  iintro ⟨⟨⟨HS0, HS1, HS2, HS3, HS4⟩, Hg, Hq, Hh⟩, ⟨%W, -, HW⟩, ⟨%d0, H0⟩, ⟨%d1, H1⟩, ⟨%d2, H2⟩, ⟨%d3, H3⟩, ⟨%d4, H4⟩, ⟨%d5, H5⟩⟩
  ihave HL := (slots_split m c) $$ [HS0 HS1 Hq Hh]
  · isplitl [HS0]; · iexact HS0
    isplitl [HS1]; · iexact HS1
    isplitl [Hq]; · iexact Hq
    iexact Hh
  icases HL with ⟨HR, HL⟩
  unfold Slots
  icases HR with ⟨HR0, HR1, HR2, HR3⟩
  ihave HS2 := (holds_whole c cc0_scratch2) $$ HS2
  ihave HS3 := (holds_whole c cc0_scratch3) $$ HS3
  ihave HS4 := (holds_whole c cc0_scratch4) $$ HS4
  iapply (wp_wand_r)
  isplitr [Hg HL]
  · iapply (body c (win0_0.stage (cfg0.slots t 0)) (hstage0_0 0) (win0_1.stage (cfg0.slots t 1)) (hstage0_1 0) (win0_2.stage (cfg0.slots t 2)) (hstage0_2 0) (win0_3.stage (cfg0.slots t 3)) (hstage0_3 0) (win0_4.stage (cfg0.slots t 4)) (hstage0_4 0) (Memref.whole main_arg3) (Memref.isWhole_whole _) (Memref.whole main_arg5) (Memref.isWhole_whole _) (win0_5.stage (cfg0.slots t 5)) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 tok12 tok8 (V m c main_arg3) (V m c main_arg5) (iblk m c 0 t) (iblk m c 1 t) (iblk m c 2 t) (iblk m c 3 t) (iblk m c 4 t))
    rw [before0_0, before0_1, before0_2, before0_3, before0_4]
    unfold Holds
    isplitl [H0]; · iexact H0
    isplitl [H1]; · iexact H1
    isplitl [H2]; · iexact H2
    isplitl [H3]; · iexact H3
    isplitl [H4]; · iexact H4
    isplitl [H5]; · iexists _; iexact H5
    isplitl [HS3]; · iexact HS3
    isplitl [HS2]; · iexact HS2
    isplitl [HS4]; · iexact HS4
    isplitl [HR0]; · iexact HR0
    isplitl [HR1]; · iexact HR1
    isplitl [HR2]; · iexact HR2
    isplitl [HR3]; · iexact HR3
    iexists W; iexact HW
  iintro %_ ⟨H0, H1, H2, H3, H4, H5, HS3, HS2, HS4, HR0, HR1, HR2, HR3, ⟨%W', HW⟩⟩
  ihave HS2 := (whole_holds c cc0_scratch2) $$ HS2
  ihave HS3 := (whole_holds c cc0_scratch3) $$ HS3
  ihave HS4 := (whole_holds c cc0_scratch4) $$ HS4
  ihave HL := (slots_join m c) $$ [HL HR0 HR1 HR2 HR3]
  · isplitr [HL]
    · unfold Slots
      isplitl [HR0]; · iexact HR0
      isplitl [HR1]; · iexact HR1
      isplitl [HR2]; · iexact HR2
      iexact HR3
    iexact HL
  icases HL with ⟨HS0, HS1, Hq, Hh⟩
  isplitl [HS0 HS1 HS2 HS3 HS4 Hg Hq Hh]
  · isplitl [HS0 HS1 HS2 HS3 HS4]
    · isplitl [HS0]; · iexact HS0
      isplitl [HS1]; · iexact HS1
      isplitl [HS2]; · iexact HS2
      isplitl [HS3]; · iexact HS3
      iexact HS4
    isplitl [Hg]; · iexact Hg
    isplitl [Hq]; · iexact Hq
    iexact Hh
  isplitl [HW]
  · iexists W'
    isplitr; · ipureintro; exact fun _ _ => Or.inl trivial
    iexact HW
  unfold Holds outAt
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ### The run -/

theorem sfx_subH : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  refine Pipeline.sub_tailRefsBut _ _ _ op ((List.forall_iff_forall_mem.mp hostOps1_sub) op hop) (fun k => k.elim0) ?_
  simp only [hostOps1, List.mem_cons, List.mem_nil_iff, or_false] at hop
  rcases hop with rfl
  intro b hb
  simp only [H0, Finset.mem_insert, Finset.mem_singleton] at hb
  rw [StableHlo.reshape_bufs]
  rcases hb with rfl | rfl <;>
  · simp only [Finset.mem_insert, Finset.mem_singleton, not_or]
    exact ⟨StableHlo.devRef_ne_of_ne (by decide), StableHlo.devRef_ne_of_ne (by decide)⟩

theorem W_arg0 (c : Dev nD) : Pipeline.afterTail₀ cfgs (dats m) 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

theorem W_arg1 (c : Dev nD) : Pipeline.afterTail₀ cfgs (dats m) 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

theorem W_arg2 (c : Dev nD) : Pipeline.afterTail₀ cfgs (dats m) 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c

theorem W_arg3 (c : Dev nD) : Pipeline.afterTail₀ cfgs (dats m) 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c

theorem W_arg5 (c : Dev nD) : Pipeline.afterTail₀ cfgs (dats m) 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg5 (by exact (by decide : ∀ w, Pipeline.arrRef spec0 w ≠ main_arg5))]
  exact V_main_arg5 m c

set_option maxHeartbeats 800000 in
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

set_option backward.isDefEq.respectTransparency.types false in
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := sfx_subH) (hfresh := sfx_fresh) (hkeep := sfx_keeps)
    (hmain := hmainD m Variants.none) (hA := A_eq m) (hin := fun _ => .rfl) (hout := fun _ => .rfl)

/-- The arguments end as they began, and every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨((h.1 c).2 main_arg0 (Pipeline.mem_restRefs_of main_arg0 (by decide) (by decide))).trans (W_arg0 m c),
      ((h.1 c).2 main_arg1 (Pipeline.mem_restRefs_of main_arg1 (by decide) (by decide))).trans (W_arg1 m c),
      ((h.1 c).2 main_arg2 (Pipeline.mem_restRefs_of main_arg2 (by decide) (by decide))).trans (W_arg2 m c),
      ((h.1 c).2 main_arg3 (Pipeline.mem_restRefs_of main_arg3 (by decide) (by decide))).trans (W_arg3 m c),
      ((h.1 c).1 3).trans (((dats m 0 c).arrAt_in 3 rfl _).trans ((A_eq m c 3).trans (V_main_arg4 m c))),
      ((h.1 c).2 main_arg5 (Pipeline.mem_restRefs_of main_arg5 (by decide) (by decide))).trans (W_arg5 m c),
      ((h.1 c).1 4).trans (((dats m 0 c).arrAt_in 4 rfl _).trans ((A_eq m c 4).trans (V_main_arg6 m c)))⟩, h.2⟩) (run_main m ρ)

end Cert.KernelIdeal.Hand

end
-- ==== Proof.ValueExpert.lean ====
/-
  One expert's product over the extended reals: the kernel's, summed in groups of rows, and the plain sum.
-/
module

public import proofs.«01_k».proof.Proof.IdealTrip
public import Idealize.ShloMosaic.Lib.Pointwise
public import Idealize.ShloMosaic.Lib.MatmulPlain

@[expose] public section

noncomputable section

namespace Cert.MoeValue

open Idealize.ShloMosaic
open scoped BigOperators

/-- A row's product with the first weights, scaled. -/
def gu (x : Fin 2816 → EReal) (w : Fin 2816 → Fin 2816 → EReal) (s : Fin 2816 → EReal) (n : Fin 2816) : EReal :=
  (∑ k, x k * w k n) * s n

/-- The gated hidden layer of a row. -/
def hid (x : Fin 2816 → EReal) (w : Fin 2816 → Fin 2816 → EReal) (s : Fin 2816 → EReal) (k : Fin 1408) : EReal :=
  gu x w s ⟨k.val, by omega⟩ * Ideal.logistic (gu x w s ⟨k.val, by omega⟩) * gu x w s ⟨1408 + k.val, by omega⟩

/-- An expert's product for a row. -/
def val (x : Fin 2816 → EReal) (w : Fin 2816 → Fin 2816 → EReal) (s : Fin 2816 → EReal) (w2 : Fin 1408 → Fin 2816 → EReal) (s2 : Fin 2816 → EReal)
    (j : Fin 2816) : EReal := (∑ k, hid x w s k * w2 k j) * s2 j

/-- An expert's weights and scales, as plain functions. -/
def wt {R : ℕ} (W : (⟨3, ![8, R, 2816]⟩ : Shape).Idx → Elt Ideal .i8) (e : Fin 8) : Fin R → Fin 2816 → EReal :=
  fun k n => FloatOps.sitofp (F := Ideal) FTy.bf16 (W (ix3 e k n))

def sc (S : (⟨2, ![8, 2816]⟩ : Shape).Idx → Elt Ideal .f32) (e : Fin 8) : Fin 2816 → EReal := fun n => S (ix2 e n)

/-- A row's weight for the expert `word`. -/
def gate (I : (⟨2, ![9, 2]⟩ : Shape).Idx → Elt Ideal .i32) (W : (⟨2, ![9, 2]⟩ : Shape).Idx → Elt Ideal .f32) (word : BitVec 32) (i : Fin 9) : EReal :=
  (if I (ix2 i 0) = word then W (ix2 i 0) else 0) + (if I (ix2 i 1) = word then W (ix2 i 1) else 0)

theorem select_eq (a b : BitVec 32) (x y : EReal) : Scalar.select (IntOp.cmpi .eq a b) x y = if a = b then x else y := by
  have hc : IntOp.cmpi .eq a b = BitVec.ofBool (decide (a = b)) := by
    show BitVec.ofBool (a == b) = _
    rw [beq_eq_decide]
  rw [hc]
  unfold Scalar.select
  by_cases h : a = b <;> simp [h]

section Term

variable (I : (⟨2, ![9, 2]⟩ : Shape).Idx → Elt Ideal .i32) (W : (⟨2, ![9, 2]⟩ : Shape).Idx → Elt Ideal .f32) (X : (⟨2, ![9, 2816]⟩ : Shape).Idx → Elt Ideal .bf16)
  (W13 : (⟨3, ![8, 2816, 2816]⟩ : Shape).Idx → Elt Ideal .i8) (S13 : (⟨2, ![8, 2816]⟩ : Shape).Idx → Elt Ideal .f32)
  (W2 : (⟨3, ![8, 1408, 2816]⟩ : Shape).Idx → Elt Ideal .i8) (S2 : (⟨2, ![8, 2816]⟩ : Shape).Idx → Elt Ideal .f32)

/-- What an expert adds to a row. -/
def term (i : Fin 9) (j : Fin 2816) (e : Fin 8) : EReal :=
  val (fun k => X (ix2 i k)) (wt W13 e) (sc S13 e) (wt W2 e) (sc S2 e) j * gate I W (BitVec.ofNat 32 e.val) i

/-- What the experts below `n` add to a row, one after another. -/
def upto (i : Fin 9) (j : Fin 2816) : ℕ → EReal
  | 0 => 0
  | n + 1 => upto i j n + if h : n < 8 then term I W X W13 S13 W2 S2 i j ⟨n, h⟩ else 0

end Term

end Cert.MoeValue

namespace Cert.KernelIdeal.Hand

open Cert.KernelIdeal Cert.KernelIdeal.Gen
open Idealize.ShloMosaic
open Cert.MoeValue
open scoped BigOperators

theorem sum_three (f : Fin 2816 → EReal) :
    (∑ k : Fin 1024, f ⟨k.val, by omega⟩) + (∑ k : Fin 1024, f ⟨1024 + k.val, by omega⟩) + (∑ k : Fin 768, f ⟨2048 + k.val, by omega⟩) = ∑ k, f k := by
  have h1 := Fin.sum_univ_add (a := 2048) (b := 768) f
  have h2 := Fin.sum_univ_add (a := 1024) (b := 1024) (fun i => f (Fin.castAdd 768 i))
  refine Eq.trans ?_ h1.symm
  refine congrArg₂ (· + ·) ?_ rfl
  refine Eq.trans ?_ h2.symm
  refine congrArg₂ (· + ·) rfl rfl

theorem sum_two (f : Fin 1408 → EReal) :
    (∑ k : Fin 1024, f ⟨k.val, by omega⟩) + (∑ k : Fin 384, f ⟨1024 + k.val, by omega⟩) = ∑ k, f k := by
  have h1 := Fin.sum_univ_add (a := 1024) (b := 384) f
  refine Eq.trans ?_ h1.symm
  refine congrArg₂ (· + ·) rfl rfl

variable (W13 : S8x2816x2816.Idx → Elt Ideal .i8) (W2 : S8x1408x2816.Idx → Elt Ideal .i8) (XB : S16x2816.Idx → Elt Ideal .bf16) (S13 S2 : S8x2816.Idx → Elt Ideal .f32)
  (e : ℕ) (he : e < 8)

theorem blk2_emb {R C n : ℕ} {o : ℕ} {h : ∀ a, (![0, o] : Fin 2 → ℕ) a + (![R, n] : Fin 2 → ℕ) a ≤ (⟨2, ![R, C]⟩ : Shape).size a} (a : Fin R) (b : Fin n)
    (hb : o + b.val < C) : (Rect.unit (s := ⟨2, ![R, C]⟩) ![0, o] ![R, n] h).emb (ix2 a b) = ix2 a ⟨o + b.val, hb⟩ := by
  funext i
  apply Fin.ext
  match i with
  | ⟨0, _⟩ => show 0 + 1 * a.val = a.val; omega
  | ⟨1, _⟩ => show o + 1 * b.val = o + b.val; omega

theorem expRows_apply {R : ℕ} (W : (⟨3, ![8, R, 2816]⟩ : Shape).Idx → Elt Ideal .i8) (r n : ℕ) (hr : r + n ≤ R) (z : Fin 1) (k : Fin n) (j : Fin 2816) (hk : r + k.val < R) :
    expRows W e he r n hr (ix3 z k j) = W (ix3 ⟨e, he⟩ ⟨r + k.val, hk⟩ j) := by
  refine congrArg W ?_
  funext i
  apply Fin.ext
  match i with
  | ⟨0, _⟩ => show e + 1 * z.val = e; omega
  | ⟨1, _⟩ => show r + 1 * k.val = r + k.val; omega
  | ⟨2, _⟩ => show 0 + 1 * j.val = j.val; omega

theorem blk2_emb0 {R C n : ℕ} {h : ∀ a, (![0, 0] : Fin 2 → ℕ) a + (![R, n] : Fin 2 → ℕ) a ≤ (⟨2, ![R, C]⟩ : Shape).size a} (a : Fin R) (b : Fin n)
    (hb : b.val < C) : (Rect.unit (s := ⟨2, ![R, C]⟩) ![0, 0] ![R, n] h).emb (ix2 a b) = ix2 a ⟨b.val, hb⟩ :=
  (blk2_emb a b (by omega)).trans (congrArg (ix2 a) (Fin.ext (Nat.zero_add _)))

theorem expRows_apply0 {R : ℕ} (W : (⟨3, ![8, R, 2816]⟩ : Shape).Idx → Elt Ideal .i8) (n : ℕ) (hr : 0 + n ≤ R) (z : Fin 1) (k : Fin n) (j : Fin 2816) (hk : k.val < R) :
    expRows W e he 0 n hr (ix3 z k j) = W (ix3 ⟨e, he⟩ ⟨k.val, hk⟩ j) :=
  (expRows_apply e he W 0 n hr z k j (by omega)).trans (congrArg (fun x => W (ix3 ⟨e, he⟩ x j)) (Fin.ext (Nat.zero_add _)))

theorem expRow_apply (X : S8x2816.Idx → Elt Ideal .f32) (z : Fin 1) (j : Fin 2816) : expRow X e he (ix2 z j) = X (ix2 ⟨e, he⟩ j) := by
  refine congrArg X ?_
  funext i
  apply Fin.ext
  match i with
  | ⟨0, _⟩ => show e + 1 * z.val = e; omega
  | ⟨1, _⟩ => show 0 + 1 * j.val = j.val; omega

/-- The input's row. -/
def xrow (r : Fin 16) : Fin 2816 → EReal := fun k => XB (ix2 r k)

theorem exp350_apply (r : Fin 16) (n : Fin 2816) : exp350 W13 XB e he (ix2 r n)
    = (∑ k : Fin 1024, xrow XB r ⟨k.val, by omega⟩ * wt W13 ⟨e, he⟩ ⟨k.val, by omega⟩ n)
      + (∑ k : Fin 1024, xrow XB r ⟨1024 + k.val, by omega⟩ * wt W13 ⟨e, he⟩ ⟨1024 + k.val, by omega⟩ n) := by
  unfold exp350 k0_pay7
  pointwise
  refine congrArg₂ (· + ·) (Finset.sum_congr rfl fun k _ => ?_) (Finset.sum_congr rfl fun k _ => ?_)
  · exact congrArg₂ (· * ·) (congrArg XB (blk2_emb0 r k _)) (congrArg (FloatOps.sitofp (F := Ideal) FTy.bf16) (expRows_apply0 e he W13 1024 _ 0 k n _))
  · exact congrArg₂ (· * ·) (congrArg XB (blk2_emb r k _)) (congrArg (FloatOps.sitofp (F := Ideal) FTy.bf16) (expRows_apply e he W13 1024 1024 _ 0 k n _))

/-- The first product, scaled. -/
theorem guEq (r : Fin 16) (n : Fin 2816) : (exp350 W13 XB e he (ix2 r n) + ∑ k : Fin 768,
      XB ((Rect.unit (s := S16x2816) ![0, 2048] ![16, 768] inb_S16x2816_S16x768_0_2048).emb (ix2 r k)) *
        FloatOps.sitofp (F := Ideal) FTy.bf16 (expRows W13 e he 2048 768 (by decide) (ix3 0 k n))) * expRow S13 e he (ix2 0 n)
    = gu (xrow XB r) (wt W13 ⟨e, he⟩) (sc S13 ⟨e, he⟩) n := by
  unfold gu
  rw [exp350_apply, expRow_apply]
  refine congrArg (· * _) ?_
  refine Eq.trans ?_ (sum_three fun k => xrow XB r k * wt W13 ⟨e, he⟩ k n)
  refine congrArg₂ (· + ·) rfl (Finset.sum_congr rfl fun k _ => ?_)
  exact congrArg₂ (· * ·) (congrArg XB (blk2_emb r k (by omega))) (congrArg (FloatOps.sitofp (F := Ideal) FTy.bf16) (expRows_apply e he W13 2048 768 _ 0 k n (by omega)))

theorem exp373_apply (r : Fin 16) (k : Fin 1408) : exp373 W13 XB S13 e he (ix2 r k) = hid (xrow XB r) (wt W13 ⟨e, he⟩) (sc S13 ⟨e, he⟩) k := by
  unfold exp373 k0_pay8 hid
  pointwise
  rw [← guEq, ← guEq]

theorem exp388_apply (r : Fin 16) (j : Fin 2816) : exp388 W13 W2 XB S13 e he (ix2 r j)
    = ∑ k : Fin 1024, hid (xrow XB r) (wt W13 ⟨e, he⟩) (sc S13 ⟨e, he⟩) ⟨k.val, by omega⟩ * wt W2 ⟨e, he⟩ ⟨k.val, by omega⟩ j := by
  unfold exp388 k0_pay9
  pointwise
  refine Finset.sum_congr rfl fun k _ => congrArg₂ (· * ·) ?_ (congrArg (FloatOps.sitofp (F := Ideal) FTy.bf16) (expRows_apply0 e he W2 1024 _ 0 k j (by omega)))
  exact exp373_apply W13 XB S13 e he r ⟨k.val, by omega⟩

theorem expY_apply (r : Fin 16) (j : Fin 2816) : expY W13 W2 XB S13 S2 e he (ix2 r j)
    = val (xrow XB r) (wt W13 ⟨e, he⟩) (sc S13 ⟨e, he⟩) (wt W2 ⟨e, he⟩) (sc S2 ⟨e, he⟩) j := by
  unfold expY k0_pay12 val
  pointwise
  rw [exp388_apply, expRow_apply]
  refine congrArg (· * _) ?_
  refine Eq.trans ?_ (sum_two fun k => hid (xrow XB r) (wt W13 ⟨e, he⟩) (sc S13 ⟨e, he⟩) k * wt W2 ⟨e, he⟩ k j)
  refine congrArg₂ (· + ·) rfl (Finset.sum_congr rfl fun k _ => ?_)
  rw [expRows_apply e he W2 1024 384 _ 0 k j (by omega), exp373_apply]
  rfl

end Cert.KernelIdeal.Hand
-- ==== Proof.ValueGate.lean ====
/-
  The gates of the kernel: which rows an expert serves and with which weight, and that an expert outside the mask serves none.
-/
module

public import proofs.«01_k».proof.Proof.IdealBody
public import Idealize.ShloMosaic.Lib.Pointwise
import Mathlib.Tactic.IntervalCases

@[expose] public section

noncomputable section

namespace Cert.KernelIdeal.Hand

open Cert.KernelIdeal Cert.KernelIdeal.Gen
open Idealize.ShloMosaic
open Cert.MoeWords

variable {F : FTy → Type} [FloatOps F]
variable (I : S9x2.Idx → Elt F .i32) (W : S9x2.Idx → Elt F .f32)

/-- A row below nine, among the sixteen. -/
def row (i : Fin 9) : Fin 16 := ⟨i.val, by omega⟩

theorem w296_apply (i : Fin 9) (c : Fin 128) : w296 I W (ix2 (row i) c) = I (at92 i 0) := by fin_cases i <;> rfl
theorem w301_apply (i : Fin 9) (c : Fin 128) : w301 I W (ix2 (row i) c) = W (at92 i 0) := by fin_cases i <;> rfl
theorem w306_apply (i : Fin 9) (c : Fin 128) : w306 I W (ix2 (row i) c) = I (at92 i 1) := by fin_cases i <;> rfl
theorem w311_apply (i : Fin 9) (c : Fin 128) : w311 I W (ix2 (row i) c) = W (at92 i 1) := by fin_cases i <;> rfl

theorem bit_iff (m : BitVec 32) {e : ℕ} (he : e < 8) : bit m e = 1#32 ↔ m.getLsbD e = true := by
  have h : bit m e = (m >>> e) &&& 1#32 := by
    unfold bit
    show (if (BitVec.ofNat 32 e).toNat < 32 then m >>> (BitVec.ofNat 32 e) else _) &&& 1#32 = _
    have ht : (BitVec.ofNat 32 e).toNat = e := by rw [BitVec.toNat_ofNat]; omega
    rw [if_pos (by omega), BitVec.ushiftRight_eq', ht]
  rw [h, BitVec.and_one_eq_setWidth_ofBool_getLsbD, BitVec.getLsbD_ushiftRight, Nat.add_zero]
  cases m.getLsbD e <;> simp

theorem bit_left {a b : BitVec 32} {e : ℕ} (he : e < 8) (h : bit a e = 1#32) : bit (Scalar.ori a b) e = 1#32 := by
  rw [bit_iff _ he] at *
  show (a ||| b).getLsbD e = true
  rw [BitVec.getLsbD_or, h, Bool.true_or]

theorem bit_right {a b : BitVec 32} {e : ℕ} (he : e < 8) (h : bit b e = 1#32) : bit (Scalar.ori a b) e = 1#32 := by
  rw [bit_iff _ he] at *
  show (a ||| b).getLsbD e = true
  rw [BitVec.getLsbD_or, h, Bool.or_true]

theorem bit_one (e : ℕ) (he : e < 8) : bit (Scalar.shli 1#32 (BitVec.ofNat 32 e)) e = 1#32 := by
  interval_cases e <;> decide

/-- An expert some row takes is in the mask. -/
theorem bit_mask (e : ℕ) (he : e < 8) (i : Fin 9) (j : Fin 2) (h : I (at92 i j) = BitVec.ofNat 32 e) : bit (maskOf I) e = 1#32 := by
  have h1 : bit (Scalar.shli 1#32 (I (at92 i j))) e = 1#32 := by rw [h]; exact bit_one e he
  unfold maskOf mask
  fin_cases i <;> fin_cases j <;> (repeat (first | exact bit_right he h1 | apply bit_left he))

end Cert.KernelIdeal.Hand
-- ==== Proof.ValueFold.lean ====
/-
  The kernel's accumulator over the extended reals: after the active experts, a row holds what all eight add to it, since an expert
  that is not active adds zero.
-/
module

public import proofs.«01_k».proof.Proof.ValueExpert
public import proofs.«01_k».proof.Proof.ValueGate

@[expose] public section

noncomputable section

namespace Cert.KernelIdeal.Hand

open Cert.KernelIdeal Cert.KernelIdeal.Gen
open Idealize.ShloMosaic
open Cert.MoeValue Cert.MoeWords
open scoped BigOperators

variable (I : S9x2.Idx → Elt Ideal .i32) (W : S9x2.Idx → Elt Ideal .f32) (X2 : S9x2816.Idx → Elt Ideal .bf16) (W13 : S8x2816x2816.Idx → Elt Ideal .i8)
  (S13 : S8x2816.Idx → Elt Ideal .f32) (W2 : S8x1408x2816.Idx → Elt Ideal .i8) (S2 : S8x2816.Idx → Elt Ideal .f32)

theorem xb_row (i : Fin 9) : xrow (xbOf X2) (row i) = fun k => X2 (ix2 i k) := by
  funext k
  unfold xrow xbOf
  have h73 : k0_pay73 (F := Ideal) X2 = X2 := by
    funext y
    unfold k0_pay73
    pointwise
  rw [dif_pos (show ((ix2 (row i) k : S16x2816.Idx) 0).val < 10 from by show i.val < 10; omega), h73]
  unfold updateSlice
  rw [dif_pos]
  · refine congrArg X2 ?_
    funext a; apply Fin.ext
    match a with
    | ⟨0, _⟩ => rfl
    | ⟨1, _⟩ => rfl
  · intro a
    match a with
    | ⟨0, _⟩ => exact ⟨Nat.zero_le _, by show i.val < 0 + 9; omega⟩
    | ⟨1, _⟩ => exact ⟨Nat.zero_le _, by show k.val < 0 + 2816; omega⟩

theorem term_zero (i : Fin 9) (j : Fin 2816) (e : Fin 8) (h : ¬bit (maskOf I) e.val = 1#32) : term I W X2 W13 S13 W2 S2 i j e = 0 := by
  have h0 : ¬I (ix2 i 0) = BitVec.ofNat 32 e.val := fun hh => h (bit_mask I e.val e.isLt i 0 hh)
  have h1 : ¬I (ix2 i 1) = BitVec.ofNat 32 e.val := fun hh => h (bit_mask I e.val e.isLt i 1 hh)
  unfold term gate
  rw [if_neg h0, if_neg h1, add_zero, mul_zero]

theorem hit_eq (a b w : BitVec 32) (y x z : EReal) :
    Scalar.select (IntOp.ori (IntOp.cmpi .eq a w) (IntOp.cmpi .eq b w)) (y * ((if a = w then x else 0) + if b = w then z else 0)) 0
      = y * ((if a = w then x else 0) + if b = w then z else 0) := by
  have hc : ∀ u : BitVec 32, IntOp.cmpi .eq u w = BitVec.ofBool (decide (u = w)) := fun u => by
    show BitVec.ofBool (u == w) = _
    rw [beq_eq_decide]
  rw [hc, hc]
  unfold Scalar.select IntOp.ori
  by_cases h : a = w <;> by_cases h' : b = w <;> simp [h, h']

theorem stepE_apply (e : ℕ) (he : e < 8) (A : S16x2816.Idx → Elt Ideal .f32) (i : Fin 9) (j : Fin 2816) :
    stepE W13 W2 (xbOf X2) S13 S2 e he (w296 I W) (w301 I W) (w306 I W) (w311 I W) A (ix2 (row i) j)
      = A (ix2 (row i) j) + term I W X2 W13 S13 W2 S2 i j ⟨e, he⟩ := by
  have ht : tcol (ix2 (row i) j) = ix2 (row i) (⟨j.val % 128, Nat.mod_lt _ (by decide)⟩ : Fin 128) := by
    funext a; apply Fin.ext
    match a with
    | ⟨0, _⟩ => rfl
    | ⟨1, _⟩ => rfl
  unfold stepE mix
  rw [if_pos (show ((ix2 (row i) j : S16x2816.Idx) 1).val < 2816 from j.isLt), ht, expY_apply, xb_row]
  unfold k0_pay10 k0_pay11 term gate
  pointwise
  rw [w296_apply, w301_apply, w306_apply, w311_apply, select_eq, select_eq]
  exact congrArg (A (ix2 (row i) j) + ·) (hit_eq _ _ _ _ _ _)

theorem accN_apply (i : Fin 9) (j : Fin 2816) (e : ℕ) (he : e ≤ 8) :
    accN W13 W2 (xbOf X2) S13 S2 (w296 I W) (w301 I W) (w306 I W) (w311 I W) (k0_pay71 (F := Ideal)) (maskOf I) (num (maskOf I) e) (ix2 (row i) j)
      = upto I W X2 W13 S13 W2 S2 i j e := by
  induction e with
  | zero =>
    show k0_pay71 (F := Ideal) (ix2 (row i) j) = (0 : EReal)
    unfold k0_pay71
    pointwise
  | succ e ih =>
    have ih := ih (by omega)
    have hu : upto I W X2 W13 S13 W2 S2 i j (e + 1) = upto I W X2 W13 S13 W2 S2 i j e + term I W X2 W13 S13 W2 S2 i j ⟨e, by omega⟩ :=
      congrArg (upto I W X2 W13 S13 W2 S2 i j e + ·) (dif_pos (by omega))
    rw [hu, num_succ _ e (by omega)]
    by_cases hb : bit (maskOf I) e = 1#32
    · rw [if_pos hb]
      show stepE W13 W2 (xbOf X2) S13 S2 (ord (maskOf I) (num (maskOf I) e)) _ _ _ _ _ _ _ = _
      rw [stepE_apply, ih]
      refine congrArg (upto I W X2 W13 S13 W2 S2 i j e + ·) (congrArg (term I W X2 W13 S13 W2 S2 i j) (Fin.ext ?_))
      exact ord_num _ e (by omega) hb
    · rw [if_neg hb, Nat.add_zero, ih, term_zero I W X2 W13 S13 W2 S2 i j ⟨e, by omega⟩ hb, add_zero]

/-- What the kernel writes, element by element. -/
theorem outOf_apply (i : Fin 9) (j : Fin 2816) : outOf (F := Ideal) W13 W2 I W X2 S13 S2 (ix2 i j) = upto I W X2 W13 S13 W2 S2 i j 8 := by
  rw [← accN_apply I W X2 W13 S13 W2 S2 i j 8 (Nat.le_refl 8)]
  unfold outOf k0_pay6 accOf
  pointwise
  refine congrArg (accN W13 W2 (xbOf X2) S13 S2 (w296 I W) (w301 I W) (w306 I W) (w311 I W) (k0_pay71 (F := Ideal)) (maskOf I) (act (maskOf I))) ?_
  funext a; apply Fin.ext
  match a with
  | ⟨0, _⟩ => show 0 + 1 * i.val = i.val; omega
  | ⟨1, _⟩ => show 0 + 1 * j.val = j.val; omega

end Cert.KernelIdeal.Hand
-- ==== Proof.ValueKernelRun.lean ====
/-
  What the kernel's run leaves in its result, over the extended reals.
-/
module

public import proofs.«01_k».proof.Proof.ValueFold
public import proofs.«01_k».proof.Proof.IdealLaunch
public import Idealize.ShloMosaic.Lib.Pipeline.Value

@[expose] public section

set_option maxRecDepth 20000

noncomputable section

namespace Cert.KernelIdeal.Hand

open Cert.KernelIdeal Cert.KernelIdeal.Gen
open Idealize.ShloMosaic Idealize.ShloMosaic.TcCoe Idealize.SL.Sem
open Cert.MoeValue

variable (m : (ℓ : Loc nD τ sig) → Buf (Elt Ideal) ℓ) (ρ : Dev nD → PrngReg)

theorem V_v0 (c : Dev nD) : V m c main_v0 = shapeCast S9x2 (m ((c : Thread nD τ).loc main_arg1)) shapeCasts_S9x1x2_S9x2 := by
  show StableHlo.after hostOps0 _ (Proc.devRef .tc main_v0) = _
  after_results
  rfl

theorem V_v1 (c : Dev nD) : V m c main_v1 = shapeCast S9x2 (m ((c : Thread nD τ).loc main_arg2)) shapeCasts_S9x1x2_S9x2 := by
  show StableHlo.after hostOps0 _ (Proc.devRef .tc main_v1) = _
  after_results
  rfl

theorem V_v2 (c : Dev nD) : V m c main_v2 = shapeCast S9x2816 (m ((c : Thread nD τ).loc main_arg0)) shapeCasts_S9x1x2816_S9x2816 := by
  show StableHlo.after hostOps0 _ (Proc.devRef .tc main_v2) = _
  after_results
  rfl

/-! The launch has one point, and each window is the whole of its array. -/

def pt : Fin cfg0.N := ⟨0, by decide⟩

theorem iblk_0 (c : Dev nD) (t : Fin cfg0.N) : iblk m c 0 t = V m c main_v0 := by
  funext y
  refine congrArg (V m c main_v0) ?_
  funext a; apply Fin.ext
  match a with
  | ⟨0, _⟩ => show 0 + 1 * (y 0).val = (y 0).val; omega
  | ⟨1, _⟩ => show 0 + 1 * (y 1).val = (y 1).val; omega

theorem iblk_1 (c : Dev nD) (t : Fin cfg0.N) : iblk m c 1 t = V m c main_v1 := by
  funext y
  refine congrArg (V m c main_v1) ?_
  funext a; apply Fin.ext
  match a with
  | ⟨0, _⟩ => show 0 + 1 * (y 0).val = (y 0).val; omega
  | ⟨1, _⟩ => show 0 + 1 * (y 1).val = (y 1).val; omega

theorem iblk_2 (c : Dev nD) (t : Fin cfg0.N) : iblk m c 2 t = V m c main_v2 := by
  funext y
  refine congrArg (V m c main_v2) ?_
  funext a; apply Fin.ext
  match a with
  | ⟨0, _⟩ => show 0 + 1 * (y 0).val = (y 0).val; omega
  | ⟨1, _⟩ => show 0 + 1 * (y 1).val = (y 1).val; omega

theorem iblk_3 (c : Dev nD) (t : Fin cfg0.N) : iblk m c 3 t = V m c main_arg4 := by
  funext y
  refine congrArg (V m c main_arg4) ?_
  funext a; apply Fin.ext
  match a with
  | ⟨0, _⟩ => show 0 + 1 * (y 0).val = (y 0).val; omega
  | ⟨1, _⟩ => show 0 + 1 * (y 1).val = (y 1).val; omega

theorem iblk_4 (c : Dev nD) (t : Fin cfg0.N) : iblk m c 4 t = V m c main_arg6 := by
  funext y
  refine congrArg (V m c main_arg6) ?_
  funext a; apply Fin.ext
  match a with
  | ⟨0, _⟩ => show 0 + 1 * (y 0).val = (y 0).val; omega
  | ⟨1, _⟩ => show 0 + 1 * (y 1).val = (y 1).val; omega

/-- What the eight experts add to row `i` at column `j`, from the program's arguments. -/
def total (c : Dev nD) (i : Fin 9) (j : Fin 2816) : EReal :=
  upto (shapeCast S9x2 (m ((c : Thread nD τ).loc main_arg1)) shapeCasts_S9x1x2_S9x2) (shapeCast S9x2 (m ((c : Thread nD τ).loc main_arg2)) shapeCasts_S9x1x2_S9x2)
    (shapeCast S9x2816 (m ((c : Thread nD τ).loc main_arg0)) shapeCasts_S9x1x2816_S9x2816) (m ((c : Thread nD τ).loc main_arg3)) (m ((c : Thread nD τ).loc main_arg4))
    (m ((c : Thread nD τ).loc main_arg5)) (m ((c : Thread nD τ).loc main_arg6)) i j 8

theorem outAt_apply (c : Dev nD) (t : Fin cfg0.N) (i : Fin 9) (j : Fin 2816) : outAt m c t (ix2 i j) = total m c i j := by
  unfold outAt total
  rw [iblk_0, iblk_1, iblk_2, iblk_3, iblk_4, V_v0, V_v1, V_v2, V_main_arg3, V_main_arg4, V_main_arg5, V_main_arg6]
  exact outOf_apply _ _ _ _ _ _ _ i j

theorem idx_inj5 : ∀ t t' : Fin cfg0.N, win0_5.index t = win0_5.index t' → t = t' :=
  (by decide +kernel : ∀ t t' : Fin grid0.N, win0_5.index t = win0_5.index t' → t = t')

theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

theorem flush5 : (cfg0.win 5).flush pt = true := by decide +kernel

/-- The result's array after the run is what the one point leaves. -/
theorem arr5 (c : Dev nD) : (dats m 0 c).arrAt 5 cfg0.N = outAt m c pt := by
  have h : (dats m 0 c).flushed 5 pt = outAt m c pt := by
    show (cfg0.win 5).cut (grid0.coords pt) ((dats m 0 c).after 5 pt) = _
    rw [after0_5]
    rfl
  refine Eq.trans ?_ (((dats m 0 c).read_blk_arrAt_eq_flushed 5 disjoint5 cfg0.N pt pt.isLt flush5).trans h)
  funext y
  refine congrArg ((dats m 0 c).arrAt 5 cfg0.N) ?_
  funext a; apply Fin.ext
  match a with
  | ⟨0, _⟩ => show (y 0).val = 0 + 1 * (y 0).val; omega
  | ⟨1, _⟩ => show (y 1).val = 0 + 1 * (y 1).val; omega

theorem arrRef_inj : Function.Injective (Pipeline.arrRef spec0) := by decide

/-- The program's result, from the launch's. -/
theorem W_v4 (c : Dev nD) : Pipeline.afterTail₀ cfgs (dats m) 0 (V0 m) [hostOps1] c main_v4
    = shapeCast S9x1x2816 (outAt m c pt) shapeCasts_S9x2816_S9x1x2816 := by
  have h : Pipeline.withArrays (cfgs 0).spec c (V0 m c) (fun w => (dats m 0 c).arrAt w (cfgs 0).N) (Proc.devRef .tc main_v3)
      = outAt m c pt :=
    (Pipeline.withArrays_arr spec0 arrRef_inj c (V0 m c) _ 5).trans (arr5 m c)
  unfold Pipeline.afterTail₀
  rw [← h]
  generalize Pipeline.withArrays (cfgs 0).spec c (V0 m c) (fun w => (dats m 0 c).arrAt w (cfgs 0).N) = G
  show StableHlo.after hostOps1 _ (Proc.devRef .tc main_v4) = _
  after_results
  rfl

theorem cast_apply (G : S9x2816.Idx → Elt Ideal .bf16) (i : Fin 9) (z : Fin 1) (j : Fin 2816) :
    shapeCast S9x1x2816 G shapeCasts_S9x2816_S9x1x2816 (ix3 i z j) = G (ix2 i j) := by
  pointwise

/-- The program's result as a plain function of its arguments. -/
def result (c : Dev nD) : S9x1x2816.Idx → Elt Ideal .bf16 := fun y => total m c (y 0) (y 2)

theorem W_result (c : Dev nD) : Pipeline.afterTail₀ cfgs (dats m) 0 (V0 m) [hostOps1] c main_v4 = result m c := by
  rw [W_v4]
  funext y
  have hy : y = ix3 (y 0) (y 1) (y 2) := by
    funext a
    match a with
    | ⟨0, _⟩ => rfl
    | ⟨1, _⟩ => rfl
    | ⟨2, _⟩ => rfl
  exact (congrArg _ hy).trans ((cast_apply _ (y 0) (y 1) (y 2)).trans (outAt_apply m c pt (y 0) (y 2)))

/-- The run ends with the result as that function, the arguments as they were. -/
theorem run_value : θ_run defs (onTc (τ := τ) (main (F := Ideal))) ⟨m, fun _ => 0, ρ⟩ (fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h.1 c).2 main_v4 (Pipeline.mem_restRefs_of main_v4 (by decide) (by decide))).trans (W_result m c),
      ((h.1 c).2 main_arg0 (Pipeline.mem_restRefs_of main_arg0 (by decide) (by decide))).trans (W_arg0 m c),
      ((h.1 c).2 main_arg1 (Pipeline.mem_restRefs_of main_arg1 (by decide) (by decide))).trans (W_arg1 m c),
      ((h.1 c).2 main_arg2 (Pipeline.mem_restRefs_of main_arg2 (by decide) (by decide))).trans (W_arg2 m c),
      ((h.1 c).2 main_arg3 (Pipeline.mem_restRefs_of main_arg3 (by decide) (by decide))).trans (W_arg3 m c),
      ((h.1 c).1 3).trans (((dats m 0 c).arrAt_in 3 rfl _).trans ((A_eq m c 3).trans (V_main_arg4 m c))),
      ((h.1 c).2 main_arg5 (Pipeline.mem_restRefs_of main_arg5 (by decide) (by decide))).trans (W_arg5 m c),
      ((h.1 c).1 4).trans (((dats m 0 c).arrAt_in 4 rfl _).trans ((A_eq m c 4).trans (V_main_arg6 m c)))⟩) (run_main m ρ)

end Cert.KernelIdeal.Hand

end
-- ==== Proof.ValueReference.lean ====
/-
  The reference's block over the extended reals: eight experts, one after another, each the plain product with a row's weight.
-/
module

public import proofs.«01_k».proof.Proof.ValueExpert
public import proofs.«01_k».proof.Proof.Gen.ReferenceIdeal.Value

@[expose] public section

noncomputable section

namespace Cert.ReferenceIdeal.Hand

open Cert.ReferenceIdeal Cert.ReferenceIdeal.Gen
open Idealize.ShloMosaic
open Cert.MoeValue
open scoped BigOperators

/-- One expert on the running sum. -/
def one (I : S9x2.Idx → Elt Ideal .i32) (W : S9x2.Idx → Elt Ideal .f32) (X : S9x2816.Idx → Elt Ideal .bf16) (word : BitVec 32)
    (w13 : S1x2816x2816.Idx → Elt Ideal .i8) (s13 : S1x2816.Idx → Elt Ideal .f32) (w2 : S1x1408x2816.Idx → Elt Ideal .i8) (s2 : S1x2816.Idx → Elt Ideal .f32)
    (A : S9x2816.Idx → Elt Ideal .f32) : S9x2816.Idx → Elt Ideal .f32 :=
  k0_pay7 (F := Ideal) (k0_pay2 (F := Ideal) I) (k0_pay3 (F := Ideal) W) (k0_pay4 (F := Ideal) X) A (broadcast S9x2 word) w13 s13 w2 s2

theorem one_apply (I : S9x2.Idx → Elt Ideal .i32) (W : S9x2.Idx → Elt Ideal .f32) (X : S9x2816.Idx → Elt Ideal .bf16) (word : BitVec 32)
    (w13 : S1x2816x2816.Idx → Elt Ideal .i8) (s13 : S1x2816.Idx → Elt Ideal .f32) (w2 : S1x1408x2816.Idx → Elt Ideal .i8) (s2 : S1x2816.Idx → Elt Ideal .f32)
    (A : S9x2816.Idx → Elt Ideal .f32) (i : Fin 9) (j : Fin 2816) :
    one I W X word w13 s13 w2 s2 A (ix2 i j)
      = A (ix2 i j) + val (fun k => X (ix2 i k)) (fun k n => FloatOps.sitofp (F := Ideal) FTy.bf16 (w13 (ix3 0 k n))) (fun n => s13 (ix2 0 n))
          (fun k n => FloatOps.sitofp (F := Ideal) FTy.bf16 (w2 (ix3 0 k n))) (fun n => s2 (ix2 0 n)) j * gate I W word i := by
  unfold one k0_pay7 k0_pay2 k0_pay3 k0_pay4 val hid gu gate
  pointwise
  rw [Fin.sum_univ_two, select_eq, select_eq]

section Block

variable (x0 : S9x2.Idx → Elt Ideal .i32) (x1 : S9x2.Idx → Elt Ideal .f32) (x2 : S9x2816.Idx → Elt Ideal .bf16) (x3 : S8x2816x2816.Idx → Elt Ideal .i8)
  (x4 : S8x2816.Idx → Elt Ideal .f32) (x5 : S8x1408x2816.Idx → Elt Ideal .i8) (x6 : S8x2816.Idx → Elt Ideal .f32)

theorem ld0 {e : EltTy} (x : S9x2.Idx → Elt Ideal e) : View.ld x r0_0 = x := by
  funext y; refine congrArg x ?_
  funext a; apply Fin.ext
  match a with
  | ⟨0, _⟩ => show 0 + 1 * (y 0).val = (y 0).val; omega
  | ⟨1, _⟩ => show 0 + 1 * (y 1).val = (y 1).val; omega

theorem ld1 {e : EltTy} (x : S9x2816.Idx → Elt Ideal e) : View.ld x r0_1 = x := by
  funext y; refine congrArg x ?_
  funext a; apply Fin.ext
  match a with
  | ⟨0, _⟩ => show 0 + 1 * (y 0).val = (y 0).val; omega
  | ⟨1, _⟩ => show 0 + 1 * (y 1).val = (y 1).val; omega

theorem ldW {R : ℕ} {t : EltTy} (x : (⟨3, ![8, R, 2816]⟩ : Shape).Idx → Elt Ideal t) (e : Fin 8)
    {h : ∀ a, (![e.val, 0, 0] : Fin 3 → ℕ) a + (![1, R, 2816] : Fin 3 → ℕ) a ≤ (⟨3, ![8, R, 2816]⟩ : Shape).size a} (z : Fin 1) (k : Fin R) (n : Fin 2816) :
    View.ld (Val := Elt Ideal) x (Rect.unit (s := ⟨3, ![8, R, 2816]⟩) ![e.val, 0, 0] ![1, R, 2816] h) (ix3 z k n) = x (ix3 e k n) := by
  refine congrArg x ?_
  funext a; apply Fin.ext
  match a with
  | ⟨0, _⟩ => show e.val + 1 * z.val = e.val; omega
  | ⟨1, _⟩ => show 0 + 1 * k.val = k.val; omega
  | ⟨2, _⟩ => show 0 + 1 * n.val = n.val; omega

theorem ldS {t : EltTy} (x : (⟨2, ![8, 2816]⟩ : Shape).Idx → Elt Ideal t) (e : Fin 8)
    {h : ∀ a, (![e.val, 0] : Fin 2 → ℕ) a + (![1, 2816] : Fin 2 → ℕ) a ≤ (⟨2, ![8, 2816]⟩ : Shape).size a} (z : Fin 1) (n : Fin 2816) :
    View.ld (Val := Elt Ideal) x (Rect.unit (s := ⟨2, ![8, 2816]⟩) ![e.val, 0] ![1, 2816] h) (ix2 z n) = x (ix2 e n) := by
  refine congrArg x ?_
  funext a; apply Fin.ext
  match a with
  | ⟨0, _⟩ => show e.val + 1 * z.val = e.val; omega
  | ⟨1, _⟩ => show 0 + 1 * n.val = n.val; omega

/-- One expert on the running sum, its weights read from the arrays. -/
theorem one_step (e : Fin 8) {h13 h2 hs} (A : S9x2816.Idx → Elt Ideal .f32) (i : Fin 9) (j : Fin 2816) :
    one x0 x1 x2 (BitVec.ofNat 32 e.val) (View.ld x3 (Rect.unit (s := S8x2816x2816) ![e.val, 0, 0] S1x2816x2816.size h13))
      (View.ld x4 (Rect.unit (s := S8x2816) ![e.val, 0] S1x2816.size hs)) (View.ld x5 (Rect.unit (s := S8x1408x2816) ![e.val, 0, 0] S1x1408x2816.size h2))
      (View.ld x6 (Rect.unit (s := S8x2816) ![e.val, 0] S1x2816.size hs)) A (ix2 i j)
      = A (ix2 i j) + term x0 x1 x2 x3 x4 x5 x6 i j e := by
  rw [one_apply]
  refine congrArg (A (ix2 i j) + ·) (congrArg (· * gate x0 x1 (BitVec.ofNat 32 e.val) i) ?_)
  have a1 : (fun (k : Fin 2816) (n : Fin 2816) => FloatOps.sitofp (F := Ideal) FTy.bf16 (View.ld x3 (Rect.unit (s := S8x2816x2816) ![e.val, 0, 0] S1x2816x2816.size h13) (ix3 0 k n))) = wt x3 e :=
    funext fun k => funext fun n => congrArg (FloatOps.sitofp (F := Ideal) FTy.bf16) (ldW x3 e 0 k n)
  have a2 : (fun (k : Fin 1408) (n : Fin 2816) => FloatOps.sitofp (F := Ideal) FTy.bf16 (View.ld x5 (Rect.unit (s := S8x1408x2816) ![e.val, 0, 0] S1x1408x2816.size h2) (ix3 0 k n))) = wt x5 e :=
    funext fun k => funext fun n => congrArg (FloatOps.sitofp (F := Ideal) FTy.bf16) (ldW x5 e 0 k n)
  have a3 : (fun (n : Fin 2816) => View.ld x4 (Rect.unit (s := S8x2816) ![e.val, 0] S1x2816.size hs) (ix2 0 n)) = sc x4 e := funext fun n => ldS x4 e 0 n
  have a4 : (fun (n : Fin 2816) => View.ld x6 (Rect.unit (s := S8x2816) ![e.val, 0] S1x2816.size hs) (ix2 0 n)) = sc x6 e := funext fun n => ldS x6 e 0 n
  rw [a1, a2, a3, a4]

/-- The same step on the running sum of the first `e` experts. -/
theorem one_upto (e : Fin 8) {h13 h2 hs} (A : S9x2816.Idx → Elt Ideal .f32) (i : Fin 9) (j : Fin 2816)
    (hA : A (ix2 i j) = upto x0 x1 x2 x3 x4 x5 x6 i j e.val) :
    one x0 x1 x2 (BitVec.ofNat 32 e.val) (View.ld x3 (Rect.unit (s := S8x2816x2816) ![e.val, 0, 0] S1x2816x2816.size h13))
      (View.ld x4 (Rect.unit (s := S8x2816) ![e.val, 0] S1x2816.size hs)) (View.ld x5 (Rect.unit (s := S8x1408x2816) ![e.val, 0, 0] S1x1408x2816.size h2))
      (View.ld x6 (Rect.unit (s := S8x2816) ![e.val, 0] S1x2816.size hs)) A (ix2 i j)
      = upto x0 x1 x2 x3 x4 x5 x6 i j (e.val + 1) := by
  rw [one_step, hA]
  refine congrArg (upto x0 x1 x2 x3 x4 x5 x6 i j e.val + ·) ?_
  rw [dif_pos e.isLt]

/-- The running sum after the eight experts. -/
def chain : S9x2816.Idx → Elt Ideal .f32 :=
  one (View.ld x0 r0_0) (View.ld x1 r0_0) (View.ld x2 r0_1) 7#32 (View.ld x3 r0_23) (View.ld x4 r0_24) (View.ld x5 r0_25) (View.ld x6 r0_24)
  (one (View.ld x0 r0_0) (View.ld x1 r0_0) (View.ld x2 r0_1) 6#32 (View.ld x3 r0_20) (View.ld x4 r0_21) (View.ld x5 r0_22) (View.ld x6 r0_21)
  (one (View.ld x0 r0_0) (View.ld x1 r0_0) (View.ld x2 r0_1) 5#32 (View.ld x3 r0_17) (View.ld x4 r0_18) (View.ld x5 r0_19) (View.ld x6 r0_18)
  (one (View.ld x0 r0_0) (View.ld x1 r0_0) (View.ld x2 r0_1) 4#32 (View.ld x3 r0_14) (View.ld x4 r0_15) (View.ld x5 r0_16) (View.ld x6 r0_15)
  (one (View.ld x0 r0_0) (View.ld x1 r0_0) (View.ld x2 r0_1) 3#32 (View.ld x3 r0_11) (View.ld x4 r0_12) (View.ld x5 r0_13) (View.ld x6 r0_12)
  (one (View.ld x0 r0_0) (View.ld x1 r0_0) (View.ld x2 r0_1) 2#32 (View.ld x3 r0_8) (View.ld x4 r0_9) (View.ld x5 r0_10) (View.ld x6 r0_9)
  (one (View.ld x0 r0_0) (View.ld x1 r0_0) (View.ld x2 r0_1) 1#32 (View.ld x3 r0_5) (View.ld x4 r0_6) (View.ld x5 r0_7) (View.ld x6 r0_6)
  (one (View.ld x0 r0_0) (View.ld x1 r0_0) (View.ld x2 r0_1) 0#32 (View.ld x3 r0_2) (View.ld x4 r0_3) (View.ld x5 r0_4) (View.ld x6 r0_3)
    (broadcast S9x2816 (Scalar.ofBits (F := Ideal) .f32 0x00000000#32)))))))))

theorem chain_apply (i : Fin 9) (j : Fin 2816) : chain x0 x1 x2 x3 x4 x5 x6 (ix2 i j) = upto x0 x1 x2 x3 x4 x5 x6 i j 8 := by
  unfold chain
  rw [ld0, ld0, ld1]
  have h0 : (broadcast S9x2816 (Scalar.ofBits (F := Ideal) .f32 0x00000000#32)) (ix2 i j) = (0 : EReal) := by pointwise
  exact one_upto _ _ _ _ _ _ _ 7 _ i j (one_upto _ _ _ _ _ _ _ 6 _ i j (one_upto _ _ _ _ _ _ _ 5 _ i j (one_upto _ _ _ _ _ _ _ 4 _ i j
    (one_upto _ _ _ _ _ _ _ 3 _ i j (one_upto _ _ _ _ _ _ _ 2 _ i j (one_upto _ _ _ _ _ _ _ 1 _ i j (one_upto _ _ _ _ _ _ _ 0 _ i j h0)))))))

theorem out_canon : out0_7 (F := Ideal) x0 x1 x2 x3 x4 x5 x6
    = View.canon [⟨r0_26, shapeCast S9x1x2816 (truncf (F := Ideal) .bf16 (chain x0 x1 x2 x3 x4 x5 x6) bitsLt_bf16_f32) shapeCasts_S9x2816_S9x1x2816⟩] := rfl

theorem out_apply (i : Fin 9) (z : Fin 1) (j : Fin 2816) : out0_7 (F := Ideal) x0 x1 x2 x3 x4 x5 x6 (ix3 i z j) = upto x0 x1 x2 x3 x4 x5 x6 i j 8 := by
  rw [out_canon]
  refine (View.canon_apply_of_pieces (shapeCast S9x1x2816 (truncf (F := Ideal) .bf16 (chain x0 x1 x2 x3 x4 x5 x6) bitsLt_bf16_f32) shapeCasts_S9x2816_S9x1x2816) _ ?_ _ (cover0_7 _ _)).trans ?_
  · intro p hp x
    rcases List.mem_cons.mp hp with rfl | hp
    · refine congrArg (shapeCast S9x1x2816 (truncf (F := Ideal) .bf16 (chain x0 x1 x2 x3 x4 x5 x6) bitsLt_bf16_f32) shapeCasts_S9x2816_S9x1x2816) ?_
      funext a; apply Fin.ext
      match a with
      | ⟨0, _⟩ => show (x 0).val = 0 + 1 * (x 0).val; omega
      | ⟨1, _⟩ => show (x 1).val = 0 + 1 * (x 1).val; omega
      | ⟨2, _⟩ => show (x 2).val = 0 + 1 * (x 2).val; omega
    · nomatch hp
  · rw [← chain_apply]
    pointwise

end Block

end Cert.ReferenceIdeal.Hand
-- ==== Proof.ValueAgree.lean ====
/-
  The kernel's result and the reference's are equal over the extended reals.
-/
module

public import proofs.«01_k».proof.Defs
public import proofs.«01_k».proof.Proof.ValueKernelRun
public import proofs.«01_k».proof.Proof.ValueReference

@[expose] public section

set_option maxRecDepth 20000

noncomputable section

namespace Cert.ReferenceIdeal.Hand

open Cert.ReferenceIdeal Cert.ReferenceIdeal.Gen
open Idealize.ShloMosaic Idealize.ShloMosaic.TcCoe Idealize.SL.Sem
open Cert.MoeValue

variable (m : (ℓ : Loc nD τ sig) → Buf (Elt Ideal) ℓ) (ρ : Dev nD → PrngReg)

theorem V_v0 (c : Dev nD) : V m c main_v0 = shapeCast S9x2 (m ((c : Thread nD τ).loc main_arg1)) shapeCasts_S9x1x2_S9x2 := by
  show StableHlo.after hostOps0 _ (Proc.devRef .tc main_v0) = _
  after_results
  rfl

theorem V_v1 (c : Dev nD) : V m c main_v1 = shapeCast S9x2 (m ((c : Thread nD τ).loc main_arg2)) shapeCasts_S9x1x2_S9x2 := by
  show StableHlo.after hostOps0 _ (Proc.devRef .tc main_v1) = _
  after_results
  rfl

theorem V_v2 (c : Dev nD) : V m c main_v2 = shapeCast S9x2816 (m ((c : Thread nD τ).loc main_arg0)) shapeCasts_S9x1x2816_S9x2816 := by
  show StableHlo.after hostOps0 _ (Proc.devRef .tc main_v2) = _
  after_results
  rfl

/-! The launch has one point, and each window is the whole of its array. -/

def pt : Fin cfg0.N := ⟨0, by decide⟩

theorem iblk_0 (c : Dev nD) (t : Fin cfg0.N) : iblk m c 0 t = V m c main_v0 := by
  funext y
  refine congrArg (V m c main_v0) ?_
  funext a; apply Fin.ext
  match a with
  | ⟨0, _⟩ => show 0 + 1 * (y 0).val = (y 0).val; omega
  | ⟨1, _⟩ => show 0 + 1 * (y 1).val = (y 1).val; omega

theorem iblk_1 (c : Dev nD) (t : Fin cfg0.N) : iblk m c 1 t = V m c main_v1 := by
  funext y
  refine congrArg (V m c main_v1) ?_
  funext a; apply Fin.ext
  match a with
  | ⟨0, _⟩ => show 0 + 1 * (y 0).val = (y 0).val; omega
  | ⟨1, _⟩ => show 0 + 1 * (y 1).val = (y 1).val; omega

theorem iblk_2 (c : Dev nD) (t : Fin cfg0.N) : iblk m c 2 t = V m c main_v2 := by
  funext y
  refine congrArg (V m c main_v2) ?_
  funext a; apply Fin.ext
  match a with
  | ⟨0, _⟩ => show 0 + 1 * (y 0).val = (y 0).val; omega
  | ⟨1, _⟩ => show 0 + 1 * (y 1).val = (y 1).val; omega

theorem iblk_3 (c : Dev nD) (t : Fin cfg0.N) : iblk m c 3 t = V m c main_arg3 := by
  funext y
  refine congrArg (V m c main_arg3) ?_
  funext a; apply Fin.ext
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

theorem iblk_4 (c : Dev nD) (t : Fin cfg0.N) : iblk m c 4 t = V m c main_arg4 := by
  funext y
  refine congrArg (V m c main_arg4) ?_
  funext a; apply Fin.ext
  match a with
  | ⟨0, _⟩ => show 0 + 1 * (y 0).val = (y 0).val; omega
  | ⟨1, _⟩ => show 0 + 1 * (y 1).val = (y 1).val; omega

theorem iblk_5 (c : Dev nD) (t : Fin cfg0.N) : iblk m c 5 t = V m c main_arg5 := by
  funext y
  refine congrArg (V m c main_arg5) ?_
  funext a; apply Fin.ext
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

theorem iblk_6 (c : Dev nD) (t : Fin cfg0.N) : iblk m c 6 t = V m c main_arg6 := by
  funext y
  refine congrArg (V m c main_arg6) ?_
  funext a; apply Fin.ext
  match a with
  | ⟨0, _⟩ => show 0 + 1 * (y 0).val = (y 0).val; omega
  | ⟨1, _⟩ => show 0 + 1 * (y 1).val = (y 1).val; omega

/-- What the eight experts add to row `i` at column `j`, from the program's arguments. -/
def total (c : Dev nD) (i : Fin 9) (j : Fin 2816) : EReal :=
  upto (shapeCast S9x2 (m ((c : Thread nD τ).loc main_arg1)) shapeCasts_S9x1x2_S9x2) (shapeCast S9x2 (m ((c : Thread nD τ).loc main_arg2)) shapeCasts_S9x1x2_S9x2)
    (shapeCast S9x2816 (m ((c : Thread nD τ).loc main_arg0)) shapeCasts_S9x1x2816_S9x2816) (m ((c : Thread nD τ).loc main_arg3)) (m ((c : Thread nD τ).loc main_arg4))
    (m ((c : Thread nD τ).loc main_arg5)) (m ((c : Thread nD τ).loc main_arg6)) i j 8

theorem flush7 : (cfg0.win 7).flush pt = true := by decide +kernel

/-- The result's array after the run. -/
theorem arr7 (c : Dev nD) : (dats m 0 c).arrAt 7 cfg0.N = fun y => total m c (y 0) (y 2) := by
  have hr : ((cfg0.win 7).blk pt).view.read (Elt Ideal) ((dats m 0 c).arrAt 7 cfg0.N) = (dats m 0 c).arrAt 7 cfg0.N := by
    funext y
    refine congrArg ((dats m 0 c).arrAt 7 cfg0.N) ?_
    funext a; apply Fin.ext
    match a with
    | ⟨0, _⟩ => show 0 + 1 * (y 0).val = (y 0).val; omega
    | ⟨1, _⟩ => show 0 + 1 * (y 1).val = (y 1).val; omega
    | ⟨2, _⟩ => show 0 + 1 * (y 2).val = (y 2).val; omega
  refine hr.symm.trans ((Value.blocks7 m c pt flush7).trans ((Value.flushed7 m c pt).trans ?_))
  rw [iblk_0, iblk_1, iblk_2, iblk_3, iblk_4, iblk_5, iblk_6, V_v0, V_v1, V_v2, V_main_arg3, V_main_arg4, V_main_arg5, V_main_arg6]
  funext y
  have hy : y = ix3 (y 0) (y 1) (y 2) := by
    funext a
    match a with
    | ⟨0, _⟩ => rfl
    | ⟨1, _⟩ => rfl
    | ⟨2, _⟩ => rfl
  refine Eq.trans (congrArg _ hy) ?_
  exact out_apply _ _ _ _ _ _ _ (y 0) (y 1) (y 2)

end Cert.ReferenceIdeal.Hand

namespace Cert.MoeValue

open Idealize.ShloMosaic Idealize.ShloMosaic.TcCoe Idealize.SL.Sem

/-- From the same arguments, the kernel's program and the reference's end with the same result. -/
theorem agree : Cert.algebraic_KernelIdeal_ReferenceIdeal (hKernelIdeal := Cert.KernelIdeal.Gen.facts) (hReferenceIdeal := Cert.ReferenceIdeal.Gen.facts) := by
  intro m g m' g' _ hargs
  refine ⟨fun c => Cert.KernelIdeal.Hand.result m c, Cert.KernelIdeal.Hand.run_value m g, ?_⟩
  refine (θ_run Cert.ReferenceIdeal.defs _ _).mono (fun r h c => ⟨(h c).1.trans ((Cert.ReferenceIdeal.Hand.arr7 m' c).trans ?_), (h c).2⟩)
    (Cert.ReferenceIdeal.Value.run_blocks m' g')
  obtain ⟨h0, h1, h2, h3, h4, h5, h6⟩ := hargs c
  funext y
  show Cert.ReferenceIdeal.Hand.total m' c (y 0) (y 2) = Cert.KernelIdeal.Hand.total m c (y 0) (y 2)
  unfold Cert.ReferenceIdeal.Hand.total Cert.KernelIdeal.Hand.total
  rw [h0, h1, h2, h3, h4, h5, h6]

end Cert.MoeValue

end
-- ==== Proof.lean ====
/-
  The proof of `Cert.Claim`: the programs run to the end, leave their arguments as they were and every semaphore at zero, and over the
  extended reals the kernel's result is the reference's.
-/
module

public import proofs.«01_k».proof.Defs
public import proofs.«01_k».proof.Proof.FloatLaunch
public import proofs.«01_k».proof.Proof.IdealLaunch
public import proofs.«01_k».proof.Proof.Gen.ReferenceIdeal.Value
public import proofs.«01_k».proof.Proof.ValueAgree
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts,
    fun m g _ => Cert.Kernel.Hand.frame m g,
    fun m g _ => Cert.KernelIdeal.Hand.frame m g,
    fun m g _ => Cert.ReferenceIdeal.Gen.frame m g,
    trivial,
    Cert.MoeValue.agree⟩

end Cert.Proof

end
